-- ==== Defs.lean ====
def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdIdeal_merge_bwd_finite [hPre_merge_bwd_finite : Cert.Pre_merge_bwd_finite.Facts] (m : (ℓ : Loc Cert.MergeBwdIdeal.nD Cert.MergeBwdIdeal.τ Cert.MergeBwdIdeal.sig) → Buf (Elt Ideal) ℓ) : Prop :=
  ∀ c : Dev Cert.MergeBwdIdeal.nD,
    (Cert.Pre_merge_bwd_finite.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5)) (m ((c.tc : Thread Cert.MergeBwdIdeal.nD Cert.MergeBwdIdeal.τ).loc Cert.MergeBwdIdeal.main_arg6))) = (fun _ => 1#1)

def Pre_MergeBwdRefIdeal (m : (ℓ : Loc Cert.MergeBwdRefIdeal.nD Cert.MergeBwdRefIdeal.τ Cert.MergeBwdRefIdeal.sig) → Buf (Elt Ideal) ℓ) : Prop :=
  True

def Pre_MergeBwdRefIdeal_merge_bwd_finite [hPre_merge_bwd_finite : Cert.Pre_merge_bwd_finite.Facts] (m : (ℓ : Loc Cert.MergeBwdRefIdeal.nD Cert.MergeBwdRefIdeal.τ Cert.MergeBwdRefIdeal.sig) → Buf (Elt Ideal) ℓ) : Prop :=
  ∀ c : Dev Cert.MergeBwdRefIdeal.nD,
    (Cert.Pre_merge_bwd_finite.fn (F := Ideal) (m ((c.tc : Thread Cert.MergeBwdRefIdeal.nD Cert.MergeBwdRefIdeal.τ).loc Cert.MergeBwdRefIdeal.main_arg0)) (m ((c.tc : Thread Cert.MergeBwdRefIdeal.nD Cert.MergeBwdRefIdeal.τ).loc Cert.MergeBwdRefIdeal.main_arg1)) (m ((c.tc : Thread Cert.MergeBwdRefIdeal.nD Cert.MergeBwdRefIdeal.τ).loc Cert.MergeBwdRefIdeal.main_arg2)) (m ((c.tc : Thread Cert.MergeBwdRefIdeal.nD Cert.MergeBwdRefIdeal.τ).loc Cert.MergeBwdRefIdeal.main_arg3)) (m ((c.tc : Thread Cert.MergeBwdRefIdeal.nD Cert.MergeBwdRefIdeal.τ).loc Cert.MergeBwdRefIdeal.main_arg4)) (m ((c.tc : Thread Cert.MergeBwdRefIdeal.nD Cert.MergeBwdRefIdeal.τ).loc Cert.MergeBwdRefIdeal.main_arg5)) (m ((c.tc : Thread Cert.MergeBwdRefIdeal.nD Cert.MergeBwdRefIdeal.τ).loc Cert.MergeBwdRefIdeal.main_arg6))) = (fun _ => 1#1)

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_bwd_finite [hPre_attn_bwd_finite : Cert.Pre_attn_bwd_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_bwd_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))) = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_attn_bwd_finite [hPre_attn_bwd_finite : Cert.Pre_attn_bwd_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_attn_bwd_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))) = (fun _ => 1#1)

def Pre_MlpBwd (m : (ℓ : Loc Cert.MlpBwd.nD Cert.MlpBwd.τ Cert.MlpBwd.sig) → Buf (Elt Bits) ℓ) : Prop :=
  True

def Pre_MlpBwdIdeal (m : (ℓ : Loc Cert.MlpBwdIdeal.nD Cert.MlpBwdIdeal.τ Cert.MlpBwdIdeal.sig) → Buf (Elt Ideal) ℓ) : Prop :=
  True

def Pre_MlpBwdIdeal_mlp_bwd_finite [hPre_mlp_bwd_finite : Cert.Pre_mlp_bwd_finite.Facts] (m : (ℓ : Loc Cert.MlpBwdIdeal.nD Cert.MlpBwdIdeal.τ Cert.MlpBwdIdeal.sig) → Buf (Elt Ideal) ℓ) : Prop :=
  ∀ c : Dev Cert.MlpBwdIdeal.nD,
    (Cert.Pre_mlp_bwd_finite.fn (F := Ideal) (m ((c.tc : Thread Cert.MlpBwdIdeal.nD Cert.MlpBwdIdeal.τ).loc Cert.MlpBwdIdeal.main_arg0)) (m ((c.tc : Thread Cert.MlpBwdIdeal.nD Cert.MlpBwdIdeal.τ).loc Cert.MlpBwdIdeal.main_arg1)) (m ((c.tc : Thread Cert.MlpBwdIdeal.nD Cert.MlpBwdIdeal.τ).loc Cert.MlpBwdIdeal.main_arg2)) (m ((c.tc : Thread Cert.MlpBwdIdeal.nD Cert.MlpBwdIdeal.τ).loc Cert.MlpBwdIdeal.main_arg3)) (m ((c.tc : Thread Cert.MlpBwdIdeal.nD Cert.MlpBwdIdeal.τ).loc Cert.MlpBwdIdeal.main_arg4))) = (fun _ => 1#1)

def Pre_MlpBwdRefIdeal (m : (ℓ : Loc Cert.MlpBwdRefIdeal.nD Cert.MlpBwdRefIdeal.τ Cert.MlpBwdRefIdeal.sig) → Buf (Elt Ideal) ℓ) : Prop :=
  True

def Pre_MlpBwdRefIdeal_mlp_bwd_finite [hPre_mlp_bwd_finite : Cert.Pre_mlp_bwd_finite.Facts] (m : (ℓ : Loc Cert.MlpBwdRefIdeal.nD Cert.MlpBwdRefIdeal.τ Cert.MlpBwdRefIdeal.sig) → Buf (Elt Ideal) ℓ) : Prop :=
  ∀ c : Dev Cert.MlpBwdRefIdeal.nD,
    (Cert.Pre_mlp_bwd_finite.fn (F := Ideal) (m ((c.tc : Thread Cert.MlpBwdRefIdeal.nD Cert.MlpBwdRefIdeal.τ).loc Cert.MlpBwdRefIdeal.main_arg0)) (m ((c.tc : Thread Cert.MlpBwdRefIdeal.nD Cert.MlpBwdRefIdeal.τ).loc Cert.MlpBwdRefIdeal.main_arg1)) (m ((c.tc : Thread Cert.MlpBwdRefIdeal.nD Cert.MlpBwdRefIdeal.τ).loc Cert.MlpBwdRefIdeal.main_arg2)) (m ((c.tc : Thread Cert.MlpBwdRefIdeal.nD Cert.MlpBwdRefIdeal.τ).loc Cert.MlpBwdRefIdeal.main_arg3)) (m ((c.tc : Thread Cert.MlpBwdRefIdeal.nD Cert.MlpBwdRefIdeal.τ).loc Cert.MlpBwdRefIdeal.main_arg4))) = (fun _ => 1#1)

def Pre_InProjBwd (m : (ℓ : Loc Cert.InProjBwd.nD Cert.InProjBwd.τ Cert.InProjBwd.sig) → Buf (Elt Bits) ℓ) : Prop :=
  True

def Pre_InProjBwdIdeal (m : (ℓ : Loc Cert.InProjBwdIdeal.nD Cert.InProjBwdIdeal.τ Cert.InProjBwdIdeal.sig) → Buf (Elt Ideal) ℓ) : Prop :=
  True

def Pre_InProjBwdIdeal_in_proj_bwd_finite [hPre_in_proj_bwd_finite : Cert.Pre_in_proj_bwd_finite.Facts] (m : (ℓ : Loc Cert.InProjBwdIdeal.nD Cert.InProjBwdIdeal.τ Cert.InProjBwdIdeal.sig) → Buf (Elt Ideal) ℓ) : Prop :=
  ∀ c : Dev Cert.InProjBwdIdeal.nD,
    (Cert.Pre_in_proj_bwd_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4)) (m ((c.tc : Thread Cert.InProjBwdIdeal.nD Cert.InProjBwdIdeal.τ).loc Cert.InProjBwdIdeal.main_arg5)) (m ((c.tc : Thread Cert.InProjBwdIdeal.nD Cert.InProjBwdIdeal.τ).loc Cert.InProjBwdIdeal.main_arg6)) (m ((c.tc : Thread Cert.InProjBwdIdeal.nD Cert.InProjBwdIdeal.τ).loc Cert.InProjBwdIdeal.main_arg7)) (m ((c.tc : Thread Cert.InProjBwdIdeal.nD Cert.InProjBwdIdeal.τ).loc Cert.InProjBwdIdeal.main_arg8)) (m ((c.tc : Thread Cert.InProjBwdIdeal.nD Cert.InProjBwdIdeal.τ).loc Cert.InProjBwdIdeal.main_arg9))) = (fun _ => 1#1)

def Pre_InProjBwdRefIdeal (m : (ℓ : Loc Cert.InProjBwdRefIdeal.nD Cert.InProjBwdRefIdeal.τ Cert.InProjBwdRefIdeal.sig) → Buf (Elt Ideal) ℓ) : Prop :=
  True

def Pre_InProjBwdRefIdeal_in_proj_bwd_finite [hPre_in_proj_bwd_finite : Cert.Pre_in_proj_bwd_finite.Facts] (m : (ℓ : Loc Cert.InProjBwdRefIdeal.nD Cert.InProjBwdRefIdeal.τ Cert.InProjBwdRefIdeal.sig) → Buf (Elt Ideal) ℓ) : Prop :=
  ∀ c : Dev Cert.InProjBwdRefIdeal.nD,
    (Cert.Pre_in_proj_bwd_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4)) (m ((c.tc : Thread Cert.InProjBwdRefIdeal.nD Cert.InProjBwdRefIdeal.τ).loc Cert.InProjBwdRefIdeal.main_arg5)) (m ((c.tc : Thread Cert.InProjBwdRefIdeal.nD Cert.InProjBwdRefIdeal.τ).loc Cert.InProjBwdRefIdeal.main_arg6)) (m ((c.tc : Thread Cert.InProjBwdRefIdeal.nD Cert.InProjBwdRefIdeal.τ).loc Cert.InProjBwdRefIdeal.main_arg7)) (m ((c.tc : Thread Cert.InProjBwdRefIdeal.nD Cert.InProjBwdRefIdeal.τ).loc Cert.InProjBwdRefIdeal.main_arg8)) (m ((c.tc : Thread Cert.InProjBwdRefIdeal.nD Cert.InProjBwdRefIdeal.τ).loc Cert.InProjBwdRefIdeal.main_arg9))) = (fun _ => 1#1)

def Pre_QkBwd (m : (ℓ : Loc Cert.QkBwd.nD Cert.QkBwd.τ Cert.QkBwd.sig) → Buf (Elt Bits) ℓ) : Prop :=
  True

def Pre_QkBwdIdeal (m : (ℓ : Loc Cert.QkBwdIdeal.nD Cert.QkBwdIdeal.τ Cert.QkBwdIdeal.sig) → Buf (Elt Ideal) ℓ) : Prop :=
  True

def Pre_QkBwdIdeal_qk_bwd_finite [hPre_qk_bwd_finite : Cert.Pre_qk_bwd_finite.Facts] (m : (ℓ : Loc Cert.QkBwdIdeal.nD Cert.QkBwdIdeal.τ Cert.QkBwdIdeal.sig) → Buf (Elt Ideal) ℓ) : Prop :=
  ∀ c : Dev Cert.QkBwdIdeal.nD,
    (Cert.Pre_qk_bwd_finite.fn (F := Ideal) (m ((c.tc : Thread Cert.QkBwdIdeal.nD Cert.QkBwdIdeal.τ).loc Cert.QkBwdIdeal.main_arg0)) (m ((c.tc : Thread Cert.QkBwdIdeal.nD Cert.QkBwdIdeal.τ).loc Cert.QkBwdIdeal.main_arg1)) (m ((c.tc : Thread Cert.QkBwdIdeal.nD Cert.QkBwdIdeal.τ).loc Cert.QkBwdIdeal.main_arg2)) (m ((c.tc : Thread Cert.QkBwdIdeal.nD Cert.QkBwdIdeal.τ).loc Cert.QkBwdIdeal.main_arg3)) (m ((c.tc : Thread Cert.QkBwdIdeal.nD Cert.QkBwdIdeal.τ).loc Cert.QkBwdIdeal.main_arg4)) (m ((c.tc : Thread Cert.QkBwdIdeal.nD Cert.QkBwdIdeal.τ).loc Cert.QkBwdIdeal.main_arg5)) (m ((c.tc : Thread Cert.QkBwdIdeal.nD Cert.QkBwdIdeal.τ).loc Cert.QkBwdIdeal.main_arg6)) (m ((c.tc : Thread Cert.QkBwdIdeal.nD Cert.QkBwdIdeal.τ).loc Cert.QkBwdIdeal.main_arg7))) = (fun _ => 1#1)

def Pre_QkBwdRefIdeal (m : (ℓ : Loc Cert.QkBwdRefIdeal.nD Cert.QkBwdRefIdeal.τ Cert.QkBwdRefIdeal.sig) → Buf (Elt Ideal) ℓ) : Prop :=
  True

def Pre_QkBwdRefIdeal_qk_bwd_finite [hPre_qk_bwd_finite : Cert.Pre_qk_bwd_finite.Facts] (m : (ℓ : Loc Cert.QkBwdRefIdeal.nD Cert.QkBwdRefIdeal.τ Cert.QkBwdRefIdeal.sig) → Buf (Elt Ideal) ℓ) : Prop :=
  ∀ c : Dev Cert.QkBwdRefIdeal.nD,
    (Cert.Pre_qk_bwd_finite.fn (F := Ideal) (m ((c.tc : Thread Cert.QkBwdRefIdeal.nD Cert.QkBwdRefIdeal.τ).loc Cert.QkBwdRefIdeal.main_arg0)) (m ((c.tc : Thread Cert.QkBwdRefIdeal.nD Cert.QkBwdRefIdeal.τ).loc Cert.QkBwdRefIdeal.main_arg1)) (m ((c.tc : Thread Cert.QkBwdRefIdeal.nD Cert.QkBwdRefIdeal.τ).loc Cert.QkBwdRefIdeal.main_arg2)) (m ((c.tc : Thread Cert.QkBwdRefIdeal.nD Cert.QkBwdRefIdeal.τ).loc Cert.QkBwdRefIdeal.main_arg3)) (m ((c.tc : Thread Cert.QkBwdRefIdeal.nD Cert.QkBwdRefIdeal.τ).loc Cert.QkBwdRefIdeal.main_arg4)) (m ((c.tc : Thread Cert.QkBwdRefIdeal.nD Cert.QkBwdRefIdeal.τ).loc Cert.QkBwdRefIdeal.main_arg5)) (m ((c.tc : Thread Cert.QkBwdRefIdeal.nD Cert.QkBwdRefIdeal.τ).loc Cert.QkBwdRefIdeal.main_arg6)) (m ((c.tc : Thread Cert.QkBwdRefIdeal.nD Cert.QkBwdRefIdeal.τ).loc Cert.QkBwdRefIdeal.main_arg7))) = (fun _ => 1#1)

def Pre_MlpOut (m : (ℓ : Loc Cert.MlpOut.nD Cert.MlpOut.τ Cert.MlpOut.sig) → Buf (Elt Bits) ℓ) : Prop :=
  True

def Pre_MlpOutIdeal (m : (ℓ : Loc Cert.MlpOutIdeal.nD Cert.MlpOutIdeal.τ Cert.MlpOutIdeal.sig) → Buf (Elt Ideal) ℓ) : Prop :=
  True

def Pre_MlpOutIdeal_mlp_out_finite [hPre_mlp_out_finite : Cert.Pre_mlp_out_finite.Facts] (m : (ℓ : Loc Cert.MlpOutIdeal.nD Cert.MlpOutIdeal.τ Cert.MlpOutIdeal.sig) → Buf (Elt Ideal) ℓ) : Prop :=
  ∀ c : Dev Cert.MlpOutIdeal.nD,
    (Cert.Pre_mlp_out_finite.fn (F := Ideal) (m ((c.tc : Thread Cert.MlpOutIdeal.nD Cert.MlpOutIdeal.τ).loc Cert.MlpOutIdeal.main_arg0)) (m ((c.tc : Thread Cert.MlpOutIdeal.nD Cert.MlpOutIdeal.τ).loc Cert.MlpOutIdeal.main_arg1)) (m ((c.tc : Thread Cert.MlpOutIdeal.nD Cert.MlpOutIdeal.τ).loc Cert.MlpOutIdeal.main_arg2)) (m ((c.tc : Thread Cert.MlpOutIdeal.nD Cert.MlpOutIdeal.τ).loc Cert.MlpOutIdeal.main_arg3)) (m ((c.tc : Thread Cert.MlpOutIdeal.nD Cert.MlpOutIdeal.τ).loc Cert.MlpOutIdeal.main_arg4))) = (fun _ => 1#1)

def Pre_MlpOutRefIdeal (m : (ℓ : Loc Cert.MlpOutRefIdeal.nD Cert.MlpOutRefIdeal.τ Cert.MlpOutRefIdeal.sig) → Buf (Elt Ideal) ℓ) : Prop :=
  True

def Pre_MlpOutRefIdeal_mlp_out_finite [hPre_mlp_out_finite : Cert.Pre_mlp_out_finite.Facts] (m : (ℓ : Loc Cert.MlpOutRefIdeal.nD Cert.MlpOutRefIdeal.τ Cert.MlpOutRefIdeal.sig) → Buf (Elt Ideal) ℓ) : Prop :=
  ∀ c : Dev Cert.MlpOutRefIdeal.nD,
    (Cert.Pre_mlp_out_finite.fn (F := Ideal) (m ((c.tc : Thread Cert.MlpOutRefIdeal.nD Cert.MlpOutRefIdeal.τ).loc Cert.MlpOutRefIdeal.main_arg0)) (m ((c.tc : Thread Cert.MlpOutRefIdeal.nD Cert.MlpOutRefIdeal.τ).loc Cert.MlpOutRefIdeal.main_arg1)) (m ((c.tc : Thread Cert.MlpOutRefIdeal.nD Cert.MlpOutRefIdeal.τ).loc Cert.MlpOutRefIdeal.main_arg2)) (m ((c.tc : Thread Cert.MlpOutRefIdeal.nD Cert.MlpOutRefIdeal.τ).loc Cert.MlpOutRefIdeal.main_arg3)) (m ((c.tc : Thread Cert.MlpOutRefIdeal.nD Cert.MlpOutRefIdeal.τ).loc Cert.MlpOutRefIdeal.main_arg4))) = (fun _ => 1#1)

def Pre_SsmParamBwd (m : (ℓ : Loc Cert.SsmParamBwd.nD Cert.SsmParamBwd.τ Cert.SsmParamBwd.sig) → Buf (Elt Bits) ℓ) : Prop :=
  True

def Pre_SsmParamBwdIdeal (m : (ℓ : Loc Cert.SsmParamBwdIdeal.nD Cert.SsmParamBwdIdeal.τ Cert.SsmParamBwdIdeal.sig) → Buf (Elt Ideal) ℓ) : Prop :=
  True

def Pre_SsmParamBwdRefIdeal (m : (ℓ : Loc Cert.SsmParamBwdRefIdeal.nD Cert.SsmParamBwdRefIdeal.τ Cert.SsmParamBwdRefIdeal.sig) → Buf (Elt Ideal) ℓ) : Prop :=
  True

def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluBwdRefIdeal (m : (ℓ : Loc Cert.GluBwdRefIdeal.nD Cert.GluBwdRefIdeal.τ Cert.GluBwdRefIdeal.sig) → Buf (Elt Ideal) ℓ) : Prop :=
  True

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ r.2.sem = fun _ => 0)

def quiescent_MergeBwdIdeal_pre_merge_bwd_finite [hMergeBwdIdeal : Cert.MergeBwdIdeal.Facts] [hPre_merge_bwd_finite : Cert.Pre_merge_bwd_finite.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal_merge_bwd_finite m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6))
      ∧ r.2.sem = fun _ => 0)

def quiescent_MergeBwdRefIdeal_pre_merge_bwd_finite [hMergeBwdRefIdeal : Cert.MergeBwdRefIdeal.Facts] [hPre_merge_bwd_finite : Cert.Pre_merge_bwd_finite.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal_merge_bwd_finite m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_attn_bwd_finite [hAttnBwdIdeal : Cert.AttnBwdIdeal.Facts] [hPre_attn_bwd_finite : Cert.Pre_attn_bwd_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_bwd_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_AttnBwdRefIdeal_pre_attn_bwd_finite [hAttnBwdRefIdeal : Cert.AttnBwdRefIdeal.Facts] [hPre_attn_bwd_finite : Cert.Pre_attn_bwd_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_attn_bwd_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_MlpBwd [hMlpBwd : Cert.MlpBwd.Facts] : Prop :=
  ∀ (m : (ℓ : Loc Cert.MlpBwd.nD Cert.MlpBwd.τ Cert.MlpBwd.sig) → Buf (Elt Bits) ℓ) (g : Dev Cert.MlpBwd.nD → PrngReg), Pre_MlpBwd m →
    θ_run (Cert.MlpBwd.defs (F := Bits)) (onTc (τ := Cert.MlpBwd.τ) (Cert.MlpBwd.main (F := Bits))) ⟨m, fun _ => 0, g⟩ (fun r => (∀ c : Dev Cert.MlpBwd.nD,
      r.2.mem ((c.tc : Thread Cert.MlpBwd.nD Cert.MlpBwd.τ).loc Cert.MlpBwd.main_arg0) = m ((c.tc : Thread Cert.MlpBwd.nD Cert.MlpBwd.τ).loc Cert.MlpBwd.main_arg0)
      ∧ r.2.mem ((c.tc : Thread Cert.MlpBwd.nD Cert.MlpBwd.τ).loc Cert.MlpBwd.main_arg1) = m ((c.tc : Thread Cert.MlpBwd.nD Cert.MlpBwd.τ).loc Cert.MlpBwd.main_arg1)
      ∧ r.2.mem ((c.tc : Thread Cert.MlpBwd.nD Cert.MlpBwd.τ).loc Cert.MlpBwd.main_arg2) = m ((c.tc : Thread Cert.MlpBwd.nD Cert.MlpBwd.τ).loc Cert.MlpBwd.main_arg2)
      ∧ r.2.mem ((c.tc : Thread Cert.MlpBwd.nD Cert.MlpBwd.τ).loc Cert.MlpBwd.main_arg3) = m ((c.tc : Thread Cert.MlpBwd.nD Cert.MlpBwd.τ).loc Cert.MlpBwd.main_arg3)
      ∧ r.2.mem ((c.tc : Thread Cert.MlpBwd.nD Cert.MlpBwd.τ).loc Cert.MlpBwd.main_arg4) = m ((c.tc : Thread Cert.MlpBwd.nD Cert.MlpBwd.τ).loc Cert.MlpBwd.main_arg4))
      ∧ r.2.sem = fun _ => 0)

def quiescent_MlpBwdIdeal [hMlpBwdIdeal : Cert.MlpBwdIdeal.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4))
      ∧ r.2.sem = fun _ => 0)

def quiescent_MlpBwdIdeal_pre_mlp_bwd_finite [hMlpBwdIdeal : Cert.MlpBwdIdeal.Facts] [hPre_mlp_bwd_finite : Cert.Pre_mlp_bwd_finite.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg), Pre_MlpBwdIdeal_mlp_bwd_finite m →
    θ_run (Cert.MlpBwdIdeal.defs (F := Ideal)) (onTc (τ := Cert.MlpBwdIdeal.τ) (Cert.MlpBwdIdeal.main (F := Ideal))) ⟨m, fun _ => 0, g⟩ (fun r => (∀ c : Dev Cert.MlpBwdIdeal.nD,
      r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
      ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
      ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
      ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
      ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4))
      ∧ r.2.sem = fun _ => 0)

def quiescent_MlpBwdRefIdeal [hMlpBwdRefIdeal : Cert.MlpBwdRefIdeal.Facts] : Prop :=
  ∀ (m : (ℓ : Loc Cert.MlpBwdRefIdeal.nD Cert.MlpBwdRefIdeal.τ Cert.MlpBwdRefIdeal.sig) → Buf (Elt Ideal) ℓ) (g : Dev Cert.MlpBwdRefIdeal.nD → PrngReg), Pre_MlpBwdRefIdeal m →
    θ_run (Cert.MlpBwdRefIdeal.defs (F := Ideal)) (onTc (τ := Cert.MlpBwdRefIdeal.τ) (Cert.MlpBwdRefIdeal.main (F := Ideal))) ⟨m, fun _ => 0, g⟩ (fun r => (∀ c : Dev Cert.MlpBwdRefIdeal.nD,
      r.2.mem ((c.tc : Thread Cert.MlpBwdRefIdeal.nD Cert.MlpBwdRefIdeal.τ).loc Cert.MlpBwdRefIdeal.main_arg0) = m ((c.tc : Thread Cert.MlpBwdRefIdeal.nD Cert.MlpBwdRefIdeal.τ).loc Cert.MlpBwdRefIdeal.main_arg0)
      ∧ r.2.mem ((c.tc : Thread Cert.MlpBwdRefIdeal.nD Cert.MlpBwdRefIdeal.τ).loc Cert.MlpBwdRefIdeal.main_arg1) = m ((c.tc : Thread Cert.MlpBwdRefIdeal.nD Cert.MlpBwdRefIdeal.τ).loc Cert.MlpBwdRefIdeal.main_arg1)
      ∧ r.2.mem ((c.tc : Thread Cert.MlpBwdRefIdeal.nD Cert.MlpBwdRefIdeal.τ).loc Cert.MlpBwdRefIdeal.main_arg2) = m ((c.tc : Thread Cert.MlpBwdRefIdeal.nD Cert.MlpBwdRefIdeal.τ).loc Cert.MlpBwdRefIdeal.main_arg2)
      ∧ r.2.mem ((c.tc : Thread Cert.MlpBwdRefIdeal.nD Cert.MlpBwdRefIdeal.τ).loc Cert.MlpBwdRefIdeal.main_arg3) = m ((c.tc : Thread Cert.MlpBwdRefIdeal.nD Cert.MlpBwdRefIdeal.τ).loc Cert.MlpBwdRefIdeal.main_arg3)
      ∧ r.2.mem ((c.tc : Thread Cert.MlpBwdRefIdeal.nD Cert.MlpBwdRefIdeal.τ).loc Cert.MlpBwdRefIdeal.main_arg4) = m ((c.tc : Thread Cert.MlpBwdRefIdeal.nD Cert.MlpBwdRefIdeal.τ).loc Cert.MlpBwdRefIdeal.main_arg4))
      ∧ r.2.sem = fun _ => 0)

def quiescent_MlpBwdRefIdeal_pre_mlp_bwd_finite [hMlpBwdRefIdeal : Cert.MlpBwdRefIdeal.Facts] [hPre_mlp_bwd_finite : Cert.Pre_mlp_bwd_finite.Facts] : Prop :=
  ∀ (m : (ℓ : Loc Cert.MlpBwdRefIdeal.nD Cert.MlpBwdRefIdeal.τ Cert.MlpBwdRefIdeal.sig) → Buf (Elt Ideal) ℓ) (g : Dev Cert.MlpBwdRefIdeal.nD → PrngReg), Pre_MlpBwdRefIdeal_mlp_bwd_finite m →
    θ_run (Cert.MlpBwdRefIdeal.defs (F := Ideal)) (onTc (τ := Cert.MlpBwdRefIdeal.τ) (Cert.MlpBwdRefIdeal.main (F := Ideal))) ⟨m, fun _ => 0, g⟩ (fun r => (∀ c : Dev Cert.MlpBwdRefIdeal.nD,
      r.2.mem ((c.tc : Thread Cert.MlpBwdRefIdeal.nD Cert.MlpBwdRefIdeal.τ).loc Cert.MlpBwdRefIdeal.main_arg0) = m ((c.tc : Thread Cert.MlpBwdRefIdeal.nD Cert.MlpBwdRefIdeal.τ).loc Cert.MlpBwdRefIdeal.main_arg0)
      ∧ r.2.mem ((c.tc : Thread Cert.MlpBwdRefIdeal.nD Cert.MlpBwdRefIdeal.τ).loc Cert.MlpBwdRefIdeal.main_arg1) = m ((c.tc : Thread Cert.MlpBwdRefIdeal.nD Cert.MlpBwdRefIdeal.τ).loc Cert.MlpBwdRefIdeal.main_arg1)
      ∧ r.2.mem ((c.tc : Thread Cert.MlpBwdRefIdeal.nD Cert.MlpBwdRefIdeal.τ).loc Cert.MlpBwdRefIdeal.main_arg2) = m ((c.tc : Thread Cert.MlpBwdRefIdeal.nD Cert.MlpBwdRefIdeal.τ).loc Cert.MlpBwdRefIdeal.main_arg2)
      ∧ r.2.mem ((c.tc : Thread Cert.MlpBwdRefIdeal.nD Cert.MlpBwdRefIdeal.τ).loc Cert.MlpBwdRefIdeal.main_arg3) = m ((c.tc : Thread Cert.MlpBwdRefIdeal.nD Cert.MlpBwdRefIdeal.τ).loc Cert.MlpBwdRefIdeal.main_arg3)
      ∧ r.2.mem ((c.tc : Thread Cert.MlpBwdRefIdeal.nD Cert.MlpBwdRefIdeal.τ).loc Cert.MlpBwdRefIdeal.main_arg4) = m ((c.tc : Thread Cert.MlpBwdRefIdeal.nD Cert.MlpBwdRefIdeal.τ).loc Cert.MlpBwdRefIdeal.main_arg4))
      ∧ r.2.sem = fun _ => 0)

def quiescent_InProjBwd [hInProjBwd : Cert.InProjBwd.Facts] : Prop :=
  ∀ (m : (ℓ : Loc Cert.InProjBwd.nD Cert.InProjBwd.τ Cert.InProjBwd.sig) → Buf (Elt Bits) ℓ) (g : Dev Cert.InProjBwd.nD → PrngReg), Pre_InProjBwd m →
    θ_run (Cert.InProjBwd.defs (F := Bits)) (onTc (τ := Cert.InProjBwd.τ) (Cert.InProjBwd.main (F := Bits))) ⟨m, fun _ => 0, g⟩ (fun r => (∀ c : Dev Cert.InProjBwd.nD,
      r.2.mem ((c.tc : Thread Cert.InProjBwd.nD Cert.InProjBwd.τ).loc Cert.InProjBwd.main_arg0) = m ((c.tc : Thread Cert.InProjBwd.nD Cert.InProjBwd.τ).loc Cert.InProjBwd.main_arg0)
      ∧ r.2.mem ((c.tc : Thread Cert.InProjBwd.nD Cert.InProjBwd.τ).loc Cert.InProjBwd.main_arg1) = m ((c.tc : Thread Cert.InProjBwd.nD Cert.InProjBwd.τ).loc Cert.InProjBwd.main_arg1)
      ∧ r.2.mem ((c.tc : Thread Cert.InProjBwd.nD Cert.InProjBwd.τ).loc Cert.InProjBwd.main_arg2) = m ((c.tc : Thread Cert.InProjBwd.nD Cert.InProjBwd.τ).loc Cert.InProjBwd.main_arg2)
      ∧ r.2.mem ((c.tc : Thread Cert.InProjBwd.nD Cert.InProjBwd.τ).loc Cert.InProjBwd.main_arg3) = m ((c.tc : Thread Cert.InProjBwd.nD Cert.InProjBwd.τ).loc Cert.InProjBwd.main_arg3)
      ∧ r.2.mem ((c.tc : Thread Cert.InProjBwd.nD Cert.InProjBwd.τ).loc Cert.InProjBwd.main_arg4) = m ((c.tc : Thread Cert.InProjBwd.nD Cert.InProjBwd.τ).loc Cert.InProjBwd.main_arg4)
      ∧ r.2.mem ((c.tc : Thread Cert.InProjBwd.nD Cert.InProjBwd.τ).loc Cert.InProjBwd.main_arg5) = m ((c.tc : Thread Cert.InProjBwd.nD Cert.InProjBwd.τ).loc Cert.InProjBwd.main_arg5)
      ∧ r.2.mem ((c.tc : Thread Cert.InProjBwd.nD Cert.InProjBwd.τ).loc Cert.InProjBwd.main_arg6) = m ((c.tc : Thread Cert.InProjBwd.nD Cert.InProjBwd.τ).loc Cert.InProjBwd.main_arg6)
      ∧ r.2.mem ((c.tc : Thread Cert.InProjBwd.nD Cert.InProjBwd.τ).loc Cert.InProjBwd.main_arg7) = m ((c.tc : Thread Cert.InProjBwd.nD Cert.InProjBwd.τ).loc Cert.InProjBwd.main_arg7)
      ∧ r.2.mem ((c.tc : Thread Cert.InProjBwd.nD Cert.InProjBwd.τ).loc Cert.InProjBwd.main_arg8) = m ((c.tc : Thread Cert.InProjBwd.nD Cert.InProjBwd.τ).loc Cert.InProjBwd.main_arg8)
      ∧ r.2.mem ((c.tc : Thread Cert.InProjBwd.nD Cert.InProjBwd.τ).loc Cert.InProjBwd.main_arg9) = m ((c.tc : Thread Cert.InProjBwd.nD Cert.InProjBwd.τ).loc Cert.InProjBwd.main_arg9))
      ∧ r.2.sem = fun _ => 0)

def quiescent_InProjBwdIdeal [hInProjBwdIdeal : Cert.InProjBwdIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
      ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
      ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
      ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7)
      ∧ r.2.mem ((c.tc : Thread Cert.InProjBwdIdeal.nD Cert.InProjBwdIdeal.τ).loc Cert.InProjBwdIdeal.main_arg8) = m ((c.tc : Thread Cert.InProjBwdIdeal.nD Cert.InProjBwdIdeal.τ).loc Cert.InProjBwdIdeal.main_arg8)
      ∧ r.2.mem ((c.tc : Thread Cert.InProjBwdIdeal.nD Cert.InProjBwdIdeal.τ).loc Cert.InProjBwdIdeal.main_arg9) = m ((c.tc : Thread Cert.InProjBwdIdeal.nD Cert.InProjBwdIdeal.τ).loc Cert.InProjBwdIdeal.main_arg9))
      ∧ r.2.sem = fun _ => 0)

def quiescent_InProjBwdIdeal_pre_in_proj_bwd_finite [hInProjBwdIdeal : Cert.InProjBwdIdeal.Facts] [hPre_in_proj_bwd_finite : Cert.Pre_in_proj_bwd_finite.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal_in_proj_bwd_finite m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
      ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
      ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
      ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7)
      ∧ r.2.mem ((c.tc : Thread Cert.InProjBwdIdeal.nD Cert.InProjBwdIdeal.τ).loc Cert.InProjBwdIdeal.main_arg8) = m ((c.tc : Thread Cert.InProjBwdIdeal.nD Cert.InProjBwdIdeal.τ).loc Cert.InProjBwdIdeal.main_arg8)
      ∧ r.2.mem ((c.tc : Thread Cert.InProjBwdIdeal.nD Cert.InProjBwdIdeal.τ).loc Cert.InProjBwdIdeal.main_arg9) = m ((c.tc : Thread Cert.InProjBwdIdeal.nD Cert.InProjBwdIdeal.τ).loc Cert.InProjBwdIdeal.main_arg9))
      ∧ r.2.sem = fun _ => 0)

def quiescent_InProjBwdRefIdeal [hInProjBwdRefIdeal : Cert.InProjBwdRefIdeal.Facts] : Prop :=
  ∀ (m : (ℓ : Loc Cert.InProjBwdRefIdeal.nD Cert.InProjBwdRefIdeal.τ Cert.InProjBwdRefIdeal.sig) → Buf (Elt Ideal) ℓ) (g : Dev Cert.InProjBwdRefIdeal.nD → PrngReg), Pre_InProjBwdRefIdeal m →
    θ_run (Cert.InProjBwdRefIdeal.defs (F := Ideal)) (onTc (τ := Cert.InProjBwdRefIdeal.τ) (Cert.InProjBwdRefIdeal.main (F := Ideal))) ⟨m, fun _ => 0, g⟩ (fun r => (∀ c : Dev Cert.InProjBwdRefIdeal.nD,
      r.2.mem ((c.tc : Thread Cert.InProjBwdRefIdeal.nD Cert.InProjBwdRefIdeal.τ).loc Cert.InProjBwdRefIdeal.main_arg0) = m ((c.tc : Thread Cert.InProjBwdRefIdeal.nD Cert.InProjBwdRefIdeal.τ).loc Cert.InProjBwdRefIdeal.main_arg0)
      ∧ r.2.mem ((c.tc : Thread Cert.InProjBwdRefIdeal.nD Cert.InProjBwdRefIdeal.τ).loc Cert.InProjBwdRefIdeal.main_arg1) = m ((c.tc : Thread Cert.InProjBwdRefIdeal.nD Cert.InProjBwdRefIdeal.τ).loc Cert.InProjBwdRefIdeal.main_arg1)
      ∧ r.2.mem ((c.tc : Thread Cert.InProjBwdRefIdeal.nD Cert.InProjBwdRefIdeal.τ).loc Cert.InProjBwdRefIdeal.main_arg2) = m ((c.tc : Thread Cert.InProjBwdRefIdeal.nD Cert.InProjBwdRefIdeal.τ).loc Cert.InProjBwdRefIdeal.main_arg2)
      ∧ r.2.mem ((c.tc : Thread Cert.InProjBwdRefIdeal.nD Cert.InProjBwdRefIdeal.τ).loc Cert.InProjBwdRefIdeal.main_arg3) = m ((c.tc : Thread Cert.InProjBwdRefIdeal.nD Cert.InProjBwdRefIdeal.τ).loc Cert.InProjBwdRefIdeal.main_arg3)
      ∧ r.2.mem ((c.tc : Thread Cert.InProjBwdRefIdeal.nD Cert.InProjBwdRefIdeal.τ).loc Cert.InProjBwdRefIdeal.main_arg4) = m ((c.tc : Thread Cert.InProjBwdRefIdeal.nD Cert.InProjBwdRefIdeal.τ).loc Cert.InProjBwdRefIdeal.main_arg4)
      ∧ r.2.mem ((c.tc : Thread Cert.InProjBwdRefIdeal.nD Cert.InProjBwdRefIdeal.τ).loc Cert.InProjBwdRefIdeal.main_arg5) = m ((c.tc : Thread Cert.InProjBwdRefIdeal.nD Cert.InProjBwdRefIdeal.τ).loc Cert.InProjBwdRefIdeal.main_arg5)
      ∧ r.2.mem ((c.tc : Thread Cert.InProjBwdRefIdeal.nD Cert.InProjBwdRefIdeal.τ).loc Cert.InProjBwdRefIdeal.main_arg6) = m ((c.tc : Thread Cert.InProjBwdRefIdeal.nD Cert.InProjBwdRefIdeal.τ).loc Cert.InProjBwdRefIdeal.main_arg6)
      ∧ r.2.mem ((c.tc : Thread Cert.InProjBwdRefIdeal.nD Cert.InProjBwdRefIdeal.τ).loc Cert.InProjBwdRefIdeal.main_arg7) = m ((c.tc : Thread Cert.InProjBwdRefIdeal.nD Cert.InProjBwdRefIdeal.τ).loc Cert.InProjBwdRefIdeal.main_arg7)
      ∧ r.2.mem ((c.tc : Thread Cert.InProjBwdRefIdeal.nD Cert.InProjBwdRefIdeal.τ).loc Cert.InProjBwdRefIdeal.main_arg8) = m ((c.tc : Thread Cert.InProjBwdRefIdeal.nD Cert.InProjBwdRefIdeal.τ).loc Cert.InProjBwdRefIdeal.main_arg8)
      ∧ r.2.mem ((c.tc : Thread Cert.InProjBwdRefIdeal.nD Cert.InProjBwdRefIdeal.τ).loc Cert.InProjBwdRefIdeal.main_arg9) = m ((c.tc : Thread Cert.InProjBwdRefIdeal.nD Cert.InProjBwdRefIdeal.τ).loc Cert.InProjBwdRefIdeal.main_arg9))
      ∧ r.2.sem = fun _ => 0)

def quiescent_InProjBwdRefIdeal_pre_in_proj_bwd_finite [hInProjBwdRefIdeal : Cert.InProjBwdRefIdeal.Facts] [hPre_in_proj_bwd_finite : Cert.Pre_in_proj_bwd_finite.Facts] : Prop :=
  ∀ (m : (ℓ : Loc Cert.InProjBwdRefIdeal.nD Cert.InProjBwdRefIdeal.τ Cert.InProjBwdRefIdeal.sig) → Buf (Elt Ideal) ℓ) (g : Dev Cert.InProjBwdRefIdeal.nD → PrngReg), Pre_InProjBwdRefIdeal_in_proj_bwd_finite m →
    θ_run (Cert.InProjBwdRefIdeal.defs (F := Ideal)) (onTc (τ := Cert.InProjBwdRefIdeal.τ) (Cert.InProjBwdRefIdeal.main (F := Ideal))) ⟨m, fun _ => 0, g⟩ (fun r => (∀ c : Dev Cert.InProjBwdRefIdeal.nD,
      r.2.mem ((c.tc : Thread Cert.InProjBwdRefIdeal.nD Cert.InProjBwdRefIdeal.τ).loc Cert.InProjBwdRefIdeal.main_arg0) = m ((c.tc : Thread Cert.InProjBwdRefIdeal.nD Cert.InProjBwdRefIdeal.τ).loc Cert.InProjBwdRefIdeal.main_arg0)
      ∧ r.2.mem ((c.tc : Thread Cert.InProjBwdRefIdeal.nD Cert.InProjBwdRefIdeal.τ).loc Cert.InProjBwdRefIdeal.main_arg1) = m ((c.tc : Thread Cert.InProjBwdRefIdeal.nD Cert.InProjBwdRefIdeal.τ).loc Cert.InProjBwdRefIdeal.main_arg1)
      ∧ r.2.mem ((c.tc : Thread Cert.InProjBwdRefIdeal.nD Cert.InProjBwdRefIdeal.τ).loc Cert.InProjBwdRefIdeal.main_arg2) = m ((c.tc : Thread Cert.InProjBwdRefIdeal.nD Cert.InProjBwdRefIdeal.τ).loc Cert.InProjBwdRefIdeal.main_arg2)
      ∧ r.2.mem ((c.tc : Thread Cert.InProjBwdRefIdeal.nD Cert.InProjBwdRefIdeal.τ).loc Cert.InProjBwdRefIdeal.main_arg3) = m ((c.tc : Thread Cert.InProjBwdRefIdeal.nD Cert.InProjBwdRefIdeal.τ).loc Cert.InProjBwdRefIdeal.main_arg3)
      ∧ r.2.mem ((c.tc : Thread Cert.InProjBwdRefIdeal.nD Cert.InProjBwdRefIdeal.τ).loc Cert.InProjBwdRefIdeal.main_arg4) = m ((c.tc : Thread Cert.InProjBwdRefIdeal.nD Cert.InProjBwdRefIdeal.τ).loc Cert.InProjBwdRefIdeal.main_arg4)
      ∧ r.2.mem ((c.tc : Thread Cert.InProjBwdRefIdeal.nD Cert.InProjBwdRefIdeal.τ).loc Cert.InProjBwdRefIdeal.main_arg5) = m ((c.tc : Thread Cert.InProjBwdRefIdeal.nD Cert.InProjBwdRefIdeal.τ).loc Cert.InProjBwdRefIdeal.main_arg5)
      ∧ r.2.mem ((c.tc : Thread Cert.InProjBwdRefIdeal.nD Cert.InProjBwdRefIdeal.τ).loc Cert.InProjBwdRefIdeal.main_arg6) = m ((c.tc : Thread Cert.InProjBwdRefIdeal.nD Cert.InProjBwdRefIdeal.τ).loc Cert.InProjBwdRefIdeal.main_arg6)
      ∧ r.2.mem ((c.tc : Thread Cert.InProjBwdRefIdeal.nD Cert.InProjBwdRefIdeal.τ).loc Cert.InProjBwdRefIdeal.main_arg7) = m ((c.tc : Thread Cert.InProjBwdRefIdeal.nD Cert.InProjBwdRefIdeal.τ).loc Cert.InProjBwdRefIdeal.main_arg7)
      ∧ r.2.mem ((c.tc : Thread Cert.InProjBwdRefIdeal.nD Cert.InProjBwdRefIdeal.τ).loc Cert.InProjBwdRefIdeal.main_arg8) = m ((c.tc : Thread Cert.InProjBwdRefIdeal.nD Cert.InProjBwdRefIdeal.τ).loc Cert.InProjBwdRefIdeal.main_arg8)
      ∧ r.2.mem ((c.tc : Thread Cert.InProjBwdRefIdeal.nD Cert.InProjBwdRefIdeal.τ).loc Cert.InProjBwdRefIdeal.main_arg9) = m ((c.tc : Thread Cert.InProjBwdRefIdeal.nD Cert.InProjBwdRefIdeal.τ).loc Cert.InProjBwdRefIdeal.main_arg9))
      ∧ r.2.sem = fun _ => 0)

def quiescent_QkBwd [hQkBwd : Cert.QkBwd.Facts] : Prop :=
  ∀ (m : (ℓ : Loc Cert.QkBwd.nD Cert.QkBwd.τ Cert.QkBwd.sig) → Buf (Elt Bits) ℓ) (g : Dev Cert.QkBwd.nD → PrngReg), Pre_QkBwd m →
    θ_run (Cert.QkBwd.defs (F := Bits)) (onTc (τ := Cert.QkBwd.τ) (Cert.QkBwd.main (F := Bits))) ⟨m, fun _ => 0, g⟩ (fun r => (∀ c : Dev Cert.QkBwd.nD,
      r.2.mem ((c.tc : Thread Cert.QkBwd.nD Cert.QkBwd.τ).loc Cert.QkBwd.main_arg0) = m ((c.tc : Thread Cert.QkBwd.nD Cert.QkBwd.τ).loc Cert.QkBwd.main_arg0)
      ∧ r.2.mem ((c.tc : Thread Cert.QkBwd.nD Cert.QkBwd.τ).loc Cert.QkBwd.main_arg1) = m ((c.tc : Thread Cert.QkBwd.nD Cert.QkBwd.τ).loc Cert.QkBwd.main_arg1)
      ∧ r.2.mem ((c.tc : Thread Cert.QkBwd.nD Cert.QkBwd.τ).loc Cert.QkBwd.main_arg2) = m ((c.tc : Thread Cert.QkBwd.nD Cert.QkBwd.τ).loc Cert.QkBwd.main_arg2)
      ∧ r.2.mem ((c.tc : Thread Cert.QkBwd.nD Cert.QkBwd.τ).loc Cert.QkBwd.main_arg3) = m ((c.tc : Thread Cert.QkBwd.nD Cert.QkBwd.τ).loc Cert.QkBwd.main_arg3)
      ∧ r.2.mem ((c.tc : Thread Cert.QkBwd.nD Cert.QkBwd.τ).loc Cert.QkBwd.main_arg4) = m ((c.tc : Thread Cert.QkBwd.nD Cert.QkBwd.τ).loc Cert.QkBwd.main_arg4)
      ∧ r.2.mem ((c.tc : Thread Cert.QkBwd.nD Cert.QkBwd.τ).loc Cert.QkBwd.main_arg5) = m ((c.tc : Thread Cert.QkBwd.nD Cert.QkBwd.τ).loc Cert.QkBwd.main_arg5)
      ∧ r.2.mem ((c.tc : Thread Cert.QkBwd.nD Cert.QkBwd.τ).loc Cert.QkBwd.main_arg6) = m ((c.tc : Thread Cert.QkBwd.nD Cert.QkBwd.τ).loc Cert.QkBwd.main_arg6)
      ∧ r.2.mem ((c.tc : Thread Cert.QkBwd.nD Cert.QkBwd.τ).loc Cert.QkBwd.main_arg7) = m ((c.tc : Thread Cert.QkBwd.nD Cert.QkBwd.τ).loc Cert.QkBwd.main_arg7))
      ∧ r.2.sem = fun _ => 0)

def quiescent_QkBwdIdeal [hQkBwdIdeal : Cert.QkBwdIdeal.Facts] : Prop :=
  ∀ (m : (ℓ : Loc Cert.QkBwdIdeal.nD Cert.QkBwdIdeal.τ Cert.QkBwdIdeal.sig) → Buf (Elt Ideal) ℓ) (g : Dev Cert.QkBwdIdeal.nD → PrngReg), Pre_QkBwdIdeal m →
    θ_run (Cert.QkBwdIdeal.defs (F := Ideal)) (onTc (τ := Cert.QkBwdIdeal.τ) (Cert.QkBwdIdeal.main (F := Ideal))) ⟨m, fun _ => 0, g⟩ (fun r => (∀ c : Dev Cert.QkBwdIdeal.nD,
      r.2.mem ((c.tc : Thread Cert.QkBwdIdeal.nD Cert.QkBwdIdeal.τ).loc Cert.QkBwdIdeal.main_arg0) = m ((c.tc : Thread Cert.QkBwdIdeal.nD Cert.QkBwdIdeal.τ).loc Cert.QkBwdIdeal.main_arg0)
      ∧ r.2.mem ((c.tc : Thread Cert.QkBwdIdeal.nD Cert.QkBwdIdeal.τ).loc Cert.QkBwdIdeal.main_arg1) = m ((c.tc : Thread Cert.QkBwdIdeal.nD Cert.QkBwdIdeal.τ).loc Cert.QkBwdIdeal.main_arg1)
      ∧ r.2.mem ((c.tc : Thread Cert.QkBwdIdeal.nD Cert.QkBwdIdeal.τ).loc Cert.QkBwdIdeal.main_arg2) = m ((c.tc : Thread Cert.QkBwdIdeal.nD Cert.QkBwdIdeal.τ).loc Cert.QkBwdIdeal.main_arg2)
      ∧ r.2.mem ((c.tc : Thread Cert.QkBwdIdeal.nD Cert.QkBwdIdeal.τ).loc Cert.QkBwdIdeal.main_arg3) = m ((c.tc : Thread Cert.QkBwdIdeal.nD Cert.QkBwdIdeal.τ).loc Cert.QkBwdIdeal.main_arg3)
      ∧ r.2.mem ((c.tc : Thread Cert.QkBwdIdeal.nD Cert.QkBwdIdeal.τ).loc Cert.QkBwdIdeal.main_arg4) = m ((c.tc : Thread Cert.QkBwdIdeal.nD Cert.QkBwdIdeal.τ).loc Cert.QkBwdIdeal.main_arg4)
      ∧ r.2.mem ((c.tc : Thread Cert.QkBwdIdeal.nD Cert.QkBwdIdeal.τ).loc Cert.QkBwdIdeal.main_arg5) = m ((c.tc : Thread Cert.QkBwdIdeal.nD Cert.QkBwdIdeal.τ).loc Cert.QkBwdIdeal.main_arg5)
      ∧ r.2.mem ((c.tc : Thread Cert.QkBwdIdeal.nD Cert.QkBwdIdeal.τ).loc Cert.QkBwdIdeal.main_arg6) = m ((c.tc : Thread Cert.QkBwdIdeal.nD Cert.QkBwdIdeal.τ).loc Cert.QkBwdIdeal.main_arg6)
      ∧ r.2.mem ((c.tc : Thread Cert.QkBwdIdeal.nD Cert.QkBwdIdeal.τ).loc Cert.QkBwdIdeal.main_arg7) = m ((c.tc : Thread Cert.QkBwdIdeal.nD Cert.QkBwdIdeal.τ).loc Cert.QkBwdIdeal.main_arg7))
      ∧ r.2.sem = fun _ => 0)

def quiescent_QkBwdIdeal_pre_qk_bwd_finite [hQkBwdIdeal : Cert.QkBwdIdeal.Facts] [hPre_qk_bwd_finite : Cert.Pre_qk_bwd_finite.Facts] : Prop :=
  ∀ (m : (ℓ : Loc Cert.QkBwdIdeal.nD Cert.QkBwdIdeal.τ Cert.QkBwdIdeal.sig) → Buf (Elt Ideal) ℓ) (g : Dev Cert.QkBwdIdeal.nD → PrngReg), Pre_QkBwdIdeal_qk_bwd_finite m →
    θ_run (Cert.QkBwdIdeal.defs (F := Ideal)) (onTc (τ := Cert.QkBwdIdeal.τ) (Cert.QkBwdIdeal.main (F := Ideal))) ⟨m, fun _ => 0, g⟩ (fun r => (∀ c : Dev Cert.QkBwdIdeal.nD,
      r.2.mem ((c.tc : Thread Cert.QkBwdIdeal.nD Cert.QkBwdIdeal.τ).loc Cert.QkBwdIdeal.main_arg0) = m ((c.tc : Thread Cert.QkBwdIdeal.nD Cert.QkBwdIdeal.τ).loc Cert.QkBwdIdeal.main_arg0)
      ∧ r.2.mem ((c.tc : Thread Cert.QkBwdIdeal.nD Cert.QkBwdIdeal.τ).loc Cert.QkBwdIdeal.main_arg1) = m ((c.tc : Thread Cert.QkBwdIdeal.nD Cert.QkBwdIdeal.τ).loc Cert.QkBwdIdeal.main_arg1)
      ∧ r.2.mem ((c.tc : Thread Cert.QkBwdIdeal.nD Cert.QkBwdIdeal.τ).loc Cert.QkBwdIdeal.main_arg2) = m ((c.tc : Thread Cert.QkBwdIdeal.nD Cert.QkBwdIdeal.τ).loc Cert.QkBwdIdeal.main_arg2)
      ∧ r.2.mem ((c.tc : Thread Cert.QkBwdIdeal.nD Cert.QkBwdIdeal.τ).loc Cert.QkBwdIdeal.main_arg3) = m ((c.tc : Thread Cert.QkBwdIdeal.nD Cert.QkBwdIdeal.τ).loc Cert.QkBwdIdeal.main_arg3)
      ∧ r.2.mem ((c.tc : Thread Cert.QkBwdIdeal.nD Cert.QkBwdIdeal.τ).loc Cert.QkBwdIdeal.main_arg4) = m ((c.tc : Thread Cert.QkBwdIdeal.nD Cert.QkBwdIdeal.τ).loc Cert.QkBwdIdeal.main_arg4)
      ∧ r.2.mem ((c.tc : Thread Cert.QkBwdIdeal.nD Cert.QkBwdIdeal.τ).loc Cert.QkBwdIdeal.main_arg5) = m ((c.tc : Thread Cert.QkBwdIdeal.nD Cert.QkBwdIdeal.τ).loc Cert.QkBwdIdeal.main_arg5)
      ∧ r.2.mem ((c.tc : Thread Cert.QkBwdIdeal.nD Cert.QkBwdIdeal.τ).loc Cert.QkBwdIdeal.main_arg6) = m ((c.tc : Thread Cert.QkBwdIdeal.nD Cert.QkBwdIdeal.τ).loc Cert.QkBwdIdeal.main_arg6)
      ∧ r.2.mem ((c.tc : Thread Cert.QkBwdIdeal.nD Cert.QkBwdIdeal.τ).loc Cert.QkBwdIdeal.main_arg7) = m ((c.tc : Thread Cert.QkBwdIdeal.nD Cert.QkBwdIdeal.τ).loc Cert.QkBwdIdeal.main_arg7))
      ∧ r.2.sem = fun _ => 0)

def quiescent_QkBwdRefIdeal [hQkBwdRefIdeal : Cert.QkBwdRefIdeal.Facts] : Prop :=
  ∀ (m : (ℓ : Loc Cert.QkBwdRefIdeal.nD Cert.QkBwdRefIdeal.τ Cert.QkBwdRefIdeal.sig) → Buf (Elt Ideal) ℓ) (g : Dev Cert.QkBwdRefIdeal.nD → PrngReg), Pre_QkBwdRefIdeal m →
    θ_run (Cert.QkBwdRefIdeal.defs (F := Ideal)) (onTc (τ := Cert.QkBwdRefIdeal.τ) (Cert.QkBwdRefIdeal.main (F := Ideal))) ⟨m, fun _ => 0, g⟩ (fun r => (∀ c : Dev Cert.QkBwdRefIdeal.nD,
      r.2.mem ((c.tc : Thread Cert.QkBwdRefIdeal.nD Cert.QkBwdRefIdeal.τ).loc Cert.QkBwdRefIdeal.main_arg0) = m ((c.tc : Thread Cert.QkBwdRefIdeal.nD Cert.QkBwdRefIdeal.τ).loc Cert.QkBwdRefIdeal.main_arg0)
      ∧ r.2.mem ((c.tc : Thread Cert.QkBwdRefIdeal.nD Cert.QkBwdRefIdeal.τ).loc Cert.QkBwdRefIdeal.main_arg1) = m ((c.tc : Thread Cert.QkBwdRefIdeal.nD Cert.QkBwdRefIdeal.τ).loc Cert.QkBwdRefIdeal.main_arg1)
      ∧ r.2.mem ((c.tc : Thread Cert.QkBwdRefIdeal.nD Cert.QkBwdRefIdeal.τ).loc Cert.QkBwdRefIdeal.main_arg2) = m ((c.tc : Thread Cert.QkBwdRefIdeal.nD Cert.QkBwdRefIdeal.τ).loc Cert.QkBwdRefIdeal.main_arg2)
      ∧ r.2.mem ((c.tc : Thread Cert.QkBwdRefIdeal.nD Cert.QkBwdRefIdeal.τ).loc Cert.QkBwdRefIdeal.main_arg3) = m ((c.tc : Thread Cert.QkBwdRefIdeal.nD Cert.QkBwdRefIdeal.τ).loc Cert.QkBwdRefIdeal.main_arg3)
      ∧ r.2.mem ((c.tc : Thread Cert.QkBwdRefIdeal.nD Cert.QkBwdRefIdeal.τ).loc Cert.QkBwdRefIdeal.main_arg4) = m ((c.tc : Thread Cert.QkBwdRefIdeal.nD Cert.QkBwdRefIdeal.τ).loc Cert.QkBwdRefIdeal.main_arg4)
      ∧ r.2.mem ((c.tc : Thread Cert.QkBwdRefIdeal.nD Cert.QkBwdRefIdeal.τ).loc Cert.QkBwdRefIdeal.main_arg5) = m ((c.tc : Thread Cert.QkBwdRefIdeal.nD Cert.QkBwdRefIdeal.τ).loc Cert.QkBwdRefIdeal.main_arg5)
      ∧ r.2.mem ((c.tc : Thread Cert.QkBwdRefIdeal.nD Cert.QkBwdRefIdeal.τ).loc Cert.QkBwdRefIdeal.main_arg6) = m ((c.tc : Thread Cert.QkBwdRefIdeal.nD Cert.QkBwdRefIdeal.τ).loc Cert.QkBwdRefIdeal.main_arg6)
      ∧ r.2.mem ((c.tc : Thread Cert.QkBwdRefIdeal.nD Cert.QkBwdRefIdeal.τ).loc Cert.QkBwdRefIdeal.main_arg7) = m ((c.tc : Thread Cert.QkBwdRefIdeal.nD Cert.QkBwdRefIdeal.τ).loc Cert.QkBwdRefIdeal.main_arg7))
      ∧ r.2.sem = fun _ => 0)

def quiescent_QkBwdRefIdeal_pre_qk_bwd_finite [hQkBwdRefIdeal : Cert.QkBwdRefIdeal.Facts] [hPre_qk_bwd_finite : Cert.Pre_qk_bwd_finite.Facts] : Prop :=
  ∀ (m : (ℓ : Loc Cert.QkBwdRefIdeal.nD Cert.QkBwdRefIdeal.τ Cert.QkBwdRefIdeal.sig) → Buf (Elt Ideal) ℓ) (g : Dev Cert.QkBwdRefIdeal.nD → PrngReg), Pre_QkBwdRefIdeal_qk_bwd_finite m →
    θ_run (Cert.QkBwdRefIdeal.defs (F := Ideal)) (onTc (τ := Cert.QkBwdRefIdeal.τ) (Cert.QkBwdRefIdeal.main (F := Ideal))) ⟨m, fun _ => 0, g⟩ (fun r => (∀ c : Dev Cert.QkBwdRefIdeal.nD,
      r.2.mem ((c.tc : Thread Cert.QkBwdRefIdeal.nD Cert.QkBwdRefIdeal.τ).loc Cert.QkBwdRefIdeal.main_arg0) = m ((c.tc : Thread Cert.QkBwdRefIdeal.nD Cert.QkBwdRefIdeal.τ).loc Cert.QkBwdRefIdeal.main_arg0)
      ∧ r.2.mem ((c.tc : Thread Cert.QkBwdRefIdeal.nD Cert.QkBwdRefIdeal.τ).loc Cert.QkBwdRefIdeal.main_arg1) = m ((c.tc : Thread Cert.QkBwdRefIdeal.nD Cert.QkBwdRefIdeal.τ).loc Cert.QkBwdRefIdeal.main_arg1)
      ∧ r.2.mem ((c.tc : Thread Cert.QkBwdRefIdeal.nD Cert.QkBwdRefIdeal.τ).loc Cert.QkBwdRefIdeal.main_arg2) = m ((c.tc : Thread Cert.QkBwdRefIdeal.nD Cert.QkBwdRefIdeal.τ).loc Cert.QkBwdRefIdeal.main_arg2)
      ∧ r.2.mem ((c.tc : Thread Cert.QkBwdRefIdeal.nD Cert.QkBwdRefIdeal.τ).loc Cert.QkBwdRefIdeal.main_arg3) = m ((c.tc : Thread Cert.QkBwdRefIdeal.nD Cert.QkBwdRefIdeal.τ).loc Cert.QkBwdRefIdeal.main_arg3)
      ∧ r.2.mem ((c.tc : Thread Cert.QkBwdRefIdeal.nD Cert.QkBwdRefIdeal.τ).loc Cert.QkBwdRefIdeal.main_arg4) = m ((c.tc : Thread Cert.QkBwdRefIdeal.nD Cert.QkBwdRefIdeal.τ).loc Cert.QkBwdRefIdeal.main_arg4)
      ∧ r.2.mem ((c.tc : Thread Cert.QkBwdRefIdeal.nD Cert.QkBwdRefIdeal.τ).loc Cert.QkBwdRefIdeal.main_arg5) = m ((c.tc : Thread Cert.QkBwdRefIdeal.nD Cert.QkBwdRefIdeal.τ).loc Cert.QkBwdRefIdeal.main_arg5)
      ∧ r.2.mem ((c.tc : Thread Cert.QkBwdRefIdeal.nD Cert.QkBwdRefIdeal.τ).loc Cert.QkBwdRefIdeal.main_arg6) = m ((c.tc : Thread Cert.QkBwdRefIdeal.nD Cert.QkBwdRefIdeal.τ).loc Cert.QkBwdRefIdeal.main_arg6)
      ∧ r.2.mem ((c.tc : Thread Cert.QkBwdRefIdeal.nD Cert.QkBwdRefIdeal.τ).loc Cert.QkBwdRefIdeal.main_arg7) = m ((c.tc : Thread Cert.QkBwdRefIdeal.nD Cert.QkBwdRefIdeal.τ).loc Cert.QkBwdRefIdeal.main_arg7))
      ∧ r.2.sem = fun _ => 0)

def quiescent_MlpOut [hMlpOut : Cert.MlpOut.Facts] : Prop :=
  ∀ (m : (ℓ : Loc Cert.MlpOut.nD Cert.MlpOut.τ Cert.MlpOut.sig) → Buf (Elt Bits) ℓ) (g : Dev Cert.MlpOut.nD → PrngReg), Pre_MlpOut m →
    θ_run (Cert.MlpOut.defs (F := Bits)) (onTc (τ := Cert.MlpOut.τ) (Cert.MlpOut.main (F := Bits))) ⟨m, fun _ => 0, g⟩ (fun r => (∀ c : Dev Cert.MlpOut.nD,
      r.2.mem ((c.tc : Thread Cert.MlpOut.nD Cert.MlpOut.τ).loc Cert.MlpOut.main_arg0) = m ((c.tc : Thread Cert.MlpOut.nD Cert.MlpOut.τ).loc Cert.MlpOut.main_arg0)
      ∧ r.2.mem ((c.tc : Thread Cert.MlpOut.nD Cert.MlpOut.τ).loc Cert.MlpOut.main_arg1) = m ((c.tc : Thread Cert.MlpOut.nD Cert.MlpOut.τ).loc Cert.MlpOut.main_arg1)
      ∧ r.2.mem ((c.tc : Thread Cert.MlpOut.nD Cert.MlpOut.τ).loc Cert.MlpOut.main_arg2) = m ((c.tc : Thread Cert.MlpOut.nD Cert.MlpOut.τ).loc Cert.MlpOut.main_arg2)
      ∧ r.2.mem ((c.tc : Thread Cert.MlpOut.nD Cert.MlpOut.τ).loc Cert.MlpOut.main_arg3) = m ((c.tc : Thread Cert.MlpOut.nD Cert.MlpOut.τ).loc Cert.MlpOut.main_arg3)
      ∧ r.2.mem ((c.tc : Thread Cert.MlpOut.nD Cert.MlpOut.τ).loc Cert.MlpOut.main_arg4) = m ((c.tc : Thread Cert.MlpOut.nD Cert.MlpOut.τ).loc Cert.MlpOut.main_arg4))
      ∧ r.2.sem = fun _ => 0)

def quiescent_MlpOutIdeal [hMlpOutIdeal : Cert.MlpOutIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg), Pre_MlpOutIdeal m →
    θ_run (Cert.MlpOutIdeal.defs (F := Ideal)) (onTc (τ := Cert.MlpOutIdeal.τ) (Cert.MlpOutIdeal.main (F := Ideal))) ⟨m, fun _ => 0, g⟩ (fun r => (∀ c : Dev Cert.MlpOutIdeal.nD,
      r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
      ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1)
      ∧ r.2.mem ((c.tc : Thread Cert.MlpOutIdeal.nD Cert.MlpOutIdeal.τ).loc Cert.MlpOutIdeal.main_arg2) = m ((c.tc : Thread Cert.MlpOutIdeal.nD Cert.MlpOutIdeal.τ).loc Cert.MlpOutIdeal.main_arg2)
      ∧ r.2.mem ((c.tc : Thread Cert.MlpOutIdeal.nD Cert.MlpOutIdeal.τ).loc Cert.MlpOutIdeal.main_arg3) = m ((c.tc : Thread Cert.MlpOutIdeal.nD Cert.MlpOutIdeal.τ).loc Cert.MlpOutIdeal.main_arg3)
      ∧ r.2.mem ((c.tc : Thread Cert.MlpOutIdeal.nD Cert.MlpOutIdeal.τ).loc Cert.MlpOutIdeal.main_arg4) = m ((c.tc : Thread Cert.MlpOutIdeal.nD Cert.MlpOutIdeal.τ).loc Cert.MlpOutIdeal.main_arg4))
      ∧ r.2.sem = fun _ => 0)

def quiescent_MlpOutIdeal_pre_mlp_out_finite [hMlpOutIdeal : Cert.MlpOutIdeal.Facts] [hPre_mlp_out_finite : Cert.Pre_mlp_out_finite.Facts] : Prop :=
  ∀ (m : (ℓ : Loc Cert.MlpOutIdeal.nD Cert.MlpOutIdeal.τ Cert.MlpOutIdeal.sig) → Buf (Elt Ideal) ℓ) (g : Dev Cert.MlpOutIdeal.nD → PrngReg), Pre_MlpOutIdeal_mlp_out_finite m →
    θ_run (Cert.MlpOutIdeal.defs (F := Ideal)) (onTc (τ := Cert.MlpOutIdeal.τ) (Cert.MlpOutIdeal.main (F := Ideal))) ⟨m, fun _ => 0, g⟩ (fun r => (∀ c : Dev Cert.MlpOutIdeal.nD,
      r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
      ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1)
      ∧ r.2.mem ((c.tc : Thread Cert.MlpOutIdeal.nD Cert.MlpOutIdeal.τ).loc Cert.MlpOutIdeal.main_arg2) = m ((c.tc : Thread Cert.MlpOutIdeal.nD Cert.MlpOutIdeal.τ).loc Cert.MlpOutIdeal.main_arg2)
      ∧ r.2.mem ((c.tc : Thread Cert.MlpOutIdeal.nD Cert.MlpOutIdeal.τ).loc Cert.MlpOutIdeal.main_arg3) = m ((c.tc : Thread Cert.MlpOutIdeal.nD Cert.MlpOutIdeal.τ).loc Cert.MlpOutIdeal.main_arg3)
      ∧ r.2.mem ((c.tc : Thread Cert.MlpOutIdeal.nD Cert.MlpOutIdeal.τ).loc Cert.MlpOutIdeal.main_arg4) = m ((c.tc : Thread Cert.MlpOutIdeal.nD Cert.MlpOutIdeal.τ).loc Cert.MlpOutIdeal.main_arg4))
      ∧ r.2.sem = fun _ => 0)

def quiescent_MlpOutRefIdeal [hMlpOutRefIdeal : Cert.MlpOutRefIdeal.Facts] : Prop :=
  ∀ (m : (ℓ : Loc Cert.MlpOutRefIdeal.nD Cert.MlpOutRefIdeal.τ Cert.MlpOutRefIdeal.sig) → Buf (Elt Ideal) ℓ) (g : Dev Cert.MlpOutRefIdeal.nD → PrngReg), Pre_MlpOutRefIdeal m →
    θ_run (Cert.MlpOutRefIdeal.defs (F := Ideal)) (onTc (τ := Cert.MlpOutRefIdeal.τ) (Cert.MlpOutRefIdeal.main (F := Ideal))) ⟨m, fun _ => 0, g⟩ (fun r => (∀ c : Dev Cert.MlpOutRefIdeal.nD,
      r.2.mem ((c.tc : Thread Cert.MlpOutRefIdeal.nD Cert.MlpOutRefIdeal.τ).loc Cert.MlpOutRefIdeal.main_arg0) = m ((c.tc : Thread Cert.MlpOutRefIdeal.nD Cert.MlpOutRefIdeal.τ).loc Cert.MlpOutRefIdeal.main_arg0)
      ∧ r.2.mem ((c.tc : Thread Cert.MlpOutRefIdeal.nD Cert.MlpOutRefIdeal.τ).loc Cert.MlpOutRefIdeal.main_arg1) = m ((c.tc : Thread Cert.MlpOutRefIdeal.nD Cert.MlpOutRefIdeal.τ).loc Cert.MlpOutRefIdeal.main_arg1)
      ∧ r.2.mem ((c.tc : Thread Cert.MlpOutRefIdeal.nD Cert.MlpOutRefIdeal.τ).loc Cert.MlpOutRefIdeal.main_arg2) = m ((c.tc : Thread Cert.MlpOutRefIdeal.nD Cert.MlpOutRefIdeal.τ).loc Cert.MlpOutRefIdeal.main_arg2)
      ∧ r.2.mem ((c.tc : Thread Cert.MlpOutRefIdeal.nD Cert.MlpOutRefIdeal.τ).loc Cert.MlpOutRefIdeal.main_arg3) = m ((c.tc : Thread Cert.MlpOutRefIdeal.nD Cert.MlpOutRefIdeal.τ).loc Cert.MlpOutRefIdeal.main_arg3)
      ∧ r.2.mem ((c.tc : Thread Cert.MlpOutRefIdeal.nD Cert.MlpOutRefIdeal.τ).loc Cert.MlpOutRefIdeal.main_arg4) = m ((c.tc : Thread Cert.MlpOutRefIdeal.nD Cert.MlpOutRefIdeal.τ).loc Cert.MlpOutRefIdeal.main_arg4))
      ∧ r.2.sem = fun _ => 0)

def quiescent_MlpOutRefIdeal_pre_mlp_out_finite [hMlpOutRefIdeal : Cert.MlpOutRefIdeal.Facts] [hPre_mlp_out_finite : Cert.Pre_mlp_out_finite.Facts] : Prop :=
  ∀ (m : (ℓ : Loc Cert.MlpOutRefIdeal.nD Cert.MlpOutRefIdeal.τ Cert.MlpOutRefIdeal.sig) → Buf (Elt Ideal) ℓ) (g : Dev Cert.MlpOutRefIdeal.nD → PrngReg), Pre_MlpOutRefIdeal_mlp_out_finite m →
    θ_run (Cert.MlpOutRefIdeal.defs (F := Ideal)) (onTc (τ := Cert.MlpOutRefIdeal.τ) (Cert.MlpOutRefIdeal.main (F := Ideal))) ⟨m, fun _ => 0, g⟩ (fun r => (∀ c : Dev Cert.MlpOutRefIdeal.nD,
      r.2.mem ((c.tc : Thread Cert.MlpOutRefIdeal.nD Cert.MlpOutRefIdeal.τ).loc Cert.MlpOutRefIdeal.main_arg0) = m ((c.tc : Thread Cert.MlpOutRefIdeal.nD Cert.MlpOutRefIdeal.τ).loc Cert.MlpOutRefIdeal.main_arg0)
      ∧ r.2.mem ((c.tc : Thread Cert.MlpOutRefIdeal.nD Cert.MlpOutRefIdeal.τ).loc Cert.MlpOutRefIdeal.main_arg1) = m ((c.tc : Thread Cert.MlpOutRefIdeal.nD Cert.MlpOutRefIdeal.τ).loc Cert.MlpOutRefIdeal.main_arg1)
      ∧ r.2.mem ((c.tc : Thread Cert.MlpOutRefIdeal.nD Cert.MlpOutRefIdeal.τ).loc Cert.MlpOutRefIdeal.main_arg2) = m ((c.tc : Thread Cert.MlpOutRefIdeal.nD Cert.MlpOutRefIdeal.τ).loc Cert.MlpOutRefIdeal.main_arg2)
      ∧ r.2.mem ((c.tc : Thread Cert.MlpOutRefIdeal.nD Cert.MlpOutRefIdeal.τ).loc Cert.MlpOutRefIdeal.main_arg3) = m ((c.tc : Thread Cert.MlpOutRefIdeal.nD Cert.MlpOutRefIdeal.τ).loc Cert.MlpOutRefIdeal.main_arg3)
      ∧ r.2.mem ((c.tc : Thread Cert.MlpOutRefIdeal.nD Cert.MlpOutRefIdeal.τ).loc Cert.MlpOutRefIdeal.main_arg4) = m ((c.tc : Thread Cert.MlpOutRefIdeal.nD Cert.MlpOutRefIdeal.τ).loc Cert.MlpOutRefIdeal.main_arg4))
      ∧ r.2.sem = fun _ => 0)

def quiescent_SsmParamBwd [hSsmParamBwd : Cert.SsmParamBwd.Facts] : Prop :=
  ∀ (m : (ℓ : Loc Cert.SsmParamBwd.nD Cert.SsmParamBwd.τ Cert.SsmParamBwd.sig) → Buf (Elt Bits) ℓ) (g : Dev Cert.SsmParamBwd.nD → PrngReg), Pre_SsmParamBwd m →
    θ_run (Cert.SsmParamBwd.defs (F := Bits)) (onTc (τ := Cert.SsmParamBwd.τ) (Cert.SsmParamBwd.main (F := Bits))) ⟨m, fun _ => 0, g⟩ (fun r => (∀ c : Dev Cert.SsmParamBwd.nD,
      r.2.mem ((c.tc : Thread Cert.SsmParamBwd.nD Cert.SsmParamBwd.τ).loc Cert.SsmParamBwd.main_arg0) = m ((c.tc : Thread Cert.SsmParamBwd.nD Cert.SsmParamBwd.τ).loc Cert.SsmParamBwd.main_arg0)
      ∧ r.2.mem ((c.tc : Thread Cert.SsmParamBwd.nD Cert.SsmParamBwd.τ).loc Cert.SsmParamBwd.main_arg1) = m ((c.tc : Thread Cert.SsmParamBwd.nD Cert.SsmParamBwd.τ).loc Cert.SsmParamBwd.main_arg1)
      ∧ r.2.mem ((c.tc : Thread Cert.SsmParamBwd.nD Cert.SsmParamBwd.τ).loc Cert.SsmParamBwd.main_arg2) = m ((c.tc : Thread Cert.SsmParamBwd.nD Cert.SsmParamBwd.τ).loc Cert.SsmParamBwd.main_arg2)
      ∧ r.2.mem ((c.tc : Thread Cert.SsmParamBwd.nD Cert.SsmParamBwd.τ).loc Cert.SsmParamBwd.main_arg3) = m ((c.tc : Thread Cert.SsmParamBwd.nD Cert.SsmParamBwd.τ).loc Cert.SsmParamBwd.main_arg3)
      ∧ r.2.mem ((c.tc : Thread Cert.SsmParamBwd.nD Cert.SsmParamBwd.τ).loc Cert.SsmParamBwd.main_arg4) = m ((c.tc : Thread Cert.SsmParamBwd.nD Cert.SsmParamBwd.τ).loc Cert.SsmParamBwd.main_arg4)
      ∧ r.2.mem ((c.tc : Thread Cert.SsmParamBwd.nD Cert.SsmParamBwd.τ).loc Cert.SsmParamBwd.main_arg5) = m ((c.tc : Thread Cert.SsmParamBwd.nD Cert.SsmParamBwd.τ).loc Cert.SsmParamBwd.main_arg5)
      ∧ r.2.mem ((c.tc : Thread Cert.SsmParamBwd.nD Cert.SsmParamBwd.τ).loc Cert.SsmParamBwd.main_arg6) = m ((c.tc : Thread Cert.SsmParamBwd.nD Cert.SsmParamBwd.τ).loc Cert.SsmParamBwd.main_arg6)
      ∧ r.2.mem ((c.tc : Thread Cert.SsmParamBwd.nD Cert.SsmParamBwd.τ).loc Cert.SsmParamBwd.main_arg7) = m ((c.tc : Thread Cert.SsmParamBwd.nD Cert.SsmParamBwd.τ).loc Cert.SsmParamBwd.main_arg7)
      ∧ r.2.mem ((c.tc : Thread Cert.SsmParamBwd.nD Cert.SsmParamBwd.τ).loc Cert.SsmParamBwd.main_arg8) = m ((c.tc : Thread Cert.SsmParamBwd.nD Cert.SsmParamBwd.τ).loc Cert.SsmParamBwd.main_arg8))
      ∧ r.2.sem = fun _ => 0)

def quiescent_SsmParamBwdIdeal [hSsmParamBwdIdeal : Cert.SsmParamBwdIdeal.Facts] : Prop :=
  ∀ (m : (ℓ : Loc Cert.SsmParamBwdIdeal.nD Cert.SsmParamBwdIdeal.τ Cert.SsmParamBwdIdeal.sig) → Buf (Elt Ideal) ℓ) (g : Dev Cert.SsmParamBwdIdeal.nD → PrngReg), Pre_SsmParamBwdIdeal m →
    θ_run (Cert.SsmParamBwdIdeal.defs (F := Ideal)) (onTc (τ := Cert.SsmParamBwdIdeal.τ) (Cert.SsmParamBwdIdeal.main (F := Ideal))) ⟨m, fun _ => 0, g⟩ (fun r => (∀ c : Dev Cert.SsmParamBwdIdeal.nD,
      r.2.mem ((c.tc : Thread Cert.SsmParamBwdIdeal.nD Cert.SsmParamBwdIdeal.τ).loc Cert.SsmParamBwdIdeal.main_arg0) = m ((c.tc : Thread Cert.SsmParamBwdIdeal.nD Cert.SsmParamBwdIdeal.τ).loc Cert.SsmParamBwdIdeal.main_arg0)
      ∧ r.2.mem ((c.tc : Thread Cert.SsmParamBwdIdeal.nD Cert.SsmParamBwdIdeal.τ).loc Cert.SsmParamBwdIdeal.main_arg1) = m ((c.tc : Thread Cert.SsmParamBwdIdeal.nD Cert.SsmParamBwdIdeal.τ).loc Cert.SsmParamBwdIdeal.main_arg1)
      ∧ r.2.mem ((c.tc : Thread Cert.SsmParamBwdIdeal.nD Cert.SsmParamBwdIdeal.τ).loc Cert.SsmParamBwdIdeal.main_arg2) = m ((c.tc : Thread Cert.SsmParamBwdIdeal.nD Cert.SsmParamBwdIdeal.τ).loc Cert.SsmParamBwdIdeal.main_arg2)
      ∧ r.2.mem ((c.tc : Thread Cert.SsmParamBwdIdeal.nD Cert.SsmParamBwdIdeal.τ).loc Cert.SsmParamBwdIdeal.main_arg3) = m ((c.tc : Thread Cert.SsmParamBwdIdeal.nD Cert.SsmParamBwdIdeal.τ).loc Cert.SsmParamBwdIdeal.main_arg3)
      ∧ r.2.mem ((c.tc : Thread Cert.SsmParamBwdIdeal.nD Cert.SsmParamBwdIdeal.τ).loc Cert.SsmParamBwdIdeal.main_arg4) = m ((c.tc : Thread Cert.SsmParamBwdIdeal.nD Cert.SsmParamBwdIdeal.τ).loc Cert.SsmParamBwdIdeal.main_arg4)
      ∧ r.2.mem ((c.tc : Thread Cert.SsmParamBwdIdeal.nD Cert.SsmParamBwdIdeal.τ).loc Cert.SsmParamBwdIdeal.main_arg5) = m ((c.tc : Thread Cert.SsmParamBwdIdeal.nD Cert.SsmParamBwdIdeal.τ).loc Cert.SsmParamBwdIdeal.main_arg5)
      ∧ r.2.mem ((c.tc : Thread Cert.SsmParamBwdIdeal.nD Cert.SsmParamBwdIdeal.τ).loc Cert.SsmParamBwdIdeal.main_arg6) = m ((c.tc : Thread Cert.SsmParamBwdIdeal.nD Cert.SsmParamBwdIdeal.τ).loc Cert.SsmParamBwdIdeal.main_arg6)
      ∧ r.2.mem ((c.tc : Thread Cert.SsmParamBwdIdeal.nD Cert.SsmParamBwdIdeal.τ).loc Cert.SsmParamBwdIdeal.main_arg7) = m ((c.tc : Thread Cert.SsmParamBwdIdeal.nD Cert.SsmParamBwdIdeal.τ).loc Cert.SsmParamBwdIdeal.main_arg7)
      ∧ r.2.mem ((c.tc : Thread Cert.SsmParamBwdIdeal.nD Cert.SsmParamBwdIdeal.τ).loc Cert.SsmParamBwdIdeal.main_arg8) = m ((c.tc : Thread Cert.SsmParamBwdIdeal.nD Cert.SsmParamBwdIdeal.τ).loc Cert.SsmParamBwdIdeal.main_arg8))
      ∧ r.2.sem = fun _ => 0)

def quiescent_SsmParamBwdRefIdeal [hSsmParamBwdRefIdeal : Cert.SsmParamBwdRefIdeal.Facts] : Prop :=
  ∀ (m : (ℓ : Loc Cert.SsmParamBwdRefIdeal.nD Cert.SsmParamBwdRefIdeal.τ Cert.SsmParamBwdRefIdeal.sig) → Buf (Elt Ideal) ℓ) (g : Dev Cert.SsmParamBwdRefIdeal.nD → PrngReg), Pre_SsmParamBwdRefIdeal m →
    θ_run (Cert.SsmParamBwdRefIdeal.defs (F := Ideal)) (onTc (τ := Cert.SsmParamBwdRefIdeal.τ) (Cert.SsmParamBwdRefIdeal.main (F := Ideal))) ⟨m, fun _ => 0, g⟩ (fun r => (∀ c : Dev Cert.SsmParamBwdRefIdeal.nD,
      r.2.mem ((c.tc : Thread Cert.SsmParamBwdRefIdeal.nD Cert.SsmParamBwdRefIdeal.τ).loc Cert.SsmParamBwdRefIdeal.main_arg0) = m ((c.tc : Thread Cert.SsmParamBwdRefIdeal.nD Cert.SsmParamBwdRefIdeal.τ).loc Cert.SsmParamBwdRefIdeal.main_arg0)
      ∧ r.2.mem ((c.tc : Thread Cert.SsmParamBwdRefIdeal.nD Cert.SsmParamBwdRefIdeal.τ).loc Cert.SsmParamBwdRefIdeal.main_arg1) = m ((c.tc : Thread Cert.SsmParamBwdRefIdeal.nD Cert.SsmParamBwdRefIdeal.τ).loc Cert.SsmParamBwdRefIdeal.main_arg1)
      ∧ r.2.mem ((c.tc : Thread Cert.SsmParamBwdRefIdeal.nD Cert.SsmParamBwdRefIdeal.τ).loc Cert.SsmParamBwdRefIdeal.main_arg2) = m ((c.tc : Thread Cert.SsmParamBwdRefIdeal.nD Cert.SsmParamBwdRefIdeal.τ).loc Cert.SsmParamBwdRefIdeal.main_arg2)
      ∧ r.2.mem ((c.tc : Thread Cert.SsmParamBwdRefIdeal.nD Cert.SsmParamBwdRefIdeal.τ).loc Cert.SsmParamBwdRefIdeal.main_arg3) = m ((c.tc : Thread Cert.SsmParamBwdRefIdeal.nD Cert.SsmParamBwdRefIdeal.τ).loc Cert.SsmParamBwdRefIdeal.main_arg3)
      ∧ r.2.mem ((c.tc : Thread Cert.SsmParamBwdRefIdeal.nD Cert.SsmParamBwdRefIdeal.τ).loc Cert.SsmParamBwdRefIdeal.main_arg4) = m ((c.tc : Thread Cert.SsmParamBwdRefIdeal.nD Cert.SsmParamBwdRefIdeal.τ).loc Cert.SsmParamBwdRefIdeal.main_arg4)
      ∧ r.2.mem ((c.tc : Thread Cert.SsmParamBwdRefIdeal.nD Cert.SsmParamBwdRefIdeal.τ).loc Cert.SsmParamBwdRefIdeal.main_arg5) = m ((c.tc : Thread Cert.SsmParamBwdRefIdeal.nD Cert.SsmParamBwdRefIdeal.τ).loc Cert.SsmParamBwdRefIdeal.main_arg5)
      ∧ r.2.mem ((c.tc : Thread Cert.SsmParamBwdRefIdeal.nD Cert.SsmParamBwdRefIdeal.τ).loc Cert.SsmParamBwdRefIdeal.main_arg6) = m ((c.tc : Thread Cert.SsmParamBwdRefIdeal.nD Cert.SsmParamBwdRefIdeal.τ).loc Cert.SsmParamBwdRefIdeal.main_arg6)
      ∧ r.2.mem ((c.tc : Thread Cert.SsmParamBwdRefIdeal.nD Cert.SsmParamBwdRefIdeal.τ).loc Cert.SsmParamBwdRefIdeal.main_arg7) = m ((c.tc : Thread Cert.SsmParamBwdRefIdeal.nD Cert.SsmParamBwdRefIdeal.τ).loc Cert.SsmParamBwdRefIdeal.main_arg7)
      ∧ r.2.mem ((c.tc : Thread Cert.SsmParamBwdRefIdeal.nD Cert.SsmParamBwdRefIdeal.τ).loc Cert.SsmParamBwdRefIdeal.main_arg8) = m ((c.tc : Thread Cert.SsmParamBwdRefIdeal.nD Cert.SsmParamBwdRefIdeal.τ).loc Cert.SsmParamBwdRefIdeal.main_arg8))
      ∧ r.2.sem = fun _ => 0)

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1)
      ∧ r.2.mem ((c.tc : Thread Cert.GluBwd.nD Cert.GluBwd.τ).loc Cert.GluBwd.main_arg2) = m ((c.tc : Thread Cert.GluBwd.nD Cert.GluBwd.τ).loc Cert.GluBwd.main_arg2)
      ∧ r.2.mem ((c.tc : Thread Cert.GluBwd.nD Cert.GluBwd.τ).loc Cert.GluBwd.main_arg3) = m ((c.tc : Thread Cert.GluBwd.nD Cert.GluBwd.τ).loc Cert.GluBwd.main_arg3)
      ∧ r.2.mem ((c.tc : Thread Cert.GluBwd.nD Cert.GluBwd.τ).loc Cert.GluBwd.main_arg4) = m ((c.tc : Thread Cert.GluBwd.nD Cert.GluBwd.τ).loc Cert.GluBwd.main_arg4)
      ∧ r.2.mem ((c.tc : Thread Cert.GluBwd.nD Cert.GluBwd.τ).loc Cert.GluBwd.main_arg5) = m ((c.tc : Thread Cert.GluBwd.nD Cert.GluBwd.τ).loc Cert.GluBwd.main_arg5)
      ∧ r.2.mem ((c.tc : Thread Cert.GluBwd.nD Cert.GluBwd.τ).loc Cert.GluBwd.main_arg6) = m ((c.tc : Thread Cert.GluBwd.nD Cert.GluBwd.τ).loc Cert.GluBwd.main_arg6))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
      ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
      ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4)
      ∧ r.2.mem ((c.tc : Thread Cert.GluBwdIdeal.nD Cert.GluBwdIdeal.τ).loc Cert.GluBwdIdeal.main_arg5) = m ((c.tc : Thread Cert.GluBwdIdeal.nD Cert.GluBwdIdeal.τ).loc Cert.GluBwdIdeal.main_arg5)
      ∧ r.2.mem ((c.tc : Thread Cert.GluBwdIdeal.nD Cert.GluBwdIdeal.τ).loc Cert.GluBwdIdeal.main_arg6) = m ((c.tc : Thread Cert.GluBwdIdeal.nD Cert.GluBwdIdeal.τ).loc Cert.GluBwdIdeal.main_arg6))
      ∧ r.2.sem = fun _ => 0)

def quiescent_GluBwdRefIdeal [hGluBwdRefIdeal : Cert.GluBwdRefIdeal.Facts] : Prop :=
  ∀ (m : (ℓ : Loc Cert.GluBwdRefIdeal.nD Cert.GluBwdRefIdeal.τ Cert.GluBwdRefIdeal.sig) → Buf (Elt Ideal) ℓ) (g : Dev Cert.GluBwdRefIdeal.nD → PrngReg), Pre_GluBwdRefIdeal m →
    θ_run (Cert.GluBwdRefIdeal.defs (F := Ideal)) (onTc (τ := Cert.GluBwdRefIdeal.τ) (Cert.GluBwdRefIdeal.main (F := Ideal))) ⟨m, fun _ => 0, g⟩ (fun r => (∀ c : Dev Cert.GluBwdRefIdeal.nD,
      r.2.mem ((c.tc : Thread Cert.GluBwdRefIdeal.nD Cert.GluBwdRefIdeal.τ).loc Cert.GluBwdRefIdeal.main_arg0) = m ((c.tc : Thread Cert.GluBwdRefIdeal.nD Cert.GluBwdRefIdeal.τ).loc Cert.GluBwdRefIdeal.main_arg0)
      ∧ r.2.mem ((c.tc : Thread Cert.GluBwdRefIdeal.nD Cert.GluBwdRefIdeal.τ).loc Cert.GluBwdRefIdeal.main_arg1) = m ((c.tc : Thread Cert.GluBwdRefIdeal.nD Cert.GluBwdRefIdeal.τ).loc Cert.GluBwdRefIdeal.main_arg1)
      ∧ r.2.mem ((c.tc : Thread Cert.GluBwdRefIdeal.nD Cert.GluBwdRefIdeal.τ).loc Cert.GluBwdRefIdeal.main_arg2) = m ((c.tc : Thread Cert.GluBwdRefIdeal.nD Cert.GluBwdRefIdeal.τ).loc Cert.GluBwdRefIdeal.main_arg2)
      ∧ r.2.mem ((c.tc : Thread Cert.GluBwdRefIdeal.nD Cert.GluBwdRefIdeal.τ).loc Cert.GluBwdRefIdeal.main_arg3) = m ((c.tc : Thread Cert.GluBwdRefIdeal.nD Cert.GluBwdRefIdeal.τ).loc Cert.GluBwdRefIdeal.main_arg3)
      ∧ r.2.mem ((c.tc : Thread Cert.GluBwdRefIdeal.nD Cert.GluBwdRefIdeal.τ).loc Cert.GluBwdRefIdeal.main_arg4) = m ((c.tc : Thread Cert.GluBwdRefIdeal.nD Cert.GluBwdRefIdeal.τ).loc Cert.GluBwdRefIdeal.main_arg4)
      ∧ r.2.mem ((c.tc : Thread Cert.GluBwdRefIdeal.nD Cert.GluBwdRefIdeal.τ).loc Cert.GluBwdRefIdeal.main_arg5) = m ((c.tc : Thread Cert.GluBwdRefIdeal.nD Cert.GluBwdRefIdeal.τ).loc Cert.GluBwdRefIdeal.main_arg5)
      ∧ r.2.mem ((c.tc : Thread Cert.GluBwdRefIdeal.nD Cert.GluBwdRefIdeal.τ).loc Cert.GluBwdRefIdeal.main_arg6) = m ((c.tc : Thread Cert.GluBwdRefIdeal.nD Cert.GluBwdRefIdeal.τ).loc Cert.GluBwdRefIdeal.main_arg6))
      ∧ r.2.sem = fun _ => 0)

def preserves_MergeBwd_MergeBwdIdeal : Prop :=
  True

def algebraic_MergeBwdIdeal_MergeBwdRefIdeal_pre_merge_bwd_finite [hMergeBwdIdeal : Cert.MergeBwdIdeal.Facts] [hMergeBwdRefIdeal : Cert.MergeBwdRefIdeal.Facts] [hPre_merge_bwd_finite : Cert.Pre_merge_bwd_finite.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal_merge_bwd_finite m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)
      ∧ m' ((c.tc : Thread Cert.MergeBwdRefIdeal.nD Cert.MergeBwdRefIdeal.τ).loc Cert.MergeBwdRefIdeal.main_arg6) = m ((c.tc : Thread Cert.MergeBwdIdeal.nD Cert.MergeBwdIdeal.τ).loc Cert.MergeBwdIdeal.main_arg6)) →
    ∃ (v0 : (c : Dev Cert.MergeBwdIdeal.nD) → Buf (Elt Ideal) ((c.tc : Thread Cert.MergeBwdIdeal.nD Cert.MergeBwdIdeal.τ).loc Cert.MergeBwdIdeal.main_v23_0)) (v1 : (c : Dev Cert.MergeBwdIdeal.nD) → Buf (Elt Ideal) ((c.tc : Thread Cert.MergeBwdIdeal.nD Cert.MergeBwdIdeal.τ).loc Cert.MergeBwdIdeal.main_v23_1)) (v2 : (c : Dev Cert.MergeBwdIdeal.nD) → Buf (Elt Ideal) ((c.tc : Thread Cert.MergeBwdIdeal.nD Cert.MergeBwdIdeal.τ).loc Cert.MergeBwdIdeal.main_v23_2)) (v3 : (c : Dev Cert.MergeBwdIdeal.nD) → Buf (Elt Ideal) ((c.tc : Thread Cert.MergeBwdIdeal.nD Cert.MergeBwdIdeal.τ).loc Cert.MergeBwdIdeal.main_v23_3)) (v4 : (c : Dev Cert.MergeBwdIdeal.nD) → Buf (Elt Ideal) ((c.tc : Thread Cert.MergeBwdIdeal.nD Cert.MergeBwdIdeal.τ).loc Cert.MergeBwdIdeal.main_v23_4)) (v5 : (c : Dev Cert.MergeBwdIdeal.nD) → Buf (Elt Ideal) ((c.tc : Thread Cert.MergeBwdIdeal.nD Cert.MergeBwdIdeal.τ).loc Cert.MergeBwdIdeal.main_v23_5)) (v6 : (c : Dev Cert.MergeBwdIdeal.nD) → Buf (Elt Ideal) ((c.tc : Thread Cert.MergeBwdIdeal.nD Cert.MergeBwdIdeal.τ).loc Cert.MergeBwdIdeal.main_v23_6)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v23_0) = v0 c
          ∧ r.2.mem ((c.tc : Thread Cert.MergeBwdIdeal.nD Cert.MergeBwdIdeal.τ).loc Cert.MergeBwdIdeal.main_v23_1) = v1 c
          ∧ r.2.mem ((c.tc : Thread Cert.MergeBwdIdeal.nD Cert.MergeBwdIdeal.τ).loc Cert.MergeBwdIdeal.main_v23_2) = v2 c
          ∧ r.2.mem ((c.tc : Thread Cert.MergeBwdIdeal.nD Cert.MergeBwdIdeal.τ).loc Cert.MergeBwdIdeal.main_v23_3) = v3 c
          ∧ r.2.mem ((c.tc : Thread Cert.MergeBwdIdeal.nD Cert.MergeBwdIdeal.τ).loc Cert.MergeBwdIdeal.main_v23_4) = v4 c
          ∧ r.2.mem ((c.tc : Thread Cert.MergeBwdIdeal.nD Cert.MergeBwdIdeal.τ).loc Cert.MergeBwdIdeal.main_v23_5) = v5 c
          ∧ r.2.mem ((c.tc : Thread Cert.MergeBwdIdeal.nD Cert.MergeBwdIdeal.τ).loc Cert.MergeBwdIdeal.main_v23_6) = v6 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v47) = v0 c
          ∧ r.2.mem ((c.tc : Thread Cert.MergeBwdRefIdeal.nD Cert.MergeBwdRefIdeal.τ).loc Cert.MergeBwdRefIdeal.main_v48) = v1 c
          ∧ r.2.mem ((c.tc : Thread Cert.MergeBwdRefIdeal.nD Cert.MergeBwdRefIdeal.τ).loc Cert.MergeBwdRefIdeal.main_v49) = v2 c
          ∧ r.2.mem ((c.tc : Thread Cert.MergeBwdRefIdeal.nD Cert.MergeBwdRefIdeal.τ).loc Cert.MergeBwdRefIdeal.main_v40) = v3 c
          ∧ r.2.mem ((c.tc : Thread Cert.MergeBwdRefIdeal.nD Cert.MergeBwdRefIdeal.τ).loc Cert.MergeBwdRefIdeal.main_v50) = v4 c
          ∧ r.2.mem ((c.tc : Thread Cert.MergeBwdRefIdeal.nD Cert.MergeBwdRefIdeal.τ).loc Cert.MergeBwdRefIdeal.main_v46) = v5 c
          ∧ r.2.mem ((c.tc : Thread Cert.MergeBwdRefIdeal.nD Cert.MergeBwdRefIdeal.τ).loc Cert.MergeBwdRefIdeal.main_v51) = v6 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5)
          ∧ r.2.mem ((c.tc : Thread Cert.MergeBwdRefIdeal.nD Cert.MergeBwdRefIdeal.τ).loc Cert.MergeBwdRefIdeal.main_arg6) = m' ((c.tc : Thread Cert.MergeBwdRefIdeal.nD Cert.MergeBwdRefIdeal.τ).loc Cert.MergeBwdRefIdeal.main_arg6))

def preserves_AttnBwd_AttnBwdIdeal : Prop :=
  True

def algebraic_AttnBwdIdeal_AttnBwdRefIdeal_pre_attn_bwd_finite [hAttnBwdIdeal : Cert.AttnBwdIdeal.Facts] [hAttnBwdRefIdeal : Cert.AttnBwdRefIdeal.Facts] [hPre_attn_bwd_finite : Cert.Pre_attn_bwd_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_attn_bwd_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v144_0)) (v1 : (c : Dev Cert.AttnBwdIdeal.nD) → Buf (Elt Ideal) ((c.tc : Thread Cert.AttnBwdIdeal.nD Cert.AttnBwdIdeal.τ).loc Cert.AttnBwdIdeal.main_v144_1)) (v2 : (c : Dev Cert.AttnBwdIdeal.nD) → Buf (Elt Ideal) ((c.tc : Thread Cert.AttnBwdIdeal.nD Cert.AttnBwdIdeal.τ).loc Cert.AttnBwdIdeal.main_v144_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v144_0) = v0 c
          ∧ r.2.mem ((c.tc : Thread Cert.AttnBwdIdeal.nD Cert.AttnBwdIdeal.τ).loc Cert.AttnBwdIdeal.main_v144_1) = v1 c
          ∧ r.2.mem ((c.tc : Thread Cert.AttnBwdIdeal.nD Cert.AttnBwdIdeal.τ).loc Cert.AttnBwdIdeal.main_v144_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v61) = v0 c
          ∧ r.2.mem ((c.tc : Thread Cert.AttnBwdRefIdeal.nD Cert.AttnBwdRefIdeal.τ).loc Cert.AttnBwdRefIdeal.main_v68) = v1 c
          ∧ r.2.mem ((c.tc : Thread Cert.AttnBwdRefIdeal.nD Cert.AttnBwdRefIdeal.τ).loc Cert.AttnBwdRefIdeal.main_v75) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3))

def preserves_MlpBwd_MlpBwdIdeal : Prop :=
  True

def algebraic_MlpBwdIdeal_MlpBwdRefIdeal_pre_mlp_bwd_finite [hMlpBwdIdeal : Cert.MlpBwdIdeal.Facts] [hMlpBwdRefIdeal : Cert.MlpBwdRefIdeal.Facts] [hPre_mlp_bwd_finite : Cert.Pre_mlp_bwd_finite.Facts] : Prop :=
  ∀ (m : (ℓ : Loc Cert.MlpBwdIdeal.nD Cert.MlpBwdIdeal.τ Cert.MlpBwdIdeal.sig) → Buf (Elt Ideal) ℓ) (g : Dev Cert.MlpBwdIdeal.nD → PrngReg)
    (m' : (ℓ : Loc Cert.MlpBwdRefIdeal.nD Cert.MlpBwdRefIdeal.τ Cert.MlpBwdRefIdeal.sig) → Buf (Elt Ideal) ℓ) (g' : Dev Cert.MlpBwdRefIdeal.nD → PrngReg), Pre_MlpBwdIdeal_mlp_bwd_finite m →
    (∀ c : Dev Cert.MlpBwdIdeal.nD,
      m' ((c.tc : Thread Cert.MlpBwdRefIdeal.nD Cert.MlpBwdRefIdeal.τ).loc Cert.MlpBwdRefIdeal.main_arg0) = m ((c.tc : Thread Cert.MlpBwdIdeal.nD Cert.MlpBwdIdeal.τ).loc Cert.MlpBwdIdeal.main_arg0)
      ∧ m' ((c.tc : Thread Cert.MlpBwdRefIdeal.nD Cert.MlpBwdRefIdeal.τ).loc Cert.MlpBwdRefIdeal.main_arg1) = m ((c.tc : Thread Cert.MlpBwdIdeal.nD Cert.MlpBwdIdeal.τ).loc Cert.MlpBwdIdeal.main_arg1)
      ∧ m' ((c.tc : Thread Cert.MlpBwdRefIdeal.nD Cert.MlpBwdRefIdeal.τ).loc Cert.MlpBwdRefIdeal.main_arg2) = m ((c.tc : Thread Cert.MlpBwdIdeal.nD Cert.MlpBwdIdeal.τ).loc Cert.MlpBwdIdeal.main_arg2)
      ∧ m' ((c.tc : Thread Cert.MlpBwdRefIdeal.nD Cert.MlpBwdRefIdeal.τ).loc Cert.MlpBwdRefIdeal.main_arg3) = m ((c.tc : Thread Cert.MlpBwdIdeal.nD Cert.MlpBwdIdeal.τ).loc Cert.MlpBwdIdeal.main_arg3)
      ∧ m' ((c.tc : Thread Cert.MlpBwdRefIdeal.nD Cert.MlpBwdRefIdeal.τ).loc Cert.MlpBwdRefIdeal.main_arg4) = m ((c.tc : Thread Cert.MlpBwdIdeal.nD Cert.MlpBwdIdeal.τ).loc Cert.MlpBwdIdeal.main_arg4)) →
    ∃ (v0 : (c : Dev Cert.MlpBwdIdeal.nD) → Buf (Elt Ideal) ((c.tc : Thread Cert.MlpBwdIdeal.nD Cert.MlpBwdIdeal.τ).loc Cert.MlpBwdIdeal.main_v5_0)) (v1 : (c : Dev Cert.MlpBwdIdeal.nD) → Buf (Elt Ideal) ((c.tc : Thread Cert.MlpBwdIdeal.nD Cert.MlpBwdIdeal.τ).loc Cert.MlpBwdIdeal.main_v5_1)),
      θ_run (Cert.MlpBwdIdeal.defs (F := Ideal)) (onTc (τ := Cert.MlpBwdIdeal.τ) (Cert.MlpBwdIdeal.main (F := Ideal))) ⟨m, fun _ => 0, g⟩ (fun r => ∀ c : Dev Cert.MlpBwdIdeal.nD,
          r.2.mem ((c.tc : Thread Cert.MlpBwdIdeal.nD Cert.MlpBwdIdeal.τ).loc Cert.MlpBwdIdeal.main_v5_0) = v0 c
          ∧ r.2.mem ((c.tc : Thread Cert.MlpBwdIdeal.nD Cert.MlpBwdIdeal.τ).loc Cert.MlpBwdIdeal.main_v5_1) = v1 c
          ∧ r.2.mem ((c.tc : Thread Cert.MlpBwdIdeal.nD Cert.MlpBwdIdeal.τ).loc Cert.MlpBwdIdeal.main_arg0) = m ((c.tc : Thread Cert.MlpBwdIdeal.nD Cert.MlpBwdIdeal.τ).loc Cert.MlpBwdIdeal.main_arg0)
          ∧ r.2.mem ((c.tc : Thread Cert.MlpBwdIdeal.nD Cert.MlpBwdIdeal.τ).loc Cert.MlpBwdIdeal.main_arg1) = m ((c.tc : Thread Cert.MlpBwdIdeal.nD Cert.MlpBwdIdeal.τ).loc Cert.MlpBwdIdeal.main_arg1)
          ∧ r.2.mem ((c.tc : Thread Cert.MlpBwdIdeal.nD Cert.MlpBwdIdeal.τ).loc Cert.MlpBwdIdeal.main_arg2) = m ((c.tc : Thread Cert.MlpBwdIdeal.nD Cert.MlpBwdIdeal.τ).loc Cert.MlpBwdIdeal.main_arg2)
          ∧ r.2.mem ((c.tc : Thread Cert.MlpBwdIdeal.nD Cert.MlpBwdIdeal.τ).loc Cert.MlpBwdIdeal.main_arg3) = m ((c.tc : Thread Cert.MlpBwdIdeal.nD Cert.MlpBwdIdeal.τ).loc Cert.MlpBwdIdeal.main_arg3)
          ∧ r.2.mem ((c.tc : Thread Cert.MlpBwdIdeal.nD Cert.MlpBwdIdeal.τ).loc Cert.MlpBwdIdeal.main_arg4) = m ((c.tc : Thread Cert.MlpBwdIdeal.nD Cert.MlpBwdIdeal.τ).loc Cert.MlpBwdIdeal.main_arg4))
      ∧ θ_run (Cert.MlpBwdRefIdeal.defs (F := Ideal)) (onTc (τ := Cert.MlpBwdRefIdeal.τ) (Cert.MlpBwdRefIdeal.main (F := Ideal))) ⟨m', fun _ => 0, g'⟩ (fun r => ∀ c : Dev Cert.MlpBwdRefIdeal.nD,
          r.2.mem ((c.tc : Thread Cert.MlpBwdRefIdeal.nD Cert.MlpBwdRefIdeal.τ).loc Cert.MlpBwdRefIdeal.main_v40) = v0 c
          ∧ r.2.mem ((c.tc : Thread Cert.MlpBwdRefIdeal.nD Cert.MlpBwdRefIdeal.τ).loc Cert.MlpBwdRefIdeal.main_v41) = v1 c
          ∧ r.2.mem ((c.tc : Thread Cert.MlpBwdRefIdeal.nD Cert.MlpBwdRefIdeal.τ).loc Cert.MlpBwdRefIdeal.main_arg0) = m' ((c.tc : Thread Cert.MlpBwdRefIdeal.nD Cert.MlpBwdRefIdeal.τ).loc Cert.MlpBwdRefIdeal.main_arg0)
          ∧ r.2.mem ((c.tc : Thread Cert.MlpBwdRefIdeal.nD Cert.MlpBwdRefIdeal.τ).loc Cert.MlpBwdRefIdeal.main_arg1) = m' ((c.tc : Thread Cert.MlpBwdRefIdeal.nD Cert.MlpBwdRefIdeal.τ).loc Cert.MlpBwdRefIdeal.main_arg1)
          ∧ r.2.mem ((c.tc : Thread Cert.MlpBwdRefIdeal.nD Cert.MlpBwdRefIdeal.τ).loc Cert.MlpBwdRefIdeal.main_arg2) = m' ((c.tc : Thread Cert.MlpBwdRefIdeal.nD Cert.MlpBwdRefIdeal.τ).loc Cert.MlpBwdRefIdeal.main_arg2)
          ∧ r.2.mem ((c.tc : Thread Cert.MlpBwdRefIdeal.nD Cert.MlpBwdRefIdeal.τ).loc Cert.MlpBwdRefIdeal.main_arg3) = m' ((c.tc : Thread Cert.MlpBwdRefIdeal.nD Cert.MlpBwdRefIdeal.τ).loc Cert.MlpBwdRefIdeal.main_arg3)
          ∧ r.2.mem ((c.tc : Thread Cert.MlpBwdRefIdeal.nD Cert.MlpBwdRefIdeal.τ).loc Cert.MlpBwdRefIdeal.main_arg4) = m' ((c.tc : Thread Cert.MlpBwdRefIdeal.nD Cert.MlpBwdRefIdeal.τ).loc Cert.MlpBwdRefIdeal.main_arg4))

def preserves_InProjBwd_InProjBwdIdeal : Prop :=
  True

def algebraic_InProjBwdIdeal_InProjBwdRefIdeal_pre_in_proj_bwd_finite [hInProjBwdIdeal : Cert.InProjBwdIdeal.Facts] [hInProjBwdRefIdeal : Cert.InProjBwdRefIdeal.Facts] [hPre_in_proj_bwd_finite : Cert.Pre_in_proj_bwd_finite.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg)
    (m' : (ℓ : Loc Cert.InProjBwdRefIdeal.nD Cert.InProjBwdRefIdeal.τ Cert.InProjBwdRefIdeal.sig) → Buf (Elt Ideal) ℓ) (g' : Dev Cert.InProjBwdRefIdeal.nD → PrngReg), Pre_InProjBwdIdeal_in_proj_bwd_finite m →
    (∀ c : Dev Cert.InProjBwdIdeal.nD,
      m' ((c.tc : Thread Cert.InProjBwdRefIdeal.nD Cert.InProjBwdRefIdeal.τ).loc Cert.InProjBwdRefIdeal.main_arg0) = m ((c.tc : Thread Cert.InProjBwdIdeal.nD Cert.InProjBwdIdeal.τ).loc Cert.InProjBwdIdeal.main_arg0)
      ∧ m' ((c.tc : Thread Cert.InProjBwdRefIdeal.nD Cert.InProjBwdRefIdeal.τ).loc Cert.InProjBwdRefIdeal.main_arg1) = m ((c.tc : Thread Cert.InProjBwdIdeal.nD Cert.InProjBwdIdeal.τ).loc Cert.InProjBwdIdeal.main_arg1)
      ∧ m' ((c.tc : Thread Cert.InProjBwdRefIdeal.nD Cert.InProjBwdRefIdeal.τ).loc Cert.InProjBwdRefIdeal.main_arg2) = m ((c.tc : Thread Cert.InProjBwdIdeal.nD Cert.InProjBwdIdeal.τ).loc Cert.InProjBwdIdeal.main_arg2)
      ∧ m' ((c.tc : Thread Cert.InProjBwdRefIdeal.nD Cert.InProjBwdRefIdeal.τ).loc Cert.InProjBwdRefIdeal.main_arg3) = m ((c.tc : Thread Cert.InProjBwdIdeal.nD Cert.InProjBwdIdeal.τ).loc Cert.InProjBwdIdeal.main_arg3)
      ∧ m' ((c.tc : Thread Cert.InProjBwdRefIdeal.nD Cert.InProjBwdRefIdeal.τ).loc Cert.InProjBwdRefIdeal.main_arg4) = m ((c.tc : Thread Cert.InProjBwdIdeal.nD Cert.InProjBwdIdeal.τ).loc Cert.InProjBwdIdeal.main_arg4)
      ∧ m' ((c.tc : Thread Cert.InProjBwdRefIdeal.nD Cert.InProjBwdRefIdeal.τ).loc Cert.InProjBwdRefIdeal.main_arg5) = m ((c.tc : Thread Cert.InProjBwdIdeal.nD Cert.InProjBwdIdeal.τ).loc Cert.InProjBwdIdeal.main_arg5)
      ∧ m' ((c.tc : Thread Cert.InProjBwdRefIdeal.nD Cert.InProjBwdRefIdeal.τ).loc Cert.InProjBwdRefIdeal.main_arg6) = m ((c.tc : Thread Cert.InProjBwdIdeal.nD Cert.InProjBwdIdeal.τ).loc Cert.InProjBwdIdeal.main_arg6)
      ∧ m' ((c.tc : Thread Cert.InProjBwdRefIdeal.nD Cert.InProjBwdRefIdeal.τ).loc Cert.InProjBwdRefIdeal.main_arg7) = m ((c.tc : Thread Cert.InProjBwdIdeal.nD Cert.InProjBwdIdeal.τ).loc Cert.InProjBwdIdeal.main_arg7)
      ∧ m' ((c.tc : Thread Cert.InProjBwdRefIdeal.nD Cert.InProjBwdRefIdeal.τ).loc Cert.InProjBwdRefIdeal.main_arg8) = m ((c.tc : Thread Cert.InProjBwdIdeal.nD Cert.InProjBwdIdeal.τ).loc Cert.InProjBwdIdeal.main_arg8)
      ∧ m' ((c.tc : Thread Cert.InProjBwdRefIdeal.nD Cert.InProjBwdRefIdeal.τ).loc Cert.InProjBwdRefIdeal.main_arg9) = m ((c.tc : Thread Cert.InProjBwdIdeal.nD Cert.InProjBwdIdeal.τ).loc Cert.InProjBwdIdeal.main_arg9)) →
    ∃ (v0 : (c : Dev Cert.InProjBwdIdeal.nD) → Buf (Elt Ideal) ((c.tc : Thread Cert.InProjBwdIdeal.nD Cert.InProjBwdIdeal.τ).loc Cert.InProjBwdIdeal.main_v6_0)) (v1 : (c : Dev Cert.InProjBwdIdeal.nD) → Buf (Elt Ideal) ((c.tc : Thread Cert.InProjBwdIdeal.nD Cert.InProjBwdIdeal.τ).loc Cert.InProjBwdIdeal.main_v6_1)) (v2 : (c : Dev Cert.InProjBwdIdeal.nD) → Buf (Elt Ideal) ((c.tc : Thread Cert.InProjBwdIdeal.nD Cert.InProjBwdIdeal.τ).loc Cert.InProjBwdIdeal.main_v6_2)),
      θ_run (Cert.InProjBwdIdeal.defs (F := Ideal)) (onTc (τ := Cert.InProjBwdIdeal.τ) (Cert.InProjBwdIdeal.main (F := Ideal))) ⟨m, fun _ => 0, g⟩ (fun r => ∀ c : Dev Cert.InProjBwdIdeal.nD,
          r.2.mem ((c.tc : Thread Cert.InProjBwdIdeal.nD Cert.InProjBwdIdeal.τ).loc Cert.InProjBwdIdeal.main_v6_0) = v0 c
          ∧ r.2.mem ((c.tc : Thread Cert.InProjBwdIdeal.nD Cert.InProjBwdIdeal.τ).loc Cert.InProjBwdIdeal.main_v6_1) = v1 c
          ∧ r.2.mem ((c.tc : Thread Cert.InProjBwdIdeal.nD Cert.InProjBwdIdeal.τ).loc Cert.InProjBwdIdeal.main_v6_2) = v2 c
          ∧ r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
          ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
          ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
          ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
          ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4)
          ∧ r.2.mem ((c.tc : Thread Cert.InProjBwdIdeal.nD Cert.InProjBwdIdeal.τ).loc Cert.InProjBwdIdeal.main_arg5) = m ((c.tc : Thread Cert.InProjBwdIdeal.nD Cert.InProjBwdIdeal.τ).loc Cert.InProjBwdIdeal.main_arg5)
          ∧ r.2.mem ((c.tc : Thread Cert.InProjBwdIdeal.nD Cert.InProjBwdIdeal.τ).loc Cert.InProjBwdIdeal.main_arg6) = m ((c.tc : Thread Cert.InProjBwdIdeal.nD Cert.InProjBwdIdeal.τ).loc Cert.InProjBwdIdeal.main_arg6)
          ∧ r.2.mem ((c.tc : Thread Cert.InProjBwdIdeal.nD Cert.InProjBwdIdeal.τ).loc Cert.InProjBwdIdeal.main_arg7) = m ((c.tc : Thread Cert.InProjBwdIdeal.nD Cert.InProjBwdIdeal.τ).loc Cert.InProjBwdIdeal.main_arg7)
          ∧ r.2.mem ((c.tc : Thread Cert.InProjBwdIdeal.nD Cert.InProjBwdIdeal.τ).loc Cert.InProjBwdIdeal.main_arg8) = m ((c.tc : Thread Cert.InProjBwdIdeal.nD Cert.InProjBwdIdeal.τ).loc Cert.InProjBwdIdeal.main_arg8)
          ∧ r.2.mem ((c.tc : Thread Cert.InProjBwdIdeal.nD Cert.InProjBwdIdeal.τ).loc Cert.InProjBwdIdeal.main_arg9) = m ((c.tc : Thread Cert.InProjBwdIdeal.nD Cert.InProjBwdIdeal.τ).loc Cert.InProjBwdIdeal.main_arg9))
      ∧ θ_run (Cert.InProjBwdRefIdeal.defs (F := Ideal)) (onTc (τ := Cert.InProjBwdRefIdeal.τ) (Cert.InProjBwdRefIdeal.main (F := Ideal))) ⟨m', fun _ => 0, g'⟩ (fun r => ∀ c : Dev Cert.InProjBwdRefIdeal.nD,
          r.2.mem ((c.tc : Thread Cert.InProjBwdRefIdeal.nD Cert.InProjBwdRefIdeal.τ).loc Cert.InProjBwdRefIdeal.main_v57) = v0 c
          ∧ r.2.mem ((c.tc : Thread Cert.InProjBwdRefIdeal.nD Cert.InProjBwdRefIdeal.τ).loc Cert.InProjBwdRefIdeal.main_v56) = v1 c
          ∧ r.2.mem ((c.tc : Thread Cert.InProjBwdRefIdeal.nD Cert.InProjBwdRefIdeal.τ).loc Cert.InProjBwdRefIdeal.main_v58) = v2 c
          ∧ r.2.mem ((c.tc : Thread Cert.InProjBwdRefIdeal.nD Cert.InProjBwdRefIdeal.τ).loc Cert.InProjBwdRefIdeal.main_arg0) = m' ((c.tc : Thread Cert.InProjBwdRefIdeal.nD Cert.InProjBwdRefIdeal.τ).loc Cert.InProjBwdRefIdeal.main_arg0)
          ∧ r.2.mem ((c.tc : Thread Cert.InProjBwdRefIdeal.nD Cert.InProjBwdRefIdeal.τ).loc Cert.InProjBwdRefIdeal.main_arg1) = m' ((c.tc : Thread Cert.InProjBwdRefIdeal.nD Cert.InProjBwdRefIdeal.τ).loc Cert.InProjBwdRefIdeal.main_arg1)
          ∧ r.2.mem ((c.tc : Thread Cert.InProjBwdRefIdeal.nD Cert.InProjBwdRefIdeal.τ).loc Cert.InProjBwdRefIdeal.main_arg2) = m' ((c.tc : Thread Cert.InProjBwdRefIdeal.nD Cert.InProjBwdRefIdeal.τ).loc Cert.InProjBwdRefIdeal.main_arg2)
          ∧ r.2.mem ((c.tc : Thread Cert.InProjBwdRefIdeal.nD Cert.InProjBwdRefIdeal.τ).loc Cert.InProjBwdRefIdeal.main_arg3) = m' ((c.tc : Thread Cert.InProjBwdRefIdeal.nD Cert.InProjBwdRefIdeal.τ).loc Cert.InProjBwdRefIdeal.main_arg3)
          ∧ r.2.mem ((c.tc : Thread Cert.InProjBwdRefIdeal.nD Cert.InProjBwdRefIdeal.τ).loc Cert.InProjBwdRefIdeal.main_arg4) = m' ((c.tc : Thread Cert.InProjBwdRefIdeal.nD Cert.InProjBwdRefIdeal.τ).loc Cert.InProjBwdRefIdeal.main_arg4)
          ∧ r.2.mem ((c.tc : Thread Cert.InProjBwdRefIdeal.nD Cert.InProjBwdRefIdeal.τ).loc Cert.InProjBwdRefIdeal.main_arg5) = m' ((c.tc : Thread Cert.InProjBwdRefIdeal.nD Cert.InProjBwdRefIdeal.τ).loc Cert.InProjBwdRefIdeal.main_arg5)
          ∧ r.2.mem ((c.tc : Thread Cert.InProjBwdRefIdeal.nD Cert.InProjBwdRefIdeal.τ).loc Cert.InProjBwdRefIdeal.main_arg6) = m' ((c.tc : Thread Cert.InProjBwdRefIdeal.nD Cert.InProjBwdRefIdeal.τ).loc Cert.InProjBwdRefIdeal.main_arg6)
          ∧ r.2.mem ((c.tc : Thread Cert.InProjBwdRefIdeal.nD Cert.InProjBwdRefIdeal.τ).loc Cert.InProjBwdRefIdeal.main_arg7) = m' ((c.tc : Thread Cert.InProjBwdRefIdeal.nD Cert.InProjBwdRefIdeal.τ).loc Cert.InProjBwdRefIdeal.main_arg7)
          ∧ r.2.mem ((c.tc : Thread Cert.InProjBwdRefIdeal.nD Cert.InProjBwdRefIdeal.τ).loc Cert.InProjBwdRefIdeal.main_arg8) = m' ((c.tc : Thread Cert.InProjBwdRefIdeal.nD Cert.InProjBwdRefIdeal.τ).loc Cert.InProjBwdRefIdeal.main_arg8)
          ∧ r.2.mem ((c.tc : Thread Cert.InProjBwdRefIdeal.nD Cert.InProjBwdRefIdeal.τ).loc Cert.InProjBwdRefIdeal.main_arg9) = m' ((c.tc : Thread Cert.InProjBwdRefIdeal.nD Cert.InProjBwdRefIdeal.τ).loc Cert.InProjBwdRefIdeal.main_arg9))

def preserves_QkBwd_QkBwdIdeal : Prop :=
  True

def algebraic_QkBwdIdeal_QkBwdRefIdeal_pre_qk_bwd_finite [hQkBwdIdeal : Cert.QkBwdIdeal.Facts] [hQkBwdRefIdeal : Cert.QkBwdRefIdeal.Facts] [hPre_qk_bwd_finite : Cert.Pre_qk_bwd_finite.Facts] : Prop :=
  ∀ (m : (ℓ : Loc Cert.QkBwdIdeal.nD Cert.QkBwdIdeal.τ Cert.QkBwdIdeal.sig) → Buf (Elt Ideal) ℓ) (g : Dev Cert.QkBwdIdeal.nD → PrngReg)
    (m' : (ℓ : Loc Cert.QkBwdRefIdeal.nD Cert.QkBwdRefIdeal.τ Cert.QkBwdRefIdeal.sig) → Buf (Elt Ideal) ℓ) (g' : Dev Cert.QkBwdRefIdeal.nD → PrngReg), Pre_QkBwdIdeal_qk_bwd_finite m →
    (∀ c : Dev Cert.QkBwdIdeal.nD,
      m' ((c.tc : Thread Cert.QkBwdRefIdeal.nD Cert.QkBwdRefIdeal.τ).loc Cert.QkBwdRefIdeal.main_arg0) = m ((c.tc : Thread Cert.QkBwdIdeal.nD Cert.QkBwdIdeal.τ).loc Cert.QkBwdIdeal.main_arg0)
      ∧ m' ((c.tc : Thread Cert.QkBwdRefIdeal.nD Cert.QkBwdRefIdeal.τ).loc Cert.QkBwdRefIdeal.main_arg1) = m ((c.tc : Thread Cert.QkBwdIdeal.nD Cert.QkBwdIdeal.τ).loc Cert.QkBwdIdeal.main_arg1)
      ∧ m' ((c.tc : Thread Cert.QkBwdRefIdeal.nD Cert.QkBwdRefIdeal.τ).loc Cert.QkBwdRefIdeal.main_arg2) = m ((c.tc : Thread Cert.QkBwdIdeal.nD Cert.QkBwdIdeal.τ).loc Cert.QkBwdIdeal.main_arg2)
      ∧ m' ((c.tc : Thread Cert.QkBwdRefIdeal.nD Cert.QkBwdRefIdeal.τ).loc Cert.QkBwdRefIdeal.main_arg3) = m ((c.tc : Thread Cert.QkBwdIdeal.nD Cert.QkBwdIdeal.τ).loc Cert.QkBwdIdeal.main_arg3)
      ∧ m' ((c.tc : Thread Cert.QkBwdRefIdeal.nD Cert.QkBwdRefIdeal.τ).loc Cert.QkBwdRefIdeal.main_arg4) = m ((c.tc : Thread Cert.QkBwdIdeal.nD Cert.QkBwdIdeal.τ).loc Cert.QkBwdIdeal.main_arg4)
      ∧ m' ((c.tc : Thread Cert.QkBwdRefIdeal.nD Cert.QkBwdRefIdeal.τ).loc Cert.QkBwdRefIdeal.main_arg5) = m ((c.tc : Thread Cert.QkBwdIdeal.nD Cert.QkBwdIdeal.τ).loc Cert.QkBwdIdeal.main_arg5)
      ∧ m' ((c.tc : Thread Cert.QkBwdRefIdeal.nD Cert.QkBwdRefIdeal.τ).loc Cert.QkBwdRefIdeal.main_arg6) = m ((c.tc : Thread Cert.QkBwdIdeal.nD Cert.QkBwdIdeal.τ).loc Cert.QkBwdIdeal.main_arg6)
      ∧ m' ((c.tc : Thread Cert.QkBwdRefIdeal.nD Cert.QkBwdRefIdeal.τ).loc Cert.QkBwdRefIdeal.main_arg7) = m ((c.tc : Thread Cert.QkBwdIdeal.nD Cert.QkBwdIdeal.τ).loc Cert.QkBwdIdeal.main_arg7)) →
    ∃ (v0 : (c : Dev Cert.QkBwdIdeal.nD) → Buf (Elt Ideal) ((c.tc : Thread Cert.QkBwdIdeal.nD Cert.QkBwdIdeal.τ).loc Cert.QkBwdIdeal.main_v28_0)) (v1 : (c : Dev Cert.QkBwdIdeal.nD) → Buf (Elt Ideal) ((c.tc : Thread Cert.QkBwdIdeal.nD Cert.QkBwdIdeal.τ).loc Cert.QkBwdIdeal.main_v28_1)) (v2 : (c : Dev Cert.QkBwdIdeal.nD) → Buf (Elt Ideal) ((c.tc : Thread Cert.QkBwdIdeal.nD Cert.QkBwdIdeal.τ).loc Cert.QkBwdIdeal.main_v28_2)),
      θ_run (Cert.QkBwdIdeal.defs (F := Ideal)) (onTc (τ := Cert.QkBwdIdeal.τ) (Cert.QkBwdIdeal.main (F := Ideal))) ⟨m, fun _ => 0, g⟩ (fun r => ∀ c : Dev Cert.QkBwdIdeal.nD,
          r.2.mem ((c.tc : Thread Cert.QkBwdIdeal.nD Cert.QkBwdIdeal.τ).loc Cert.QkBwdIdeal.main_v28_0) = v0 c
          ∧ r.2.mem ((c.tc : Thread Cert.QkBwdIdeal.nD Cert.QkBwdIdeal.τ).loc Cert.QkBwdIdeal.main_v28_1) = v1 c
          ∧ r.2.mem ((c.tc : Thread Cert.QkBwdIdeal.nD Cert.QkBwdIdeal.τ).loc Cert.QkBwdIdeal.main_v28_2) = v2 c
          ∧ r.2.mem ((c.tc : Thread Cert.QkBwdIdeal.nD Cert.QkBwdIdeal.τ).loc Cert.QkBwdIdeal.main_arg0) = m ((c.tc : Thread Cert.QkBwdIdeal.nD Cert.QkBwdIdeal.τ).loc Cert.QkBwdIdeal.main_arg0)
          ∧ r.2.mem ((c.tc : Thread Cert.QkBwdIdeal.nD Cert.QkBwdIdeal.τ).loc Cert.QkBwdIdeal.main_arg1) = m ((c.tc : Thread Cert.QkBwdIdeal.nD Cert.QkBwdIdeal.τ).loc Cert.QkBwdIdeal.main_arg1)
          ∧ r.2.mem ((c.tc : Thread Cert.QkBwdIdeal.nD Cert.QkBwdIdeal.τ).loc Cert.QkBwdIdeal.main_arg2) = m ((c.tc : Thread Cert.QkBwdIdeal.nD Cert.QkBwdIdeal.τ).loc Cert.QkBwdIdeal.main_arg2)
          ∧ r.2.mem ((c.tc : Thread Cert.QkBwdIdeal.nD Cert.QkBwdIdeal.τ).loc Cert.QkBwdIdeal.main_arg3) = m ((c.tc : Thread Cert.QkBwdIdeal.nD Cert.QkBwdIdeal.τ).loc Cert.QkBwdIdeal.main_arg3)
          ∧ r.2.mem ((c.tc : Thread Cert.QkBwdIdeal.nD Cert.QkBwdIdeal.τ).loc Cert.QkBwdIdeal.main_arg4) = m ((c.tc : Thread Cert.QkBwdIdeal.nD Cert.QkBwdIdeal.τ).loc Cert.QkBwdIdeal.main_arg4)
          ∧ r.2.mem ((c.tc : Thread Cert.QkBwdIdeal.nD Cert.QkBwdIdeal.τ).loc Cert.QkBwdIdeal.main_arg5) = m ((c.tc : Thread Cert.QkBwdIdeal.nD Cert.QkBwdIdeal.τ).loc Cert.QkBwdIdeal.main_arg5)
          ∧ r.2.mem ((c.tc : Thread Cert.QkBwdIdeal.nD Cert.QkBwdIdeal.τ).loc Cert.QkBwdIdeal.main_arg6) = m ((c.tc : Thread Cert.QkBwdIdeal.nD Cert.QkBwdIdeal.τ).loc Cert.QkBwdIdeal.main_arg6)
          ∧ r.2.mem ((c.tc : Thread Cert.QkBwdIdeal.nD Cert.QkBwdIdeal.τ).loc Cert.QkBwdIdeal.main_arg7) = m ((c.tc : Thread Cert.QkBwdIdeal.nD Cert.QkBwdIdeal.τ).loc Cert.QkBwdIdeal.main_arg7))
      ∧ θ_run (Cert.QkBwdRefIdeal.defs (F := Ideal)) (onTc (τ := Cert.QkBwdRefIdeal.τ) (Cert.QkBwdRefIdeal.main (F := Ideal))) ⟨m', fun _ => 0, g'⟩ (fun r => ∀ c : Dev Cert.QkBwdRefIdeal.nD,
          r.2.mem ((c.tc : Thread Cert.QkBwdRefIdeal.nD Cert.QkBwdRefIdeal.τ).loc Cert.QkBwdRefIdeal.main_v186) = v0 c
          ∧ r.2.mem ((c.tc : Thread Cert.QkBwdRefIdeal.nD Cert.QkBwdRefIdeal.τ).loc Cert.QkBwdRefIdeal.main_v189) = v1 c
          ∧ r.2.mem ((c.tc : Thread Cert.QkBwdRefIdeal.nD Cert.QkBwdRefIdeal.τ).loc Cert.QkBwdRefIdeal.main_v192) = v2 c
          ∧ r.2.mem ((c.tc : Thread Cert.QkBwdRefIdeal.nD Cert.QkBwdRefIdeal.τ).loc Cert.QkBwdRefIdeal.main_arg0) = m' ((c.tc : Thread Cert.QkBwdRefIdeal.nD Cert.QkBwdRefIdeal.τ).loc Cert.QkBwdRefIdeal.main_arg0)
          ∧ r.2.mem ((c.tc : Thread Cert.QkBwdRefIdeal.nD Cert.QkBwdRefIdeal.τ).loc Cert.QkBwdRefIdeal.main_arg1) = m' ((c.tc : Thread Cert.QkBwdRefIdeal.nD Cert.QkBwdRefIdeal.τ).loc Cert.QkBwdRefIdeal.main_arg1)
          ∧ r.2.mem ((c.tc : Thread Cert.QkBwdRefIdeal.nD Cert.QkBwdRefIdeal.τ).loc Cert.QkBwdRefIdeal.main_arg2) = m' ((c.tc : Thread Cert.QkBwdRefIdeal.nD Cert.QkBwdRefIdeal.τ).loc Cert.QkBwdRefIdeal.main_arg2)
          ∧ r.2.mem ((c.tc : Thread Cert.QkBwdRefIdeal.nD Cert.QkBwdRefIdeal.τ).loc Cert.QkBwdRefIdeal.main_arg3) = m' ((c.tc : Thread Cert.QkBwdRefIdeal.nD Cert.QkBwdRefIdeal.τ).loc Cert.QkBwdRefIdeal.main_arg3)
          ∧ r.2.mem ((c.tc : Thread Cert.QkBwdRefIdeal.nD Cert.QkBwdRefIdeal.τ).loc Cert.QkBwdRefIdeal.main_arg4) = m' ((c.tc : Thread Cert.QkBwdRefIdeal.nD Cert.QkBwdRefIdeal.τ).loc Cert.QkBwdRefIdeal.main_arg4)
          ∧ r.2.mem ((c.tc : Thread Cert.QkBwdRefIdeal.nD Cert.QkBwdRefIdeal.τ).loc Cert.QkBwdRefIdeal.main_arg5) = m' ((c.tc : Thread Cert.QkBwdRefIdeal.nD Cert.QkBwdRefIdeal.τ).loc Cert.QkBwdRefIdeal.main_arg5)
          ∧ r.2.mem ((c.tc : Thread Cert.QkBwdRefIdeal.nD Cert.QkBwdRefIdeal.τ).loc Cert.QkBwdRefIdeal.main_arg6) = m' ((c.tc : Thread Cert.QkBwdRefIdeal.nD Cert.QkBwdRefIdeal.τ).loc Cert.QkBwdRefIdeal.main_arg6)
          ∧ r.2.mem ((c.tc : Thread Cert.QkBwdRefIdeal.nD Cert.QkBwdRefIdeal.τ).loc Cert.QkBwdRefIdeal.main_arg7) = m' ((c.tc : Thread Cert.QkBwdRefIdeal.nD Cert.QkBwdRefIdeal.τ).loc Cert.QkBwdRefIdeal.main_arg7))

def preserves_MlpOut_MlpOutIdeal : Prop :=
  True

def algebraic_MlpOutIdeal_MlpOutRefIdeal_pre_mlp_out_finite [hMlpOutIdeal : Cert.MlpOutIdeal.Facts] [hMlpOutRefIdeal : Cert.MlpOutRefIdeal.Facts] [hPre_mlp_out_finite : Cert.Pre_mlp_out_finite.Facts] : Prop :=
  ∀ (m : (ℓ : Loc Cert.MlpOutIdeal.nD Cert.MlpOutIdeal.τ Cert.MlpOutIdeal.sig) → Buf (Elt Ideal) ℓ) (g : Dev Cert.MlpOutIdeal.nD → PrngReg)
    (m' : (ℓ : Loc Cert.MlpOutRefIdeal.nD Cert.MlpOutRefIdeal.τ Cert.MlpOutRefIdeal.sig) → Buf (Elt Ideal) ℓ) (g' : Dev Cert.MlpOutRefIdeal.nD → PrngReg), Pre_MlpOutIdeal_mlp_out_finite m →
    (∀ c : Dev Cert.MlpOutIdeal.nD,
      m' ((c.tc : Thread Cert.MlpOutRefIdeal.nD Cert.MlpOutRefIdeal.τ).loc Cert.MlpOutRefIdeal.main_arg0) = m ((c.tc : Thread Cert.MlpOutIdeal.nD Cert.MlpOutIdeal.τ).loc Cert.MlpOutIdeal.main_arg0)
      ∧ m' ((c.tc : Thread Cert.MlpOutRefIdeal.nD Cert.MlpOutRefIdeal.τ).loc Cert.MlpOutRefIdeal.main_arg1) = m ((c.tc : Thread Cert.MlpOutIdeal.nD Cert.MlpOutIdeal.τ).loc Cert.MlpOutIdeal.main_arg1)
      ∧ m' ((c.tc : Thread Cert.MlpOutRefIdeal.nD Cert.MlpOutRefIdeal.τ).loc Cert.MlpOutRefIdeal.main_arg2) = m ((c.tc : Thread Cert.MlpOutIdeal.nD Cert.MlpOutIdeal.τ).loc Cert.MlpOutIdeal.main_arg2)
      ∧ m' ((c.tc : Thread Cert.MlpOutRefIdeal.nD Cert.MlpOutRefIdeal.τ).loc Cert.MlpOutRefIdeal.main_arg3) = m ((c.tc : Thread Cert.MlpOutIdeal.nD Cert.MlpOutIdeal.τ).loc Cert.MlpOutIdeal.main_arg3)
      ∧ m' ((c.tc : Thread Cert.MlpOutRefIdeal.nD Cert.MlpOutRefIdeal.τ).loc Cert.MlpOutRefIdeal.main_arg4) = m ((c.tc : Thread Cert.MlpOutIdeal.nD Cert.MlpOutIdeal.τ).loc Cert.MlpOutIdeal.main_arg4)) →
    ∃ (v0 : (c : Dev Cert.MlpOutIdeal.nD) → Buf (Elt Ideal) ((c.tc : Thread Cert.MlpOutIdeal.nD Cert.MlpOutIdeal.τ).loc Cert.MlpOutIdeal.main_v21_0)) (v1 : (c : Dev Cert.MlpOutIdeal.nD) → Buf (Elt Ideal) ((c.tc : Thread Cert.MlpOutIdeal.nD Cert.MlpOutIdeal.τ).loc Cert.MlpOutIdeal.main_v21_1)) (v2 : (c : Dev Cert.MlpOutIdeal.nD) → Buf (Elt Ideal) ((c.tc : Thread Cert.MlpOutIdeal.nD Cert.MlpOutIdeal.τ).loc Cert.MlpOutIdeal.main_v21_2)) (v3 : (c : Dev Cert.MlpOutIdeal.nD) → Buf (Elt Ideal) ((c.tc : Thread Cert.MlpOutIdeal.nD Cert.MlpOutIdeal.τ).loc Cert.MlpOutIdeal.main_v21_3)) (v4 : (c : Dev Cert.MlpOutIdeal.nD) → Buf (Elt Ideal) ((c.tc : Thread Cert.MlpOutIdeal.nD Cert.MlpOutIdeal.τ).loc Cert.MlpOutIdeal.main_v21_4)),
      θ_run (Cert.MlpOutIdeal.defs (F := Ideal)) (onTc (τ := Cert.MlpOutIdeal.τ) (Cert.MlpOutIdeal.main (F := Ideal))) ⟨m, fun _ => 0, g⟩ (fun r => ∀ c : Dev Cert.MlpOutIdeal.nD,
          r.2.mem ((c.tc : Thread Cert.MlpOutIdeal.nD Cert.MlpOutIdeal.τ).loc Cert.MlpOutIdeal.main_v21_0) = v0 c
          ∧ r.2.mem ((c.tc : Thread Cert.MlpOutIdeal.nD Cert.MlpOutIdeal.τ).loc Cert.MlpOutIdeal.main_v21_1) = v1 c
          ∧ r.2.mem ((c.tc : Thread Cert.MlpOutIdeal.nD Cert.MlpOutIdeal.τ).loc Cert.MlpOutIdeal.main_v21_2) = v2 c
          ∧ r.2.mem ((c.tc : Thread Cert.MlpOutIdeal.nD Cert.MlpOutIdeal.τ).loc Cert.MlpOutIdeal.main_v21_3) = v3 c
          ∧ r.2.mem ((c.tc : Thread Cert.MlpOutIdeal.nD Cert.MlpOutIdeal.τ).loc Cert.MlpOutIdeal.main_v21_4) = v4 c
          ∧ r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
          ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1)
          ∧ r.2.mem ((c.tc : Thread Cert.MlpOutIdeal.nD Cert.MlpOutIdeal.τ).loc Cert.MlpOutIdeal.main_arg2) = m ((c.tc : Thread Cert.MlpOutIdeal.nD Cert.MlpOutIdeal.τ).loc Cert.MlpOutIdeal.main_arg2)
          ∧ r.2.mem ((c.tc : Thread Cert.MlpOutIdeal.nD Cert.MlpOutIdeal.τ).loc Cert.MlpOutIdeal.main_arg3) = m ((c.tc : Thread Cert.MlpOutIdeal.nD Cert.MlpOutIdeal.τ).loc Cert.MlpOutIdeal.main_arg3)
          ∧ r.2.mem ((c.tc : Thread Cert.MlpOutIdeal.nD Cert.MlpOutIdeal.τ).loc Cert.MlpOutIdeal.main_arg4) = m ((c.tc : Thread Cert.MlpOutIdeal.nD Cert.MlpOutIdeal.τ).loc Cert.MlpOutIdeal.main_arg4))
      ∧ θ_run (Cert.MlpOutRefIdeal.defs (F := Ideal)) (onTc (τ := Cert.MlpOutRefIdeal.τ) (Cert.MlpOutRefIdeal.main (F := Ideal))) ⟨m', fun _ => 0, g'⟩ (fun r => ∀ c : Dev Cert.MlpOutRefIdeal.nD,
          r.2.mem ((c.tc : Thread Cert.MlpOutRefIdeal.nD Cert.MlpOutRefIdeal.τ).loc Cert.MlpOutRefIdeal.main_v76) = v0 c
          ∧ r.2.mem ((c.tc : Thread Cert.MlpOutRefIdeal.nD Cert.MlpOutRefIdeal.τ).loc Cert.MlpOutRefIdeal.main_v69) = v1 c
          ∧ r.2.mem ((c.tc : Thread Cert.MlpOutRefIdeal.nD Cert.MlpOutRefIdeal.τ).loc Cert.MlpOutRefIdeal.main_v77) = v2 c
          ∧ r.2.mem ((c.tc : Thread Cert.MlpOutRefIdeal.nD Cert.MlpOutRefIdeal.τ).loc Cert.MlpOutRefIdeal.main_v78) = v3 c
          ∧ r.2.mem ((c.tc : Thread Cert.MlpOutRefIdeal.nD Cert.MlpOutRefIdeal.τ).loc Cert.MlpOutRefIdeal.main_v79) = v4 c
          ∧ r.2.mem ((c.tc : Thread Cert.MlpOutRefIdeal.nD Cert.MlpOutRefIdeal.τ).loc Cert.MlpOutRefIdeal.main_arg0) = m' ((c.tc : Thread Cert.MlpOutRefIdeal.nD Cert.MlpOutRefIdeal.τ).loc Cert.MlpOutRefIdeal.main_arg0)
          ∧ r.2.mem ((c.tc : Thread Cert.MlpOutRefIdeal.nD Cert.MlpOutRefIdeal.τ).loc Cert.MlpOutRefIdeal.main_arg1) = m' ((c.tc : Thread Cert.MlpOutRefIdeal.nD Cert.MlpOutRefIdeal.τ).loc Cert.MlpOutRefIdeal.main_arg1)
          ∧ r.2.mem ((c.tc : Thread Cert.MlpOutRefIdeal.nD Cert.MlpOutRefIdeal.τ).loc Cert.MlpOutRefIdeal.main_arg2) = m' ((c.tc : Thread Cert.MlpOutRefIdeal.nD Cert.MlpOutRefIdeal.τ).loc Cert.MlpOutRefIdeal.main_arg2)
          ∧ r.2.mem ((c.tc : Thread Cert.MlpOutRefIdeal.nD Cert.MlpOutRefIdeal.τ).loc Cert.MlpOutRefIdeal.main_arg3) = m' ((c.tc : Thread Cert.MlpOutRefIdeal.nD Cert.MlpOutRefIdeal.τ).loc Cert.MlpOutRefIdeal.main_arg3)
          ∧ r.2.mem ((c.tc : Thread Cert.MlpOutRefIdeal.nD Cert.MlpOutRefIdeal.τ).loc Cert.MlpOutRefIdeal.main_arg4) = m' ((c.tc : Thread Cert.MlpOutRefIdeal.nD Cert.MlpOutRefIdeal.τ).loc Cert.MlpOutRefIdeal.main_arg4))

def preserves_SsmParamBwd_SsmParamBwdIdeal : Prop :=
  True

def algebraic_SsmParamBwdIdeal_SsmParamBwdRefIdeal [hSsmParamBwdIdeal : Cert.SsmParamBwdIdeal.Facts] [hSsmParamBwdRefIdeal : Cert.SsmParamBwdRefIdeal.Facts] : Prop :=
  ∀ (m : (ℓ : Loc Cert.SsmParamBwdIdeal.nD Cert.SsmParamBwdIdeal.τ Cert.SsmParamBwdIdeal.sig) → Buf (Elt Ideal) ℓ) (g : Dev Cert.SsmParamBwdIdeal.nD → PrngReg)
    (m' : (ℓ : Loc Cert.SsmParamBwdRefIdeal.nD Cert.SsmParamBwdRefIdeal.τ Cert.SsmParamBwdRefIdeal.sig) → Buf (Elt Ideal) ℓ) (g' : Dev Cert.SsmParamBwdRefIdeal.nD → PrngReg), Pre_SsmParamBwdIdeal m →
    (∀ c : Dev Cert.SsmParamBwdIdeal.nD,
      m' ((c.tc : Thread Cert.SsmParamBwdRefIdeal.nD Cert.SsmParamBwdRefIdeal.τ).loc Cert.SsmParamBwdRefIdeal.main_arg0) = m ((c.tc : Thread Cert.SsmParamBwdIdeal.nD Cert.SsmParamBwdIdeal.τ).loc Cert.SsmParamBwdIdeal.main_arg0)
      ∧ m' ((c.tc : Thread Cert.SsmParamBwdRefIdeal.nD Cert.SsmParamBwdRefIdeal.τ).loc Cert.SsmParamBwdRefIdeal.main_arg1) = m ((c.tc : Thread Cert.SsmParamBwdIdeal.nD Cert.SsmParamBwdIdeal.τ).loc Cert.SsmParamBwdIdeal.main_arg1)
      ∧ m' ((c.tc : Thread Cert.SsmParamBwdRefIdeal.nD Cert.SsmParamBwdRefIdeal.τ).loc Cert.SsmParamBwdRefIdeal.main_arg2) = m ((c.tc : Thread Cert.SsmParamBwdIdeal.nD Cert.SsmParamBwdIdeal.τ).loc Cert.SsmParamBwdIdeal.main_arg2)
      ∧ m' ((c.tc : Thread Cert.SsmParamBwdRefIdeal.nD Cert.SsmParamBwdRefIdeal.τ).loc Cert.SsmParamBwdRefIdeal.main_arg3) = m ((c.tc : Thread Cert.SsmParamBwdIdeal.nD Cert.SsmParamBwdIdeal.τ).loc Cert.SsmParamBwdIdeal.main_arg3)
      ∧ m' ((c.tc : Thread Cert.SsmParamBwdRefIdeal.nD Cert.SsmParamBwdRefIdeal.τ).loc Cert.SsmParamBwdRefIdeal.main_arg4) = m ((c.tc : Thread Cert.SsmParamBwdIdeal.nD Cert.SsmParamBwdIdeal.τ).loc Cert.SsmParamBwdIdeal.main_arg4)
      ∧ m' ((c.tc : Thread Cert.SsmParamBwdRefIdeal.nD Cert.SsmParamBwdRefIdeal.τ).loc Cert.SsmParamBwdRefIdeal.main_arg5) = m ((c.tc : Thread Cert.SsmParamBwdIdeal.nD Cert.SsmParamBwdIdeal.τ).loc Cert.SsmParamBwdIdeal.main_arg5)
      ∧ m' ((c.tc : Thread Cert.SsmParamBwdRefIdeal.nD Cert.SsmParamBwdRefIdeal.τ).loc Cert.SsmParamBwdRefIdeal.main_arg6) = m ((c.tc : Thread Cert.SsmParamBwdIdeal.nD Cert.SsmParamBwdIdeal.τ).loc Cert.SsmParamBwdIdeal.main_arg6)
      ∧ m' ((c.tc : Thread Cert.SsmParamBwdRefIdeal.nD Cert.SsmParamBwdRefIdeal.τ).loc Cert.SsmParamBwdRefIdeal.main_arg7) = m ((c.tc : Thread Cert.SsmParamBwdIdeal.nD Cert.SsmParamBwdIdeal.τ).loc Cert.SsmParamBwdIdeal.main_arg7)
      ∧ m' ((c.tc : Thread Cert.SsmParamBwdRefIdeal.nD Cert.SsmParamBwdRefIdeal.τ).loc Cert.SsmParamBwdRefIdeal.main_arg8) = m ((c.tc : Thread Cert.SsmParamBwdIdeal.nD Cert.SsmParamBwdIdeal.τ).loc Cert.SsmParamBwdIdeal.main_arg8)) →
    ∃ (v0 : (c : Dev Cert.SsmParamBwdIdeal.nD) → Buf (Elt Ideal) ((c.tc : Thread Cert.SsmParamBwdIdeal.nD Cert.SsmParamBwdIdeal.τ).loc Cert.SsmParamBwdIdeal.main_v8_0)) (v1 : (c : Dev Cert.SsmParamBwdIdeal.nD) → Buf (Elt Ideal) ((c.tc : Thread Cert.SsmParamBwdIdeal.nD Cert.SsmParamBwdIdeal.τ).loc Cert.SsmParamBwdIdeal.main_v8_1)) (v2 : (c : Dev Cert.SsmParamBwdIdeal.nD) → Buf (Elt Ideal) ((c.tc : Thread Cert.SsmParamBwdIdeal.nD Cert.SsmParamBwdIdeal.τ).loc Cert.SsmParamBwdIdeal.main_v8_2)) (v3 : (c : Dev Cert.SsmParamBwdIdeal.nD) → Buf (Elt Ideal) ((c.tc : Thread Cert.SsmParamBwdIdeal.nD Cert.SsmParamBwdIdeal.τ).loc Cert.SsmParamBwdIdeal.main_v8_3)) (v4 : (c : Dev Cert.SsmParamBwdIdeal.nD) → Buf (Elt Ideal) ((c.tc : Thread Cert.SsmParamBwdIdeal.nD Cert.SsmParamBwdIdeal.τ).loc Cert.SsmParamBwdIdeal.main_v8_4)),
      θ_run (Cert.SsmParamBwdIdeal.defs (F := Ideal)) (onTc (τ := Cert.SsmParamBwdIdeal.τ) (Cert.SsmParamBwdIdeal.main (F := Ideal))) ⟨m, fun _ => 0, g⟩ (fun r => ∀ c : Dev Cert.SsmParamBwdIdeal.nD,
          r.2.mem ((c.tc : Thread Cert.SsmParamBwdIdeal.nD Cert.SsmParamBwdIdeal.τ).loc Cert.SsmParamBwdIdeal.main_v8_0) = v0 c
          ∧ r.2.mem ((c.tc : Thread Cert.SsmParamBwdIdeal.nD Cert.SsmParamBwdIdeal.τ).loc Cert.SsmParamBwdIdeal.main_v8_1) = v1 c
          ∧ r.2.mem ((c.tc : Thread Cert.SsmParamBwdIdeal.nD Cert.SsmParamBwdIdeal.τ).loc Cert.SsmParamBwdIdeal.main_v8_2) = v2 c
          ∧ r.2.mem ((c.tc : Thread Cert.SsmParamBwdIdeal.nD Cert.SsmParamBwdIdeal.τ).loc Cert.SsmParamBwdIdeal.main_v8_3) = v3 c
          ∧ r.2.mem ((c.tc : Thread Cert.SsmParamBwdIdeal.nD Cert.SsmParamBwdIdeal.τ).loc Cert.SsmParamBwdIdeal.main_v8_4) = v4 c
          ∧ r.2.mem ((c.tc : Thread Cert.SsmParamBwdIdeal.nD Cert.SsmParamBwdIdeal.τ).loc Cert.SsmParamBwdIdeal.main_arg0) = m ((c.tc : Thread Cert.SsmParamBwdIdeal.nD Cert.SsmParamBwdIdeal.τ).loc Cert.SsmParamBwdIdeal.main_arg0)
          ∧ r.2.mem ((c.tc : Thread Cert.SsmParamBwdIdeal.nD Cert.SsmParamBwdIdeal.τ).loc Cert.SsmParamBwdIdeal.main_arg1) = m ((c.tc : Thread Cert.SsmParamBwdIdeal.nD Cert.SsmParamBwdIdeal.τ).loc Cert.SsmParamBwdIdeal.main_arg1)
          ∧ r.2.mem ((c.tc : Thread Cert.SsmParamBwdIdeal.nD Cert.SsmParamBwdIdeal.τ).loc Cert.SsmParamBwdIdeal.main_arg2) = m ((c.tc : Thread Cert.SsmParamBwdIdeal.nD Cert.SsmParamBwdIdeal.τ).loc Cert.SsmParamBwdIdeal.main_arg2)
          ∧ r.2.mem ((c.tc : Thread Cert.SsmParamBwdIdeal.nD Cert.SsmParamBwdIdeal.τ).loc Cert.SsmParamBwdIdeal.main_arg3) = m ((c.tc : Thread Cert.SsmParamBwdIdeal.nD Cert.SsmParamBwdIdeal.τ).loc Cert.SsmParamBwdIdeal.main_arg3)
          ∧ r.2.mem ((c.tc : Thread Cert.SsmParamBwdIdeal.nD Cert.SsmParamBwdIdeal.τ).loc Cert.SsmParamBwdIdeal.main_arg4) = m ((c.tc : Thread Cert.SsmParamBwdIdeal.nD Cert.SsmParamBwdIdeal.τ).loc Cert.SsmParamBwdIdeal.main_arg4)
          ∧ r.2.mem ((c.tc : Thread Cert.SsmParamBwdIdeal.nD Cert.SsmParamBwdIdeal.τ).loc Cert.SsmParamBwdIdeal.main_arg5) = m ((c.tc : Thread Cert.SsmParamBwdIdeal.nD Cert.SsmParamBwdIdeal.τ).loc Cert.SsmParamBwdIdeal.main_arg5)
          ∧ r.2.mem ((c.tc : Thread Cert.SsmParamBwdIdeal.nD Cert.SsmParamBwdIdeal.τ).loc Cert.SsmParamBwdIdeal.main_arg6) = m ((c.tc : Thread Cert.SsmParamBwdIdeal.nD Cert.SsmParamBwdIdeal.τ).loc Cert.SsmParamBwdIdeal.main_arg6)
          ∧ r.2.mem ((c.tc : Thread Cert.SsmParamBwdIdeal.nD Cert.SsmParamBwdIdeal.τ).loc Cert.SsmParamBwdIdeal.main_arg7) = m ((c.tc : Thread Cert.SsmParamBwdIdeal.nD Cert.SsmParamBwdIdeal.τ).loc Cert.SsmParamBwdIdeal.main_arg7)
          ∧ r.2.mem ((c.tc : Thread Cert.SsmParamBwdIdeal.nD Cert.SsmParamBwdIdeal.τ).loc Cert.SsmParamBwdIdeal.main_arg8) = m ((c.tc : Thread Cert.SsmParamBwdIdeal.nD Cert.SsmParamBwdIdeal.τ).loc Cert.SsmParamBwdIdeal.main_arg8))
      ∧ θ_run (Cert.SsmParamBwdRefIdeal.defs (F := Ideal)) (onTc (τ := Cert.SsmParamBwdRefIdeal.τ) (Cert.SsmParamBwdRefIdeal.main (F := Ideal))) ⟨m', fun _ => 0, g'⟩ (fun r => ∀ c : Dev Cert.SsmParamBwdRefIdeal.nD,
          r.2.mem ((c.tc : Thread Cert.SsmParamBwdRefIdeal.nD Cert.SsmParamBwdRefIdeal.τ).loc Cert.SsmParamBwdRefIdeal.main_v148) = v0 c
          ∧ r.2.mem ((c.tc : Thread Cert.SsmParamBwdRefIdeal.nD Cert.SsmParamBwdRefIdeal.τ).loc Cert.SsmParamBwdRefIdeal.main_v139) = v1 c
          ∧ r.2.mem ((c.tc : Thread Cert.SsmParamBwdRefIdeal.nD Cert.SsmParamBwdRefIdeal.τ).loc Cert.SsmParamBwdRefIdeal.main_v151) = v2 c
          ∧ r.2.mem ((c.tc : Thread Cert.SsmParamBwdRefIdeal.nD Cert.SsmParamBwdRefIdeal.τ).loc Cert.SsmParamBwdRefIdeal.main_v152) = v3 c
          ∧ r.2.mem ((c.tc : Thread Cert.SsmParamBwdRefIdeal.nD Cert.SsmParamBwdRefIdeal.τ).loc Cert.SsmParamBwdRefIdeal.main_v153) = v4 c
          ∧ r.2.mem ((c.tc : Thread Cert.SsmParamBwdRefIdeal.nD Cert.SsmParamBwdRefIdeal.τ).loc Cert.SsmParamBwdRefIdeal.main_arg0) = m' ((c.tc : Thread Cert.SsmParamBwdRefIdeal.nD Cert.SsmParamBwdRefIdeal.τ).loc Cert.SsmParamBwdRefIdeal.main_arg0)
          ∧ r.2.mem ((c.tc : Thread Cert.SsmParamBwdRefIdeal.nD Cert.SsmParamBwdRefIdeal.τ).loc Cert.SsmParamBwdRefIdeal.main_arg1) = m' ((c.tc : Thread Cert.SsmParamBwdRefIdeal.nD Cert.SsmParamBwdRefIdeal.τ).loc Cert.SsmParamBwdRefIdeal.main_arg1)
          ∧ r.2.mem ((c.tc : Thread Cert.SsmParamBwdRefIdeal.nD Cert.SsmParamBwdRefIdeal.τ).loc Cert.SsmParamBwdRefIdeal.main_arg2) = m' ((c.tc : Thread Cert.SsmParamBwdRefIdeal.nD Cert.SsmParamBwdRefIdeal.τ).loc Cert.SsmParamBwdRefIdeal.main_arg2)
          ∧ r.2.mem ((c.tc : Thread Cert.SsmParamBwdRefIdeal.nD Cert.SsmParamBwdRefIdeal.τ).loc Cert.SsmParamBwdRefIdeal.main_arg3) = m' ((c.tc : Thread Cert.SsmParamBwdRefIdeal.nD Cert.SsmParamBwdRefIdeal.τ).loc Cert.SsmParamBwdRefIdeal.main_arg3)
          ∧ r.2.mem ((c.tc : Thread Cert.SsmParamBwdRefIdeal.nD Cert.SsmParamBwdRefIdeal.τ).loc Cert.SsmParamBwdRefIdeal.main_arg4) = m' ((c.tc : Thread Cert.SsmParamBwdRefIdeal.nD Cert.SsmParamBwdRefIdeal.τ).loc Cert.SsmParamBwdRefIdeal.main_arg4)
          ∧ r.2.mem ((c.tc : Thread Cert.SsmParamBwdRefIdeal.nD Cert.SsmParamBwdRefIdeal.τ).loc Cert.SsmParamBwdRefIdeal.main_arg5) = m' ((c.tc : Thread Cert.SsmParamBwdRefIdeal.nD Cert.SsmParamBwdRefIdeal.τ).loc Cert.SsmParamBwdRefIdeal.main_arg5)
          ∧ r.2.mem ((c.tc : Thread Cert.SsmParamBwdRefIdeal.nD Cert.SsmParamBwdRefIdeal.τ).loc Cert.SsmParamBwdRefIdeal.main_arg6) = m' ((c.tc : Thread Cert.SsmParamBwdRefIdeal.nD Cert.SsmParamBwdRefIdeal.τ).loc Cert.SsmParamBwdRefIdeal.main_arg6)
          ∧ r.2.mem ((c.tc : Thread Cert.SsmParamBwdRefIdeal.nD Cert.SsmParamBwdRefIdeal.τ).loc Cert.SsmParamBwdRefIdeal.main_arg7) = m' ((c.tc : Thread Cert.SsmParamBwdRefIdeal.nD Cert.SsmParamBwdRefIdeal.τ).loc Cert.SsmParamBwdRefIdeal.main_arg7)
          ∧ r.2.mem ((c.tc : Thread Cert.SsmParamBwdRefIdeal.nD Cert.SsmParamBwdRefIdeal.τ).loc Cert.SsmParamBwdRefIdeal.main_arg8) = m' ((c.tc : Thread Cert.SsmParamBwdRefIdeal.nD Cert.SsmParamBwdRefIdeal.τ).loc Cert.SsmParamBwdRefIdeal.main_arg8))

def preserves_GluBwd_GluBwdIdeal : Prop :=
  True

def Claim : Prop :=
  ∃ (hMergeBwd : Cert.MergeBwd.Facts) (hMergeBwdIdeal : Cert.MergeBwdIdeal.Facts) (hMergeBwdRefIdeal : Cert.MergeBwdRefIdeal.Facts) (hAttnBwd : Cert.AttnBwd.Facts) (hAttnBwdIdeal : Cert.AttnBwdIdeal.Facts) (hAttnBwdRefIdeal : Cert.AttnBwdRefIdeal.Facts) (hMlpBwd : Cert.MlpBwd.Facts) (hMlpBwdIdeal : Cert.MlpBwdIdeal.Facts) (hMlpBwdRefIdeal : Cert.MlpBwdRefIdeal.Facts) (hInProjBwd : Cert.InProjBwd.Facts) (hInProjBwdIdeal : Cert.InProjBwdIdeal.Facts) (hInProjBwdRefIdeal : Cert.InProjBwdRefIdeal.Facts) (hQkBwd : Cert.QkBwd.Facts) (hQkBwdIdeal : Cert.QkBwdIdeal.Facts) (hQkBwdRefIdeal : Cert.QkBwdRefIdeal.Facts) (hMlpOut : Cert.MlpOut.Facts) (hMlpOutIdeal : Cert.MlpOutIdeal.Facts) (hMlpOutRefIdeal : Cert.MlpOutRefIdeal.Facts) (hSsmParamBwd : Cert.SsmParamBwd.Facts) (hSsmParamBwdIdeal : Cert.SsmParamBwdIdeal.Facts) (hSsmParamBwdRefIdeal : Cert.SsmParamBwdRefIdeal.Facts) (hGluBwd : Cert.GluBwd.Facts) (hGluBwdIdeal : Cert.GluBwdIdeal.Facts) (hGluBwdRefIdeal : Cert.GluBwdRefIdeal.Facts) (hPre_merge_bwd_finite : Cert.Pre_merge_bwd_finite.Facts) (hPre_attn_bwd_finite : Cert.Pre_attn_bwd_finite.Facts) (hPre_mlp_bwd_finite : Cert.Pre_mlp_bwd_finite.Facts) (hPre_in_proj_bwd_finite : Cert.Pre_in_proj_bwd_finite.Facts) (hPre_qk_bwd_finite : Cert.Pre_qk_bwd_finite.Facts) (hPre_mlp_out_finite : Cert.Pre_mlp_out_finite.Facts),
    quiescent_MergeBwd (hMergeBwd := hMergeBwd)
    ∧ quiescent_MergeBwdIdeal (hMergeBwdIdeal := hMergeBwdIdeal)
    ∧ quiescent_MergeBwdIdeal_pre_merge_bwd_finite (hMergeBwdIdeal := hMergeBwdIdeal) (hPre_merge_bwd_finite := hPre_merge_bwd_finite)
    ∧ quiescent_MergeBwdRefIdeal (hMergeBwdRefIdeal := hMergeBwdRefIdeal)
    ∧ quiescent_MergeBwdRefIdeal_pre_merge_bwd_finite (hMergeBwdRefIdeal := hMergeBwdRefIdeal) (hPre_merge_bwd_finite := hPre_merge_bwd_finite)
    ∧ quiescent_AttnBwd (hAttnBwd := hAttnBwd)
    ∧ quiescent_AttnBwdIdeal (hAttnBwdIdeal := hAttnBwdIdeal)
    ∧ quiescent_AttnBwdIdeal_pre_attn_bwd_finite (hAttnBwdIdeal := hAttnBwdIdeal) (hPre_attn_bwd_finite := hPre_attn_bwd_finite)
    ∧ quiescent_AttnBwdRefIdeal (hAttnBwdRefIdeal := hAttnBwdRefIdeal)
    ∧ quiescent_AttnBwdRefIdeal_pre_attn_bwd_finite (hAttnBwdRefIdeal := hAttnBwdRefIdeal) (hPre_attn_bwd_finite := hPre_attn_bwd_finite)
    ∧ quiescent_MlpBwd (hMlpBwd := hMlpBwd)
    ∧ quiescent_MlpBwdIdeal (hMlpBwdIdeal := hMlpBwdIdeal)
    ∧ quiescent_MlpBwdIdeal_pre_mlp_bwd_finite (hMlpBwdIdeal := hMlpBwdIdeal) (hPre_mlp_bwd_finite := hPre_mlp_bwd_finite)
    ∧ quiescent_MlpBwdRefIdeal (hMlpBwdRefIdeal := hMlpBwdRefIdeal)
    ∧ quiescent_MlpBwdRefIdeal_pre_mlp_bwd_finite (hMlpBwdRefIdeal := hMlpBwdRefIdeal) (hPre_mlp_bwd_finite := hPre_mlp_bwd_finite)
    ∧ quiescent_InProjBwd (hInProjBwd := hInProjBwd)
    ∧ quiescent_InProjBwdIdeal (hInProjBwdIdeal := hInProjBwdIdeal)
    ∧ quiescent_InProjBwdIdeal_pre_in_proj_bwd_finite (hInProjBwdIdeal := hInProjBwdIdeal) (hPre_in_proj_bwd_finite := hPre_in_proj_bwd_finite)
    ∧ quiescent_InProjBwdRefIdeal (hInProjBwdRefIdeal := hInProjBwdRefIdeal)
    ∧ quiescent_InProjBwdRefIdeal_pre_in_proj_bwd_finite (hInProjBwdRefIdeal := hInProjBwdRefIdeal) (hPre_in_proj_bwd_finite := hPre_in_proj_bwd_finite)
    ∧ quiescent_QkBwd (hQkBwd := hQkBwd)
    ∧ quiescent_QkBwdIdeal (hQkBwdIdeal := hQkBwdIdeal)
    ∧ quiescent_QkBwdIdeal_pre_qk_bwd_finite (hQkBwdIdeal := hQkBwdIdeal) (hPre_qk_bwd_finite := hPre_qk_bwd_finite)
    ∧ quiescent_QkBwdRefIdeal (hQkBwdRefIdeal := hQkBwdRefIdeal)
    ∧ quiescent_QkBwdRefIdeal_pre_qk_bwd_finite (hQkBwdRefIdeal := hQkBwdRefIdeal) (hPre_qk_bwd_finite := hPre_qk_bwd_finite)
    ∧ quiescent_MlpOut (hMlpOut := hMlpOut)
    ∧ quiescent_MlpOutIdeal (hMlpOutIdeal := hMlpOutIdeal)
    ∧ quiescent_MlpOutIdeal_pre_mlp_out_finite (hMlpOutIdeal := hMlpOutIdeal) (hPre_mlp_out_finite := hPre_mlp_out_finite)
    ∧ quiescent_MlpOutRefIdeal (hMlpOutRefIdeal := hMlpOutRefIdeal)
    ∧ quiescent_MlpOutRefIdeal_pre_mlp_out_finite (hMlpOutRefIdeal := hMlpOutRefIdeal) (hPre_mlp_out_finite := hPre_mlp_out_finite)
    ∧ quiescent_SsmParamBwd (hSsmParamBwd := hSsmParamBwd)
    ∧ quiescent_SsmParamBwdIdeal (hSsmParamBwdIdeal := hSsmParamBwdIdeal)
    ∧ quiescent_SsmParamBwdRefIdeal (hSsmParamBwdRefIdeal := hSsmParamBwdRefIdeal)
    ∧ quiescent_GluBwd (hGluBwd := hGluBwd)
    ∧ quiescent_GluBwdIdeal (hGluBwdIdeal := hGluBwdIdeal)
    ∧ quiescent_GluBwdRefIdeal (hGluBwdRefIdeal := hGluBwdRefIdeal)
    ∧ preserves_MergeBwd_MergeBwdIdeal
    ∧ algebraic_MergeBwdIdeal_MergeBwdRefIdeal_pre_merge_bwd_finite (hMergeBwdIdeal := hMergeBwdIdeal) (hMergeBwdRefIdeal := hMergeBwdRefIdeal) (hPre_merge_bwd_finite := hPre_merge_bwd_finite)
    ∧ preserves_AttnBwd_AttnBwdIdeal
    ∧ algebraic_AttnBwdIdeal_AttnBwdRefIdeal_pre_attn_bwd_finite (hAttnBwdIdeal := hAttnBwdIdeal) (hAttnBwdRefIdeal := hAttnBwdRefIdeal) (hPre_attn_bwd_finite := hPre_attn_bwd_finite)
    ∧ preserves_MlpBwd_MlpBwdIdeal
    ∧ algebraic_MlpBwdIdeal_MlpBwdRefIdeal_pre_mlp_bwd_finite (hMlpBwdIdeal := hMlpBwdIdeal) (hMlpBwdRefIdeal := hMlpBwdRefIdeal) (hPre_mlp_bwd_finite := hPre_mlp_bwd_finite)
    ∧ preserves_InProjBwd_InProjBwdIdeal
    ∧ algebraic_InProjBwdIdeal_InProjBwdRefIdeal_pre_in_proj_bwd_finite (hInProjBwdIdeal := hInProjBwdIdeal) (hInProjBwdRefIdeal := hInProjBwdRefIdeal) (hPre_in_proj_bwd_finite := hPre_in_proj_bwd_finite)
    ∧ preserves_QkBwd_QkBwdIdeal
    ∧ algebraic_QkBwdIdeal_QkBwdRefIdeal_pre_qk_bwd_finite (hQkBwdIdeal := hQkBwdIdeal) (hQkBwdRefIdeal := hQkBwdRefIdeal) (hPre_qk_bwd_finite := hPre_qk_bwd_finite)
    ∧ preserves_MlpOut_MlpOutIdeal
    ∧ algebraic_MlpOutIdeal_MlpOutRefIdeal_pre_mlp_out_finite (hMlpOutIdeal := hMlpOutIdeal) (hMlpOutRefIdeal := hMlpOutRefIdeal) (hPre_mlp_out_finite := hPre_mlp_out_finite)
    ∧ preserves_SsmParamBwd_SsmParamBwdIdeal
    ∧ algebraic_SsmParamBwdIdeal_SsmParamBwdRefIdeal (hSsmParamBwdIdeal := hSsmParamBwdIdeal) (hSsmParamBwdRefIdeal := hSsmParamBwdRefIdeal)
    ∧ preserves_GluBwd_GluBwdIdeal
-- ==== Pre_attn_bwd_finite.lean ====
abbrev S8208x16x64 : Shape := ⟨3, ![8208, 16, 64]⟩
abbrev S8208x4x64 : Shape := ⟨3, ![8208, 4, 64]⟩
abbrev S8208x1024 : Shape := ⟨2, ![8208, 1024]⟩
abbrev S_ : Shape := ⟨0, ![]⟩

class Facts : Prop where
  bcast_S_S8208x16x64 : S_.BroadcastsInDim S8208x16x64 (![] : Fin 0 → Fin S8208x16x64.rank)
  reducesTo_S8208x16x64_S_d0_1_2 : S8208x16x64.ReducesTo [0, 1, 2] S_
  h_S_ : 0 < S_.numel
  bcast_S_S8208x4x64 : S_.BroadcastsInDim S8208x4x64 (![] : Fin 0 → Fin S8208x4x64.rank)
  reducesTo_S8208x4x64_S_d0_1_2 : S8208x4x64.ReducesTo [0, 1, 2] S_
  bcast_S_S8208x1024 : S_.BroadcastsInDim S8208x1024 (![] : Fin 0 → Fin S8208x1024.rank)
  reducesTo_S8208x1024_S_d0_1 : S8208x1024.ReducesTo [0, 1] S_

variable [Facts]

def fn_part1 {F : FTy → Type} [FloatOps F] (main_v13 : IVec S_ 1) (main_v16 : IVec S8208x1024 1) : IVec S_ 1 :=
  let main_c_5 : IVec S_ 1 := constantI S_ 1 1#1
  let main_v17 : IVec S_ 1 := (fun x v => Host.reduce IntOp.andi x v reducesTo_S8208x1024_S_d0_1 h_S_) main_v16 main_c_5
  let main_v18 : IVec S_ 1 := andi main_v13 main_v17
  main_v18

def fn {F : FTy → Type} [FloatOps F] (main_arg0 : FVec F S8208x16x64 .f32) (main_arg1 : FVec F S8208x4x64 .f32) (main_arg2 : FVec F S8208x4x64 .f32) (main_arg3 : FVec F S8208x1024 .f32) : IVec S_ 1 :=
  let main_v0 : FVec F S8208x16x64 .f32 := Host.absf main_arg0
  let main_cst : FVec F S_ .f32 := constant S_ .f32 0x7F800000#32
  let main_v1 : FVec F S8208x16x64 .f32 := broadcastInDim S8208x16x64 ![] bcast_S_S8208x16x64 main_cst
  let main_v2 : IVec S8208x16x64 1 := cmpf .olt main_v0 main_v1
  let main_c : IVec S_ 1 := constantI S_ 1 1#1
  let main_v3 : IVec S_ 1 := (fun x v => Host.reduce IntOp.andi x v reducesTo_S8208x16x64_S_d0_1_2 h_S_) main_v2 main_c
  let main_v4 : FVec F S8208x4x64 .f32 := Host.absf main_arg1
  let main_cst_0 : FVec F S_ .f32 := constant S_ .f32 0x7F800000#32
  let main_v5 : FVec F S8208x4x64 .f32 := broadcastInDim S8208x4x64 ![] bcast_S_S8208x4x64 main_cst_0
  let main_v6 : IVec S8208x4x64 1 := cmpf .olt main_v4 main_v5
  let main_c_1 : IVec S_ 1 := constantI S_ 1 1#1
  let main_v7 : IVec S_ 1 := (fun x v => Host.reduce IntOp.andi x v reducesTo_S8208x4x64_S_d0_1_2 h_S_) main_v6 main_c_1
  let main_v8 : IVec S_ 1 := andi main_v3 main_v7
  let main_v9 : FVec F S8208x4x64 .f32 := Host.absf main_arg2
  let main_cst_2 : FVec F S_ .f32 := constant S_ .f32 0x7F800000#32
  let main_v10 : FVec F S8208x4x64 .f32 := broadcastInDim S8208x4x64 ![] bcast_S_S8208x4x64 main_cst_2
  let main_v11 : IVec S8208x4x64 1 := cmpf .olt main_v9 main_v10
  let main_c_3 : IVec S_ 1 := constantI S_ 1 1#1
  let main_v12 : IVec S_ 1 := (fun x v => Host.reduce IntOp.andi x v reducesTo_S8208x4x64_S_d0_1_2 h_S_) main_v11 main_c_3
  let main_v13 : IVec S_ 1 := andi main_v8 main_v12
  let main_v14 : FVec F S8208x1024 .f32 := Host.absf main_arg3
  let main_cst_4 : FVec F S_ .f32 := constant S_ .f32 0x7F800000#32
  let main_v15 : FVec F S8208x1024 .f32 := broadcastInDim S8208x1024 ![] bcast_S_S8208x1024 main_cst_4
  let main_v16 : IVec S8208x1024 1 := cmpf .olt main_v14 main_v15
  fn_part1 (F := F) main_v13 main_v16
-- ==== Pre_in_proj_bwd_finite.lean ====
abbrev S8448x512 : Shape := ⟨2, ![8448, 512]⟩
abbrev S1x512 : Shape := ⟨2, ![1, 512]⟩
abbrev S8448x1536 : Shape := ⟨2, ![8448, 1536]⟩
abbrev S8448x2048 : Shape := ⟨2, ![8448, 2048]⟩
abbrev S8448x1024 : Shape := ⟨2, ![8448, 1024]⟩
abbrev S1x1024 : Shape := ⟨2, ![1, 1024]⟩
abbrev S1x1024x4096 : Shape := ⟨3, ![1, 1024, 4096]⟩
abbrev S_ : Shape := ⟨0, ![]⟩

class Facts : Prop where
  bcast_S_S8448x512 : S_.BroadcastsInDim S8448x512 (![] : Fin 0 → Fin S8448x512.rank)
  reducesTo_S8448x512_S_d0_1 : S8448x512.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_
  bcast_S_S8448x1536 : S_.BroadcastsInDim S8448x1536 (![] : Fin 0 → Fin S8448x1536.rank)
  reducesTo_S8448x1536_S_d0_1 : S8448x1536.ReducesTo [0, 1] S_
  bcast_S_S8448x2048 : S_.BroadcastsInDim S8448x2048 (![] : Fin 0 → Fin S8448x2048.rank)
  reducesTo_S8448x2048_S_d0_1 : S8448x2048.ReducesTo [0, 1] S_
  bcast_S_S8448x1024 : S_.BroadcastsInDim S8448x1024 (![] : Fin 0 → Fin S8448x1024.rank)
  reducesTo_S8448x1024_S_d0_1 : S8448x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x4096 : S_.BroadcastsInDim S1x1024x4096 (![] : Fin 0 → Fin S1x1024x4096.rank)
  reducesTo_S1x1024x4096_S_d0_1_2 : S1x1024x4096.ReducesTo [0, 1, 2] S_

variable [Facts]

def fn_part2 {F : FTy → Type} [FloatOps F] (main_arg8 : FVec F S1x1024 .f32) (main_arg9 : FVec F S1x1024x4096 .f32) (main_v33 : IVec S_ 1) : IVec S_ 1 :=
  let main_v34 : FVec F S1x1024 .f32 := Host.absf main_arg8
  let main_cst_12 : FVec F S_ .f32 := constant S_ .f32 0x7F800000#32
  let main_v35 : FVec F S1x1024 .f32 := broadcastInDim S1x1024 ![] bcast_S_S1x1024 main_cst_12
  let main_v36 : IVec S1x1024 1 := cmpf .olt main_v34 main_v35
  let main_c_13 : IVec S_ 1 := constantI S_ 1 1#1
  let main_v37 : IVec S_ 1 := (fun x v => Host.reduce IntOp.andi x v reducesTo_S1x1024_S_d0_1 h_S_) main_v36 main_c_13
  let main_v38 : IVec S_ 1 := andi main_v33 main_v37
  let main_v39 : FVec F S1x1024x4096 .f32 := Host.absf main_arg9
  let main_cst_14 : FVec F S_ .f32 := constant S_ .f32 0x7F800000#32
  let main_v40 : FVec F S1x1024x4096 .f32 := broadcastInDim S1x1024x4096 ![] bcast_S_S1x1024x4096 main_cst_14
  let main_v41 : IVec S1x1024x4096 1 := cmpf .olt main_v39 main_v40
  let main_c_15 : IVec S_ 1 := constantI S_ 1 1#1
  let main_v42 : IVec S_ 1 := (fun x v => Host.reduce IntOp.andi x v reducesTo_S1x1024x4096_S_d0_1_2 h_S_) main_v41 main_c_15
  let main_v43 : IVec S_ 1 := andi main_v38 main_v42
  main_v43

def fn_part1 {F : FTy → Type} [FloatOps F] (main_arg4 : FVec F S8448x1536 .f32) (main_arg5 : FVec F S8448x2048 .f32) (main_arg7 : FVec F S8448x1024 .f32) (main_arg8 : FVec F S1x1024 .f32) (main_arg9 : FVec F S1x1024x4096 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S8448x1536 .f32 := Host.absf main_arg4
  let main_cst_6 : FVec F S_ .f32 := constant S_ .f32 0x7F800000#32
  let main_v20 : FVec F S8448x1536 .f32 := broadcastInDim S8448x1536 ![] bcast_S_S8448x1536 main_cst_6
  let main_v21 : IVec S8448x1536 1 := cmpf .olt main_v19 main_v20
  let main_c_7 : IVec S_ 1 := constantI S_ 1 1#1
  let main_v22 : IVec S_ 1 := (fun x v => Host.reduce IntOp.andi x v reducesTo_S8448x1536_S_d0_1 h_S_) main_v21 main_c_7
  let main_v23 : IVec S_ 1 := andi main_v18 main_v22
  let main_v24 : FVec F S8448x2048 .f32 := Host.absf main_arg5
  let main_cst_8 : FVec F S_ .f32 := constant S_ .f32 0x7F800000#32
  let main_v25 : FVec F S8448x2048 .f32 := broadcastInDim S8448x2048 ![] bcast_S_S8448x2048 main_cst_8
  let main_v26 : IVec S8448x2048 1 := cmpf .olt main_v24 main_v25
  let main_c_9 : IVec S_ 1 := constantI S_ 1 1#1
  let main_v27 : IVec S_ 1 := (fun x v => Host.reduce IntOp.andi x v reducesTo_S8448x2048_S_d0_1 h_S_) main_v26 main_c_9
  let main_v28 : IVec S_ 1 := andi main_v23 main_v27
  let main_v29 : FVec F S8448x1024 .f32 := Host.absf main_arg7
  let main_cst_10 : FVec F S_ .f32 := constant S_ .f32 0x7F800000#32
  let main_v30 : FVec F S8448x1024 .f32 := broadcastInDim S8448x1024 ![] bcast_S_S8448x1024 main_cst_10
  let main_v31 : IVec S8448x1024 1 := cmpf .olt main_v29 main_v30
  let main_c_11 : IVec S_ 1 := constantI S_ 1 1#1
  let main_v32 : IVec S_ 1 := (fun x v => Host.reduce IntOp.andi x v reducesTo_S8448x1024_S_d0_1 h_S_) main_v31 main_c_11
  let main_v33 : IVec S_ 1 := andi main_v28 main_v32
  fn_part2 (F := F) main_arg8 main_arg9 main_v33

def fn {F : FTy → Type} [FloatOps F] (main_arg0 : FVec F S8448x512 .f32) (main_arg1 : FVec F S8448x512 .f32) (main_arg2 : FVec F S8448x512 .f32) (main_arg3 : FVec F S1x512 .f32) (main_arg4 : FVec F S8448x1536 .f32) (main_arg5 : FVec F S8448x2048 .f32) (main_arg6 : FVec F S8448x1024 .f32) (main_arg7 : FVec F S8448x1024 .f32) (main_arg8 : FVec F S1x1024 .f32) (main_arg9 : FVec F S1x1024x4096 .f32) : IVec S_ 1 :=
  let main_v0 : FVec F S8448x512 .f32 := Host.absf main_arg0
  let main_cst : FVec F S_ .f32 := constant S_ .f32 0x7F800000#32
  let main_v1 : FVec F S8448x512 .f32 := broadcastInDim S8448x512 ![] bcast_S_S8448x512 main_cst
  let main_v2 : IVec S8448x512 1 := cmpf .olt main_v0 main_v1
  let main_c : IVec S_ 1 := constantI S_ 1 1#1
  let main_v3 : IVec S_ 1 := (fun x v => Host.reduce IntOp.andi x v reducesTo_S8448x512_S_d0_1 h_S_) main_v2 main_c
  let main_v4 : FVec F S8448x512 .f32 := Host.absf main_arg1
  let main_cst_0 : FVec F S_ .f32 := constant S_ .f32 0x7F800000#32
  let main_v5 : FVec F S8448x512 .f32 := broadcastInDim S8448x512 ![] bcast_S_S8448x512 main_cst_0
  let main_v6 : IVec S8448x512 1 := cmpf .olt main_v4 main_v5
  let main_c_1 : IVec S_ 1 := constantI S_ 1 1#1
  let main_v7 : IVec S_ 1 := (fun x v => Host.reduce IntOp.andi x v reducesTo_S8448x512_S_d0_1 h_S_) main_v6 main_c_1
  let main_v8 : IVec S_ 1 := andi main_v3 main_v7
  let main_v9 : FVec F S8448x512 .f32 := Host.absf main_arg2
  let main_cst_2 : FVec F S_ .f32 := constant S_ .f32 0x7F800000#32
  let main_v10 : FVec F S8448x512 .f32 := broadcastInDim S8448x512 ![] bcast_S_S8448x512 main_cst_2
  let main_v11 : IVec S8448x512 1 := cmpf .olt main_v9 main_v10
  let main_c_3 : IVec S_ 1 := constantI S_ 1 1#1
  let main_v12 : IVec S_ 1 := (fun x v => Host.reduce IntOp.andi x v reducesTo_S8448x512_S_d0_1 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg4 main_arg5 main_arg7 main_arg8 main_arg9 main_v13 main_v16
-- ==== Pre_merge_bwd_finite.lean ====
abbrev S8448x1024 : Shape := ⟨2, ![8448, 1024]⟩
abbrev S8448x512 : Shape := ⟨2, ![8448, 512]⟩
abbrev S8448x2048 : Shape := ⟨2, ![8448, 2048]⟩
abbrev S1x512x1024 : Shape := ⟨3, ![1, 512, 1024]⟩
abbrev S1x1024x1024 : Shape := ⟨3, ![1, 1024, 1024]⟩
abbrev S_ : Shape := ⟨0, ![]⟩

class Facts : Prop where
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S1x1024x1024 : S_.BroadcastsInDim S1x1024x1024 (![] : Fin 0 → Fin S1x1024x1024.rank)
  reducesTo_S1x1024x1024_S_d0_1_2 : S1x1024x1024.ReducesTo [0, 1, 2] S_

variable [Facts]

def fn_part1 {F : FTy → Type} [FloatOps F] (main_v13 : IVec S_ 1) (main_v16 : IVec S1x1024x1024 1) : IVec S_ 1 :=
  let main_c_5 : IVec S_ 1 := constantI S_ 1 1#1
  let main_v17 : IVec S_ 1 := (fun x v => Host.reduce IntOp.andi x v reducesTo_S1x1024x1024_S_d0_1_2 h_S_) main_v16 main_c_5
  let main_v18 : IVec S_ 1 := andi main_v13 main_v17
  main_v18

def fn {F : FTy → Type} [FloatOps F] (main_arg0 : FVec F S8448x1024 .f32) (main_arg1 : FVec F S8448x512 .f32) (main_arg2 : FVec F S8448x1024 .f32) (main_arg3 : FVec F S8448x2048 .f32) (main_arg4 : FVec F S1x512x1024 .f32) (main_arg5 : FVec F S1x1024x1024 .f32) (main_arg6 : FVec F S1x1024x1024 .f32) : IVec S_ 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_c : IVec S_ 1 := constantI S_ 1 1#1
  let main_v3 : IVec S_ 1 := (fun x v => Host.reduce IntOp.andi x v reducesTo_S8448x1024_S_d0_1 h_S_) main_v2 main_c
  let main_v4 : FVec F S8448x1024 .f32 := Host.absf main_arg2
  let main_cst_0 : FVec F S_ .f32 := constant S_ .f32 0x7F800000#32
  let main_v5 : FVec F S8448x1024 .f32 := broadcastInDim S8448x1024 ![] bcast_S_S8448x1024 main_cst_0
  let main_v6 : IVec S8448x1024 1 := cmpf .olt main_v4 main_v5
  let main_c_1 : IVec S_ 1 := constantI S_ 1 1#1
  let main_v7 : IVec S_ 1 := (fun x v => Host.reduce IntOp.andi x v reducesTo_S8448x1024_S_d0_1 h_S_) main_v6 main_c_1
  let main_v8 : IVec S_ 1 := andi main_v3 main_v7
  let main_v9 : FVec F S1x1024x1024 .f32 := Host.absf main_arg5
  let main_cst_2 : FVec F S_ .f32 := constant S_ .f32 0x7F800000#32
  let main_v10 : FVec F S1x1024x1024 .f32 := broadcastInDim S1x1024x1024 ![] bcast_S_S1x1024x1024 main_cst_2
  let main_v11 : IVec S1x1024x1024 1 := cmpf .olt main_v9 main_v10
  let main_c_3 : IVec S_ 1 := constantI S_ 1 1#1
  let main_v12 : IVec S_ 1 := (fun x v => Host.reduce IntOp.andi x v reducesTo_S1x1024x1024_S_d0_1_2 h_S_) main_v11 main_c_3
  let main_v13 : IVec S_ 1 := andi main_v8 main_v12
  let main_v14 : FVec F S1x1024x1024 .f32 := Host.absf main_arg6
  let main_cst_4 : FVec F S_ .f32 := constant S_ .f32 0x7F800000#32
  let main_v15 : FVec F S1x1024x1024 .f32 := broadcastInDim S1x1024x1024 ![] bcast_S_S1x1024x1024 main_cst_4
  let main_v16 : IVec S1x1024x1024 1 := cmpf .olt main_v14 main_v15
  fn_part1 (F := F) main_v13 main_v16
-- ==== Pre_mlp_bwd_finite.lean ====
abbrev S8448x4096 : Shape := ⟨2, ![8448, 4096]⟩
abbrev S8448x1024 : Shape := ⟨2, ![8448, 1024]⟩
abbrev S1x1024 : Shape := ⟨2, ![1, 1024]⟩
abbrev S1x1024x4096 : Shape := ⟨3, ![1, 1024, 4096]⟩
abbrev S_ : Shape := ⟨0, ![]⟩

class Facts : Prop where
  bcast_S_S8448x4096 : S_.BroadcastsInDim S8448x4096 (![] : Fin 0 → Fin S8448x4096.rank)
  reducesTo_S8448x4096_S_d0_1 : S8448x4096.ReducesTo [0, 1] S_
  h_S_ : 0 < S_.numel
  bcast_S_S8448x1024 : S_.BroadcastsInDim S8448x1024 (![] : Fin 0 → Fin S8448x1024.rank)
  reducesTo_S8448x1024_S_d0_1 : S8448x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x4096 : S_.BroadcastsInDim S1x1024x4096 (![] : Fin 0 → Fin S1x1024x4096.rank)
  reducesTo_S1x1024x4096_S_d0_1_2 : S1x1024x4096.ReducesTo [0, 1, 2] S_

variable [Facts]

def fn_part1 {F : FTy → Type} [FloatOps F] (main_v13 : IVec S_ 1) (main_v16 : IVec S1x1024x4096 1) : IVec S_ 1 :=
  let main_c_5 : IVec S_ 1 := constantI S_ 1 1#1
  let main_v17 : IVec S_ 1 := (fun x v => Host.reduce IntOp.andi x v reducesTo_S1x1024x4096_S_d0_1_2 h_S_) main_v16 main_c_5
  let main_v18 : IVec S_ 1 := andi main_v13 main_v17
  main_v18

def fn {F : FTy → Type} [FloatOps F] (main_arg0 : FVec F S8448x4096 .f32) (main_arg1 : FVec F S8448x1024 .f32) (main_arg2 : FVec F S8448x1024 .f32) (main_arg3 : FVec F S1x1024 .f32) (main_arg4 : FVec F S1x1024x4096 .f32) : IVec S_ 1 :=
  let main_v0 : FVec F S8448x4096 .f32 := Host.absf main_arg0
  let main_cst : FVec F S_ .f32 := constant S_ .f32 0x7F800000#32
  let main_v1 : FVec F S8448x4096 .f32 := broadcastInDim S8448x4096 ![] bcast_S_S8448x4096 main_cst
  let main_v2 : IVec S8448x4096 1 := cmpf .olt main_v0 main_v1
  let main_c : IVec S_ 1 := constantI S_ 1 1#1
  let main_v3 : IVec S_ 1 := (fun x v => Host.reduce IntOp.andi x v reducesTo_S8448x4096_S_d0_1 h_S_) main_v2 main_c
  let main_v4 : FVec F S8448x1024 .f32 := Host.absf main_arg2
  let main_cst_0 : FVec F S_ .f32 := constant S_ .f32 0x7F800000#32
  let main_v5 : FVec F S8448x1024 .f32 := broadcastInDim S8448x1024 ![] bcast_S_S8448x1024 main_cst_0
  let main_v6 : IVec S8448x1024 1 := cmpf .olt main_v4 main_v5
  let main_c_1 : IVec S_ 1 := constantI S_ 1 1#1
  let main_v7 : IVec S_ 1 := (fun x v => Host.reduce IntOp.andi x v reducesTo_S8448x1024_S_d0_1 h_S_) main_v6 main_c_1
  let main_v8 : IVec S_ 1 := andi main_v3 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024x4096 .f32 := Host.absf main_arg4
  let main_cst_4 : FVec F S_ .f32 := constant S_ .f32 0x7F800000#32
  let main_v15 : FVec F S1x1024x4096 .f32 := broadcastInDim S1x1024x4096 ![] bcast_S_S1x1024x4096 main_cst_4
  let main_v16 : IVec S1x1024x4096 1 := cmpf .olt main_v14 main_v15
  fn_part1 (F := F) main_v13 main_v16
-- ==== Pre_mlp_out_finite.lean ====
abbrev S8448x1024 : Shape := ⟨2, ![8448, 1024]⟩
abbrev S8448x4096 : Shape := ⟨2, ![8448, 4096]⟩
abbrev S1x4096x1024 : Shape := ⟨3, ![1, 4096, 1024]⟩
abbrev S1024 : Shape := ⟨1, ![1024]⟩
abbrev S1x8192x1024 : Shape := ⟨3, ![1, 8192, 1024]⟩
abbrev S_ : Shape := ⟨0, ![]⟩

class Facts : Prop where
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S8448x4096 : S_.BroadcastsInDim S8448x4096 (![] : Fin 0 → Fin S8448x4096.rank)
  reducesTo_S8448x4096_S_d0_1 : S8448x4096.ReducesTo [0, 1] S_
  bcast_S_S1x4096x1024 : S_.BroadcastsInDim S1x4096x1024 (![] : Fin 0 → Fin S1x4096x1024.rank)
  reducesTo_S1x4096x1024_S_d0_1_2 : S1x4096x1024.ReducesTo [0, 1, 2] S_
  bcast_S_S1024 : S_.BroadcastsInDim S1024 (![] : Fin 0 → Fin S1024.rank)
  reducesTo_S1024_S_d0 : S1024.ReducesTo [0] S_
  bcast_S_S1x8192x1024 : S_.BroadcastsInDim S1x8192x1024 (![] : Fin 0 → Fin S1x8192x1024.rank)
  reducesTo_S1x8192x1024_S_d0_1_2 : S1x8192x1024.ReducesTo [0, 1, 2] S_

variable [Facts]

def fn_part1 {F : FTy → Type} [FloatOps F] (main_arg4 : FVec F S1x8192x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1x8192x1024 .f32 := Host.absf main_arg4
  let main_cst_6 : FVec F S_ .f32 := constant S_ .f32 0x7F800000#32
  let main_v20 : FVec F S1x8192x1024 .f32 := broadcastInDim S1x8192x1024 ![] bcast_S_S1x8192x1024 main_cst_6
  let main_v21 : IVec S1x8192x1024 1 := cmpf .olt main_v19 main_v20
  let main_c_7 : IVec S_ 1 := constantI S_ 1 1#1
  let main_v22 : IVec S_ 1 := (fun x v => Host.reduce IntOp.andi x v reducesTo_S1x8192x1024_S_d0_1_2 h_S_) main_v21 main_c_7
  let main_v23 : IVec S_ 1 := andi main_v18 main_v22
  main_v23

def fn {F : FTy → Type} [FloatOps F] (main_arg0 : FVec F S8448x1024 .f32) (main_arg1 : FVec F S8448x4096 .f32) (main_arg2 : FVec F S1x4096x1024 .f32) (main_arg3 : FVec F S1024 .f32) (main_arg4 : FVec F S1x8192x1024 .f32) : IVec S_ 1 :=
  let main_v0 : FVec F S8448x1024 .f32 := Host.absf main_arg0
  let main_cst : FVec F S_ .f32 := constant S_ .f32 0x7F800000#32
  let main_v1 : FVec F S8448x1024 .f32 := broadcastInDim S8448x1024 ![] bcast_S_S8448x1024 main_cst
  let main_v2 : IVec S8448x1024 1 := cmpf .olt main_v0 main_v1
  let main_c : IVec S_ 1 := constantI S_ 1 1#1
  let main_v3 : IVec S_ 1 := (fun x v => Host.reduce IntOp.andi x v reducesTo_S8448x1024_S_d0_1 h_S_) main_v2 main_c
  let main_v4 : FVec F S8448x4096 .f32 := Host.absf main_arg1
  let main_cst_0 : FVec F S_ .f32 := constant S_ .f32 0x7F800000#32
  let main_v5 : FVec F S8448x4096 .f32 := broadcastInDim S8448x4096 ![] bcast_S_S8448x4096 main_cst_0
  let main_v6 : IVec S8448x4096 1 := cmpf .olt main_v4 main_v5
  let main_c_1 : IVec S_ 1 := constantI S_ 1 1#1
  let main_v7 : IVec S_ 1 := (fun x v => Host.reduce IntOp.andi x v reducesTo_S8448x4096_S_d0_1 h_S_) main_v6 main_c_1
  let main_v8 : IVec S_ 1 := andi main_v3 main_v7
  let main_v9 : FVec F S1x4096x1024 .f32 := Host.absf main_arg2
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  let main_c_3 : IVec S_ 1 := constantI S_ 1 1#1
  let main_v12 : IVec S_ 1 := (fun x v => Host.reduce IntOp.andi x v reducesTo_S1x4096x1024_S_d0_1_2 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Pre_qk_bwd_finite.lean ====
abbrev S8448x1536 : Shape := ⟨2, ![8448, 1536]⟩
abbrev S8448x1024 : Shape := ⟨2, ![8448, 1024]⟩
abbrev S4x8448x64 : Shape := ⟨3, ![4, 8448, 64]⟩
abbrev S8448x32 : Shape := ⟨2, ![8448, 32]⟩
abbrev S1x64 : Shape := ⟨2, ![1, 64]⟩
abbrev S_ : Shape := ⟨0, ![]⟩

class Facts : Prop where
  bcast_S_S8448x1536 : S_.BroadcastsInDim S8448x1536 (![] : Fin 0 → Fin S8448x1536.rank)
  reducesTo_S8448x1536_S_d0_1 : S8448x1536.ReducesTo [0, 1] S_
  h_S_ : 0 < S_.numel
  bcast_S_S8448x1024 : S_.BroadcastsInDim S8448x1024 (![] : Fin 0 → Fin S8448x1024.rank)
  reducesTo_S8448x1024_S_d0_1 : S8448x1024.ReducesTo [0, 1] S_
  bcast_S_S4x8448x64 : S_.BroadcastsInDim S4x8448x64 (![] : Fin 0 → Fin S4x8448x64.rank)
  reducesTo_S4x8448x64_S_d0_1_2 : S4x8448x64.ReducesTo [0, 1, 2] S_
  bcast_S_S8448x32 : S_.BroadcastsInDim S8448x32 (![] : Fin 0 → Fin S8448x32.rank)
  reducesTo_S8448x32_S_d0_1 : S8448x32.ReducesTo [0, 1] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg5 : FVec F S8448x32 .f32) (main_arg6 : FVec F S1x64 .f32) (main_arg7 : FVec F S1x64 .f32) (main_v13 : IVec S_ 1) (main_v16 : IVec S8448x32 1) : IVec S_ 1 :=
  let main_c_5 : IVec S_ 1 := constantI S_ 1 1#1
  let main_v17 : IVec S_ 1 := (fun x v => Host.reduce IntOp.andi x v reducesTo_S8448x32_S_d0_1 h_S_) main_v16 main_c_5
  let main_v18 : IVec S_ 1 := andi main_v13 main_v17
  let main_v19 : FVec F S8448x32 .f32 := Host.absf main_arg5
  let main_cst_6 : FVec F S_ .f32 := constant S_ .f32 0x7F800000#32
  let main_v20 : FVec F S8448x32 .f32 := broadcastInDim S8448x32 ![] bcast_S_S8448x32 main_cst_6
  let main_v21 : IVec S8448x32 1 := cmpf .olt main_v19 main_v20
  let main_c_7 : IVec S_ 1 := constantI S_ 1 1#1
  let main_v22 : IVec S_ 1 := (fun x v => Host.reduce IntOp.andi x v reducesTo_S8448x32_S_d0_1 h_S_) main_v21 main_c_7
  let main_v23 : IVec S_ 1 := andi main_v18 main_v22
  let main_v24 : FVec F S1x64 .f32 := Host.absf main_arg6
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x64 .f32 := Host.absf main_arg7
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  main_v33

def fn {F : FTy → Type} [FloatOps F] (main_arg0 : FVec F S8448x1536 .f32) (main_arg1 : FVec F S8448x1024 .f32) (main_arg2 : FVec F S4x8448x64 .f32) (main_arg3 : FVec F S4x8448x64 .f32) (main_arg4 : FVec F S8448x32 .f32) (main_arg5 : FVec F S8448x32 .f32) (main_arg6 : FVec F S1x64 .f32) (main_arg7 : FVec F S1x64 .f32) : IVec S_ 1 :=
  let main_v0 : FVec F S8448x1536 .f32 := Host.absf main_arg0
  let main_cst : FVec F S_ .f32 := constant S_ .f32 0x7F800000#32
  let main_v1 : FVec F S8448x1536 .f32 := broadcastInDim S8448x1536 ![] bcast_S_S8448x1536 main_cst
  let main_v2 : IVec S8448x1536 1 := cmpf .olt main_v0 main_v1
  let main_c : IVec S_ 1 := constantI S_ 1 1#1
  let main_v3 : IVec S_ 1 := (fun x v => Host.reduce IntOp.andi x v reducesTo_S8448x1536_S_d0_1 h_S_) main_v2 main_c
  let main_v4 : FVec F S8448x1024 .f32 := Host.absf main_arg1
  let main_cst_0 : FVec F S_ .f32 := constant S_ .f32 0x7F800000#32
  let main_v5 : FVec F S8448x1024 .f32 := broadcastInDim S8448x1024 ![] bcast_S_S8448x1024 main_cst_0
  let main_v6 : IVec S8448x1024 1 := cmpf .olt main_v4 main_v5
  let main_c_1 : IVec S_ 1 := constantI S_ 1 1#1
  let main_v7 : IVec S_ 1 := (fun x v => Host.reduce IntOp.andi x v reducesTo_S8448x1024_S_d0_1 h_S_) main_v6 main_c_1
  let main_v8 : IVec S_ 1 := andi main_v3 main_v7
  let main_v9 : FVec F S4x8448x64 .f32 := Host.absf main_arg2
  let main_cst_2 : FVec F S_ .f32 := constant S_ .f32 0x7F800000#32
  let main_v10 : FVec F S4x8448x64 .f32 := broadcastInDim S4x8448x64 ![] bcast_S_S4x8448x64 main_cst_2
  let main_v11 : IVec S4x8448x64 1 := cmpf .olt main_v9 main_v10
  let main_c_3 : IVec S_ 1 := constantI S_ 1 1#1
  let main_v12 : IVec S_ 1 := (fun x v => Host.reduce IntOp.andi x v reducesTo_S4x8448x64_S_d0_1_2 h_S_) main_v11 main_c_3
  let main_v13 : IVec S_ 1 := andi main_v8 main_v12
  let main_v14 : FVec F S8448x32 .f32 := Host.absf main_arg4
  let main_cst_4 : FVec F S_ .f32 := constant S_ .f32 0x7F800000#32
  let main_v15 : FVec F S8448x32 .f32 := broadcastInDim S8448x32 ![] bcast_S_S8448x32 main_cst_4
  let main_v16 : IVec S8448x32 1 := cmpf .olt main_v14 main_v15
  fn_part1 (F := F) main_arg5 main_arg6 main_arg7 main_v13 main_v16
-- ==== MergeBwd.lean ====
abbrev S8448x1024 : Shape := ⟨2, ![8448, 1024]⟩
abbrev S8448x512 : Shape := ⟨2, ![8448, 512]⟩
abbrev S8448x2048 : Shape := ⟨2, ![8448, 2048]⟩
abbrev S1x512x1024 : Shape := ⟨3, ![1, 512, 1024]⟩
abbrev S1x1024x1024 : Shape := ⟨3, ![1, 1024, 1024]⟩
abbrev S16x64x4x128 : Shape := ⟨4, ![16, 64, 4, 128]⟩
abbrev S_ : Shape := ⟨0, ![]⟩
abbrev S1024x512 : Shape := ⟨2, ![1024, 512]⟩
abbrev S512x1024 : Shape := ⟨2, ![512, 1024]⟩
abbrev S512x4x256 : Shape := ⟨3, ![512, 4, 256]⟩
abbrev S4x512x256 : Shape := ⟨3, ![4, 512, 256]⟩
abbrev S1024x1024 : Shape := ⟨2, ![1024, 1024]⟩
abbrev S384x1024 : Shape := ⟨2, ![384, 1024]⟩
abbrev S384x512 : Shape := ⟨2, ![384, 512]⟩
abbrev S384x2048 : Shape := ⟨2, ![384, 2048]⟩
abbrev S1x512x256 : Shape := ⟨3, ![1, 512, 256]⟩
abbrev S512x256 : Shape := ⟨2, ![512, 256]⟩
abbrev S384x256 : Shape := ⟨2, ![384, 256]⟩

abbrev nBuf : Space → Nat
  | .hbm => 39
  | .vmem => 26
  | .smem => 0
  | _ => 0

abbrev bufTy : (tb : Table) → Fin (tcTables nBuf tb) → BufTy
  | .hbm, ⟨0, _⟩ => ⟨S8448x1024, .f32⟩
  | .hbm, ⟨1, _⟩ => ⟨S8448x512, .f32⟩
  | .hbm, ⟨2, _⟩ => ⟨S8448x1024, .f32⟩
  | .hbm, ⟨3, _⟩ => ⟨S8448x2048, .f32⟩
  | .hbm, ⟨4, _⟩ => ⟨S1x512x1024, .f32⟩
  | .hbm, ⟨5, _⟩ => ⟨S1x1024x1024, .f32⟩
  | .hbm, ⟨6, _⟩ => ⟨S1x1024x1024, .f32⟩
  | .hbm, ⟨7, _⟩ => ⟨S16x64x4x128, .i32⟩
  | .hbm, ⟨8, _⟩ => ⟨S16x64x4x128, .i32⟩
  | .hbm, ⟨9, _⟩ => ⟨S16x64x4x128, .i32⟩
  | .hbm, ⟨10, _⟩ => ⟨S_, .i32⟩
  | .hbm, ⟨11, _⟩ => ⟨S16x64x4x128, .i32⟩
  | .hbm, ⟨12, _⟩ => ⟨S16x64x4x128, .i32⟩
  | .hbm, ⟨13, _⟩ => ⟨S16x64x4x128, .i32⟩
  | .hbm, ⟨14, _⟩ => ⟨S16x64x4x128, .i1⟩
  | .hbm, ⟨15, _⟩ => ⟨S_, .i32⟩
  | .hbm, ⟨16, _⟩ => ⟨S16x64x4x128, .i32⟩
  | .hbm, ⟨17, _⟩ => ⟨S16x64x4x128, .i1⟩
  | .hbm, ⟨18, _⟩ => ⟨S16x64x4x128, .i1⟩
  | .hbm, ⟨19, _⟩ => ⟨S16x64x4x128, .i32⟩
  | .hbm, ⟨20, _⟩ => ⟨S16x64x4x128, .bf16⟩
  | .hbm, ⟨21, _⟩ => ⟨S1024x512, .bf16⟩
  | .hbm, ⟨22, _⟩ => ⟨S512x1024, .f32⟩
  | .hbm, ⟨23, _⟩ => ⟨S512x1024, .bf16⟩
  | .hbm, ⟨24, _⟩ => ⟨S512x4x256, .bf16⟩
  | .hbm, ⟨25, _⟩ => ⟨S4x512x256, .bf16⟩
  | .hbm, ⟨26, _⟩ => ⟨S8448x512, .bf16⟩
  | .hbm, ⟨27, _⟩ => ⟨S8448x1024, .bf16⟩
  | .hbm, ⟨28, _⟩ => ⟨S1024x1024, .f32⟩
  | .hbm, ⟨29, _⟩ => ⟨S1024x1024, .bf16⟩
  | .hbm, ⟨30, _⟩ => ⟨S1024x1024, .f32⟩
  | .hbm, ⟨31, _⟩ => ⟨S1024x1024, .bf16⟩
  | .hbm, ⟨32, _⟩ => ⟨S8448x2048, .bf16⟩
  | .hbm, ⟨33, _⟩ => ⟨S8448x1024, .bf16⟩
  | .hbm, ⟨34, _⟩ => ⟨S8448x1024, .bf16⟩
  | .hbm, ⟨35, _⟩ => ⟨S8448x512, .f32⟩
  | .hbm, ⟨36, _⟩ => ⟨S8448x1024, .bf16⟩
  | .hbm, ⟨37, _⟩ => ⟨S8448x512, .f32⟩
  | .hbm, ⟨38, _⟩ => ⟨S8448x1024, .bf16⟩
  | .local _ .vmem, ⟨0, _⟩ => ⟨S384x1024, .f32⟩
  | .local _ .vmem, ⟨1, _⟩ => ⟨S384x1024, .f32⟩
  | .local _ .vmem, ⟨2, _⟩ => ⟨S384x512, .bf16⟩
  | .local _ .vmem, ⟨3, _⟩ => ⟨S384x512, .bf16⟩
  | .local _ .vmem, ⟨4, _⟩ => ⟨S384x1024, .bf16⟩
  | .local _ .vmem, ⟨5, _⟩ => ⟨S384x1024, .bf16⟩
  | .local _ .vmem, ⟨6, _⟩ => ⟨S384x2048, .f32⟩
  | .local _ .vmem, ⟨7, _⟩ => ⟨S384x2048, .f32⟩
  | .local _ .vmem, ⟨8, _⟩ => ⟨S4x512x256, .bf16⟩
  | .local _ .vmem, ⟨9, _⟩ => ⟨S1024x1024, .bf16⟩
  | .local _ .vmem, ⟨10, _⟩ => ⟨S1024x1024, .bf16⟩
  | .local _ .vmem, ⟨11, _⟩ => ⟨S1024x512, .bf16⟩
  | .local _ .vmem, ⟨12, _⟩ => ⟨S384x2048, .bf16⟩
  | .local _ .vmem, ⟨13, _⟩ => ⟨S384x2048, .bf16⟩
  | .local _ .vmem, ⟨14, _⟩ => ⟨S384x1024, .bf16⟩
  | .local _ .vmem, ⟨15, _⟩ => ⟨S384x1024, .bf16⟩
  | .local _ .vmem, ⟨16, _⟩ => ⟨S384x1024, .bf16⟩
  | .local _ .vmem, ⟨17, _⟩ => ⟨S384x1024, .bf16⟩
  | .local _ .vmem, ⟨18, _⟩ => ⟨S384x512, .f32⟩
  | .local _ .vmem, ⟨19, _⟩ => ⟨S384x512, .f32⟩
  | .local _ .vmem, ⟨20, _⟩ => ⟨S384x1024, .bf16⟩
  | .local _ .vmem, ⟨21, _⟩ => ⟨S384x1024, .bf16⟩
  | .local _ .vmem, ⟨22, _⟩ => ⟨S384x512, .f32⟩
  | .local _ .vmem, ⟨23, _⟩ => ⟨S384x512, .f32⟩
  | .local _ .vmem, ⟨24, _⟩ => ⟨S384x1024, .bf16⟩
  | .local _ .vmem, ⟨25, _⟩ => ⟨S384x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v23_3 : Ref sig .tc := ⟨.hbm, 35, rfl⟩
abbrev main_v23_4 : Ref sig .tc := ⟨.hbm, 36, rfl⟩
abbrev main_v23_5 : Ref sig .tc := ⟨.hbm, 37, rfl⟩
abbrev main_v23_6 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S384x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S384x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S384x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S384x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S384x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S384x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== MergeBwdRefIdeal.lean ====
abbrev S8448x1024 : Shape := ⟨2, ![8448, 1024]⟩
abbrev S8448x512 : Shape := ⟨2, ![8448, 512]⟩
abbrev S8448x2048 : Shape := ⟨2, ![8448, 2048]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩
abbrev S_ : Shape := ⟨0, ![]⟩
abbrev S8448x16x64 : Shape := ⟨3, ![8448, 16, 64]⟩
abbrev S8448x16 : Shape := ⟨2, ![8448, 16]⟩
abbrev S8448x4x4 : Shape := ⟨3, ![8448, 4, 4]⟩
abbrev S8448x4x128 : Shape := ⟨3, ![8448, 4, 128]⟩

abbrev nBuf : Space → Nat
  | .hbm => 70
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x512, .f32⟩
  | .hbm, ⟨2, _⟩ => ⟨S8448x1024, .f32⟩
  | .hbm, ⟨3, _⟩ => ⟨S8448x2048, .f32⟩
  | .hbm, ⟨4, _⟩ => ⟨S1x512x1024, .f32⟩
  | .hbm, ⟨5, _⟩ => ⟨S1x1024x1024, .f32⟩
  | .hbm, ⟨6, _⟩ => ⟨S1x1024x1024, .f32⟩
  | .hbm, ⟨7, _⟩ => ⟨S512x1024, .f32⟩
  | .hbm, ⟨8, _⟩ => ⟨S8448x1024, .f32⟩
  | .hbm, ⟨9, _⟩ => ⟨S1024x1024, .f32⟩
  | .hbm, ⟨10, _⟩ => ⟨S8448x1024, .f32⟩
  | .hbm, ⟨11, _⟩ => ⟨S8448x1024, .f32⟩
  | .hbm, ⟨12, _⟩ => ⟨S8448x1024, .f32⟩
  | .hbm, ⟨13, _⟩ => ⟨S8448x1024, .f32⟩
  | .hbm, ⟨14, _⟩ => ⟨S_, .f32⟩
  | .hbm, ⟨15, _⟩ => ⟨S8448x1024, .f32⟩
  | .hbm, ⟨16, _⟩ => ⟨S8448x1024, .f32⟩
  | .hbm, ⟨17, _⟩ => ⟨S_, .f32⟩
  | .hbm, ⟨18, _⟩ => ⟨S8448x1024, .f32⟩
  | .hbm, ⟨19, _⟩ => ⟨S8448x1024, .f32⟩
  | .hbm, ⟨20, _⟩ => ⟨S_, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S8448x1024, .f32⟩
  | .hbm, ⟨26, _⟩ => ⟨S8448x1024, .f32⟩
  | .hbm, ⟨27, _⟩ => ⟨S8448x1024, .f32⟩
  | .hbm, ⟨28, _⟩ => ⟨S_, .f32⟩
  | .hbm, ⟨29, _⟩ => ⟨S8448x1024, .f32⟩
  | .hbm, ⟨30, _⟩ => ⟨S8448x1024, .f32⟩
  | .hbm, ⟨31, _⟩ => ⟨S_, .f32⟩
  | .hbm, ⟨32, _⟩ => ⟨S8448x1024, .f32⟩
  | .hbm, ⟨33, _⟩ => ⟨S8448x1024, .f32⟩
  | .hbm, ⟨34, _⟩ => ⟨S_, .f32⟩
  | .hbm, ⟨35, _⟩ => ⟨S8448x1024, .f32⟩
  | .hbm, ⟨36, _⟩ => ⟨S8448x1024, .f32⟩
  | .hbm, ⟨37, _⟩ => ⟨S8448x1024, .f32⟩
  | .hbm, ⟨38, _⟩ => ⟨S8448x1024, .f32⟩
  | .hbm, ⟨39, _⟩ => ⟨S8448x1024, .f32⟩
  | .hbm, ⟨40, _⟩ => ⟨S1024x1024, .f32⟩
  | .hbm, ⟨41, _⟩ => ⟨S8448x1024, .f32⟩
  | .hbm, ⟨42, _⟩ => ⟨S8448x1024, .f32⟩
  | .hbm, ⟨43, _⟩ => ⟨S8448x1024, .f32⟩
  | .hbm, ⟨44, _⟩ => ⟨S8448x1024, .f32⟩
  | .hbm, ⟨45, _⟩ => ⟨S8448x1024, .f32⟩
  | .hbm, ⟨46, _⟩ => ⟨S_, .f32⟩
  | .hbm, ⟨47, _⟩ => ⟨S8448x2048, .f32⟩
  | .hbm, ⟨48, _⟩ => ⟨S8448x1024, .f32⟩
  | .hbm, ⟨49, _⟩ => ⟨S8448x1024, .f32⟩
  | .hbm, ⟨50, _⟩ => ⟨S8448x1024, .f32⟩
  | .hbm, ⟨51, _⟩ => ⟨S_, .f32⟩
  | .hbm, ⟨52, _⟩ => ⟨S8448x2048, .f32⟩
  | .hbm, ⟨53, _⟩ => ⟨S8448x2048, .f32⟩
  | .hbm, ⟨54, _⟩ => ⟨S8448x1024, .f32⟩
  | .hbm, ⟨55, _⟩ => ⟨S8448x512, .f32⟩
  | .hbm, ⟨56, _⟩ => ⟨S8448x1024, .f32⟩
  | .hbm, ⟨57, _⟩ => ⟨S8448x16x64, .f32⟩
  | .hbm, ⟨58, _⟩ => ⟨S_, .f32⟩
  | .hbm, ⟨59, _⟩ => ⟨S8448x16, .f32⟩
  | .hbm, ⟨60, _⟩ => ⟨S8448x4x4, .f32⟩
  | .hbm, ⟨61, _⟩ => ⟨S_, .i32⟩
  | .hbm, ⟨62, _⟩ => ⟨S_, .f32⟩
  | .hbm, ⟨63, _⟩ => ⟨S8448x4x128, .f32⟩
  | .hbm, ⟨64, _⟩ => ⟨S8448x512, .f32⟩
  | .hbm, ⟨65, _⟩ => ⟨S8448x2048, .bf16⟩
  | .hbm, ⟨66, _⟩ => ⟨S8448x1024, .bf16⟩
  | .hbm, ⟨67, _⟩ => ⟨S8448x1024, .bf16⟩
  | .hbm, ⟨68, _⟩ => ⟨S8448x1024, .bf16⟩
  | .hbm, ⟨69, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_6 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_v43 : Ref sig .tc := ⟨.hbm, 59, rfl⟩
abbrev main_v44 : Ref sig .tc := ⟨.hbm, 60, rfl⟩
abbrev main_c : Ref sig .tc := ⟨.hbm, 61, rfl⟩
abbrev main_call0_v0 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== AttnBwd.lean ====
abbrev S8208x16x64 : Shape := ⟨3, ![8208, 16, 64]⟩
abbrev S8208x4x64 : Shape := ⟨3, ![8208, 4, 64]⟩
abbrev S8208x1024 : Shape := ⟨2, ![8208, 1024]⟩
abbrev S8448x1 : Shape := ⟨2, ![8448, 1]⟩
abbrev S33x8x32x1 : Shape := ⟨4, ![33, 8, 32, 1]⟩
abbrev S33x32x8x1 : Shape := ⟨4, ![33, 32, 8, 1]⟩
abbrev S8448 : Shape := ⟨1, ![8448]⟩
abbrev S_ : Shape := ⟨0, ![]⟩
abbrev S8448x16x64 : Shape := ⟨3, ![8448, 16, 64]⟩
abbrev S33x8x32x16x64 : Shape := ⟨5, ![33, 8, 32, 16, 64]⟩
abbrev S33x32x8x16x64 : Shape := ⟨5, ![33, 32, 8, 16, 64]⟩
abbrev S8448x1024 : Shape := ⟨2, ![8448, 1024]⟩
abbrev S33x8x32x1024 : Shape := ⟨4, ![33, 8, 32, 1024]⟩
abbrev S33x32x8x1024 : Shape := ⟨4, ![33, 32, 8, 1024]⟩
abbrev S8448x4x64 : Shape := ⟨3, ![8448, 4, 64]⟩
abbrev S33x8x32x4x64 : Shape := ⟨5, ![33, 8, 32, 4, 64]⟩
abbrev S33x32x8x4x64 : Shape := ⟨5, ![33, 32, 8, 4, 64]⟩
abbrev S4x8448x64 : Shape := ⟨3, ![4, 8448, 64]⟩
abbrev S4x8448x128 : Shape := ⟨3, ![4, 8448, 128]⟩
abbrev S8448x4x4x64 : Shape := ⟨4, ![8448, 4, 4, 64]⟩
abbrev S4x8448x8448x4 : Shape := ⟨4, ![4, 8448, 8448, 4]⟩
abbrev S4x4x8448x8448 : Shape := ⟨4, ![4, 4, 8448, 8448]⟩
abbrev S4x4x8448x1 : Shape := ⟨4, ![4, 4, 8448, 1]⟩
abbrev S4x4x8448x64 : Shape := ⟨4, ![4, 4, 8448, 64]⟩
abbrev S4x4x8448x2816 : Shape := ⟨4, ![4, 4, 8448, 2816]⟩
abbrev S4x4x8448 : Shape := ⟨3, ![4, 4, 8448]⟩
abbrev S4x4x8448x2816x1 : Shape := ⟨5, ![4, 4, 8448, 2816, 1]⟩
abbrev S4x2816x64 : Shape := ⟨3, ![4, 2816, 64]⟩
abbrev S4x1x1x2816x64 : Shape := ⟨5, ![4, 1, 1, 2816, 64]⟩
abbrev S4x4x8448x2816x64 : Shape := ⟨5, ![4, 4, 8448, 2816, 64]⟩
abbrev S8448x4x4 : Shape := ⟨3, ![8448, 4, 4]⟩
abbrev S8448x4x128 : Shape := ⟨3, ![8448, 4, 128]⟩
abbrev S8448x512 : Shape := ⟨2, ![8448, 512]⟩
abbrev S1x8448x512 : Shape := ⟨3, ![1, 8448, 512]⟩
abbrev S3x8448x512 : Shape := ⟨3, ![3, 8448, 512]⟩
abbrev S16x8448x8448 : Shape := ⟨3, ![16, 8448, 8448]⟩
abbrev S256x256 : Shape := ⟨2, ![256, 256]⟩
abbrev S1x2816x64 : Shape := ⟨3, ![1, 2816, 64]⟩
abbrev S1x2816x128 : Shape := ⟨3, ![1, 2816, 128]⟩
abbrev S4x256x2816 : Shape := ⟨3, ![4, 256, 2816]⟩
abbrev S1x256x128 : Shape := ⟨3, ![1, 256, 128]⟩
abbrev S256x128 : Shape := ⟨2, ![256, 128]⟩
abbrev S8448x256 : Shape := ⟨2, ![8448, 256]⟩
abbrev S2816x64 : Shape := ⟨2, ![2816, 64]⟩
abbrev S2816x128 : Shape := ⟨2, ![2816, 128]⟩
abbrev S256x64 : Shape := ⟨2, ![256, 64]⟩
abbrev S256x1 : Shape := ⟨2, ![256, 1]⟩
abbrev S256x2816 : Shape := ⟨2, ![256, 2816]⟩
abbrev S1x256x2816 : Shape := ⟨3, ![1, 256, 2816]⟩

abbrev nBuf : Space → Nat
  | .hbm => 188
  | .vmem => 24
  | .smem => 0
  | _ => 0

abbrev hbmTy0_0 (i : Nat) : BufTy := match i % 128 with
  | 0 => ⟨S8208x16x64, .f32⟩
  | 1 => ⟨S8208x4x64, .f32⟩
  | 2 => ⟨S8208x4x64, .f32⟩
  | 3 => ⟨S8208x1024, .f32⟩
  | 4 => ⟨S8448x1, .i32⟩
  | 5 => ⟨S33x8x32x1, .i32⟩
  | 6 => ⟨S33x32x8x1, .i32⟩
  | 7 => ⟨S8448x1, .i32⟩
  | 8 => ⟨S8448, .i32⟩
  | 9 => ⟨S_, .i32⟩
  | 10 => ⟨S_, .f32⟩
  | 11 => ⟨S8448x16x64, .f32⟩
  | 12 => ⟨S33x8x32x16x64, .f32⟩
  | 13 => ⟨S33x32x8x16x64, .f32⟩
  | 14 => ⟨S8448x16x64, .f32⟩
  | 15 => ⟨S_, .i32⟩
  | 16 => ⟨S_, .f32⟩
  | 17 => ⟨S8448x1024, .f32⟩
  | 18 => ⟨S33x8x32x1024, .f32⟩
  | 19 => ⟨S33x32x8x1024, .f32⟩
  | 20 => ⟨S8448x1024, .f32⟩
  | 21 => ⟨S_, .i32⟩
  | 22 => ⟨S_, .f32⟩
  | 23 => ⟨S8448x4x64, .f32⟩
  | 24 => ⟨S33x8x32x4x64, .f32⟩
  | 25 => ⟨S33x32x8x4x64, .f32⟩
  | 26 => ⟨S8448x4x64, .f32⟩
  | 27 => ⟨S4x8448x64, .f32⟩
  | 28 => ⟨S_, .i32⟩
  | 29 => ⟨S_, .f32⟩
  | 30 => ⟨S8448x4x64, .f32⟩
  | 31 => ⟨S33x8x32x4x64, .f32⟩
  | 32 => ⟨S33x32x8x4x64, .f32⟩
  | 33 => ⟨S8448x4x64, .f32⟩
  | 34 => ⟨S4x8448x64, .f32⟩
  | 35 => ⟨S_, .f32⟩
  | 36 => ⟨S4x8448x64, .f32⟩
  | 37 => ⟨S4x8448x128, .f32⟩
  | 38 => ⟨S8448x4x4x64, .f32⟩
  | 39 => ⟨S4x8448x8448x4, .f32⟩
  | 40 => ⟨S4x4x8448x8448, .f32⟩
  | 41 => ⟨S_, .i32⟩
  | 42 => ⟨S8448, .i32⟩
  | 43 => ⟨S8448, .i1⟩
  | 44 => ⟨S_, .f32⟩
  | 45 => ⟨S_, .f32⟩
  | 46 => ⟨S4x4x8448x8448, .i1⟩
  | 47 => ⟨S4x4x8448x8448, .f32⟩
  | 48 => ⟨S4x4x8448x8448, .f32⟩
  | 49 => ⟨S_, .f32⟩
  | 50 => ⟨S4x4x8448x1, .f32⟩
  | 51 => ⟨S_, .f32⟩
  | 52 => ⟨S4x4x8448x1, .f32⟩
  | 53 => ⟨S_, .f32⟩
  | 54 => ⟨S4x4x8448x64, .f32⟩
  | 55 => ⟨S4x4x8448x2816, .f32⟩
  | 56 => ⟨S_, .f32⟩
  | 57 => ⟨S4x4x8448, .f32⟩
  | 58 => ⟨S4x4x8448x1, .f32⟩
  | 59 => ⟨S4x4x8448x1, .f32⟩
  | 60 => ⟨S4x4x8448x1, .f32⟩
  | 61 => ⟨S4x4x8448x1, .f32⟩
  | 62 => ⟨S4x4x8448x2816, .f32⟩
  | 63 => ⟨S4x4x8448x2816, .f32⟩
  | 64 => ⟨S4x4x8448x2816, .f32⟩
  | 65 => ⟨S4x4x8448x1, .f32⟩
  | 66 => ⟨S_, .f32⟩
  | 67 => ⟨S4x4x8448, .f32⟩
  | 68 => ⟨S4x4x8448x1, .f32⟩
  | 69 => ⟨S4x4x8448x1, .f32⟩
  | 70 => ⟨S4x4x8448x64, .f32⟩
  | 71 => ⟨S4x4x8448x64, .f32⟩
  | 72 => ⟨S4x4x8448x2816x1, .f32⟩
  | 73 => ⟨S4x2816x64, .f32⟩
  | 74 => ⟨S4x1x1x2816x64, .f32⟩
  | 75 => ⟨S4x4x8448x2816x64, .f32⟩
  | 76 => ⟨S4x4x8448x2816x64, .f32⟩
  | 77 => ⟨S4x4x8448x2816x64, .f32⟩
  | 78 => ⟨S_, .f32⟩
  | 79 => ⟨S4x4x8448x64, .f32⟩
  | 80 => ⟨S4x4x8448x64, .f32⟩
  | 81 => ⟨S4x4x8448x2816, .f32⟩
  | 82 => ⟨S_, .f32⟩
  | 83 => ⟨S4x4x8448, .f32⟩
  | 84 => ⟨S4x4x8448x1, .f32⟩
  | 85 => ⟨S4x4x8448x1, .f32⟩
  | 86 => ⟨S4x4x8448x1, .f32⟩
  | 87 => ⟨S4x4x8448x1, .f32⟩
  | 88 => ⟨S4x4x8448x2816, .f32⟩
  | 89 => ⟨S4x4x8448x2816, .f32⟩
  | 90 => ⟨S4x4x8448x2816, .f32⟩
  | 91 => ⟨S4x4x8448x1, .f32⟩
  | 92 => ⟨S_, .f32⟩
  | 93 => ⟨S4x4x8448, .f32⟩
  | 94 => ⟨S4x4x8448x1, .f32⟩
  | 95 => ⟨S4x4x8448x1, .f32⟩
  | 96 => ⟨S4x4x8448x64, .f32⟩
  | 97 => ⟨S4x4x8448x64, .f32⟩
  | 98 => ⟨S4x4x8448x2816x1, .f32⟩
  | 99 => ⟨S4x2816x64, .f32⟩
  | 100 => ⟨S4x1x1x2816x64, .f32⟩
  | 101 => ⟨S4x4x8448x2816x64, .f32⟩
  | 102 => ⟨S4x4x8448x2816x64, .f32⟩
  | 103 => ⟨S4x4x8448x2816x64, .f32⟩
  | 104 => ⟨S_, .f32⟩
  | 105 => ⟨S4x4x8448x64, .f32⟩
  | 106 => ⟨S4x4x8448x64, .f32⟩
  | 107 => ⟨S4x4x8448x2816, .f32⟩
  | 108 => ⟨S_, .f32⟩
  | 109 => ⟨S4x4x8448, .f32⟩
  | 110 => ⟨S4x4x8448x1, .f32⟩
  | 111 => ⟨S4x4x8448x1, .f32⟩
  | 112 => ⟨S4x4x8448x1, .f32⟩
  | 113 => ⟨S4x4x8448x1, .f32⟩
  | 114 => ⟨S4x4x8448x2816, .f32⟩
  | 115 => ⟨S4x4x8448x2816, .f32⟩
  | 116 => ⟨S4x4x8448x2816, .f32⟩
  | 117 => ⟨S4x4x8448x1, .f32⟩
  | 118 => ⟨S_, .f32⟩
  | 119 => ⟨S4x4x8448, .f32⟩
  | 120 => ⟨S4x4x8448x1, .f32⟩
  | 121 => ⟨S4x4x8448x1, .f32⟩
  | 122 => ⟨S4x4x8448x64, .f32⟩
  | 123 => ⟨S4x4x8448x64, .f32⟩
  | 124 => ⟨S4x4x8448x2816x1, .f32⟩
  | 125 => ⟨S4x2816x64, .f32⟩
  | 126 => ⟨S4x1x1x2816x64, .f32⟩
  | 127 => ⟨S4x4x8448x2816x64, .f32⟩
  | _ => ⟨S8208x16x64, .f32⟩

abbrev hbmTy0_1 (i : Nat) : BufTy := match i % 128 with
  | 0 => ⟨S4x4x8448x2816x64, .f32⟩
  | 1 => ⟨S4x4x8448x2816x64, .f32⟩
  | 2 => ⟨S_, .f32⟩
  | 3 => ⟨S4x4x8448x64, .f32⟩
  | 4 => ⟨S4x4x8448x64, .f32⟩
  | 5 => ⟨S4x4x8448x64, .f32⟩
  | 6 => ⟨S4x4x8448x64, .f32⟩
  | 7 => ⟨S8448x4x4x64, .f32⟩
  | 8 => ⟨S4x4x8448x64, .f32⟩
  | 9 => ⟨S4x4x8448x64, .f32⟩
  | 10 => ⟨S_, .f32⟩
  | 11 => ⟨S4x4x8448, .f32⟩
  | 12 => ⟨S4x4x8448x1, .f32⟩
  | 13 => ⟨S4x4x8448, .f32⟩
  | 14 => ⟨S8448x4x4, .f32⟩
  | 15 => ⟨S_, .i32⟩
  | 16 => ⟨S_, .f32⟩
  | 17 => ⟨S8448x4x128, .f32⟩
  | 18 => ⟨S8448x512, .f32⟩
  | 19 => ⟨S4x4x8448x1, .f32⟩
  | 20 => ⟨S4x4x8448x1, .f32⟩
  | 21 => ⟨S4x4x8448, .f32⟩
  | 22 => ⟨S8448x4x4, .f32⟩
  | 23 => ⟨S_, .i32⟩
  | 24 => ⟨S_, .f32⟩
  | 25 => ⟨S8448x4x128, .f32⟩
  | 26 => ⟨S8448x512, .f32⟩
  | 27 => ⟨S4x4x8448, .f32⟩
  | 28 => ⟨S8448x4x4, .f32⟩
  | 29 => ⟨S_, .i32⟩
  | 30 => ⟨S_, .f32⟩
  | 31 => ⟨S8448x4x128, .f32⟩
  | 32 => ⟨S8448x512, .f32⟩
  | 33 => ⟨S4x4x8448, .f32⟩
  | 34 => ⟨S8448x4x4, .f32⟩
  | 35 => ⟨S_, .i32⟩
  | 36 => ⟨S_, .f32⟩
  | 37 => ⟨S8448x4x128, .f32⟩
  | 38 => ⟨S8448x512, .f32⟩
  | 39 => ⟨S4x4x8448, .f32⟩
  | 40 => ⟨S8448x4x4, .f32⟩
  | 41 => ⟨S_, .i32⟩
  | 42 => ⟨S_, .f32⟩
  | 43 => ⟨S8448x4x128, .f32⟩
  | 44 => ⟨S8448x512, .f32⟩
  | 45 => ⟨S1x8448x512, .f32⟩
  | 46 => ⟨S1x8448x512, .f32⟩
  | 47 => ⟨S1x8448x512, .f32⟩
  | 48 => ⟨S3x8448x512, .f32⟩
  | 49 => ⟨S4x4x8448x8448, .f32⟩
  | 50 => ⟨S16x8448x8448, .f32⟩
  | 51 => ⟨S16x8448x8448, .bf16⟩
  | 52 => ⟨S8448x1024, .f32⟩
  | 53 => ⟨S8448x1024, .bf16⟩
  | 54 => ⟨S4x8448x64, .bf16⟩
  | 55 => ⟨S4x8448x128, .bf16⟩
  | 56 => ⟨S8448x1024, .bf16⟩
  | 57 => ⟨S8448x1024, .f32⟩
  | 58 => ⟨S4x8448x64, .f32⟩
  | 59 => ⟨S4x8448x64, .f32⟩
  | _ => ⟨S8208x16x64, .f32⟩

abbrev hbmTy (i : Nat) : BufTy := match i / 128 with
  | 0 => hbmTy0_0 i
  | 1 => hbmTy0_1 i
  | _ => ⟨S8208x16x64, .f32⟩

abbrev bufTy : (tb : Table) → Fin (tcTables nBuf tb) → BufTy
  | .hbm, ⟨i, _⟩ => hbmTy i
  | .local _ .vmem, ⟨0, _⟩ => ⟨S256x256, .bf16⟩
  | .local _ .vmem, ⟨1, _⟩ => ⟨S256x256, .bf16⟩
  | .local _ .vmem, ⟨2, _⟩ => ⟨S1x2816x64, .bf16⟩
  | .local _ .vmem, ⟨3, _⟩ => ⟨S1x2816x64, .bf16⟩
  | .local _ .vmem, ⟨4, _⟩ => ⟨S1x2816x128, .bf16⟩
  | .local _ .vmem, ⟨5, _⟩ => ⟨S1x2816x128, .bf16⟩
  | .local _ .vmem, ⟨6, _⟩ => ⟨S4x256x2816, .bf16⟩
  | .local _ .vmem, ⟨7, _⟩ => ⟨S4x256x2816, .bf16⟩
  | .local _ .vmem, ⟨8, _⟩ => ⟨S1x256x128, .f32⟩
  | .local _ .vmem, ⟨9, _⟩ => ⟨S1x256x128, .f32⟩
  | .local _ .vmem, ⟨10, _⟩ => ⟨S256x256, .bf16⟩
  | .local _ .vmem, ⟨11, _⟩ => ⟨S256x256, .bf16⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S8448x256, .f32⟩
  | .local _ .vmem, ⟨17, _⟩ => ⟨S8448x256, .f32⟩
  | .local _ .vmem, ⟨18, _⟩ => ⟨S1x2816x64, .f32⟩
  | .local _ .vmem, ⟨19, _⟩ => ⟨S1x2816x64, .f32⟩
  | .local _ .vmem, ⟨20, _⟩ => ⟨S1x2816x64, .f32⟩
  | .local _ .vmem, ⟨21, _⟩ => ⟨S1x2816x64, .f32⟩
  | .local _ .vmem, ⟨22, _⟩ => ⟨S2816x64, .f32⟩
  | .local _ .vmem, ⟨23, _⟩ => ⟨S2816x64, .f32⟩
  | _, _ => ⟨S8208x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_call1_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_call2_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_2 : Ref sig .tc := ⟨.hbm, 28, rfl⟩
abbrev main_call3_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_3 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_call4_v0 : Ref sig .tc := ⟨.hbm, 45, rfl⟩
abbrev main_call4_v1 : Ref sig .tc := ⟨.hbm, 46, rfl⟩
abbrev main_call4_v2 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_cst_7 : Ref sig .tc := ⟨.hbm, 53, rfl⟩
abbrev main_v33 : Ref sig .tc := ⟨.hbm, 54, rfl⟩
abbrev main_v34 : Ref sig .tc := ⟨.hbm, 55, rfl⟩
abbrev main_cst_8 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_12 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_13 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_14 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_15 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_cst_16 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_17 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_c_18 : Ref sig .tc := ⟨.hbm, 143, rfl⟩
abbrev main_call5_v0 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_c_19 : Ref sig .tc := ⟨.hbm, 151, rfl⟩
abbrev main_call6_v0 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_c_20 : Ref sig .tc := ⟨.hbm, 157, rfl⟩
abbrev main_call7_v0 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_c_21 : Ref sig .tc := ⟨.hbm, 163, rfl⟩
abbrev main_call8_v0 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_c_22 : Ref sig .tc := ⟨.hbm, 169, rfl⟩
abbrev main_call9_v0 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_v135 : Ref sig .tc := ⟨.hbm, 176, rfl⟩
abbrev main_v136 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144_0 : Ref sig .tc := ⟨.hbm, 185, rfl⟩
abbrev main_v144_1 : Ref sig .tc := ⟨.hbm, 186, rfl⟩
abbrev main_v144_2 : Ref sig .tc := ⟨.hbm, 187, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![4, 3, 33], ![false, false, false]⟩

def k0_mult1 (i : grid0.Coords) : BitVec 32 :=
  let arg2 : BitVec 32 := BitVec.ofNat 32 (i 2).val
  let c256_i32 : BitVec 32 := 256#32
  let v150 : BitVec 32 := Scalar.muli arg2 c256_i32
  v150
def k0_off1 (i : grid0.Coords) : Fin 2 → Nat :=
  let arg2 : BitVec 32 := BitVec.ofNat 32 (i 2).val
  let c256_i32 : BitVec 32 := 256#32
  let v150 : BitVec 32 := Scalar.muli arg2 c256_i32
  let v151 : BitVec 32 := v150
  let v152 : Index := Scalar.indexCast v151
  let c0_97 : Index := 0#32
  ![v152.toNat, 0]
def k0_cond3 (i : grid0.Coords) : BitVec 1 :=
  let arg2 : BitVec 32 := BitVec.ofNat 32 (i 2).val
  let c32_i32 : BitVec 32 := 32#32
  let v159 : BitVec 1 := Scalar.cmpi .eq arg2 c32_i32
  let v160 : BitVec 32 := Scalar.extui v159
  let c0_i32_99 : BitVec 32 := 0#32
  let v161 : BitVec 1 := Scalar.cmpi .ne v160 c0_i32_99
  v161

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2816x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4x256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S8448x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S1x2816x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x2816x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== AttnBwdRefIdeal.lean ====
abbrev S8208x16x64 : Shape := ⟨3, ![8208, 16, 64]⟩
abbrev S8208x4x64 : Shape := ⟨3, ![8208, 4, 64]⟩
abbrev S8208x1024 : Shape := ⟨2, ![8208, 1024]⟩
abbrev S8208x4x4x64 : Shape := ⟨4, ![8208, 4, 4, 64]⟩
abbrev S4x8208x8208x4 : Shape := ⟨4, ![4, 8208, 8208, 4]⟩
abbrev S4x4x8208x8208 : Shape := ⟨4, ![4, 4, 8208, 8208]⟩
abbrev S_ : Shape := ⟨0, ![]⟩
abbrev S4x4x8208 : Shape := ⟨3, ![4, 4, 8208]⟩
abbrev S4x4x8208x1 : Shape := ⟨4, ![4, 4, 8208, 1]⟩
abbrev S4x64x4x8208 : Shape := ⟨4, ![4, 64, 4, 8208]⟩
abbrev S4x64x8208 : Shape := ⟨3, ![4, 64, 8208]⟩
abbrev S4x8208x4x64 : Shape := ⟨4, ![4, 8208, 4, 64]⟩
abbrev S4x8208x64 : Shape := ⟨3, ![4, 8208, 64]⟩
abbrev S8448x1024 : Shape := ⟨2, ![8448, 1024]⟩
abbrev S33x8x32x1024 : Shape := ⟨4, ![33, 8, 32, 1024]⟩
abbrev S33x32x8x1024 : Shape := ⟨4, ![33, 32, 8, 1024]⟩
abbrev S8208x256 : Shape := ⟨2, ![8208, 256]⟩
abbrev S8448x256 : Shape := ⟨2, ![8448, 256]⟩
abbrev S33x8x32x256 : Shape := ⟨4, ![33, 8, 32, 256]⟩
abbrev S33x32x8x256 : Shape := ⟨4, ![33, 32, 8, 256]⟩
abbrev S8448x4x64 : Shape := ⟨3, ![8448, 4, 64]⟩
abbrev S4x8448x64 : Shape := ⟨3, ![4, 8448, 64]⟩

abbrev nBuf : Space → Nat
  | .hbm => 98
  | .vmem => 0
  | .smem => 0
  | _ => 0

abbrev bufTy : (tb : Table) → Fin (tcTables nBuf tb) → BufTy
  | .hbm, ⟨0, _⟩ => ⟨S8208x16x64, .f32⟩
  | .hbm, ⟨1, _⟩ => ⟨S8208x4x64, .f32⟩
  | .hbm, ⟨2, _⟩ => ⟨S8208x4x64, .f32⟩
  | .hbm, ⟨3, _⟩ => ⟨S8208x1024, .f32⟩
  | .hbm, ⟨4, _⟩ => ⟨S8208x4x4x64, .f32⟩
  | .hbm, ⟨5, _⟩ => ⟨S4x8208x8208x4, .f32⟩
  | .hbm, ⟨6, _⟩ => ⟨S4x4x8208x8208, .f32⟩
  | .hbm, ⟨7, _⟩ => ⟨S_, .f32⟩
  | .hbm, ⟨8, _⟩ => ⟨S4x4x8208, .f32⟩
  | .hbm, ⟨9, _⟩ => ⟨S4x4x8208x1, .f32⟩
  | .hbm, ⟨10, _⟩ => ⟨S4x4x8208x8208, .f32⟩
  | .hbm, ⟨11, _⟩ => ⟨S4x4x8208x8208, .i1⟩
  | .hbm, ⟨12, _⟩ => ⟨S4x4x8208x8208, .f32⟩
  | .hbm, ⟨13, _⟩ => ⟨S_, .f32⟩
  | .hbm, ⟨14, _⟩ => ⟨S4x4x8208, .f32⟩
  | .hbm, ⟨15, _⟩ => ⟨S_, .f32⟩
  | .hbm, ⟨16, _⟩ => ⟨S4x4x8208, .f32⟩
  | .hbm, ⟨17, _⟩ => ⟨S4x4x8208, .f32⟩
  | .hbm, ⟨18, _⟩ => ⟨S_, .f32⟩
  | .hbm, ⟨19, _⟩ => ⟨S4x4x8208, .f32⟩
  | .hbm, ⟨20, _⟩ => ⟨S4x4x8208, .i1⟩
  | .hbm, ⟨21, _⟩ => ⟨S_, .f32⟩
  | .hbm, ⟨22, _⟩ => ⟨S4x4x8208, .f32⟩
  | .hbm, ⟨23, _⟩ => ⟨S4x4x8208, .i1⟩
  | .hbm, ⟨24, _⟩ => ⟨S_, .f32⟩
  | .hbm, ⟨25, _⟩ => ⟨S4x4x8208, .f32⟩
  | .hbm, ⟨26, _⟩ => ⟨S_, .f32⟩
  | .hbm, ⟨27, _⟩ => ⟨S4x4x8208, .f32⟩
  | .hbm, ⟨28, _⟩ => ⟨S_, .f32⟩
  | .hbm, ⟨29, _⟩ => ⟨S4x4x8208, .f32⟩
  | .hbm, ⟨30, _⟩ => ⟨S4x4x8208, .f32⟩
  | .hbm, ⟨31, _⟩ => ⟨S4x4x8208, .f32⟩
  | .hbm, ⟨32, _⟩ => ⟨S4x4x8208x1, .f32⟩
  | .hbm, ⟨33, _⟩ => ⟨S4x4x8208x8208, .f32⟩
  | .hbm, ⟨34, _⟩ => ⟨S4x4x8208x8208, .f32⟩
  | .hbm, ⟨35, _⟩ => ⟨S4x4x8208x8208, .f32⟩
  | .hbm, ⟨36, _⟩ => ⟨S_, .f32⟩
  | .hbm, ⟨37, _⟩ => ⟨S4x4x8208, .f32⟩
  | .hbm, ⟨38, _⟩ => ⟨S4x4x8208x1, .f32⟩
  | .hbm, ⟨39, _⟩ => ⟨S4x4x8208x8208, .f32⟩
  | .hbm, ⟨40, _⟩ => ⟨S4x4x8208x8208, .f32⟩
  | .hbm, ⟨41, _⟩ => ⟨S4x4x8208x1, .f32⟩
  | .hbm, ⟨42, _⟩ => ⟨S_, .f32⟩
  | .hbm, ⟨43, _⟩ => ⟨S4x4x8208x1, .f32⟩
  | .hbm, ⟨44, _⟩ => ⟨S4x4x8208x1, .f32⟩
  | .hbm, ⟨45, _⟩ => ⟨S4x64x4x8208, .f32⟩
  | .hbm, ⟨46, _⟩ => ⟨S8208x4x4x64, .f32⟩
  | .hbm, ⟨47, _⟩ => ⟨S8208x1024, .f32⟩
  | .hbm, ⟨48, _⟩ => ⟨S8208x4x4x64, .f32⟩
  | .hbm, ⟨49, _⟩ => ⟨S4x64x4x8208, .f32⟩
  | .hbm, ⟨50, _⟩ => ⟨S4x4x8208x8208, .f32⟩
  | .hbm, ⟨51, _⟩ => ⟨S4x64x8208, .f32⟩
  | .hbm, ⟨52, _⟩ => ⟨S8208x4x64, .f32⟩
  | .hbm, ⟨53, _⟩ => ⟨S4x4x8208x8208, .f32⟩
  | .hbm, ⟨54, _⟩ => ⟨S4x4x8208x8208, .f32⟩
  | .hbm, ⟨55, _⟩ => ⟨S4x4x8208x8208, .f32⟩
  | .hbm, ⟨56, _⟩ => ⟨S_, .f32⟩
  | .hbm, ⟨57, _⟩ => ⟨S4x4x8208, .f32⟩
  | .hbm, ⟨58, _⟩ => ⟨S4x4x8208x1, .f32⟩
  | .hbm, ⟨59, _⟩ => ⟨S4x4x8208x1, .f32⟩
  | .hbm, ⟨60, _⟩ => ⟨S4x4x8208x8208, .f32⟩
  | .hbm, ⟨61, _⟩ => ⟨S4x4x8208x8208, .f32⟩
  | .hbm, ⟨62, _⟩ => ⟨S_, .f32⟩
  | .hbm, ⟨63, _⟩ => ⟨S4x4x8208, .f32⟩
  | .hbm, ⟨64, _⟩ => ⟨S4x4x8208x8208, .f32⟩
  | .hbm, ⟨65, _⟩ => ⟨S4x4x8208x8208, .f32⟩
  | .hbm, ⟨66, _⟩ => ⟨S4x4x8208x8208, .f32⟩
  | .hbm, ⟨67, _⟩ => ⟨S4x8208x8208x4, .f32⟩
  | .hbm, ⟨68, _⟩ => ⟨S4x8208x4x64, .f32⟩
  | .hbm, ⟨69, _⟩ => ⟨S8208x4x4x64, .f32⟩
  | .hbm, ⟨70, _⟩ => ⟨S4x8208x64, .f32⟩
  | .hbm, ⟨71, _⟩ => ⟨S8208x4x64, .f32⟩
  | .hbm, ⟨72, _⟩ => ⟨S8208x16x64, .f32⟩
  | .hbm, ⟨73, _⟩ => ⟨S8208x1024, .f32⟩
  | .hbm, ⟨74, _⟩ => ⟨S_, .i32⟩
  | .hbm, ⟨75, _⟩ => ⟨S_, .f32⟩
  | .hbm, ⟨76, _⟩ => ⟨S8448x1024, .f32⟩
  | .hbm, ⟨77, _⟩ => ⟨S33x8x32x1024, .f32⟩
  | .hbm, ⟨78, _⟩ => ⟨S33x32x8x1024, .f32⟩
  | .hbm, ⟨79, _⟩ => ⟨S8448x1024, .f32⟩
  | .hbm, ⟨80, _⟩ => ⟨S8208x256, .f32⟩
  | .hbm, ⟨81, _⟩ => ⟨S_, .i32⟩
  | .hbm, ⟨82, _⟩ => ⟨S_, .f32⟩
  | .hbm, ⟨83, _⟩ => ⟨S8448x256, .f32⟩
  | .hbm, ⟨84, _⟩ => ⟨S33x8x32x256, .f32⟩
  | .hbm, ⟨85, _⟩ => ⟨S33x32x8x256, .f32⟩
  | .hbm, ⟨86, _⟩ => ⟨S8448x256, .f32⟩
  | .hbm, ⟨87, _⟩ => ⟨S8448x4x64, .f32⟩
  | .hbm, ⟨88, _⟩ => ⟨S4x8448x64, .f32⟩
  | .hbm, ⟨89, _⟩ => ⟨S8208x256, .f32⟩
  | .hbm, ⟨90, _⟩ => ⟨S_, .i32⟩
  | .hbm, ⟨91, _⟩ => ⟨S_, .f32⟩
  | .hbm, ⟨92, _⟩ => ⟨S8448x256, .f32⟩
  | .hbm, ⟨93, _⟩ => ⟨S33x8x32x256, .f32⟩
  | .hbm, ⟨94, _⟩ => ⟨S33x32x8x256, .f32⟩
  | .hbm, ⟨95, _⟩ => ⟨S8448x256, .f32⟩
  | .hbm, ⟨96, _⟩ => ⟨S8448x4x64, .f32⟩
  | .hbm, ⟨97, _⟩ => ⟨S4x8448x64, .f32⟩
  | _, _ => ⟨S8208x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_8 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_c : Ref sig .tc := ⟨.hbm, 74, rfl⟩
abbrev main_call0_v0 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_c_11 : Ref sig .tc := ⟨.hbm, 81, rfl⟩
abbrev main_call1_v0 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_c_12 : Ref sig .tc := ⟨.hbm, 90, rfl⟩
abbrev main_call2_v0 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩

abbrev nD : Nat := 1
abbrev τ : Topo := Topo.v7x

variable {F : FTy → Type} [FloatOps F]
-- ==== MlpBwd.lean ====
abbrev S8448x4096 : Shape := ⟨2, ![8448, 4096]⟩
abbrev S8448x1024 : Shape := ⟨2, ![8448, 1024]⟩
abbrev S1x1024 : Shape := ⟨2, ![1, 1024]⟩
abbrev S1x1024x4096 : Shape := ⟨3, ![1, 1024, 4096]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S384x4096 : Shape := ⟨2, ![384, 4096]⟩
abbrev S384x1024 : Shape := ⟨2, ![384, 1024]⟩
abbrev S1x1024x1024 : Shape := ⟨3, ![1, 1024, 1024]⟩
abbrev S1024x1024 : Shape := ⟨2, ![1024, 1024]⟩
abbrev S384 : Shape := ⟨1, ![384]⟩
abbrev S384x1 : Shape := ⟨2, ![384, 1]⟩
abbrev S1024 : Shape := ⟨1, ![1024]⟩

abbrev nBuf : Space → Nat
  | .hbm => 12
  | .vmem => 11
  | .smem => 0
  | _ => 0

abbrev bufTy : (tb : Table) → Fin (tcTables nBuf tb) → BufTy
  | .hbm, ⟨0, _⟩ => ⟨S8448x4096, .f32⟩
  | .hbm, ⟨1, _⟩ => ⟨S8448x1024, .f32⟩
  | .hbm, ⟨2, _⟩ => ⟨S8448x1024, .f32⟩
  | .hbm, ⟨3, _⟩ => ⟨S1x1024, .f32⟩
  | .hbm, ⟨4, _⟩ => ⟨S1x1024x4096, .f32⟩
  | .hbm, ⟨5, _⟩ => ⟨S8448x4096, .bf16⟩
  | .hbm, ⟨6, _⟩ => ⟨S1024x4096, .f32⟩
  | .hbm, ⟨7, _⟩ => ⟨S1024x4096, .bf16⟩
  | .hbm, ⟨8, _⟩ => ⟨S1024x4x1024, .bf16⟩
  | .hbm, ⟨9, _⟩ => ⟨S4x1024x1024, .bf16⟩
  | .hbm, ⟨10, _⟩ => ⟨S8448x1024, .f32⟩
  | .hbm, ⟨11, _⟩ => ⟨S1x1024, .f32⟩
  | .local _ .vmem, ⟨0, _⟩ => ⟨S384x4096, .bf16⟩
  | .local _ .vmem, ⟨1, _⟩ => ⟨S384x4096, .bf16⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S1x1024, .f32⟩
  | .local _ .vmem, ⟨7, _⟩ => ⟨S4x1024x1024, .bf16⟩
  | .local _ .vmem, ⟨8, _⟩ => ⟨S384x1024, .f32⟩
  | .local _ .vmem, ⟨9, _⟩ => ⟨S384x1024, .f32⟩
  | .local _ .vmem, ⟨10, _⟩ => ⟨S1x1024, .f32⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v54 : BitVec 32 := Scalar.extui v0
  let c0_i32_30 : BitVec 32 := 0#32
  let v55 : BitVec 1 := Scalar.cmpi .ne v54 c0_i32_30
  v55

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v56 : BitVec 1 := Scalar.xori v0 v_true
  let v57 : BitVec 32 := Scalar.extui v56
  let c0_i32_31 : BitVec 32 := 0#32
  let v58 : BitVec 1 := Scalar.cmpi .ne v57 c0_i32_31
  v58

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MlpBwdRefIdeal.lean ====
abbrev S8448x4096 : Shape := ⟨2, ![8448, 4096]⟩
abbrev S8448x1024 : Shape := ⟨2, ![8448, 1024]⟩
abbrev S1x1024 : Shape := ⟨2, ![1, 1024]⟩
abbrev S1x1024x4096 : Shape := ⟨3, ![1, 1024, 4096]⟩
abbrev S1024 : Shape := ⟨1, ![1024]⟩
abbrev S_ : Shape := ⟨0, ![]⟩
abbrev S8448 : Shape := ⟨1, ![8448]⟩
abbrev S8448x1 : Shape := ⟨2, ![8448, 1]⟩
abbrev S1024x4096 : Shape := ⟨2, ![1024, 4096]⟩

abbrev nBuf : Space → Nat
  | .hbm => 56
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S8448x1024, .f32⟩
  | .hbm, ⟨2, _⟩ => ⟨S8448x1024, .f32⟩
  | .hbm, ⟨3, _⟩ => ⟨S1x1024, .f32⟩
  | .hbm, ⟨4, _⟩ => ⟨S1x1024x4096, .f32⟩
  | .hbm, ⟨5, _⟩ => ⟨S1024, .f32⟩
  | .hbm, ⟨6, _⟩ => ⟨S8448x1024, .f32⟩
  | .hbm, ⟨7, _⟩ => ⟨S_, .f32⟩
  | .hbm, ⟨8, _⟩ => ⟨S8448, .f32⟩
  | .hbm, ⟨9, _⟩ => ⟨S8448x1, .f32⟩
  | .hbm, ⟨10, _⟩ => ⟨S_, .f32⟩
  | .hbm, ⟨11, _⟩ => ⟨S8448x1, .f32⟩
  | .hbm, ⟨12, _⟩ => ⟨S8448x1, .f32⟩
  | .hbm, ⟨13, _⟩ => ⟨S_, .f32⟩
  | .hbm, ⟨14, _⟩ => ⟨S8448x1, .f32⟩
  | .hbm, ⟨15, _⟩ => ⟨S8448x1, .f32⟩
  | .hbm, ⟨16, _⟩ => ⟨S8448x1, .f32⟩
  | .hbm, ⟨17, _⟩ => ⟨S8448x1, .f32⟩
  | .hbm, ⟨18, _⟩ => ⟨S_, .f32⟩
  | .hbm, ⟨19, _⟩ => ⟨S8448x1, .f32⟩
  | .hbm, ⟨20, _⟩ => ⟨S8448x1, .f32⟩
  | .hbm, ⟨21, _⟩ => ⟨S8448x1024, .f32⟩
  | .hbm, ⟨22, _⟩ => ⟨S8448x1024, .f32⟩
  | .hbm, ⟨23, _⟩ => ⟨S1x1024, .f32⟩
  | .hbm, ⟨24, _⟩ => ⟨S8448x1024, .f32⟩
  | .hbm, ⟨25, _⟩ => ⟨S8448x1024, .f32⟩
  | .hbm, ⟨26, _⟩ => ⟨S1024x4096, .f32⟩
  | .hbm, ⟨27, _⟩ => ⟨S8448x4096, .f32⟩
  | .hbm, ⟨28, _⟩ => ⟨S8448x1024, .f32⟩
  | .hbm, ⟨29, _⟩ => ⟨S8448x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8448x1024, .f32⟩
  | .hbm, ⟨34, _⟩ => ⟨S8448x1024, .f32⟩
  | .hbm, ⟨35, _⟩ => ⟨S_, .f32⟩
  | .hbm, ⟨36, _⟩ => ⟨S1024, .f32⟩
  | .hbm, ⟨37, _⟩ => ⟨S8448x1024, .f32⟩
  | .hbm, ⟨38, _⟩ => ⟨S_, .f32⟩
  | .hbm, ⟨39, _⟩ => ⟨S8448, .f32⟩
  | .hbm, ⟨40, _⟩ => ⟨S8448x1, .f32⟩
  | .hbm, ⟨41, _⟩ => ⟨S8448x1024, .f32⟩
  | .hbm, ⟨42, _⟩ => ⟨S8448x1024, .f32⟩
  | .hbm, ⟨43, _⟩ => ⟨S8448x1024, .f32⟩
  | .hbm, ⟨44, _⟩ => ⟨S8448x1, .f32⟩
  | .hbm, ⟨45, _⟩ => ⟨S_, .f32⟩
  | .hbm, ⟨46, _⟩ => ⟨S8448x1, .f32⟩
  | .hbm, ⟨47, _⟩ => ⟨S8448x1, .f32⟩
  | .hbm, ⟨48, _⟩ => ⟨S_, .f32⟩
  | .hbm, ⟨49, _⟩ => ⟨S8448, .f32⟩
  | .hbm, ⟨50, _⟩ => ⟨S8448x1024, .f32⟩
  | .hbm, ⟨51, _⟩ => ⟨S8448x1024, .f32⟩
  | .hbm, ⟨52, _⟩ => ⟨S8448x1024, .f32⟩
  | .hbm, ⟨53, _⟩ => ⟨S8448x1024, .f32⟩
  | .hbm, ⟨54, _⟩ => ⟨S8448x1024, .f32⟩
  | .hbm, ⟨55, _⟩ => ⟨S1x1024, .f32⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== InProjBwd.lean ====
abbrev S8448x512 : Shape := ⟨2, ![8448, 512]⟩
abbrev S1x512 : Shape := ⟨2, ![1, 512]⟩
abbrev S8448x1536 : Shape := ⟨2, ![8448, 1536]⟩
abbrev S8448x2048 : Shape := ⟨2, ![8448, 2048]⟩
abbrev S8448x1024 : Shape := ⟨2, ![8448, 1024]⟩
abbrev S1x1024 : Shape := ⟨2, ![1, 1024]⟩
abbrev S1x1024x4096 : Shape := ⟨3, ![1, 1024, 4096]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S8448x4096 : Shape := ⟨2, ![8448, 4096]⟩
abbrev S256x512 : Shape := ⟨2, ![256, 512]⟩
abbrev S256x1536 : Shape := ⟨2, ![256, 1536]⟩
abbrev S256x2048 : Shape := ⟨2, ![256, 2048]⟩
abbrev S256x1024 : Shape := ⟨2, ![256, 1024]⟩
abbrev S256x4096 : Shape := ⟨2, ![256, 4096]⟩
abbrev S1x1024x512 : Shape := ⟨3, ![1, 1024, 512]⟩
abbrev S1024x512 : Shape := ⟨2, ![1024, 512]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 19
  | .vmem => 22
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x512, .f32⟩
  | .hbm, ⟨3, _⟩ => ⟨S1x512, .f32⟩
  | .hbm, ⟨4, _⟩ => ⟨S8448x1536, .f32⟩
  | .hbm, ⟨5, _⟩ => ⟨S8448x2048, .f32⟩
  | .hbm, ⟨6, _⟩ => ⟨S8448x1024, .f32⟩
  | .hbm, ⟨7, _⟩ => ⟨S8448x1024, .f32⟩
  | .hbm, ⟨8, _⟩ => ⟨S1x1024, .f32⟩
  | .hbm, ⟨9, _⟩ => ⟨S1x1024x4096, .f32⟩
  | .hbm, ⟨10, _⟩ => ⟨S8448x1536, .bf16⟩
  | .hbm, ⟨11, _⟩ => ⟨S8448x2048, .bf16⟩
  | .hbm, ⟨12, _⟩ => ⟨S1024x4096, .f32⟩
  | .hbm, ⟨13, _⟩ => ⟨S1024x4096, .bf16⟩
  | .hbm, ⟨14, _⟩ => ⟨S1024x4x1024, .bf16⟩
  | .hbm, ⟨15, _⟩ => ⟨S4x1024x1024, .bf16⟩
  | .hbm, ⟨16, _⟩ => ⟨S8448x1024, .f32⟩
  | .hbm, ⟨17, _⟩ => ⟨S1x1024, .f32⟩
  | .hbm, ⟨18, _⟩ => ⟨S8448x4096, .bf16⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S256x1536, .bf16⟩
  | .local _ .vmem, ⟨8, _⟩ => ⟨S256x1536, .bf16⟩
  | .local _ .vmem, ⟨9, _⟩ => ⟨S256x2048, .bf16⟩
  | .local _ .vmem, ⟨10, _⟩ => ⟨S256x2048, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S1x1024, .f32⟩
  | .local _ .vmem, ⟨16, _⟩ => ⟨S4x1024x1024, .bf16⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S256x4096, .bf16⟩
  | .local _ .vmem, ⟨21, _⟩ => ⟨S256x4096, .bf16⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v70 : BitVec 32 := Scalar.extui v0
  let c0_i32_45 : BitVec 32 := 0#32
  let v71 : BitVec 1 := Scalar.cmpi .ne v70 c0_i32_45
  v71

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v72 : BitVec 1 := Scalar.xori v0 v_true
  let v73 : BitVec 32 := Scalar.extui v72
  let c0_i32_46 : BitVec 32 := 0#32
  let v74 : BitVec 1 := Scalar.cmpi .ne v73 c0_i32_46
  v74

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InProjBwdRefIdeal.lean ====
abbrev S8448x512 : Shape := ⟨2, ![8448, 512]⟩
abbrev S1x512 : Shape := ⟨2, ![1, 512]⟩
abbrev S8448x1536 : Shape := ⟨2, ![8448, 1536]⟩
abbrev S8448x2048 : Shape := ⟨2, ![8448, 2048]⟩
abbrev S8448x1024 : Shape := ⟨2, ![8448, 1024]⟩
abbrev S1x1024 : Shape := ⟨2, ![1, 1024]⟩
abbrev S1x1024x4096 : Shape := ⟨3, ![1, 1024, 4096]⟩
abbrev S1024 : Shape := ⟨1, ![1024]⟩
abbrev S_ : Shape := ⟨0, ![]⟩
abbrev S8448 : Shape := ⟨1, ![8448]⟩
abbrev S8448x1 : Shape := ⟨2, ![8448, 1]⟩
abbrev S1024x4096 : Shape := ⟨2, ![1024, 4096]⟩
abbrev S8448x4096 : Shape := ⟨2, ![8448, 4096]⟩
abbrev S512 : Shape := ⟨1, ![512]⟩

abbrev nBuf : Space → Nat
  | .hbm => 81
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x512, .f32⟩
  | .hbm, ⟨3, _⟩ => ⟨S1x512, .f32⟩
  | .hbm, ⟨4, _⟩ => ⟨S8448x1536, .f32⟩
  | .hbm, ⟨5, _⟩ => ⟨S8448x2048, .f32⟩
  | .hbm, ⟨6, _⟩ => ⟨S8448x1024, .f32⟩
  | .hbm, ⟨7, _⟩ => ⟨S8448x1024, .f32⟩
  | .hbm, ⟨8, _⟩ => ⟨S1x1024, .f32⟩
  | .hbm, ⟨9, _⟩ => ⟨S1x1024x4096, .f32⟩
  | .hbm, ⟨10, _⟩ => ⟨S1024, .f32⟩
  | .hbm, ⟨11, _⟩ => ⟨S8448x1024, .f32⟩
  | .hbm, ⟨12, _⟩ => ⟨S_, .f32⟩
  | .hbm, ⟨13, _⟩ => ⟨S8448, .f32⟩
  | .hbm, ⟨14, _⟩ => ⟨S8448x1, .f32⟩
  | .hbm, ⟨15, _⟩ => ⟨S_, .f32⟩
  | .hbm, ⟨16, _⟩ => ⟨S8448x1, .f32⟩
  | .hbm, ⟨17, _⟩ => ⟨S8448x1, .f32⟩
  | .hbm, ⟨18, _⟩ => ⟨S_, .f32⟩
  | .hbm, ⟨19, _⟩ => ⟨S8448x1, .f32⟩
  | .hbm, ⟨20, _⟩ => ⟨S8448x1, .f32⟩
  | .hbm, ⟨21, _⟩ => ⟨S8448x1, .f32⟩
  | .hbm, ⟨22, _⟩ => ⟨S8448x1, .f32⟩
  | .hbm, ⟨23, _⟩ => ⟨S_, .f32⟩
  | .hbm, ⟨24, _⟩ => ⟨S8448x1, .f32⟩
  | .hbm, ⟨25, _⟩ => ⟨S8448x1, .f32⟩
  | .hbm, ⟨26, _⟩ => ⟨S8448x1024, .f32⟩
  | .hbm, ⟨27, _⟩ => ⟨S8448x1024, .f32⟩
  | .hbm, ⟨28, _⟩ => ⟨S1x1024, .f32⟩
  | .hbm, ⟨29, _⟩ => ⟨S8448x1024, .f32⟩
  | .hbm, ⟨30, _⟩ => ⟨S8448x1024, .f32⟩
  | .hbm, ⟨31, _⟩ => ⟨S1024x4096, .f32⟩
  | .hbm, ⟨32, _⟩ => ⟨S8448x4096, .f32⟩
  | .hbm, ⟨33, _⟩ => ⟨S8448x512, .f32⟩
  | .hbm, ⟨34, _⟩ => ⟨S8448x1536, .f32⟩
  | .hbm, ⟨35, _⟩ => ⟨S8448x2048, .f32⟩
  | .hbm, ⟨36, _⟩ => ⟨S512, .f32⟩
  | .hbm, ⟨37, _⟩ => ⟨S1x512, .f32⟩
  | .hbm, ⟨38, _⟩ => ⟨S8448x512, .f32⟩
  | .hbm, ⟨39, _⟩ => ⟨S8448x512, .f32⟩
  | .hbm, ⟨40, _⟩ => ⟨S8448x512, .f32⟩
  | .hbm, ⟨41, _⟩ => ⟨S8448x512, .f32⟩
  | .hbm, ⟨42, _⟩ => ⟨S8448x512, .f32⟩
  | .hbm, ⟨43, _⟩ => ⟨S8448x512, .f32⟩
  | .hbm, ⟨44, _⟩ => ⟨S_, .f32⟩
  | .hbm, ⟨45, _⟩ => ⟨S8448x4096, .f32⟩
  | .hbm, ⟨46, _⟩ => ⟨S_, .f32⟩
  | .hbm, ⟨47, _⟩ => ⟨S8448x4096, .f32⟩
  | .hbm, ⟨48, _⟩ => ⟨S8448x4096, .f32⟩
  | .hbm, ⟨49, _⟩ => ⟨S_, .f32⟩
  | .hbm, ⟨50, _⟩ => ⟨S8448x4096, .f32⟩
  | .hbm, ⟨51, _⟩ => ⟨S8448x4096, .f32⟩
  | .hbm, ⟨52, _⟩ => ⟨S8448x1024, .f32⟩
  | .hbm, ⟨53, _⟩ => ⟨S8448x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8448x1024, .f32⟩
  | .hbm, ⟨58, _⟩ => ⟨S8448x1024, .f32⟩
  | .hbm, ⟨59, _⟩ => ⟨S_, .f32⟩
  | .hbm, ⟨60, _⟩ => ⟨S1024, .f32⟩
  | .hbm, ⟨61, _⟩ => ⟨S8448x1024, .f32⟩
  | .hbm, ⟨62, _⟩ => ⟨S_, .f32⟩
  | .hbm, ⟨63, _⟩ => ⟨S8448, .f32⟩
  | .hbm, ⟨64, _⟩ => ⟨S8448x1, .f32⟩
  | .hbm, ⟨65, _⟩ => ⟨S8448x1024, .f32⟩
  | .hbm, ⟨66, _⟩ => ⟨S8448x1024, .f32⟩
  | .hbm, ⟨67, _⟩ => ⟨S8448x1, .f32⟩
  | .hbm, ⟨68, _⟩ => ⟨S_, .f32⟩
  | .hbm, ⟨69, _⟩ => ⟨S8448x1, .f32⟩
  | .hbm, ⟨70, _⟩ => ⟨S8448x1, .f32⟩
  | .hbm, ⟨71, _⟩ => ⟨S_, .f32⟩
  | .hbm, ⟨72, _⟩ => ⟨S8448, .f32⟩
  | .hbm, ⟨73, _⟩ => ⟨S8448x1024, .f32⟩
  | .hbm, ⟨74, _⟩ => ⟨S8448x1024, .f32⟩
  | .hbm, ⟨75, _⟩ => ⟨S8448x1024, .f32⟩
  | .hbm, ⟨76, _⟩ => ⟨S8448x1024, .f32⟩
  | .hbm, ⟨77, _⟩ => ⟨S8448x1024, .f32⟩
  | .hbm, ⟨78, _⟩ => ⟨S1x1024, .f32⟩
  | .hbm, ⟨79, _⟩ => ⟨S8448x1024, .f32⟩
  | .hbm, ⟨80, _⟩ => ⟨S8448x4096, .bf16⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_3 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== QkBwd.lean ====
abbrev S8448x1536 : Shape := ⟨2, ![8448, 1536]⟩
abbrev S8448x1024 : Shape := ⟨2, ![8448, 1024]⟩
abbrev S4x8448x64 : Shape := ⟨3, ![4, 8448, 64]⟩
abbrev S8448x32 : Shape := ⟨2, ![8448, 32]⟩
abbrev S1x64 : Shape := ⟨2, ![1, 64]⟩
abbrev S2x64x2x64 : Shape := ⟨4, ![2, 64, 2, 64]⟩
abbrev S_ : Shape := ⟨0, ![]⟩
abbrev S128x128 : Shape := ⟨2, ![128, 128]⟩
abbrev S8448x32x2 : Shape := ⟨3, ![8448, 32, 2]⟩
abbrev S8448x64 : Shape := ⟨2, ![8448, 64]⟩
abbrev S1x8448x1x64 : Shape := ⟨4, ![1, 8448, 1, 64]⟩
abbrev S1x8448x2x64 : Shape := ⟨4, ![1, 8448, 2, 64]⟩
abbrev S8448x128 : Shape := ⟨2, ![8448, 128]⟩
abbrev S8448x32x1 : Shape := ⟨3, ![8448, 32, 1]⟩
abbrev S1x1x1x64 : Shape := ⟨4, ![1, 1, 1, 64]⟩
abbrev S1x1x2x64 : Shape := ⟨4, ![1, 1, 2, 64]⟩
abbrev S1x128 : Shape := ⟨2, ![1, 128]⟩
abbrev S256x1536 : Shape := ⟨2, ![256, 1536]⟩
abbrev S256x1024 : Shape := ⟨2, ![256, 1024]⟩
abbrev S4x256x64 : Shape := ⟨3, ![4, 256, 64]⟩
abbrev S256x128 : Shape := ⟨2, ![256, 128]⟩
abbrev S128 : Shape := ⟨1, ![128]⟩
abbrev S1x256x64 : Shape := ⟨3, ![1, 256, 64]⟩
abbrev S256x64 : Shape := ⟨2, ![256, 64]⟩

abbrev nBuf : Space → Nat
  | .hbm => 40
  | .vmem => 19
  | .smem => 0
  | _ => 0

abbrev bufTy : (tb : Table) → Fin (tcTables nBuf tb) → BufTy
  | .hbm, ⟨0, _⟩ => ⟨S8448x1536, .f32⟩
  | .hbm, ⟨1, _⟩ => ⟨S8448x1024, .f32⟩
  | .hbm, ⟨2, _⟩ => ⟨S4x8448x64, .f32⟩
  | .hbm, ⟨3, _⟩ => ⟨S4x8448x64, .f32⟩
  | .hbm, ⟨4, _⟩ => ⟨S8448x32, .f32⟩
  | .hbm, ⟨5, _⟩ => ⟨S8448x32, .f32⟩
  | .hbm, ⟨6, _⟩ => ⟨S1x64, .f32⟩
  | .hbm, ⟨7, _⟩ => ⟨S1x64, .f32⟩
  | .hbm, ⟨8, _⟩ => ⟨S2x64x2x64, .i32⟩
  | .hbm, ⟨9, _⟩ => ⟨S2x64x2x64, .i32⟩
  | .hbm, ⟨10, _⟩ => ⟨S2x64x2x64, .i1⟩
  | .hbm, ⟨11, _⟩ => ⟨S2x64x2x64, .i32⟩
  | .hbm, ⟨12, _⟩ => ⟨S2x64x2x64, .f32⟩
  | .hbm, ⟨13, _⟩ => ⟨S_, .f32⟩
  | .hbm, ⟨14, _⟩ => ⟨S2x64x2x64, .f32⟩
  | .hbm, ⟨15, _⟩ => ⟨S2x64x2x64, .f32⟩
  | .hbm, ⟨16, _⟩ => ⟨S2x64x2x64, .bf16⟩
  | .hbm, ⟨17, _⟩ => ⟨S128x128, .bf16⟩
  | .hbm, ⟨18, _⟩ => ⟨S8448x32x2, .f32⟩
  | .hbm, ⟨19, _⟩ => ⟨S8448x64, .f32⟩
  | .hbm, ⟨20, _⟩ => ⟨S1x8448x1x64, .f32⟩
  | .hbm, ⟨21, _⟩ => ⟨S1x8448x2x64, .f32⟩
  | .hbm, ⟨22, _⟩ => ⟨S8448x128, .f32⟩
  | .hbm, ⟨23, _⟩ => ⟨S8448x32, .f32⟩
  | .hbm, ⟨24, _⟩ => ⟨S8448x32x1, .f32⟩
  | .hbm, ⟨25, _⟩ => ⟨S8448x32x1, .f32⟩
  | .hbm, ⟨26, _⟩ => ⟨S8448x32x2, .f32⟩
  | .hbm, ⟨27, _⟩ => ⟨S8448x64, .f32⟩
  | .hbm, ⟨28, _⟩ => ⟨S1x8448x1x64, .f32⟩
  | .hbm, ⟨29, _⟩ => ⟨S1x8448x2x64, .f32⟩
  | .hbm, ⟨30, _⟩ => ⟨S8448x128, .f32⟩
  | .hbm, ⟨31, _⟩ => ⟨S1x1x1x64, .f32⟩
  | .hbm, ⟨32, _⟩ => ⟨S1x1x2x64, .f32⟩
  | .hbm, ⟨33, _⟩ => ⟨S1x128, .f32⟩
  | .hbm, ⟨34, _⟩ => ⟨S1x1x1x64, .f32⟩
  | .hbm, ⟨35, _⟩ => ⟨S1x1x2x64, .f32⟩
  | .hbm, ⟨36, _⟩ => ⟨S1x128, .f32⟩
  | .hbm, ⟨37, _⟩ => ⟨S8448x1536, .bf16⟩
  | .hbm, ⟨38, _⟩ => ⟨S1x128, .f32⟩
  | .hbm, ⟨39, _⟩ => ⟨S1x128, .f32⟩
  | .local _ .vmem, ⟨0, _⟩ => ⟨S256x1536, .f32⟩
  | .local _ .vmem, ⟨1, _⟩ => ⟨S256x1536, .f32⟩
  | .local _ .vmem, ⟨2, _⟩ => ⟨S256x1024, .f32⟩
  | .local _ .vmem, ⟨3, _⟩ => ⟨S256x1024, .f32⟩
  | .local _ .vmem, ⟨4, _⟩ => ⟨S4x256x64, .f32⟩
  | .local _ .vmem, ⟨5, _⟩ => ⟨S4x256x64, .f32⟩
  | .local _ .vmem, ⟨6, _⟩ => ⟨S4x256x64, .f32⟩
  | .local _ .vmem, ⟨7, _⟩ => ⟨S4x256x64, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x128, .f32⟩
  | .local _ .vmem, ⟨13, _⟩ => ⟨S1x128, .f32⟩
  | .local _ .vmem, ⟨14, _⟩ => ⟨S128x128, .bf16⟩
  | .local _ .vmem, ⟨15, _⟩ => ⟨S256x1536, .bf16⟩
  | .local _ .vmem, ⟨16, _⟩ => ⟨S256x1536, .bf16⟩
  | .local _ .vmem, ⟨17, _⟩ => ⟨S1x128, .f32⟩
  | .local _ .vmem, ⟨18, _⟩ => ⟨S1x128, .f32⟩
  | _, _ => ⟨S8448x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28_0 : Ref sig .tc := ⟨.hbm, 37, rfl⟩
abbrev main_v28_1 : Ref sig .tc := ⟨.hbm, 38, rfl⟩
abbrev main_v28_2 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v637 : BitVec 32 := Scalar.extui v0
  let c0_i32_251 : BitVec 32 := 0#32
  let v638 : BitVec 1 := Scalar.cmpi .ne v637 c0_i32_251
  v638

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v639 : BitVec 1 := Scalar.xori v0 v_true
  let v640 : BitVec 32 := Scalar.extui v639
  let c0_i32_252 : BitVec 32 := 0#32
  let v641 : BitVec 1 := Scalar.cmpi .ne v640 c0_i32_252
  v641

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v644 : BitVec 32 := Scalar.extui v0
  let c0_i32_254 : BitVec 32 := 0#32
  let v645 : BitVec 1 := Scalar.cmpi .ne v644 c0_i32_254
  v645

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_255 : BitVec 1 := 1#1
  let v646 : BitVec 1 := Scalar.xori v0 true_255
  let v647 : BitVec 32 := Scalar.extui v646
  let c0_i32_256 : BitVec 32 := 0#32
  let v648 : BitVec 1 := Scalar.cmpi .ne v647 c0_i32_256
  v648

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== QkBwdRefIdeal.lean ====
abbrev S8448x1536 : Shape := ⟨2, ![8448, 1536]⟩
abbrev S8448x1024 : Shape := ⟨2, ![8448, 1024]⟩
abbrev S4x8448x64 : Shape := ⟨3, ![4, 8448, 64]⟩
abbrev S8448x32 : Shape := ⟨2, ![8448, 32]⟩
abbrev S1x64 : Shape := ⟨2, ![1, 64]⟩
abbrev S8448x16x64 : Shape := ⟨3, ![8448, 16, 64]⟩
abbrev S64 : Shape := ⟨1, ![64]⟩
abbrev S_ : Shape := ⟨0, ![]⟩
abbrev S8448x16 : Shape := ⟨2, ![8448, 16]⟩
abbrev S8448x16x1 : Shape := ⟨3, ![8448, 16, 1]⟩
abbrev S1x1x64 : Shape := ⟨3, ![1, 1, 64]⟩
abbrev S8448x16x32x2 : Shape := ⟨4, ![8448, 16, 32, 2]⟩
abbrev S8448x16x32x1 : Shape := ⟨4, ![8448, 16, 32, 1]⟩
abbrev S8448x16x32 : Shape := ⟨3, ![8448, 16, 32]⟩
abbrev S8448x1x32 : Shape := ⟨3, ![8448, 1, 32]⟩
abbrev S8448x256 : Shape := ⟨2, ![8448, 256]⟩
abbrev S8448x4x64 : Shape := ⟨3, ![8448, 4, 64]⟩
abbrev S8448x4 : Shape := ⟨2, ![8448, 4]⟩
abbrev S8448x4x1 : Shape := ⟨3, ![8448, 4, 1]⟩
abbrev S8448x4x32x2 : Shape := ⟨4, ![8448, 4, 32, 2]⟩
abbrev S8448x4x32x1 : Shape := ⟨4, ![8448, 4, 32, 1]⟩
abbrev S8448x4x32 : Shape := ⟨3, ![8448, 4, 32]⟩
abbrev S1x1x1x64 : Shape := ⟨4, ![1, 1, 1, 64]⟩
abbrev S1x1x2x64 : Shape := ⟨4, ![1, 1, 2, 64]⟩
abbrev S1x128 : Shape := ⟨2, ![1, 128]⟩

abbrev nBuf : Space → Nat
  | .hbm => 228
  | .vmem => 0
  | .smem => 0
  | _ => 0

abbrev hbmTy0_0 (i : Nat) : BufTy := match i % 128 with
  | 0 => ⟨S8448x1536, .f32⟩
  | 1 => ⟨S8448x1024, .f32⟩
  | 2 => ⟨S4x8448x64, .f32⟩
  | 3 => ⟨S4x8448x64, .f32⟩
  | 4 => ⟨S8448x32, .f32⟩
  | 5 => ⟨S8448x32, .f32⟩
  | 6 => ⟨S1x64, .f32⟩
  | 7 => ⟨S1x64, .f32⟩
  | 8 => ⟨S8448x1024, .f32⟩
  | 9 => ⟨S8448x16x64, .f32⟩
  | 10 => ⟨S64, .f32⟩
  | 11 => ⟨S8448x16x64, .f32⟩
  | 12 => ⟨S_, .f32⟩
  | 13 => ⟨S8448x16, .f32⟩
  | 14 => ⟨S8448x16x1, .f32⟩
  | 15 => ⟨S_, .f32⟩
  | 16 => ⟨S8448x16x1, .f32⟩
  | 17 => ⟨S8448x16x1, .f32⟩
  | 18 => ⟨S_, .f32⟩
  | 19 => ⟨S8448x16x1, .f32⟩
  | 20 => ⟨S8448x16x1, .f32⟩
  | 21 => ⟨S8448x16x1, .f32⟩
  | 22 => ⟨S8448x16x1, .f32⟩
  | 23 => ⟨S_, .f32⟩
  | 24 => ⟨S8448x16x1, .f32⟩
  | 25 => ⟨S8448x16x1, .f32⟩
  | 26 => ⟨S8448x16x64, .f32⟩
  | 27 => ⟨S8448x16x64, .f32⟩
  | 28 => ⟨S1x1x64, .f32⟩
  | 29 => ⟨S8448x16x64, .f32⟩
  | 30 => ⟨S8448x16x64, .f32⟩
  | 31 => ⟨S8448x16x32x2, .f32⟩
  | 32 => ⟨S8448x16x32x1, .f32⟩
  | 33 => ⟨S8448x16x32, .f32⟩
  | 34 => ⟨S8448x16x32x1, .f32⟩
  | 35 => ⟨S8448x16x32, .f32⟩
  | 36 => ⟨S8448x1x32, .f32⟩
  | 37 => ⟨S8448x1x32, .f32⟩
  | 38 => ⟨S8448x16x32, .f32⟩
  | 39 => ⟨S8448x16x32, .f32⟩
  | 40 => ⟨S8448x16x32, .f32⟩
  | 41 => ⟨S8448x16x32, .f32⟩
  | 42 => ⟨S8448x16x32, .f32⟩
  | 43 => ⟨S8448x16x32, .f32⟩
  | 44 => ⟨S8448x16x32, .f32⟩
  | 45 => ⟨S8448x16x32, .f32⟩
  | 46 => ⟨S8448x16x32, .f32⟩
  | 47 => ⟨S8448x16x32, .f32⟩
  | 48 => ⟨S8448x16x32x1, .f32⟩
  | 49 => ⟨S8448x16x32x1, .f32⟩
  | 50 => ⟨S8448x16x32x2, .f32⟩
  | 51 => ⟨S8448x16x64, .f32⟩
  | 52 => ⟨S8448x256, .f32⟩
  | 53 => ⟨S8448x4x64, .f32⟩
  | 54 => ⟨S64, .f32⟩
  | 55 => ⟨S8448x4x64, .f32⟩
  | 56 => ⟨S_, .f32⟩
  | 57 => ⟨S8448x4, .f32⟩
  | 58 => ⟨S8448x4x1, .f32⟩
  | 59 => ⟨S_, .f32⟩
  | 60 => ⟨S8448x4x1, .f32⟩
  | 61 => ⟨S8448x4x1, .f32⟩
  | 62 => ⟨S_, .f32⟩
  | 63 => ⟨S8448x4x1, .f32⟩
  | 64 => ⟨S8448x4x1, .f32⟩
  | 65 => ⟨S8448x4x1, .f32⟩
  | 66 => ⟨S8448x4x1, .f32⟩
  | 67 => ⟨S_, .f32⟩
  | 68 => ⟨S8448x4x1, .f32⟩
  | 69 => ⟨S8448x4x1, .f32⟩
  | 70 => ⟨S8448x4x64, .f32⟩
  | 71 => ⟨S8448x4x64, .f32⟩
  | 72 => ⟨S1x1x64, .f32⟩
  | 73 => ⟨S8448x4x64, .f32⟩
  | 74 => ⟨S8448x4x64, .f32⟩
  | 75 => ⟨S8448x4x32x2, .f32⟩
  | 76 => ⟨S8448x4x32x1, .f32⟩
  | 77 => ⟨S8448x4x32, .f32⟩
  | 78 => ⟨S8448x4x32x1, .f32⟩
  | 79 => ⟨S8448x4x32, .f32⟩
  | 80 => ⟨S8448x1x32, .f32⟩
  | 81 => ⟨S8448x1x32, .f32⟩
  | 82 => ⟨S8448x4x32, .f32⟩
  | 83 => ⟨S8448x4x32, .f32⟩
  | 84 => ⟨S8448x4x32, .f32⟩
  | 85 => ⟨S8448x4x32, .f32⟩
  | 86 => ⟨S8448x4x32, .f32⟩
  | 87 => ⟨S8448x4x32, .f32⟩
  | 88 => ⟨S8448x4x32, .f32⟩
  | 89 => ⟨S8448x4x32, .f32⟩
  | 90 => ⟨S8448x4x32, .f32⟩
  | 91 => ⟨S8448x4x32, .f32⟩
  | 92 => ⟨S8448x4x32x1, .f32⟩
  | 93 => ⟨S8448x4x32x1, .f32⟩
  | 94 => ⟨S8448x4x32x2, .f32⟩
  | 95 => ⟨S8448x4x64, .f32⟩
  | 96 => ⟨S8448x256, .f32⟩
  | 97 => ⟨S8448x4x64, .f32⟩
  | 98 => ⟨S8448x1024, .f32⟩
  | 99 => ⟨S_, .f32⟩
  | 100 => ⟨S8448x1024, .f32⟩
  | 101 => ⟨S8448x1024, .f32⟩
  | 102 => ⟨S4x8448x64, .f32⟩
  | 103 => ⟨S4x8448x64, .f32⟩
  | 104 => ⟨S8448x4x64, .f32⟩
  | 105 => ⟨S8448x4x64, .f32⟩
  | 106 => ⟨S_, .f32⟩
  | 107 => ⟨S8448x1024, .f32⟩
  | 108 => ⟨S8448x1024, .f32⟩
  | 109 => ⟨S8448x16x64, .f32⟩
  | 110 => ⟨S8448x256, .f32⟩
  | 111 => ⟨S_, .f32⟩
  | 112 => ⟨S8448x1536, .f32⟩
  | 113 => ⟨S8448x4x32x2, .f32⟩
  | 114 => ⟨S8448x4x32x1, .f32⟩
  | 115 => ⟨S8448x4x32, .f32⟩
  | 116 => ⟨S8448x4x32x1, .f32⟩
  | 117 => ⟨S8448x4x32, .f32⟩
  | 118 => ⟨S8448x4x32, .f32⟩
  | 119 => ⟨S8448x4x32, .f32⟩
  | 120 => ⟨S8448x4x32, .f32⟩
  | 121 => ⟨S8448x4x32, .f32⟩
  | 122 => ⟨S8448x4x32, .f32⟩
  | 123 => ⟨S8448x4x32, .f32⟩
  | 124 => ⟨S8448x4x32, .f32⟩
  | 125 => ⟨S8448x4x32, .f32⟩
  | 126 => ⟨S8448x4x32, .f32⟩
  | 127 => ⟨S8448x4x32, .f32⟩
  | _ => ⟨S8448x1536, .f32⟩

abbrev hbmTy0_1 (i : Nat) : BufTy := match i % 128 with
  | 0 => ⟨S8448x4x32, .f32⟩
  | 1 => ⟨S8448x4x32x1, .f32⟩
  | 2 => ⟨S_, .f32⟩
  | 3 => ⟨S8448x4x32x2, .f32⟩
  | 4 => ⟨S8448x4x32x1, .f32⟩
  | 5 => ⟨S_, .f32⟩
  | 6 => ⟨S8448x4x32x2, .f32⟩
  | 7 => ⟨S8448x4x32x2, .f32⟩
  | 8 => ⟨S8448x4x64, .f32⟩
  | 9 => ⟨S8448x4x64, .f32⟩
  | 10 => ⟨S_, .f32⟩
  | 11 => ⟨S64, .f32⟩
  | 12 => ⟨S1x1x64, .f32⟩
  | 13 => ⟨S8448x4x64, .f32⟩
  | 14 => ⟨S8448x4x64, .f32⟩
  | 15 => ⟨S_, .f32⟩
  | 16 => ⟨S64, .f32⟩
  | 17 => ⟨S8448x4x64, .f32⟩
  | 18 => ⟨S_, .f32⟩
  | 19 => ⟨S8448x4, .f32⟩
  | 20 => ⟨S8448x4x1, .f32⟩
  | 21 => ⟨S8448x4x64, .f32⟩
  | 22 => ⟨S8448x4x64, .f32⟩
  | 23 => ⟨S8448x4x1, .f32⟩
  | 24 => ⟨S_, .f32⟩
  | 25 => ⟨S8448x4x1, .f32⟩
  | 26 => ⟨S8448x4x1, .f32⟩
  | 27 => ⟨S_, .f32⟩
  | 28 => ⟨S8448x4, .f32⟩
  | 29 => ⟨S8448x4x64, .f32⟩
  | 30 => ⟨S8448x4x64, .f32⟩
  | 31 => ⟨S8448x4x64, .f32⟩
  | 32 => ⟨S8448x4x64, .f32⟩
  | 33 => ⟨S8448x4x64, .f32⟩
  | 34 => ⟨S1x64, .f32⟩
  | 35 => ⟨S8448x256, .f32⟩
  | 36 => ⟨S_, .f32⟩
  | 37 => ⟨S8448x1536, .f32⟩
  | 38 => ⟨S8448x1536, .f32⟩
  | 39 => ⟨S8448x16x32x2, .f32⟩
  | 40 => ⟨S8448x16x32x1, .f32⟩
  | 41 => ⟨S8448x16x32, .f32⟩
  | 42 => ⟨S8448x16x32x1, .f32⟩
  | 43 => ⟨S8448x16x32, .f32⟩
  | 44 => ⟨S8448x16x32, .f32⟩
  | 45 => ⟨S8448x16x32, .f32⟩
  | 46 => ⟨S8448x16x32, .f32⟩
  | 47 => ⟨S8448x16x32, .f32⟩
  | 48 => ⟨S8448x16x32, .f32⟩
  | 49 => ⟨S8448x16x32, .f32⟩
  | 50 => ⟨S8448x16x32, .f32⟩
  | 51 => ⟨S8448x16x32, .f32⟩
  | 52 => ⟨S8448x16x32, .f32⟩
  | 53 => ⟨S8448x16x32, .f32⟩
  | 54 => ⟨S8448x16x32, .f32⟩
  | 55 => ⟨S8448x16x32x1, .f32⟩
  | 56 => ⟨S_, .f32⟩
  | 57 => ⟨S8448x16x32x2, .f32⟩
  | 58 => ⟨S8448x16x32x1, .f32⟩
  | 59 => ⟨S_, .f32⟩
  | 60 => ⟨S8448x16x32x2, .f32⟩
  | 61 => ⟨S8448x16x32x2, .f32⟩
  | 62 => ⟨S8448x16x64, .f32⟩
  | 63 => ⟨S8448x16x64, .f32⟩
  | 64 => ⟨S_, .f32⟩
  | 65 => ⟨S64, .f32⟩
  | 66 => ⟨S1x1x64, .f32⟩
  | 67 => ⟨S8448x16x64, .f32⟩
  | 68 => ⟨S8448x16x64, .f32⟩
  | 69 => ⟨S_, .f32⟩
  | 70 => ⟨S64, .f32⟩
  | 71 => ⟨S8448x16x64, .f32⟩
  | 72 => ⟨S_, .f32⟩
  | 73 => ⟨S8448x16, .f32⟩
  | 74 => ⟨S8448x16x1, .f32⟩
  | 75 => ⟨S8448x16x64, .f32⟩
  | 76 => ⟨S8448x16x64, .f32⟩
  | 77 => ⟨S8448x16x1, .f32⟩
  | 78 => ⟨S_, .f32⟩
  | 79 => ⟨S8448x16x1, .f32⟩
  | 80 => ⟨S8448x16x1, .f32⟩
  | 81 => ⟨S_, .f32⟩
  | 82 => ⟨S8448x16, .f32⟩
  | 83 => ⟨S8448x16x64, .f32⟩
  | 84 => ⟨S8448x16x64, .f32⟩
  | 85 => ⟨S8448x16x64, .f32⟩
  | 86 => ⟨S8448x16x64, .f32⟩
  | 87 => ⟨S8448x16x64, .f32⟩
  | 88 => ⟨S1x64, .f32⟩
  | 89 => ⟨S8448x1024, .f32⟩
  | 90 => ⟨S_, .f32⟩
  | 91 => ⟨S8448x1536, .f32⟩
  | 92 => ⟨S8448x1536, .f32⟩
  | 93 => ⟨S8448x1536, .bf16⟩
  | 94 => ⟨S1x1x1x64, .f32⟩
  | 95 => ⟨S1x1x2x64, .f32⟩
  | 96 => ⟨S1x128, .f32⟩
  | 97 => ⟨S1x1x1x64, .f32⟩
  | 98 => ⟨S1x1x2x64, .f32⟩
  | 99 => ⟨S1x128, .f32⟩
  | _ => ⟨S8448x1536, .f32⟩

abbrev hbmTy (i : Nat) : BufTy := match i / 128 with
  | 0 => hbmTy0_0 i
  | 1 => hbmTy0_1 i
  | _ => ⟨S8448x1536, .f32⟩

abbrev bufTy : (tb : Table) → Fin (tcTables nBuf tb) → BufTy
  | .hbm, ⟨i, _⟩ => hbmTy i
  | _, _ => ⟨S8448x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_3 : Ref sig .tc := ⟨.hbm, 56, rfl⟩
abbrev main_v44 : Ref sig .tc := ⟨.hbm, 57, rfl⟩
abbrev main_v45 : Ref sig .tc := ⟨.hbm, 58, rfl⟩
abbrev main_cst_4 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_6 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_cst_7 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_cst_8 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_cst_9 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_cst_10 : Ref sig .tc := ⟨.hbm, 130, rfl⟩
abbrev main_v111 : Ref sig .tc := ⟨.hbm, 131, rfl⟩
abbrev main_v112 : Ref sig .tc := ⟨.hbm, 132, rfl⟩
abbrev main_cst_11 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_cst_12 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_cst_13 : Ref sig .tc := ⟨.hbm, 143, rfl⟩
abbrev main_v121 : Ref sig .tc := ⟨.hbm, 144, rfl⟩
abbrev main_v122 : Ref sig .tc := ⟨.hbm, 145, rfl⟩
abbrev main_cst_14 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_cst_15 : Ref sig .tc := ⟨.hbm, 152, rfl⟩
abbrev main_v128 : Ref sig .tc := ⟨.hbm, 153, rfl⟩
abbrev main_v129 : Ref sig .tc := ⟨.hbm, 154, rfl⟩
abbrev main_cst_16 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_cst_17 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_cst_18 : Ref sig .tc := ⟨.hbm, 184, rfl⟩
abbrev main_v157 : Ref sig .tc := ⟨.hbm, 185, rfl⟩
abbrev main_v158 : Ref sig .tc := ⟨.hbm, 186, rfl⟩
abbrev main_cst_19 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_cst_20 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_cst_21 : Ref sig .tc := ⟨.hbm, 197, rfl⟩
abbrev main_v167 : Ref sig .tc := ⟨.hbm, 198, rfl⟩
abbrev main_v168 : Ref sig .tc := ⟨.hbm, 199, rfl⟩
abbrev main_cst_22 : Ref sig .tc := ⟨.hbm, 200, rfl⟩
abbrev main_v169 : Ref sig .tc := ⟨.hbm, 201, rfl⟩
abbrev main_v170 : Ref sig .tc := ⟨.hbm, 202, rfl⟩
abbrev main_v171 : Ref sig .tc := ⟨.hbm, 203, rfl⟩
abbrev main_v172 : Ref sig .tc := ⟨.hbm, 204, rfl⟩
abbrev main_v173 : Ref sig .tc := ⟨.hbm, 205, rfl⟩
abbrev main_cst_23 : Ref sig .tc := ⟨.hbm, 206, rfl⟩
abbrev main_v174 : Ref sig .tc := ⟨.hbm, 207, rfl⟩
abbrev main_v175 : Ref sig .tc := ⟨.hbm, 208, rfl⟩
abbrev main_cst_24 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_cst_25 : Ref sig .tc := ⟨.hbm, 218, rfl⟩
abbrev main_v184 : Ref sig .tc := ⟨.hbm, 219, rfl⟩
abbrev main_v185 : Ref sig .tc := ⟨.hbm, 220, rfl⟩
abbrev main_v186 : Ref sig .tc := ⟨.hbm, 221, rfl⟩
abbrev main_v187 : Ref sig .tc := ⟨.hbm, 222, rfl⟩
abbrev main_v188 : Ref sig .tc := ⟨.hbm, 223, rfl⟩
abbrev main_v189 : Ref sig .tc := ⟨.hbm, 224, rfl⟩
abbrev main_v190 : Ref sig .tc := ⟨.hbm, 225, rfl⟩
abbrev main_v191 : Ref sig .tc := ⟨.hbm, 226, rfl⟩
abbrev main_v192 : Ref sig .tc := ⟨.hbm, 227, rfl⟩

abbrev nD : Nat := 1
abbrev τ : Topo := Topo.v7x

variable {F : FTy → Type} [FloatOps F]
-- ==== MlpOut.lean ====
abbrev S8448x1024 : Shape := ⟨2, ![8448, 1024]⟩
abbrev S8448x4096 : Shape := ⟨2, ![8448, 4096]⟩
abbrev S1x4096x1024 : Shape := ⟨3, ![1, 4096, 1024]⟩
abbrev S1024 : Shape := ⟨1, ![1024]⟩
abbrev S1x8192x1024 : Shape := ⟨3, ![1, 8192, 1024]⟩
abbrev S8448x1 : Shape := ⟨2, ![8448, 1]⟩
abbrev S_ : Shape := ⟨0, ![]⟩
abbrev S33x8x32x1 : Shape := ⟨4, ![33, 8, 32, 1]⟩
abbrev S33x32x8x1 : Shape := ⟨4, ![33, 32, 8, 1]⟩
abbrev S8192x1024 : Shape := ⟨2, ![8192, 1024]⟩
abbrev S33x8x32x1024 : Shape := ⟨4, ![33, 8, 32, 1024]⟩
abbrev S33x32x8x1024 : Shape := ⟨4, ![33, 32, 8, 1024]⟩
abbrev S4096x1024 : Shape := ⟨2, ![4096, 1024]⟩
abbrev S1x1024 : Shape := ⟨2, ![1, 1024]⟩
abbrev S8x128 : Shape := ⟨2, ![8, 128]⟩
abbrev S384x1024 : Shape := ⟨2, ![384, 1024]⟩
abbrev S384x4096 : Shape := ⟨2, ![384, 4096]⟩
abbrev S384x1 : Shape := ⟨2, ![384, 1]⟩
abbrev S384 : Shape := ⟨1, ![384]⟩
abbrev S1 : Shape := ⟨1, ![1]⟩
abbrev S1x1 : Shape := ⟨2, ![1, 1]⟩

abbrev nBuf : Space → Nat
  | .hbm => 36
  | .vmem => 18
  | .smem => 0
  | _ => 0

abbrev bufTy : (tb : Table) → Fin (tcTables nBuf tb) → BufTy
  | .hbm, ⟨0, _⟩ => ⟨S8448x1024, .f32⟩
  | .hbm, ⟨1, _⟩ => ⟨S8448x4096, .f32⟩
  | .hbm, ⟨2, _⟩ => ⟨S1x4096x1024, .f32⟩
  | .hbm, ⟨3, _⟩ => ⟨S1024, .f32⟩
  | .hbm, ⟨4, _⟩ => ⟨S1x8192x1024, .f32⟩
  | .hbm, ⟨5, _⟩ => ⟨S8448x1, .i32⟩
  | .hbm, ⟨6, _⟩ => ⟨S_, .i32⟩
  | .hbm, ⟨7, _⟩ => ⟨S8448x1, .i32⟩
  | .hbm, ⟨8, _⟩ => ⟨S8448x1, .i1⟩
  | .hbm, ⟨9, _⟩ => ⟨S_, .i32⟩
  | .hbm, ⟨10, _⟩ => ⟨S8448x1, .i32⟩
  | .hbm, ⟨11, _⟩ => ⟨S8448x1, .i1⟩
  | .hbm, ⟨12, _⟩ => ⟨S8448x1, .i1⟩
  | .hbm, ⟨13, _⟩ => ⟨S8448x1, .f32⟩
  | .hbm, ⟨14, _⟩ => ⟨S33x8x32x1, .f32⟩
  | .hbm, ⟨15, _⟩ => ⟨S33x32x8x1, .f32⟩
  | .hbm, ⟨16, _⟩ => ⟨S8448x1, .f32⟩
  | .hbm, ⟨17, _⟩ => ⟨S8192x1024, .f32⟩
  | .hbm, ⟨18, _⟩ => ⟨S_, .i32⟩
  | .hbm, ⟨19, _⟩ => ⟨S_, .f32⟩
  | .hbm, ⟨20, _⟩ => ⟨S8448x1024, .f32⟩
  | .hbm, ⟨21, _⟩ => ⟨S33x8x32x1024, .f32⟩
  | .hbm, ⟨22, _⟩ => ⟨S33x32x8x1024, .f32⟩
  | .hbm, ⟨23, _⟩ => ⟨S8448x1024, .f32⟩
  | .hbm, ⟨24, _⟩ => ⟨S_, .f32⟩
  | .hbm, ⟨25, _⟩ => ⟨S8448x4096, .f32⟩
  | .hbm, ⟨26, _⟩ => ⟨S8448x4096, .f32⟩
  | .hbm, ⟨27, _⟩ => ⟨S8448x4096, .bf16⟩
  | .hbm, ⟨28, _⟩ => ⟨S4096x1024, .f32⟩
  | .hbm, ⟨29, _⟩ => ⟨S4096x1024, .bf16⟩
  | .hbm, ⟨30, _⟩ => ⟨S1x1024, .f32⟩
  | .hbm, ⟨31, _⟩ => ⟨S8x128, .f32⟩
  | .hbm, ⟨32, _⟩ => ⟨S8448x1024, .f32⟩
  | .hbm, ⟨33, _⟩ => ⟨S1x1024, .f32⟩
  | .hbm, ⟨34, _⟩ => ⟨S8448x4096, .bf16⟩
  | .hbm, ⟨35, _⟩ => ⟨S8448x1024, .bf16⟩
  | .local _ .vmem, ⟨0, _⟩ => ⟨S384x1024, .f32⟩
  | .local _ .vmem, ⟨1, _⟩ => ⟨S384x1024, .f32⟩
  | .local _ .vmem, ⟨2, _⟩ => ⟨S384x4096, .bf16⟩
  | .local _ .vmem, ⟨3, _⟩ => ⟨S384x4096, .bf16⟩
  | .local _ .vmem, ⟨4, _⟩ => ⟨S4096x1024, .bf16⟩
  | .local _ .vmem, ⟨5, _⟩ => ⟨S1x1024, .f32⟩
  | .local _ .vmem, ⟨6, _⟩ => ⟨S384x1024, .f32⟩
  | .local _ .vmem, ⟨7, _⟩ => ⟨S384x1024, .f32⟩
  | .local _ .vmem, ⟨8, _⟩ => ⟨S384x1, .f32⟩
  | .local _ .vmem, ⟨9, _⟩ => ⟨S384x1, .f32⟩
  | .local _ .vmem, ⟨10, _⟩ => ⟨S8x128, .f32⟩
  | .local _ .vmem, ⟨11, _⟩ => ⟨S384x1024, .f32⟩
  | .local _ .vmem, ⟨12, _⟩ => ⟨S384x1024, .f32⟩
  | .local _ .vmem, ⟨13, _⟩ => ⟨S1x1024, .f32⟩
  | .local _ .vmem, ⟨14, _⟩ => ⟨S384x4096, .bf16⟩
  | .local _ .vmem, ⟨15, _⟩ => ⟨S384x4096, .bf16⟩
  | .local _ .vmem, ⟨16, _⟩ => ⟨S384x1024, .bf16⟩
  | .local _ .vmem, ⟨17, _⟩ => ⟨S384x1024, .bf16⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v21_2 : Ref sig .tc := ⟨.hbm, 33, rfl⟩
abbrev main_v21_3 : Ref sig .tc := ⟨.hbm, 34, rfl⟩
abbrev main_v21_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v43 : BitVec 32 := Scalar.extui v0
  let c0_i32_18 : BitVec 32 := 0#32
  let v44 : BitVec 1 := Scalar.cmpi .ne v43 c0_i32_18
  v44

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v45 : BitVec 1 := Scalar.xori v0 v_true
  let v46 : BitVec 32 := Scalar.extui v45
  let c0_i32_19 : BitVec 32 := 0#32
  let v47 : BitVec 1 := Scalar.cmpi .ne v46 c0_i32_19
  v47

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v76 : BitVec 32 := Scalar.extui v0
  let c0_i32_29 : BitVec 32 := 0#32
  let v77 : BitVec 1 := Scalar.cmpi .ne v76 c0_i32_29
  v77

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_30 : BitVec 1 := 1#1
  let v78 : BitVec 1 := Scalar.xori v0 true_30
  let v79 : BitVec 32 := Scalar.extui v78
  let c0_i32_31 : BitVec 32 := 0#32
  let v80 : BitVec 1 := Scalar.cmpi .ne v79 c0_i32_31
  v80

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S384x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S384x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S384x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MlpOutRefIdeal.lean ====
abbrev S8448x1024 : Shape := ⟨2, ![8448, 1024]⟩
abbrev S8448x4096 : Shape := ⟨2, ![8448, 4096]⟩
abbrev S1x4096x1024 : Shape := ⟨3, ![1, 4096, 1024]⟩
abbrev S1024 : Shape := ⟨1, ![1024]⟩
abbrev S1x8192x1024 : Shape := ⟨3, ![1, 8192, 1024]⟩
abbrev S_ : Shape := ⟨0, ![]⟩
abbrev S4096x1024 : Shape := ⟨2, ![4096, 1024]⟩
abbrev S33x32x8x1024 : Shape := ⟨4, ![33, 32, 8, 1024]⟩
abbrev S33x8x32x1024 : Shape := ⟨4, ![33, 8, 32, 1024]⟩
abbrev S8208x1024 : Shape := ⟨2, ![8208, 1024]⟩
abbrev S8208 : Shape := ⟨1, ![8208]⟩
abbrev S8208x1 : Shape := ⟨2, ![8208, 1]⟩
abbrev S1x1024 : Shape := ⟨2, ![1, 1024]⟩
abbrev S8192x1024 : Shape := ⟨2, ![8192, 1024]⟩
abbrev S8192 : Shape := ⟨1, ![8192]⟩
abbrev S8x128 : Shape := ⟨2, ![8, 128]⟩

abbrev nBuf : Space → Nat
  | .hbm => 108
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x4096, .f32⟩
  | .hbm, ⟨2, _⟩ => ⟨S1x4096x1024, .f32⟩
  | .hbm, ⟨3, _⟩ => ⟨S1024, .f32⟩
  | .hbm, ⟨4, _⟩ => ⟨S1x8192x1024, .f32⟩
  | .hbm, ⟨5, _⟩ => ⟨S_, .f32⟩
  | .hbm, ⟨6, _⟩ => ⟨S8448x4096, .f32⟩
  | .hbm, ⟨7, _⟩ => ⟨S8448x4096, .f32⟩
  | .hbm, ⟨8, _⟩ => ⟨S_, .f32⟩
  | .hbm, ⟨9, _⟩ => ⟨S8448x4096, .f32⟩
  | .hbm, ⟨10, _⟩ => ⟨S8448x4096, .i1⟩
  | .hbm, ⟨11, _⟩ => ⟨S_, .f32⟩
  | .hbm, ⟨12, _⟩ => ⟨S8448x4096, .f32⟩
  | .hbm, ⟨13, _⟩ => ⟨S8448x4096, .f32⟩
  | .hbm, ⟨14, _⟩ => ⟨S4096x1024, .f32⟩
  | .hbm, ⟨15, _⟩ => ⟨S8448x1024, .f32⟩
  | .hbm, ⟨16, _⟩ => ⟨S8448x1024, .f32⟩
  | .hbm, ⟨17, _⟩ => ⟨S33x32x8x1024, .f32⟩
  | .hbm, ⟨18, _⟩ => ⟨S33x8x32x1024, .f32⟩
  | .hbm, ⟨19, _⟩ => ⟨S8448x1024, .f32⟩
  | .hbm, ⟨20, _⟩ => ⟨S8208x1024, .f32⟩
  | .hbm, ⟨21, _⟩ => ⟨S8208x1024, .f32⟩
  | .hbm, ⟨22, _⟩ => ⟨S_, .f32⟩
  | .hbm, ⟨23, _⟩ => ⟨S8208, .f32⟩
  | .hbm, ⟨24, _⟩ => ⟨S8208x1, .f32⟩
  | .hbm, ⟨25, _⟩ => ⟨S_, .f32⟩
  | .hbm, ⟨26, _⟩ => ⟨S8208x1, .f32⟩
  | .hbm, ⟨27, _⟩ => ⟨S8208x1, .f32⟩
  | .hbm, ⟨28, _⟩ => ⟨S_, .f32⟩
  | .hbm, ⟨29, _⟩ => ⟨S8208x1, .f32⟩
  | .hbm, ⟨30, _⟩ => ⟨S8208x1, .f32⟩
  | .hbm, ⟨31, _⟩ => ⟨S8208x1, .f32⟩
  | .hbm, ⟨32, _⟩ => ⟨S8208x1, .f32⟩
  | .hbm, ⟨33, _⟩ => ⟨S_, .f32⟩
  | .hbm, ⟨34, _⟩ => ⟨S8208x1, .f32⟩
  | .hbm, ⟨35, _⟩ => ⟨S8208x1, .f32⟩
  | .hbm, ⟨36, _⟩ => ⟨S8208x1024, .f32⟩
  | .hbm, ⟨37, _⟩ => ⟨S8208x1024, .f32⟩
  | .hbm, ⟨38, _⟩ => ⟨S1x1024, .f32⟩
  | .hbm, ⟨39, _⟩ => ⟨S8208x1024, .f32⟩
  | .hbm, ⟨40, _⟩ => ⟨S8208x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S8208x1024, .f32⟩
  | .hbm, ⟨67, _⟩ => ⟨S8208x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S8208x1024, .f32⟩
  | .hbm, ⟨72, _⟩ => ⟨S8208x1024, .f32⟩
  | .hbm, ⟨73, _⟩ => ⟨S_, .f32⟩
  | .hbm, ⟨74, _⟩ => ⟨S1024, .f32⟩
  | .hbm, ⟨75, _⟩ => ⟨S8208x1024, .f32⟩
  | .hbm, ⟨76, _⟩ => ⟨S_, .f32⟩
  | .hbm, ⟨77, _⟩ => ⟨S8208, .f32⟩
  | .hbm, ⟨78, _⟩ => ⟨S8208x1, .f32⟩
  | .hbm, ⟨79, _⟩ => ⟨S8208x1024, .f32⟩
  | .hbm, ⟨80, _⟩ => ⟨S8208x1024, .f32⟩
  | .hbm, ⟨81, _⟩ => ⟨S8208x1, .f32⟩
  | .hbm, ⟨82, _⟩ => ⟨S_, .f32⟩
  | .hbm, ⟨83, _⟩ => ⟨S8208x1, .f32⟩
  | .hbm, ⟨84, _⟩ => ⟨S8208x1, .f32⟩
  | .hbm, ⟨85, _⟩ => ⟨S_, .f32⟩
  | .hbm, ⟨86, _⟩ => ⟨S8208, .f32⟩
  | .hbm, ⟨87, _⟩ => ⟨S8208x1024, .f32⟩
  | .hbm, ⟨88, _⟩ => ⟨S8208x1024, .f32⟩
  | .hbm, ⟨89, _⟩ => ⟨S8208x1024, .f32⟩
  | .hbm, ⟨90, _⟩ => ⟨S8208x1024, .f32⟩
  | .hbm, ⟨91, _⟩ => ⟨S8208x1024, .f32⟩
  | .hbm, ⟨92, _⟩ => ⟨S_, .f32⟩
  | .hbm, ⟨93, _⟩ => ⟨S8448x1024, .f32⟩
  | .hbm, ⟨94, _⟩ => ⟨S33x8x32x1024, .f32⟩
  | .hbm, ⟨95, _⟩ => ⟨S33x32x8x1024, .f32⟩
  | .hbm, ⟨96, _⟩ => ⟨S8448x1024, .f32⟩
  | .hbm, ⟨97, _⟩ => ⟨S8448x4096, .f32⟩
  | .hbm, ⟨98, _⟩ => ⟨S8448x4096, .f32⟩
  | .hbm, ⟨99, _⟩ => ⟨S8448x4096, .f32⟩
  | .hbm, ⟨100, _⟩ => ⟨S8448x4096, .f32⟩
  | .hbm, ⟨101, _⟩ => ⟨S_, .f32⟩
  | .hbm, ⟨102, _⟩ => ⟨S8448x4096, .f32⟩
  | .hbm, ⟨103, _⟩ => ⟨S8448x4096, .f32⟩
  | .hbm, ⟨104, _⟩ => ⟨S8x128, .f32⟩
  | .hbm, ⟨105, _⟩ => ⟨S1x1024, .f32⟩
  | .hbm, ⟨106, _⟩ => ⟨S8448x4096, .bf16⟩
  | .hbm, ⟨107, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_cst_9 : Ref sig .tc := ⟨.hbm, 54, rfl⟩
abbrev main_cst_10 : Ref sig .tc := ⟨.hbm, 55, rfl⟩
abbrev main_v37 : Ref sig .tc := ⟨.hbm, 56, rfl⟩
abbrev main_v38 : Ref sig .tc := ⟨.hbm, 57, rfl⟩
abbrev main_cst_11 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_12 : Ref sig .tc := ⟨.hbm, 65, rfl⟩
abbrev main_v45 : Ref sig .tc := ⟨.hbm, 66, rfl⟩
abbrev main_v46 : Ref sig .tc := ⟨.hbm, 67, rfl⟩
abbrev main_cst_13 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_14 : Ref sig .tc := ⟨.hbm, 73, rfl⟩
abbrev main_v51 : Ref sig .tc := ⟨.hbm, 74, rfl⟩
abbrev main_v52 : Ref sig .tc := ⟨.hbm, 75, rfl⟩
abbrev main_cst_15 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_16 : Ref sig .tc := ⟨.hbm, 82, rfl⟩
abbrev main_v58 : Ref sig .tc := ⟨.hbm, 83, rfl⟩
abbrev main_v59 : Ref sig .tc := ⟨.hbm, 84, rfl⟩
abbrev main_cst_17 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_18 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_19 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]
-- ==== SsmParamBwd.lean ====
abbrev S1x2x32x64 : Shape := ⟨4, ![1, 2, 32, 64]⟩
abbrev S1x2x32 : Shape := ⟨3, ![1, 2, 32]⟩
abbrev S1x2x32x64x16 : Shape := ⟨5, ![1, 2, 32, 64, 16]⟩
abbrev S2x32x64 : Shape := ⟨3, ![2, 32, 64]⟩
abbrev S2x32x16x64 : Shape := ⟨4, ![2, 32, 16, 64]⟩
abbrev S2x32 : Shape := ⟨2, ![2, 32]⟩
abbrev S2x32x1 : Shape := ⟨3, ![2, 32, 1]⟩
abbrev S2x32x64x16 : Shape := ⟨4, ![2, 32, 64, 16]⟩
abbrev S1x32x64 : Shape := ⟨3, ![1, 32, 64]⟩
abbrev S1x32x1 : Shape := ⟨3, ![1, 32, 1]⟩
abbrev S1x32x16x64 : Shape := ⟨4, ![1, 32, 16, 64]⟩
abbrev S32x64 : Shape := ⟨2, ![32, 64]⟩
abbrev S32x1 : Shape := ⟨2, ![32, 1]⟩
abbrev S32x16x64 : Shape := ⟨3, ![32, 16, 64]⟩
abbrev S32x1x64 : Shape := ⟨3, ![32, 1, 64]⟩
abbrev S32 : Shape := ⟨1, ![32]⟩

abbrev nBuf : Space → Nat
  | .hbm => 22
  | .vmem => 28
  | .smem => 0
  | _ => 0

abbrev bufTy : (tb : Table) → Fin (tcTables nBuf tb) → BufTy
  | .hbm, ⟨0, _⟩ => ⟨S1x2x32x64, .f32⟩
  | .hbm, ⟨1, _⟩ => ⟨S1x2x32x64, .f32⟩
  | .hbm, ⟨2, _⟩ => ⟨S1x2x32, .f32⟩
  | .hbm, ⟨3, _⟩ => ⟨S1x2x32x64x16, .f32⟩
  | .hbm, ⟨4, _⟩ => ⟨S1x2x32x64x16, .f32⟩
  | .hbm, ⟨5, _⟩ => ⟨S2x32x64, .f32⟩
  | .hbm, ⟨6, _⟩ => ⟨S2x32x64, .f32⟩
  | .hbm, ⟨7, _⟩ => ⟨S2x32x16x64, .f32⟩
  | .hbm, ⟨8, _⟩ => ⟨S2x32x16x64, .f32⟩
  | .hbm, ⟨9, _⟩ => ⟨S2x32x64, .f32⟩
  | .hbm, ⟨10, _⟩ => ⟨S2x32x64, .f32⟩
  | .hbm, ⟨11, _⟩ => ⟨S2x32, .f32⟩
  | .hbm, ⟨12, _⟩ => ⟨S2x32x1, .f32⟩
  | .hbm, ⟨13, _⟩ => ⟨S2x32x64x16, .f32⟩
  | .hbm, ⟨14, _⟩ => ⟨S2x32x16x64, .f32⟩
  | .hbm, ⟨15, _⟩ => ⟨S2x32x64x16, .f32⟩
  | .hbm, ⟨16, _⟩ => ⟨S2x32x16x64, .f32⟩
  | .hbm, ⟨17, _⟩ => ⟨S2x32x64, .f32⟩
  | .hbm, ⟨18, _⟩ => ⟨S2x32x64, .f32⟩
  | .hbm, ⟨19, _⟩ => ⟨S2x32x1, .f32⟩
  | .hbm, ⟨20, _⟩ => ⟨S2x32x16x64, .f32⟩
  | .hbm, ⟨21, _⟩ => ⟨S2x32x16x64, .f32⟩
  | .local _ .vmem, ⟨0, _⟩ => ⟨S1x32x64, .f32⟩
  | .local _ .vmem, ⟨1, _⟩ => ⟨S1x32x64, .f32⟩
  | .local _ .vmem, ⟨2, _⟩ => ⟨S1x32x64, .f32⟩
  | .local _ .vmem, ⟨3, _⟩ => ⟨S1x32x64, .f32⟩
  | .local _ .vmem, ⟨4, _⟩ => ⟨S1x32x1, .f32⟩
  | .local _ .vmem, ⟨5, _⟩ => ⟨S1x32x1, .f32⟩
  | .local _ .vmem, ⟨6, _⟩ => ⟨S1x32x16x64, .f32⟩
  | .local _ .vmem, ⟨7, _⟩ => ⟨S1x32x16x64, .f32⟩
  | .local _ .vmem, ⟨8, _⟩ => ⟨S1x32x16x64, .f32⟩
  | .local _ .vmem, ⟨9, _⟩ => ⟨S1x32x16x64, .f32⟩
  | .local _ .vmem, ⟨10, _⟩ => ⟨S1x32x64, .f32⟩
  | .local _ .vmem, ⟨11, _⟩ => ⟨S1x32x64, .f32⟩
  | .local _ .vmem, ⟨12, _⟩ => ⟨S1x32x64, .f32⟩
  | .local _ .vmem, ⟨13, _⟩ => ⟨S1x32x64, .f32⟩
  | .local _ .vmem, ⟨14, _⟩ => ⟨S1x32x16x64, .f32⟩
  | .local _ .vmem, ⟨15, _⟩ => ⟨S1x32x16x64, .f32⟩
  | .local _ .vmem, ⟨16, _⟩ => ⟨S1x32x16x64, .f32⟩
  | .local _ .vmem, ⟨17, _⟩ => ⟨S1x32x16x64, .f32⟩
  | .local _ .vmem, ⟨18, _⟩ => ⟨S1x32x64, .f32⟩
  | .local _ .vmem, ⟨19, _⟩ => ⟨S1x32x64, .f32⟩
  | .local _ .vmem, ⟨20, _⟩ => ⟨S1x32x64, .f32⟩
  | .local _ .vmem, ⟨21, _⟩ => ⟨S1x32x64, .f32⟩
  | .local _ .vmem, ⟨22, _⟩ => ⟨S1x32x1, .f32⟩
  | .local _ .vmem, ⟨23, _⟩ => ⟨S1x32x1, .f32⟩
  | .local _ .vmem, ⟨24, _⟩ => ⟨S1x32x16x64, .f32⟩
  | .local _ .vmem, ⟨25, _⟩ => ⟨S1x32x16x64, .f32⟩
  | .local _ .vmem, ⟨26, _⟩ => ⟨S1x32x16x64, .f32⟩
  | .local _ .vmem, ⟨27, _⟩ => ⟨S1x32x16x64, .f32⟩
  | _, _ => ⟨S1x2x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x16x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x16x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x16x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x16x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x32x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x32x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x32x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x32x16x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x32x16x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== SsmParamBwdRefIdeal.lean ====
abbrev S1x2x32x64 : Shape := ⟨4, ![1, 2, 32, 64]⟩
abbrev S1x2x32 : Shape := ⟨3, ![1, 2, 32]⟩
abbrev S1x2x32x64x16 : Shape := ⟨5, ![1, 2, 32, 64, 16]⟩
abbrev S2x32x64 : Shape := ⟨3, ![2, 32, 64]⟩
abbrev S2x32x16x64 : Shape := ⟨4, ![2, 32, 16, 64]⟩
abbrev S2x32x64x16 : Shape := ⟨4, ![2, 32, 64, 16]⟩
abbrev S2x32 : Shape := ⟨2, ![2, 32]⟩
abbrev S2x32x1 : Shape := ⟨3, ![2, 32, 1]⟩
abbrev S_ : Shape := ⟨0, ![]⟩
abbrev S2x32x64x1 : Shape := ⟨4, ![2, 32, 64, 1]⟩

abbrev nBuf : Space → Nat
  | .hbm => 183
  | .vmem => 0
  | .smem => 0
  | _ => 0

abbrev hbmTy0_0 (i : Nat) : BufTy := match i % 128 with
  | 0 => ⟨S1x2x32x64, .f32⟩
  | 1 => ⟨S1x2x32x64, .f32⟩
  | 2 => ⟨S1x2x32, .f32⟩
  | 3 => ⟨S1x2x32x64x16, .f32⟩
  | 4 => ⟨S1x2x32x64x16, .f32⟩
  | 5 => ⟨S2x32x64, .f32⟩
  | 6 => ⟨S2x32x64, .f32⟩
  | 7 => ⟨S2x32x16x64, .f32⟩
  | 8 => ⟨S2x32x16x64, .f32⟩
  | 9 => ⟨S2x32x64x16, .f32⟩
  | 10 => ⟨S2x32x64x16, .f32⟩
  | 11 => ⟨S2x32x64, .f32⟩
  | 12 => ⟨S2x32x64, .f32⟩
  | 13 => ⟨S2x32, .f32⟩
  | 14 => ⟨S2x32x64x16, .f32⟩
  | 15 => ⟨S2x32x64x16, .f32⟩
  | 16 => ⟨S2x32, .f32⟩
  | 17 => ⟨S2x32x1, .f32⟩
  | 18 => ⟨S_, .f32⟩
  | 19 => ⟨S2x32x64, .f32⟩
  | 20 => ⟨S2x32x64, .f32⟩
  | 21 => ⟨S_, .f32⟩
  | 22 => ⟨S2x32x64, .f32⟩
  | 23 => ⟨S2x32x64, .i1⟩
  | 24 => ⟨S_, .f32⟩
  | 25 => ⟨S2x32x64, .f32⟩
  | 26 => ⟨S2x32x64, .i1⟩
  | 27 => ⟨S_, .f32⟩
  | 28 => ⟨S2x32x64, .f32⟩
  | 29 => ⟨S_, .f32⟩
  | 30 => ⟨S2x32x64, .f32⟩
  | 31 => ⟨S_, .f32⟩
  | 32 => ⟨S2x32x64, .f32⟩
  | 33 => ⟨S2x32x64, .f32⟩
  | 34 => ⟨S2x32x64, .f32⟩
  | 35 => ⟨S2x32x64, .f32⟩
  | 36 => ⟨S2x32x64, .f32⟩
  | 37 => ⟨S2x32x64, .f32⟩
  | 38 => ⟨S2x32x64, .f32⟩
  | 39 => ⟨S2x32x64, .f32⟩
  | 40 => ⟨S2x32x64, .f32⟩
  | 41 => ⟨S2x32x64, .f32⟩
  | 42 => ⟨S2x32x64, .f32⟩
  | 43 => ⟨S2x32x64, .f32⟩
  | 44 => ⟨S2x32x64, .f32⟩
  | 45 => ⟨S2x32x64, .f32⟩
  | 46 => ⟨S_, .f32⟩
  | 47 => ⟨S2x32x64, .f32⟩
  | 48 => ⟨S2x32x64, .f32⟩
  | 49 => ⟨S2x32x64, .f32⟩
  | 50 => ⟨S2x32x64, .f32⟩
  | 51 => ⟨S2x32x64, .f32⟩
  | 52 => ⟨S2x32x64, .f32⟩
  | 53 => ⟨S2x32x64, .f32⟩
  | 54 => ⟨S2x32x64, .f32⟩
  | 55 => ⟨S2x32x64, .f32⟩
  | 56 => ⟨S2x32x64, .f32⟩
  | 57 => ⟨S_, .f32⟩
  | 58 => ⟨S2x32x64, .f32⟩
  | 59 => ⟨S2x32x64, .f32⟩
  | 60 => ⟨S2x32x64, .f32⟩
  | 61 => ⟨S2x32x64, .f32⟩
  | 62 => ⟨S2x32x64, .f32⟩
  | 63 => ⟨S2x32x64, .f32⟩
  | 64 => ⟨S2x32x64, .f32⟩
  | 65 => ⟨S_, .f32⟩
  | 66 => ⟨S2x32x64, .f32⟩
  | 67 => ⟨S2x32x64, .f32⟩
  | 68 => ⟨S2x32x64x1, .f32⟩
  | 69 => ⟨S2x32x64x16, .f32⟩
  | 70 => ⟨S2x32x64x16, .f32⟩
  | 71 => ⟨S2x32x64x1, .f32⟩
  | 72 => ⟨S2x32x64x16, .f32⟩
  | 73 => ⟨S2x32x64x16, .f32⟩
  | 74 => ⟨S2x32x64x16, .f32⟩
  | 75 => ⟨S2x32x64x1, .f32⟩
  | 76 => ⟨S2x32x64x16, .f32⟩
  | 77 => ⟨S2x32x64x16, .f32⟩
  | 78 => ⟨S2x32x64x1, .f32⟩
  | 79 => ⟨S2x32x64x16, .f32⟩
  | 80 => ⟨S2x32x64x16, .f32⟩
  | 81 => ⟨S2x32x64x16, .f32⟩
  | 82 => ⟨S2x32x64x16, .f32⟩
  | 83 => ⟨S2x32x64x16, .f32⟩
  | 84 => ⟨S2x32x64x16, .f32⟩
  | 85 => ⟨S_, .f32⟩
  | 86 => ⟨S2x32x64, .f32⟩
  | 87 => ⟨S2x32x64x1, .f32⟩
  | 88 => ⟨S_, .f32⟩
  | 89 => ⟨S2x32x64, .f32⟩
  | 90 => ⟨S2x32x64x16, .f32⟩
  | 91 => ⟨S2x32x64x16, .f32⟩
  | 92 => ⟨S2x32x64x16, .f32⟩
  | 93 => ⟨S_, .f32⟩
  | 94 => ⟨S2x32x64, .f32⟩
  | 95 => ⟨S2x32x64x1, .f32⟩
  | 96 => ⟨S_, .f32⟩
  | 97 => ⟨S2x32x64, .f32⟩
  | 98 => ⟨S2x32x64x16, .f32⟩
  | 99 => ⟨S2x32x64x16, .f32⟩
  | 100 => ⟨S2x32x64x16, .f32⟩
  | 101 => ⟨S2x32x64x16, .f32⟩
  | 102 => ⟨S2x32x64x16, .f32⟩
  | 103 => ⟨S_, .f32⟩
  | 104 => ⟨S2x32x64, .f32⟩
  | 105 => ⟨S2x32x64x1, .f32⟩
  | 106 => ⟨S_, .f32⟩
  | 107 => ⟨S2x32x64, .f32⟩
  | 108 => ⟨S2x32x64, .f32⟩
  | 109 => ⟨S2x32x64x16, .f32⟩
  | 110 => ⟨S2x32x64x16, .f32⟩
  | 111 => ⟨S2x32x64x16, .f32⟩
  | 112 => ⟨S2x32x64x16, .f32⟩
  | 113 => ⟨S_, .f32⟩
  | 114 => ⟨S2x32x64, .f32⟩
  | 115 => ⟨S2x32x64x1, .f32⟩
  | 116 => ⟨S_, .f32⟩
  | 117 => ⟨S2x32x64, .f32⟩
  | 118 => ⟨S2x32x64, .f32⟩
  | 119 => ⟨S2x32x64, .f32⟩
  | 120 => ⟨S2x32x64, .f32⟩
  | 121 => ⟨S2x32x64, .f32⟩
  | 122 => ⟨S2x32x64, .f32⟩
  | 123 => ⟨S2x32x64, .f32⟩
  | 124 => ⟨S2x32x64, .f32⟩
  | 125 => ⟨S2x32x64, .f32⟩
  | 126 => ⟨S2x32x64, .f32⟩
  | 127 => ⟨S2x32x64, .f32⟩
  | _ => ⟨S1x2x32x64, .f32⟩

abbrev hbmTy0_1 (i : Nat) : BufTy := match i % 128 with
  | 0 => ⟨S2x32x64, .f32⟩
  | 1 => ⟨S2x32x64, .f32⟩
  | 2 => ⟨S2x32x64, .f32⟩
  | 3 => ⟨S2x32x64, .f32⟩
  | 4 => ⟨S2x32x64, .f32⟩
  | 5 => ⟨S2x32x64, .f32⟩
  | 6 => ⟨S2x32x64, .f32⟩
  | 7 => ⟨S2x32x64, .f32⟩
  | 8 => ⟨S2x32x64, .f32⟩
  | 9 => ⟨S2x32x64, .f32⟩
  | 10 => ⟨S2x32x64, .f32⟩
  | 11 => ⟨S2x32x64, .f32⟩
  | 12 => ⟨S2x32x64, .f32⟩
  | 13 => ⟨S2x32x64, .f32⟩
  | 14 => ⟨S2x32x64, .f32⟩
  | 15 => ⟨S2x32x64, .f32⟩
  | 16 => ⟨S2x32x64, .f32⟩
  | 17 => ⟨S2x32x64, .f32⟩
  | 18 => ⟨S2x32x64, .f32⟩
  | 19 => ⟨S2x32x64, .f32⟩
  | 20 => ⟨S2x32x64, .f32⟩
  | 21 => ⟨S2x32x64, .f32⟩
  | 22 => ⟨S2x32x64, .f32⟩
  | 23 => ⟨S2x32x64, .f32⟩
  | 24 => ⟨S2x32x64, .f32⟩
  | 25 => ⟨S2x32x64, .f32⟩
  | 26 => ⟨S2x32x64, .f32⟩
  | 27 => ⟨S2x32x64, .f32⟩
  | 28 => ⟨S2x32x64, .f32⟩
  | 29 => ⟨S2x32x64, .f32⟩
  | 30 => ⟨S2x32x64, .f32⟩
  | 31 => ⟨S2x32x64, .f32⟩
  | 32 => ⟨S2x32x64, .f32⟩
  | 33 => ⟨S_, .f32⟩
  | 34 => ⟨S2x32, .f32⟩
  | 35 => ⟨S2x32x1, .f32⟩
  | 36 => ⟨S2x32x64, .f32⟩
  | 37 => ⟨S2x32x64, .f32⟩
  | 38 => ⟨S2x32x64, .f32⟩
  | 39 => ⟨S2x32x64, .f32⟩
  | 40 => ⟨S2x32x64, .f32⟩
  | 41 => ⟨S_, .f32⟩
  | 42 => ⟨S2x32, .f32⟩
  | 43 => ⟨S2x32x1, .f32⟩
  | 44 => ⟨S2x32x1, .f32⟩
  | 45 => ⟨S2x32x64, .f32⟩
  | 46 => ⟨S2x32x64, .f32⟩
  | 47 => ⟨S2x32x64, .f32⟩
  | 48 => ⟨S2x32x64, .f32⟩
  | 49 => ⟨S_, .f32⟩
  | 50 => ⟨S2x32, .f32⟩
  | 51 => ⟨S2x32, .f32⟩
  | 52 => ⟨S2x32x1, .f32⟩
  | 53 => ⟨S2x32x16x64, .f32⟩
  | 54 => ⟨S2x32x16x64, .f32⟩
  | _ => ⟨S1x2x32x64, .f32⟩

abbrev hbmTy (i : Nat) : BufTy := match i / 128 with
  | 0 => hbmTy0_0 i
  | 1 => hbmTy0_1 i
  | _ => ⟨S1x2x32x64, .f32⟩

abbrev bufTy : (tb : Table) → Fin (tcTables nBuf tb) → BufTy
  | .hbm, ⟨i, _⟩ => hbmTy i
  | _, _ => ⟨S1x2x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_8 : Ref sig .tc := ⟨.hbm, 85, rfl⟩
abbrev main_v67 : Ref sig .tc := ⟨.hbm, 86, rfl⟩
abbrev main_v68 : Ref sig .tc := ⟨.hbm, 87, rfl⟩
abbrev main_cst_9 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_10 : Ref sig .tc := ⟨.hbm, 93, rfl⟩
abbrev main_v73 : Ref sig .tc := ⟨.hbm, 94, rfl⟩
abbrev main_v74 : Ref sig .tc := ⟨.hbm, 95, rfl⟩
abbrev main_cst_11 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_12 : Ref sig .tc := ⟨.hbm, 103, rfl⟩
abbrev main_v81 : Ref sig .tc := ⟨.hbm, 104, rfl⟩
abbrev main_v82 : Ref sig .tc := ⟨.hbm, 105, rfl⟩
abbrev main_cst_13 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_14 : Ref sig .tc := ⟨.hbm, 113, rfl⟩
abbrev main_v89 : Ref sig .tc := ⟨.hbm, 114, rfl⟩
abbrev main_v90 : Ref sig .tc := ⟨.hbm, 115, rfl⟩
abbrev main_cst_15 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_cst_16 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_cst_17 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_cst_18 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩

abbrev nD : Nat := 1
abbrev τ : Topo := Topo.v7x

variable {F : FTy → Type} [FloatOps F]
-- ==== GluBwd.lean ====
abbrev S8448x512 : Shape := ⟨2, ![8448, 512]⟩
abbrev S1x512 : Shape := ⟨2, ![1, 512]⟩
abbrev S1x512x512 : Shape := ⟨3, ![1, 512, 512]⟩
abbrev S512x512 : Shape := ⟨2, ![512, 512]⟩
abbrev S528x512 : Shape := ⟨2, ![528, 512]⟩
abbrev S512 : Shape := ⟨1, ![512]⟩

abbrev nBuf : Space → Nat
  | .hbm => 13
  | .vmem => 16
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x512, .f32⟩
  | .hbm, ⟨3, _⟩ => ⟨S8448x512, .f32⟩
  | .hbm, ⟨4, _⟩ => ⟨S1x512, .f32⟩
  | .hbm, ⟨5, _⟩ => ⟨S1x512x512, .f32⟩
  | .hbm, ⟨6, _⟩ => ⟨S1x512, .f32⟩
  | .hbm, ⟨7, _⟩ => ⟨S512x512, .f32⟩
  | .hbm, ⟨8, _⟩ => ⟨S512x512, .bf16⟩
  | .hbm, ⟨9, _⟩ => ⟨S8448x512, .f32⟩
  | .hbm, ⟨10, _⟩ => ⟨S512x512, .f32⟩
  | .hbm, ⟨11, _⟩ => ⟨S1x512, .f32⟩
  | .hbm, ⟨12, _⟩ => ⟨S1x512, .f32⟩
  | .local _ .vmem, ⟨0, _⟩ => ⟨S528x512, .f32⟩
  | .local _ .vmem, ⟨1, _⟩ => ⟨S528x512, .f32⟩
  | .local _ .vmem, ⟨2, _⟩ => ⟨S528x512, .f32⟩
  | .local _ .vmem, ⟨3, _⟩ => ⟨S528x512, .f32⟩
  | .local _ .vmem, ⟨4, _⟩ => ⟨S528x512, .f32⟩
  | .local _ .vmem, ⟨5, _⟩ => ⟨S528x512, .f32⟩
  | .local _ .vmem, ⟨6, _⟩ => ⟨S528x512, .f32⟩
  | .local _ .vmem, ⟨7, _⟩ => ⟨S528x512, .f32⟩
  | .local _ .vmem, ⟨8, _⟩ => ⟨S1x512, .f32⟩
  | .local _ .vmem, ⟨9, _⟩ => ⟨S512x512, .bf16⟩
  | .local _ .vmem, ⟨10, _⟩ => ⟨S1x512, .f32⟩
  | .local _ .vmem, ⟨11, _⟩ => ⟨S528x512, .f32⟩
  | .local _ .vmem, ⟨12, _⟩ => ⟨S528x512, .f32⟩
  | .local _ .vmem, ⟨13, _⟩ => ⟨S512x512, .f32⟩
  | .local _ .vmem, ⟨14, _⟩ => ⟨S1x512, .f32⟩
  | .local _ .vmem, ⟨15, _⟩ => ⟨S1x512, .f32⟩
  | _, _ => ⟨S8448x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v61 : BitVec 32 := Scalar.extui v0
  let c0_i32_31 : BitVec 32 := 0#32
  let v62 : BitVec 1 := Scalar.cmpi .ne v61 c0_i32_31
  v62

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v63 : BitVec 1 := Scalar.xori v0 v_true
  let v64 : BitVec 32 := Scalar.extui v63
  let c0_i32_32 : BitVec 32 := 0#32
  let v65 : BitVec 1 := Scalar.cmpi .ne v64 c0_i32_32
  v65

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v68 : BitVec 32 := Scalar.extui v0
  let c0_i32_34 : BitVec 32 := 0#32
  let v69 : BitVec 1 := Scalar.cmpi .ne v68 c0_i32_34
  v69

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_35 : BitVec 1 := 1#1
  let v70 : BitVec 1 := Scalar.xori v0 true_35
  let v71 : BitVec 32 := Scalar.extui v70
  let c0_i32_36 : BitVec 32 := 0#32
  let v72 : BitVec 1 := Scalar.cmpi .ne v71 c0_i32_36
  v72

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v76 : BitVec 32 := Scalar.extui v0
  let c0_i32_38 : BitVec 32 := 0#32
  let v77 : BitVec 1 := Scalar.cmpi .ne v76 c0_i32_38
  v77

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_39 : BitVec 1 := 1#1
  let v78 : BitVec 1 := Scalar.xori v0 true_39
  let v79 : BitVec 32 := Scalar.extui v78
  let c0_i32_40 : BitVec 32 := 0#32
  let v80 : BitVec 1 := Scalar.cmpi .ne v79 c0_i32_40
  v80

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S528x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S528x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S528x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S528x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S528x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== GluBwdRefIdeal.lean ====
abbrev S8448x512 : Shape := ⟨2, ![8448, 512]⟩
abbrev S1x512 : Shape := ⟨2, ![1, 512]⟩
abbrev S1x512x512 : Shape := ⟨3, ![1, 512, 512]⟩
abbrev S512 : Shape := ⟨1, ![512]⟩
abbrev S_ : Shape := ⟨0, ![]⟩
abbrev S512x512 : Shape := ⟨2, ![512, 512]⟩

abbrev nBuf : Space → Nat
  | .hbm => 80
  | .vmem => 0
  | .smem => 0
  | _ => 0

abbrev bufTy : (tb : Table) → Fin (tcTables nBuf tb) → BufTy
  | .hbm, ⟨0, _⟩ => ⟨S8448x512, .f32⟩
  | .hbm, ⟨1, _⟩ => ⟨S8448x512, .f32⟩
  | .hbm, ⟨2, _⟩ => ⟨S8448x512, .f32⟩
  | .hbm, ⟨3, _⟩ => ⟨S8448x512, .f32⟩
  | .hbm, ⟨4, _⟩ => ⟨S1x512, .f32⟩
  | .hbm, ⟨5, _⟩ => ⟨S1x512x512, .f32⟩
  | .hbm, ⟨6, _⟩ => ⟨S1x512, .f32⟩
  | .hbm, ⟨7, _⟩ => ⟨S512, .f32⟩
  | .hbm, ⟨8, _⟩ => ⟨S1x512, .f32⟩
  | .hbm, ⟨9, _⟩ => ⟨S8448x512, .f32⟩
  | .hbm, ⟨10, _⟩ => ⟨S8448x512, .f32⟩
  | .hbm, ⟨11, _⟩ => ⟨S8448x512, .f32⟩
  | .hbm, ⟨12, _⟩ => ⟨S8448x512, .f32⟩
  | .hbm, ⟨13, _⟩ => ⟨S_, .f32⟩
  | .hbm, ⟨14, _⟩ => ⟨S8448x512, .f32⟩
  | .hbm, ⟨15, _⟩ => ⟨S8448x512, .f32⟩
  | .hbm, ⟨16, _⟩ => ⟨S8448x512, .f32⟩
  | .hbm, ⟨17, _⟩ => ⟨S_, .f32⟩
  | .hbm, ⟨18, _⟩ => ⟨S8448x512, .f32⟩
  | .hbm, ⟨19, _⟩ => ⟨S8448x512, .f32⟩
  | .hbm, ⟨20, _⟩ => ⟨S8448x512, .f32⟩
  | .hbm, ⟨21, _⟩ => ⟨S8448x512, .f32⟩
  | .hbm, ⟨22, _⟩ => ⟨S8448x512, .f32⟩
  | .hbm, ⟨23, _⟩ => ⟨S8448x512, .f32⟩
  | .hbm, ⟨24, _⟩ => ⟨S8448x512, .f32⟩
  | .hbm, ⟨25, _⟩ => ⟨S512x512, .f32⟩
  | .hbm, ⟨26, _⟩ => ⟨S8448x512, .f32⟩
  | .hbm, ⟨27, _⟩ => ⟨S512, .f32⟩
  | .hbm, ⟨28, _⟩ => ⟨S1x512, .f32⟩
  | .hbm, ⟨29, _⟩ => ⟨S8448x512, .f32⟩
  | .hbm, ⟨30, _⟩ => ⟨S8448x512, .f32⟩
  | .hbm, ⟨31, _⟩ => ⟨S8448x512, .f32⟩
  | .hbm, ⟨32, _⟩ => ⟨S8448x512, .f32⟩
  | .hbm, ⟨33, _⟩ => ⟨S_, .f32⟩
  | .hbm, ⟨34, _⟩ => ⟨S8448x512, .f32⟩
  | .hbm, ⟨35, _⟩ => ⟨S8448x512, .f32⟩
  | .hbm, ⟨36, _⟩ => ⟨S_, .f32⟩
  | .hbm, ⟨37, _⟩ => ⟨S8448x512, .f32⟩
  | .hbm, ⟨38, _⟩ => ⟨S8448x512, .f32⟩
  | .hbm, ⟨39, _⟩ => ⟨S_, .f32⟩
  | .hbm, ⟨40, _⟩ => ⟨S8448x512, .f32⟩
  | .hbm, ⟨41, _⟩ => ⟨S8448x512, .f32⟩
  | .hbm, ⟨42, _⟩ => ⟨S8448x512, .f32⟩
  | .hbm, ⟨43, _⟩ => ⟨S8448x512, .f32⟩
  | .hbm, ⟨44, _⟩ => ⟨S8448x512, .f32⟩
  | .hbm, ⟨45, _⟩ => ⟨S8448x512, .f32⟩
  | .hbm, ⟨46, _⟩ => ⟨S8448x512, .f32⟩
  | .hbm, ⟨47, _⟩ => ⟨S_, .f32⟩
  | .hbm, ⟨48, _⟩ => ⟨S512, .f32⟩
  | .hbm, ⟨49, _⟩ => ⟨S1x512, .f32⟩
  | .hbm, ⟨50, _⟩ => ⟨S_, .f32⟩
  | .hbm, ⟨51, _⟩ => ⟨S512, .f32⟩
  | .hbm, ⟨52, _⟩ => ⟨S1x512, .f32⟩
  | .hbm, ⟨53, _⟩ => ⟨S512x512, .f32⟩
  | .hbm, ⟨54, _⟩ => ⟨S512x512, .f32⟩
  | .hbm, ⟨55, _⟩ => ⟨S8448x512, .f32⟩
  | .hbm, ⟨56, _⟩ => ⟨S8448x512, .f32⟩
  | .hbm, ⟨57, _⟩ => ⟨S1x512x512, .f32⟩
  | .hbm, ⟨58, _⟩ => ⟨S8448x512, .f32⟩
  | .hbm, ⟨59, _⟩ => ⟨S8448x512, .f32⟩
  | .hbm, ⟨60, _⟩ => ⟨S_, .f32⟩
  | .hbm, ⟨61, _⟩ => ⟨S8448x512, .f32⟩
  | .hbm, ⟨62, _⟩ => ⟨S8448x512, .f32⟩
  | .hbm, ⟨63, _⟩ => ⟨S8448x512, .f32⟩
  | .hbm, ⟨64, _⟩ => ⟨S_, .f32⟩
  | .hbm, ⟨65, _⟩ => ⟨S8448x512, .f32⟩
  | .hbm, ⟨66, _⟩ => ⟨S8448x512, .f32⟩
  | .hbm, ⟨67, _⟩ => ⟨S8448x512, .f32⟩
  | .hbm, ⟨68, _⟩ => ⟨S_, .f32⟩
  | .hbm, ⟨69, _⟩ => ⟨S8448x512, .f32⟩
  | .hbm, ⟨70, _⟩ => ⟨S8448x512, .f32⟩
  | .hbm, ⟨71, _⟩ => ⟨S8448x512, .f32⟩
  | .hbm, ⟨72, _⟩ => ⟨S8448x512, .f32⟩
  | .hbm, ⟨73, _⟩ => ⟨S_, .f32⟩
  | .hbm, ⟨74, _⟩ => ⟨S512, .f32⟩
  | .hbm, ⟨75, _⟩ => ⟨S1x512, .f32⟩
  | .hbm, ⟨76, _⟩ => ⟨S_, .f32⟩
  | .hbm, ⟨77, _⟩ => ⟨S512, .f32⟩
  | .hbm, ⟨78, _⟩ => ⟨S1x512, .f32⟩
  | .hbm, ⟨79, _⟩ => ⟨S512x512, .f32⟩
  | _, _ => ⟨S8448x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩

abbrev nD : Nat := 1
abbrev τ : Topo := Topo.v7x

variable {F : FTy → Type} [FloatOps F]
-- ==== Proof.Reals.lean ====
module

public import Idealize.ShloMosaic.Lib.Pointwise
public import Idealize.ShloMosaic.Lib.ReduceAll
public import Idealize.ShloMosaic.PureOps

@[expose] public section

/-
  Shared by the calls: finite entries (extended reals that are reals), the finiteness preconditions read off the printed
  predicates, and re-indexings of finite sums.
-/

noncomputable section

namespace Cert.Proof

open Idealize.ShloMosaic

/-- An extended real that is a real. -/
def IsReal (x : EReal) : Prop := ∃ r : ℝ, x = (r : EReal)

theorem isReal_coe (r : ℝ) : IsReal (r : EReal) := ⟨r, rfl⟩

/-- The casts commute with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.sub {x y : EReal} : IsReal x → IsReal y → IsReal (x - y)
  | ⟨a, ha⟩, ⟨b, hb⟩ => ⟨a - b, by rw [ha, hb, EReal.coe_sub]⟩

theorem IsReal.sum {ι : Type*} {s : Finset ι} {f : ι → EReal} (h : ∀ i, IsReal (f i)) : IsReal (∑ i ∈ s, f i) := by
  choose g hg using h
  exact ⟨∑ i ∈ s, g i, by rw [coe_sum]; exact Finset.sum_congr rfl fun i _ => hg i⟩

/-- A real less itself is zero. -/
theorem IsReal.sub_self {x : EReal} : IsReal x → x - x = 0
  | ⟨a, ha⟩ => by rw [ha, ← EReal.coe_sub, _root_.sub_self, EReal.coe_zero]

/-- The logistic function of any extended real is a real. -/
theorem isReal_logistic (x : EReal) : IsReal (Ideal.div 1 (1 + Ideal.exp (-x))) := by
  have key (r : ℝ) (hr : 0 < r) : IsReal (Ideal.div 1 (r : EReal)) := by
    refine ⟨r⁻¹, ?_⟩
    rw [Ideal.div, if_neg (by exact_mod_cast hr.ne'), one_mul, EReal.coe_inv]
  induction x with
  | bot =>
    refine ⟨0, ?_⟩
    have : (1 : EReal) + Ideal.exp (-⊥) = ⊤ := by rw [EReal.neg_bot, Ideal.exp_top]; rfl
    rw [this, Ideal.div, if_neg (by decide), EReal.inv_top, mul_zero, EReal.coe_zero]
  | top =>
    have : (1 : EReal) + Ideal.exp (-⊤) = ((1 : ℝ) : EReal) := by rw [EReal.neg_top, Ideal.exp_bot, add_zero, EReal.coe_one]
    rw [this]; exact key 1 one_pos
  | coe r =>
    have : (1 : EReal) + Ideal.exp (-(r : EReal)) = ((1 + Real.exp (-r) : ℝ) : EReal) := by
      rw [← EReal.coe_neg, EReal.coe_add, EReal.coe_one]; rfl
    rw [this]; exact key _ (by positivity)

/-- Smaller than `⊤` in absolute value: a real. -/
theorem isReal_of_absf_lt {x : EReal} (h : max x (-x) < ⊤) : IsReal x := by
  induction x with
  | bot => simp at h
  | top => simp at h
  | coe r => exact isReal_coe r

theorem ofBits_inf : Ideal.ofBits .f32 0x7F800000#32 = ⊤ := by
  show Ideal.ieee 8 23 0x7F800000#32 = ⊤
  rw [Ideal.ieee, if_pos (by decide), if_pos (by decide), if_neg (by decide)]

/-- The predicate `all (|x| < ∞)` as it is printed, holding of `x`, makes every entry of `x` a real. -/
theorem isReal_of_all {s t : Shape} {axes : List (Fin s.rank)} [Subsingleton t.Idx] (x : FVec Ideal s .f32)
    (hb : (⟨0, ![]⟩ : Shape).BroadcastsInDim s (![] : Fin 0 → Fin s.rank)) (init : (⟨0, ![]⟩ : Shape).Idx → BitVec 1) (h : s.ReducesTo axes t)
    (hu : 0 < (⟨0, ![]⟩ : Shape).numel) (j : t.Idx)
    (e : Host.reduce IntOp.andi (cmpf .olt (Host.absf x) (broadcastInDim s ![] hb (constant ⟨0, ![]⟩ .f32 0x7F800000#32))) init h hu j = 1#1)
    (i : s.Idx) : IsReal (x i) := by
  have := Host.reduce_andi_all _ init h hu j e i
  have e2 : cmpf .olt (Host.absf x) (broadcastInDim s ![] hb (constant ⟨0, ![]⟩ .f32 0x7F800000#32)) i
      = BitVec.ofBool (decide (max (x i) (-(x i)) < Ideal.ofBits .f32 0x7F800000#32)) := rfl
  rw [e2, ofBits_inf] at this
  refine isReal_of_absf_lt (of_decide_eq_true ?_)
  cases hd : decide (max (x i) (-(x i)) < ⊤) with
  | true => rfl
  | false => rw [hd] at this; exact absurd this (by decide)

/-- A conjunction of bits is one exactly when both are. -/
theorem andi_one {s : Shape} {x y : IVec s 1} {i : s.Idx} (h : andi x y i = 1#1) : x i = 1#1 ∧ y i = 1#1 := by
  have key : ∀ a b : BitVec 1, IntOp.andi a b = 1#1 → a = 1#1 ∧ b = 1#1 := by decide
  exact key _ _ h

/-- A sum over four consecutive runs of `n` places. -/
theorem sum_four {M : Type*} [AddCommMonoid M] {n N : Nat} (hN : N = n + n + n + n) (f : Fin N → M) :
    ∑ x, f x = ∑ x : Fin n, f ⟨x.val, by omega⟩ + ∑ x : Fin n, f ⟨n + x.val, by omega⟩ + ∑ x : Fin n, f ⟨n + n + x.val, by omega⟩
      + ∑ x : Fin n, f ⟨n + n + n + x.val, by omega⟩ := by
  subst hN
  rw [Fin.sum_univ_add, Fin.sum_univ_add, Fin.sum_univ_add]
  rfl

/-- A sum over `a` runs of `b` places, run by run. -/
theorem sum_runs {M : Type*} [AddCommMonoid M] {a b N : Nat} (hN : N = a * b) (f : Fin N → M) :
    ∑ x, f x = ∑ i : Fin a, ∑ k : Fin b, f ⟨i.val * b + k.val, by
      have := i.isLt; have := k.isLt; rw [hN]; calc i.val * b + k.val < (i.val + 1) * b := by rw [Nat.succ_mul]; omega
        _ ≤ a * b := Nat.mul_le_mul_right b (by omega)⟩ := by
  subst hN
  rw [← Fintype.sum_prod_type', ← finProdFinEquiv.sum_comp]
  refine Finset.sum_congr rfl fun p _ => congrArg f (Fin.ext ?_)
  show p.2.val + b * p.1.val = _
  rw [Nat.mul_comm, Nat.add_comm]

/-- Of a sum over `a` runs of `b` places, the places of run `g` alone. -/
theorem sum_run {M : Type*} [AddCommMonoid M] {a b N : Nat} (hN : N = a * b) (hb : 0 < b) (f : Fin N → M) (g : Fin a) :
    (∑ x : Fin N, if x.val / b = g.val then f x else 0) = ∑ k : Fin b, f ⟨g.val * b + k.val, by
      have := g.isLt; have := k.isLt; rw [hN]; calc g.val * b + k.val < (g.val + 1) * b := by rw [Nat.succ_mul]; omega
        _ ≤ a * b := Nat.mul_le_mul_right b (by omega)⟩ := by
  rw [sum_runs hN]
  rw [Finset.sum_eq_single g]
  · refine Finset.sum_congr rfl fun k _ => if_pos ?_
    show (g.val * b + k.val) / b = g.val
    rw [Nat.mul_comm, Nat.mul_add_div hb, Nat.div_eq_of_lt k.isLt, Nat.add_zero]
  · intro i _ hi
    refine Finset.sum_eq_zero fun k _ => if_neg ?_
    show ¬ (i.val * b + k.val) / b = g.val
    rw [Nat.mul_comm, Nat.mul_add_div hb, Nat.div_eq_of_lt k.isLt, Nat.add_zero]
    exact fun e => hi (Fin.ext e)
  · intro h; exact absurd (Finset.mem_univ g) h

end Cert.Proof

end
-- ==== Proof.MergeBwd.lean ====
module

public import proofs.«01_k».proof.Defs
public import proofs.«01_k».proof.Proof.Gen.MergeBwdIdeal
public import proofs.«01_k».proof.Proof.Gen.MergeBwdIdeal.Value
public import proofs.«01_k».proof.Proof.Gen.MergeBwdRefIdeal.Read
public import Idealize.ShloMosaic.Lib.Pointwise
public import Idealize.ShloMosaic.Lib.Pipeline.ValueKit
public import proofs.«01_k».proof.Proof.Gen.MergeBwdRefIdeal.Run
public import proofs.«01_k».proof.Proof.Gen.Pre_merge_bwd_finite
public import proofs.«01_k».proof.Proof.Reals

@[expose] public section

set_option maxRecDepth 16384
set_option maxHeartbeats 1000000

noncomputable section

namespace Cert.Proof.MergeBwd

open Idealize.ShloMosaic Idealize.ShloMosaic.TcCoe Idealize.SL.Sem
open Cert.MergeBwdIdeal Cert.MergeBwdIdeal.Gen
open Idealize.ShloMosaic.Pipeline (Dat)

variable (m : (ℓ : Loc nD τ sig) → Buf (Elt Ideal) ℓ) (c : Dev nD)

/-- Every moving window is at row block `t`, every resident one at the origin. -/
theorem idx : ∀ t : Fin cfg0.N, win0_0.index t = ![t.val, 0] ∧ win0_1.index t = ![t.val, 0] ∧ win0_2.index t = ![t.val, 0]
    ∧ win0_3.index t = ![t.val, 0] ∧ win0_4.index t = ![0, 0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![0, 0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0])

/-! The argument arrays, as arrays of extended reals. -/

def a0 : S8448x1024.Idx → EReal := m ((c : Thread nD τ).loc main_arg0)
def a1 : S8448x512.Idx → EReal := m ((c : Thread nD τ).loc main_arg1)
def a2 : S8448x1024.Idx → EReal := m ((c : Thread nD τ).loc main_arg2)
def a3 : S8448x2048.Idx → EReal := m ((c : Thread nD τ).loc main_arg3)
def a4 : S1x512x1024.Idx → EReal := m ((c : Thread nD τ).loc main_arg4)
def a5 : S1x1024x1024.Idx → EReal := m ((c : Thread nD τ).loc main_arg5)
def a6 : S1x1024x1024.Idx → EReal := m ((c : Thread nD τ).loc main_arg6)

/-- The row of the array that row `r` of block `t` is. -/
abbrev row (t : Fin cfg0.N) (r : Fin 384) : Fin 8448 := ⟨t.val * 384 + r.val, by have : t.val < 22 := t.isLt; omega⟩

/-- Window 0, read at a place of its block. -/
theorem rd0 (t : Fin cfg0.N) (r : Fin 384) (k : Fin 1024) : iblk m c 0 t (ix2 r k) = a0 m c (ix2 (row t r) k) := by
  blk_point [iblk, (idx t).1]

/-- Window 1, read at a place of its block. -/
theorem rd1 (t : Fin cfg0.N) (r : Fin 384) (k : Fin 512) : iblk m c 1 t (ix2 r k) = a1 m c (ix2 (row t r) k) := by
  blk_point [iblk, (idx t).2.1]

/-- Window 2, read at a place of its block. -/
theorem rd2 (t : Fin cfg0.N) (r : Fin 384) (k : Fin 1024) : iblk m c 2 t (ix2 r k) = a2 m c (ix2 (row t r) k) := by
  blk_point [iblk, (idx t).2.2.1]

/-- Window 3, read at a place of its block. -/
theorem rd3 (t : Fin cfg0.N) (r : Fin 384) (k : Fin 2048) : iblk m c 3 t (ix2 r k) = a3 m c (ix2 (row t r) k) := by
  blk_point [iblk, (idx t).2.2.2.1]

/-- Window 4, read at a place of its block. -/
theorem rd4 (t : Fin cfg0.N) (s : Fin 4) (r : Fin 512) (k : Fin 256) : iblk m c 4 t (ix3 s r k) = a4 m c (ix3 0 r ⟨s.val * 256 + k.val, by omega⟩) := by
  blk_point [iblk, (idx t).2.2.2.2.1]

/-- Window 5, read at a place of its block. -/
theorem rd5 (t : Fin cfg0.N) (r k : Fin 1024) : iblk m c 5 t (ix2 r k) = a5 m c (ix3 0 r k) := by
  blk_point [iblk, (idx t).2.2.2.2.2.1]

/-- Window 6, read at a place of its block. -/
theorem rd6 (t : Fin cfg0.N) (r k : Fin 1024) : iblk m c 6 t (ix2 r k) = a6 m c (ix3 0 r k) := by
  blk_point [iblk, (idx t).2.2.2.2.2.2.1]

/-- The place in the array of a place of window 7. -/
theorem em7 (t : Fin cfg0.N) (r : Fin 1024) (k : Fin 512) : ((View.whole main_v12).slice (win0_7.rect t)).emb (ix2 r k) = ix2 r k := by
  blk_point [(idx t).2.2.2.2.2.2.2.1]

/-- The head-selection words, decided: head `a` is lane `l` of group `g`. -/
theorem sel_word : ∀ (a : Fin 16) (g : Fin 4) (l : Fin 128),
    IntOp.andi (IntOp.cmpi .eq (BitVec.ofNat 32 a) (IntOp.addi (IntOp.muli (BitVec.ofNat 32 g) 4#32) (BitVec.ofNat 32 l))) (IntOp.cmpi .slt (BitVec.ofNat 32 l) 4#32)
      = BitVec.ofBool (decide (a.val = g.val * 4 + l.val ∧ l.val < 4)) := by decide +kernel

/-- Window 7, read at a place of its block. -/
theorem rd7 (t : Fin cfg0.N) (r : Fin 1024) (k : Fin 512) :
    iblk m c 7 t (ix2 r k) = (if r.val / 64 = k.val / 128 * 4 + k.val % 128 ∧ k.val % 128 < 4 then (1 : EReal) else 0) := by
  blk_simp [iblk, (idx t).2.2.2.2.2.2.2.1]
  entry_read
  pointwise
  rw [em7]
  have e := sel_word ⟨r.val / 64, by omega⟩ ⟨k.val / 128, by omega⟩ ⟨k.val % 128, by omega⟩
  dsimp only at e
  show FloatOps.sitofp FTy.bf16 (BitVec.setWidth 32 (IntOp.andi (IntOp.cmpi .eq (BitVec.ofNat 32 (r.val / 64)) (IntOp.addi (IntOp.muli (BitVec.ofNat 32 (k.val / 128)) 4#32) (BitVec.ofNat 32 (k.val % 128)))) (IntOp.cmpi .slt (BitVec.ofNat 32 (k.val % 128)) 4#32))) = _
  rw [e]
  by_cases h : r.val / 64 = k.val / 128 * 4 + k.val % 128 ∧ k.val % 128 < 4
  · rw [if_pos h, decide_eq_true h]; show (((BitVec.setWidth 32 (BitVec.ofBool true)).toInt : ℝ) : EReal) = 1; simp
  · rw [if_neg h, decide_eq_false h]; show (((BitVec.setWidth 32 (BitVec.ofBool false)).toInt : ℝ) : EReal) = 0; simp

/-- The place in the array of a place of window 8. -/
theorem em8 (t : Fin cfg0.N) (r : Fin 384) (k : Fin 2048) : ((View.whole main_v23_0).slice (win0_8.rect t)).emb (ix2 r k) = ix2 (row t r) k := by
  blk_point [(idx t).2.2.2.2.2.2.2.2.1]

/-- The place in the array of a place of window 9. -/
theorem em9 (t : Fin cfg0.N) (r : Fin 384) (k : Fin 1024) : ((View.whole main_v23_1).slice (win0_9.rect t)).emb (ix2 r k) = ix2 (row t r) k := by
  blk_point [(idx t).2.2.2.2.2.2.2.2.2.1]

/-- The place in the array of a place of window 10. -/
theorem em10 (t : Fin cfg0.N) (r : Fin 384) (k : Fin 1024) : ((View.whole main_v23_2).slice (win0_10.rect t)).emb (ix2 r k) = ix2 (row t r) k := by
  blk_point [(idx t).2.2.2.2.2.2.2.2.2.2.1]

/-- The place in the array of a place of window 11. -/
theorem em11 (t : Fin cfg0.N) (r : Fin 384) (k : Fin 512) : ((View.whole main_v23_3).slice (win0_11.rect t)).emb (ix2 r k) = ix2 (row t r) k := by
  blk_point [(idx t).2.2.2.2.2.2.2.2.2.2.2.1]

/-- The place in the array of a place of window 12. -/
theorem em12 (t : Fin cfg0.N) (r : Fin 384) (k : Fin 1024) : ((View.whole main_v23_4).slice (win0_12.rect t)).emb (ix2 r k) = ix2 (row t r) k := by
  blk_point [(idx t).2.2.2.2.2.2.2.2.2.2.2.2.1]

/-- The place in the array of a place of window 13. -/
theorem em13 (t : Fin cfg0.N) (r : Fin 384) (k : Fin 512) : ((View.whole main_v23_5).slice (win0_13.rect t)).emb (ix2 r k) = ix2 (row t r) k := by
  blk_point [(idx t).2.2.2.2.2.2.2.2.2.2.2.2.2.1]

/-- The place in the array of a place of window 14. -/
theorem em14 (t : Fin cfg0.N) (r : Fin 384) (k : Fin 1024) : ((View.whole main_v23_6).slice (win0_14.rect t)).emb (ix2 r k) = ix2 (row t r) k := by
  blk_point [(idx t).2.2.2.2.2.2.2.2.2.2.2.2.2.2]

/-- `dgates` is the derivative at the two gates, column half by column half. -/
theorem dgates : (Gen.dats m 0 c).arrAt 8 (cfgs 0).N
    = MergeBwdRefIdeal.Read.val_main_v47 (a0 m c) (a1 m c) (a2 m c) (a3 m c) (a4 m c) (a5 m c) (a6 m c) := by
  refine (Gen.dats m 0 c).arrAt_eq_of_covers 8 _ (by decide +kernel) fun t hf y => ?_
  blk_simp
  rw [after0_8]
  frame_out
  idx_vars y
  rw [em8]
  refine View.canon_eq_of_allAt _ _ _ (View.cover_of_tiled_head _ _ _ rfl _) ?_
  refine View.allAt_cons _ _ _ (fun x hx => ?_) (View.allAt_cons _ _ _ (fun x hx => ?_) (View.allAt_nil _ _))
  have ht : t.val < 22 := t.isLt
  all_goals (
    idx_vars x
    unfold_payloads
    pointwise [MergeBwdRefIdeal.Read.val_main_v0, MergeBwdRefIdeal.Read.val_main_v1, MergeBwdRefIdeal.Read.val_main_v2, MergeBwdRefIdeal.Read.val_main_v3, MergeBwdRefIdeal.Read.val_main_v4, MergeBwdRefIdeal.Read.val_main_v5, MergeBwdRefIdeal.Read.val_main_v6, MergeBwdRefIdeal.Read.val_main_cst, MergeBwdRefIdeal.Read.val_main_v7, MergeBwdRefIdeal.Read.val_main_v8, MergeBwdRefIdeal.Read.val_main_cst_0, MergeBwdRefIdeal.Read.val_main_v9, MergeBwdRefIdeal.Read.val_main_v10, MergeBwdRefIdeal.Read.val_main_cst_1, MergeBwdRefIdeal.Read.val_main_v11, MergeBwdRefIdeal.Read.val_main_v12, MergeBwdRefIdeal.Read.val_main_v13, MergeBwdRefIdeal.Read.val_main_v15, MergeBwdRefIdeal.Read.val_main_v16, MergeBwdRefIdeal.Read.val_main_v17, MergeBwdRefIdeal.Read.val_main_cst_2, MergeBwdRefIdeal.Read.val_main_v18, MergeBwdRefIdeal.Read.val_main_v19, MergeBwdRefIdeal.Read.val_main_cst_3, MergeBwdRefIdeal.Read.val_main_v20, MergeBwdRefIdeal.Read.val_main_v21, MergeBwdRefIdeal.Read.val_main_cst_4, MergeBwdRefIdeal.Read.val_main_v22, MergeBwdRefIdeal.Read.val_main_v23, MergeBwdRefIdeal.Read.val_main_v24, MergeBwdRefIdeal.Read.val_main_v27, MergeBwdRefIdeal.Read.val_main_v29, MergeBwdRefIdeal.Read.val_main_v31, MergeBwdRefIdeal.Read.val_main_v32, MergeBwdRefIdeal.Read.val_main_cst_5, MergeBwdRefIdeal.Read.val_main_v33, MergeBwdRefIdeal.Read.val_main_v35, MergeBwdRefIdeal.Read.val_main_v36, MergeBwdRefIdeal.Read.val_main_cst_6, MergeBwdRefIdeal.Read.val_main_v37, MergeBwdRefIdeal.Read.val_main_v38, MergeBwdRefIdeal.Read.val_main_v47]
    have e0 : 0 + 1 * x0.val = y0.val := congrArg (fun i => (i 0).val) hx
    obtain rfl : x0 = y0 := Fin.ext (by omega))
  · have e1 : 1024 + 1 * x1.val = y1.val := congrArg (fun i => (i 1).val) hx
    have hl : 1024 + x1.val < 2048 := by omega
    obtain rfl : y1 = ⟨1024 + x1.val, hl⟩ := Fin.ext (by show y1.val = 1024 + x1.val; omega)
    rw [dif_pos (by dsimp only; omega), dif_neg (by dsimp only; omega), add_zero]
    simp only [rd0, rd2, rd3, rd5, rd6, zero_sub, mul_assoc, Nat.add_sub_cancel_left]
  · have e1 : 0 + 1 * x1.val = y1.val := congrArg (fun i => (i 1).val) hx
    have hl : y1.val < 1024 := by omega
    obtain rfl : x1 = ⟨y1.val, hl⟩ := Fin.ext (by show x1.val = y1.val; omega)
    have n1 : ¬ (t.val * 384 + x0.val < 8448 ∧ 1024 ≤ y1.val ∧ y1.val - 1024 < 1024) := by omega
    have p1 : t.val * 384 + x0.val < 8448 ∧ y1.val < 1024 := ⟨by have : t.val < 22 := t.isLt; omega, hl⟩
    rw [dif_neg n1, dif_pos p1]
    refine Eq.trans ?_ (zero_add (M := EReal) _).symm
    simp only [rd0, rd1, rd3, rd4, rd6, zero_sub]
    rw [mul_assoc]
    refine congrArg₂ (· * ·) (congrArg₂ (· * ·) rfl ?_) rfl
    rcases Nat.lt_or_ge y1.val 256 with h1 | h1
    · rw [dif_pos h1]
      refine Finset.sum_congr rfl fun k _ => congrArg (fun q => _ * a4 m c (ix3 0 k q)) (Fin.ext ?_)
      show 0 * 256 + y1.val = y1.val
      clear hf hx e1 n1 p1
      omega
    rcases Nat.lt_or_ge y1.val 512 with h2 | h2
    · rw [dif_neg (Nat.not_lt.2 h1), dif_pos (show y1.val - 256 < 256 by omega)]
      refine Finset.sum_congr rfl fun k _ => congrArg (fun q => _ * a4 m c (ix3 0 k q)) (Fin.ext ?_)
      show 1 * 256 + (y1.val - 256) = y1.val
      clear hf hx e1 n1 p1
      omega
    rcases Nat.lt_or_ge y1.val 768 with h3 | h3
    · rw [dif_neg (Nat.not_lt.2 h1), dif_neg (show ¬ y1.val - 256 < 256 by omega), dif_pos (show y1.val - 256 - 256 < 256 by omega)]
      refine Finset.sum_congr rfl fun k _ => congrArg (fun q => _ * a4 m c (ix3 0 k q)) (Fin.ext ?_)
      show 2 * 256 + (y1.val - 256 - 256) = y1.val
      clear hf hx e1 n1 p1
      omega
    · rw [dif_neg (Nat.not_lt.2 h1), dif_neg (show ¬ y1.val - 256 < 256 by omega), dif_neg (show ¬ y1.val - 256 - 256 < 256 by omega)]
      refine Finset.sum_congr rfl fun k _ => congrArg (fun q => _ * a4 m c (ix3 0 k q)) (Fin.ext ?_)
      show 3 * 256 + (y1.val - 256 - 256 - 256) = y1.val
      clear hf hx e1 n1 p1
      omega

/-- `dms` is the derivative at the recurrence's projection. -/
theorem dms : (Gen.dats m 0 c).arrAt 9 (cfgs 0).N
    = MergeBwdRefIdeal.Read.val_main_v48 (a0 m c) (a3 m c) (a6 m c) := by
  refine (Gen.dats m 0 c).arrAt_eq_of_covers 9 _ (by decide +kernel) fun t hf y => ?_
  blk_simp
  rw [after0_9]
  frame_out
  idx_vars y
  rw [em9]
  unfold_payloads
  pointwise [MergeBwdRefIdeal.Read.val_main_v4, MergeBwdRefIdeal.Read.val_main_v5, MergeBwdRefIdeal.Read.val_main_v6, MergeBwdRefIdeal.Read.val_main_cst, MergeBwdRefIdeal.Read.val_main_v7, MergeBwdRefIdeal.Read.val_main_v8, MergeBwdRefIdeal.Read.val_main_cst_0, MergeBwdRefIdeal.Read.val_main_v9, MergeBwdRefIdeal.Read.val_main_v10, MergeBwdRefIdeal.Read.val_main_v27, MergeBwdRefIdeal.Read.val_main_v29, MergeBwdRefIdeal.Read.val_main_v34, MergeBwdRefIdeal.Read.val_main_v48]
  simp only [rd0, rd1, rd2, rd3, rd4, rd5, rd6]
  rw [zero_sub, mul_comm]

/-- `dma` is the derivative at the attention's projection. -/
theorem dma : (Gen.dats m 0 c).arrAt 10 (cfgs 0).N
    = MergeBwdRefIdeal.Read.val_main_v49 (a0 m c) (a3 m c) (a6 m c) := by
  refine (Gen.dats m 0 c).arrAt_eq_of_covers 10 _ (by decide +kernel) fun t hf y => ?_
  blk_simp
  rw [after0_10]
  frame_out
  idx_vars y
  rw [em10]
  unfold_payloads
  pointwise [MergeBwdRefIdeal.Read.val_main_v15, MergeBwdRefIdeal.Read.val_main_v16, MergeBwdRefIdeal.Read.val_main_v17, MergeBwdRefIdeal.Read.val_main_cst_2, MergeBwdRefIdeal.Read.val_main_v18, MergeBwdRefIdeal.Read.val_main_v19, MergeBwdRefIdeal.Read.val_main_cst_3, MergeBwdRefIdeal.Read.val_main_v20, MergeBwdRefIdeal.Read.val_main_v21, MergeBwdRefIdeal.Read.val_main_v27, MergeBwdRefIdeal.Read.val_main_v29, MergeBwdRefIdeal.Read.val_main_v30, MergeBwdRefIdeal.Read.val_main_v49]
  simp only [rd0, rd1, rd2, rd3, rd4, rd5, rd6]
  rw [zero_sub, mul_comm]

/-- `dy`, four partial products summed, is the derivative at the recurrence's output. -/
theorem dy : (Gen.dats m 0 c).arrAt 11 (cfgs 0).N
    = MergeBwdRefIdeal.Read.val_main_v40 (a0 m c) (a3 m c) (a4 m c) (a6 m c) := by
  refine (Gen.dats m 0 c).arrAt_eq_of_covers 11 _ (by decide +kernel) fun t hf y => ?_
  blk_simp
  rw [after0_11]
  frame_out
  idx_vars y
  rw [em11]
  unfold_payloads
  pointwise [MergeBwdRefIdeal.Read.val_main_v0, MergeBwdRefIdeal.Read.val_main_v4, MergeBwdRefIdeal.Read.val_main_v5, MergeBwdRefIdeal.Read.val_main_v6, MergeBwdRefIdeal.Read.val_main_cst, MergeBwdRefIdeal.Read.val_main_v7, MergeBwdRefIdeal.Read.val_main_v8, MergeBwdRefIdeal.Read.val_main_cst_0, MergeBwdRefIdeal.Read.val_main_v9, MergeBwdRefIdeal.Read.val_main_v10, MergeBwdRefIdeal.Read.val_main_v27, MergeBwdRefIdeal.Read.val_main_v29, MergeBwdRefIdeal.Read.val_main_v34, MergeBwdRefIdeal.Read.val_main_v40]
  simp only [rd0, rd1, rd2, rd3, rd4, rd5, rd6]
  rw [sum_four (n := 256) rfl]
  simp only [zero_sub]
  refine congrArg₂ (· + ·) (congrArg₂ (· + ·) (congrArg₂ (· + ·) ?_ ?_) ?_) ?_ <;> refine Finset.sum_congr rfl fun k _ => ?_
  · rw [mul_comm (∑ x, _)]; exact congrArg (fun q => _ * _ * a4 m c (ix3 0 y1 q)) (Fin.ext (by show 0 * 256 + k.val = k.val; omega))
  all_goals rw [mul_comm (∑ x, _)]; rfl

/-- `do` is the derivative at the attention's output. -/
theorem do_ : (Gen.dats m 0 c).arrAt 12 (cfgs 0).N
    = MergeBwdRefIdeal.Read.val_main_v50 (a0 m c) (a3 m c) (a5 m c) (a6 m c) := by
  refine (Gen.dats m 0 c).arrAt_eq_of_covers 12 _ (by decide +kernel) fun t hf y => ?_
  blk_simp
  rw [after0_12]
  frame_out
  idx_vars y
  rw [em12]
  unfold_payloads
  pointwise [MergeBwdRefIdeal.Read.val_main_v2, MergeBwdRefIdeal.Read.val_main_v15, MergeBwdRefIdeal.Read.val_main_v16, MergeBwdRefIdeal.Read.val_main_v17, MergeBwdRefIdeal.Read.val_main_cst_2, MergeBwdRefIdeal.Read.val_main_v18, MergeBwdRefIdeal.Read.val_main_v19, MergeBwdRefIdeal.Read.val_main_cst_3, MergeBwdRefIdeal.Read.val_main_v20, MergeBwdRefIdeal.Read.val_main_v21, MergeBwdRefIdeal.Read.val_main_v27, MergeBwdRefIdeal.Read.val_main_v29, MergeBwdRefIdeal.Read.val_main_v30, MergeBwdRefIdeal.Read.val_main_v39, MergeBwdRefIdeal.Read.val_main_v50]
  simp only [rd0, rd1, rd2, rd3, rd4, rd5, rd6]
  change @Eq EReal _ _
  refine Finset.sum_congr rfl fun k _ => ?_
  rw [zero_sub, mul_comm (∑ x, _)]

/-- `delta`, whose product is split in a high and a low part, is the row sum of `do · o` of each head: on reals the low part is zero. -/
theorem delta (h0 : ∀ i, IsReal (a0 m c i)) (h2 : ∀ i, IsReal (a2 m c i))
    (h5 : ∀ i, IsReal (a5 m c i)) (h6 : ∀ i, IsReal (a6 m c i)) : (Gen.dats m 0 c).arrAt 13 (cfgs 0).N
    = MergeBwdRefIdeal.Read.val_main_v46 (a0 m c) (a2 m c) (a3 m c) (a5 m c) (a6 m c) := by
  refine (Gen.dats m 0 c).arrAt_eq_of_covers 13 _ (by decide +kernel) fun t hf y => ?_
  blk_simp
  rw [after0_13]
  frame_out
  idx_vars y
  rw [em13]
  unfold_payloads
  pointwise [MergeBwdRefIdeal.Read.val_main_v2, MergeBwdRefIdeal.Read.val_main_v15, MergeBwdRefIdeal.Read.val_main_v16, MergeBwdRefIdeal.Read.val_main_v17, MergeBwdRefIdeal.Read.val_main_cst_2, MergeBwdRefIdeal.Read.val_main_v18, MergeBwdRefIdeal.Read.val_main_v19, MergeBwdRefIdeal.Read.val_main_cst_3, MergeBwdRefIdeal.Read.val_main_v20, MergeBwdRefIdeal.Read.val_main_v21, MergeBwdRefIdeal.Read.val_main_v27, MergeBwdRefIdeal.Read.val_main_v29, MergeBwdRefIdeal.Read.val_main_v30, MergeBwdRefIdeal.Read.val_main_v39, MergeBwdRefIdeal.Read.val_main_v41, MergeBwdRefIdeal.Read.val_main_v42, MergeBwdRefIdeal.Read.val_main_cst_7, MergeBwdRefIdeal.Read.val_main_v43, MergeBwdRefIdeal.Read.val_main_v44, MergeBwdRefIdeal.Read.val_main_c, MergeBwdRefIdeal.Read.val_main_call0_v0, MergeBwdRefIdeal.Read.val_main_v45, MergeBwdRefIdeal.Read.val_main_v46]
  simp only [rd0, rd1, rd2, rd3, rd4, rd5, rd6, rd7, zero_sub]
  change @Eq EReal _ _
  have hX : ∀ x : Fin 1024, IsReal ((∑ x_1 : Fin 1024, (∑ x : Fin 1024, a0 m c (ix2 (row t y0) x) * a6 m c (ix3 0 x_1 x))
      * Ideal.div 1 (1 + Ideal.exp (-a3 m c (ix2 (row t y0) ⟨1024 + x_1.val, by omega⟩)))
      * a5 m c (ix3 0 x x_1)) * a2 m c (ix2 (row t y0) x)) := fun x =>
    (IsReal.sum fun i => ((IsReal.sum fun j => (h0 _).mul (h6 _)).mul (isReal_logistic _)).mul (h5 _)).mul (h2 _)
  simp only [(hX _).sub_self, zero_mul, Finset.sum_const_zero, add_zero, mul_ite, mul_one, mul_zero]
  split_ifs with h
  · have hs := sum_run (a := 16) (b := 64) (N := 1024) rfl (by omega) (fun x : Fin 1024 => (∑ x_1 : Fin 1024, (∑ x : Fin 1024, a0 m c (ix2 (row t y0) x) * a6 m c (ix3 0 x_1 x))
      * Ideal.div 1 (1 + Ideal.exp (-a3 m c (ix2 (row t y0) ⟨1024 + x_1.val, by omega⟩))) * a5 m c (ix3 0 x x_1)) * a2 m c (ix2 (row t y0) x))
      ⟨y1.val / 128 * 4 + y1.val % 128, by omega⟩
    simp only [h.2.2, and_true, ite_self, Finset.sum_const_zero, add_zero]
    refine hs.trans (Finset.sum_congr rfl fun k _ => congrArg (· * _) (Finset.sum_congr rfl fun l _ => congrArg (· * _) (mul_comm _ _)))
  · have ht : t.val < 22 := t.isLt
    have h' : ¬ y1.val % 128 < 4 := fun h' => h ⟨by omega, by omega, h'⟩
    simp only [h', and_false, if_false, Finset.sum_const_zero, add_zero]
    show (0 : EReal) = (((0#32 : BitVec 32).toInt : ℝ) : EReal)
    simp

/-- The rounded cotangent is the cotangent. -/
theorem dh1 : (Gen.dats m 0 c).arrAt 14 (cfgs 0).N
    = MergeBwdRefIdeal.Read.val_main_v51 (a0 m c) := by
  refine (Gen.dats m 0 c).arrAt_eq_of_covers 14 _ (by decide +kernel) fun t hf y => ?_
  blk_simp
  rw [after0_14]
  frame_out
  idx_vars y
  rw [em14]
  unfold_payloads
  pointwise [MergeBwdRefIdeal.Read.val_main_v51]
  exact rd0 m c t y0 y1

/-- The precondition makes every entry of the cotangent, of the attention's output and of two weights a real. -/
theorem reals (h : Pre_MergeBwdIdeal_merge_bwd_finite m) : (∀ i, IsReal (a0 m c i)) ∧ (∀ i, IsReal (a2 m c i)) ∧ (∀ i, IsReal (a5 m c i)) ∧ (∀ i, IsReal (a6 m c i)) := by
  have e := congrFun (h c) (fun a => a.elim0)
  obtain ⟨e, h6⟩ := andi_one e
  obtain ⟨e, h5⟩ := andi_one e
  obtain ⟨h0, h2⟩ := andi_one e
  exact ⟨isReal_of_all _ _ _ _ _ _ h0, isReal_of_all _ _ _ _ _ _ h2, isReal_of_all _ _ _ _ _ _ h5, isReal_of_all _ _ _ _ _ _ h6⟩

/-- The backward of the merge: every result of the call is the reference's. -/
theorem algebraic : algebraic_MergeBwdIdeal_MergeBwdRefIdeal_pre_merge_bwd_finite := by
  intro m g m' g' hp hm
  refine ⟨_, _, _, _, _, _, _, Value.run_blocks m g, (θ_run MergeBwdRefIdeal.defs _ _).mono (fun r h c => ?_) (MergeBwdRefIdeal.Value.run m' g')⟩
  obtain ⟨e0, e1, e2, e3, e4, e5, e6⟩ := hm c
  have f := reals m c hp
  exact ⟨
    ((h c).1).trans ((MergeBwdRefIdeal.Read.val_main_v47_eq _ _ _ _ _ _ _).trans (by rw [e0, e1, e2, e3, e4, e5, e6]; exact (dgates m c).symm)),
    ((h c).2.1).trans ((MergeBwdRefIdeal.Read.val_main_v48_eq _ _ _).trans (by rw [e0, e3, e6]; exact (dms m c).symm)),
    ((h c).2.2.1).trans ((MergeBwdRefIdeal.Read.val_main_v49_eq _ _ _).trans (by rw [e0, e3, e6]; exact (dma m c).symm)),
    ((h c).2.2.2.1).trans ((MergeBwdRefIdeal.Read.val_main_v40_eq _ _ _ _).trans (by rw [e0, e3, e4, e6]; exact (dy m c).symm)),
    ((h c).2.2.2.2.1).trans ((MergeBwdRefIdeal.Read.val_main_v50_eq _ _ _ _).trans (by rw [e0, e3, e5, e6]; exact (do_ m c).symm)),
    ((h c).2.2.2.2.2.1).trans ((MergeBwdRefIdeal.Read.val_main_v46_eq _ _ _ _ _).trans (by rw [e0, e2, e3, e5, e6]; exact (delta m c f.1 f.2.1 f.2.2.1 f.2.2.2).symm)),
    ((h c).2.2.2.2.2.2.1).trans ((MergeBwdRefIdeal.Read.val_main_v51_eq _).trans (by rw [e0]; exact (dh1 m c).symm)),
    (h c).2.2.2.2.2.2.2⟩

/-- The reference runs, leaves its arguments as they were and declares no semaphore. -/
theorem ref_frame : quiescent_MergeBwdRefIdeal := fun m ρ _ =>
  (θ_run MergeBwdRefIdeal.defs _ _).mono (fun r h => ⟨fun c => (h c).2.2.2.2.2.2.2, sem_eq_zero_of_no_sems (by decide) r.2⟩) (MergeBwdRefIdeal.Value.run m ρ)

/-- The claims of the merge's backward. -/
theorem claims : quiescent_MergeBwdIdeal ∧ quiescent_MergeBwdIdeal_pre_merge_bwd_finite ∧ quiescent_MergeBwdRefIdeal
    ∧ quiescent_MergeBwdRefIdeal_pre_merge_bwd_finite ∧ preserves_MergeBwd_MergeBwdIdeal ∧ algebraic_MergeBwdIdeal_MergeBwdRefIdeal_pre_merge_bwd_finite :=
  ⟨fun m ρ _ => Gen.frame m ρ, fun m ρ _ => Gen.frame m ρ, ref_frame, fun m ρ _ => ref_frame m ρ trivial, trivial, algebraic⟩

end Cert.Proof.MergeBwd

end
-- ==== Proof.AttnMath.lean ====
module

public import proofs.«01_k».proof.Proof.Reals
public import Mathlib.Analysis.SpecialFunctions.Log.Basic

@[expose] public section

/-
  The real numbers behind the attention's gradients: the order of the rows, the two ways to write the gradients of a
  softmax, and one step of the running softmax.
-/

noncomputable section

namespace Cert.Proof.Attn

open Idealize.ShloMosaic Cert.Proof

/-- The place in the natural order of the row that stands at `n` in the step's order. -/
def nat (n : Fin 8448) : ℕ := n.val / 256 * 256 + n.val % 8 * 32 + n.val / 8 % 32

theorem nat_lt (n : Fin 8448) : nat n < 8448 := by have := n.isLt; unfold nat; omega

/-- Three digits to the bases 8 and 32, read back from either writing. -/
theorem digits (a b c : ℕ) (hb : b < 8) (hc : c < 32) :
    (a * 256 + b * 32 + c) / 256 * 256 + (a * 256 + b * 32 + c) % 32 * 8 + (a * 256 + b * 32 + c) / 32 % 8 = a * 256 + c * 8 + b := by
  have h1 : (a * 256 + b * 32 + c) / 256 = a := by omega
  have h2 : (a * 256 + b * 32 + c) % 32 = c := by omega
  have h3 : (a * 256 + b * 32 + c) / 32 = a * 8 + b := by omega
  rw [h1, h2, h3]; omega

theorem digits' (a b c : ℕ) (hb : b < 8) (hc : c < 32) :
    (a * 256 + c * 8 + b) / 256 * 256 + (a * 256 + c * 8 + b) % 8 * 32 + (a * 256 + c * 8 + b) / 8 % 32 = a * 256 + b * 32 + c := by
  have h1 : (a * 256 + c * 8 + b) / 256 = a := by omega
  have h2 : (a * 256 + c * 8 + b) % 8 = b := by omega
  have h3 : (a * 256 + c * 8 + b) / 8 = a * 32 + c := by omega
  rw [h1, h2, h3]; omega

/-- The two orders are a permutation of each other. -/
def order : Fin 8448 ≃ Fin 8448 where
  toFun n := ⟨nat n, nat_lt n⟩
  invFun p := ⟨p.val / 256 * 256 + p.val % 32 * 8 + p.val / 32 % 8, by have := p.isLt; omega⟩
  left_inv n := Fin.ext ((digits _ _ _ (by omega) (by omega)).trans (by omega))
  right_inv p := Fin.ext ((digits' _ _ _ (by omega) (by omega)).trans (by omega))

/-- A row of the argument in the step's order, zero in the padding. -/
def pd {M : Type*} [Zero M] (f : Fin 8208 → M) (n : Fin 8448) : M := if h : nat n < 8208 then f ⟨nat n, h⟩ else 0

/-- A sum over `a` places and `b` more that hold nothing. -/
theorem sum_head {M : Type*} [AddCommMonoid M] {a b : ℕ} (f : Fin a → M) :
    (∑ p : Fin (a + b), if h : p.val < a then f ⟨p.val, h⟩ else 0) = ∑ i, f i := by
  rw [Fin.sum_univ_add]
  have h0 : (∑ i : Fin b, if h : (Fin.natAdd a i).val < a then f ⟨(Fin.natAdd a i).val, h⟩ else 0) = 0 :=
    Finset.sum_eq_zero fun i _ => dif_neg (by simp)
  rw [h0, add_zero]
  exact Finset.sum_congr rfl fun i _ => dif_pos i.isLt

/-- A sum over the padded rows in the step's order is the sum over the rows. -/
theorem sum_pd {M : Type*} [AddCommMonoid M] (f : Fin 8208 → M) : ∑ n, pd f n = ∑ i, f i := by
  exact (Equiv.sum_comp order (fun p : Fin 8448 => if h : p.val < 8208 then f ⟨p.val, h⟩ else 0)).trans (sum_head (b := 240) f)

/-- The arguments' entries as reals. -/
structure Args where
  q : Fin 8208 → Fin 16 → Fin 64 → ℝ
  k : Fin 8208 → Fin 4 → Fin 64 → ℝ
  v : Fin 8208 → Fin 4 → Fin 64 → ℝ
  o : Fin 8208 → Fin 1024 → ℝ

/-- Query head `h` of group `g`. -/
abbrev hd (g h : Fin 4) : Fin 16 := ⟨g.val * 4 + h.val, by omega⟩
/-- Feature `d` of query head `h` of group `g`, in the row of all heads. -/
abbrev ft (g h : Fin 4) (d : Fin 64) : Fin 1024 := ⟨(g.val * 4 + h.val) * 64 + d.val, by omega⟩

namespace Args
variable (A : Args)

/-! ### In the natural order -/

def S (g h : Fin 4) (i j : Fin 8208) : ℝ := ∑ d, A.k j g d * A.q i (hd g h) d
def den (g h : Fin 4) (i : Fin 8208) : ℝ := ∑ j, Real.exp (A.S g h i j)
def P (g h : Fin 4) (i j : Fin 8208) : ℝ := Real.exp (A.S g h i j) / A.den g h i
def DP (g h : Fin 4) (i j : Fin 8208) : ℝ := ∑ d, A.o i (ft g h d) * A.v j g d
def DS (g h : Fin 4) (i j : Fin 8208) : ℝ := A.P g h i j * (A.DP g h i j - ∑ j', A.DP g h i j' * A.P g h i j')
def DQ (g h : Fin 4) (d : Fin 64) (i : Fin 8208) : ℝ := ∑ j, A.DS g h i j * A.k j g d
def DK (g : Fin 4) (d : Fin 64) (j : Fin 8208) : ℝ := ∑ h, ∑ i, A.DS g h i j * A.q i (hd g h) d
def DV (g : Fin 4) (d : Fin 64) (j : Fin 8208) : ℝ := ∑ h, ∑ i, A.P g h i j * A.o i (ft g h d)

/-! ### In the step's order, padded -/

def Q (n : Fin 8448) (h : Fin 16) (d : Fin 64) : ℝ := pd (fun i => A.q i h d) n
def K (n : Fin 8448) (g : Fin 4) (d : Fin 64) : ℝ := pd (fun i => A.k i g d) n
def V (n : Fin 8448) (g : Fin 4) (d : Fin 64) : ℝ := pd (fun i => A.v i g d) n
def O (n : Fin 8448) (x : Fin 1024) : ℝ := pd (fun i => A.o i x) n
def s (g h : Fin 4) (n k : Fin 8448) : ℝ := ∑ d, A.K k g d * A.Q n (hd g h) d
def E (g h : Fin 4) (n k : Fin 8448) : ℝ := if nat k < 8208 then Real.exp (A.s g h n k) else 0
def Z (g h : Fin 4) (n : Fin 8448) : ℝ := ∑ k, A.E g h n k
def W (g h : Fin 4) (n : Fin 8448) (d : Fin 64) : ℝ := ∑ k, A.E g h n k * A.V k g d
def D (g h : Fin 4) (n : Fin 8448) : ℝ := ∑ d, A.O n (ft g h d) * (A.W g h n d / A.Z g h n)
def p (g h : Fin 4) (n k : Fin 8448) : ℝ := A.E g h n k / A.Z g h n
def ds (g h : Fin 4) (n k : Fin 8448) : ℝ := A.p g h n k * ((∑ d, A.O n (ft g h d) * A.V k g d) - A.D g h n)

theorem E_nonneg (g h n k) : 0 ≤ A.E g h n k := by unfold E; split <;> positivity

theorem Z_pos (g h n) : 0 < A.Z g h n := by
  refine Finset.sum_pos' (fun k _ => A.E_nonneg g h n k) ⟨0, Finset.mem_univ _, ?_⟩
  unfold E
  rw [if_pos (by decide)]
  positivity

theorem den_pos (g h i) : 0 < A.den g h i :=
  Finset.sum_pos (fun j _ => Real.exp_pos _) ⟨0, Finset.mem_univ _⟩

theorem pd_pos {M : Type*} [Zero M] (f : Fin 8208 → M) {n : Fin 8448} (h : nat n < 8208) : pd f n = f ⟨nat n, h⟩ := dif_pos h
theorem pd_neg {M : Type*} [Zero M] (f : Fin 8208 → M) {n : Fin 8448} (h : ¬ nat n < 8208) : pd f n = 0 := dif_neg h

/-- At a row that is not padding: the sums over the keys are those of the natural order. -/
theorem E_eq (g h k) {n : Fin 8448} (hn : nat n < 8208) : A.E g h n k = pd (fun j => Real.exp (A.S g h ⟨nat n, hn⟩ j)) k := by
  unfold E
  split
  next hk => rw [pd_pos _ hk]; unfold s S K Q; simp only [pd_pos _ hk, pd_pos _ hn]
  next hk => rw [pd_neg _ hk]

theorem Z_eq (g h) {n : Fin 8448} (hn : nat n < 8208) : A.Z g h n = A.den g h ⟨nat n, hn⟩ := by
  unfold Z den
  rw [Finset.sum_congr rfl fun k _ => A.E_eq g h k hn, sum_pd]

theorem p_eq (g h k) {n : Fin 8448} (hn : nat n < 8208) : A.p g h n k = pd (fun j => A.P g h ⟨nat n, hn⟩ j) k := by
  unfold p P
  rw [A.E_eq g h k hn, A.Z_eq g h hn]
  by_cases hk : nat k < 8208
  · rw [pd_pos _ hk, pd_pos _ hk]
  · rw [pd_neg _ hk, pd_neg _ hk, zero_div]

theorem D_eq (g h) {n : Fin 8448} (hn : nat n < 8208) :
    A.D g h n = ∑ j, A.DP g h ⟨nat n, hn⟩ j * A.P g h ⟨nat n, hn⟩ j := by
  unfold D
  have e (d : Fin 64) : A.W g h n d / A.Z g h n = ∑ j, A.P g h ⟨nat n, hn⟩ j * A.v j g d := by
    unfold W
    rw [Finset.sum_div, ← sum_pd]
    refine Finset.sum_congr rfl fun k _ => ?_
    rw [mul_div_right_comm, show A.E g h n k / A.Z g h n = A.p g h n k from rfl, A.p_eq g h k hn]
    unfold V
    by_cases hk : nat k < 8208
    · rw [pd_pos _ hk, pd_pos _ hk, pd_pos _ hk]
    · rw [pd_neg _ hk, pd_neg _ hk, pd_neg _ hk, zero_mul]
  simp only [e, Finset.mul_sum, DP, Finset.sum_mul]
  rw [Finset.sum_comm]
  refine Finset.sum_congr rfl fun j _ => Finset.sum_congr rfl fun d _ => ?_
  unfold O
  rw [pd_pos _ hn]
  ring

theorem ds_eq (g h k) {n : Fin 8448} (hn : nat n < 8208) : A.ds g h n k = pd (fun j => A.DS g h ⟨nat n, hn⟩ j) k := by
  unfold ds DS
  rw [A.p_eq g h k hn, A.D_eq g h hn]
  unfold O V DP
  by_cases hk : nat k < 8208
  · simp only [pd_pos _ hk, pd_pos _ hn]
  · rw [pd_neg _ hk, pd_neg _ hk, zero_mul]

theorem ds_pad (g h k) {n : Fin 8448} (hn : ¬ nat n < 8208) : A.ds g h n k = 0 := by
  unfold ds D O
  simp only [pd_neg _ hn, zero_mul, Finset.sum_const_zero, sub_zero, mul_zero]

/-- The gradient of the queries: at a row of the step's order it is that of the row in the natural order, zero in the padding. -/
theorem dq_eq (g h d n) : ∑ k, A.ds g h n k * A.K k g d = pd (A.DQ g h d) n := by
  by_cases hn : nat n < 8208
  · rw [pd_pos _ hn]
    unfold DQ
    rw [← sum_pd]
    refine Finset.sum_congr rfl fun k _ => ?_
    rw [A.ds_eq g h k hn]
    unfold K
    by_cases hk : nat k < 8208
    · rw [pd_pos _ hk, pd_pos _ hk, pd_pos _ hk]
    · rw [pd_neg _ hk, pd_neg _ hk, pd_neg _ hk, zero_mul]
  · rw [pd_neg _ hn]
    exact Finset.sum_eq_zero fun k _ => by rw [A.ds_pad g h k hn, zero_mul]

/-- A sum over the rows whose terms at a row are those of the natural order, and vanish in the padding. -/
theorem sum_rows (f : Fin 8448 → ℝ) (F : Fin 8208 → Fin 8208 → ℝ) (k : Fin 8448)
    (h : ∀ n (hn : nat n < 8208), f n = pd (fun j => F ⟨nat n, hn⟩ j) k) (h0 : ∀ n, ¬ nat n < 8208 → f n = 0) :
    ∑ n, f n = pd (fun j => ∑ i, F i j) k := by
  by_cases hk : nat k < 8208
  · rw [pd_pos _ hk, ← sum_pd]
    refine Finset.sum_congr rfl fun n _ => ?_
    by_cases hn : nat n < 8208
    · rw [pd_pos _ hn, h n hn, pd_pos _ hk]
    · rw [pd_neg _ hn, h0 n hn]
  · rw [pd_neg _ hk]
    refine Finset.sum_eq_zero fun n _ => ?_
    by_cases hn : nat n < 8208
    · rw [h n hn, pd_neg _ hk]
    · exact h0 n hn

theorem pd_sum {ι : Type*} [Fintype ι] (f : ι → Fin 8208 → ℝ) (k : Fin 8448) : ∑ h, pd (f h) k = pd (fun j => ∑ h, f h j) k := by
  by_cases hk : nat k < 8208
  · simp only [pd_pos _ hk]
  · simp only [pd_neg _ hk, Finset.sum_const_zero]

theorem dk_eq (g d k) : ∑ h, ∑ n, A.ds g h n k * A.Q n (hd g h) d = pd (A.DK g d) k := by
  unfold DK
  rw [← pd_sum]
  refine Finset.sum_congr rfl fun h _ => sum_rows _ (fun i j => A.DS g h i j * A.q i (hd g h) d) k (fun n hn => ?_) (fun n hn => ?_)
  · rw [A.ds_eq g h k hn]
    unfold Q
    rw [pd_pos _ hn]
    by_cases hk : nat k < 8208
    · rw [pd_pos _ hk, pd_pos _ hk]
    · rw [pd_neg _ hk, pd_neg _ hk, zero_mul]
  · rw [A.ds_pad g h k hn, zero_mul]

theorem dv_eq (g d k) : ∑ h, ∑ n, A.p g h n k * A.O n (ft g h d) = pd (A.DV g d) k := by
  unfold DV
  rw [← pd_sum]
  refine Finset.sum_congr rfl fun h _ => sum_rows _ (fun i j => A.P g h i j * A.o i (ft g h d)) k (fun n hn => ?_) (fun n hn => ?_)
  · rw [A.p_eq g h k hn]
    unfold O
    rw [pd_pos _ hn]
    by_cases hk : nat k < 8208
    · rw [pd_pos _ hk, pd_pos _ hk]
    · rw [pd_neg _ hk, pd_neg _ hk, zero_mul]
  · unfold O; rw [pd_neg _ hn, mul_zero]

end Args

end Cert.Proof.Attn

end
-- ==== Proof.AttnBwdHost.lean ====
module
public import proofs.«01_k».proof.Proof.Gen.AttnBwdIdeal.Value
public import proofs.«01_k».proof.Proof.AttnMath
public import Idealize.ShloMosaic.Lib.Pointwise
public import Idealize.ShloMosaic.Lib.KernelVsHost
public import Idealize.ShloMosaic.Lib.StableHlo.ReadAt
public import Idealize.ShloMosaic.Lib.Pipeline.ValueKit
@[expose] public section

/-!
# The attention's saved forward values, as its backward call reads them

The backward call of the attention reads the rows of q, k, v and of the cotangent in the step's own order, the exponentials of the
scores a tile of keys at a time, the running maxima they were taken against, the logarithm of the row sums and the row sums
of the cotangent times the output. Here every one of these arrays is written in terms of the one it is computed from.
-/

noncomputable section
set_option maxHeartbeats 1000000
set_option maxRecDepth 16384
namespace Cert.Proof.AttnBwd
open Idealize.ShloMosaic Idealize.ShloMosaic.TcCoe Idealize.SL.Sem
open Cert.AttnBwdIdeal Cert.AttnBwdIdeal.Gen
variable (m : (ℓ : Loc nD τ sig) → Buf (Elt Ideal) ℓ) (c : Dev nD)

abbrev Rs := FVec Ideal S4x4x8448x2816 .f32
abbrev R1 := FVec Ideal S4x4x8448x1 .f32
abbrev R64 := FVec Ideal S4x4x8448x64 .f32

def a0 : S8208x16x64.Idx → EReal := m ((c : Thread nD τ).loc main_arg0)

def a1 : S8208x4x64.Idx → EReal := m ((c : Thread nD τ).loc main_arg1)

def a2 : S8208x4x64.Idx → EReal := m ((c : Thread nD τ).loc main_arg2)

def a3 : S8208x1024.Idx → EReal := m ((c : Thread nD τ).loc main_arg3)

def h8 : FVec Ideal S8448x16x64 .f32 := V m c main_v8

def h12 : FVec Ideal S8448x1024 .f32 := V m c main_v12

def h17 : FVec Ideal S4x8448x64 .f32 := V m c main_v17

def h22 : FVec Ideal S4x8448x64 .f32 := V m c main_v22

def h25 : FVec Ideal S8448x4x4x64 .f32 := V m c main_v25

def h29 : IVec S8448 1 := V m c main_v29

def h30 : FVec Ideal S4x4x8448x8448 .f32 := V m c main_v30

def h105 : FVec Ideal S8448x4x4x64 .f32 := V m c main_v105

def h108 : FVec Ideal S4x4x8448 .f32 := V m c main_v108

def h113 : FVec Ideal S8448x512 .f32 := V m c main_v113

def h119 : FVec Ideal S8448x512 .f32 := V m c main_v119

def h123 : FVec Ideal S8448x512 .f32 := V m c main_v123

def h127 : FVec Ideal S8448x512 .f32 := V m c main_v127

def h131 : FVec Ideal S8448x512 .f32 := V m c main_v131

def h135 : FVec Ideal S3x8448x512 .f32 := V m c main_v135

def h138 : FVec Ideal S16x8448x8448 .bf16 := V m c main_v138

def h34 : Rs := V m c main_v34

def h57 : Rs := V m c main_v57

def h80 : Rs := V m c main_v80

def h42 : Rs := V m c main_v42

def h65 : Rs := V m c main_v65

def h88 : Rs := V m c main_v88

def h37 : R1 := V m c main_v37

def h60 : R1 := V m c main_v60

def h83 : R1 := V m c main_v83

def h46 : R1 := V m c main_v46

def h69 : R1 := V m c main_v69

def h92 : R1 := V m c main_v92

def h56 : R64 := V m c main_v56

def h79 : R64 := V m c main_v79

def h102 : R64 := V m c main_v102

def h50 : FVec Ideal S4x2816x64 .f32 := V m c main_v50

def h73 : FVec Ideal S4x2816x64 .f32 := V m c main_v73

def h96 : FVec Ideal S4x2816x64 .f32 := V m c main_v96

def h140 : FVec Ideal S8448x1024 .bf16 := V m c main_v140

def h141 : FVec Ideal S4x8448x64 .bf16 := V m c main_v141

def h142 : FVec Ideal S4x8448x128 .bf16 := V m c main_v142

def h143 : FVec Ideal S8448x1024 .bf16 := V m c main_v143

def h23 : FVec Ideal S4x8448x64 .f32 := V m c main_v23

/-! ### One key tile of the running softmax -/
def redM (s : Rs) : FVec Ideal S4x4x8448 .f32 :=
  Host.reduce FloatOps.maximumf s (constant S_ .f32 0xFF800000#32) reducesTo_S4x4x8448x2816_S4x4x8448_d3 h_S_

def redD (p : Rs) : FVec Ideal S4x4x8448 .f32 :=
  Host.reduceAdd p (constant S_ .f32 0x00000000#32) reducesTo_S4x4x8448x2816_S4x4x8448_d3 h_S_

def redA (p : Rs) (v : FVec Ideal S4x2816x64 .f32) : R64 :=
  Host.reduceAdd (mulf
      (broadcastInDim S4x4x8448x2816x64 ![0, 1, 2, 3, 4] bcast_S4x4x8448x2816x1_S4x4x8448x2816x64_0_1_2_3_4
        (broadcastInDim S4x4x8448x2816x1 ![0, 1, 2, 3] bcast_S4x4x8448x2816_S4x4x8448x2816x1_0_1_2_3 p))
      (broadcastInDim S4x4x8448x2816x64 ![0, 1, 2, 3, 4] bcast_S4x1x1x2816x64_S4x4x8448x2816x64_0_1_2_3_4
        (broadcastInDim S4x1x1x2816x64 ![0, 3, 4] bcast_S4x2816x64_S4x1x1x2816x64_0_3_4 v)))
      (constant S_ .f32 0x00000000#32) reducesTo_S4x4x8448x2816x64_S4x4x8448x64_d3 h_S_

/-- The running maximum after the tile. -/
def stepM (mp : R1) (s : Rs) : R1 :=
  maximumf mp (broadcastInDim S4x4x8448x1 ![0, 1, 2] bcast_S4x4x8448_S4x4x8448x1_0_1_2 (redM s))

/-- The tile's exponentials, scaled by the running maximum. -/
def stepP (mn : R1) (s : Rs) : Rs :=
  Host.exp (subf s (broadcastInDim S4x4x8448x2816 ![0, 1, 2, 3] bcast_S4x4x8448x1_S4x4x8448x2816_0_1_2_3 mn))

/-- The running sum after the tile. -/
def stepD (mp mn dp : R1) (p : Rs) : R1 :=
  addf (mulf dp (Host.exp (subf mp mn))) (broadcastInDim S4x4x8448x1 ![0, 1, 2] bcast_S4x4x8448_S4x4x8448x1_0_1_2 (redD p))

/-- The running product with the values after the tile. -/
def stepA (mp mn : R1) (ap : R64) (p : Rs) (v : FVec Ideal S4x2816x64 .f32) : R64 :=
  addf (mulf ap (broadcastInDim S4x4x8448x64 ![0, 1, 2, 3] bcast_S4x4x8448x1_S4x4x8448x64_0_1_2_3 (Host.exp (subf mp mn)))) (redA p v)

/-- The word of minus infinity. -/
theorem neg_inf : Ideal.ofBits .f32 0xFF800000#32 = ⊥ := by
  show Ideal.ieee 8 23 0xFF800000#32 = ⊥
  rw [Ideal.ieee, if_pos (by decide), if_pos (by decide), if_pos (by decide)]

theorem redM_at (s : Rs) (g h : Fin 4) (n : Fin 8448) : redM s (ix3 g h n) = Finset.univ.fold max ⊥ fun x => s (ix4 g h n x) := by
  unfold redM
  refine Eq.trans ?_ (congrArg (fun b => Finset.univ.fold max b fun x => s (ix4 g h n x)) neg_inf)
  pointwise

theorem redD_at (p : Rs) (g h : Fin 4) (n : Fin 8448) : redD p (ix3 g h n) = ∑ x, p (ix4 g h n x) := by
  unfold redD; pointwise

theorem redA_at (p : Rs) (v : FVec Ideal S4x2816x64 .f32) (g h : Fin 4) (n : Fin 8448) (d : Fin 64) :
    redA p v (ix4 g h n d) = ∑ x, p (ix4 g h n x) * v (ix3 g x d) := by
  unfold redA; pointwise

theorem stepM_at (mp : R1) (s : Rs) (g h : Fin 4) (n : Fin 8448) :
    stepM mp s (ix4 g h n 0) = max (mp (ix4 g h n 0)) (Finset.univ.fold max ⊥ fun x => s (ix4 g h n x)) := by
  have e : broadcastInDim S4x4x8448x1 ![0, 1, 2] bcast_S4x4x8448_S4x4x8448x1_0_1_2 (redM s) (ix4 g h n 0) = redM s (ix3 g h n) := by
    pointwise
  exact congrArg (max (mp (ix4 g h n 0))) (e.trans (redM_at s g h n))

theorem stepP_at (mn : R1) (s : Rs) (g h : Fin 4) (n : Fin 8448) (x : Fin 2816) :
    stepP mn s (ix4 g h n x) = Ideal.exp (s (ix4 g h n x) - mn (ix4 g h n 0)) := by
  unfold stepP; pointwise

theorem stepD_at (mp mn dp : R1) (p : Rs) (g h : Fin 4) (n : Fin 8448) :
    stepD mp mn dp p (ix4 g h n 0) = dp (ix4 g h n 0) * Ideal.exp (mp (ix4 g h n 0) - mn (ix4 g h n 0)) + ∑ x, p (ix4 g h n x) := by
  rw [← redD_at]; unfold stepD; pointwise

theorem stepA_at (mp mn : R1) (ap : R64) (p : Rs) (v : FVec Ideal S4x2816x64 .f32) (g h : Fin 4) (n : Fin 8448) (d : Fin 64) :
    stepA mp mn ap p v (ix4 g h n d) = ap (ix4 g h n d) * Ideal.exp (mp (ix4 g h n 0) - mn (ix4 g h n 0))
      + ∑ x, p (ix4 g h n x) * v (ix3 g x d) := by
  rw [← redA_at]; unfold stepA; pointwise

/-! ### The key tiles -/
theorem e34 : h34 m c = extractStridedSlice S4x4x8448x2816 ![0, 0, 0, 0] (h30 m c) slices_S4x4x8448x8448_S4x4x8448x2816_0_0_0_0 := by
  unfold h34 h30 V; after_reads_simp

theorem e50 : h50 m c = extractStridedSlice S4x2816x64 ![0, 0, 0] (h22 m c) slices_S4x8448x64_S4x2816x64_0_0_0 := by
  unfold h50 h22 V; after_reads_simp

theorem e37 : h37 m c = stepM (broadcastInDim S4x4x8448x1 ![] bcast_S_S4x4x8448x1 (constant S_ .f32 0xFF800000#32)) (h34 m c) := by
  unfold h37 h34 stepM redM V; after_reads_simp

theorem e42 : h42 m c = stepP (h37 m c) (h34 m c) := by
  unfold h42 h37 h34 stepP V; after_reads_simp

theorem e46 : h46 m c = stepD (broadcastInDim S4x4x8448x1 ![] bcast_S_S4x4x8448x1 (constant S_ .f32 0xFF800000#32)) (h37 m c) (broadcastInDim S4x4x8448x1 ![] bcast_S_S4x4x8448x1 (constant S_ .f32 0x00000000#32)) (h42 m c) := by
  unfold h46 h37 h42 stepD redD V; after_reads_simp

theorem e56 : h56 m c = stepA (broadcastInDim S4x4x8448x1 ![] bcast_S_S4x4x8448x1 (constant S_ .f32 0xFF800000#32)) (h37 m c) (broadcastInDim S4x4x8448x64 ![] bcast_S_S4x4x8448x64 (constant S_ .f32 0x00000000#32)) (h42 m c) (h50 m c) := by
  unfold h56 h37 h42 h50 stepA redA V; after_reads_simp

theorem e57 : h57 m c = extractStridedSlice S4x4x8448x2816 ![0, 0, 0, 2816] (h30 m c) slices_S4x4x8448x8448_S4x4x8448x2816_0_0_0_2816 := by
  unfold h57 h30 V; after_reads_simp

theorem e73 : h73 m c = extractStridedSlice S4x2816x64 ![0, 2816, 0] (h22 m c) slices_S4x8448x64_S4x2816x64_0_2816_0 := by
  unfold h73 h22 V; after_reads_simp

theorem e60 : h60 m c = stepM (h37 m c) (h57 m c) := by
  unfold h60 h57 stepM redM h37 V; after_reads_simp

theorem e65 : h65 m c = stepP (h60 m c) (h57 m c) := by
  unfold h65 h60 h57 stepP V; after_reads_simp

theorem e69 : h69 m c = stepD (h37 m c) (h60 m c) (h46 m c) (h65 m c) := by
  unfold h69 h60 h65 stepD redD h37 h46 V; after_reads_simp

theorem e79 : h79 m c = stepA (h37 m c) (h60 m c) (h56 m c) (h65 m c) (h73 m c) := by
  unfold h79 h60 h65 h73 stepA redA h37 h56 V; after_reads_simp

theorem e80 : h80 m c = extractStridedSlice S4x4x8448x2816 ![0, 0, 0, 5632] (h30 m c) slices_S4x4x8448x8448_S4x4x8448x2816_0_0_0_5632 := by
  unfold h80 h30 V; after_reads_simp

theorem e96 : h96 m c = extractStridedSlice S4x2816x64 ![0, 5632, 0] (h22 m c) slices_S4x8448x64_S4x2816x64_0_5632_0 := by
  unfold h96 h22 V; after_reads_simp

theorem e83 : h83 m c = stepM (h60 m c) (h80 m c) := by
  unfold h83 h80 stepM redM h60 V; after_reads_simp

theorem e88 : h88 m c = stepP (h83 m c) (h80 m c) := by
  unfold h88 h83 h80 stepP V; after_reads_simp

theorem e92 : h92 m c = stepD (h60 m c) (h83 m c) (h69 m c) (h88 m c) := by
  unfold h92 h83 h88 stepD redD h60 h69 V; after_reads_simp

theorem e102 : h102 m c = stepA (h60 m c) (h83 m c) (h79 m c) (h88 m c) (h96 m c) := by
  unfold h102 h83 h88 h96 stepA redA h60 h79 V; after_reads_simp

/-! ### The arguments in the step's order, padded -/
theorem r8 (n : Fin 8448) (g : Fin 16) (d : Fin 64) : h8 m c (ix3 n g d) = Attn.pd (fun i => a0 m c (ix3 i g d)) n := by
  unfold h8 V
  after_reads_at
  pointwise
  exact dite_congr rfl (fun _ => rfl) fun _ => sitofp_zero

theorem r12 (n : Fin 8448) (d : Fin 1024) : h12 m c (ix2 n d) = Attn.pd (fun i => a3 m c (ix2 i d)) n := by
  unfold h12 V
  after_reads_at
  pointwise
  exact dite_congr rfl (fun _ => rfl) fun _ => sitofp_zero

theorem r17 (n : Fin 8448) (g : Fin 4) (d : Fin 64) : h17 m c (ix3 g n d) = Attn.pd (fun i => a1 m c (ix3 i g d)) n := by
  unfold h17 V
  after_reads_at
  pointwise
  exact dite_congr rfl (fun _ => rfl) fun _ => sitofp_zero

theorem r22 (n : Fin 8448) (g : Fin 4) (d : Fin 64) : h22 m c (ix3 g n d) = Attn.pd (fun i => a2 m c (ix3 i g d)) n := by
  unfold h22 V
  after_reads_at
  pointwise
  exact dite_congr rfl (fun _ => rfl) fun _ => sitofp_zero

theorem r25 (n : Fin 8448) (g h : Fin 4) (d : Fin 64) : h25 m c (ix4 n g h d) = h8 m c (ix3 n (Attn.hd g h) d) := by
  have e : h25 m c = shapeCast S8448x4x4x64 (h8 m c) shapeCasts_S8448x16x64_S8448x4x4x64 := by
    unfold h25 h8 V; after_reads_simp; rfl
  rw [e]
  pointwise

theorem r105 (n : Fin 8448) (g h : Fin 4) (d : Fin 64) : h105 m c (ix4 n g h d) = h12 m c (ix2 n (Attn.ft g h d)) := by
  have e : h105 m c = shapeCast S8448x4x4x64 (h12 m c) shapeCasts_S8448x1024_S8448x4x4x64 := by
    unfold h105 h12 V; after_reads_simp; rfl
  rw [e]
  pointwise
  exact congrArg (fun z => h12 m c (ix2 n z)) (Fin.ext (by show g.val * 256 + h.val * 64 + d.val = (g.val * 4 + h.val) * 64 + d.val; omega))

theorem r140 (n : Fin 8448) (h : Fin 16) (d : Fin 64) : h140 m c (ix2 n ⟨h.val * 64 + d.val, by omega⟩) = h8 m c (ix3 n h d) := by
  have e : h140 m c = truncf .bf16 (shapeCast S8448x1024 (h8 m c) shapeCasts_S8448x16x64_S8448x1024) bitsLt_bf16_f32 := by
    unfold h140 h8 V; after_reads_simp; rfl
  rw [e]
  pointwise

theorem r141 (n : Fin 8448) (g : Fin 4) (d : Fin 64) : h141 m c (ix3 g n d) = h17 m c (ix3 g n d) := by
  have e : h141 m c = truncf .bf16 (h17 m c) bitsLt_bf16_f32 := by
    unfold h141 h17 V; after_reads_simp
  rw [e]
  pointwise

theorem e142 : h142 m c = truncf .bf16 (concatenate S4x8448x128 2 [⟨S4x8448x64, h22 m c⟩, ⟨S4x8448x64, h23 m c⟩] concatenates_S4x8448x64_S4x8448x64_S4x8448x128_d2) bitsLt_bf16_f32 := by
  unfold h142 h22 h23 V
  after_reads_simp
  rfl

theorem left_at (x y : FVec Ideal S4x8448x64 .f32) (n : Fin 8448) (g : Fin 4) (d : Fin 64) :
    truncf .bf16 (concatenate S4x8448x128 2 [⟨S4x8448x64, x⟩, ⟨S4x8448x64, y⟩] concatenates_S4x8448x64_S4x8448x64_S4x8448x128_d2) bitsLt_bf16_f32 (ix3 g n ⟨d.val, by omega⟩) = x (ix3 g n d) := by
  pointwise

theorem r142 (n : Fin 8448) (g : Fin 4) (d : Fin 64) : h142 m c (ix3 g n ⟨d.val, by omega⟩) = h22 m c (ix3 g n d) :=
  (congrFun (e142 m c) _).trans (left_at _ _ n g d)

theorem r143 (n : Fin 8448) (d : Fin 1024) : h143 m c (ix2 n d) = h12 m c (ix2 n d) := by
  have e : h143 m c = truncf .bf16 (h12 m c) bitsLt_bf16_f32 := by
    unfold h143 h12 V; after_reads_simp
  rw [e]
  pointwise

/-! ### The masked scores -/
theorem r29 (k : Fin 8448) : h29 m c (ix1 k) = if Attn.nat k < 8208 then 1#1 else 0#1 := by
  unfold h29 V
  after_reads_at
  pointwise
  have := Attn.nat_lt k
  show IntOp.cmpi .slt (BitVec.ofNat 32 (Attn.nat k)) 8208#32 = _
  simp only [IntOp.cmpi, BitVec.slt]
  have e : (BitVec.ofNat 32 (Attn.nat k)).toInt = (Attn.nat k : ℤ) := by
    rw [BitVec.toInt_eq_toNat_of_lt] <;> rw [BitVec.toNat_ofNat, Nat.mod_eq_of_lt] <;> omega
  rw [e, show (8208#32).toInt = 8208 from by decide]
  by_cases h : Attn.nat k < 8208
  · rw [if_pos h, decide_eq_true (by exact_mod_cast h)]; rfl
  · rw [if_neg h, decide_eq_false (by exact_mod_cast h)]; rfl

theorem e30 : h30 m c = select (broadcastInDim S4x4x8448x8448 ![3] bcast_S8448_S4x4x8448x8448_3 (h29 m c))
      (transpose S4x4x8448x8448 [0, 3, 2, 1] (Host.dotGeneral (φ₂ := .f32) dot_S4x8448x64_S8448x4x4x64_S4x8448x8448x4_2_3_1_02_0_1 none (h17 m c) (h25 m c)) transposes_S4x8448x8448x4_S4x4x8448x8448_0_3_2_1)
      (broadcastInDim S4x4x8448x8448 ![] bcast_S_S4x4x8448x8448 (constant S_ .f32 0xFF800000#32)) := by
    unfold h30 h17 h25 h29 V
    after_reads_simp
    simp -implicitDefEqProofs only [StableHlo.TRef.toBuf, StableHlo.TRef.ofBuf, cast_cast, cast_eq]
    rfl

theorem r30 (g h : Fin 4) (n k : Fin 8448) : h30 m c (ix4 g h n k) = if Attn.nat k < 8208 then ∑ d, h17 m c (ix3 g k d) * h25 m c (ix4 n g h d) else ⊥ := by
  rw [← neg_inf]
  have e : h30 m c (ix4 g h n k) = Scalar.select (h29 m c (ix1 k)) (∑ d, h17 m c (ix3 g k d) * h25 m c (ix4 n g h d)) (Ideal.ofBits .f32 0xFF800000#32) := by
    rw [e30]
    pointwise
  rw [e, r29]
  by_cases h : Attn.nat k < 8208
  · rw [if_pos h, if_pos h]; exact if_pos rfl
  · rw [if_neg h, if_neg h]; exact if_neg (by decide)

/-! ### What the backward call reads -/
theorem e108 : h108 m c = Host.reduceAdd (mulf (transpose S4x4x8448x64 [1, 2, 0, 3] (h105 m c) transposes_S8448x4x4x64_S4x4x8448x64_1_2_0_3)
   (Host.divf (h102 m c) (broadcastInDim S4x4x8448x64 ![0, 1, 2, 3] bcast_S4x4x8448x1_S4x4x8448x64_0_1_2_3 (h92 m c)))) (constant S_ .f32 0x00000000#32) reducesTo_S4x4x8448x64_S4x4x8448_d3 h_S_ := by
    unfold h108 h105 h102 h92 V
    after_reads_simp

theorem dot_rows (x : FVec Ideal S8448x4x4x64 .f32) (a : R64) (z : R1) (g h : Fin 4) (n : Fin 8448) :
    Host.reduceAdd (mulf (transpose S4x4x8448x64 [1, 2, 0, 3] x transposes_S8448x4x4x64_S4x4x8448x64_1_2_0_3)
        (Host.divf a (broadcastInDim S4x4x8448x64 ![0, 1, 2, 3] bcast_S4x4x8448x1_S4x4x8448x64_0_1_2_3 z)))
        (constant S_ .f32 0x00000000#32) reducesTo_S4x4x8448x64_S4x4x8448_d3 h_S_ (ix3 g h n)
      = ∑ d, x (ix4 n g h d) * Ideal.div (a (ix4 g h n d)) (z (ix4 g h n 0)) := by
  pointwise

theorem r108 (g h : Fin 4) (n : Fin 8448) : h108 m c (ix3 g h n) = ∑ d, h105 m c (ix4 n g h d) * Ideal.div (h102 m c (ix4 g h n d)) (h92 m c (ix4 g h n 0)) :=
  (congrFun (e108 m c) _).trans (dot_rows _ _ _ g h n)

/-- One number per row and head, in the first four of 128 lanes. -/
def lanes (x : FVec Ideal S4x4x8448 .f32) : FVec Ideal S8448x512 .f32 :=
  shapeCast S8448x512 (pad S8448x4x128 ![0, 0, 0] ![0, 0, 124] ![0, 0, 0] (transpose S8448x4x4 [2, 0, 1] x transposes_S4x4x8448_S8448x4x4_2_0_1) (sitofp .f32 (constantI S_ 32 0#32)) pads_S8448x4x4_S8448x4x128_000_000_01240 h_S_) shapeCasts_S8448x4x128_S8448x512

theorem lanes_at (x) (n : Fin 8448) (g h : Fin 4) : lanes x (ix2 n ⟨g.val * 128 + h.val, by omega⟩) = x (ix3 g h n) := by
  unfold lanes
  pointwise
  have := h.isLt
  rw [dif_pos (by omega)]
  congr 2
  exact Fin.ext (by show (g.val * 128 + h.val) % 128 = h.val; omega)

/-- A column as a row. -/
def one (x : R1) : FVec Ideal S4x4x8448 .f32 := shapeCast S4x4x8448 x shapeCasts_S4x4x8448x1_S4x4x8448

theorem one_at (x : R1) (n : Fin 8448) (g h : Fin 4) : one x (ix3 g h n) = x (ix4 g h n 0) := by
  unfold one
  pointwise

theorem e113 : h113 m c = lanes (one (broadcastInDim S4x4x8448x1 ![0, 1, 2] bcast_S4x4x8448_S4x4x8448x1_0_1_2 (h108 m c))) := by
  unfold h113 lanes one h108 V
  after_reads_simp
  simp -implicitDefEqProofs only [StableHlo.TRef.toBuf, StableHlo.TRef.ofBuf, cast_cast, cast_eq]
  rfl

theorem e119 : h119 m c = lanes (one (addf (h83 m c) (Host.log (h92 m c)))) := by
  unfold h119 lanes one h83 h92 V
  after_reads_simp
  simp -implicitDefEqProofs only [StableHlo.TRef.toBuf, StableHlo.TRef.ofBuf, cast_cast, cast_eq]
  rfl

theorem e123 : h123 m c = lanes (one (h37 m c)) := by
  unfold h123 lanes one h37 V
  after_reads_simp
  simp -implicitDefEqProofs only [StableHlo.TRef.toBuf, StableHlo.TRef.ofBuf, cast_cast, cast_eq]
  rfl

theorem e127 : h127 m c = lanes (one (h60 m c)) := by
  unfold h127 lanes one h60 V
  after_reads_simp
  simp -implicitDefEqProofs only [StableHlo.TRef.toBuf, StableHlo.TRef.ofBuf, cast_cast, cast_eq]
  rfl

theorem e131 : h131 m c = lanes (one (h83 m c)) := by
  unfold h131 lanes one h83 V
  after_reads_simp
  simp -implicitDefEqProofs only [StableHlo.TRef.toBuf, StableHlo.TRef.ofBuf, cast_cast, cast_eq]
  rfl

theorem e135 : h135 m c = concatenate S3x8448x512 0 [⟨S1x8448x512, broadcastInDim S1x8448x512 ![1, 2] bcast_S8448x512_S1x8448x512_1_2 (h123 m c)⟩,
   ⟨S1x8448x512, broadcastInDim S1x8448x512 ![1, 2] bcast_S8448x512_S1x8448x512_1_2 (h127 m c)⟩, ⟨S1x8448x512, broadcastInDim S1x8448x512 ![1, 2] bcast_S8448x512_S1x8448x512_1_2 (h131 m c)⟩] concatenates_S1x8448x512_S1x8448x512_S1x8448x512_S3x8448x512_d0 := by
  have e0 : broadcastInDim S1x8448x512 ![1, 2] bcast_S8448x512_S1x8448x512_1_2 (h123 m c) = V m c main_v132 := by unfold h123 V; after_reads_simp
  have e1 : broadcastInDim S1x8448x512 ![1, 2] bcast_S8448x512_S1x8448x512_1_2 (h127 m c) = V m c main_v133 := by unfold h127 V; after_reads_simp
  have e2 : broadcastInDim S1x8448x512 ![1, 2] bcast_S8448x512_S1x8448x512_1_2 (h131 m c) = V m c main_v134 := by unfold h131 V; after_reads_simp
  rw [e0, e1, e2]
  unfold h135 V
  after_reads_simp
  rfl

theorem r135 (n : Fin 8448) (x : Fin 512) : h135 m c (ix3 0 n x) = h123 m c (ix2 n x) ∧ h135 m c (ix3 1 n x) = h127 m c (ix2 n x) ∧ h135 m c (ix3 2 n x) = h131 m c (ix2 n x) := by
  rw [e135]
  refine ⟨?_, ?_, ?_⟩ <;> pointwise

/-- The three tiles of exponentials side by side. -/
def cat (x y z : Rs) : FVec Ideal S4x4x8448x8448 .f32 :=
  concatenate S4x4x8448x8448 3 [⟨S4x4x8448x2816, x⟩, ⟨S4x4x8448x2816, y⟩, ⟨S4x4x8448x2816, z⟩] concatenates_S4x4x8448x2816_S4x4x8448x2816_S4x4x8448x2816_S4x4x8448x8448_d3

/-- One head after the other. -/
def heads (x : FVec Ideal S4x4x8448x8448 .f32) : FVec Ideal S16x8448x8448 .bf16 :=
  truncf .bf16 (shapeCast S16x8448x8448 x shapeCasts_S4x4x8448x8448_S16x8448x8448) bitsLt_bf16_f32

theorem heads_at (x : FVec Ideal S4x4x8448x8448 .f32) (g : Fin 16) (n k : Fin 8448) : heads x (ix3 g n k) = x (ix4 ⟨g.val / 4, by omega⟩ ⟨g.val % 4, by omega⟩ n k) := by
  unfold heads
  pointwise

theorem cat_0 (x y z : Rs) (g h : Fin 4) (n : Fin 8448) (k : Fin 2816) : cat x y z (ix4 g h n ⟨k.val, by omega⟩) = x (ix4 g h n k) := by
  unfold cat
  pointwise

theorem cat_1 (x y z : Rs) (g h : Fin 4) (n : Fin 8448) (k : Fin 2816) : cat x y z (ix4 g h n ⟨2816 + k.val, by omega⟩) = y (ix4 g h n k) := by
  unfold cat
  pointwise

theorem cat_2 (x y z : Rs) (g h : Fin 4) (n : Fin 8448) (k : Fin 2816) : cat x y z (ix4 g h n ⟨5632 + k.val, by omega⟩) = z (ix4 g h n k) := by
  unfold cat
  pointwise
  rw [dif_neg (by omega), dif_neg (by omega)]
  exact congrArg (fun q => z (ix4 g h n q)) (Fin.ext (by show 5632 + k.val - 2816 - 2816 = k.val; omega))

theorem e138 : h138 m c = heads (cat (h42 m c) (h65 m c) (h88 m c)) := by
    unfold h138 heads cat h42 h65 h88 V
    after_reads_simp
    rfl

end Cert.Proof.AttnBwd
-- ==== Proof.AttnSoft.lean ====
module

public import proofs.«01_k».proof.Proof.AttnMath
public import proofs.«01_k».proof.Proof.Reals
public import Idealize.ShloMosaic.Lib.Pointwise

@[expose] public section

/-!
# A running softmax over the extended reals

One tile of keys of a softmax whose maximum, row sum and product with the values are carried from tile to tile. Whatever
the maximum is, the row sum is the sum of the exponentials divided by the maximum's exponential, and so is the product;
the maximum itself is only known to be a real number.
-/

namespace Cert.Proof.Attn

open Idealize.ShloMosaic

/-- The carried maximum, row sum and product: nothing seen yet, or `Z` and `W` divided by the exponential of a real maximum. -/
def Carried {ι : Type*} (mp dp : EReal) (ap : ι → EReal) (Z : ℝ) (W : ι → ℝ) : Prop :=
  (mp = ⊥ ∧ dp = 0 ∧ (∀ d, ap d = 0) ∧ Z = 0 ∧ ∀ d, W d = 0) ∨
  ∃ μ : ℝ, mp = μ ∧ dp = ((Real.exp (-μ) * Z : ℝ) : EReal) ∧ ∀ d, ap d = ((Real.exp (-μ) * W d : ℝ) : EReal)

/-- The largest of finitely many numbers of which none is plus infinity and one is not minus infinity is real. -/
theorem max_real {ι : Type*} [Fintype ι] (s : ι → EReal) (ht : ∀ x, s x ≠ ⊤) (x₀ : ι) (hb : s x₀ ≠ ⊥) :
    ∃ μ : ℝ, Finset.univ.fold max ⊥ s = μ := by
  have e : Finset.univ.fold max ⊥ s = Finset.univ.sup s := rfl
  have h1 : Finset.univ.sup s ≠ ⊤ := ne_of_lt ((Finset.sup_lt_iff bot_lt_top).2 fun x _ => lt_top_iff_ne_top.2 (ht x))
  have h2 : Finset.univ.sup s ≠ ⊥ := fun h => hb (le_bot_iff.1 (h ▸ Finset.le_sup (Finset.mem_univ x₀)))
  exact ⟨_, e.trans (EReal.coe_toReal h1 h2).symm⟩

/-- One tile of the running softmax. -/
theorem tile {N : ℕ} {ι : Type*} (live : Fin N → Prop) [DecidablePred live] (σ : Fin N → ℝ) (x₀ : Fin N) (hl : live x₀)
    {mp dp : EReal} {ap : ι → EReal} {Z : ℝ} {W : ι → ℝ} (v : Fin N → ι → ℝ) (s : Fin N → EReal)
    (hs : ∀ x, s x = if live x then (σ x : EReal) else ⊥) (I : Carried mp dp ap Z W)
    (mn : EReal) (hm : mn = max mp (Finset.univ.fold max ⊥ s)) :
    ∃ μ : ℝ, mn = μ
      ∧ (∀ x, Ideal.exp (s x - mn) = ((Real.exp (-μ) * (if live x then Real.exp (σ x) else 0) : ℝ) : EReal))
      ∧ dp * Ideal.exp (mp - mn) + ∑ x, Ideal.exp (s x - mn) = ((Real.exp (-μ) * (Z + ∑ x, if live x then Real.exp (σ x) else 0) : ℝ) : EReal)
      ∧ ∀ d, ap d * Ideal.exp (mp - mn) + ∑ x, Ideal.exp (s x - mn) * (v x d : EReal)
          = ((Real.exp (-μ) * (W d + ∑ x, (if live x then Real.exp (σ x) else 0) * v x d) : ℝ) : EReal) := by
  obtain ⟨ν, hν⟩ := max_real s (fun x => by rw [hs]; split <;> simp) x₀ (by rw [hs, if_pos hl]; simp)
  rw [hν] at hm
  obtain ⟨μ, hμ⟩ : ∃ μ : ℝ, mn = μ := by
    rcases I with ⟨h, -⟩ | ⟨μ', h, -⟩
    · exact ⟨ν, by rw [hm, h]; exact max_eq_right bot_le⟩
    · exact ⟨max μ' ν, by rw [hm, h]; exact (EReal.coe_strictMono.monotone.map_max).symm⟩
  have he : ∀ x, Ideal.exp (s x - mn) = ((Real.exp (-μ) * (if live x then Real.exp (σ x) else 0) : ℝ) : EReal) := fun x => by
    rw [hs, hμ]
    split
    · rw [← EReal.coe_sub, Ideal.exp_coe, sub_eq_neg_add, Real.exp_add]
    · rw [EReal.bot_sub, Ideal.exp_bot, mul_zero, EReal.coe_zero]
  have hd : ∀ (a : EReal) (r : ℝ), (mp = ⊥ → a = 0 ∧ r = 0) → (∀ μ' : ℝ, mp = μ' → a = ((Real.exp (-μ') * r : ℝ) : EReal)) →
      a * Ideal.exp (mp - mn) = ((Real.exp (-μ) * r : ℝ) : EReal) := fun a r h0 h1 => by
    rcases I with ⟨h, -⟩ | ⟨μ', h, -⟩
    · rw [(h0 h).1, (h0 h).2, zero_mul, mul_zero, EReal.coe_zero]
    · rw [h1 μ' h, h, hμ, ← EReal.coe_sub, Ideal.exp_coe, ← EReal.coe_mul, mul_right_comm, ← Real.exp_add]
      congr 3; ring
  refine ⟨μ, hμ, he, ?_, fun d => ?_⟩
  · rw [hd dp Z, Finset.sum_congr rfl fun x _ => he x, ← coe_sum, ← EReal.coe_add, ← Finset.mul_sum, mul_add]
    · rcases I with ⟨h, a, -, b, -⟩ | ⟨μ', h, -⟩
      · exact fun _ => ⟨a, b⟩
      · intro e; rw [h] at e; simp at e
    · rcases I with ⟨h, -⟩ | ⟨μ', h, a, -⟩
      · intro _ e; rw [h] at e; simp at e
      · intro _ e; rw [h] at e; rw [a, EReal.coe_eq_coe_iff.1 e]
  · rw [hd (ap d) (W d), Finset.sum_congr rfl fun x _ => (congrArg (· * (v x d : EReal)) (he x)).trans (EReal.coe_mul _ _).symm, ← coe_sum, ← EReal.coe_add,
      mul_add, Finset.mul_sum]
    · simp only [mul_assoc]
    · rcases I with ⟨h, -, a, -, b⟩ | ⟨μ', h, -⟩
      · exact fun _ => ⟨a d, b d⟩
      · intro e; rw [h] at e; simp at e
    · rcases I with ⟨h, -⟩ | ⟨μ', h, -, a⟩
      · intro _ e; rw [h] at e; simp at e
      · intro _ e; rw [h] at e; rw [a, EReal.coe_eq_coe_iff.1 e]

end Cert.Proof.Attn
-- ==== Proof.AttnBwdSaved.lean ====
module

public import proofs.«01_k».proof.Proof.AttnBwdHost
public import proofs.«01_k».proof.Proof.AttnSoft

@[expose] public section

/-!
# The attention's saved forward values, over real numbers

When the four arguments hold real numbers, so does everything the backward call reads: the exponentials are those of the
scores divided by the exponential of the running maximum, whatever that maximum is, the logarithms are those of the full row
sums, and the saved row products are the row sums of the cotangent times the output.
-/

noncomputable section

set_option maxHeartbeats 1000000
set_option maxRecDepth 16384

namespace Cert.Proof.AttnBwd

open Idealize.ShloMosaic Idealize.ShloMosaic.TcCoe Idealize.SL.Sem
open Cert.AttnBwdIdeal Cert.AttnBwdIdeal.Gen

variable (m : (ℓ : Loc nD τ sig) → Buf (Elt Ideal) ℓ) (c : Dev nD)

/-- The arguments hold the real numbers `A`. -/
structure Holds (A : Attn.Args) : Prop where
  q : ∀ i h d, a0 m c (ix3 i h d) = (A.q i h d : EReal)
  k : ∀ i h d, a1 m c (ix3 i h d) = (A.k i h d : EReal)
  v : ∀ i h d, a2 m c (ix3 i h d) = (A.v i h d : EReal)
  o : ∀ i d, a3 m c (ix2 i d) = (A.o i d : EReal)

/-- The key at place `x` of tile `j`. -/
def key (j : Fin 3) (x : Fin 2816) : Fin 8448 := ⟨j.val * 2816 + x.val, by omega⟩

theorem key_0 (x : Fin 2816) (h : x.val < 8448) : (⟨x.val, h⟩ : Fin 8448) = key 0 x := Fin.ext (by show x.val = 0 * 2816 + x.val; omega)
theorem key_1 (x : Fin 2816) (h : 2816 + x.val < 8448) : (⟨2816 + x.val, h⟩ : Fin 8448) = key 1 x := Fin.ext (by show 2816 + x.val = 1 * 2816 + x.val; omega)
theorem key_2 (x : Fin 2816) (h : 5632 + x.val < 8448) : (⟨5632 + x.val, h⟩ : Fin 8448) = key 2 x := Fin.ext (by show 5632 + x.val = 2 * 2816 + x.val; omega)

theorem pd_coe (f : Fin 8208 → EReal) (r : Fin 8208 → ℝ) (h : ∀ i, f i = (r i : EReal)) (n : Fin 8448) :
    Attn.pd f n = ((Attn.pd r n : ℝ) : EReal) := by
  by_cases hn : Attn.nat n < 8208
  · rw [Attn.Args.pd_pos _ hn, Attn.Args.pd_pos _ hn, h]
  · rw [Attn.Args.pd_neg _ hn, Attn.Args.pd_neg _ hn, EReal.coe_zero]

variable {m c} {A : Attn.Args} (H : Holds m c A)

/-- A sum over the keys, tile by tile. -/
theorem sum_keys {M : Type*} [AddCommMonoid M] (f : Fin 8448 → M) : ∑ k, f k = ∑ j : Fin 3, ∑ x, f (key j x) :=
  sum_runs (a := 3) (b := 2816) rfl f

/-- The number at the first four lanes. -/
def lane (g h : Fin 4) : Fin 512 := ⟨g.val * 128 + h.val, by omega⟩

theorem ofBits_zero : Ideal.ofBits .f32 0x00000000#32 = 0 := by
  show Ideal.ieee 8 23 0x00000000#32 = 0
  simp [Ideal.ieee]

theorem pt_heads (g h : Fin 4) (n k : Fin 8448) : h138 m c (ix3 (Attn.hd g h) n k) = cat (h42 m c) (h65 m c) (h88 m c) (ix4 g h n k) := by
  rw [e138, heads_at]
  exact congrArg₂ (fun a b => cat (h42 m c) (h65 m c) (h88 m c) (ix4 a b n k))
    (Fin.ext (by show (g.val * 4 + h.val) / 4 = g.val; omega)) (Fin.ext (by show (g.val * 4 + h.val) % 4 = h.val; omega))

theorem column_at (x : FVec Ideal S4x4x8448 .f32) (g h : Fin 4) (n : Fin 8448) :
    broadcastInDim S4x4x8448x1 ![0, 1, 2] bcast_S4x4x8448_S4x4x8448x1_0_1_2 x (ix4 g h n 0) = x (ix3 g h n) := by
  pointwise

/-- The logarithm of the full row sum. -/
theorem lse_real (x y : R1) (i : S4x4x8448x1.Idx) {μ Z : ℝ} (hx : x i = (μ : EReal)) (hy : y i = ((Real.exp (-μ) * Z : ℝ) : EReal)) (hZ : 0 < Z) :
    addf x (Host.log y) i = ((Real.log Z : ℝ) : EReal) := by
  have e : addf x (Host.log y) i = (x i : EReal) + Ideal.log (y i) := rfl
  rw [e, hx, hy, Ideal.log_coe, if_neg (not_le.2 (mul_pos (Real.exp_pos _) hZ)), ← EReal.coe_add, Real.log_mul (Real.exp_pos _).ne' hZ.ne', Real.log_exp]
  exact congrArg (fun r : ℝ => (r : EReal)) (by ring)

theorem div_real (o w μ Z : ℝ) (hZ : 0 < Z) :
    (o : EReal) * Ideal.div ((Real.exp (-μ) * w : ℝ) : EReal) ((Real.exp (-μ) * Z : ℝ) : EReal) = ((o * (w / Z) : ℝ) : EReal) := by
  rw [Ideal.div_coe (mul_pos (Real.exp_pos _) hZ).ne', ← EReal.coe_mul, ← EReal.coe_mul, mul_one_div, mul_div_mul_left _ _ (Real.exp_pos _).ne']

section
include H

theorem q_at (n) (h : Fin 16) (d) : h8 m c (ix3 n h d) = (A.Q n h d : EReal) :=
  (r8 m c n h d).trans (pd_coe _ _ (fun i => H.q i h d) n)
theorem k_at (n) (g : Fin 4) (d) : h17 m c (ix3 g n d) = (A.K n g d : EReal) :=
  (r17 m c n g d).trans (pd_coe _ _ (fun i => H.k i g d) n)
theorem v_at (n) (g : Fin 4) (d) : h22 m c (ix3 g n d) = (A.V n g d : EReal) :=
  (r22 m c n g d).trans (pd_coe _ _ (fun i => H.v i g d) n)
theorem o_at (n) (d : Fin 1024) : h12 m c (ix2 n d) = (A.O n d : EReal) :=
  (r12 m c n d).trans (pd_coe _ _ (fun i => H.o i d) n)

/-- The scores, minus infinity where the key is padding. -/
theorem score_at (g h : Fin 4) (n k : Fin 8448) :
    h30 m c (ix4 g h n k) = if Attn.nat k < 8208 then (A.s g h n k : EReal) else ⊥ := by
  rw [r30]
  refine if_congr Iff.rfl ?_ rfl
  unfold Attn.Args.s
  rw [coe_sum]
  refine Finset.sum_congr rfl fun d _ => ?_
  rw [EReal.coe_mul, k_at H, r25, q_at H]

/-- One tile of keys. -/
theorem tile_at (g h : Fin 4) (n : Fin 8448) (j : Fin 3) (mp dp : R1) (ap : R64) (s : Rs) (v : FVec Ideal S4x2816x64 .f32)
    (hs : ∀ x, s (ix4 g h n x) = h30 m c (ix4 g h n (key j x))) (hv : ∀ x d, v (ix3 g x d) = h22 m c (ix3 g (key j x) d))
    {Z : ℝ} {W : Fin 64 → ℝ} (I : Attn.Carried (mp (ix4 g h n 0)) (dp (ix4 g h n 0)) (fun d => ap (ix4 g h n d)) Z W) :
    ∃ μ : ℝ, stepM mp s (ix4 g h n 0) = μ
      ∧ (∀ x, stepP (stepM mp s) s (ix4 g h n x) = ((Real.exp (-μ) * A.E g h n (key j x) : ℝ) : EReal))
      ∧ Attn.Carried (stepM mp s (ix4 g h n 0)) (stepD mp (stepM mp s) dp (stepP (stepM mp s) s) (ix4 g h n 0))
          (fun d => stepA mp (stepM mp s) ap (stepP (stepM mp s) s) v (ix4 g h n d))
          (Z + ∑ x, A.E g h n (key j x)) (fun d => W d + ∑ x, A.E g h n (key j x) * A.V (key j x) g d) := by
  obtain ⟨μ, h1, h2, h3, h4⟩ := Attn.tile (fun x => Attn.nat (key j x) < 8208) (fun x => A.s g h n (key j x)) 0
    (by fin_cases j <;> decide) (fun x d => A.V (key j x) g d) (fun x => s (ix4 g h n x))
    (fun x => (hs x).trans (score_at H g h n (key j x))) I _ (stepM_at mp s g h n)
  refine ⟨μ, h1, fun x => (stepP_at _ s g h n x).trans (h2 x), Or.inr ⟨μ, h1, ?_, fun d => ?_⟩⟩
  · rw [stepD_at, Finset.sum_congr rfl fun x _ => stepP_at _ s g h n x]
    exact h3
  · beta_reduce
    rw [stepA_at, Finset.sum_congr rfl fun x _ => congrArg₂ (· * ·) (stepP_at (stepM mp s) s g h n x) ((hv x d).trans (v_at H (key j x) g d))]
    exact h4 d

/-- The three tiles: each tile's maximum is real, its exponentials are taken against it, and the last row sum and product are
those of all keys. -/
theorem tiles (g h : Fin 4) (n : Fin 8448) : ∃ μ0 μ1 μ2 : ℝ,
    (h37 m c (ix4 g h n 0) = (μ0 : EReal) ∧ h60 m c (ix4 g h n 0) = (μ1 : EReal) ∧ h83 m c (ix4 g h n 0) = (μ2 : EReal))
    ∧ ((∀ x, h42 m c (ix4 g h n x) = ((Real.exp (-μ0) * A.E g h n (key 0 x) : ℝ) : EReal))
      ∧ (∀ x, h65 m c (ix4 g h n x) = ((Real.exp (-μ1) * A.E g h n (key 1 x) : ℝ) : EReal))
      ∧ ∀ x, h88 m c (ix4 g h n x) = ((Real.exp (-μ2) * A.E g h n (key 2 x) : ℝ) : EReal))
    ∧ h92 m c (ix4 g h n 0) = ((Real.exp (-μ2) * A.Z g h n : ℝ) : EReal)
    ∧ ∀ d, h102 m c (ix4 g h n d) = ((Real.exp (-μ2) * A.W g h n d : ℝ) : EReal) := by
  have s0 : ∀ x, h34 m c (ix4 g h n x) = h30 m c (ix4 g h n (key 0 x)) := fun x => by
    rw [e34]; pointwise
    exact congrArg (fun k => h30 m c (ix4 g h n k)) (key_0 x _)
  have s1 : ∀ x, h57 m c (ix4 g h n x) = h30 m c (ix4 g h n (key 1 x)) := fun x => by
    rw [e57]; pointwise
    exact congrArg (fun k => h30 m c (ix4 g h n k)) (key_1 x _)
  have s2 : ∀ x, h80 m c (ix4 g h n x) = h30 m c (ix4 g h n (key 2 x)) := fun x => by
    rw [e80]; pointwise
    exact congrArg (fun k => h30 m c (ix4 g h n k)) (key_2 x _)
  have v0 : ∀ x d, h50 m c (ix3 g x d) = h22 m c (ix3 g (key 0 x) d) := fun x d => by
    rw [e50]; pointwise
    exact congrArg (fun k => h22 m c (ix3 g k d)) (key_0 x _)
  have v1 : ∀ x d, h73 m c (ix3 g x d) = h22 m c (ix3 g (key 1 x) d) := fun x d => by
    rw [e73]; pointwise
    exact congrArg (fun k => h22 m c (ix3 g k d)) (key_1 x _)
  have v2 : ∀ x d, h96 m c (ix3 g x d) = h22 m c (ix3 g (key 2 x) d) := fun x d => by
    rw [e96]; pointwise
    exact congrArg (fun k => h22 m c (ix3 g k d)) (key_2 x _)
  obtain ⟨μ0, m0, p0, I0⟩ := tile_at H g h n 0
    (broadcastInDim S4x4x8448x1 ![] bcast_S_S4x4x8448x1 (constant S_ .f32 0xFF800000#32))
    (broadcastInDim S4x4x8448x1 ![] bcast_S_S4x4x8448x1 (constant S_ .f32 0x00000000#32))
    (broadcastInDim S4x4x8448x64 ![] bcast_S_S4x4x8448x64 (constant S_ .f32 0x00000000#32))
    (h34 m c) (h50 m c) s0 v0 (Z := 0) (W := fun _ => 0)
    (Or.inl ⟨neg_inf, ofBits_zero, fun d => ofBits_zero, rfl, fun _ => rfl⟩)
  rw [← e37, ← e42] at I0 p0
  rw [← e37] at m0
  rw [← e46] at I0
  simp only [← e56] at I0
  obtain ⟨μ1, m1, p1, I1⟩ := tile_at H g h n 1 (h37 m c) (h46 m c) (h56 m c) (h57 m c) (h73 m c) s1 v1 I0
  rw [← e60, ← e65] at I1 p1
  rw [← e60] at m1
  rw [← e69] at I1
  simp only [← e79] at I1
  obtain ⟨μ2, m2, p2, I2⟩ := tile_at H g h n 2 (h60 m c) (h69 m c) (h79 m c) (h80 m c) (h96 m c) s2 v2 I1
  rw [← e83, ← e88] at I2 p2
  rw [← e83] at m2
  rw [← e92] at I2
  simp only [← e102] at I2
  have hZ : 0 + ∑ x, A.E g h n (key 0 x) + ∑ x, A.E g h n (key 1 x) + ∑ x, A.E g h n (key 2 x) = A.Z g h n := by
    unfold Attn.Args.Z
    rw [sum_keys, Fin.sum_univ_three, zero_add]
  have hW : ∀ d, 0 + ∑ x, A.E g h n (key 0 x) * A.V (key 0 x) g d + ∑ x, A.E g h n (key 1 x) * A.V (key 1 x) g d + ∑ x, A.E g h n (key 2 x) * A.V (key 2 x) g d = A.W g h n d := fun d => by
    unfold Attn.Args.W
    rw [sum_keys, Fin.sum_univ_three, zero_add]
  rw [hZ] at I2
  simp only [hW] at I2
  obtain ⟨hb, -⟩ | ⟨μ, hm, hd, ha⟩ := I2
  · rw [m2] at hb; simp at hb
  have hμ : μ = μ2 := EReal.coe_eq_coe_iff.1 (hm.symm.trans m2)
  subst hμ
  exact ⟨μ0, μ1, μ, ⟨m0, m1, hm⟩, ⟨p0, p1, p2⟩, hd, ha⟩

omit H in
theorem pt_0 (g h : Fin 4) (n : Fin 8448) (x : Fin 2816) : h138 m c (ix3 (Attn.hd g h) n (key 0 x)) = h42 m c (ix4 g h n x) := by
  rw [pt_heads, ← key_0 x (by omega), cat_0]
omit H in
theorem pt_1 (g h : Fin 4) (n : Fin 8448) (x : Fin 2816) : h138 m c (ix3 (Attn.hd g h) n (key 1 x)) = h65 m c (ix4 g h n x) := by
  rw [pt_heads, ← key_1 x (by omega), cat_1]
omit H in
theorem pt_2 (g h : Fin 4) (n : Fin 8448) (x : Fin 2816) : h138 m c (ix3 (Attn.hd g h) n (key 2 x)) = h88 m c (ix4 g h n x) := by
  rw [pt_heads, ← key_2 x (by omega), cat_2]

/-- What the backward call reads of the forward values. -/
theorem saved (g h : Fin 4) (n : Fin 8448) : ∃ μ : Fin 3 → ℝ,
    (∀ j, h135 m c (ix3 j n (lane g h)) = (μ j : EReal))
    ∧ (∀ j x, h138 m c (ix3 (Attn.hd g h) n (key j x)) = ((Real.exp (-μ j) * A.E g h n (key j x) : ℝ) : EReal))
    ∧ h119 m c (ix2 n (lane g h)) = ((Real.log (A.Z g h n) : ℝ) : EReal)
    ∧ h113 m c (ix2 n (lane g h)) = ((A.D g h n : ℝ) : EReal) := by
  obtain ⟨μ0, μ1, μ2, ⟨m0, m1, m2⟩, ⟨p0, p1, p2⟩, hd, ha⟩ := tiles H g h n
  have hpos := A.Z_pos g h n
  refine ⟨![μ0, μ1, μ2], fun j => ?_, fun j x => ?_, ?_, ?_⟩
  · match j with
    | 0 => exact ((r135 m c n _).1).trans (by rw [e123, lane, lanes_at, one_at]; exact m0)
    | 1 => exact ((r135 m c n _).2.1).trans (by rw [e127, lane, lanes_at, one_at]; exact m1)
    | 2 => exact ((r135 m c n _).2.2).trans (by rw [e131, lane, lanes_at, one_at]; exact m2)
  · match j with
    | 0 => exact (pt_0 g h n x).trans (p0 x)
    | 1 => exact (pt_1 g h n x).trans (p1 x)
    | 2 => exact (pt_2 g h n x).trans (p2 x)
  · rw [e119, lane, lanes_at, one_at]
    exact lse_real _ _ _ m2 hd hpos
  · rw [e113, lane, lanes_at, one_at, column_at, r108]
    unfold Attn.Args.D
    rw [coe_sum]
    refine Finset.sum_congr rfl fun d _ => ?_
    rw [r105, o_at H, ha d, hd]
    exact div_real _ _ _ _ hpos

end

end Cert.Proof.AttnBwd
-- ==== Proof.AttnBwdStep.lean ====
module
public import proofs.«01_k».proof.Proof.Gen.AttnBwdIdeal.Value
public import proofs.«01_k».proof.Proof.AttnBwdSaved
public import Idealize.ShloMosaic.Lib.Pointwise
public import Idealize.ShloMosaic.Lib.KernelVsHost
public import Idealize.ShloMosaic.Lib.StableHlo.ReadAt
public import Idealize.ShloMosaic.Lib.Pipeline.ValueKit
@[expose] public section

/-!
# One step of the attention's backward call

A step reads one tile of rows and one tile of keys of a group of four heads, writes the four heads' score gradients and adds to
the gradients of q, k and v. First each of these in terms of the blocks it is computed from, then the same where the blocks
hold real numbers: whatever maximum the exponentials were taken against, it cancels.
-/

noncomputable section
set_option maxHeartbeats 1000000
set_option maxRecDepth 16384
namespace Cert.Proof.AttnBwd
open Idealize.ShloMosaic Idealize.ShloMosaic.TcCoe Idealize.SL.Sem
open Cert.AttnBwdIdeal Cert.AttnBwdIdeal.Gen

/-! ### One step, over its blocks -/

section Blocks

variable (q : Vec Ideal S256x256 .bf16) (k : Vec Ideal S1x2816x64 .bf16) (vv : Vec Ideal S1x2816x128 .bf16) (pt : Vec Ideal S4x256x2816 .bf16)
  (mb : Vec Ideal S1x256x128 .f32) (dO : Vec Ideal S256x256 .bf16) (ls dl : Vec Ideal S256x128 .f32)

def at0 : Vec Ideal S256x64 .bf16 := View.ld dO (Rect.unit ![0, 0] ![256, 64] inb_S256x256_S256x64_0_0)

def at1 : Vec Ideal S256x64 .bf16 := View.ld dO (Rect.unit ![0, 64] ![256, 64] inb_S256x256_S256x64_0_64)

def at2 : Vec Ideal S256x64 .bf16 := View.ld dO (Rect.unit ![0, 128] ![256, 64] inb_S256x256_S256x64_0_128)

def at3 : Vec Ideal S256x64 .bf16 := View.ld dO (Rect.unit ![0, 192] ![256, 64] inb_S256x256_S256x64_0_192)

def pt0 : Vec Ideal S1x256x2816 .bf16 := View.ld pt (Rect.unit ![0, 0, 0] ![1, 256, 2816] inb_S4x256x2816_S1x256x2816_0_0_0)

def pt1 : Vec Ideal S1x256x2816 .bf16 := View.ld pt (Rect.unit ![1, 0, 0] ![1, 256, 2816] inb_S4x256x2816_S1x256x2816_1_0_0)

def pt2 : Vec Ideal S1x256x2816 .bf16 := View.ld pt (Rect.unit ![2, 0, 0] ![1, 256, 2816] inb_S4x256x2816_S1x256x2816_2_0_0)

def pt3 : Vec Ideal S1x256x2816 .bf16 := View.ld pt (Rect.unit ![3, 0, 0] ![1, 256, 2816] inb_S4x256x2816_S1x256x2816_3_0_0)

theorem at0_at (r d) : at0 dO (ix2 r d) = dO (ix2 r ⟨d.val, by omega⟩) := by
  unfold at0
  pointwise

theorem at1_at (r d) : at1 dO (ix2 r d) = dO (ix2 r ⟨64 + d.val, by omega⟩) := by
  unfold at1
  pointwise

theorem at2_at (r d) : at2 dO (ix2 r d) = dO (ix2 r ⟨128 + d.val, by omega⟩) := by
  unfold at2
  pointwise

theorem at3_at (r d) : at3 dO (ix2 r d) = dO (ix2 r ⟨192 + d.val, by omega⟩) := by
  unfold at3
  pointwise

theorem pt0_at (r x) : pt0 pt (ix3 0 r x) = pt (ix3 0 r x) := by
  unfold pt0
  pointwise

theorem pt1_at (r x) : pt1 pt (ix3 0 r x) = pt (ix3 1 r x) := by
  unfold pt1
  pointwise

theorem pt2_at (r x) : pt2 pt (ix3 0 r x) = pt (ix3 2 r x) := by
  unfold pt2
  pointwise

theorem pt3_at (r x) : pt3 pt (ix3 0 r x) = pt (ix3 3 r x) := by
  unfold pt3
  pointwise

/-- The scores' gradients of the four heads. -/
def ds0 : FVec Ideal S256x2816 .bf16 := k0_pay19 (k0_pay10 vv) (k0_pay12 mb ls dl) (k0_pay13 mb ls (at0 dO)) (pt0 pt)

def ds1 : FVec Ideal S256x2816 .bf16 :=
  k0_pay22 (k0_pay20 (pt1 pt)) (k0_pay21 (k0_pay10 vv) (k0_pay12 mb ls dl) (k0_pay14 (at1 dO)) (k0_pay15 mb ls))

def ds2 : FVec Ideal S256x2816 .bf16 :=
  k0_pay33 (k0_pay12 mb ls dl) (k0_pay29 (k0_pay10 vv) (k0_pay11 mb ls) (at2 dO)) (pt2 pt)

def ds3 : FVec Ideal S256x2816 .bf16 :=
  k0_pay34 (k0_pay12 mb ls dl) (k0_pay30 (k0_pay10 vv) (k0_pay11 mb ls) (at3 dO)) (pt3 pt)

/-- The cotangent's rows of the four heads, divided by the row sums of the exponentials. -/
def os0 : FVec Ideal S256x64 .bf16 := k0_pay13 mb ls (at0 dO)

def os1 : FVec Ideal S256x64 .bf16 := k0_pay16 (k0_pay14 (at1 dO)) (k0_pay15 mb ls)

def os2 : FVec Ideal S256x64 .bf16 := k0_pay27 (k0_pay11 mb ls) (at2 dO)

def os3 : FVec Ideal S256x64 .bf16 := k0_pay28 (k0_pay11 mb ls) (at3 dO)

theorem os0_at (r d) : os0 mb dO ls (ix2 r d) = dO (ix2 r ⟨d.val, by omega⟩) * Ideal.exp (mb (ix3 0 r 0) - ls (ix2 r 0)) := by
  unfold os0; unfold_payloads; pointwise
  rw [at0_at]

theorem os1_at (r d) : os1 mb dO ls (ix2 r d) = dO (ix2 r ⟨64 + d.val, by omega⟩) * Ideal.exp (mb (ix3 0 r 1) - ls (ix2 r 1)) := by
  unfold os1; unfold_payloads; pointwise
  rw [at1_at]

theorem os2_at (r d) : os2 mb dO ls (ix2 r d) = dO (ix2 r ⟨128 + d.val, by omega⟩) * Ideal.exp (mb (ix3 0 r 2) - ls (ix2 r 2)) := by
  unfold os2; unfold_payloads; pointwise
  rw [at2_at]

theorem os3_at (r d) : os3 mb dO ls (ix2 r d) = dO (ix2 r ⟨192 + d.val, by omega⟩) * Ideal.exp (mb (ix3 0 r 3) - ls (ix2 r 3)) := by
  unfold os3; unfold_payloads; pointwise
  rw [at3_at]

theorem ds0_at (r x) : ds0 vv pt mb dO ls dl (ix2 r x) = pt (ix3 0 r x) * ((∑ d, os0 mb dO ls (ix2 r d) * vv (ix3 0 x ⟨d.val, by omega⟩)) - dl (ix2 r 0) * Ideal.exp (mb (ix3 0 r 0) - ls (ix2 r 0))) := by
  unfold ds0 os0; unfold_payloads; pointwise
  rw [pt0_at]

theorem ds1_at (r x) : ds1 vv pt mb dO ls dl (ix2 r x) = pt (ix3 1 r x) * ((∑ d, os1 mb dO ls (ix2 r d) * vv (ix3 0 x ⟨d.val, by omega⟩)) - dl (ix2 r 1) * Ideal.exp (mb (ix3 0 r 1) - ls (ix2 r 1))) := by
  unfold ds1 os1; unfold_payloads; pointwise
  rw [pt1_at]

theorem ds2_at (r x) : ds2 vv pt mb dO ls dl (ix2 r x) = pt (ix3 2 r x) * ((∑ d, os2 mb dO ls (ix2 r d) * vv (ix3 0 x ⟨d.val, by omega⟩)) - dl (ix2 r 2) * Ideal.exp (mb (ix3 0 r 2) - ls (ix2 r 2))) := by
  unfold ds2 os2; unfold_payloads; pointwise
  rw [pt2_at]

theorem ds3_at (r x) : ds3 vv pt mb dO ls dl (ix2 r x) = pt (ix3 3 r x) * ((∑ d, os3 mb dO ls (ix2 r d) * vv (ix3 0 x ⟨d.val, by omega⟩)) - dl (ix2 r 3) * Ideal.exp (mb (ix3 0 r 3) - ls (ix2 r 3))) := by
  unfold ds3 os3; unfold_payloads; pointwise
  rw [pt3_at]

/-- The v gradients' scratch after the step. -/
def upV (w : Vec Ideal S2816x64 .f32) : FVec Ideal S2816x64 .f32 :=
  k0_pay32 (k0_pay28 (k0_pay11 mb ls) (at3 dO)) (k0_pay31 (k0_pay27 (k0_pay11 mb ls) (at2 dO))
    (k0_pay18 (k0_pay14 (at1 dO)) (k0_pay15 mb ls) (k0_pay17 (k0_pay13 mb ls (at0 dO)) w (pt0 pt)) (pt1 pt)) (pt2 pt)) (pt3 pt)

theorem upV_at (w x d) : upV pt mb dO ls w (ix2 x d) = w (ix2 x d) + (∑ r, pt (ix3 0 r x) * os0 mb dO ls (ix2 r d)) + (∑ r, pt (ix3 1 r x) * os1 mb dO ls (ix2 r d))
     + (∑ r, pt (ix3 2 r x) * os2 mb dO ls (ix2 r d)) + ∑ r, pt (ix3 3 r x) * os3 mb dO ls (ix2 r d) := by
  unfold upV os0 os1 os2 os3; unfold_payloads; pointwise
  simp only [pt0_at, pt1_at, pt2_at, pt3_at]

/-- The k gradients' scratch after the step, from the four heads' score gradients. -/
def upK (s0 s1 s2 s3 : FVec Ideal S256x2816 .bf16) (w : Vec Ideal S2816x64 .f32) : FVec Ideal S2816x64 .f32 :=
  k0_pay2 s3 (k0_pay1 s2 (k0_pay23 s1 (k0_pay23 s0 w (at0 q)) (at1 q)) (k0_pay35 (at2 q))) (at3 q)

theorem upK_at (s0 s1 s2 s3) (w x d) : upK q s0 s1 s2 s3 w (ix2 x d) = w (ix2 x d) + (∑ r, s0 (ix2 r x) * q (ix2 r ⟨d.val, by omega⟩)) + (∑ r, s1 (ix2 r x) * q (ix2 r ⟨64 + d.val, by omega⟩))
     + (∑ r, s2 (ix2 r x) * q (ix2 r ⟨128 + d.val, by omega⟩)) + ∑ r, s3 (ix2 r x) * q (ix2 r ⟨192 + d.val, by omega⟩) := by
  unfold upK; unfold_payloads; pointwise
  simp only [at0_at, at1_at, at2_at, at3_at]

/-- The four heads' q gradients after the step. -/
def upQ (s0 s1 s2 s3 : FVec Ideal S256x2816 .bf16) (w : Vec Ideal S256x256 .f32) : FVec Ideal S256x256 .f32 :=
  k0_pay3 (k0_pay9 k) (k0_pay24 (k0_pay9 k) s0) (k0_pay24 (k0_pay9 k) s1) s2 s3 w

theorem upQ_0 (s0 s1 s2 s3) (w r) (d : Fin 64) : upQ k s0 s1 s2 s3 w (ix2 r ⟨d.val, by omega⟩) = w (ix2 r ⟨d.val, by omega⟩) + ∑ x, s0 (ix2 r x) * k (ix3 0 x d) := by
  unfold upQ; unfold_payloads; pointwise

theorem upQ_1 (s0 s1 s2 s3) (w r) (d : Fin 64) : upQ k s0 s1 s2 s3 w (ix2 r ⟨64 + d.val, by omega⟩) = w (ix2 r ⟨64 + d.val, by omega⟩) + ∑ x, s1 (ix2 r x) * k (ix3 0 x d) := by
  unfold upQ; unfold_payloads; pointwise

theorem upQ_2 (s0 s1 s2 s3) (w r) (d : Fin 64) : upQ k s0 s1 s2 s3 w (ix2 r ⟨128 + d.val, by omega⟩) = w (ix2 r ⟨128 + d.val, by omega⟩) + ∑ x, s2 (ix2 r x) * k (ix3 0 x d) := by
  unfold upQ; unfold_payloads; pointwise
  rw [dif_neg (by omega), dif_neg (by omega), dif_pos (by omega)]
  exact congrArg (fun e => w (ix2 r ⟨128 + d.val, by omega⟩) + ∑ x, s2 (ix2 r x) * k (ix3 0 x e)) (Fin.ext (by show 128 + d.val - 64 - 64 = d.val; omega))

theorem upQ_3 (s0 s1 s2 s3) (w r) (d : Fin 64) : upQ k s0 s1 s2 s3 w (ix2 r ⟨192 + d.val, by omega⟩) = w (ix2 r ⟨192 + d.val, by omega⟩) + ∑ x, s3 (ix2 r x) * k (ix3 0 x d) := by
  unfold upQ; unfold_payloads; pointwise
  rw [dif_neg (by omega), dif_neg (by omega), dif_neg (by omega)]
  exact congrArg (fun e => w (ix2 r ⟨192 + d.val, by omega⟩) + ∑ x, s3 (ix2 r x) * k (ix3 0 x e)) (Fin.ext (by show 192 + d.val - 64 - 64 - 64 = d.val; omega))

end Blocks

/-! ### One step, over real numbers -/
theorem real_os (o μ : ℝ) {Z : ℝ} (hZ : 0 < Z) :
    (o : EReal) * Ideal.exp ((μ : EReal) - ((Real.log Z : ℝ) : EReal)) = ((o * (Real.exp μ / Z) : ℝ) : EReal) := by
  rw [← EReal.coe_sub, Ideal.exp_coe, ← EReal.coe_mul, Real.exp_sub, Real.exp_log hZ]

theorem real_p (e o μ Z : ℝ) :
    ((Real.exp (-μ) * e : ℝ) : EReal) * ((o * (Real.exp μ / Z) : ℝ) : EReal) = ((e / Z * o : ℝ) : EReal) := by
  rw [← EReal.coe_mul]
  have h : Real.exp (-μ) * Real.exp μ = 1 := by rw [← Real.exp_add, neg_add_cancel, Real.exp_zero]
  refine congrArg (fun r : ℝ => (r : EReal)) ?_
  calc Real.exp (-μ) * e * (o * (Real.exp μ / Z)) = (Real.exp (-μ) * Real.exp μ) * (e / Z * o) := by ring
    _ = e / Z * o := by rw [h, one_mul]

theorem real_ds (e D μ : ℝ) {Z : ℝ} (hZ : 0 < Z) (o v : Fin 64 → ℝ) :
    ((Real.exp (-μ) * e : ℝ) : EReal) * ((∑ d, ((o d * (Real.exp μ / Z) : ℝ) : EReal) * (v d : EReal))
        - (D : EReal) * Ideal.exp ((μ : EReal) - ((Real.log Z : ℝ) : EReal)))
      = ((e / Z * ((∑ d, o d * v d) - D) : ℝ) : EReal) := by
  rw [real_os D μ hZ, Finset.sum_congr rfl fun d _ => (EReal.coe_mul _ _).symm, ← coe_sum, ← EReal.coe_sub, ← EReal.coe_mul]
  have h : Real.exp (-μ) * Real.exp μ = 1 := by rw [← Real.exp_add, neg_add_cancel, Real.exp_zero]
  have hs : ∑ d, o d * (Real.exp μ / Z) * v d = Real.exp μ / Z * ∑ d, o d * v d := by
    rw [Finset.mul_sum]; exact Finset.sum_congr rfl fun d _ => by ring
  refine congrArg (fun r : ℝ => (r : EReal)) ?_
  rw [hs]
  calc Real.exp (-μ) * e * (Real.exp μ / Z * ∑ d, o d * v d - D * (Real.exp μ / Z))
      = (Real.exp (-μ) * Real.exp μ) * (e / Z * ((∑ d, o d * v d) - D)) := by ring
    _ = _ := by rw [h, one_mul]

/-- Feature `d` of head `h` of a group. -/
def col (h : Fin 4) (d : Fin 64) : Fin 256 := ⟨h.val * 64 + d.val, by omega⟩

/-- The blocks of a step hold the numbers of group `g`'s rows `n` and keys `y`. -/
structure Blk (A : Attn.Args) (g : Fin 4) (n : Fin 256 → Fin 8448) (y : Fin 2816 → Fin 8448) (μ : Fin 4 → Fin 256 → ℝ)
    (q : Vec Ideal S256x256 .bf16) (k : Vec Ideal S1x2816x64 .bf16) (vv : Vec Ideal S1x2816x128 .bf16) (pt : Vec Ideal S4x256x2816 .bf16)
    (mb : Vec Ideal S1x256x128 .f32) (dO : Vec Ideal S256x256 .bf16) (ls dl : Vec Ideal S256x128 .f32) : Prop where
  q : ∀ h r d, q (ix2 r (col h d)) = (A.Q (n r) (Attn.hd g h) d : EReal)
  k : ∀ x d, k (ix3 0 x d) = (A.K (y x) g d : EReal)
  v : ∀ x (d : Fin 64), vv (ix3 0 x ⟨d.val, by omega⟩) = (A.V (y x) g d : EReal)
  p : ∀ h r x, pt (ix3 h r x) = ((Real.exp (-μ h r) * A.E g h (n r) (y x) : ℝ) : EReal)
  m : ∀ (h : Fin 4) r, mb (ix3 0 r ⟨h.val, by omega⟩) = (μ h r : EReal)
  l : ∀ (h : Fin 4) r, ls (ix2 r ⟨h.val, by omega⟩) = ((Real.log (A.Z g h (n r)) : ℝ) : EReal)
  D : ∀ (h : Fin 4) r, dl (ix2 r ⟨h.val, by omega⟩) = (A.D g h (n r) : EReal)
  o : ∀ h r d, dO (ix2 r (col h d)) = (A.O (n r) (Attn.ft g h d) : EReal)

section Blk

variable {A : Attn.Args} {g : Fin 4} {n : Fin 256 → Fin 8448} {y : Fin 2816 → Fin 8448} {μ : Fin 4 → Fin 256 → ℝ}
  {q : Vec Ideal S256x256 .bf16} {k : Vec Ideal S1x2816x64 .bf16} {vv : Vec Ideal S1x2816x128 .bf16} {pt : Vec Ideal S4x256x2816 .bf16}
  {mb : Vec Ideal S1x256x128 .f32} {dO : Vec Ideal S256x256 .bf16} {ls dl : Vec Ideal S256x128 .f32}
  (B : Blk A g n y μ q k vv pt mb dO ls dl)
include B

theorem Blk.o0 (r d) (h) : dO (ix2 r ⟨d.val, h⟩) = (A.O (n r) (Attn.ft g 0 d) : EReal) :=
  (congrArg (fun e => dO (ix2 r e)) (Fin.ext (by show d.val = 0 * 64 + d.val; omega))).trans (B.o 0 r d)

theorem Blk.o1 (r d) (h) : dO (ix2 r ⟨64 + d.val, h⟩) = (A.O (n r) (Attn.ft g 1 d) : EReal) :=
  (congrArg (fun e => dO (ix2 r e)) (Fin.ext (by show 64 + d.val = 1 * 64 + d.val; omega))).trans (B.o 1 r d)

theorem Blk.o2 (r d) (h) : dO (ix2 r ⟨128 + d.val, h⟩) = (A.O (n r) (Attn.ft g 2 d) : EReal) :=
  (congrArg (fun e => dO (ix2 r e)) (Fin.ext (by show 128 + d.val = 2 * 64 + d.val; omega))).trans (B.o 2 r d)

theorem Blk.o3 (r d) (h) : dO (ix2 r ⟨192 + d.val, h⟩) = (A.O (n r) (Attn.ft g 3 d) : EReal) :=
  (congrArg (fun e => dO (ix2 r e)) (Fin.ext (by show 192 + d.val = 3 * 64 + d.val; omega))).trans (B.o 3 r d)

theorem Blk.q0 (r d) (h) : q (ix2 r ⟨d.val, h⟩) = (A.Q (n r) (Attn.hd g 0) d : EReal) :=
  (congrArg (fun e => q (ix2 r e)) (Fin.ext (by show d.val = 0 * 64 + d.val; omega))).trans (B.q 0 r d)

theorem Blk.q1 (r d) (h) : q (ix2 r ⟨64 + d.val, h⟩) = (A.Q (n r) (Attn.hd g 1) d : EReal) :=
  (congrArg (fun e => q (ix2 r e)) (Fin.ext (by show 64 + d.val = 1 * 64 + d.val; omega))).trans (B.q 1 r d)

theorem Blk.q2 (r d) (h) : q (ix2 r ⟨128 + d.val, h⟩) = (A.Q (n r) (Attn.hd g 2) d : EReal) :=
  (congrArg (fun e => q (ix2 r e)) (Fin.ext (by show 128 + d.val = 2 * 64 + d.val; omega))).trans (B.q 2 r d)

theorem Blk.q3 (r d) (h) : q (ix2 r ⟨192 + d.val, h⟩) = (A.Q (n r) (Attn.hd g 3) d : EReal) :=
  (congrArg (fun e => q (ix2 r e)) (Fin.ext (by show 192 + d.val = 3 * 64 + d.val; omega))).trans (B.q 3 r d)

theorem Blk.os (h : Fin 4) (r d) : (![os0 mb dO ls, os1 mb dO ls, os2 mb dO ls, os3 mb dO ls] h) (ix2 r d)
    = ((A.O (n r) (Attn.ft g h d) * (Real.exp (μ h r) / A.Z g h (n r)) : ℝ) : EReal) := by
  have hZ := A.Z_pos g h (n r)
  refine Eq.trans ?_ (real_os _ _ hZ)
  match h with
  | 0 => exact (os0_at mb dO ls r d).trans (by rw [B.o0, show mb (ix3 0 r 0) = _ from B.m 0 r, show ls (ix2 r 0) = _ from B.l 0 r])
  | 1 => exact (os1_at mb dO ls r d).trans (by rw [B.o1, show mb (ix3 0 r 1) = _ from B.m 1 r, show ls (ix2 r 1) = _ from B.l 1 r])
  | 2 => exact (os2_at mb dO ls r d).trans (by rw [B.o2, show mb (ix3 0 r 2) = _ from B.m 2 r, show ls (ix2 r 2) = _ from B.l 2 r])
  | 3 => exact (os3_at mb dO ls r d).trans (by rw [B.o3, show mb (ix3 0 r 3) = _ from B.m 3 r, show ls (ix2 r 3) = _ from B.l 3 r])

/-- The heads' score gradients. -/
theorem Blk.ds (h : Fin 4) (r x) : (![ds0 vv pt mb dO ls dl, ds1 vv pt mb dO ls dl, ds2 vv pt mb dO ls dl, ds3 vv pt mb dO ls dl] h) (ix2 r x)
    = (A.ds g h (n r) (y x) : EReal) := by
  have e : ∀ (w : FVec Ideal S256x64 .bf16) (z : EReal), (∀ d, w (ix2 r d) = ((A.O (n r) (Attn.ft g h d) * (Real.exp (μ h r) / A.Z g h (n r)) : ℝ) : EReal)) →
      z = ((Real.exp (-μ h r) * A.E g h (n r) (y x) : ℝ) : EReal) * ((∑ d : Fin 64, (w (ix2 r d) : EReal) * vv (ix3 0 x ⟨d.val, by omega⟩))
        - (A.D g h (n r) : EReal) * Ideal.exp ((μ h r : EReal) - ((Real.log (A.Z g h (n r)) : ℝ) : EReal))) → z = (A.ds g h (n r) (y x) : EReal) := by
    intro w z hw hz
    rw [hz]
    refine Eq.trans ?_ (real_ds _ _ (μ h r) (A.Z_pos g h (n r)) (fun d => A.O (n r) (Attn.ft g h d)) fun d => A.V (y x) g d)
    exact congrArg (fun t : EReal => _ * (t - _)) (Finset.sum_congr rfl fun d _ => congrArg₂ (· * ·) (hw d) (B.v x d))
  match h with
  | 0 => exact e _ _ (B.os 0 r) ((ds0_at vv pt mb dO ls dl r x).trans (by rw [show mb (ix3 0 r 0) = _ from B.m 0 r, show ls (ix2 r 0) = _ from B.l 0 r, show dl (ix2 r 0) = _ from B.D 0 r, B.p 0 r x]; rfl))
  | 1 => exact e _ _ (B.os 1 r) ((ds1_at vv pt mb dO ls dl r x).trans (by rw [show mb (ix3 0 r 1) = _ from B.m 1 r, show ls (ix2 r 1) = _ from B.l 1 r, show dl (ix2 r 1) = _ from B.D 1 r, B.p 1 r x]; rfl))
  | 2 => exact e _ _ (B.os 2 r) ((ds2_at vv pt mb dO ls dl r x).trans (by rw [show mb (ix3 0 r 2) = _ from B.m 2 r, show ls (ix2 r 2) = _ from B.l 2 r, show dl (ix2 r 2) = _ from B.D 2 r, B.p 2 r x]; rfl))
  | 3 => exact e _ _ (B.os 3 r) ((ds3_at vv pt mb dO ls dl r x).trans (by rw [show mb (ix3 0 r 3) = _ from B.m 3 r, show ls (ix2 r 3) = _ from B.l 3 r, show dl (ix2 r 3) = _ from B.D 3 r, B.p 3 r x]; rfl))

/-- What the step adds to the v gradients. -/
theorem Blk.upV (w : Vec Ideal S2816x64 .f32) (x d) : upV pt mb dO ls w (ix2 x d)
    = (w (ix2 x d) : EReal) + ((∑ h, ∑ r, A.p g h (n r) (y x) * A.O (n r) (Attn.ft g h d) : ℝ) : EReal) := by
  have e : ∀ h : Fin 4, ((∑ r, A.p g h (n r) (y x) * A.O (n r) (Attn.ft g h d) : ℝ) : EReal)
      = ∑ r, (pt (ix3 h r x) : EReal) * (![os0 mb dO ls, os1 mb dO ls, os2 mb dO ls, os3 mb dO ls] h) (ix2 r d) := fun h => by
    rw [coe_sum]
    exact Finset.sum_congr rfl fun r _ => ((congrArg₂ (· * ·) (B.p h r x) (B.os h r d)).trans (real_p _ _ _ _)).symm
  rw [upV_at, Fin.sum_univ_four, EReal.coe_add, EReal.coe_add, EReal.coe_add, e 0, e 1, e 2, e 3, ← add_assoc, ← add_assoc, ← add_assoc]
  rfl

/-- What the step adds to the k gradients. -/
theorem Blk.upK (w : Vec Ideal S2816x64 .f32) (x d) :
    upK q (ds0 vv pt mb dO ls dl) (ds1 vv pt mb dO ls dl) (ds2 vv pt mb dO ls dl) (ds3 vv pt mb dO ls dl) w (ix2 x d)
    = (w (ix2 x d) : EReal) + ((∑ h, ∑ r, A.ds g h (n r) (y x) * A.Q (n r) (Attn.hd g h) d : ℝ) : EReal) := by
  have e : ∀ h : Fin 4, ((∑ r, A.ds g h (n r) (y x) * A.Q (n r) (Attn.hd g h) d : ℝ) : EReal)
      = ∑ r, ((![ds0 vv pt mb dO ls dl, ds1 vv pt mb dO ls dl, ds2 vv pt mb dO ls dl, ds3 vv pt mb dO ls dl] h) (ix2 r x) : EReal) * q (ix2 r (col h d)) := fun h => by
    rw [coe_sum]
    exact Finset.sum_congr rfl fun r _ => (EReal.coe_mul _ _).trans (congrArg₂ (· * ·) (B.ds h r x) (B.q h r d)).symm
  have c0 : ∀ hh, (⟨d.val, hh⟩ : Fin 256) = col 0 d := fun _ => Fin.ext (by show d.val = 0 * 64 + d.val; omega)
  have c1 : ∀ hh, (⟨64 + d.val, hh⟩ : Fin 256) = col 1 d := fun _ => Fin.ext (by show 64 + d.val = 1 * 64 + d.val; omega)
  have c2 : ∀ hh, (⟨128 + d.val, hh⟩ : Fin 256) = col 2 d := fun _ => Fin.ext (by show 128 + d.val = 2 * 64 + d.val; omega)
  have c3 : ∀ hh, (⟨192 + d.val, hh⟩ : Fin 256) = col 3 d := fun _ => Fin.ext (by show 192 + d.val = 3 * 64 + d.val; omega)
  rw [upK_at, Fin.sum_univ_four, EReal.coe_add, EReal.coe_add, EReal.coe_add, e 0, e 1, e 2, e 3, ← add_assoc, ← add_assoc, ← add_assoc]
  simp only [c0, c1, c2, c3]
  rfl

/-- What the step adds to the q gradients. -/
theorem Blk.upQ (w : Vec Ideal S256x256 .f32) (r) (h : Fin 4) (d) :
    upQ k (ds0 vv pt mb dO ls dl) (ds1 vv pt mb dO ls dl) (ds2 vv pt mb dO ls dl) (ds3 vv pt mb dO ls dl) w (ix2 r (col h d))
    = (w (ix2 r (col h d)) : EReal) + ((∑ x, A.ds g h (n r) (y x) * A.K (y x) g d : ℝ) : EReal) := by
  have e : ((∑ x, A.ds g h (n r) (y x) * A.K (y x) g d : ℝ) : EReal)
      = ∑ x, ((![ds0 vv pt mb dO ls dl, ds1 vv pt mb dO ls dl, ds2 vv pt mb dO ls dl, ds3 vv pt mb dO ls dl] h) (ix2 r x) : EReal) * k (ix3 0 x d) := by
    rw [coe_sum]
    exact Finset.sum_congr rfl fun x _ => (EReal.coe_mul _ _).trans (congrArg₂ (· * ·) (B.ds h r x) (B.k x d)).symm
  rw [e]
  have c0 : col 0 d = ⟨d.val, by omega⟩ := Fin.ext (by show 0 * 64 + d.val = d.val; omega)
  have c1 : col 1 d = ⟨64 + d.val, by omega⟩ := Fin.ext (by show 1 * 64 + d.val = 64 + d.val; omega)
  have c2 : col 2 d = ⟨128 + d.val, by omega⟩ := Fin.ext (by show 2 * 64 + d.val = 128 + d.val; omega)
  have c3 : col 3 d = ⟨192 + d.val, by omega⟩ := Fin.ext (by show 3 * 64 + d.val = 192 + d.val; omega)
  match h with
  | 0 => rw [c0]; exact upQ_0 k _ _ _ _ w r d
  | 1 => rw [c1]; exact upQ_1 k _ _ _ _ w r d
  | 2 => rw [c2]; exact upQ_2 k _ _ _ _ w r d
  | 3 => rw [c3]; exact upQ_3 k _ _ _ _ w r d

end Blk

end Cert.Proof.AttnBwd
-- ==== Proof.AttnBwdGrid.lean ====
module
public import proofs.«01_k».proof.Proof.Gen.AttnBwdIdeal.Value
public import proofs.«01_k».proof.Proof.AttnBwdStep
public import proofs.«01_k».proof.Proof.AttnBwdSaved
public import Idealize.ShloMosaic.Lib.Pointwise
public import Idealize.ShloMosaic.Lib.KernelVsHost
public import Idealize.ShloMosaic.Lib.StableHlo.ReadAt
public import Idealize.ShloMosaic.Lib.Pipeline.ValueKit
@[expose] public section

/-!
# The attention's backward call, step by step

Which rows, keys and heads a step's blocks hold.
-/

noncomputable section
set_option maxHeartbeats 1000000
set_option maxRecDepth 16384
namespace Cert.Proof.AttnBwd
open Idealize.ShloMosaic Idealize.ShloMosaic.TcCoe Idealize.SL.Sem
open Cert.AttnBwdIdeal Cert.AttnBwdIdeal.Gen
variable (m : (ℓ : Loc nD τ sig) → Buf (Elt Ideal) ℓ) (c : Dev nD)

/-! ### The blocks of a step -/

/-- The three coordinates of a step. -/
def tg (t : Fin cfg0.N) : Fin 4 := ⟨t.val / 99, by have : t.val < 396 := t.isLt; omega⟩

def tj (t : Fin cfg0.N) : Fin 3 := ⟨t.val / 33 % 3, by omega⟩

def ti (t : Fin cfg0.N) : Fin 33 := ⟨t.val % 33, by omega⟩

/-- Row `r` of a step's tile of rows. -/
def rowAt (i : Fin 33) (r : Fin 256) : Fin 8448 := ⟨i.val * 256 + r.val, by omega⟩

/-- Feature `x` of a group. -/
def colAt (g : Fin 4) (x : Fin 256) : Fin 1024 := ⟨g.val * 256 + x.val, by omega⟩

def laneAt (g : Fin 4) (x : Fin 128) : Fin 512 := ⟨g.val * 128 + x.val, by omega⟩

def headAt (g h : Fin 4) : Fin 16 := ⟨g.val * 4 + h.val, by omega⟩

theorem idx : ∀ t : Fin cfg0.N, win0_0.index t = ![t.val % 33, t.val / 99] ∧ win0_1.index t = ![t.val / 99, t.val / 33 % 3, 0]
    ∧ win0_2.index t = ![t.val / 99, t.val / 33 % 3, 0] ∧ win0_3.index t = ![t.val / 99, t.val % 33, t.val / 33 % 3]
    ∧ win0_4.index t = ![t.val / 33 % 3, t.val % 33, t.val / 99] ∧ win0_5.index t = ![t.val % 33, t.val / 99]
    ∧ win0_6.index t = ![t.val % 33, t.val / 99] ∧ win0_7.index t = ![t.val % 33, t.val / 99] ∧ win0_8.index t = ![0, t.val / 99]
    ∧ win0_9.index t = ![t.val / 99, t.val / 33 % 3, 0] ∧ win0_10.index t = ![t.val / 99, t.val / 33 % 3, 0]
    ∧ k0_off1 (grid0.coords t) = ![t.val % 33 * 256, 0] :=
  (by decide +kernel : ∀ t : Fin grid0.N, win0_0.index t = ![t.val % 33, t.val / 99] ∧ win0_1.index t = ![t.val / 99, t.val / 33 % 3, 0]
    ∧ win0_2.index t = ![t.val / 99, t.val / 33 % 3, 0] ∧ win0_3.index t = ![t.val / 99, t.val % 33, t.val / 33 % 3]
    ∧ win0_4.index t = ![t.val / 33 % 3, t.val % 33, t.val / 99] ∧ win0_5.index t = ![t.val % 33, t.val / 99]
    ∧ win0_6.index t = ![t.val % 33, t.val / 99] ∧ win0_7.index t = ![t.val % 33, t.val / 99] ∧ win0_8.index t = ![0, t.val / 99]
    ∧ win0_9.index t = ![t.val / 99, t.val / 33 % 3, 0] ∧ win0_10.index t = ![t.val / 99, t.val / 33 % 3, 0]
    ∧ k0_off1 (grid0.coords t) = ![t.val % 33 * 256, 0])

theorem at_b0 (t : Fin cfg0.N) (r x : Fin 256) : ((View.whole main_v140).slice (win0_0.rect t)).emb (ix2 r x) = ix2 (rowAt (ti t) r) (colAt (tg t) x) := by
  blk_point [(idx t).1, tg, ti, tj, key, rowAt, colAt, laneAt, headAt]

theorem of_b0 (W : FVec Ideal S8448x1024 .bf16) (t : Fin cfg0.N) (r x : Fin 256) :
    View.read (Elt Ideal) ((cfg0.win 0).blk t).view W (ix2 r x) = W (ix2 (rowAt (ti t) r) (colAt (tg t) x)) :=
  congrArg W (at_b0 t r x)

theorem b0 (t : Fin cfg0.N) (r x : Fin 256) : iblk m c 0 t (ix2 r x) = h140 m c (ix2 (rowAt (ti t) r) (colAt (tg t) x)) := by
  unfold iblk
  exact of_b0 (h140 m c) t r x

theorem at_b1 (t : Fin cfg0.N) (x : Fin 2816) (d : Fin 64) : ((View.whole main_v141).slice (win0_1.rect t)).emb (ix3 0 x d) = ix3 (tg t) (key (tj t) x) d := by
  blk_point [(idx t).2.1, tg, ti, tj, key, rowAt, colAt, laneAt, headAt]

theorem of_b1 (W : FVec Ideal S4x8448x64 .bf16) (t : Fin cfg0.N) (x : Fin 2816) (d : Fin 64) :
    View.read (Elt Ideal) ((cfg0.win 1).blk t).view W (ix3 0 x d) = W (ix3 (tg t) (key (tj t) x) d) :=
  congrArg W (at_b1 t x d)

theorem b1 (t : Fin cfg0.N) (x : Fin 2816) (d : Fin 64) : iblk m c 1 t (ix3 0 x d) = h141 m c (ix3 (tg t) (key (tj t) x) d) := by
  unfold iblk
  exact of_b1 (h141 m c) t x d

theorem at_b2 (t : Fin cfg0.N) (x : Fin 2816) (d : Fin 128) : ((View.whole main_v142).slice (win0_2.rect t)).emb (ix3 0 x d) = ix3 (tg t) (key (tj t) x) d := by
  blk_point [(idx t).2.2.1, tg, ti, tj, key, rowAt, colAt, laneAt, headAt]

theorem of_b2 (W : FVec Ideal S4x8448x128 .bf16) (t : Fin cfg0.N) (x : Fin 2816) (d : Fin 128) :
    View.read (Elt Ideal) ((cfg0.win 2).blk t).view W (ix3 0 x d) = W (ix3 (tg t) (key (tj t) x) d) :=
  congrArg W (at_b2 t x d)

theorem b2 (t : Fin cfg0.N) (x : Fin 2816) (d : Fin 128) : iblk m c 2 t (ix3 0 x d) = h142 m c (ix3 (tg t) (key (tj t) x) d) := by
  unfold iblk
  exact of_b2 (h142 m c) t x d

theorem at_b3 (t : Fin cfg0.N) (h : Fin 4) (r : Fin 256) (x : Fin 2816) : ((View.whole main_v138).slice (win0_3.rect t)).emb (ix3 h r x) = ix3 (headAt (tg t) h) (rowAt (ti t) r) (key (tj t) x) := by
  blk_point [(idx t).2.2.2.1, tg, ti, tj, key, rowAt, colAt, laneAt, headAt]

theorem of_b3 (W : FVec Ideal S16x8448x8448 .bf16) (t : Fin cfg0.N) (h : Fin 4) (r : Fin 256) (x : Fin 2816) :
    View.read (Elt Ideal) ((cfg0.win 3).blk t).view W (ix3 h r x) = W (ix3 (headAt (tg t) h) (rowAt (ti t) r) (key (tj t) x)) :=
  congrArg W (at_b3 t h r x)

theorem b3 (t : Fin cfg0.N) (h : Fin 4) (r : Fin 256) (x : Fin 2816) : iblk m c 3 t (ix3 h r x) = h138 m c (ix3 (headAt (tg t) h) (rowAt (ti t) r) (key (tj t) x)) := by
  unfold iblk
  exact of_b3 (h138 m c) t h r x

theorem at_b4 (t : Fin cfg0.N) (r : Fin 256) (x : Fin 128) : ((View.whole main_v135).slice (win0_4.rect t)).emb (ix3 0 r x) = ix3 (tj t) (rowAt (ti t) r) (laneAt (tg t) x) := by
  blk_point [(idx t).2.2.2.2.1, tg, ti, tj, key, rowAt, colAt, laneAt, headAt]

theorem of_b4 (W : FVec Ideal S3x8448x512 .f32) (t : Fin cfg0.N) (r : Fin 256) (x : Fin 128) :
    View.read (Elt Ideal) ((cfg0.win 4).blk t).view W (ix3 0 r x) = W (ix3 (tj t) (rowAt (ti t) r) (laneAt (tg t) x)) :=
  congrArg W (at_b4 t r x)

theorem b4 (t : Fin cfg0.N) (r : Fin 256) (x : Fin 128) : iblk m c 4 t (ix3 0 r x) = h135 m c (ix3 (tj t) (rowAt (ti t) r) (laneAt (tg t) x)) := by
  unfold iblk
  exact of_b4 (h135 m c) t r x

theorem at_b5 (t : Fin cfg0.N) (r x : Fin 256) : ((View.whole main_v143).slice (win0_5.rect t)).emb (ix2 r x) = ix2 (rowAt (ti t) r) (colAt (tg t) x) := by
  blk_point [(idx t).2.2.2.2.2.1, tg, ti, tj, key, rowAt, colAt, laneAt, headAt]

theorem of_b5 (W : FVec Ideal S8448x1024 .bf16) (t : Fin cfg0.N) (r x : Fin 256) :
    View.read (Elt Ideal) ((cfg0.win 5).blk t).view W (ix2 r x) = W (ix2 (rowAt (ti t) r) (colAt (tg t) x)) :=
  congrArg W (at_b5 t r x)

theorem b5 (t : Fin cfg0.N) (r x : Fin 256) : iblk m c 5 t (ix2 r x) = h143 m c (ix2 (rowAt (ti t) r) (colAt (tg t) x)) := by
  unfold iblk
  exact of_b5 (h143 m c) t r x

theorem at_b6 (t : Fin cfg0.N) (r : Fin 256) (x : Fin 128) : ((View.whole main_v119).slice (win0_6.rect t)).emb (ix2 r x) = ix2 (rowAt (ti t) r) (laneAt (tg t) x) := by
  blk_point [(idx t).2.2.2.2.2.2.1, tg, ti, tj, key, rowAt, colAt, laneAt, headAt]

theorem of_b6 (W : FVec Ideal S8448x512 .f32) (t : Fin cfg0.N) (r : Fin 256) (x : Fin 128) :
    View.read (Elt Ideal) ((cfg0.win 6).blk t).view W (ix2 r x) = W (ix2 (rowAt (ti t) r) (laneAt (tg t) x)) :=
  congrArg W (at_b6 t r x)

theorem b6 (t : Fin cfg0.N) (r : Fin 256) (x : Fin 128) : iblk m c 6 t (ix2 r x) = h119 m c (ix2 (rowAt (ti t) r) (laneAt (tg t) x)) := by
  unfold iblk
  exact of_b6 (h119 m c) t r x

theorem at_b7 (t : Fin cfg0.N) (r : Fin 256) (x : Fin 128) : ((View.whole main_v113).slice (win0_7.rect t)).emb (ix2 r x) = ix2 (rowAt (ti t) r) (laneAt (tg t) x) := by
  blk_point [(idx t).2.2.2.2.2.2.2.1, tg, ti, tj, key, rowAt, colAt, laneAt, headAt]

theorem of_b7 (W : FVec Ideal S8448x512 .f32) (t : Fin cfg0.N) (r : Fin 256) (x : Fin 128) :
    View.read (Elt Ideal) ((cfg0.win 7).blk t).view W (ix2 r x) = W (ix2 (rowAt (ti t) r) (laneAt (tg t) x)) :=
  congrArg W (at_b7 t r x)

theorem b7 (t : Fin cfg0.N) (r : Fin 256) (x : Fin 128) : iblk m c 7 t (ix2 r x) = h113 m c (ix2 (rowAt (ti t) r) (laneAt (tg t) x)) := by
  unfold iblk
  exact of_b7 (h113 m c) t r x
variable {m c} {A : Attn.Args} (H : Holds m c A)

include H in
/-- The blocks of step `t` hold the numbers of its group, its rows and its keys. -/
theorem blk (t : Fin cfg0.N) : ∃ μ, Blk A (tg t) (rowAt (ti t)) (key (tj t)) μ
    (iblk m c 0 t) (iblk m c 1 t) (iblk m c 2 t) (iblk m c 3 t) (iblk m c 4 t) (iblk m c 5 t) (iblk m c 6 t) (iblk m c 7 t) := by
  choose μ h1 h2 h3 h4 using fun h r => saved H (tg t) h (rowAt (ti t) r)
  refine ⟨fun h r => μ h r (tj t), ⟨fun h r d => ?_, fun x d => ?_, fun x d => ?_, fun h r x => ?_, fun h r => ?_, fun h r => ?_, fun h r => ?_, fun h r d => ?_⟩⟩
  · rw [b0]
    have e : colAt (tg t) (col h d) = ⟨(Attn.hd (tg t) h).val * 64 + d.val, by have := (Attn.hd (tg t) h).isLt; omega⟩ :=
      Fin.ext (by show (tg t).val * 256 + (h.val * 64 + d.val) = ((tg t).val * 4 + h.val) * 64 + d.val; omega)
    rw [e, r140, q_at H]
  · rw [b1, r141, k_at H]
  · rw [b2, r142, v_at H]
  · exact (b3 m c t h r x).trans (h2 h r (tj t) x)
  · exact (b4 m c t r _).trans (h1 h r (tj t))
  · exact (b6 m c t r _).trans (h3 h r)
  · exact (b7 m c t r _).trans (h4 h r)
  · rw [b5, r143]
    have e : colAt (tg t) (col h d) = Attn.ft (tg t) h d :=
      Fin.ext (by show (tg t).val * 256 + (h.val * 64 + d.val) = ((tg t).val * 4 + h.val) * 64 + d.val; omega)
    rw [e, o_at H]

end Cert.Proof.AttnBwd
-- ==== Proof.AttnBwdFold.lean ====
module
public import proofs.«01_k».proof.Proof.Gen.AttnBwdIdeal.Value
public import proofs.«01_k».proof.Proof.AttnBwdGrid
public import Idealize.ShloMosaic.Lib.Pointwise
public import Idealize.ShloMosaic.Lib.KernelVsHost
public import Idealize.ShloMosaic.Lib.StableHlo.ReadAt
public import Idealize.ShloMosaic.Lib.Pipeline.ValueKit
public import Idealize.ShloMosaic.Lib.WritesUnit
public import Idealize.ShloMosaic.Lib.Pipeline.ReadBack
@[expose] public section

/-!
# The attention's backward call, all its steps

The scratches and the queries' gradient by induction on the steps, and what the last steps leave.
-/

noncomputable section
set_option maxHeartbeats 1000000
set_option maxRecDepth 16384
namespace Cert.Proof.AttnBwd
open Idealize.ShloMosaic Idealize.ShloMosaic.TcCoe Idealize.SL.Sem
open Cert.AttnBwdIdeal Cert.AttnBwdIdeal.Gen
variable (m : (ℓ : Loc nD τ sig) → Buf (Elt Ideal) ℓ) (c : Dev nD)

/-! ### Sums up to a step -/

/-- The sum of the first `k + 1` of `N` terms. -/
def upto {N : ℕ} (f : Fin N → ℝ) (k : ℕ) : ℝ := ∑ i, if i.val ≤ k then f i else 0

theorem upto_zero {N : ℕ} (f : Fin (N + 1) → ℝ) : upto f 0 = f 0 := by
  unfold upto
  rw [Finset.sum_eq_single 0 (fun i _ h => if_neg fun e => h (Fin.ext (Nat.le_zero.1 e))) (fun h => absurd (Finset.mem_univ _) h)]
  exact if_pos le_rfl

theorem upto_succ {N : ℕ} (f : Fin N → ℝ) (i : Fin N) (k : ℕ) (e : i.val = k + 1) : upto f (k + 1) = upto f k + f i := by
  have h : ∀ j : Fin N, (if j.val ≤ k + 1 then f j else 0) = (if j.val ≤ k then f j else 0) + if j = i then f i else 0 := fun j => by
    by_cases a : j = i
    · subst a
      rw [if_pos (by omega), if_neg (by omega), if_pos rfl, zero_add]
    · have : j.val ≠ i.val := fun h => a (Fin.ext h)
      by_cases b : j.val ≤ k
      · rw [if_pos (by omega), if_pos b, if_neg a, add_zero]
      · rw [if_neg (by omega), if_neg b, if_neg a, add_zero]
  unfold upto
  rw [Finset.sum_congr rfl fun j _ => h j, Finset.sum_add_distrib, Finset.sum_ite_eq' Finset.univ i, if_pos (Finset.mem_univ _)]

theorem upto_last {N : ℕ} (f : Fin N → ℝ) (k : ℕ) (h : N ≤ k + 1) : upto f k = ∑ i, f i :=
  Finset.sum_congr rfl fun i _ => if_pos (by have := i.isLt; omega)

/-- The sum over the tiles of keys a row of tile `i` has met by step `k` of its group. -/
def met (f : Fin 3 → ℝ) (i : Fin 33) (k : ℕ) : ℝ := ∑ j, if 33 * j.val + i.val ≤ k then f j else 0

theorem met_zero (f : Fin 3 → ℝ) (i : Fin 33) : met f i 0 = if i.val = 0 then f 0 else 0 := by
  unfold met
  rw [Finset.sum_eq_single 0 (fun j _ h => if_neg fun e => h (Fin.ext (by show j.val = 0; omega))) (fun h => absurd (Finset.mem_univ _) h)]
  exact if_congr (by show 33 * 0 + i.val ≤ 0 ↔ _; omega) rfl rfl

theorem met_stay (f : Fin 3 → ℝ) (i : Fin 33) (k : ℕ) (h : i.val ≠ (k + 1) % 33) : met f i (k + 1) = met f i k :=
  Finset.sum_congr rfl fun j _ => if_congr (by have := i.isLt; omega) rfl rfl

theorem met_more (f : Fin 3 → ℝ) (i : Fin 33) (k : ℕ) (j : Fin 3) (h : 33 * j.val + i.val = k + 1) : met f i (k + 1) = met f i k + f j := by
  have e : ∀ l : Fin 3, (if 33 * l.val + i.val ≤ k + 1 then f l else 0) = (if 33 * l.val + i.val ≤ k then f l else 0) + if l = j then f j else 0 := fun l => by
    by_cases a : l = j
    · subst a
      rw [if_pos (by omega), if_neg (by omega), if_pos rfl, zero_add]
    · have : l.val ≠ j.val := fun h => a (Fin.ext h)
      by_cases b : 33 * l.val + i.val ≤ k
      · rw [if_pos (by omega), if_pos b, if_neg a, add_zero]
      · rw [if_neg (by omega), if_neg b, if_neg a, add_zero]
  unfold met
  rw [Finset.sum_congr rfl fun j _ => e j, Finset.sum_add_distrib, Finset.sum_ite_eq' Finset.univ j, if_pos (Finset.mem_univ _)]

theorem met_last (f : Fin 3 → ℝ) (i : Fin 33) (k : ℕ) (h : 98 ≤ k) : met f i k = ∑ j, f j :=
  Finset.sum_congr rfl fun j _ => if_pos (by omega)

/-! ### One step -/

/-- What the step of group `g`, keys `j` and rows `i` adds to the gradient of the values, -/
def cV (A : Attn.Args) (g : Fin 4) (j : Fin 3) (x : Fin 2816) (d : Fin 64) (i : Fin 33) : ℝ :=
  ∑ h, ∑ r, A.p g h (rowAt i r) (key j x) * A.O (rowAt i r) (Attn.ft g h d)

/-- to the gradient of the keys, -/
def cK (A : Attn.Args) (g : Fin 4) (j : Fin 3) (x : Fin 2816) (d : Fin 64) (i : Fin 33) : ℝ :=
  ∑ h, ∑ r, A.ds g h (rowAt i r) (key j x) * A.Q (rowAt i r) (Attn.hd g h) d

/-- and to the gradient of the queries. -/
def cQ (A : Attn.Args) (g h : Fin 4) (i : Fin 33) (r : Fin 256) (d : Fin 64) (j : Fin 3) : ℝ :=
  ∑ x, A.ds g h (rowAt i r) (key j x) * A.K (key j x) g d

variable {m c} {A : Attn.Args}

theorem zero_add_coe {a : EReal} (h : a = (0 : EReal)) (x : ℝ) : a + (x : EReal) = (x : EReal) := by rw [h, zero_add]

theorem pay8_at (x d) : (k0_pay8 (F := Ideal)) (ix2 x d) = (0 : EReal) := by unfold_payloads; pointwise
theorem pay7_at (x d) : (k0_pay7 (F := Ideal)) (ix2 x d) = (0 : EReal) := by unfold_payloads; pointwise
theorem pay6_at (x d) : (k0_pay6 (F := Ideal)) (ix2 x d) = (0 : EReal) := by unfold_payloads; pointwise

/-- The first step of a tile of keys leaves its own part of the values' gradient in the scratch, -/
theorem V_new (H : Holds m c A) (t : Fin cfg0.N) (h1 : t.val % 33 = 0) (x : Fin 2816) (d : Fin 64) :
    (outsAt0 m c t.val t.isLt).2.2.2.2 (ix2 x d) = (cV A (tg t) (tj t) x d (ti t) : EReal) := by
  obtain ⟨μ, B⟩ := blk H t
  have e := (B.upV (k0_pay8 (F := Ideal)) x d).trans (zero_add_coe (pay8_at x d) _)
  by_cases h0 : t.val % 99 = 0
  · rw [outsAt0_A m c t h0 h1 (by omega)]
    dsimp only
    frame_out
    exact e
  · rw [outsAt0_D m c t h0 h1 (by omega)]
    dsimp only
    frame_out
    exact e

/-- and a later one adds it. -/
theorem V_old (H : Holds m c A) (t : Fin cfg0.N) (h1 : ¬t.val % 33 = 0) (x : Fin 2816) (d : Fin 64) :
    (outsAt0 m c t.val t.isLt).2.2.2.2 (ix2 x d)
      = ((outsAt0 m c (t.val - 1) (Nat.lt_of_le_of_lt (Nat.sub_le _ _) t.isLt)).2.2.2.2 (ix2 x d) : EReal) + (cV A (tg t) (tj t) x d (ti t) : EReal) := by
  obtain ⟨μ, B⟩ := blk H t
  have e := B.upV (outsAt0 m c (t.val - 1) (Nat.lt_of_le_of_lt (Nat.sub_le _ _) t.isLt)).2.2.2.2 x d
  by_cases h2 : t.val % 33 = 32
  · rw [outsAt0_C m c t (by omega) h1 h2]
    dsimp only
    frame_out
    rw [read_unread_whole]
    exact e
  · rw [outsAt0_B m c t (by omega) h1 h2]
    dsimp only
    frame_out
    rw [read_unread_whole]
    exact e

/-- The same for the keys' gradient. -/
theorem K_new (H : Holds m c A) (t : Fin cfg0.N) (h1 : t.val % 33 = 0) (x : Fin 2816) (d : Fin 64) :
    (outsAt0 m c t.val t.isLt).2.2.2.1 (ix2 x d) = (cK A (tg t) (tj t) x d (ti t) : EReal) := by
  obtain ⟨μ, B⟩ := blk H t
  have e := (B.upK (k0_pay7 (F := Ideal)) x d).trans (zero_add_coe (pay7_at x d) _)
  by_cases h0 : t.val % 99 = 0
  · rw [outsAt0_A m c t h0 h1 (by omega)]
    dsimp only
    frame_out
    exact e
  · rw [outsAt0_D m c t h0 h1 (by omega)]
    dsimp only
    frame_out
    exact e

theorem K_old (H : Holds m c A) (t : Fin cfg0.N) (h1 : ¬t.val % 33 = 0) (x : Fin 2816) (d : Fin 64) :
    (outsAt0 m c t.val t.isLt).2.2.2.1 (ix2 x d)
      = ((outsAt0 m c (t.val - 1) (Nat.lt_of_le_of_lt (Nat.sub_le _ _) t.isLt)).2.2.2.1 (ix2 x d) : EReal) + (cK A (tg t) (tj t) x d (ti t) : EReal) := by
  obtain ⟨μ, B⟩ := blk H t
  have e := B.upK (outsAt0 m c (t.val - 1) (Nat.lt_of_le_of_lt (Nat.sub_le _ _) t.isLt)).2.2.2.1 x d
  by_cases h2 : t.val % 33 = 32
  · rw [outsAt0_C m c t (by omega) h1 h2]
    dsimp only
    frame_out
    rw [read_unread_whole]
    exact e
  · rw [outsAt0_B m c t (by omega) h1 h2]
    dsimp only
    frame_out
    rw [read_unread_whole]
    exact e
theorem pay5_at (w : Vec Ideal S2816x64 .f32) (x d) : k0_pay5 w (ix3 0 x d) = (w (ix2 x d) : EReal) := by unfold_payloads; pointwise
theorem pay4_at (w : Vec Ideal S2816x64 .f32) (x d) : k0_pay4 w (ix3 0 x d) = (w (ix2 x d) : EReal) := by unfold_payloads; pointwise

/-- The last step of a tile of keys hands the scratch on. -/
theorem V_out (t : Fin cfg0.N) (h2 : t.val % 33 = 32) (x : Fin 2816) (d : Fin 64) :
    (outsAt0 m c t.val t.isLt).2.2.1 (ix3 0 x d) = ((outsAt0 m c t.val t.isLt).2.2.2.2 (ix2 x d) : EReal) := by
  rw [outsAt0_C m c t (by omega) (by omega) h2]
  dsimp only
  frame_out
  exact pay5_at _ x d

theorem K_out (t : Fin cfg0.N) (h2 : t.val % 33 = 32) (x : Fin 2816) (d : Fin 64) :
    (outsAt0 m c t.val t.isLt).2.1 (ix3 0 x d) = ((outsAt0 m c t.val t.isLt).2.2.2.1 (ix2 x d) : EReal) := by
  rw [outsAt0_C m c t (by omega) (by omega) h2]
  dsimp only
  frame_out
  exact pay4_at _ x d

/-- A store of the tile's rows of the queries' gradient, read at row `r` of tile `i`. -/
theorem put_at (t : Fin cfg0.N) {sp : Space} {κ : Kind} {sg : RefSig} (v : View sg κ sp S8448x256 .f32) (f : v.ty.Contents (Elt Ideal))
    (inb : ∀ a : Fin 2, k0_off1 (grid0.coords t) a + ![256, 256] a ≤ S8448x256.size a)
    (w : (Rect.unit (s := S8448x256) (k0_off1 (grid0.coords t)) ![256, 256] inb).shape.Idx → Elt Ideal .f32) (l : List (View.Piece (Elt Ideal) S8448x256 .f32))
    (i : Fin 33) (r e : Fin 256) :
    v.read (Elt Ideal) (v.writes (Elt Ideal) f (⟨Rect.unit (s := S8448x256) (k0_off1 (grid0.coords t)) ![256, 256] inb, w⟩ :: l)) (ix2 (rowAt i r) e)
      = if i = ti t then w (ix2 r e) else v.read (Elt Ideal) (v.writes (Elt Ideal) f l) (ix2 (rowAt i r) e) := by
  have o := (idx t).2.2.2.2.2.2.2.2.2.2.2
  by_cases h : i = ti t
  · subst h
    rw [if_pos rfl]
    exact View.read_writes_cons_rows_of_mem (o := t.val % 33 * 256) v f inb w l _ (ix2 r e) o rfl rfl
  · rw [if_neg h]
    have : i.val ≠ t.val % 33 := fun e => h (Fin.ext e)
    exact View.read_writes_cons_rows_of_not_mem (o := t.val % 33 * 256) (W := 256) v f inb w l _ o rfl
      (by show i.val * 256 + r.val < _ ∨ _ ≤ i.val * 256 + r.val; omega)

/-- A load of the tile's rows. -/
theorem ld_at (t : Fin cfg0.N) (w : Vec Ideal S8448x256 .f32)
    (inb : ∀ a : Fin 2, k0_off1 (grid0.coords t) a + ![256, 256] a ≤ S8448x256.size a) (r e : Fin 256) :
    View.ld w (Rect.unit (s := S8448x256) (k0_off1 (grid0.coords t)) ![256, 256] inb) (ix2 r e) = (w (ix2 (rowAt (ti t) r) e) : EReal) := by
  have o := (idx t).2.2.2.2.2.2.2.2.2.2.2
  refine View.ld_unit_apply_of w _ _ inb _ _ fun a => ?_
  match a with
  | 0 => exact congrFun o 0 ▸ rfl
  | 1 => exact (congrFun o 1).symm ▸ (Nat.zero_add _).symm

/-- A step's new rows of the queries' gradient. -/
theorem Q_rows (H : Holds m c A) (t : Fin cfg0.N) {sp : Space} {κ : Kind} {sg : RefSig} (v : View sg κ sp S8448x256 .f32) (f : v.ty.Contents (Elt Ideal))
    (inb : ∀ a : Fin 2, k0_off1 (grid0.coords t) a + ![256, 256] a ≤ S8448x256.size a) (l : List (View.Piece (Elt Ideal) S8448x256 .f32))
    (w : Vec Ideal S8448x256 .f32) (hw : v.read (Elt Ideal) (v.writes (Elt Ideal) f l) = w) (i : Fin 33) (r : Fin 256) (h : Fin 4) (d : Fin 64) :
    v.read (Elt Ideal) (v.writes (Elt Ideal) f (⟨Rect.unit (s := S8448x256) (k0_off1 (grid0.coords t)) ![256, 256] inb,
        upQ (iblk m c 1 t) (ds0 (iblk m c 2 t) (iblk m c 3 t) (iblk m c 4 t) (iblk m c 5 t) (iblk m c 6 t) (iblk m c 7 t))
          (ds1 (iblk m c 2 t) (iblk m c 3 t) (iblk m c 4 t) (iblk m c 5 t) (iblk m c 6 t) (iblk m c 7 t))
          (ds2 (iblk m c 2 t) (iblk m c 3 t) (iblk m c 4 t) (iblk m c 5 t) (iblk m c 6 t) (iblk m c 7 t))
          (ds3 (iblk m c 2 t) (iblk m c 3 t) (iblk m c 4 t) (iblk m c 5 t) (iblk m c 6 t) (iblk m c 7 t))
          (View.ld w (Rect.unit (s := S8448x256) (k0_off1 (grid0.coords t)) ![256, 256] inb))⟩ :: l)) (ix2 (rowAt i r) (col h d))
      = (w (ix2 (rowAt i r) (col h d)) : EReal) + ((if i = ti t then cQ A (tg t) h i r d (tj t) else 0 : ℝ) : EReal) := by
  obtain ⟨μ, B⟩ := blk H t
  refine (put_at t v f inb _ l i r (col h d)).trans ?_
  by_cases e : i = ti t
  · subst e
    rw [if_pos rfl, if_pos rfl]
    exact (B.upQ _ r h d).trans (congrArg (· + _) (ld_at t w inb r (col h d)))
  · rw [if_neg e, if_neg e, hw]
    exact (add_zero _).symm

theorem Q_new (H : Holds m c A) (t : Fin cfg0.N) (h0 : t.val % 99 = 0) (i : Fin 33) (r : Fin 256) (h : Fin 4) (d : Fin 64) :
    (outsAt0 m c t.val t.isLt).1 (ix2 (rowAt i r) (col h d)) = ((if i = ti t then cQ A (tg t) h i r d (tj t) else 0 : ℝ) : EReal) := by
  rw [outsAt0_A m c t h0 (by omega) (by omega)]
  dsimp only
  frame_out
  rw [← View.read_writes_junk_eq_canon (ms0_8 t).view]
  refine (Q_rows H t (ms0_8 t).view _ _ _ (k0_pay6 (F := Ideal)) ?_ i r h d).trans (zero_add_coe (pay6_at _ _) _)
  rw [View.read_writes_junk_eq_canon]
  exact View.canon_cons_unit_lit' _ _ _ (by decide)

theorem Q_old (H : Holds m c A) (t : Fin cfg0.N) (h0 : ¬t.val % 99 = 0) (i : Fin 33) (r : Fin 256) (h : Fin 4) (d : Fin 64) :
    (outsAt0 m c t.val t.isLt).1 (ix2 (rowAt i r) (col h d))
      = ((outsAt0 m c (t.val - 1) (Nat.lt_of_le_of_lt (Nat.sub_le _ _) t.isLt)).1 (ix2 (rowAt i r) (col h d)) : EReal)
        + ((if i = ti t then cQ A (tg t) h i r d (tj t) else 0 : ℝ) : EReal) := by
  by_cases h1 : t.val % 33 = 0
  · rw [outsAt0_D m c t h0 h1 (by omega)]
    dsimp only
    frame_out
    refine Q_rows H t (ms0_8 t).view _ _ [] _ ?_ i r h d
    exact Memref.IsWhole.read_unread _ _
  · by_cases h2 : t.val % 33 = 32
    · rw [outsAt0_C m c t h0 h1 h2]
      dsimp only
      frame_out
      refine Q_rows H t (ms0_8 t).view _ _ [] _ ?_ i r h d
      exact Memref.IsWhole.read_unread _ _
    · rw [outsAt0_B m c t h0 h1 h2]
      dsimp only
      frame_out
      refine Q_rows H t (ms0_8 t).view _ _ [] _ ?_ i r h d
      exact Memref.IsWhole.read_unread _ _

/-! ### All the steps -/

theorem div_same {n : ℕ} (h : ¬(n + 1) % 33 = 0) : (n + 1) / 99 = n / 99 ∧ (n + 1) / 33 % 3 = n / 33 % 3 ∧ (n + 1) % 33 = n % 33 + 1 := by
  have a : (n + 1) / 33 = n / 33 := by omega
  have b : (n + 1) / 99 = (n + 1) / 33 / 3 := by omega
  have d : n / 99 = n / 33 / 3 := by omega
  omega

/-- The scratch of the values' gradient after step `n`. -/
theorem V_all (H : Holds m c A) (x : Fin 2816) (d : Fin 64) : ∀ (n : ℕ) (hn : n < cfg0.N),
    (outsAt0 m c n hn).2.2.2.2 (ix2 x d) = (upto (cV A (tg ⟨n, hn⟩) (tj ⟨n, hn⟩) x d) (n % 33) : EReal) := by
  intro n
  induction n with
  | zero => exact fun hn => (V_new H ⟨0, hn⟩ rfl x d).trans (congrArg _ (upto_zero _).symm)
  | succ n ih =>
    intro hn
    by_cases h : (n + 1) % 33 = 0
    · refine (V_new H ⟨n + 1, hn⟩ h x d).trans (congrArg _ ?_)
      rw [h, upto_zero]
      exact congrArg _ (Fin.ext h)
    · obtain ⟨e0, e1, e2⟩ := div_same h
      have hg : tg ⟨n + 1, hn⟩ = tg ⟨n, Nat.lt_of_succ_lt hn⟩ := Fin.ext e0
      have hj : tj ⟨n + 1, hn⟩ = tj ⟨n, Nat.lt_of_succ_lt hn⟩ := Fin.ext e1
      refine (V_old H ⟨n + 1, hn⟩ h x d).trans ((congrArg (· + _) (ih (Nat.lt_of_succ_lt hn))).trans ((EReal.coe_add _ _).symm.trans (congrArg _ ?_)))
      rw [e2, upto_succ _ (ti ⟨n + 1, hn⟩) _ e2, hg, hj]

/-- The scratch of the keys' gradient after step `n`. -/
theorem K_all (H : Holds m c A) (x : Fin 2816) (d : Fin 64) : ∀ (n : ℕ) (hn : n < cfg0.N),
    (outsAt0 m c n hn).2.2.2.1 (ix2 x d) = (upto (cK A (tg ⟨n, hn⟩) (tj ⟨n, hn⟩) x d) (n % 33) : EReal) := by
  intro n
  induction n with
  | zero => exact fun hn => (K_new H ⟨0, hn⟩ rfl x d).trans (congrArg _ (upto_zero _).symm)
  | succ n ih =>
    intro hn
    by_cases h : (n + 1) % 33 = 0
    · refine (K_new H ⟨n + 1, hn⟩ h x d).trans (congrArg _ ?_)
      rw [h, upto_zero]
      exact congrArg _ (Fin.ext h)
    · obtain ⟨e0, e1, e2⟩ := div_same h
      have hg : tg ⟨n + 1, hn⟩ = tg ⟨n, Nat.lt_of_succ_lt hn⟩ := Fin.ext e0
      have hj : tj ⟨n + 1, hn⟩ = tj ⟨n, Nat.lt_of_succ_lt hn⟩ := Fin.ext e1
      refine (K_old H ⟨n + 1, hn⟩ h x d).trans ((congrArg (· + _) (ih (Nat.lt_of_succ_lt hn))).trans ((EReal.coe_add _ _).symm.trans (congrArg _ ?_)))
      rw [e2, upto_succ _ (ti ⟨n + 1, hn⟩) _ e2, hg, hj]

/-- A step's part of a row of the queries' gradient, added to what the row has met. -/
theorem met_step (f : Fin 3 → ℝ) (i : Fin 33) (n : ℕ) (hn : n + 1 < cfg0.N) (h : ¬(n + 1) % 99 = 0) :
    met f i (n % 99) + (if i = ti ⟨n + 1, hn⟩ then f (tj ⟨n + 1, hn⟩) else 0) = met f i ((n + 1) % 99) := by
  have a : (n + 1) % 99 = n % 99 + 1 := by omega
  by_cases e : i = ti ⟨n + 1, hn⟩
  · have e' : i.val = (n + 1) % 33 := congrArg Fin.val e
    rw [if_pos e, a]
    refine (met_more f i _ _ ?_).symm
    show 33 * ((n + 1) / 33 % 3) + i.val = _
    omega
  · have e' : i.val ≠ (n + 1) % 33 := fun x => e (Fin.ext x)
    rw [if_neg e, a, add_zero]
    exact (met_stay f i _ (by omega)).symm

/-- A group's first step. -/
theorem first (H : Holds m c A) (i : Fin 33) (r : Fin 256) (h : Fin 4) (d : Fin 64) (t : Fin cfg0.N) (h0 : t.val % 99 = 0) :
    (outsAt0 m c t.val t.isLt).1 (ix2 (rowAt i r) (col h d)) = (met (cQ A (tg t) h i r d) i (t.val % 99) : EReal) := by
  refine (Q_new H t h0 i r h d).trans (congrArg _ ?_)
  have a : (ti t).val = 0 := (by show t.val % 33 = 0; omega)
  have b : tj t = 0 := Fin.ext (by show t.val / 33 % 3 = 0; omega)
  rw [h0, met_zero, b]
  by_cases e : i = ti t
  · rw [if_pos e, if_pos ((congrArg Fin.val e).trans a)]
  · rw [if_neg e, if_neg fun x => e (Fin.ext (x.trans a.symm))]

/-- The queries' gradient after step `n`. -/
theorem Q_all (H : Holds m c A) (i : Fin 33) (r : Fin 256) (h : Fin 4) (d : Fin 64) : ∀ (n : ℕ) (hn : n < cfg0.N),
    (outsAt0 m c n hn).1 (ix2 (rowAt i r) (col h d)) = (met (cQ A (tg ⟨n, hn⟩) h i r d) i (n % 99) : EReal) := by
  intro n
  induction n with
  | zero =>
    intro hn
    exact first H i r h d ⟨0, hn⟩ rfl
  | succ n ih =>
    intro hn
    by_cases h0 : (n + 1) % 99 = 0
    · exact first H i r h d ⟨n + 1, hn⟩ h0
    · have hg : tg ⟨n + 1, hn⟩ = tg ⟨n, Nat.lt_of_succ_lt hn⟩ := Fin.ext (by show (n + 1) / 99 = n / 99; omega)
      refine (Q_old H ⟨n + 1, hn⟩ h0 i r h d).trans ((congrArg (· + _) (ih (Nat.lt_of_succ_lt hn))).trans ((EReal.coe_add _ _).symm.trans (congrArg _ ?_)))
      rw [← hg]
      exact met_step _ i n hn h0

/-! ### The results -/

theorem runs (f : Fin 8448 → ℝ) : ∑ i : Fin 33, ∑ r : Fin 256, f (rowAt i r) = ∑ n, f n :=
  (sum_runs (a := 33) (b := 256) rfl f).symm

/-- The last step of a tile of keys holds the values' gradient of these keys, -/
theorem V_last (H : Holds m c A) (t : Fin cfg0.N) (h2 : t.val % 33 = 32) (x : Fin 2816) (d : Fin 64) :
    (outsAt0 m c t.val t.isLt).2.2.1 (ix3 0 x d) = ((Attn.pd (A.DV (tg t) d) (key (tj t) x) : ℝ) : EReal) := by
  refine (V_out t h2 x d).trans ((V_all H x d t.val t.isLt).trans (congrArg _ ?_))
  rw [h2, upto_last _ _ le_rfl, ← A.dv_eq]
  unfold cV
  rw [Finset.sum_comm]
  exact Finset.sum_congr rfl fun h _ => runs fun n => A.p (tg t) h n (key (tj t) x) * A.O n (Attn.ft (tg t) h d)

/-- and their own gradient; -/
theorem K_last (H : Holds m c A) (t : Fin cfg0.N) (h2 : t.val % 33 = 32) (x : Fin 2816) (d : Fin 64) :
    (outsAt0 m c t.val t.isLt).2.1 (ix3 0 x d) = ((Attn.pd (A.DK (tg t) d) (key (tj t) x) : ℝ) : EReal) := by
  refine (K_out t h2 x d).trans ((K_all H x d t.val t.isLt).trans (congrArg _ ?_))
  rw [h2, upto_last _ _ le_rfl, ← A.dk_eq]
  unfold cK
  rw [Finset.sum_comm]
  exact Finset.sum_congr rfl fun h _ => runs fun n => A.ds (tg t) h n (key (tj t) x) * A.Q n (Attn.hd (tg t) h) d

/-- the last step of a group holds the queries' gradient of its heads. -/
theorem Q_last (H : Holds m c A) (t : Fin cfg0.N) (h2 : t.val % 99 = 98) (i : Fin 33) (r : Fin 256) (h : Fin 4) (d : Fin 64) :
    (outsAt0 m c t.val t.isLt).1 (ix2 (rowAt i r) (col h d)) = ((Attn.pd (A.DQ (tg t) h d) (rowAt i r) : ℝ) : EReal) := by
  refine (Q_all H i r h d t.val t.isLt).trans (congrArg _ ?_)
  rw [h2, met_last _ _ _ le_rfl, ← A.dq_eq, sum_keys]
  rfl

end Cert.Proof.AttnBwd
-- ==== Proof.AttnBwdOut.lean ====
module
public import proofs.«01_k».proof.Proof.Gen.AttnBwdIdeal.Value
public import proofs.«01_k».proof.Proof.AttnBwdFold
public import Idealize.ShloMosaic.Lib.Pointwise
public import Idealize.ShloMosaic.Lib.KernelVsHost
public import Idealize.ShloMosaic.Lib.StableHlo.ReadAt
public import Idealize.ShloMosaic.Lib.Pipeline.ValueKit
public import Idealize.ShloMosaic.Lib.WritesUnit
public import Idealize.ShloMosaic.Lib.Pipeline.ReadBack
@[expose] public section

/-!
# The attention's backward call, its results

The arrays the call leaves, as the three gradients.
-/

noncomputable section
set_option maxHeartbeats 1000000
set_option maxRecDepth 16384
namespace Cert.Proof.AttnBwd
open Idealize.ShloMosaic Idealize.ShloMosaic.TcCoe Idealize.SL.Sem
open Cert.AttnBwdIdeal Cert.AttnBwdIdeal.Gen
variable (m : (ℓ : Loc nD τ sig) → Buf (Elt Ideal) ℓ) (c : Dev nD)

variable {m c} {A : Attn.Args}

/-! ### What the call returns -/

/-- The last steps of the groups write the queries' gradient, -/
theorem hands8 : ∀ t : Fin cfg0.N, (cfg0.win 8).flush t = true → t.val % 99 = 98 :=
  (by decide +kernel : ∀ t : Fin grid0.N, win0_8.flush t = true → t.val % 99 = 98)

/-- the last steps of the tiles of keys the two others. -/
theorem hands9 : ∀ t : Fin cfg0.N, (cfg0.win 9).flush t = true → t.val % 33 = 32 :=
  (by decide +kernel : ∀ t : Fin grid0.N, win0_9.flush t = true → t.val % 33 = 32)

theorem hands10 : ∀ t : Fin cfg0.N, (cfg0.win 10).flush t = true → t.val % 33 = 32 :=
  (by decide +kernel : ∀ t : Fin grid0.N, win0_10.flush t = true → t.val % 33 = 32)

theorem at_8 (t : Fin cfg0.N) (n : Fin 8448) (x : Fin 256) : ((View.whole main_v144_0).slice (win0_8.rect t)).emb (ix2 n x) = ix2 n (colAt (tg t) x) := by
  blk_point [(idx t).2.2.2.2.2.2.2.2.1, tg, colAt]

theorem at_9 (t : Fin cfg0.N) (x : Fin 2816) (d : Fin 64) : ((View.whole main_v144_1).slice (win0_9.rect t)).emb (ix3 0 x d) = ix3 (tg t) (key (tj t) x) d := by
  blk_point [(idx t).2.2.2.2.2.2.2.2.2.1, tg, tj, key]

theorem at_10 (t : Fin cfg0.N) (x : Fin 2816) (d : Fin 64) : ((View.whole main_v144_2).slice (win0_10.rect t)).emb (ix3 0 x d) = ix3 (tg t) (key (tj t) x) d := by
  blk_point [(idx t).2.2.2.2.2.2.2.2.2.2.1, tg, tj, key]

/-- The first result is the queries' gradient. -/
theorem dq_all (H : Holds m c A) (W : S8448x1024.Idx → EReal)
    (hW : ∀ g h d n, W (ix2 n (colAt g (col h d))) = ((Attn.pd (A.DQ g h d) n : ℝ) : EReal)) : (Gen.dats m 0 c).arrAt 8 (cfgs 0).N = W := by
  refine (Gen.dats m 0 c).arrAt_eq_of_covers 8 _ (by decide +kernel) fun t hf y => ?_
  blk_simp
  rw [after0_8]
  idx_vars y
  rw [at_8]
  have hx : y1 = col ⟨y1.val / 64, by omega⟩ ⟨y1.val % 64, by omega⟩ := Fin.ext (by show y1.val = y1.val / 64 * 64 + y1.val % 64; omega)
  have hn : y0 = rowAt ⟨y0.val / 256, by omega⟩ ⟨y0.val % 256, by omega⟩ := Fin.ext (by show y0.val = y0.val / 256 * 256 + y0.val % 256; omega)
  rw [hx, hW, hn]
  exact Q_last H t (hands8 t hf) _ _ _ _

/-- The second is the keys'. -/
theorem dk_all (H : Holds m c A) (W : S4x8448x64.Idx → EReal)
    (hW : ∀ g n d, W (ix3 g n d) = ((Attn.pd (A.DK g d) n : ℝ) : EReal)) : (Gen.dats m 0 c).arrAt 9 (cfgs 0).N = W := by
  refine (Gen.dats m 0 c).arrAt_eq_of_covers 9 _ (by decide +kernel) fun t hf y => ?_
  blk_simp
  rw [after0_9]
  idx_vars y
  obtain rfl : y0 = 0 := Subsingleton.elim _ _
  rw [at_9, hW]
  exact K_last H t (hands9 t hf) y1 y2

/-- The third is the values'. -/
theorem dv_all (H : Holds m c A) (W : S4x8448x64.Idx → EReal)
    (hW : ∀ g n d, W (ix3 g n d) = ((Attn.pd (A.DV g d) n : ℝ) : EReal)) : (Gen.dats m 0 c).arrAt 10 (cfgs 0).N = W := by
  refine (Gen.dats m 0 c).arrAt_eq_of_covers 10 _ (by decide +kernel) fun t hf y => ?_
  blk_simp
  rw [after0_10]
  idx_vars y
  obtain rfl : y0 = 0 := Subsingleton.elim _ _
  rw [at_10, hW]
  exact V_last H t (hands10 t hf) y1 y2

end Cert.Proof.AttnBwd
-- ==== Proof.AttnBwdRef.lean ====
module
public import proofs.«01_k».proof.Proof.Gen.AttnBwdRefIdeal.Read
public import proofs.«01_k».proof.Proof.AttnMath
public import proofs.«01_k».proof.Proof.AttnSoft
public import Idealize.ShloMosaic.Lib.Pointwise
public import Idealize.ShloMosaic.Lib.KernelVsHost
public import Idealize.ShloMosaic.Lib.StableHlo.ReadAt
@[expose] public section

/-!
# The attention's reference, entry by entry

What each array of the reference's softmax and of its derivative holds.
-/

noncomputable section
set_option maxHeartbeats 1000000
set_option maxRecDepth 16384
namespace Cert.Proof.AttnBwd
open Idealize.ShloMosaic Idealize.ShloMosaic.TcCoe Idealize.SL.Sem
open Cert.AttnBwdRefIdeal Cert.AttnBwdRefIdeal.Read

variable (x0 : S8208x16x64.Idx → EReal) (x1 x2 : S8208x4x64.Idx → EReal) (x3 : S8208x1024.Idx → EReal)

/-! ### The reference's arrays, entry by entry -/

theorem ft_eq (g h : Fin 4) (d : Fin 64) {l} : (⟨g.val * 256 + h.val * 64 + d.val, l⟩ : Fin 1024) = Attn.ft g h d :=
  Fin.ext (by show g.val * 256 + h.val * 64 + d.val = (g.val * 4 + h.val) * 64 + d.val; omega)

theorem f2 (g h : Fin 4) (i j : Fin 8208) : val_main_v2 (F := Ideal) x0 x1 (ix4 g h i j) = ∑ d, x1 (ix3 j g d) * x0 (ix3 i (Attn.hd g h) d) := by
  pointwise [val_main_v2, val_main_v1, val_main_v0, Attn.hd]

theorem f3 (g h : Fin 4) (i : Fin 8208) : val_main_v3 (F := Ideal) x0 x1 (ix3 g h i) = Finset.univ.fold max (Ideal.ofBits .f32 0xFF800000#32) fun j => val_main_v2 (F := Ideal) x0 x1 (ix4 g h i j) := by
  unfold val_main_v3
  generalize val_main_v2 (F := Ideal) x0 x1 = y
  pointwise [val_main_cst]

theorem f10 (g h : Fin 4) (i : Fin 8208) : val_main_v10 (F := Ideal) x0 x1 (ix3 g h i) = max (Ideal.ofBits .f32 0xFF800000#32) (val_main_v3 (F := Ideal) x0 x1 (ix3 g h i)) := by
  have e : val_main_v9 (F := Ideal) (ix3 g h i) = Ideal.ofBits .f32 0xFF800000#32 := by pointwise [val_main_v9, val_main_cst_1]
  rw [← e, val_main_v10_apply]
  rfl

theorem f23 (g h : Fin 4) (i j : Fin 8208) : val_main_v23 (F := Ideal) x0 x1 (ix4 g h i j)
    = Ideal.exp (val_main_v2 (F := Ideal) x0 x1 (ix4 g h i j) - val_main_v10 (F := Ideal) x0 x1 (ix3 g h i)) := by
  unfold val_main_v23 val_main_v22 val_main_v21 val_main_v20
  generalize val_main_v2 (F := Ideal) x0 x1 = y
  generalize val_main_v10 (F := Ideal) x0 x1 = z
  pointwise

theorem f24 (g h : Fin 4) (i : Fin 8208) : val_main_v24 (F := Ideal) x0 x1 (ix3 g h i) = ∑ j, val_main_v23 (F := Ideal) x0 x1 (ix4 g h i j) := by
  unfold val_main_v24
  generalize val_main_v23 (F := Ideal) x0 x1 = y
  pointwise [val_main_cst_7]

theorem f27 (g h : Fin 4) (i j : Fin 8208) : val_main_v27 (F := Ideal) x0 x1 (ix4 g h i j)
    = Ideal.div (val_main_v23 (F := Ideal) x0 x1 (ix4 g h i j)) (val_main_v24 (F := Ideal) x0 x1 (ix3 g h i)) := by
  unfold val_main_v27 val_main_v26 val_main_v25
  generalize val_main_v23 (F := Ideal) x0 x1 = y
  generalize val_main_v24 (F := Ideal) x0 x1 = z
  pointwise

theorem f30 (g h : Fin 4) (i : Fin 8208) : val_main_v30 (F := Ideal) x0 x1 (ix4 g h i 0)
    = Ideal.div (Ideal.ofBits .f32 0x3F800000#32) (val_main_v24 (F := Ideal) x0 x1 (ix3 g h i) * val_main_v24 (F := Ideal) x0 x1 (ix3 g h i)) := by
  unfold val_main_v30 val_main_v28 val_main_v29 val_main_v25 val_main_cst_8
  generalize val_main_v24 (F := Ideal) x0 x1 = z
  pointwise

theorem f36 (g h : Fin 4) (i j : Fin 8208) : val_main_v36 (F := Ideal) x2 x3 (ix4 g h i j) = ∑ d, x3 (ix2 i (Attn.ft g h d)) * x2 (ix3 j g d) := by
  pointwise [val_main_v36, val_main_v35, val_main_v34]
  exact Finset.sum_congr rfl fun d _ => congrArg (fun z => x3 (ix2 i z) * x2 (ix3 j g d)) (ft_eq g h d)

theorem f42 (g h : Fin 4) (i : Fin 8208) : val_main_v42 (F := Ideal) x0 x1 x2 x3 (ix3 g h i)
    = ∑ j, val_main_v36 (F := Ideal) x2 x3 (ix4 g h i j) * val_main_v30 (F := Ideal) x0 x1 (ix4 g h i 0) * val_main_v23 (F := Ideal) x0 x1 (ix4 g h i j) := by
  unfold val_main_v42 val_main_v41 val_main_v40 val_main_v39
  generalize val_main_v36 (F := Ideal) x2 x3 = y
  generalize val_main_v30 (F := Ideal) x0 x1 = z
  generalize val_main_v23 (F := Ideal) x0 x1 = w
  pointwise [val_main_cst_9]

theorem f47 (g h : Fin 4) (i : Fin 8208) : val_main_v47 (F := Ideal) x0 x1 x2 x3 (ix3 g h i)
    = -(val_main_v42 (F := Ideal) x0 x1 x2 x3 (ix3 g h i) : EReal) := by
  unfold val_main_v47 val_main_v44 val_main_v43
  generalize val_main_v42 (F := Ideal) x0 x1 x2 x3 = y
  pointwise [val_main_cst_10]
  exact Fin.sum_univ_one _

theorem f50 (g h : Fin 4) (i j : Fin 8208) : val_main_v50 (F := Ideal) x0 x1 x2 x3 (ix4 g h i j)
    = (Ideal.div (val_main_v36 (F := Ideal) x2 x3 (ix4 g h i j)) (val_main_v24 (F := Ideal) x0 x1 (ix3 g h i))
        + val_main_v47 (F := Ideal) x0 x1 x2 x3 (ix3 g h i)) * val_main_v23 (F := Ideal) x0 x1 (ix4 g h i j) := by
  unfold val_main_v50 val_main_v49 val_main_v48 val_main_v46 val_main_v45 val_main_v25
  generalize val_main_v36 (F := Ideal) x2 x3 = y
  generalize val_main_v24 (F := Ideal) x0 x1 = z
  generalize val_main_v23 (F := Ideal) x0 x1 = w
  generalize val_main_v47 (F := Ideal) x0 x1 x2 x3 = u
  pointwise

theorem f57 (i : Fin 8208) (g h : Fin 4) (d : Fin 64) : val_main_v57 (F := Ideal) x0 x1 x2 x3 (ix2 i (Attn.ft g h d))
    = ∑ j, val_main_v50 (F := Ideal) x0 x1 x2 x3 (ix4 g h i j) * x1 (ix3 j g d) := by
  unfold val_main_v57 val_main_v56 val_main_v53 val_main_v52 val_main_v51
  generalize val_main_v50 (F := Ideal) x0 x1 x2 x3 = y
  pointwise [Attn.ft]

theorem f55 (j : Fin 8208) (g : Fin 4) (d : Fin 64) : val_main_v55 (F := Ideal) x0 x1 x2 x3 (ix3 j g d)
    = ∑ h, ∑ i, val_main_v50 (F := Ideal) x0 x1 x2 x3 (ix4 g h i j) * x0 (ix3 i (Attn.hd g h) d) := by
  unfold val_main_v55 val_main_v54 val_main_v51 val_main_v0
  generalize val_main_v50 (F := Ideal) x0 x1 x2 x3 = y
  pointwise [Attn.hd]
  exact Finset.sum_comm

theorem f38 (j : Fin 8208) (g : Fin 4) (d : Fin 64) : val_main_v38 (F := Ideal) x0 x1 x3 (ix3 j g d)
    = ∑ h, ∑ i, x3 (ix2 i (Attn.ft g h d)) * val_main_v27 (F := Ideal) x0 x1 (ix4 g h i j) := by
  unfold val_main_v38 val_main_v37 val_main_v35 val_main_v34
  generalize val_main_v27 (F := Ideal) x0 x1 = y
  pointwise
  exact Finset.sum_congr rfl fun h _ => Finset.sum_congr rfl fun i _ => congrArg (fun z => x3 (ix2 i z) * y (ix4 g h i j)) (ft_eq g h d)

/-! ### The results, padded and in the step's order -/

theorem f61 (n : Fin 8448) (x : Fin 1024) : val_main_v61 (F := Ideal) x0 x1 x2 x3 (ix2 n x) = Attn.pd (fun i => val_main_v57 (F := Ideal) x0 x1 x2 x3 (ix2 i x)) n := by
  unfold val_main_v61 val_main_v60 val_main_v59 val_main_v58
  generalize val_main_v57 (F := Ideal) x0 x1 x2 x3 = y
  pointwise [val_main_call0_v0, val_main_c]
  exact dite_congr rfl (fun _ => rfl) fun _ => sitofp_zero (φ := .f32)

theorem f68 (n : Fin 8448) (g : Fin 4) (d : Fin 64) : val_main_v68 (F := Ideal) x0 x1 x2 x3 (ix3 g n d) = Attn.pd (fun i => val_main_v55 (F := Ideal) x0 x1 x2 x3 (ix3 i g d)) n := by
  unfold val_main_v68 val_main_v67 val_main_v66 val_main_v65 val_main_v64 val_main_v63 val_main_v62
  generalize val_main_v55 (F := Ideal) x0 x1 x2 x3 = y
  pointwise [val_main_call1_v0, val_main_c_11]
  exact dite_congr (propext ⟨fun h => h.1, fun h => ⟨h, by omega⟩⟩) (fun _ => rfl) fun _ => sitofp_zero (φ := .f32)

theorem f75 (n : Fin 8448) (g : Fin 4) (d : Fin 64) : val_main_v75 (F := Ideal) x0 x1 x3 (ix3 g n d) = Attn.pd (fun i => val_main_v38 (F := Ideal) x0 x1 x3 (ix3 i g d)) n := by
  unfold val_main_v75 val_main_v74 val_main_v73 val_main_v72 val_main_v71 val_main_v70 val_main_v69
  generalize val_main_v38 (F := Ideal) x0 x1 x3 = y
  pointwise [val_main_call2_v0, val_main_c_12]
  exact dite_congr (propext ⟨fun h => h.1, fun h => ⟨h, by omega⟩⟩) (fun _ => rfl) fun _ => sitofp_zero (φ := .f32)

end Cert.Proof.AttnBwd
-- ==== Proof.AttnBwdRefReal.lean ====
module
public import proofs.«01_k».proof.Proof.Gen.AttnBwdRefIdeal.Read
public import proofs.«01_k».proof.Proof.AttnBwdRef
public import proofs.«01_k».proof.Proof.AttnMath
public import proofs.«01_k».proof.Proof.AttnSoft
public import Idealize.ShloMosaic.Lib.Pointwise
public import Idealize.ShloMosaic.Lib.KernelVsHost
public import Idealize.ShloMosaic.Lib.StableHlo.ReadAt
@[expose] public section

/-!
# The attention's reference over real arguments

The scores' maximum is real, the probabilities are the softmax's, and the three results are the three gradients.
-/

noncomputable section
set_option maxHeartbeats 1000000
set_option maxRecDepth 16384
namespace Cert.Proof.AttnBwd
open Idealize.ShloMosaic Idealize.ShloMosaic.TcCoe Idealize.SL.Sem
open Cert.AttnBwdRefIdeal Cert.AttnBwdRefIdeal.Read

variable {x0 : S8208x16x64.Idx → EReal} {x1 x2 : S8208x4x64.Idx → EReal} {x3 : S8208x1024.Idx → EReal} {A : Attn.Args}

/-! ### Over real arguments -/

/-- The arguments of the reference are real numbers. -/
structure RHolds (A : Attn.Args) (x0 : S8208x16x64.Idx → EReal) (x1 x2 : S8208x4x64.Idx → EReal) (x3 : S8208x1024.Idx → EReal) : Prop where
  q : ∀ i h d, x0 (ix3 i h d) = (A.q i h d : EReal)
  k : ∀ i g d, x1 (ix3 i g d) = (A.k i g d : EReal)
  v : ∀ i g d, x2 (ix3 i g d) = (A.v i g d : EReal)
  o : ∀ i x, x3 (ix2 i x) = (A.o i x : EReal)

theorem neg_inf' : Ideal.ofBits .f32 0xFF800000#32 = ⊥ := by
  show Ideal.ieee 8 23 0xFF800000#32 = ⊥
  rw [Ideal.ieee, if_pos (by decide), if_pos (by decide), if_pos (by decide)]

theorem one_word : Ideal.ofBits .f32 0x3F800000#32 = 1 := by
  show Ideal.ieee 8 23 0x3F800000#32 = 1
  simp [Ideal.ieee]
  rw [← EReal.coe_mul, ← EReal.coe_one]
  norm_num

theorem g2 (R : RHolds A x0 x1 x2 x3) (g h : Fin 4) (i j : Fin 8208) : val_main_v2 (F := Ideal) x0 x1 (ix4 g h i j) = (A.S g h i j : EReal) := by
  rw [f2]
  unfold Attn.Args.S
  rw [coe_sum]
  exact Finset.sum_congr rfl fun d _ => by rw [R.k, R.q, EReal.coe_mul]

/-- The row maximum is a real number. -/
theorem g10 (R : RHolds A x0 x1 x2 x3) (g h : Fin 4) (i : Fin 8208) : ∃ μ : ℝ, val_main_v10 (F := Ideal) x0 x1 (ix3 g h i) = (μ : EReal) := by
  obtain ⟨μ, e⟩ := Attn.max_real (fun j => val_main_v2 (F := Ideal) x0 x1 (ix4 g h i j)) (fun j => by rw [g2 R]; exact EReal.coe_ne_top _) 0 (by rw [g2 R]; exact EReal.coe_ne_bot _)
  refine ⟨μ, ?_⟩
  rw [f10, f3, neg_inf']
  exact (max_eq_right bot_le).trans e

theorem g23 (R : RHolds A x0 x1 x2 x3) (g h : Fin 4) (i j : Fin 8208) {μ : ℝ} (hμ : val_main_v10 (F := Ideal) x0 x1 (ix3 g h i) = (μ : EReal)) :
    val_main_v23 (F := Ideal) x0 x1 (ix4 g h i j) = ((Real.exp (-μ) * Real.exp (A.S g h i j) : ℝ) : EReal) := by
  rw [f23, hμ, g2 R, ← EReal.coe_sub, Ideal.exp_coe, ← Real.exp_add, neg_add_eq_sub]

theorem g24 (R : RHolds A x0 x1 x2 x3) (g h : Fin 4) (i : Fin 8208) {μ : ℝ} (hμ : val_main_v10 (F := Ideal) x0 x1 (ix3 g h i) = (μ : EReal)) :
    val_main_v24 (F := Ideal) x0 x1 (ix3 g h i) = ((Real.exp (-μ) * A.den g h i : ℝ) : EReal) := by
  unfold Attn.Args.den
  rw [f24, Finset.mul_sum, coe_sum]
  exact Finset.sum_congr rfl fun j _ => g23 R g h i j hμ

theorem den_pos (A : Attn.Args) (g h i) : 0 < A.den g h i :=
  Finset.sum_pos (fun _ _ => Real.exp_pos _) ⟨0, Finset.mem_univ _⟩

/-- The probabilities. -/
theorem g27 (R : RHolds A x0 x1 x2 x3) (g h : Fin 4) (i j : Fin 8208) : val_main_v27 (F := Ideal) x0 x1 (ix4 g h i j) = (A.P g h i j : EReal) := by
  obtain ⟨μ, hμ⟩ := g10 R g h i
  have hd := den_pos A g h i
  have he := Real.exp_pos (-μ)
  rw [f27, g23 R g h i j hμ, g24 R g h i hμ, Ideal.div_coe (by positivity), ← EReal.coe_mul]
  refine congrArg _ ?_
  unfold Attn.Args.P
  field_simp

theorem g36 (R : RHolds A x0 x1 x2 x3) (g h : Fin 4) (i j : Fin 8208) : val_main_v36 (F := Ideal) x2 x3 (ix4 g h i j) = (A.DP g h i j : EReal) := by
  rw [f36]
  unfold Attn.Args.DP
  rw [coe_sum]
  exact Finset.sum_congr rfl fun d _ => by rw [R.o, R.v, EReal.coe_mul]

/-- The scores' gradient. -/
theorem g50 (R : RHolds A x0 x1 x2 x3) (g h : Fin 4) (i j : Fin 8208) : val_main_v50 (F := Ideal) x0 x1 x2 x3 (ix4 g h i j) = (A.DS g h i j : EReal) := by
  obtain ⟨μ, hμ⟩ := g10 R g h i
  have hd := den_pos A g h i
  have he := Real.exp_pos (-μ)
  have e42 : val_main_v42 (F := Ideal) x0 x1 x2 x3 (ix3 g h i) = ((∑ j', A.DP g h i j' * (1 / (Real.exp (-μ) * A.den g h i * (Real.exp (-μ) * A.den g h i))) * (Real.exp (-μ) * Real.exp (A.S g h i j')) : ℝ) : EReal) := by
    rw [f42, coe_sum, f30, g24 R g h i hμ, one_word, ← EReal.coe_mul, Ideal.div_coe (by positivity), one_mul]
    exact Finset.sum_congr rfl fun j' _ => by rw [g36 R, g23 R g h i j' hμ, ← EReal.coe_mul, ← EReal.coe_mul]
  rw [f50, f47, e42, g36 R, g24 R g h i hμ, g23 R g h i j hμ, Ideal.div_coe (by positivity), ← EReal.coe_mul, ← EReal.coe_neg, ← EReal.coe_add, ← EReal.coe_mul]
  refine congrArg _ ?_
  have e : ∀ j', A.DP g h i j' * (1 / (Real.exp (-μ) * A.den g h i * (Real.exp (-μ) * A.den g h i))) * (Real.exp (-μ) * Real.exp (A.S g h i j'))
      = A.DP g h i j' * A.P g h i j' * (1 / (Real.exp (-μ) * A.den g h i)) := fun j' => by unfold Attn.Args.P; field_simp
  rw [Finset.sum_congr rfl fun j' _ => e j', ← Finset.sum_mul]
  unfold Attn.Args.DS
  generalize ∑ j', A.DP g h i j' * A.P g h i j' = D
  unfold Attn.Args.P
  field_simp
  ring

/-- The reference's first result, -/
theorem rq (R : RHolds A x0 x1 x2 x3) (g h : Fin 4) (d : Fin 64) (i : Fin 8208) :
    val_main_v57 (F := Ideal) x0 x1 x2 x3 (ix2 i (Attn.ft g h d)) = (A.DQ g h d i : EReal) := by
  rw [f57]
  unfold Attn.Args.DQ
  rw [coe_sum]
  exact Finset.sum_congr rfl fun j _ => by rw [g50 R, R.k, EReal.coe_mul]

/-- its second -/
theorem rk (R : RHolds A x0 x1 x2 x3) (g : Fin 4) (d : Fin 64) (j : Fin 8208) :
    val_main_v55 (F := Ideal) x0 x1 x2 x3 (ix3 j g d) = (A.DK g d j : EReal) := by
  rw [f55]
  unfold Attn.Args.DK
  rw [coe_sum]
  refine Finset.sum_congr rfl fun h _ => ?_
  rw [coe_sum]
  exact Finset.sum_congr rfl fun i _ => by rw [g50 R, R.q, EReal.coe_mul]

/-- and its third. -/
theorem rv (R : RHolds A x0 x1 x2 x3) (g : Fin 4) (d : Fin 64) (j : Fin 8208) :
    val_main_v38 (F := Ideal) x0 x1 x3 (ix3 j g d) = (A.DV g d j : EReal) := by
  rw [f38]
  unfold Attn.Args.DV
  rw [coe_sum]
  refine Finset.sum_congr rfl fun h _ => ?_
  rw [coe_sum]
  exact Finset.sum_congr rfl fun i _ => by rw [g27 R, R.o, ← EReal.coe_mul, mul_comm]

end Cert.Proof.AttnBwd
-- ==== Proof.AttnBwd.lean ====
module
public import proofs.«01_k».proof.Proof.AttnBwdOut
public import proofs.«01_k».proof.Proof.AttnBwdRefReal
public import proofs.«01_k».proof.Proof.Gen.AttnBwdRefIdeal.Run
public import proofs.«01_k».proof.Proof.Gen.Pre_attn_bwd_finite
public import proofs.«01_k».proof.Defs
@[expose] public section

/-!
# The backward of the attention

The call's three results are the gradients that differentiating the softmax attention gives.
-/

noncomputable section
set_option maxHeartbeats 1000000
set_option maxRecDepth 16384
namespace Cert.Proof.AttnBwd
open Idealize.ShloMosaic Idealize.ShloMosaic.TcCoe Idealize.SL.Sem
open Cert.AttnBwdIdeal Cert.AttnBwdIdeal.Gen
variable (m : (ℓ : Loc nD τ sig) → Buf (Elt Ideal) ℓ) (c : Dev nD)

/-- The precondition makes every entry of the queries, the keys, the values and the cotangent a real number. -/
theorem reals (h : Pre_AttnBwdIdeal_attn_bwd_finite m) : (∀ i, IsReal (a0 m c i)) ∧ (∀ i, IsReal (a1 m c i)) ∧ (∀ i, IsReal (a2 m c i)) ∧ (∀ i, IsReal (a3 m c i)) := by
  have e := congrFun (h c) (fun a => a.elim0)
  obtain ⟨e, h3⟩ := andi_one e
  obtain ⟨e, h2⟩ := andi_one e
  obtain ⟨h0, h1⟩ := andi_one e
  exact ⟨isReal_of_all _ _ _ _ _ _ h0, isReal_of_all _ _ _ _ _ _ h1, isReal_of_all _ _ _ _ _ _ h2, isReal_of_all _ _ _ _ _ _ h3⟩

/-- The numbers the arguments are. -/
theorem holds (h : Pre_AttnBwdIdeal_attn_bwd_finite m) : ∃ A, Holds m c A := by
  obtain ⟨h0, h1, h2, h3⟩ := reals m c h
  choose q hq using h0
  choose k hk using h1
  choose v hv using h2
  choose o ho using h3
  exact ⟨⟨fun i h d => q (ix3 i h d), fun i h d => k (ix3 i h d), fun i h d => v (ix3 i h d), fun i x => o (ix2 i x)⟩,
    ⟨fun i h d => hq _, fun i h d => hk _, fun i h d => hv _, fun i x => ho _⟩⟩

variable {m c} {A : Attn.Args}

/-- The reference's arguments are the same numbers. -/
theorem Holds.ref (H : Holds m c A) : RHolds A (a0 m c) (a1 m c) (a2 m c) (a3 m c) := ⟨H.q, H.k, H.v, H.o⟩

/-- The queries' gradient. -/
theorem dq (H : Holds m c A) : (Gen.dats m 0 c).arrAt 8 (cfgs 0).N = AttnBwdRefIdeal.Read.val_main_v61 (a0 m c) (a1 m c) (a2 m c) (a3 m c) := by
  refine dq_all H _ fun g h d n => ?_
  have e : colAt g (col h d) = Attn.ft g h d :=
    Fin.ext (by show g.val * 256 + (h.val * 64 + d.val) = (g.val * 4 + h.val) * 64 + d.val; omega)
  rw [e]
  exact (f61 _ _ _ _ n _).trans (pd_coe _ _ (fun i => rq H.ref g h d i) n)

/-- The keys' gradient. -/
theorem dk (H : Holds m c A) : (Gen.dats m 0 c).arrAt 9 (cfgs 0).N = AttnBwdRefIdeal.Read.val_main_v68 (a0 m c) (a1 m c) (a2 m c) (a3 m c) :=
  dk_all H _ fun g n d => (f68 _ _ _ _ n g d).trans (pd_coe _ _ (fun i => rk H.ref g d i) n)

/-- The values' gradient. -/
theorem dv (H : Holds m c A) : (Gen.dats m 0 c).arrAt 10 (cfgs 0).N = AttnBwdRefIdeal.Read.val_main_v75 (a0 m c) (a1 m c) (a3 m c) :=
  dv_all H _ fun g n d => (f75 _ _ _ n g d).trans (pd_coe _ _ (fun i => rv H.ref g d i) n)

/-- The backward of the attention: every result of the call is the reference's. -/
theorem algebraic : algebraic_AttnBwdIdeal_AttnBwdRefIdeal_pre_attn_bwd_finite := by
  intro m g m' g' hp hm
  refine ⟨_, _, _, Value.run_blocks m g, (θ_run AttnBwdRefIdeal.defs _ _).mono (fun r h c => ?_) (AttnBwdRefIdeal.Value.run m' g')⟩
  obtain ⟨e0, e1, e2, e3⟩ := hm c
  obtain ⟨A, H⟩ := holds m c hp
  exact ⟨
    ((h c).1).trans ((AttnBwdRefIdeal.Read.val_main_v61_eq _ _).trans (by rw [e0, e1, e2, e3]; exact (dq H).symm)),
    ((h c).2.1).trans ((AttnBwdRefIdeal.Read.val_main_v68_eq _ _).trans (by rw [e0, e1, e2, e3]; exact (dk H).symm)),
    ((h c).2.2.1).trans ((AttnBwdRefIdeal.Read.val_main_v75_eq _ _ _).trans (by rw [e0, e1, e3]; exact (dv H).symm)),
    (h c).2.2.2⟩

/-- The reference runs, leaves its arguments as they were and declares no semaphore. -/
theorem ref_frame : quiescent_AttnBwdRefIdeal := fun m ρ _ =>
  (θ_run AttnBwdRefIdeal.defs _ _).mono
    (fun r h => ⟨fun c => (h c).2.2.2, sem_eq_zero_of_no_sems (by decide) r.2⟩) (AttnBwdRefIdeal.Value.run m ρ)

/-- The claims about the backward of the attention. -/
theorem claims : quiescent_AttnBwdIdeal ∧ quiescent_AttnBwdIdeal_pre_attn_bwd_finite ∧ quiescent_AttnBwdRefIdeal
    ∧ quiescent_AttnBwdRefIdeal_pre_attn_bwd_finite ∧ preserves_AttnBwd_AttnBwdIdeal ∧ algebraic_AttnBwdIdeal_AttnBwdRefIdeal_pre_attn_bwd_finite :=
  ⟨fun m ρ _ => Gen.frame m ρ, fun m ρ _ => Gen.frame m ρ, ref_frame, fun m ρ _ => ref_frame m ρ trivial, trivial, algebraic⟩

end Cert.Proof.AttnBwd
-- ==== Proof.Rms.lean ====
module

public import proofs.«01_k».proof.Defs
public import proofs.«01_k».proof.Proof.Reals

@[expose] public section

/-!
# The derivative of the root-mean-square norm

At one row: what the step's calls compute, one factor pulled out, against what differentiating `x * rsqrt(mean(x * x) + eps)` gives.
-/

noncomputable section

namespace Cert.Proof

open Idealize.ShloMosaic

/-- The mean square of a row and the small constant: what the root is taken of. -/
def ms {n : ℕ} (N : EReal) (x : Fin n → EReal) : EReal := Ideal.div (∑ k, x k * x k) N + Ideal.ofBits .f32 0x358637BD#32

/-- The small constant is a positive real. -/
theorem eps_pos : ∃ e : ℝ, 0 < e ∧ Ideal.ofBits .f32 0x358637BD#32 = (e : EReal) := by
  refine ⟨8796093 * 2 ^ (-43 : ℤ), by positivity, ?_⟩
  show Ideal.ieee 8 23 0x358637BD#32 = _
  simp [Ideal.ieee]

/-- The word of minus one half. -/
theorem neg_half_word : Ideal.ofBits .f32 0xBF000000#32 = ((-1 / 2 : ℝ) : EReal) := by
  show Ideal.ieee 8 23 0xBF000000#32 = _
  simp [Ideal.ieee]
  rw [← EReal.coe_mul]
  norm_num

/-- The word of 1024. -/
theorem width_word : Ideal.ofBits .f32 0x44800000#32 = ((1024 : ℝ) : EReal) := by
  show Ideal.ieee 8 23 0x44800000#32 = _
  simp [Ideal.ieee]
  rw [← EReal.coe_mul]
  norm_num

/-- Under the root of a row of reals stands a positive real, and its inverse root is the real whose square inverts it. -/
theorem ms_pos {n : ℕ} {N : ℝ} (hN : 0 < N) (x : Fin n → ℝ) :
    ∃ M R : ℝ, 0 < M ∧ R * R * M = 1 ∧ ms N (fun k => (x k : EReal)) = (M : EReal) ∧ Ideal.rsqrt (M : EReal) = (R : EReal) := by
  obtain ⟨e, he, h⟩ := eps_pos
  have hs : 0 ≤ (∑ k, x k * x k) * (1 / N) := mul_nonneg (Finset.sum_nonneg fun k _ => mul_self_nonneg _) (by positivity)
  have hM : 0 < (∑ k, x k * x k) * (1 / N) + e := by linarith
  refine ⟨_, 1 / √((∑ k, x k * x k) * (1 / N) + e), hM, ?_, ?_, ?_⟩
  · have h2 := Real.mul_self_sqrt hM.le
    have h3 := (Real.sqrt_pos.2 hM).ne'
    rw [div_mul_div_comm, h2]
    field_simp
  · unfold ms
    rw [h, Ideal.div_coe hN.ne']
    simp only [← EReal.coe_mul]
    rw [← coe_sum, ← EReal.coe_mul, ← EReal.coe_add]
  · rw [Ideal.rsqrt_coe]
    rw [if_neg hM.not_gt, if_neg hM.ne']
    simp only [one_div]

/-- A row of a result that every step adds its part to holds, after each step, the parts so far. -/
theorem sum_steps {N : ℕ} (f : (n : ℕ) → n < N → EReal) (p : Fin N → EReal) (h0 : ∀ h, f 0 h = p ⟨0, h⟩)
    (hs : ∀ n h, f (n + 1) h = f n (Nat.lt_of_succ_lt h) + p ⟨n + 1, h⟩) (n : ℕ) (h : n < N) :
    f n h = ∑ i : Fin (n + 1), p ⟨i.val, by omega⟩ := by
  induction n with
  | zero => rw [h0, Fin.sum_univ_one]; rfl
  | succ n ih => rw [hs, ih]; exact (Fin.sum_univ_castSucc (fun i : Fin (n + 2) => p ⟨i.val, by omega⟩)).symm

/-- The norm's derivative in the step's form and in the derivative's. -/
theorem rms_dx {n : ℕ} {N : EReal} (hN : ∃ r : ℝ, 0 < r ∧ N = (r : EReal)) {x d : Fin n → EReal} (hx : ∀ k, IsReal (x k)) (hd : ∀ k, IsReal (d k)) (k : Fin n) :
    Ideal.rsqrt (ms N x) * (d k - x k * Ideal.rsqrt (ms N x) * Ideal.div (∑ j, d j * (x j * Ideal.rsqrt (ms N x))) N)
      = d k * Ideal.rsqrt (ms N x)
        + x k * Ideal.div ((∑ j, x j * d j) * (Ideal.ofBits .f32 0xBF000000#32 * Ideal.div (Ideal.rsqrt (ms N x)) (ms N x))) N
        + Ideal.div ((∑ j, x j * d j) * (Ideal.ofBits .f32 0xBF000000#32 * Ideal.div (Ideal.rsqrt (ms N x)) (ms N x))) N * x k := by
  obtain ⟨N, hN, rfl⟩ := hN
  choose X hX using hx
  choose D hD using hd
  obtain rfl : x = fun k => (X k : EReal) := funext hX
  obtain rfl : d = fun k => (D k : EReal) := funext hD
  obtain ⟨M, R, hM, hR, hm, hr⟩ := ms_pos hN X
  rw [hm, hr, neg_half_word]
  simp only [Ideal.div_coe hN.ne', Ideal.div_coe hM.ne', ← EReal.coe_mul, ← coe_sum]
  rw [← EReal.coe_sub]
  simp only [← EReal.coe_mul, ← EReal.coe_add]
  have e1 : ∑ j, D j * (X j * R) = (∑ j, X j * D j) * R := by
    rw [Finset.sum_mul]
    exact Finset.sum_congr rfl fun j _ => by ring
  have e2 : 1 / M = R * R := by rw [← hR]; field_simp
  rw [e1, e2]
  refine congrArg _ ?_
  ring

end Cert.Proof

end
-- ==== Proof.MlpBwd.lean ====
module

public import proofs.«01_k».proof.Defs
public import proofs.«01_k».proof.Proof.Gen.MlpBwdIdeal
public import proofs.«01_k».proof.Proof.Gen.MlpBwdIdeal.Value
public import proofs.«01_k».proof.Proof.Gen.MlpBwdRefIdeal.Read
public import proofs.«01_k».proof.Proof.Gen.MlpBwdRefIdeal.Run
public import proofs.«01_k».proof.Proof.Gen.Pre_mlp_bwd_finite
public import Idealize.ShloMosaic.Lib.Pointwise
public import Idealize.ShloMosaic.Lib.Pipeline.ValueKit
public import Idealize.ShloMosaic.Lib.Pipeline.ReadBack
public import proofs.«01_k».proof.Proof.Reals
public import proofs.«01_k».proof.Proof.Rms

@[expose] public section

set_option maxRecDepth 16384
set_option maxHeartbeats 1000000

noncomputable section

namespace Cert.Proof.MlpBwd

open Idealize.ShloMosaic Idealize.ShloMosaic.TcCoe Idealize.SL.Sem
open Cert.MlpBwdIdeal Cert.MlpBwdIdeal.Gen
open Idealize.ShloMosaic.Pipeline (Dat)

variable (m : (ℓ : Loc nD τ sig) → Buf (Elt Ideal) ℓ) (c : Dev nD)

/-- Every moving window is at row block `t`, every resident one at the origin. -/
theorem idx : ∀ t : Fin cfg0.N, win0_0.index t = ![t.val, 0] ∧ win0_1.index t = ![t.val, 0] ∧ win0_2.index t = ![t.val, 0]
    ∧ win0_3.index t = ![0, 0] ∧ win0_4.index t = ![0, 0, 0] ∧ win0_5.index t = ![t.val, 0] ∧ win0_6.index t = ![0, 0] :=
  (by decide +kernel : ∀ t : Fin grid0.N, win0_0.index t = ![t.val, 0] ∧ win0_1.index t = ![t.val, 0] ∧ win0_2.index t = ![t.val, 0]
    ∧ win0_3.index t = ![0, 0] ∧ win0_4.index t = ![0, 0, 0] ∧ win0_5.index t = ![t.val, 0] ∧ win0_6.index t = ![0, 0])

/-! The argument arrays, as arrays of extended reals. -/

def a0 : S8448x4096.Idx → EReal := m ((c : Thread nD τ).loc main_arg0)
def a1 : S8448x1024.Idx → EReal := m ((c : Thread nD τ).loc main_arg1)
def a2 : S8448x1024.Idx → EReal := m ((c : Thread nD τ).loc main_arg2)
def a3 : S1x1024.Idx → EReal := m ((c : Thread nD τ).loc main_arg3)
def a4 : S1x1024x4096.Idx → EReal := m ((c : Thread nD τ).loc main_arg4)

/-- The row of the array that row `r` of block `t` is. -/
abbrev row (t : Fin cfg0.N) (r : Fin 384) : Fin 8448 := ⟨t.val * 384 + r.val, by have : t.val < 22 := t.isLt; omega⟩

/-! The input windows, read at a place of their block. -/

theorem rd0 (t : Fin cfg0.N) (r : Fin 384) (k : Fin 4096) : iblk m c 0 t (ix2 r k) = a0 m c (ix2 (row t r) k) := by
  blk_point [iblk, (idx t).1]

theorem rd1 (t : Fin cfg0.N) (r : Fin 384) (k : Fin 1024) : iblk m c 1 t (ix2 r k) = a1 m c (ix2 (row t r) k) := by
  blk_point [iblk, (idx t).2.1]

theorem rd2 (t : Fin cfg0.N) (r : Fin 384) (k : Fin 1024) : iblk m c 2 t (ix2 r k) = a2 m c (ix2 (row t r) k) := by
  blk_point [iblk, (idx t).2.2.1]

theorem rd3 (t : Fin cfg0.N) (k : Fin 1024) : iblk m c 3 t (ix2 0 k) = a3 m c (ix2 0 k) := by
  blk_point [iblk, (idx t).2.2.2.1]

theorem rd4 (t : Fin cfg0.N) (s : Fin 4) (r k : Fin 1024) : iblk m c 4 t (ix3 s r k) = a4 m c (ix3 0 r ⟨s.val * 1024 + k.val, by omega⟩) := by
  blk_point [iblk, (idx t).2.2.2.2.1]

/-! The places in the arrays of the places of the output windows. -/

theorem em5 (t : Fin cfg0.N) (r : Fin 384) (k : Fin 1024) : ((View.whole main_v5_0).slice (win0_5.rect t)).emb (ix2 r k) = ix2 (row t r) k := by
  blk_point [(idx t).2.2.2.2.2.1]

theorem em6 (t : Fin cfg0.N) (k : Fin 1024) : ((View.whole main_v5_1).slice (win0_6.rect t)).emb (ix2 0 k) = ix2 0 k := by
  blk_point [(idx t).2.2.2.2.2.2]

/-! ### One step -/

/-- The cotangent that the product with the weight brings to the norm, -/
def D (n : Fin 8448) (k : Fin 1024) : EReal := ∑ j : Fin 4096, a0 m c (ix2 n j) * a4 m c (ix3 0 k j)

/-- which the step adds up over the weight's four shards. -/
theorem shards (n : Fin 8448) (k : Fin 1024) : D m c n k
    = ∑ x : Fin 1024, a0 m c (ix2 n ⟨x.val, by omega⟩) * a4 m c (ix3 0 k ⟨(0 : Fin 4).val * 1024 + x.val, by omega⟩)
      + ∑ x : Fin 1024, a0 m c (ix2 n ⟨1024 + x.val, by omega⟩) * a4 m c (ix3 0 k ⟨(1 : Fin 4).val * 1024 + x.val, by omega⟩)
      + ∑ x : Fin 1024, a0 m c (ix2 n ⟨2048 + x.val, by omega⟩) * a4 m c (ix3 0 k ⟨(2 : Fin 4).val * 1024 + x.val, by omega⟩)
      + ∑ x : Fin 1024, a0 m c (ix2 n ⟨3072 + x.val, by omega⟩) * a4 m c (ix3 0 k ⟨(3 : Fin 4).val * 1024 + x.val, by omega⟩) := by
  unfold D
  rw [sum_four (n := 1024) rfl]
  refine congrArg₂ (· + ·) (congrArg₂ (· + ·) (congrArg₂ (· + ·) ?_ ?_) ?_) ?_ <;> refine Finset.sum_congr rfl fun k _ => ?_
  · exact congrArg₂ (· * ·) rfl (congrArg (fun q => a4 m c (ix3 0 _ q)) (Fin.ext (by show k.val = 0 * 1024 + k.val; omega)))
  all_goals rfl

/-- The row that is normed. -/
abbrev X (n : Fin 8448) : Fin 1024 → EReal := fun k => a2 m c (ix2 n k)

/-- What the step writes at a place. -/
def dxAt (n : Fin 8448) (k : Fin 1024) : EReal :=
  a1 m c (ix2 n k) + Ideal.rsqrt (ms (Ideal.ofBits .f32 0x44800000#32) (X m c n)) * (D m c n k * a3 m c (ix2 0 k)
    - X m c n k * Ideal.rsqrt (ms (Ideal.ofBits .f32 0x44800000#32) (X m c n))
      * Ideal.div (∑ j, D m c n j * a3 m c (ix2 0 j) * (X m c n j * Ideal.rsqrt (ms (Ideal.ofBits .f32 0x44800000#32) (X m c n)))) (Ideal.ofBits .f32 0x44800000#32))

/-- A row's part of the scale's gradient. -/
def dgAt (n : Fin 8448) (k : Fin 1024) : EReal := D m c n k * (X m c n k * Ideal.rsqrt (ms (Ideal.ofBits .f32 0x44800000#32) (X m c n)))

theorem first (t : Fin cfg0.N) (h0 : t.val % 22 = 0) (h1 : ¬1 ≤ t.val) :
    (∀ (r : Fin 384) (k : Fin 1024), (outsAt0 m c t.val t.isLt).1 (ix2 r k) = dxAt m c (row t r) k)
    ∧ ∀ k : Fin 1024, (outsAt0 m c t.val t.isLt).2 (ix2 0 k) = ∑ r : Fin 384, dgAt m c (row t r) k := by
  rw [outsAt0_A m c t h0 h1]
  dsimp only
  refine ⟨fun r k => ?_, fun k => ?_⟩ <;>
  · frame_out
    unfold_payloads
    pointwise
    simp only [rd0, rd1, rd2, rd3, rd4, dxAt, dgAt, shards]
    rfl

theorem later (t : Fin cfg0.N) (h0 : ¬t.val % 22 = 0) (h1 : 1 ≤ t.val) :
    (∀ (r : Fin 384) (k : Fin 1024), (outsAt0 m c t.val t.isLt).1 (ix2 r k) = dxAt m c (row t r) k)
    ∧ ∀ k : Fin 1024, (outsAt0 m c t.val t.isLt).2 (ix2 0 k)
        = @HAdd.hAdd EReal EReal EReal _ ((outsAt0 m c (t.val - 1) (Nat.lt_of_le_of_lt (Nat.sub_le _ _) t.isLt)).2 (ix2 0 k)) (∑ r : Fin 384, dgAt m c (row t r) k) := by
  rw [outsAt0_B m c t h0 h1]
  dsimp only
  refine ⟨fun r k => ?_, fun k => ?_⟩ <;>
  · frame_out
    unfold_payloads
    pointwise
    simp only [rd0, rd1, rd2, rd3, rd4, dxAt, dgAt, shards]
    rfl

/-! ### What the call leaves -/

theorem every_dx (t : Fin cfg0.N) (r : Fin 384) (k : Fin 1024) : (outsAt0 m c t.val t.isLt).1 (ix2 r k) = dxAt m c (row t r) k := by
  have ht : t.val < 22 := t.isLt
  rcases Nat.eq_zero_or_pos t.val with h | h
  · exact (first m c t (by omega) (by omega)).1 r k
  · exact (later m c t (by omega) h).1 r k

theorem every_dg (k : Fin 1024) (n : ℕ) (h : n < cfg0.N) :
    (outsAt0 m c n h).2 (ix2 0 k) = ∑ i : Fin (n + 1), ∑ r : Fin 384, dgAt m c (row ⟨i.val, by omega⟩ r) k :=
  sum_steps (N := cfg0.N) (fun n h => (outsAt0 m c n h).2 (ix2 0 k)) (fun t => ∑ r : Fin 384, dgAt m c (row t r) k)
    (fun h => (first m c ⟨0, h⟩ rfl (by simp)).2 k)
    (fun n h => (later m c ⟨n + 1, h⟩ (by have : n + 1 < 22 := h; show ¬(n + 1) % 22 = 0; omega) (by show 1 ≤ n + 1; omega)).2 k) n h

/-- The last step writes the scale's gradient back. -/
theorem hands6 : ∀ t : Fin cfg0.N, (cfg0.win 6).flush t = true → t.val = 21 :=
  (by decide +kernel : ∀ t : Fin grid0.N, win0_6.flush t = true → t.val = 21)

/-! ### The results -/

/-- The first result is the gradient at the residual stream. -/
theorem dx (h0 : ∀ i, IsReal (a0 m c i)) (h2 : ∀ i, IsReal (a2 m c i)) (h3 : ∀ i, IsReal (a3 m c i)) (h4 : ∀ i, IsReal (a4 m c i)) :
    (Gen.dats m 0 c).arrAt 5 (cfgs 0).N = MlpBwdRefIdeal.Read.val_main_v40 (a0 m c) (a1 m c) (a2 m c) (a3 m c) (a4 m c) := by
  refine (Gen.dats m 0 c).arrAt_eq_of_covers 5 _ (by decide +kernel) fun t hf y => ?_
  blk_simp
  rw [after0_5]
  idx_vars y
  rw [em5]
  refine (every_dx m c t y0 y1).trans ?_
  generalize row t y0 = n
  pointwise [MlpBwdRefIdeal.Read.val_main_v0, MlpBwdRefIdeal.Read.val_main_v1, MlpBwdRefIdeal.Read.val_main_cst, MlpBwdRefIdeal.Read.val_main_v2, MlpBwdRefIdeal.Read.val_main_v3, MlpBwdRefIdeal.Read.val_main_cst_0, MlpBwdRefIdeal.Read.val_main_v4, MlpBwdRefIdeal.Read.val_main_v5, MlpBwdRefIdeal.Read.val_main_cst_1, MlpBwdRefIdeal.Read.val_main_v6, MlpBwdRefIdeal.Read.val_main_v7, MlpBwdRefIdeal.Read.val_main_v8, MlpBwdRefIdeal.Read.val_main_v9, MlpBwdRefIdeal.Read.val_main_cst_2, MlpBwdRefIdeal.Read.val_main_v10, MlpBwdRefIdeal.Read.val_main_v11, MlpBwdRefIdeal.Read.val_main_v14, MlpBwdRefIdeal.Read.val_main_v17, MlpBwdRefIdeal.Read.val_main_v19, MlpBwdRefIdeal.Read.val_main_v23, MlpBwdRefIdeal.Read.val_main_v24, MlpBwdRefIdeal.Read.val_main_v26, MlpBwdRefIdeal.Read.val_main_cst_5, MlpBwdRefIdeal.Read.val_main_v27, MlpBwdRefIdeal.Read.val_main_v28, MlpBwdRefIdeal.Read.val_main_v29, MlpBwdRefIdeal.Read.val_main_v30, MlpBwdRefIdeal.Read.val_main_v31, MlpBwdRefIdeal.Read.val_main_v32, MlpBwdRefIdeal.Read.val_main_cst_6, MlpBwdRefIdeal.Read.val_main_v33, MlpBwdRefIdeal.Read.val_main_v34, MlpBwdRefIdeal.Read.val_main_cst_7, MlpBwdRefIdeal.Read.val_main_v35, MlpBwdRefIdeal.Read.val_main_v36, MlpBwdRefIdeal.Read.val_main_v37, MlpBwdRefIdeal.Read.val_main_v38, MlpBwdRefIdeal.Read.val_main_v39, MlpBwdRefIdeal.Read.val_main_v40]
  simp only [Finset.univ_unique, Finset.sum_singleton]
  unfold dxAt
  rw [rms_dx ⟨1024, by norm_num, width_word⟩ (fun k => h2 _) (d := fun k => D m c n k * a3 m c (ix2 0 k)) (fun k => (IsReal.sum fun j => (h0 _).mul (h4 _)).mul (h3 _)) y1]
  rw [← add_assoc, ← add_assoc]
  rfl

/-- The second is the gradient at the norm's scale. -/
theorem dg : (Gen.dats m 0 c).arrAt 6 (cfgs 0).N = MlpBwdRefIdeal.Read.val_main_v41 (a0 m c) (a2 m c) (a4 m c) := by
  refine (Gen.dats m 0 c).arrAt_eq_of_covers 6 _ (by decide +kernel) fun t hf y => ?_
  blk_simp
  rw [after0_6]
  idx_vars y
  obtain rfl : y0 = 0 := Subsingleton.elim _ _
  rw [em6]
  have ht := hands6 t hf
  obtain ⟨t, h⟩ := t
  obtain rfl : t = 21 := ht
  refine (every_dg m c y1 21 h).trans ?_
  pointwise [MlpBwdRefIdeal.Read.val_main_v1, MlpBwdRefIdeal.Read.val_main_cst, MlpBwdRefIdeal.Read.val_main_v2, MlpBwdRefIdeal.Read.val_main_v3, MlpBwdRefIdeal.Read.val_main_cst_0, MlpBwdRefIdeal.Read.val_main_v4, MlpBwdRefIdeal.Read.val_main_v5, MlpBwdRefIdeal.Read.val_main_cst_1, MlpBwdRefIdeal.Read.val_main_v6, MlpBwdRefIdeal.Read.val_main_v7, MlpBwdRefIdeal.Read.val_main_v8, MlpBwdRefIdeal.Read.val_main_v12, MlpBwdRefIdeal.Read.val_main_v13, MlpBwdRefIdeal.Read.val_main_v17, MlpBwdRefIdeal.Read.val_main_v19, MlpBwdRefIdeal.Read.val_main_v20, MlpBwdRefIdeal.Read.val_main_cst_3, MlpBwdRefIdeal.Read.val_main_v21, MlpBwdRefIdeal.Read.val_main_v22, MlpBwdRefIdeal.Read.val_main_cst_4, MlpBwdRefIdeal.Read.val_main_v25, MlpBwdRefIdeal.Read.val_main_v41]
  simp only [Finset.univ_unique, Finset.sum_singleton]
  rw [sum_runs (a := 22) (b := 384) (N := 8448) rfl]
  exact Finset.sum_congr rfl fun i _ => Finset.sum_congr rfl fun r _ => mul_comm _ _

/-- The precondition makes the entries of four arguments reals. -/
theorem reals (h : Pre_MlpBwdIdeal_mlp_bwd_finite m) :
    (∀ i, IsReal (a0 m c i)) ∧ (∀ i, IsReal (a2 m c i)) ∧ (∀ i, IsReal (a3 m c i)) ∧ ∀ i, IsReal (a4 m c i) := by
  have e := congrFun (h c) (fun a => a.elim0)
  obtain ⟨e, h4⟩ := andi_one e
  obtain ⟨e, h3⟩ := andi_one e
  obtain ⟨h0, h2⟩ := andi_one e
  exact ⟨isReal_of_all _ _ _ _ _ _ h0, isReal_of_all _ _ _ _ _ _ h2, isReal_of_all _ _ _ _ _ _ h3, isReal_of_all _ _ _ _ _ _ h4⟩

/-- The second norm's backward: both results of the call are the reference's. -/
theorem algebraic : algebraic_MlpBwdIdeal_MlpBwdRefIdeal_pre_mlp_bwd_finite := by
  intro m g m' g' hp hm
  refine ⟨_, _, Value.run_blocks m g, (θ_run MlpBwdRefIdeal.defs _ _).mono (fun r h c => ?_) (MlpBwdRefIdeal.Value.run m' g')⟩
  obtain ⟨e0, e1, e2, e3, e4⟩ := hm c
  have f := reals m c hp
  exact ⟨
    ((h c).1).trans ((MlpBwdRefIdeal.Read.val_main_v40_eq _ _).trans (by rw [e0, e1, e2, e3, e4]; exact (dx m c f.1 f.2.1 f.2.2.1 f.2.2.2).symm)),
    ((h c).2.1).trans ((MlpBwdRefIdeal.Read.val_main_v41_eq _ _ _).trans (by rw [e0, e2, e4]; exact (dg m c).symm)),
    (h c).2.2⟩

/-- The reference runs, leaves its arguments as they were and declares no semaphore. -/
theorem ref_frame : quiescent_MlpBwdRefIdeal := fun m ρ _ =>
  (θ_run MlpBwdRefIdeal.defs _ _).mono (fun r h => ⟨fun c => (h c).2.2, sem_eq_zero_of_no_sems (by decide) r.2⟩) (MlpBwdRefIdeal.Value.run m ρ)

/-- The claims of the second norm's backward. -/
theorem claims : quiescent_MlpBwdIdeal ∧ quiescent_MlpBwdIdeal_pre_mlp_bwd_finite ∧ quiescent_MlpBwdRefIdeal
    ∧ quiescent_MlpBwdRefIdeal_pre_mlp_bwd_finite ∧ preserves_MlpBwd_MlpBwdIdeal ∧ algebraic_MlpBwdIdeal_MlpBwdRefIdeal_pre_mlp_bwd_finite :=
  ⟨fun m ρ _ => Gen.frame m ρ, fun m ρ _ => Gen.frame m ρ, ref_frame, fun m ρ _ => ref_frame m ρ trivial, trivial, algebraic⟩

end Cert.Proof.MlpBwd

end
-- ==== Proof.InProjBwd.lean ====
module

public import proofs.«01_k».proof.Defs
public import proofs.«01_k».proof.Proof.Gen.InProjBwdIdeal
public import proofs.«01_k».proof.Proof.Gen.InProjBwdIdeal.Value
public import proofs.«01_k».proof.Proof.Gen.InProjBwdRefIdeal.Read
public import proofs.«01_k».proof.Proof.Gen.InProjBwdRefIdeal.Run
public import proofs.«01_k».proof.Proof.Gen.Pre_in_proj_bwd_finite
public import Idealize.ShloMosaic.Lib.Pointwise
public import Idealize.ShloMosaic.Lib.Pipeline.ValueKit
public import Idealize.ShloMosaic.Lib.Pipeline.ReadBack
public import proofs.«01_k».proof.Proof.Reals
public import proofs.«01_k».proof.Proof.Rms

@[expose] public section

set_option maxRecDepth 16384
set_option maxHeartbeats 1000000

noncomputable section

namespace Cert.Proof.InProjBwd

open Idealize.ShloMosaic Idealize.ShloMosaic.TcCoe Idealize.SL.Sem
open Cert.InProjBwdIdeal Cert.InProjBwdIdeal.Gen
open Idealize.ShloMosaic.Pipeline (Dat)

variable (m : (ℓ : Loc nD τ sig) → Buf (Elt Ideal) ℓ) (c : Dev nD)

/-- Every moving window is at row block `t`, every resident one at the origin. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![0, 0] ∧ win0_9.index t = ![0, 0, 0] ∧ win0_10.index t = ![t.val, 0]
    ∧ win0_11.index t = ![0, 0] ∧ win0_12.index t = ![t.val, 0] :=
  (by decide +kernel : ∀ t : Fin grid0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![0, 0] ∧ win0_9.index t = ![0, 0, 0] ∧ win0_10.index t = ![t.val, 0]
    ∧ win0_11.index t = ![0, 0] ∧ win0_12.index t = ![t.val, 0])

/-! The argument arrays, as arrays of extended reals. -/

def a0 : S8448x512.Idx → EReal := m ((c : Thread nD τ).loc main_arg0)
def a1 : S8448x512.Idx → EReal := m ((c : Thread nD τ).loc main_arg1)
def a2 : S8448x512.Idx → EReal := m ((c : Thread nD τ).loc main_arg2)
def a3 : S1x512.Idx → EReal := m ((c : Thread nD τ).loc main_arg3)
def a4 : S8448x1536.Idx → EReal := m ((c : Thread nD τ).loc main_arg4)
def a5 : S8448x2048.Idx → EReal := m ((c : Thread nD τ).loc main_arg5)
def a6 : S8448x1024.Idx → EReal := m ((c : Thread nD τ).loc main_arg6)
def a7 : S8448x1024.Idx → EReal := m ((c : Thread nD τ).loc main_arg7)
def a8 : S1x1024.Idx → EReal := m ((c : Thread nD τ).loc main_arg8)
def a9 : S1x1024x4096.Idx → EReal := m ((c : Thread nD τ).loc main_arg9)

/-- The row of the array that row `r` of block `t` is. -/
abbrev row (t : Fin cfg0.N) (r : Fin 256) : Fin 8448 := ⟨t.val * 256 + r.val, by have : t.val < 33 := t.isLt; omega⟩

/-! The input windows, read at a place of their block. -/

theorem rd0 (t : Fin cfg0.N) (r : Fin 256) (k : Fin 512) : iblk m c 0 t (ix2 r k) = a0 m c (ix2 (row t r) k) := by
  blk_point [iblk, (idx t).1]

theorem rd1 (t : Fin cfg0.N) (r : Fin 256) (k : Fin 512) : iblk m c 1 t (ix2 r k) = a1 m c (ix2 (row t r) k) := by
  blk_point [iblk, (idx t).2.1]

theorem rd2 (t : Fin cfg0.N) (r : Fin 256) (k : Fin 512) : iblk m c 2 t (ix2 r k) = a2 m c (ix2 (row t r) k) := by
  blk_point [iblk, (idx t).2.2.1]

theorem rd3 (t : Fin cfg0.N) (k : Fin 512) : iblk m c 3 t (ix2 0 k) = a3 m c (ix2 0 k) := by
  blk_point [iblk, (idx t).2.2.2.1]

theorem rd4 (t : Fin cfg0.N) (r : Fin 256) (k : Fin 1536) : iblk m c 4 t (ix2 r k) = a4 m c (ix2 (row t r) k) := by
  blk_point [iblk, (idx t).2.2.2.2.1]

theorem rd5 (t : Fin cfg0.N) (r : Fin 256) (k : Fin 2048) : iblk m c 5 t (ix2 r k) = a5 m c (ix2 (row t r) k) := by
  blk_point [iblk, (idx t).2.2.2.2.2.1]

theorem rd6 (t : Fin cfg0.N) (r : Fin 256) (k : Fin 1024) : iblk m c 6 t (ix2 r k) = a6 m c (ix2 (row t r) k) := by
  blk_point [iblk, (idx t).2.2.2.2.2.2.1]

theorem rd7 (t : Fin cfg0.N) (r : Fin 256) (k : Fin 1024) : iblk m c 7 t (ix2 r k) = a7 m c (ix2 (row t r) k) := by
  blk_point [iblk, (idx t).2.2.2.2.2.2.2.1]

theorem rd8 (t : Fin cfg0.N) (k : Fin 1024) : iblk m c 8 t (ix2 0 k) = a8 m c (ix2 0 k) := by
  blk_point [iblk, (idx t).2.2.2.2.2.2.2.2.1]

theorem rd9 (t : Fin cfg0.N) (s : Fin 4) (r k : Fin 1024) : iblk m c 9 t (ix3 s r k) = a9 m c (ix3 0 r ⟨s.val * 1024 + k.val, by omega⟩) := by
  blk_point [iblk, (idx t).2.2.2.2.2.2.2.2.2.1]

/-! The places in the arrays of the places of the output windows. -/

theorem em10 (t : Fin cfg0.N) (r : Fin 256) (k : Fin 1024) : ((View.whole main_v6_0).slice (win0_10.rect t)).emb (ix2 r k) = ix2 (row t r) k := by
  blk_point [(idx t).2.2.2.2.2.2.2.2.2.2.1]

theorem em11 (t : Fin cfg0.N) (k : Fin 1024) : ((View.whole main_v6_1).slice (win0_11.rect t)).emb (ix2 0 k) = ix2 0 k := by
  blk_point [(idx t).2.2.2.2.2.2.2.2.2.2.2.1]

theorem em12 (t : Fin cfg0.N) (r : Fin 256) (k : Fin 4096) : ((View.whole main_v6_2).slice (win0_12.rect t)).emb (ix2 r k) = ix2 (row t r) k := by
  blk_point [(idx t).2.2.2.2.2.2.2.2.2.2.2.2]

/-! ### One step -/

/-- The cotangent at the product with the input weight: the recurrence's input, the attention's, the gates'. -/
def DP (n : Fin 8448) (j : Fin 4096) : EReal :=
  if h : j.val < 512 then a0 m c (ix2 n ⟨j.val, h⟩) * a3 m c (ix2 0 ⟨j.val, h⟩) + a1 m c (ix2 n ⟨j.val, h⟩) + a2 m c (ix2 n ⟨j.val, h⟩)
  else if h : j.val < 2048 then a4 m c (ix2 n ⟨j.val - 512, by omega⟩) else a5 m c (ix2 n ⟨j.val - 2048, by omega⟩)

theorem DP_u (n : Fin 8448) (x : Fin 512) {j : Fin 4096} (h : j.val = x.val) :
    DP m c n j = a0 m c (ix2 n x) * a3 m c (ix2 0 x) + a1 m c (ix2 n x) + a2 m c (ix2 n x) := by
  obtain ⟨j, hj⟩ := j
  obtain rfl : j = x.val := h
  exact dif_pos _

theorem DP_q (n : Fin 8448) (x : Fin 1536) {j : Fin 4096} (h : j.val = 512 + x.val) : DP m c n j = a4 m c (ix2 n x) := by
  unfold DP
  rw [dif_neg (by omega), dif_pos (by omega)]
  exact congrArg (fun q => a4 m c (ix2 n q)) (Fin.ext (by show j.val - 512 = x.val; omega))

theorem DP_g (n : Fin 8448) (x : Fin 2048) {j : Fin 4096} (h : j.val = 2048 + x.val) : DP m c n j = a5 m c (ix2 n x) := by
  unfold DP
  rw [dif_neg (by omega), dif_neg (by omega)]
  exact congrArg (fun q => a5 m c (ix2 n q)) (Fin.ext (by show j.val - 2048 = x.val; omega))

/-- The cotangent that the product with the weight brings to the norm, -/
def D (n : Fin 8448) (k : Fin 1024) : EReal := ∑ j : Fin 4096, DP m c n j * a9 m c (ix3 0 k j)

/-- which the step adds up in five parts. -/
theorem parts (n : Fin 8448) (k : Fin 1024) : D m c n k
    = ∑ x : Fin 512, (a0 m c (ix2 n x) * a3 m c (ix2 0 x) + a1 m c (ix2 n x) + a2 m c (ix2 n x)) * a9 m c (ix3 0 k ⟨(0 : Fin 4).val * 1024 + x.val, by omega⟩)
      + ∑ x : Fin 512, a4 m c (ix2 n ⟨x.val, by omega⟩) * a9 m c (ix3 0 k ⟨(0 : Fin 4).val * 1024 + (512 + x.val), by omega⟩)
      + ∑ x : Fin 1024, a4 m c (ix2 n ⟨512 + x.val, by omega⟩) * a9 m c (ix3 0 k ⟨(1 : Fin 4).val * 1024 + x.val, by omega⟩)
      + (∑ x : Fin 1024, a5 m c (ix2 n ⟨x.val, by omega⟩) * a9 m c (ix3 0 k ⟨(2 : Fin 4).val * 1024 + x.val, by omega⟩)
        + ∑ x : Fin 1024, a5 m c (ix2 n ⟨1024 + x.val, by omega⟩) * a9 m c (ix3 0 k ⟨(3 : Fin 4).val * 1024 + x.val, by omega⟩)) := by
  unfold D
  rw [sum_four (n := 1024) rfl, add_assoc _ _ (∑ x : Fin 1024, DP m c n ⟨1024 + 1024 + 1024 + x.val, _⟩ * _)]
  refine congrArg₂ (· + ·) (congrArg₂ (· + ·) ?_ ?_) (congrArg₂ (· + ·) ?_ ?_)
  · refine (Fin.sum_univ_add (a := 512) (b := 512) _).trans (congrArg₂ (· + ·) ?_ ?_) <;> refine Finset.sum_congr rfl fun x _ => congrArg₂ (· * ·) ?_ ?_
    · exact DP_u m c n x rfl
    · exact congrArg (fun q => a9 m c (ix3 0 k q)) (Fin.ext (by show x.val = 0 * 1024 + x.val; omega))
    · exact DP_q m c n ⟨x.val, by omega⟩ rfl
    · exact congrArg (fun q => a9 m c (ix3 0 k q)) (Fin.ext (by show 512 + x.val = 0 * 1024 + (512 + x.val); omega))
  all_goals refine Finset.sum_congr rfl fun x _ => congrArg₂ (· * ·) ?_ rfl
  · exact DP_q m c n ⟨512 + x.val, by omega⟩ (by show 1024 + x.val = 512 + (512 + x.val); omega)
  · exact DP_g m c n ⟨x.val, by omega⟩ rfl
  · exact DP_g m c n ⟨1024 + x.val, by omega⟩ (by show 1024 + 1024 + 1024 + x.val = 2048 + (1024 + x.val); omega)

/-- The row that is normed. -/
abbrev X (n : Fin 8448) : Fin 1024 → EReal := fun k => a7 m c (ix2 n k)

/-- What the step writes at a place. -/
def dxAt (n : Fin 8448) (k : Fin 1024) : EReal :=
  a6 m c (ix2 n k) + Ideal.rsqrt (ms (Ideal.ofBits .f32 0x44800000#32) (X m c n)) * (D m c n k * a8 m c (ix2 0 k)
    - X m c n k * Ideal.rsqrt (ms (Ideal.ofBits .f32 0x44800000#32) (X m c n))
      * Ideal.div (∑ j, D m c n j * a8 m c (ix2 0 j) * (X m c n j * Ideal.rsqrt (ms (Ideal.ofBits .f32 0x44800000#32) (X m c n)))) (Ideal.ofBits .f32 0x44800000#32))

/-- A row's part of the scale's gradient. -/
def dgAt (n : Fin 8448) (k : Fin 1024) : EReal := D m c n k * (X m c n k * Ideal.rsqrt (ms (Ideal.ofBits .f32 0x44800000#32) (X m c n)))

/-! The columns of the three pieces of the third result. -/

theorem in_u (r : Fin 256) (k : Fin 4096) (h : k.val < 512) : ix2 r k ∈ (Rect.unit (s := S256x4096) ![0, 0] ![256, 512] inb_S256x4096_S256x512_0_0).set := by
  refine Rect.mem_set_unit.2 fun a => ?_
  match a with
  | ⟨0, _⟩ => show 0 ≤ r.val ∧ r.val < 0 + 256; omega
  | ⟨1, _⟩ => show 0 ≤ k.val ∧ k.val < 0 + 512; omega

theorem in_q (r : Fin 256) (k : Fin 4096) (h1 : 512 ≤ k.val) (h2 : k.val < 2048) : ix2 r k ∈ (Rect.unit (s := S256x4096) ![0, 512] ![256, 1536] inb_S256x4096_S256x1536_0_512).set := by
  refine Rect.mem_set_unit.2 fun a => ?_
  match a with
  | ⟨0, _⟩ => show 0 ≤ r.val ∧ r.val < 0 + 256; omega
  | ⟨1, _⟩ => show 512 ≤ k.val ∧ k.val < 512 + 1536; omega

theorem in_g (r : Fin 256) (k : Fin 4096) (h : 2048 ≤ k.val) : ix2 r k ∈ (Rect.unit (s := S256x4096) ![0, 2048] ![256, 2048] inb_S256x4096_S256x2048_0_2048).set := by
  refine Rect.mem_set_unit.2 fun a => ?_
  match a with
  | ⟨0, _⟩ => show 0 ≤ r.val ∧ r.val < 0 + 256; omega
  | ⟨1, _⟩ => show 2048 ≤ k.val ∧ k.val < 2048 + 2048; omega

/-- The three pieces of the third result. -/
theorem pieces (t : Fin cfg0.N) (r : Fin 256) (k : Fin 4096) : (View.canon
      [⟨Rect.unit ![0, 2048] ![256, 2048] inb_S256x4096_S256x2048_0_2048, k0_pay6 (iblk m c 5 t)⟩,
        ⟨Rect.unit ![0, 512] ![256, 1536] inb_S256x4096_S256x1536_0_512, k0_pay5 (iblk m c 4 t)⟩,
        ⟨Rect.unit ![0, 0] ![256, 512] inb_S256x4096_S256x512_0_0,
          k0_pay4 (iblk m c 0 t) (iblk m c 3 t) (iblk m c 1 t) (iblk m c 2 t)⟩] : Vec Ideal S256x4096 .bf16)
      (ix2 r k) = DP m c (row t r) k := by
  refine View.canon_eq_of_allAt _ _ _ ?_ ?_
  · rcases Nat.lt_or_ge k.val 512 with h1 | h1
    · exact ⟨_, .tail _ (.tail _ (.head _)), in_u r k h1⟩
    rcases Nat.lt_or_ge k.val 2048 with h2 | h2
    · exact ⟨_, .tail _ (.head _), in_q r k h1 h2⟩
    · exact ⟨_, .head _, in_g r k h2⟩
  refine View.allAt_cons _ _ _ (fun x hx => ?_) (View.allAt_cons _ _ _ (fun x hx => ?_) (View.allAt_cons _ _ _ (fun x hx => ?_) (View.allAt_nil _ _)))
  all_goals (
    idx_vars x
    unfold_payloads
    pointwise
    have e0 : 0 + 1 * x0.val = r.val := congrArg (fun i => (i 0).val) hx
    obtain rfl : x0 = r := Fin.ext (by omega))
  · have e1 : 2048 + 1 * x1.val = k.val := congrArg (fun i => (i 1).val) hx
    exact (rd5 m c t x0 x1).trans (DP_g m c _ x1 (by omega)).symm
  · have e1 : 512 + 1 * x1.val = k.val := congrArg (fun i => (i 1).val) hx
    exact (rd4 m c t x0 x1).trans (DP_q m c _ x1 (by omega)).symm
  · have e1 : 0 + 1 * x1.val = k.val := congrArg (fun i => (i 1).val) hx
    rw [DP_u m c (row t x0) x1 (by omega)]
    simp only [rd0, rd1, rd2, rd3]

theorem first (t : Fin cfg0.N) (h0 : t.val % 33 = 0) (h1 : ¬1 ≤ t.val) :
    (∀ (r : Fin 256) (k : Fin 1024), (outsAt0 m c t.val t.isLt).1 (ix2 r k) = dxAt m c (row t r) k)
    ∧ (∀ k : Fin 1024, (outsAt0 m c t.val t.isLt).2.1 (ix2 0 k) = ∑ r : Fin 256, dgAt m c (row t r) k)
    ∧ ∀ (r : Fin 256) (k : Fin 4096), (outsAt0 m c t.val t.isLt).2.2 (ix2 r k) = DP m c (row t r) k := by
  rw [outsAt0_A m c t h0 h1]
  dsimp only
  refine ⟨fun r k => ?_, fun k => ?_, fun r k => ?_⟩
  rotate_left 2
  · frame_out
    exact pieces m c t r k
  all_goals
    frame_out
    unfold_payloads
    pointwise
    simp only [rd0, rd1, rd2, rd3, rd4, rd5, rd6, rd7, rd8, rd9, dxAt, dgAt, parts]
    rfl

theorem later (t : Fin cfg0.N) (h0 : ¬t.val % 33 = 0) (h1 : 1 ≤ t.val) :
    (∀ (r : Fin 256) (k : Fin 1024), (outsAt0 m c t.val t.isLt).1 (ix2 r k) = dxAt m c (row t r) k)
    ∧ (∀ k : Fin 1024, (outsAt0 m c t.val t.isLt).2.1 (ix2 0 k)
        = @HAdd.hAdd EReal EReal EReal _ ((outsAt0 m c (t.val - 1) (Nat.lt_of_le_of_lt (Nat.sub_le _ _) t.isLt)).2.1 (ix2 0 k)) (∑ r : Fin 256, dgAt m c (row t r) k))
    ∧ ∀ (r : Fin 256) (k : Fin 4096), (outsAt0 m c t.val t.isLt).2.2 (ix2 r k) = DP m c (row t r) k := by
  rw [outsAt0_B m c t h0 h1]
  dsimp only
  refine ⟨fun r k => ?_, fun k => ?_, fun r k => ?_⟩
  rotate_left 2
  · frame_out
    exact pieces m c t r k
  all_goals
    frame_out
    unfold_payloads
    pointwise
    simp only [rd0, rd1, rd2, rd3, rd4, rd5, rd6, rd7, rd8, rd9, dxAt, dgAt, parts]
    rfl

/-! ### What the call leaves -/

theorem every (t : Fin cfg0.N) : (∀ (r : Fin 256) (k : Fin 1024), (outsAt0 m c t.val t.isLt).1 (ix2 r k) = dxAt m c (row t r) k)
    ∧ ∀ (r : Fin 256) (k : Fin 4096), (outsAt0 m c t.val t.isLt).2.2 (ix2 r k) = DP m c (row t r) k := by
  have ht : t.val < 33 := t.isLt
  rcases Nat.eq_zero_or_pos t.val with h | h
  · have f := first m c t (by omega) (by omega)
    exact ⟨f.1, f.2.2⟩
  · have f := later m c t (by omega) h
    exact ⟨f.1, f.2.2⟩

theorem every_dg (k : Fin 1024) (n : ℕ) (h : n < cfg0.N) :
    (outsAt0 m c n h).2.1 (ix2 0 k) = ∑ i : Fin (n + 1), ∑ r : Fin 256, dgAt m c (row ⟨i.val, by omega⟩ r) k :=
  sum_steps (N := cfg0.N) (fun n h => (outsAt0 m c n h).2.1 (ix2 0 k)) (fun t => ∑ r : Fin 256, dgAt m c (row t r) k)
    (fun h => (first m c ⟨0, h⟩ rfl (by simp)).2.1 k)
    (fun n h => (later m c ⟨n + 1, h⟩ (by have : n + 1 < 33 := h; show ¬(n + 1) % 33 = 0; omega) (by show 1 ≤ n + 1; omega)).2.1 k) n h

/-- The last step writes the scale's gradient back. -/
theorem hands11 : ∀ t : Fin cfg0.N, (cfg0.win 11).flush t = true → t.val = 32 :=
  (by decide +kernel : ∀ t : Fin grid0.N, win0_11.flush t = true → t.val = 32)

/-! ### The results -/

/-- The reference's cotangent at the product, three padded arrays added up. -/
theorem ref_dp (n : Fin 8448) (j : Fin 4096) :
    InProjBwdRefIdeal.Read.val_main_v34 (F := Ideal) (a0 m c) (a1 m c) (a2 m c) (a3 m c) (a4 m c) (a5 m c) (ix2 n j) = DP m c n j := by
  pointwise [InProjBwdRefIdeal.Read.val_main_v22, InProjBwdRefIdeal.Read.val_main_v23, InProjBwdRefIdeal.Read.val_main_v26, InProjBwdRefIdeal.Read.val_main_v27, InProjBwdRefIdeal.Read.val_main_v28, InProjBwdRefIdeal.Read.val_main_v29, InProjBwdRefIdeal.Read.val_main_cst_3, InProjBwdRefIdeal.Read.val_main_v30, InProjBwdRefIdeal.Read.val_main_cst_4, InProjBwdRefIdeal.Read.val_main_v31, InProjBwdRefIdeal.Read.val_main_v32, InProjBwdRefIdeal.Read.val_main_cst_5, InProjBwdRefIdeal.Read.val_main_v33, InProjBwdRefIdeal.Read.val_main_v34]
  rcases Nat.lt_or_ge j.val 512 with h1 | h1
  · rw [dif_neg (by omega), dif_neg (by omega), dif_pos h1, DP_u m c n ⟨j.val, h1⟩ rfl]
    refine (congrArg (· + _) (zero_add (M := EReal) 0)).trans ((zero_add (M := EReal) _).trans ?_)
    rw [add_comm, add_assoc]
  rcases Nat.lt_or_ge j.val 2048 with h2 | h2
  · rw [dif_neg (by omega), dif_pos (by omega), dif_neg (by omega), DP_q m c n ⟨j.val - 512, by omega⟩ (by show j.val = 512 + (j.val - 512); omega)]
    exact (add_zero (M := EReal) _).trans (zero_add (M := EReal) _)
  · rw [dif_pos (by omega), dif_neg (by omega), dif_neg (by omega), DP_g m c n ⟨j.val - 2048, by omega⟩ (by show j.val = 2048 + (j.val - 2048); omega)]
    exact (add_zero (M := EReal) _).trans (add_zero (M := EReal) _)

/-- The reference's cotangent at the norm. -/
theorem ref_d (n : Fin 8448) (k : Fin 1024) :
    InProjBwdRefIdeal.Read.val_main_v35 (F := Ideal) (a0 m c) (a1 m c) (a2 m c) (a3 m c) (a4 m c) (a5 m c) (a9 m c) (ix2 n k) = D m c n k := by
  unfold InProjBwdRefIdeal.Read.val_main_v35 D
  simp only [← ref_dp]
  generalize InProjBwdRefIdeal.Read.val_main_v34 (F := Ideal) (a0 m c) (a1 m c) (a2 m c) (a3 m c) (a4 m c) (a5 m c) = y
  pointwise [InProjBwdRefIdeal.Read.val_main_v17, InProjBwdRefIdeal.Read.val_main_v22, InProjBwdRefIdeal.Read.val_main_v23, InProjBwdRefIdeal.Read.val_main_v26, InProjBwdRefIdeal.Read.val_main_v27, InProjBwdRefIdeal.Read.val_main_v28, InProjBwdRefIdeal.Read.val_main_v29, InProjBwdRefIdeal.Read.val_main_cst_3, InProjBwdRefIdeal.Read.val_main_v30, InProjBwdRefIdeal.Read.val_main_cst_4, InProjBwdRefIdeal.Read.val_main_v31, InProjBwdRefIdeal.Read.val_main_v32, InProjBwdRefIdeal.Read.val_main_cst_5, InProjBwdRefIdeal.Read.val_main_v33, InProjBwdRefIdeal.Read.val_main_v34, InProjBwdRefIdeal.Read.val_main_v35]

/-- The first result is the gradient at the step's input. -/
theorem dx (h : ∀ n j, IsReal (DP m c n j)) (h7 : ∀ i, IsReal (a7 m c i)) (h8 : ∀ i, IsReal (a8 m c i)) (h9 : ∀ i, IsReal (a9 m c i)) :
    (Gen.dats m 0 c).arrAt 10 (cfgs 0).N
      = InProjBwdRefIdeal.Read.val_main_v57 (a0 m c) (a1 m c) (a2 m c) (a3 m c) (a4 m c) (a5 m c) (a6 m c) (a7 m c) (a8 m c) (a9 m c) := by
  refine (Gen.dats m 0 c).arrAt_eq_of_covers 10 _ (by decide +kernel) fun t hf y => ?_
  blk_simp
  rw [after0_10]
  idx_vars y
  rw [em10]
  refine ((every m c t).1 y0 y1).trans ?_
  generalize row t y0 = n
  unfold dxAt
  rw [rms_dx ⟨1024, by norm_num, width_word⟩ (fun k => h7 _) (d := fun k => D m c n k * a8 m c (ix2 0 k)) (fun k => (IsReal.sum fun j => (h _ _).mul (h9 _)).mul (h8 _)) y1]
  simp only [← ref_d]
  pointwise [InProjBwdRefIdeal.Read.val_main_v0, InProjBwdRefIdeal.Read.val_main_v1, InProjBwdRefIdeal.Read.val_main_cst, InProjBwdRefIdeal.Read.val_main_v2, InProjBwdRefIdeal.Read.val_main_v3, InProjBwdRefIdeal.Read.val_main_cst_0, InProjBwdRefIdeal.Read.val_main_v4, InProjBwdRefIdeal.Read.val_main_v5, InProjBwdRefIdeal.Read.val_main_cst_1, InProjBwdRefIdeal.Read.val_main_v6, InProjBwdRefIdeal.Read.val_main_v7, InProjBwdRefIdeal.Read.val_main_v8, InProjBwdRefIdeal.Read.val_main_v9, InProjBwdRefIdeal.Read.val_main_cst_2, InProjBwdRefIdeal.Read.val_main_v10, InProjBwdRefIdeal.Read.val_main_v11, InProjBwdRefIdeal.Read.val_main_v14, InProjBwdRefIdeal.Read.val_main_v39, InProjBwdRefIdeal.Read.val_main_v40, InProjBwdRefIdeal.Read.val_main_v42, InProjBwdRefIdeal.Read.val_main_cst_8, InProjBwdRefIdeal.Read.val_main_v43, InProjBwdRefIdeal.Read.val_main_v44, InProjBwdRefIdeal.Read.val_main_v45, InProjBwdRefIdeal.Read.val_main_v46, InProjBwdRefIdeal.Read.val_main_v47, InProjBwdRefIdeal.Read.val_main_cst_9, InProjBwdRefIdeal.Read.val_main_v48, InProjBwdRefIdeal.Read.val_main_v49, InProjBwdRefIdeal.Read.val_main_cst_10, InProjBwdRefIdeal.Read.val_main_v50, InProjBwdRefIdeal.Read.val_main_v51, InProjBwdRefIdeal.Read.val_main_v52, InProjBwdRefIdeal.Read.val_main_v53, InProjBwdRefIdeal.Read.val_main_v54, InProjBwdRefIdeal.Read.val_main_v55, InProjBwdRefIdeal.Read.val_main_v57]
  simp only [Finset.univ_unique, Finset.sum_singleton]
  rfl

/-- The second is the gradient at the norm's scale. -/
theorem dg : (Gen.dats m 0 c).arrAt 11 (cfgs 0).N
    = InProjBwdRefIdeal.Read.val_main_v56 (a0 m c) (a1 m c) (a2 m c) (a3 m c) (a4 m c) (a5 m c) (a7 m c) (a9 m c) := by
  refine (Gen.dats m 0 c).arrAt_eq_of_covers 11 _ (by decide +kernel) fun t hf y => ?_
  blk_simp
  rw [after0_11]
  idx_vars y
  obtain rfl : y0 = 0 := Subsingleton.elim _ _
  rw [em11]
  have ht := hands11 t hf
  obtain ⟨t, h⟩ := t
  obtain rfl : t = 32 := ht
  refine (every_dg m c y1 32 h).trans ?_
  simp only [dgAt, ← ref_d]
  pointwise [InProjBwdRefIdeal.Read.val_main_v1, InProjBwdRefIdeal.Read.val_main_cst, InProjBwdRefIdeal.Read.val_main_v2, InProjBwdRefIdeal.Read.val_main_v3, InProjBwdRefIdeal.Read.val_main_cst_0, InProjBwdRefIdeal.Read.val_main_v4, InProjBwdRefIdeal.Read.val_main_v5, InProjBwdRefIdeal.Read.val_main_cst_1, InProjBwdRefIdeal.Read.val_main_v6, InProjBwdRefIdeal.Read.val_main_v7, InProjBwdRefIdeal.Read.val_main_v8, InProjBwdRefIdeal.Read.val_main_v12, InProjBwdRefIdeal.Read.val_main_v13, InProjBwdRefIdeal.Read.val_main_v36, InProjBwdRefIdeal.Read.val_main_cst_6, InProjBwdRefIdeal.Read.val_main_v37, InProjBwdRefIdeal.Read.val_main_v38, InProjBwdRefIdeal.Read.val_main_cst_7, InProjBwdRefIdeal.Read.val_main_v41, InProjBwdRefIdeal.Read.val_main_v56]
  simp only [Finset.univ_unique, Finset.sum_singleton]
  rw [sum_runs (a := 33) (b := 256) (N := 8448) rfl]
  exact Finset.sum_congr rfl fun i _ => Finset.sum_congr rfl fun r _ => mul_comm _ _

/-- The third is the cotangent at the product. -/
theorem dp : (Gen.dats m 0 c).arrAt 12 (cfgs 0).N
    = InProjBwdRefIdeal.Read.val_main_v58 (a0 m c) (a1 m c) (a2 m c) (a3 m c) (a4 m c) (a5 m c) := by
  refine (Gen.dats m 0 c).arrAt_eq_of_covers 12 _ (by decide +kernel) fun t hf y => ?_
  blk_simp
  rw [after0_12]
  idx_vars y
  rw [em12]
  refine ((every m c t).2 y0 y1).trans ?_
  rw [← ref_dp]
  rfl

/-- The precondition makes the entries of nine arguments reals. -/
theorem reals (h : Pre_InProjBwdIdeal_in_proj_bwd_finite m) :
    (∀ n j, IsReal (DP m c n j)) ∧ (∀ i, IsReal (a7 m c i)) ∧ (∀ i, IsReal (a8 m c i)) ∧ ∀ i, IsReal (a9 m c i) := by
  have e := congrFun (h c) (fun a => a.elim0)
  obtain ⟨e, h9⟩ := andi_one e
  obtain ⟨e, h8⟩ := andi_one e
  obtain ⟨e, h7⟩ := andi_one e
  obtain ⟨e, h5⟩ := andi_one e
  obtain ⟨e, h4⟩ := andi_one e
  obtain ⟨e, h3⟩ := andi_one e
  obtain ⟨e, h2⟩ := andi_one e
  obtain ⟨h0, h1⟩ := andi_one e
  refine ⟨fun n j => ?_, isReal_of_all _ _ _ _ _ _ h7, isReal_of_all _ _ _ _ _ _ h8, isReal_of_all _ _ _ _ _ _ h9⟩
  unfold DP
  split
  · exact (((isReal_of_all _ _ _ _ _ _ h0 _).mul (isReal_of_all _ _ _ _ _ _ h3 _)).add (isReal_of_all _ _ _ _ _ _ h1 _)).add (isReal_of_all _ _ _ _ _ _ h2 _)
  split
  · exact isReal_of_all _ _ _ _ _ _ h4 _
  · exact isReal_of_all _ _ _ _ _ _ h5 _

/-- The first norm's backward: the three results of the call are the reference's. -/
theorem algebraic : algebraic_InProjBwdIdeal_InProjBwdRefIdeal_pre_in_proj_bwd_finite := by
  intro m g m' g' hp hm
  refine ⟨_, _, _, Value.run_blocks m g, (θ_run InProjBwdRefIdeal.defs _ _).mono (fun r h c => ?_) (InProjBwdRefIdeal.Value.run m' g')⟩
  obtain ⟨e0, e1, e2, e3, e4, e5, e6, e7, e8, e9⟩ := hm c
  have f := reals m c hp
  exact ⟨
    ((h c).1).trans ((InProjBwdRefIdeal.Read.val_main_v57_eq _ _).trans (by rw [e0, e1, e2, e3, e4, e5, e6, e7, e8, e9]; exact (dx m c f.1 f.2.1 f.2.2.1 f.2.2.2).symm)),
    ((h c).2.1).trans ((InProjBwdRefIdeal.Read.val_main_v56_eq _ _ _ _ _ _ _ _).trans (by rw [e0, e1, e2, e3, e4, e5, e7, e9]; exact (dg m c).symm)),
    ((h c).2.2.1).trans ((InProjBwdRefIdeal.Read.val_main_v58_eq _ _ _ _ _ _).trans (by rw [e0, e1, e2, e3, e4, e5]; exact (dp m c).symm)),
    (h c).2.2.2⟩

/-- The reference runs, leaves its arguments as they were and declares no semaphore. -/
theorem ref_frame : quiescent_InProjBwdRefIdeal := fun m ρ _ =>
  (θ_run InProjBwdRefIdeal.defs _ _).mono (fun r h => ⟨fun c => (h c).2.2.2, sem_eq_zero_of_no_sems (by decide) r.2⟩) (InProjBwdRefIdeal.Value.run m ρ)

/-- The claims of the first norm's backward. -/
theorem claims : quiescent_InProjBwdIdeal ∧ quiescent_InProjBwdIdeal_pre_in_proj_bwd_finite ∧ quiescent_InProjBwdRefIdeal
    ∧ quiescent_InProjBwdRefIdeal_pre_in_proj_bwd_finite ∧ preserves_InProjBwd_InProjBwdIdeal ∧ algebraic_InProjBwdIdeal_InProjBwdRefIdeal_pre_in_proj_bwd_finite :=
  ⟨fun m ρ _ => Gen.frame m ρ, fun m ρ _ => Gen.frame m ρ, ref_frame, fun m ρ _ => ref_frame m ρ trivial, trivial, algebraic⟩

end Cert.Proof.InProjBwd

end
-- ==== Proof.Heads.lean ====
module

public import proofs.«01_k».proof.Defs
public import proofs.«01_k».proof.Proof.Reals
public import proofs.«01_k».proof.Proof.Rms
public import Idealize.ShloMosaic.Lib.Pointwise
public import Idealize.ShloMosaic.Lib.KernelVsHost

/-! Two heads of 64 lanes side by side in a block of 128 lanes: the mean over a head as a product with a matrix, and the rotation of neighbours. -/

@[expose] public section

set_option maxHeartbeats 1000000
set_option maxRecDepth 16384

noncomputable section

namespace Cert.Proof.Heads

open Idealize.ShloMosaic

/-- The word of 64. -/
theorem word64 : Ideal.ofBits .f32 0x42800000#32 = ((64 : ℝ) : EReal) := by
  show Ideal.ieee 8 23 0x42800000#32 = _
  simp [Ideal.ieee]
  rw [← EReal.coe_mul]
  norm_num

/-- The matrix of the mean: one over 64 where both lanes are of one head. -/
def MM (j k : Fin 128) : EReal :=
  Ideal.div (FloatOps.sitofp (F := Ideal) .f32 (BitVec.setWidth 32 (IntOp.cmpi CmpIPredicate.eq (BitVec.ofNat 32 (j.val / 64)) (BitVec.ofNat 32 (k.val / 64)))))
    (Ideal.ofBits .f32 0x42800000#32)

theorem MM_eq (j k : Fin 128) : MM j k = if j.val / 64 = k.val / 64 then ((1 / 64 : ℝ) : EReal) else 0 := by
  have h : BitVec.setWidth 32 (IntOp.cmpi CmpIPredicate.eq (BitVec.ofNat 32 (j.val / 64)) (BitVec.ofNat 32 (k.val / 64))) = if j.val / 64 = k.val / 64 then 1#32 else 0#32 := by
    revert j k; decide +kernel
  have e1 : FloatOps.sitofp (F := Ideal) .f32 (1#32) = ((1 : ℝ) : EReal) := by
    show (((1#32 : BitVec 32).toInt : ℝ) : EReal) = _
    norm_num
  have e0 : FloatOps.sitofp (F := Ideal) .f32 (0#32) = ((0 : ℝ) : EReal) := by
    show (((0#32 : BitVec 32).toInt : ℝ) : EReal) = _
    norm_num
  unfold MM
  rw [h, word64]
  split
  · rw [e1, Ideal.div_coe (by norm_num), ← EReal.coe_mul, one_mul]
  · rw [e0, Ideal.div_coe (by norm_num), ← EReal.coe_mul, zero_mul]; rfl

/-- The lane of the block that lane `i` of the head of lane `k` is. -/
abbrev lane (k : Fin 128) (i : Fin 64) : Fin 128 := ⟨k.val / 64 * 64 + i.val, by omega⟩

/-- The product with the matrix, of the rounded and of the rest, is the mean over the head. -/
theorem mean_half (f : Fin 128 → EReal) (hf : ∀ j, IsReal (f j)) (k : Fin 128) :
    ∑ j, f j * MM j k + ∑ j, (f j - f j) * MM j k = Ideal.div (∑ i : Fin 64, f (lane k i)) (Ideal.ofBits .f32 0x42800000#32) := by
  rw [Finset.sum_congr rfl (fun j _ => by rw [(hf j).sub_self, zero_mul] : ∀ j ∈ Finset.univ, (f j - f j) * MM j k = 0), Finset.sum_const_zero, add_zero]
  choose F hF using hf
  rw [word64, Ideal.div_coe (by norm_num)]
  simp only [hF, MM_eq]
  have e : ∀ j : Fin 128, ((F j : ℝ) : EReal) * (if j.val / 64 = k.val / 64 then ((1 / 64 : ℝ) : EReal) else 0) = ((if j.val / 64 = k.val / 64 then F j * (1 / 64) else 0 : ℝ) : EReal) := by
    intro j
    split
    · rw [EReal.coe_mul]
    · rw [mul_zero]; rfl
  rw [Finset.sum_congr rfl fun j _ => e j, ← coe_sum, ← coe_sum, ← EReal.coe_mul, Finset.sum_mul]
  refine congrArg _ ((Fin.sum_univ_add (a := 64) (b := 64) _).trans ?_)
  have h1 : ∀ i : Fin 64, (Fin.castAdd 64 i).val / 64 = 0 := fun i => by show i.val / 64 = 0; omega
  have h2 : ∀ i : Fin 64, (Fin.natAdd 64 i).val / 64 = 1 := fun i => by show (64 + i.val) / 64 = 1; omega
  simp only [h1, h2]
  rcases Nat.lt_or_ge k.val 64 with h | h
  · have hk : k.val / 64 = 0 := by omega
    simp only [hk, if_true, Nat.one_ne_zero, if_false, Finset.sum_const_zero, add_zero]
    exact Finset.sum_congr rfl fun i _ => congrArg (fun q => F q * (1 / 64)) (Fin.ext (by show i.val = k.val / 64 * 64 + i.val; omega))
  · have hk : k.val / 64 = 1 := by omega
    simp only [hk, if_true, Nat.zero_ne_one, if_false, Finset.sum_const_zero, zero_add]
    exact Finset.sum_congr rfl fun i _ => congrArg (fun q => F q * (1 / 64)) (Fin.ext (by show 64 + i.val = k.val / 64 * 64 + i.val; omega))

/-! ### One row of a block, as the step computes it -/

/-- The inverse root. -/
def rL (x : Fin 128 → EReal) (k : Fin 128) : EReal :=
  Ideal.rsqrt (∑ j, x j * x j * MM j k + ∑ j, (x j * x j - x j * x j) * MM j k + Ideal.ofBits .f32 0x358637BD#32)

/-- Whether a lane is the first of its pair, as the step finds it out. -/
def evenBit (x : Fin 128) : BitVec 1 :=
  IntOp.cmpi CmpIPredicate.eq
    (Scalar.select
      (IntOp.andi
        (IntOp.xori
          (IntOp.cmpi CmpIPredicate.slt
            (IntOp.remsi ArithUnit.vector (BitVec.ofNat 32 x.val) (Scalar.select (Scalar.cmpi CmpIPredicate.eq 2#32 0#32) 1#32 2#32))
            0#32)
          (Scalar.cmpi CmpIPredicate.slt (Scalar.select (Scalar.cmpi CmpIPredicate.eq 2#32 0#32) 1#32 2#32) 0#32))
        (IntOp.cmpi CmpIPredicate.ne
          (IntOp.remsi ArithUnit.vector (BitVec.ofNat 32 x.val) (Scalar.select (Scalar.cmpi CmpIPredicate.eq 2#32 0#32) 1#32 2#32))
          0#32))
      (IntOp.addi
        (IntOp.remsi ArithUnit.vector (BitVec.ofNat 32 x.val) (Scalar.select (Scalar.cmpi CmpIPredicate.eq 2#32 0#32) 1#32 2#32))
        (Scalar.select (Scalar.cmpi CmpIPredicate.eq 2#32 0#32) 1#32 2#32))
      (IntOp.remsi ArithUnit.vector (BitVec.ofNat 32 x.val) (Scalar.select (Scalar.cmpi CmpIPredicate.eq 2#32 0#32) 1#32 2#32)))
    0#32

theorem evenBit_eq : ∀ x : Fin 128, evenBit x = if x.val % 2 = 0 then 1#1 else 0#1 := by
  unfold evenBit
  decide +kernel

/-- The cotangent before the rotation. -/
def dyL (d c s : Fin 128 → EReal) (k : Fin 128) : EReal :=
  d k * c k + Scalar.select (evenBit k)
    (d ⟨(k.val + 128 - 127) % 128, Nat.mod_lt _ (by norm_num)⟩ * s ⟨(k.val + 128 - 127) % 128, Nat.mod_lt _ (by norm_num)⟩)
    (d ⟨(k.val + 128 - 1) % 128, Nat.mod_lt _ (by norm_num)⟩ * s ⟨(k.val + 128 - 1) % 128, Nat.mod_lt _ (by norm_num)⟩)

/-- The gradient at the block. -/
def outL (x d c s g : Fin 128 → EReal) (k : Fin 128) : EReal :=
  rL x k * (dyL d c s k * g k - x k * rL x k
    * (∑ j, dyL d c s j * g j * (x j * rL x j) * MM j k
      + ∑ j, (dyL d c s j * g j * (x j * rL x j) - dyL d c s j * g j * (x j * rL x j)) * MM j k))

/-! ### The same, a head at a time -/

/-- The other lane of a pair. -/
def flip (i : Fin 64) : Fin 64 := if h : i.val % 2 = 0 then ⟨i.val + 1, by omega⟩ else ⟨i.val - 1, by omega⟩

/-- The inverse root of a head. -/
def rH (x : Fin 64 → EReal) : EReal := Ideal.rsqrt (ms (Ideal.ofBits .f32 0x42800000#32) x)

/-- The cotangent of a head before the rotation. -/
def dyH (d c s : Fin 64 → EReal) (i : Fin 64) : EReal := d i * c i + d (flip i) * s (flip i)

/-- The gradient at a head. -/
def outH (x d c s g : Fin 64 → EReal) (i : Fin 64) : EReal :=
  rH x * (dyH d c s i * g i - x i * rH x * Ideal.div (∑ j, dyH d c s j * g j * (x j * rH x)) (Ideal.ofBits .f32 0x42800000#32))

/-- The head of lane `k`, in its own lanes. -/
abbrev half (f : Fin 128 → EReal) (k : Fin 128) : Fin 64 → EReal := fun i => f (lane k i)

/-- The lane within its head. -/
abbrev low (k : Fin 128) : Fin 64 := ⟨k.val % 64, by omega⟩

theorem lane_low (k : Fin 128) : lane k (low k) = k := Fin.ext (by show k.val / 64 * 64 + k.val % 64 = k.val; omega)

theorem lane_lane (k : Fin 128) (i : Fin 64) : lane (lane k i) = lane k := by
  funext j
  exact Fin.ext (by show (k.val / 64 * 64 + i.val) / 64 * 64 + j.val = k.val / 64 * 64 + j.val; omega)

theorem lane_at (k : Fin 128) (i j : Fin 64) : lane (lane k i) j = lane k j := congrFun (lane_lane k i) j

theorem low_lane (k : Fin 128) (i : Fin 64) : low (lane k i) = i := Fin.ext (by show (k.val / 64 * 64 + i.val) % 64 = i.val; omega)

theorem rL_eq (x : Fin 128 → EReal) (hx : ∀ j, IsReal (x j)) (k : Fin 128) : rL x k = rH (half x k) := by
  unfold rL rH ms
  rw [mean_half (fun j => x j * x j) (fun j => (hx j).mul (hx j))]

theorem dyL_eq (d c s : Fin 128 → EReal) (k : Fin 128) : dyL d c s k = dyH (half d k) (half c k) (half s k) (low k) := by
  unfold dyL dyH half
  rw [lane_low, evenBit_eq]
  rcases Nat.mod_two_eq_zero_or_one k.val with h | h
  · have e : (⟨(k.val + 128 - 127) % 128, Nat.mod_lt _ (by norm_num)⟩ : Fin 128) = lane k (flip (low k)) := by
      unfold flip
      rw [dif_pos (show k.val % 64 % 2 = 0 by omega)]
      exact Fin.ext (by show (k.val + 128 - 127) % 128 = k.val / 64 * 64 + (k.val % 64 + 1); omega)
    rw [if_pos h, e]
    rfl
  · have e : (⟨(k.val + 128 - 1) % 128, Nat.mod_lt _ (by norm_num)⟩ : Fin 128) = lane k (flip (low k)) := by
      unfold flip
      rw [dif_neg (show ¬k.val % 64 % 2 = 0 by omega)]
      exact Fin.ext (by show (k.val + 128 - 1) % 128 = k.val / 64 * 64 + (k.val % 64 - 1); omega)
    rw [if_neg (by omega), e]
    rfl

/-- The part of the scale's gradient. -/
theorem part_eq (x d c s : Fin 128 → EReal) (hx : ∀ j, IsReal (x j)) (k : Fin 128) :
    dyL d c s k * (x k * rL x k) = dyH (half d k) (half c k) (half s k) (low k) * (half x k (low k) * rH (half x k)) := by
  rw [dyL_eq, rL_eq x hx]
  unfold half
  rw [lane_low]

/-- The gradient at the block is the gradient at its heads. -/
theorem outL_eq (x d c s g : Fin 128 → EReal) (hx : ∀ j, IsReal (x j)) (hr : ∀ k, IsReal (rL x k)) (hd : ∀ j, IsReal (d j)) (hc : ∀ j, IsReal (c j)) (hs : ∀ j, IsReal (s j)) (hg : ∀ j, IsReal (g j)) (k : Fin 128) :
    outL x d c s g k = outH (half x k) (half d k) (half c k) (half s k) (half g k) (low k) := by
  have hy : ∀ j, IsReal (dyL d c s j) := fun j => by
    rw [dyL_eq]
    exact ((hd _).mul (hc _)).add ((hd _).mul (hs _))
  unfold outL outH
  rw [mean_half (fun j => dyL d c s j * g j * (x j * rL x j)) (fun j => ((hy j).mul (hg j)).mul ((hx j).mul (hr j)))]
  simp only [dyL_eq, rL_eq x hx]
  unfold half
  simp only [lane_low, lane_at, low_lane]

/-- The inverse root of reals is real. -/
theorem rL_real (x : Fin 128 → EReal) (hx : ∀ j, IsReal (x j)) (k : Fin 128) : IsReal (rL x k) := by
  rw [rL_eq x hx]
  have h : ∀ i, IsReal (half x k i) := fun i => hx _
  choose X hX using h
  obtain ⟨M, R, _, _, e1, e2⟩ := ms_pos (N := 64) (by norm_num) X
  refine ⟨R, ?_⟩
  unfold rH
  rw [word64, show half x k = fun i => (X i : EReal) from funext hX, e1, e2]

/-- Adding the two halves of the lanes adds over the heads. -/
theorem two_halves {B N : ℕ} (hN : N = B * 2) (f : Fin N → EReal) (k : Fin 128) :
    ∑ b : Fin B, f ⟨b.val * 2 + k.val / 64, by omega⟩ + ∑ b : Fin B, f ⟨b.val * 2 + (k.val + 128 - 64) % 128 / 64, by omega⟩ = ∑ h : Fin N, f h := by
  subst hN
  rw [sum_runs (a := B) (b := 2) (N := B * 2) rfl]
  simp only [Fin.sum_univ_two, Finset.sum_add_distrib]
  rcases Nat.lt_or_ge k.val 64 with h | h
  · refine congrArg₂ (· + ·) ?_ ?_ <;> refine Finset.sum_congr rfl fun b _ => congrArg f (Fin.ext ?_)
    · show b.val * 2 + k.val / 64 = b.val * 2 + 0; omega
    · show b.val * 2 + (k.val + 128 - 64) % 128 / 64 = b.val * 2 + 1; omega
  · rw [add_comm]
    refine congrArg₂ (· + ·) ?_ ?_ <;> refine Finset.sum_congr rfl fun b _ => congrArg f (Fin.ext ?_)
    · show b.val * 2 + (k.val + 128 - 64) % 128 / 64 = b.val * 2 + 0; omega
    · show b.val * 2 + k.val / 64 = b.val * 2 + 1; omega

end Cert.Proof.Heads

end
-- ==== Proof.QkBlocks.lean ====
module

public import proofs.«01_k».proof.Defs
public import proofs.«01_k».proof.Proof.Gen.QkBwdIdeal
public import proofs.«01_k».proof.Proof.Gen.QkBwdIdeal.Value
public import proofs.«01_k».proof.Proof.Gen.QkBwdRefIdeal.Read
public import proofs.«01_k».proof.Proof.Gen.QkBwdRefIdeal.Run
public import proofs.«01_k».proof.Proof.Gen.Pre_qk_bwd_finite
public import Idealize.ShloMosaic.Lib.Pointwise
public import Idealize.ShloMosaic.Lib.Pipeline.ValueKit
public import Idealize.ShloMosaic.Lib.Pipeline.ReadBack
public import proofs.«01_k».proof.Proof.Reals
public import proofs.«01_k».proof.Proof.Rms
public import proofs.«01_k».proof.Proof.Heads

@[expose] public section

set_option maxRecDepth 16384
set_option maxHeartbeats 1000000

noncomputable section

namespace Cert.Proof.QkBwd

open Idealize.ShloMosaic Idealize.ShloMosaic.TcCoe Idealize.SL.Sem
open Cert.QkBwdIdeal Cert.QkBwdIdeal.Gen Cert.Proof.Heads
open Idealize.ShloMosaic.Pipeline (Dat)

variable (m : (ℓ : Loc nD τ sig) → Buf (Elt Ideal) ℓ) (c : Dev nD)

/-- Every moving window is at row block `t`, every resident one at the origin. -/
theorem idx : ∀ t : Fin cfg0.N, win0_0.index t = ![t.val, 0] ∧ win0_1.index t = ![t.val, 0] ∧ win0_2.index t = ![0, t.val, 0]
    ∧ win0_3.index t = ![0, t.val, 0] ∧ win0_4.index t = ![t.val, 0] ∧ win0_5.index t = ![t.val, 0] ∧ win0_6.index t = ![0, 0]
    ∧ win0_7.index t = ![0, 0] ∧ win0_8.index t = ![0, 0] ∧ win0_9.index t = ![t.val, 0] ∧ win0_10.index t = ![0, 0] ∧ win0_11.index t = ![0, 0] :=
  (by decide +kernel : ∀ t : Fin grid0.N, win0_0.index t = ![t.val, 0] ∧ win0_1.index t = ![t.val, 0] ∧ win0_2.index t = ![0, t.val, 0]
    ∧ win0_3.index t = ![0, t.val, 0] ∧ win0_4.index t = ![t.val, 0] ∧ win0_5.index t = ![t.val, 0] ∧ win0_6.index t = ![0, 0]
    ∧ win0_7.index t = ![0, 0] ∧ win0_8.index t = ![0, 0] ∧ win0_9.index t = ![t.val, 0] ∧ win0_10.index t = ![0, 0] ∧ win0_11.index t = ![0, 0])

/-! The argument arrays, as arrays of extended reals. -/

def a0 : S8448x1536.Idx → EReal := m ((c : Thread nD τ).loc main_arg0)
def a1 : S8448x1024.Idx → EReal := m ((c : Thread nD τ).loc main_arg1)
def a2 : S4x8448x64.Idx → EReal := m ((c : Thread nD τ).loc main_arg2)
def a3 : S4x8448x64.Idx → EReal := m ((c : Thread nD τ).loc main_arg3)
def a4 : S8448x32.Idx → EReal := m ((c : Thread nD τ).loc main_arg4)
def a5 : S8448x32.Idx → EReal := m ((c : Thread nD τ).loc main_arg5)
def a6 : S1x64.Idx → EReal := m ((c : Thread nD τ).loc main_arg6)
def a7 : S1x64.Idx → EReal := m ((c : Thread nD τ).loc main_arg7)

/-- The row of the array that row `r` of block `t` is. -/
abbrev row (t : Fin cfg0.N) (r : Fin 256) : Fin 8448 := ⟨t.val * 256 + r.val, by have : t.val < 33 := t.isLt; omega⟩

/-! The input windows, read at a place of their block. -/

theorem rd0 (t : Fin cfg0.N) (r : Fin 256) (k : Fin 1536) : iblk m c 0 t (ix2 r k) = a0 m c (ix2 (row t r) k) := by
  blk_point [iblk, (idx t).1]

theorem rd1 (t : Fin cfg0.N) (r : Fin 256) (k : Fin 1024) : iblk m c 1 t (ix2 r k) = a1 m c (ix2 (row t r) k) := by
  blk_point [iblk, (idx t).2.1]

theorem rd2 (t : Fin cfg0.N) (h : Fin 4) (r : Fin 256) (k : Fin 64) : iblk m c 2 t (ix3 h r k) = a2 m c (ix3 h (row t r) k) := by
  blk_point [iblk, (idx t).2.2.1]

theorem rd3 (t : Fin cfg0.N) (h : Fin 4) (r : Fin 256) (k : Fin 64) : iblk m c 3 t (ix3 h r k) = a3 m c (ix3 h (row t r) k) := by
  blk_point [iblk, (idx t).2.2.2.1]

theorem em9 (t : Fin cfg0.N) (r : Fin 256) (k : Fin 1536) : ((View.whole main_v28_0).slice (win0_9.rect t)).emb (ix2 r k) = ix2 (row t r) k := by
  blk_point [(idx t).2.2.2.2.2.2.2.2.2.1]

theorem em10 (t : Fin cfg0.N) (k : Fin 128) : ((View.whole main_v28_1).slice (win0_10.rect t)).emb (ix2 0 k) = ix2 0 k := by
  blk_point [(idx t).2.2.2.2.2.2.2.2.2.2.1]

theorem em11 (t : Fin cfg0.N) (k : Fin 128) : ((View.whole main_v28_2).slice (win0_11.rect t)).emb (ix2 0 k) = ix2 0 k := by
  blk_point [(idx t).2.2.2.2.2.2.2.2.2.2.2]

/-! A row's heads: the 16 of q and after them the 4 of k. -/

/-- The entries, -/
def xH (n : Fin 8448) (h : Fin 20) : Fin 64 → EReal := fun i => a0 m c (ix2 n ⟨h.val * 64 + i.val, by omega⟩)

/-- the cotangent that enters, -/
def dH (n : Fin 8448) (h : Fin 20) : Fin 64 → EReal := fun i =>
  if g : h.val < 16 then a1 m c (ix2 n ⟨h.val * 64 + i.val, by omega⟩) * Ideal.ofBits .f32 0x3E000000#32 else a2 m c (ix3 ⟨h.val - 16, by omega⟩ n i)

/-- the cosines, -/
def cH (n : Fin 8448) : Fin 64 → EReal := fun i => a4 m c (ix2 n ⟨i.val / 2, by omega⟩)

/-- the sines with the sign of their lane, -/
def sH (n : Fin 8448) : Fin 64 → EReal := fun i => if i.val % 2 < 1 then -a5 m c (ix2 n ⟨i.val / 2, by omega⟩) else a5 m c (ix2 n ⟨i.val / 2, by omega⟩)

/-- and the scales. -/
def gH (h : Fin 20) : Fin 64 → EReal := fun i => if h.val < 16 then a6 m c (ix2 0 i) else a7 m c (ix2 0 i)

theorem rd4 (t : Fin cfg0.N) (r : Fin 256) (k : Fin 128) : iblk m c 4 t (ix2 r k) = cH m c (row t r) (low k) := by
  unfold cH
  blk_point [iblk, (idx t).2.2.2.2.1]

theorem rd5 (t : Fin cfg0.N) (r : Fin 256) (k : Fin 128) : iblk m c 5 t (ix2 r k) = sH m c (row t r) (low k) := by
  have e : (win0_5.blk t).view.emb (ix2 r k) = ix2 (row t r) k := by
    blk_point [(idx t).2.2.2.2.2.1]
  blk_simp [iblk]
  entry_read
  rw [e]
  pointwise
  rfl

theorem rd6 (t : Fin cfg0.N) (k : Fin 128) : iblk m c 6 t (ix2 0 k) = a6 m c (ix2 0 (low k)) := by
  blk_point [iblk, (idx t).2.2.2.2.2.2.1]

theorem rd7 (t : Fin cfg0.N) (k : Fin 128) : iblk m c 7 t (ix2 0 k) = a7 m c (ix2 0 (low k)) := by
  blk_point [iblk, (idx t).2.2.2.2.2.2.2.1]

theorem rd8 (t : Fin cfg0.N) (j : Fin 128) (k : Fin 128) : iblk m c 8 t (ix2 j k) = MM j k := by
  have e : (win0_8.blk t).view.emb (ix2 j k) = ix2 j k := by
    blk_point [(idx t).2.2.2.2.2.2.2.2.1]
  blk_simp [iblk]
  entry_read
  rw [e]
  pointwise
  rfl

/-! ### A block of 128 lanes -/

/-- A block's gradient, for q. -/
theorem q_out (C S X DO : Vec Ideal S256x128 .f32) (G : Vec Ideal S1x128 .f32) (M : Vec Ideal S128x128 .bf16) (hM : ∀ i j, M (ix2 i j) = MM i j) (r : Fin 256) (k : Fin 128) :
    k0_pay21 (k0_pay16 M X) (k0_pay20 C S M X G (k0_pay16 M X) DO) (ix2 r k)
      = outL (fun j => X (ix2 r j)) (fun j => @HMul.hMul EReal EReal EReal _ (DO (ix2 r j)) (Ideal.ofBits .f32 0x3E000000#32)) (fun j => C (ix2 r j)) (fun j => S (ix2 r j)) (fun j => G (ix2 0 j)) k := by
  unfold_payloads
  pointwise
  simp only [hM]
  rfl

/-- A block's part of the scale's gradient, added to what stood there, for q. -/
theorem q_part (C S X DO : Vec Ideal S256x128 .f32) (V : Vec Ideal S1x128 .f32) (M : Vec Ideal S128x128 .bf16) (hM : ∀ i j, M (ix2 i j) = MM i j) (k : Fin 128) :
    k0_pay19 C S V X (k0_pay16 M X) DO (ix2 0 k)
      = @HAdd.hAdd EReal EReal EReal _ (V (ix2 0 k)) (∑ r : Fin 256, dyL (fun j => @HMul.hMul EReal EReal EReal _ (DO (ix2 r j)) (Ideal.ofBits .f32 0x3E000000#32)) (fun j => C (ix2 r j)) (fun j => S (ix2 r j)) k * ((fun j => X (ix2 r j) : Fin 128 → EReal) k * rL (fun j => X (ix2 r j)) k)) := by
  unfold_payloads
  pointwise
  simp only [hM]
  rfl

/-- Two heads of 64 lanes side by side. -/
theorem cat_at (D1 D2 : Vec Ideal S1x256x64 .f32) (r : Fin 256) (k : Fin 128) :
    k0_pay89 D1 D2 (ix2 r k) = if h : k.val < 64 then D1 (ix3 0 r ⟨k.val, h⟩) else D2 (ix3 0 r ⟨k.val - 64, by omega⟩) := by
  unfold_payloads
  pointwise

/-- A block's gradient, for k. -/
theorem k_out (C S X : Vec Ideal S256x128 .f32) (D1 D2 : Vec Ideal S1x256x64 .f32) (G : Vec Ideal S1x128 .f32) (M : Vec Ideal S128x128 .bf16) (hM : ∀ i j, M (ix2 i j) = MM i j) (r : Fin 256) (k : Fin 128) :
    k0_pay97 M G (k0_pay87 M X) (k0_pay88 M X) (k0_pay90 C D1 D2) (k0_pay91 S D1 D2) 2#32 k0_pay92 k0_pay93 k0_pay94 (ix2 r k)
      = outL (fun j => X (ix2 r j)) (fun j => k0_pay89 D1 D2 (ix2 r j)) (fun j => C (ix2 r j)) (fun j => S (ix2 r j)) (fun j => G (ix2 0 j)) k := by
  unfold k0_pay90 k0_pay91
  generalize k0_pay89 D1 D2 = DO
  unfold_payloads
  pointwise
  simp only [hM]
  rfl

/-- A block's part of the scale's gradient, added to what stood there, for k. -/
theorem k_part (C S X : Vec Ideal S256x128 .f32) (D1 D2 : Vec Ideal S1x256x64 .f32) (V : Vec Ideal S1x128 .f32) (M : Vec Ideal S128x128 .bf16) (hM : ∀ i j, M (ix2 i j) = MM i j) (k : Fin 128) :
    k0_pay96 V (k0_pay88 M X) (k0_pay90 C D1 D2) (k0_pay91 S D1 D2) 2#32 k0_pay92 k0_pay93 k0_pay94 (ix2 0 k)
      = @HAdd.hAdd EReal EReal EReal _ (V (ix2 0 k)) (∑ r : Fin 256, dyL (fun j => k0_pay89 D1 D2 (ix2 r j)) (fun j => C (ix2 r j)) (fun j => S (ix2 r j)) k * ((fun j => X (ix2 r j) : Fin 128 → EReal) k * rL (fun j => X (ix2 r j)) k)) := by
  unfold k0_pay90 k0_pay91
  generalize k0_pay89 D1 D2 = DO
  unfold_payloads
  pointwise
  simp only [hM]
  rfl

/-! ### One step -/

/-- The arguments that have to be real. -/
structure Fin6 : Prop where
  h0 : ∀ i, IsReal (a0 m c i)
  h1 : ∀ i, IsReal (a1 m c i)
  h2 : ∀ i, IsReal (a2 m c i)
  h4 : ∀ i, IsReal (a4 m c i)
  h5 : ∀ i, IsReal (a5 m c i)
  h6 : ∀ i, IsReal (a6 m c i)
  h7 : ∀ i, IsReal (a7 m c i)

/-- The word of an eighth. -/
theorem eighth_real : IsReal (Ideal.ofBits .f32 0x3E000000#32) := by
  refine ⟨1 / 8, ?_⟩
  show Ideal.ieee 8 23 0x3E000000#32 = _
  simp [Ideal.ieee]
  rw [← EReal.coe_mul]
  norm_num

variable {m c} in
theorem Fin6.x (H : Fin6 m c) (n : Fin 8448) (h : Fin 20) (i : Fin 64) : IsReal (xH m c n h i) := H.h0 _

variable {m c} in
theorem Fin6.d (H : Fin6 m c) (n : Fin 8448) (h : Fin 20) (i : Fin 64) : IsReal (dH m c n h i) := by
  unfold dH
  split
  · exact (H.h1 _).mul eighth_real
  · exact H.h2 _

variable {m c} in
theorem Fin6.cos (H : Fin6 m c) (n : Fin 8448) (i : Fin 64) : IsReal (cH m c n i) := H.h4 _

variable {m c} in
theorem Fin6.sin (H : Fin6 m c) (n : Fin 8448) (i : Fin 64) : IsReal (sH m c n i) := by
  unfold sH
  split
  · obtain ⟨r, h⟩ := H.h5 (ix2 n ⟨i.val / 2, by omega⟩)
    exact ⟨-r, by rw [h]; exact (EReal.coe_neg r).symm⟩
  · exact H.h5 _

variable {m c} in
theorem Fin6.g (H : Fin6 m c) (h : Fin 20) (i : Fin 64) : IsReal (gH m c h i) := by
  unfold gH
  split
  · exact H.h6 _
  · exact H.h7 _

/-- The head of lane `k` of block `b`. -/
abbrev hd (b : Fin 10) (k : Fin 128) : Fin 20 := ⟨b.val * 2 + k.val / 64, by omega⟩

theorem hd_lane (b : Fin 10) (k : Fin 128) (i : Fin 64) : hd b (lane k i) = hd b k :=
  Fin.ext (by show b.val * 2 + (k.val / 64 * 64 + i.val) / 64 = b.val * 2 + k.val / 64; omega)

/-- The gradient at a head. -/
def oH (n : Fin 8448) (h : Fin 20) (i : Fin 64) : EReal := outH (xH m c n h) (dH m c n h) (cH m c n) (sH m c n) (gH m c h) i

/-- A row's part of the scale's gradient. -/
def pH (n : Fin 8448) (h : Fin 20) (i : Fin 64) : EReal :=
  dyH (dH m c n h) (cH m c n) (sH m c n) i * (xH m c n h i * rH (xH m c n h))

/-- What a block of lanes gives, in terms of its heads. -/
theorem block_out (H : Fin6 m c) (n : Fin 8448) (b : Fin 10) {x d cc s g : Fin 128 → EReal}
    (hx : ∀ k, x k = xH m c n (hd b k) (low k)) (hd' : ∀ k, d k = dH m c n (hd b k) (low k)) (hc : ∀ k, cc k = cH m c n (low k))
    (hs : ∀ k, s k = sH m c n (low k)) (hg : ∀ k, g k = gH m c (hd b k) (low k)) (k : Fin 128) :
    outL x d cc s g k = oH m c n (hd b k) (low k) := by
  have rx : ∀ j, IsReal (x j) := fun j => by rw [hx]; exact H.x _ _ _
  rw [outL_eq x d cc s g rx (rL_real x rx) (fun j => by rw [hd']; exact H.d _ _ _) (fun j => by rw [hc]; exact H.cos _ _)
    (fun j => by rw [hs]; exact H.sin _ _) (fun j => by rw [hg]; exact H.g _ _) k]
  unfold oH half
  simp only [hx, hd', hc, hs, hg, hd_lane, low_lane]

theorem block_part (H : Fin6 m c) (n : Fin 8448) (b : Fin 10) {x d cc s : Fin 128 → EReal}
    (hx : ∀ k, x k = xH m c n (hd b k) (low k)) (hd' : ∀ k, d k = dH m c n (hd b k) (low k)) (hc : ∀ k, cc k = cH m c n (low k))
    (hs : ∀ k, s k = sH m c n (low k)) (k : Fin 128) :
    dyL d cc s k * (x k * rL x k) = pH m c n (hd b k) (low k) := by
  rw [part_eq x d cc s (fun j => by rw [hx]; exact H.x _ _ _) k]
  unfold pH half
  simp only [hx, hd', hc, hs, hd_lane, low_lane]

/-- The first result at a place: the gradient at a head of q or k, or v's cotangent as it is. -/
def oAt (n : Fin 8448) (j : Fin 1536) : EReal :=
  if h : j.val < 1280 then oH m c n ⟨j.val / 64, by omega⟩ ⟨j.val % 64, by omega⟩ else a3 m c (ix3 ⟨(j.val - 1280) / 64, by omega⟩ n ⟨j.val % 64, by omega⟩)

theorem oAt_block (n : Fin 8448) (b : Fin 10) (k : Fin 128) {j : Fin 1536} (h : j.val = b.val * 128 + k.val) : oAt m c n j = oH m c n (hd b k) (low k) := by
  unfold oAt
  rw [dif_pos (by omega)]
  exact congrArg₂ (oH m c n) (Fin.ext (by show j.val / 64 = b.val * 2 + k.val / 64; omega)) (Fin.ext (by show j.val % 64 = k.val % 64; omega))

theorem oAt_v (n : Fin 8448) (h : Fin 4) (i : Fin 64) {j : Fin 1536} (hj : j.val = 1280 + h.val * 64 + i.val) : oAt m c n j = a3 m c (ix3 h n i) := by
  unfold oAt
  rw [dif_neg (by omega)]
  exact congrArg₂ (fun p q => a3 m c (ix3 p n q)) (Fin.ext (by show (j.val - 1280) / 64 = h.val; omega)) (Fin.ext (by show j.val % 64 = i.val; omega))

/-! The pieces that the step loads. -/

abbrev InX (o : ℕ) : Prop := ∀ a, (![0, o] : Fin 2 → Nat) a + S256x128.size a ≤ S256x1536.size a
abbrev InD (o : ℕ) : Prop := ∀ a, (![0, o] : Fin 2 → Nat) a + S256x128.size a ≤ S256x1024.size a
abbrev InK (o : ℕ) : Prop := ∀ a, (![o, 0, 0] : Fin 3 → Nat) a + S1x256x64.size a ≤ S4x256x64.size a

abbrev ldX (t : Fin cfg0.N) (o : ℕ) (i : InX o) : Vec Ideal S256x128 .f32 :=
  View.ld (iblk m c 0 t) (Rect.unit ![0, o] ![256, 128] i)

abbrev ldD (t : Fin cfg0.N) (o : ℕ) (i : InD o) : Vec Ideal S256x128 .f32 :=
  View.ld (iblk m c 1 t) (Rect.unit ![0, o] ![256, 128] i)

abbrev ldK (t : Fin cfg0.N) (o : ℕ) (i : InK o) : Vec Ideal S1x256x64 .f32 :=
  View.ld (iblk m c 2 t) (Rect.unit ![o, 0, 0] ![1, 256, 64] i)

theorem ldX_at (t : Fin cfg0.N) {o : ℕ} (i : InX o) (b : Fin 10) (ho : o = b.val * 128) (r : Fin 256) (k : Fin 128) :
    ldX m c t o i (ix2 r k) = xH m c (row t r) (hd b k) (low k) := by
  subst ho
  unfold xH ldX
  refine Eq.trans ?_ (rd0 m c t r ⟨b.val * 128 + k.val, by omega⟩) |>.trans (congrArg (fun q => a0 m c (ix2 (row t r) q)) (Fin.ext (by show b.val * 128 + k.val = (b.val * 2 + k.val / 64) * 64 + k.val % 64; omega)))
  pointwise

theorem ldD_at (t : Fin cfg0.N) {o : ℕ} (i : InD o) (b : Fin 10) (hb : b.val < 8) (ho : o = b.val * 128) (r : Fin 256) (k : Fin 128) :
    @HMul.hMul EReal EReal EReal _ (ldD m c t o i (ix2 r k)) (Ideal.ofBits .f32 0x3E000000#32) = dH m c (row t r) (hd b k) (low k) := by
  subst ho
  unfold dH ldD
  rw [dif_pos (show b.val * 2 + k.val / 64 < 16 by omega)]
  refine congrArg (fun z : EReal => z * Ideal.ofBits .f32 0x3E000000#32) ?_
  refine Eq.trans ?_ (rd1 m c t r ⟨b.val * 128 + k.val, by omega⟩) |>.trans (congrArg (fun q => a1 m c (ix2 (row t r) q)) (Fin.ext (by show b.val * 128 + k.val = (b.val * 2 + k.val / 64) * 64 + k.val % 64; omega)))
  pointwise

theorem ldK_at (t : Fin cfg0.N) {o : ℕ} (i : InK o) (h : Fin 4) (ho : o = h.val) (r : Fin 256) (k : Fin 64) :
    ldK m c t o i (ix3 0 r k) = a2 m c (ix3 h (row t r) k) := by
  subst ho
  unfold ldK
  refine Eq.trans ?_ (rd2 m c t h r k)
  pointwise

theorem cat_dH (t : Fin cfg0.N) {o1 o2 : ℕ} (i1 : InK o1) (i2 : InK o2) (b : Fin 10) (hb : 8 ≤ b.val) (h1 : o1 = (b.val - 8) * 2) (h2 : o2 = (b.val - 8) * 2 + 1) (r : Fin 256) (k : Fin 128) :
    k0_pay89 (ldK m c t o1 i1) (ldK m c t o2 i2) (ix2 r k) = dH m c (row t r) (hd b k) (low k) := by
  rw [cat_at]
  unfold dH
  rw [dif_neg (show ¬b.val * 2 + k.val / 64 < 16 by omega)]
  split
  · rename_i h
    refine (ldK_at m c t i1 ⟨(b.val - 8) * 2, by omega⟩ h1 r _).trans (congrArg₂ (fun p q => a2 m c (ix3 p (row t r) q)) (Fin.ext ?_) (Fin.ext ?_))
    · show (b.val - 8) * 2 = b.val * 2 + k.val / 64 - 16; omega
    · show k.val = k.val % 64; omega
  · rename_i h
    refine (ldK_at m c t i2 ⟨(b.val - 8) * 2 + 1, by omega⟩ h2 r _).trans (congrArg₂ (fun p q => a2 m c (ix3 p (row t r) q)) (Fin.ext ?_) (Fin.ext ?_))
    · show (b.val - 8) * 2 + 1 = b.val * 2 + k.val / 64 - 16; omega
    · show k.val - 64 = k.val % 64; omega

/-! The resident windows, as the step holds them. -/

abbrev vC (t : Fin cfg0.N) : FVec Ideal S256x128 .f32 := k0_pay2 (iblk m c 4 t)
abbrev vS (t : Fin cfg0.N) : FVec Ideal S256x128 .f32 := k0_pay3 (iblk m c 5 t)
abbrev vM (t : Fin cfg0.N) : FVec Ideal S128x128 .bf16 := k0_pay4 (iblk m c 8 t)

theorem vC_at (t : Fin cfg0.N) (r : Fin 256) (k : Fin 128) : vC m c t (ix2 r k) = cH m c (row t r) (low k) := by
  unfold vC
  refine Eq.trans ?_ (rd4 m c t r k)
  unfold_payloads
  pointwise

theorem vS_at (t : Fin cfg0.N) (r : Fin 256) (k : Fin 128) : vS m c t (ix2 r k) = sH m c (row t r) (low k) := by
  unfold vS
  refine Eq.trans ?_ (rd5 m c t r k)
  unfold_payloads
  pointwise

theorem vM_at (t : Fin cfg0.N) (j k : Fin 128) : vM m c t (ix2 j k) = MM j k := by
  unfold vM
  refine Eq.trans ?_ (rd8 m c t j k)
  unfold_payloads
  pointwise

/-- A block of q. -/
def qO (t : Fin cfg0.N) (o : ℕ) (i : InX o) (i' : InD o) : FVec Ideal S256x128 .bf16 :=
  k0_pay21 (k0_pay16 (vM m c t) (ldX m c t o i)) (k0_pay20 (vC m c t) (vS m c t) (vM m c t) (ldX m c t o i) (iblk m c 6 t) (k0_pay16 (vM m c t) (ldX m c t o i)) (ldD m c t o i'))

theorem qO_at (H : Fin6 m c) (t : Fin cfg0.N) {o : ℕ} (i : InX o) (i' : InD o) (b : Fin 10) (hb : b.val < 8) (ho : o = b.val * 128) (r : Fin 256) (k : Fin 128) :
    qO m c t o i i' (ix2 r k) = oH m c (row t r) (hd b k) (low k) := by
  refine (q_out _ _ _ _ _ _ (vM_at m c t) r k).trans ?_
  refine block_out m c H (row t r) b (fun k => ldX_at m c t i b ho r k) (fun k => ldD_at m c t i' b hb ho r k) (vC_at m c t r) (vS_at m c t r) (fun k => ?_) k
  refine (rd6 m c t k).trans ?_
  unfold gH
  rw [if_pos (show b.val * 2 + k.val / 64 < 16 by omega)]

/-- A block of k. -/
def kO (t : Fin cfg0.N) (o o1 o2 : ℕ) (i : InX o) (i1 : InK o1) (i2 : InK o2) : FVec Ideal S256x128 .bf16 :=
  k0_pay97 (vM m c t) (iblk m c 7 t) (k0_pay87 (vM m c t) (ldX m c t o i)) (k0_pay88 (vM m c t) (ldX m c t o i)) (k0_pay90 (vC m c t) (ldK m c t o1 i1) (ldK m c t o2 i2))
    (k0_pay91 (vS m c t) (ldK m c t o1 i1) (ldK m c t o2 i2)) 2#32 k0_pay92 k0_pay93 k0_pay94

theorem kO_at (H : Fin6 m c) (t : Fin cfg0.N) {o o1 o2 : ℕ} (i : InX o) (i1 : InK o1) (i2 : InK o2) (b : Fin 10) (hb : 8 ≤ b.val) (ho : o = b.val * 128) (h1 : o1 = (b.val - 8) * 2) (h2 : o2 = (b.val - 8) * 2 + 1)
    (r : Fin 256) (k : Fin 128) : kO m c t o o1 o2 i i1 i2 (ix2 r k) = oH m c (row t r) (hd b k) (low k) := by
  refine (k_out _ _ _ _ _ _ _ (vM_at m c t) r k).trans ?_
  refine block_out m c H (row t r) b (fun k => ldX_at m c t i b ho r k) (fun k => cat_dH m c t i1 i2 b hb h1 h2 r k) (vC_at m c t r) (vS_at m c t r) (fun k => ?_) k
  refine (rd7 m c t k).trans ?_
  unfold gH
  rw [if_neg (show ¬b.val * 2 + k.val / 64 < 16 by omega)]

/-- A block's part of the gradient of q's scale. -/
theorem qP_at (H : Fin6 m c) (t : Fin cfg0.N) {o : ℕ} (V : FVec Ideal S1x128 .f32) (i : InX o) (i' : InD o) (b : Fin 10) (hb : b.val < 8) (ho : o = b.val * 128) (k : Fin 128) :
    k0_pay19 (vC m c t) (vS m c t) V (ldX m c t o i) (k0_pay16 (vM m c t) (ldX m c t o i)) (ldD m c t o i') (ix2 0 k)
      = @HAdd.hAdd EReal EReal EReal _ (V (ix2 0 k)) (∑ r : Fin 256, pH m c (row t r) (hd b k) (low k)) := by
  refine (q_part _ _ _ _ _ _ (vM_at m c t) k).trans (congrArg (fun z : EReal => @HAdd.hAdd EReal EReal EReal _ (V (ix2 0 k)) z) (Finset.sum_congr rfl fun r _ => ?_))
  exact block_part m c H (row t r) b (fun k => ldX_at m c t i b ho r k) (fun k => ldD_at m c t i' b hb ho r k) (vC_at m c t r) (vS_at m c t r) k

/-- A block's part of the gradient of k's scale. -/
theorem kP_at (H : Fin6 m c) (t : Fin cfg0.N) {o o1 o2 : ℕ} (V : FVec Ideal S1x128 .f32) (i : InX o) (i1 : InK o1) (i2 : InK o2) (b : Fin 10) (hb : 8 ≤ b.val) (ho : o = b.val * 128) (h1 : o1 = (b.val - 8) * 2) (h2 : o2 = (b.val - 8) * 2 + 1) (k : Fin 128) :
    k0_pay96 V (k0_pay88 (vM m c t) (ldX m c t o i)) (k0_pay90 (vC m c t) (ldK m c t o1 i1) (ldK m c t o2 i2)) (k0_pay91 (vS m c t) (ldK m c t o1 i1) (ldK m c t o2 i2)) 2#32 k0_pay92 k0_pay93 k0_pay94 (ix2 0 k)
      = @HAdd.hAdd EReal EReal EReal _ (V (ix2 0 k)) (∑ r : Fin 256, pH m c (row t r) (hd b k) (low k)) := by
  refine (k_part _ _ _ _ _ _ _ (vM_at m c t) k).trans (congrArg (fun z : EReal => @HAdd.hAdd EReal EReal EReal _ (V (ix2 0 k)) z) (Finset.sum_congr rfl fun r _ => ?_))
  exact block_part m c H (row t r) b (fun k => ldX_at m c t i b ho r k) (fun k => cat_dH m c t i1 i2 b hb h1 h2 r k) (vC_at m c t r) (vS_at m c t r) k

end Cert.Proof.QkBwd

end
-- ==== Proof.QkBwd.lean ====
module

public import proofs.«01_k».proof.Defs
public import proofs.«01_k».proof.Proof.Gen.QkBwdIdeal
public import proofs.«01_k».proof.Proof.Gen.QkBwdIdeal.Value
public import proofs.«01_k».proof.Proof.Gen.QkBwdRefIdeal.Read
public import proofs.«01_k».proof.Proof.Gen.QkBwdRefIdeal.Run
public import proofs.«01_k».proof.Proof.Gen.Pre_qk_bwd_finite
public import Idealize.ShloMosaic.Lib.Pointwise
public import Idealize.ShloMosaic.Lib.Pipeline.ValueKit
public import Idealize.ShloMosaic.Lib.Pipeline.ReadBack
public import proofs.«01_k».proof.Proof.Reals
public import proofs.«01_k».proof.Proof.Rms
public import proofs.«01_k».proof.Proof.Heads
public import proofs.«01_k».proof.Proof.QkBlocks

@[expose] public section

set_option maxRecDepth 16384
set_option maxHeartbeats 1000000

noncomputable section

namespace Cert.Proof.QkBwd

open Idealize.ShloMosaic Idealize.ShloMosaic.TcCoe Idealize.SL.Sem
open Cert.QkBwdIdeal Cert.QkBwdIdeal.Gen Cert.Proof.Heads
open Idealize.ShloMosaic.Pipeline (Dat)

variable (m : (ℓ : Loc nD τ sig) → Buf (Elt Ideal) ℓ) (c : Dev nD)

/-! ### What a step leaves -/

/-- A block of columns among the pieces of the first result. -/
theorem cons_col {o w : ℕ} (inb) (v : (Rect.unit (s := S256x1536) ![0, o] ![256, w] inb).shape.Idx → EReal) {L : List (View.Piece (Elt Ideal) S256x1536 .bf16)}
    {r : Fin 256} {j : Fin 1536} {z : EReal} (hv : ∀ y : Fin w, j.val = o + y.val → v (ix2 r y) = z) (rest : View.AllAt L (ix2 r j) z) :
    View.AllAt ((⟨Rect.unit ![0, o] ![256, w] inb, v⟩ : View.Piece (Elt Ideal) S256x1536 .bf16) :: L) (ix2 r j) z := by
  refine View.allAt_cons _ _ _ (fun x hx => ?_) rest
  have e0 : 0 + 1 * (x 0).val = r.val := congrArg (fun i => (i 0).val) hx
  have e1 : o + 1 * (x 1).val = j.val := congrArg (fun i => (i 1).val) hx
  have e : x = ix2 (n0 := 256) (n1 := w) r (x 1) := by
    funext a
    match a with
    | ⟨0, _⟩ => exact Fin.ext (by show (x 0).val = r.val; omega)
    | ⟨1, _⟩ => rfl
  rw [e]
  exact hv (x 1) (by omega)

/-- The column is in this block or before it. -/
theorem cover_col {o w : ℕ} (inb) (v : (Rect.unit (s := S256x1536) ![0, o] ![256, w] inb).shape.Idx → EReal) {L : List (View.Piece (Elt Ideal) S256x1536 .bf16)}
    {r : Fin 256} {j : Fin 1536} (rest : j.val < o → ∃ p ∈ L, ix2 r j ∈ p.1.set) (hj : j.val < o + w) :
    ∃ p ∈ ((⟨Rect.unit ![0, o] ![256, w] inb, v⟩ : View.Piece (Elt Ideal) S256x1536 .bf16) :: L), ix2 r j ∈ p.1.set := by
  rcases Nat.lt_or_ge j.val o with h | h
  · obtain ⟨p, hp, hm⟩ := rest h
    exact ⟨p, .tail _ hp, hm⟩
  · refine ⟨_, .head _, (Rect.mem_set_unit (inb := inb)).2 fun a => ?_⟩
    match a with
    | ⟨0, _⟩ => show 0 ≤ r.val ∧ r.val < 0 + 256; omega
    | ⟨1, _⟩ => show o ≤ j.val ∧ j.val < o + w; omega

abbrev ldV (t : Fin cfg0.N) (o : ℕ) (i : InK o) : Vec Ideal S1x256x64 .f32 :=
  View.ld (iblk m c 3 t) (Rect.unit ![o, 0, 0] ![1, 256, 64] i)

theorem v_at (t : Fin cfg0.N) {o : ℕ} (i : InK o) (h : Fin 4) (ho : o = h.val) (r : Fin 256) (k : Fin 64) :
    k0_pay101 (ldV m c t o i) (ix2 r k) = a3 m c (ix3 h (row t r) k) := by
  subst ho
  unfold ldV
  refine Eq.trans ?_ (rd3 m c t h r k)
  unfold_payloads
  pointwise

/-- A block of the first result, at its columns. -/
theorem q_col (H : Fin6 m c) (t : Fin cfg0.N) {o : ℕ} (i : InX o) (i' : InD o) (b : Fin 10) (hb : b.val < 8) (ho : o = b.val * 128) (r : Fin 256) (j : Fin 1536)
    (k : Fin 128) (h : j.val = o + k.val) : qO m c t o i i' (ix2 r k) = oAt m c (row t r) j :=
  (qO_at m c H t i i' b hb ho r k).trans (oAt_block m c _ b k (by omega)).symm

theorem k_col (H : Fin6 m c) (t : Fin cfg0.N) {o o1 o2 : ℕ} (i : InX o) (i1 : InK o1) (i2 : InK o2) (b : Fin 10) (hb : 8 ≤ b.val) (ho : o = b.val * 128)
    (h1 : o1 = (b.val - 8) * 2) (h2 : o2 = (b.val - 8) * 2 + 1) (r : Fin 256) (j : Fin 1536) (k : Fin 128) (h : j.val = o + k.val) :
    kO m c t o o1 o2 i i1 i2 (ix2 r k) = oAt m c (row t r) j :=
  (kO_at m c H t i i1 i2 b hb ho h1 h2 r k).trans (oAt_block m c _ b k (by omega)).symm

theorem v_col (t : Fin cfg0.N) {o o' : ℕ} (i : InK o) (h : Fin 4) (ho : o = h.val) (ho' : o' = 1280 + h.val * 64) (r : Fin 256) (j : Fin 1536) (k : Fin 64) (hj : j.val = o' + k.val) :
    k0_pay101 (ldV m c t o i) (ix2 r k) = oAt m c (row t r) j :=
  (v_at m c t i h ho r k).trans (oAt_v m c _ h k (by omega)).symm

/-- All pieces of the first result: v's four heads, two blocks of k, eight of q. -/
abbrev allPieces (t : Fin cfg0.N) : List (View.Piece (Elt Ideal) S256x1536 .bf16) :=
  [⟨Rect.unit ![0, 1472] ![256, 64] inb_S256x1536_S256x64_0_1472, k0_pay101 (ldV m c t 3 inb_S4x256x64_S1x256x64_3_0_0)⟩,
   ⟨Rect.unit ![0, 1408] ![256, 64] inb_S256x1536_S256x64_0_1408, k0_pay101 (ldV m c t 2 inb_S4x256x64_S1x256x64_2_0_0)⟩,
   ⟨Rect.unit ![0, 1344] ![256, 64] inb_S256x1536_S256x64_0_1344, k0_pay101 (ldV m c t 1 inb_S4x256x64_S1x256x64_1_0_0)⟩,
   ⟨Rect.unit ![0, 1280] ![256, 64] inb_S256x1536_S256x64_0_1280, k0_pay101 (ldV m c t 0 inb_S4x256x64_S1x256x64_0_0_0)⟩,
   ⟨Rect.unit ![0, 1152] ![256, 128] inb_S256x1536_S256x128_0_1152, kO m c t 1152 2 3 inb_S256x1536_S256x128_0_1152 inb_S4x256x64_S1x256x64_2_0_0 inb_S4x256x64_S1x256x64_3_0_0⟩,
   ⟨Rect.unit ![0, 1024] ![256, 128] inb_S256x1536_S256x128_0_1024, kO m c t 1024 0 1 inb_S256x1536_S256x128_0_1024 inb_S4x256x64_S1x256x64_0_0_0 inb_S4x256x64_S1x256x64_1_0_0⟩,
   ⟨Rect.unit ![0, 896] ![256, 128] inb_S256x1536_S256x128_0_896, qO m c t 896 inb_S256x1536_S256x128_0_896 inb_S256x1024_S256x128_0_896⟩,
   ⟨Rect.unit ![0, 768] ![256, 128] inb_S256x1536_S256x128_0_768, qO m c t 768 inb_S256x1536_S256x128_0_768 inb_S256x1024_S256x128_0_768⟩,
   ⟨Rect.unit ![0, 640] ![256, 128] inb_S256x1536_S256x128_0_640, qO m c t 640 inb_S256x1536_S256x128_0_640 inb_S256x1024_S256x128_0_640⟩,
   ⟨Rect.unit ![0, 512] ![256, 128] inb_S256x1536_S256x128_0_512, qO m c t 512 inb_S256x1536_S256x128_0_512 inb_S256x1024_S256x128_0_512⟩,
   ⟨Rect.unit ![0, 384] ![256, 128] inb_S256x1536_S256x128_0_384, qO m c t 384 inb_S256x1536_S256x128_0_384 inb_S256x1024_S256x128_0_384⟩,
   ⟨Rect.unit ![0, 256] ![256, 128] inb_S256x1536_S256x128_0_256, qO m c t 256 inb_S256x1536_S256x128_0_256 inb_S256x1024_S256x128_0_256⟩,
   ⟨Rect.unit ![0, 128] ![256, 128] inb_S256x1536_S256x128_0_128, qO m c t 128 inb_S256x1536_S256x128_0_128 inb_S256x1024_S256x128_0_128⟩,
   ⟨Rect.unit ![0, 0] ![256, 128] inb_S256x1536_S256x128_0_0, qO m c t 0 inb_S256x1536_S256x128_0_0 inb_S256x1024_S256x128_0_0⟩]

theorem pieces (H : Fin6 m c) (t : Fin cfg0.N) (r : Fin 256) (j : Fin 1536) :
    (View.canon (allPieces m c t) : Vec Ideal S256x1536 .bf16) (ix2 r j) = oAt m c (row t r) j := by
  refine View.canon_eq_of_allAt _ _ _ ?_ ?_
  · unfold allPieces
    exact cover_col _ _ (fun h => cover_col _ _ (fun h => cover_col _ _ (fun h => cover_col _ _ (fun h => cover_col _ _ (fun h => cover_col _ _ (fun h => cover_col _ _ (fun h => cover_col _ _ (fun h => cover_col _ _ (fun h => cover_col _ _ (fun h => cover_col _ _ (fun h => cover_col _ _ (fun h => cover_col _ _ (fun h => cover_col _ _ (fun h => absurd h (Nat.not_lt_zero _)) h) h) h) h) h) h) h) h) h) h) h) h) h) j.isLt
  unfold allPieces
  refine cons_col _ _ (v_col m c t _ 3 rfl rfl r j) (cons_col _ _ (v_col m c t _ 2 rfl rfl r j) (cons_col _ _ (v_col m c t _ 1 rfl rfl r j) (cons_col _ _ (v_col m c t _ 0 rfl rfl r j)
    (cons_col _ _ (k_col m c H t _ _ _ 9 (by decide) rfl rfl rfl r j) (cons_col _ _ (k_col m c H t _ _ _ 8 (by decide) rfl rfl rfl r j) ?_)))))
  exact cons_col _ _ (q_col m c H t _ _ 7 (by decide) rfl r j) (cons_col _ _ (q_col m c H t _ _ 6 (by decide) rfl r j) (cons_col _ _ (q_col m c H t _ _ 5 (by decide) rfl r j)
    (cons_col _ _ (q_col m c H t _ _ 4 (by decide) rfl r j) (cons_col _ _ (q_col m c H t _ _ 3 (by decide) rfl r j) (cons_col _ _ (q_col m c H t _ _ 2 (by decide) rfl r j)
    (cons_col _ _ (q_col m c H t _ _ 1 (by decide) rfl r j) (cons_col _ _ (q_col m c H t _ _ 0 (by decide) rfl r j) (View.allAt_nil _ _))))))))

/-! The scales' gradients. -/

/-- One more block of q. -/
abbrev qS (t : Fin cfg0.N) (o : ℕ) (i : InX o) (i' : InD o) (V : FVec Ideal S1x128 .f32) : FVec Ideal S1x128 .f32 :=
  k0_pay19 (vC m c t) (vS m c t) V (ldX m c t o i) (k0_pay16 (vM m c t) (ldX m c t o i)) (ldD m c t o i')

/-- One more block of k. -/
abbrev kS (t : Fin cfg0.N) (o o1 o2 : ℕ) (i : InX o) (i1 : InK o1) (i2 : InK o2) (V : FVec Ideal S1x128 .f32) : FVec Ideal S1x128 .f32 :=
  k0_pay96 V (k0_pay88 (vM m c t) (ldX m c t o i)) (k0_pay90 (vC m c t) (ldK m c t o1 i1) (ldK m c t o2 i2)) (k0_pay91 (vS m c t) (ldK m c t o1 i1) (ldK m c t o2 i2)) 2#32 k0_pay92 k0_pay93 k0_pay94

/-- The first block of q. -/
abbrev q0 (t : Fin cfg0.N) : FVec Ideal S1x128 .f32 :=
  k0_pay14 (k0_pay6 (iblk m c 8 t) (ldX m c t 0 inb_S256x1536_S256x128_0_0)) (k0_pay8 (iblk m c 4 t) (ldD m c t 0 inb_S256x1024_S256x128_0_0))
    (k0_pay9 (iblk m c 5 t) (ldD m c t 0 inb_S256x1024_S256x128_0_0)) 2#32 k0_pay10 k0_pay11 k0_pay12 0#1

/-- The first block of k. -/
abbrev k0 (t : Fin cfg0.N) : FVec Ideal S1x128 .f32 :=
  k0_pay81 (vC m c t) (vS m c t) (ldX m c t 1024 inb_S256x1536_S256x128_0_1024) (k0_pay76 (vM m c t) (ldX m c t 1024 inb_S256x1536_S256x128_0_1024)) k0_pay77
    (ldK m c t 0 inb_S4x256x64_S1x256x64_0_0_0) (ldK m c t 1 inb_S4x256x64_S1x256x64_1_0_0)

/-- A block's sum over the tile. -/
def bS (t : Fin cfg0.N) (h : Fin 20) (k : Fin 128) : EReal := ∑ r : Fin 256, pH m c (row t r) h (low k)

theorem q0_at (H : Fin6 m c) (t : Fin cfg0.N) (k : Fin 128) : q0 m c t (ix2 0 k) = bS m c t (hd 0 k) k := by
  have e := qP_at m c H t (fun _ => (0 : EReal)) inb_S256x1536_S256x128_0_0 inb_S256x1024_S256x128_0_0 0 (by decide) rfl k
  refine (zero_add (M := EReal) _).symm.trans (Eq.trans ?_ (e.trans (zero_add (M := EReal) _)))
  rfl

theorem k0_at (H : Fin6 m c) (t : Fin cfg0.N) (k : Fin 128) : k0 m c t (ix2 0 k) = bS m c t (hd 8 k) k := by
  have e := kP_at m c H t (fun _ => (0 : EReal)) inb_S256x1536_S256x128_0_1024 inb_S4x256x64_S1x256x64_0_0_0 inb_S4x256x64_S1x256x64_1_0_0 8 (by decide) rfl rfl rfl k
  refine (zero_add (M := EReal) _).symm.trans (Eq.trans ?_ (e.trans (zero_add (M := EReal) _)))
  rfl

/-- All blocks of q. -/
abbrev qAll (t : Fin cfg0.N) : FVec Ideal S1x128 .f32 :=
  qS m c t 896 inb_S256x1536_S256x128_0_896 inb_S256x1024_S256x128_0_896 (qS m c t 768 inb_S256x1536_S256x128_0_768 inb_S256x1024_S256x128_0_768
    (qS m c t 640 inb_S256x1536_S256x128_0_640 inb_S256x1024_S256x128_0_640 (qS m c t 512 inb_S256x1536_S256x128_0_512 inb_S256x1024_S256x128_0_512
    (qS m c t 384 inb_S256x1536_S256x128_0_384 inb_S256x1024_S256x128_0_384 (qS m c t 256 inb_S256x1536_S256x128_0_256 inb_S256x1024_S256x128_0_256
    (qS m c t 128 inb_S256x1536_S256x128_0_128 inb_S256x1024_S256x128_0_128 (q0 m c t)))))))

/-- Both blocks of k. -/
abbrev kAll (t : Fin cfg0.N) : FVec Ideal S1x128 .f32 :=
  kS m c t 1152 2 3 inb_S256x1536_S256x128_0_1152 inb_S4x256x64_S1x256x64_2_0_0 inb_S4x256x64_S1x256x64_3_0_0 (k0 m c t)

theorem qS_at (H : Fin6 m c) (t : Fin cfg0.N) {o : ℕ} {V : FVec Ideal S1x128 .f32} {i : InX o} {i' : InD o} {k : Fin 128} {v : EReal} (b : Fin 10) (hb : b.val < 8) (ho : o = b.val * 128)
    (hV : V (ix2 0 k) = v) : qS m c t o i i' V (ix2 0 k) = v + bS m c t (hd b k) k := by
  subst hV
  exact qP_at m c H t V i i' b hb ho k

theorem qAll_at (H : Fin6 m c) (t : Fin cfg0.N) (k : Fin 128) : qAll m c t (ix2 0 k) = ∑ b : Fin 8, bS m c t ⟨b.val * 2 + k.val / 64, by omega⟩ k := by
  refine (qS_at m c H t 7 (by decide) rfl (qS_at m c H t 6 (by decide) rfl (qS_at m c H t 5 (by decide) rfl (qS_at m c H t 4 (by decide) rfl (qS_at m c H t 3 (by decide) rfl
    (qS_at m c H t 2 (by decide) rfl (qS_at m c H t 1 (by decide) rfl (q0_at m c H t k)))))))).trans ?_
  exact (Fin.sum_univ_eight fun b : Fin 8 => bS m c t ⟨b.val * 2 + k.val / 64, by omega⟩ k).symm

theorem kAll_at (H : Fin6 m c) (t : Fin cfg0.N) (k : Fin 128) : kAll m c t (ix2 0 k) = ∑ b : Fin 2, bS m c t ⟨16 + (b.val * 2 + k.val / 64), by omega⟩ k := by
  refine (kP_at m c H t (k0 m c t) _ _ _ 9 (by decide) rfl rfl rfl k).trans ?_
  refine Eq.trans (congrArg (fun z : EReal => z + _) (k0_at m c H t k)) ?_
  refine Eq.trans ?_ (Fin.sum_univ_two fun b : Fin 2 => bS m c t ⟨16 + (b.val * 2 + k.val / 64), by omega⟩ k).symm
  refine congrArg₂ (fun x y : EReal => x + y) ?_ ?_ <;> refine congrArg (fun h => bS m c t h k) (Fin.ext ?_)
  · show 8 * 2 + k.val / 64 = 16 + (0 * 2 + k.val / 64); omega
  · show 9 * 2 + k.val / 64 = 16 + (1 * 2 + k.val / 64); omega

/-- The lane half a turn away. -/
abbrev turn (k : Fin 128) : Fin 128 := ⟨(k.val + 128 - 64) % 128, Nat.mod_lt _ (by decide)⟩

theorem low_turn (k : Fin 128) : low (turn k) = low k := Fin.ext (by show (k.val + 128 - 64) % 128 % 64 = k.val % 64; omega)

theorem both_at (V : FVec Ideal S1x128 .f32) (k : Fin 128) : k0_pay102 V (ix2 0 k) = @HAdd.hAdd EReal EReal EReal _ (V (ix2 0 k)) (V (ix2 0 (turn k))) := by
  unfold_payloads
  pointwise

theorem both_q (H : Fin6 m c) (t : Fin cfg0.N) (k : Fin 128) : k0_pay102 (qAll m c t) (ix2 0 k) = ∑ h : Fin 16, bS m c t ⟨h.val, by omega⟩ k := by
  refine (both_at _ k).trans (Eq.trans ?_ (two_halves (B := 8) (N := 16) rfl (fun h => bS m c t ⟨h.val, by omega⟩ k) k))
  refine congrArg₂ (fun x y : EReal => x + y) (qAll_at m c H t k) ((qAll_at m c H t (turn k)).trans ?_)
  unfold bS
  rw [low_turn]

theorem both_k (H : Fin6 m c) (t : Fin cfg0.N) (k : Fin 128) : k0_pay104 (kAll m c t) (ix2 0 k) = ∑ h : Fin 4, bS m c t ⟨16 + h.val, by omega⟩ k := by
  refine (both_at _ k).trans (Eq.trans ?_ (two_halves (B := 2) (N := 4) rfl (fun h => bS m c t ⟨16 + h.val, by omega⟩ k) k))
  refine congrArg₂ (fun x y : EReal => x + y) (kAll_at m c H t k) ((kAll_at m c H t (turn k)).trans ?_)
  unfold bS
  rw [low_turn]

theorem add_q (t : Fin cfg0.N) (V : FVec Ideal S1x128 .f32) (k : Fin 128) :
    k0_pay103 (qAll m c t) V (ix2 0 k) = @HAdd.hAdd EReal EReal EReal _ (V (ix2 0 k)) (k0_pay102 (qAll m c t) (ix2 0 k)) := by
  generalize qAll m c t = Q
  unfold k0_pay103
  generalize k0_pay102 Q = B
  pointwise

theorem add_k (t : Fin cfg0.N) (V : FVec Ideal S1x128 .f32) (k : Fin 128) :
    k0_pay1 (k0_pay104 (kAll m c t)) V (ix2 0 k) = @HAdd.hAdd EReal EReal EReal _ (V (ix2 0 k)) (k0_pay104 (kAll m c t) (ix2 0 k)) := by
  generalize k0_pay104 (kAll m c t) = B
  unfold_payloads
  pointwise

theorem first (H : Fin6 m c) (t : Fin cfg0.N) (h0 : t.val % 33 = 0) (h1 : ¬1 ≤ t.val) :
    (∀ (r : Fin 256) (j : Fin 1536), (outsAt0 m c t.val t.isLt).1 (ix2 r j) = oAt m c (row t r) j)
    ∧ (∀ k : Fin 128, (outsAt0 m c t.val t.isLt).2.1 (ix2 0 k) = ∑ h : Fin 16, bS m c t ⟨h.val, by omega⟩ k)
    ∧ ∀ k : Fin 128, (outsAt0 m c t.val t.isLt).2.2 (ix2 0 k) = ∑ h : Fin 4, bS m c t ⟨16 + h.val, by omega⟩ k := by
  rw [outsAt0_A m c t h0 h1 h0 h1]
  dsimp only
  refine ⟨fun r j => ?_, fun k => ?_, fun k => ?_⟩
  · frame_out
    exact pieces m c H t r j
  · frame_out
    exact both_q m c H t k
  · frame_out
    exact both_k m c H t k

theorem later (H : Fin6 m c) (t : Fin cfg0.N) (h0 : ¬t.val % 33 = 0) (h1 : 1 ≤ t.val) :
    (∀ (r : Fin 256) (j : Fin 1536), (outsAt0 m c t.val t.isLt).1 (ix2 r j) = oAt m c (row t r) j)
    ∧ (∀ k : Fin 128, (outsAt0 m c t.val t.isLt).2.1 (ix2 0 k)
        = @HAdd.hAdd EReal EReal EReal _ ((outsAt0 m c (t.val - 1) (Nat.lt_of_le_of_lt (Nat.sub_le _ _) t.isLt)).2.1 (ix2 0 k)) (∑ h : Fin 16, bS m c t ⟨h.val, by omega⟩ k))
    ∧ ∀ k : Fin 128, (outsAt0 m c t.val t.isLt).2.2 (ix2 0 k)
        = @HAdd.hAdd EReal EReal EReal _ ((outsAt0 m c (t.val - 1) (Nat.lt_of_le_of_lt (Nat.sub_le _ _) t.isLt)).2.2 (ix2 0 k)) (∑ h : Fin 4, bS m c t ⟨16 + h.val, by omega⟩ k) := by
  rw [outsAt0_B m c t h0 h1 h0 h1]
  dsimp only
  refine ⟨fun r j => ?_, fun k => ?_, fun k => ?_⟩
  · frame_out
    exact pieces m c H t r j
  · frame_out
    exact (add_q m c t _ k).trans (congrArg (fun z : EReal => @HAdd.hAdd EReal EReal EReal _ _ z) (both_q m c H t k))
  · frame_out
    exact (add_k m c t _ k).trans (congrArg (fun z : EReal => @HAdd.hAdd EReal EReal EReal _ _ z) (both_k m c H t k))

/-! ### What the call leaves -/

theorem every (H : Fin6 m c) (t : Fin cfg0.N) (r : Fin 256) (j : Fin 1536) : (outsAt0 m c t.val t.isLt).1 (ix2 r j) = oAt m c (row t r) j := by
  have ht : t.val < 33 := t.isLt
  rcases Nat.eq_zero_or_pos t.val with h | h
  · exact (first m c H t (by omega) (by omega)).1 r j
  · exact (later m c H t (by omega) h).1 r j

theorem every_q (H : Fin6 m c) (k : Fin 128) (n : ℕ) (h : n < cfg0.N) :
    (outsAt0 m c n h).2.1 (ix2 0 k) = ∑ i : Fin (n + 1), ∑ h : Fin 16, bS m c ⟨i.val, by omega⟩ ⟨h.val, by omega⟩ k :=
  sum_steps (N := cfg0.N) (fun n h => (outsAt0 m c n h).2.1 (ix2 0 k)) (fun t => ∑ h : Fin 16, bS m c t ⟨h.val, by omega⟩ k)
    (fun h => (first m c H ⟨0, h⟩ rfl (by simp)).2.1 k)
    (fun n h => (later m c H ⟨n + 1, h⟩ (by have : n + 1 < 33 := h; show ¬(n + 1) % 33 = 0; omega) (by show 1 ≤ n + 1; omega)).2.1 k) n h

theorem every_k (H : Fin6 m c) (k : Fin 128) (n : ℕ) (h : n < cfg0.N) :
    (outsAt0 m c n h).2.2 (ix2 0 k) = ∑ i : Fin (n + 1), ∑ h : Fin 4, bS m c ⟨i.val, by omega⟩ ⟨16 + h.val, by omega⟩ k :=
  sum_steps (N := cfg0.N) (fun n h => (outsAt0 m c n h).2.2 (ix2 0 k)) (fun t => ∑ h : Fin 4, bS m c t ⟨16 + h.val, by omega⟩ k)
    (fun h => (first m c H ⟨0, h⟩ rfl (by simp)).2.2 k)
    (fun n h => (later m c H ⟨n + 1, h⟩ (by have : n + 1 < 33 := h; show ¬(n + 1) % 33 = 0; omega) (by show 1 ≤ n + 1; omega)).2.2 k) n h

/-- The last step writes the scales' gradients back. -/
theorem hands10 : ∀ t : Fin cfg0.N, (cfg0.win 10).flush t = true → t.val = 32 :=
  (by decide +kernel : ∀ t : Fin grid0.N, win0_10.flush t = true → t.val = 32)

theorem hands11 : ∀ t : Fin cfg0.N, (cfg0.win 11).flush t = true → t.val = 32 :=
  (by decide +kernel : ∀ t : Fin grid0.N, win0_11.flush t = true → t.val = 32)

theorem dyH_real {d cc s : Fin 64 → EReal} (hd : ∀ i, IsReal (d i)) (hc : ∀ i, IsReal (cc i)) (hs : ∀ i, IsReal (s i)) (i : Fin 64) : IsReal (dyH d cc s i) :=
  ((hd _).mul (hc _)).add ((hd _).mul (hs _))

/-! ### The reference -/

/-- The word of the number of lanes of a head. -/
theorem lanes_pos : ∃ r : ℝ, 0 < r ∧ Ideal.ofBits .f32 0x42800000#32 = (r : EReal) := ⟨64, by norm_num, word64⟩

theorem dy_even (d cc s : Fin 64 → EReal) {i : Fin 64} {j : Fin 64} (h : i.val % 2 = 0) (hj : j.val = i.val + 1) : dyH d cc s i = d i * cc i + d j * s j := by
  have e : Heads.flip i = j := by
    unfold Heads.flip
    rw [dif_pos h]
    exact Fin.ext hj.symm
  unfold dyH
  rw [e]

theorem dy_odd (d cc s : Fin 64 → EReal) {i : Fin 64} {j : Fin 64} (h : ¬i.val % 2 = 0) (hj : j.val + 1 = i.val) : dyH d cc s i = d i * cc i + d j * s j := by
  have e : Heads.flip i = j := by
    unfold Heads.flip
    rw [dif_neg h]
    exact Fin.ext (by show i.val - 1 = j.val; omega)
  unfold dyH
  rw [e]

theorem dH_q (n : Fin 8448) (h : Fin 16) (i : Fin 64) : a1 m c (ix2 n ⟨h.val * 64 + i.val, by omega⟩) * Ideal.ofBits .f32 0x3E000000#32 = dH m c n ⟨h.val, by omega⟩ i := by
  unfold dH
  refine Eq.trans ?_ (dif_pos (show h.val < 16 from h.isLt)).symm
  rfl

theorem dH_k (n : Fin 8448) (h : Fin 4) (i : Fin 64) : a2 m c (ix3 h n i) = dH m c n ⟨16 + h.val, by omega⟩ i := by
  unfold dH
  refine Eq.trans ?_ (dif_neg (show ¬16 + h.val < 16 by omega)).symm
  exact congrArg (fun p => a2 m c (ix3 p n i)) (Fin.ext (by show h.val = 16 + h.val - 16; omega))

theorem sH_even (n : Fin 8448) {i : Fin 64} {p : Fin 32} (h : i.val % 2 = 0) (hp : p.val = i.val / 2) : -a5 m c (ix2 n p) = sH m c n i := by
  unfold sH
  refine Eq.trans (congrArg (fun q => -a5 m c (ix2 n q)) (show p = ⟨i.val / 2, by omega⟩ from Fin.ext hp)) ?_
  exact (if_pos (show i.val % 2 < 1 by omega)).symm

theorem sH_odd (n : Fin 8448) {i : Fin 64} {p : Fin 32} (h : ¬i.val % 2 = 0) (hp : p.val = i.val / 2) : a5 m c (ix2 n p) = sH m c n i := by
  unfold sH
  refine Eq.trans (congrArg (fun q => a5 m c (ix2 n q)) (show p = ⟨i.val / 2, by omega⟩ from Fin.ext hp)) ?_
  exact (if_neg (show ¬i.val % 2 < 1 by omega)).symm

/-- The two lanes of a pair, as the reference adds them up, are the cotangent before the rotation. -/
theorem pair_even {d cc s : Fin 64 → EReal} {i j : Fin 64} (h : i.val % 2 = 0) (hj : j.val = i.val + 1) {A B C S : EReal} (hA : A = d i) (hB : B = d j) (hC : C = cc i) (hS : S = s j) :
    (0 : EReal) + (B * S + A * C) = dyH d cc s i := by
  rw [dy_even d cc s h hj, zero_add, add_comm, hA, hB, hC, hS]

theorem pair_odd {d cc s : Fin 64 → EReal} {i j : Fin 64} (h : ¬i.val % 2 = 0) (hj : j.val + 1 = i.val) {A B C S : EReal} (hA : A = d j) (hB : B = d i) (hC : C = cc i) (hS : -S = s j) :
    (B * C + -A * S) + (0 : EReal) = dyH d cc s i := by
  rw [dy_odd d cc s h hj, add_zero, ← hA, ← hB, ← hC, ← hS, neg_mul, mul_neg]

/-- The reference's cotangent before the rotation, for q. -/
theorem ref_q (n : Fin 8448) (h : Fin 16) (i : Fin 64) :
    QkBwdRefIdeal.Read.val_main_v161 (F := Ideal) (a1 m c) (a4 m c) (a5 m c) (ix3 n h i) = dyH (dH m c n ⟨h.val, by omega⟩) (cH m c n) (sH m c n) i := by
  pointwise [QkBwdRefIdeal.Read.val_main_v24, QkBwdRefIdeal.Read.val_main_v25, QkBwdRefIdeal.Read.val_main_cst_8, QkBwdRefIdeal.Read.val_main_v89, QkBwdRefIdeal.Read.val_main_v90, QkBwdRefIdeal.Read.val_main_v91, QkBwdRefIdeal.Read.val_main_v140, QkBwdRefIdeal.Read.val_main_v141, QkBwdRefIdeal.Read.val_main_v142, QkBwdRefIdeal.Read.val_main_v143, QkBwdRefIdeal.Read.val_main_v144, QkBwdRefIdeal.Read.val_main_v145, QkBwdRefIdeal.Read.val_main_v146, QkBwdRefIdeal.Read.val_main_v147, QkBwdRefIdeal.Read.val_main_v148, QkBwdRefIdeal.Read.val_main_v149, QkBwdRefIdeal.Read.val_main_v150, QkBwdRefIdeal.Read.val_main_v151, QkBwdRefIdeal.Read.val_main_v152, QkBwdRefIdeal.Read.val_main_v153, QkBwdRefIdeal.Read.val_main_v154, QkBwdRefIdeal.Read.val_main_v155, QkBwdRefIdeal.Read.val_main_v156, QkBwdRefIdeal.Read.val_main_cst_18, QkBwdRefIdeal.Read.val_main_v157, QkBwdRefIdeal.Read.val_main_v158, QkBwdRefIdeal.Read.val_main_cst_19, QkBwdRefIdeal.Read.val_main_v159, QkBwdRefIdeal.Read.val_main_v160, QkBwdRefIdeal.Read.val_main_v161]
  have hl := h.isLt
  by_cases hi : i.val % 2 = 0
  · have c1 : ¬(i.val / 2 < 32 ∧ 1 ≤ i.val % 2 ∧ i.val % 2 - 1 < 1) := by omega
    have c2 : i.val / 2 < 32 ∧ i.val % 2 < 1 := by omega
    refine Eq.trans (congrArg₂ (fun x y : EReal => x + y) (dif_neg c1) (dif_pos c2)) ?_
    refine pair_even hi (j := ⟨i.val + 1, by omega⟩) rfl (Eq.trans ?_ (dH_q m c n h _)) (Eq.trans ?_ (dH_q m c n h _)) rfl
      (sH_odd m c n (by show ¬(i.val + 1) % 2 = 0; omega) (by show i.val / 2 = (i.val + 1) / 2; omega))
    · exact congrArg (fun q => a1 m c (ix2 n q) * Ideal.ofBits .f32 0x3E000000#32) (Fin.ext (by show h.val * 64 + i.val / 2 * 2 = h.val * 64 + i.val; omega))
    · exact congrArg (fun q => a1 m c (ix2 n q) * Ideal.ofBits .f32 0x3E000000#32) (Fin.ext (by show h.val * 64 + i.val / 2 * 2 + 1 = h.val * 64 + (i.val + 1); omega))
  · have c1 : i.val / 2 < 32 ∧ 1 ≤ i.val % 2 ∧ i.val % 2 - 1 < 1 := by omega
    have c2 : ¬(i.val / 2 < 32 ∧ i.val % 2 < 1) := by omega
    refine Eq.trans (congrArg₂ (fun x y : EReal => x + y) (dif_pos c1) (dif_neg c2)) ?_
    refine pair_odd hi (j := ⟨i.val - 1, by omega⟩) (by show i.val - 1 + 1 = i.val; omega) (Eq.trans ?_ (dH_q m c n h _)) (Eq.trans ?_ (dH_q m c n h _)) rfl
      (sH_even m c n (by show (i.val - 1) % 2 = 0; omega) (by show i.val / 2 = (i.val - 1) / 2; omega))
    · exact congrArg (fun q => a1 m c (ix2 n q) * Ideal.ofBits .f32 0x3E000000#32) (Fin.ext (by show h.val * 64 + i.val / 2 * 2 = h.val * 64 + (i.val - 1); omega))
    · exact congrArg (fun q => a1 m c (ix2 n q) * Ideal.ofBits .f32 0x3E000000#32) (Fin.ext (by show h.val * 64 + i.val / 2 * 2 + 1 = h.val * 64 + i.val; omega))

/-- And for k. -/
theorem ref_k (n : Fin 8448) (h : Fin 4) (i : Fin 64) :
    QkBwdRefIdeal.Read.val_main_v115 (F := Ideal) (a2 m c) (a4 m c) (a5 m c) (ix3 n h i) = dyH (dH m c n ⟨16 + h.val, by omega⟩) (cH m c n) (sH m c n) i := by
  pointwise [QkBwdRefIdeal.Read.val_main_v64, QkBwdRefIdeal.Read.val_main_v65, QkBwdRefIdeal.Read.val_main_v88, QkBwdRefIdeal.Read.val_main_v94, QkBwdRefIdeal.Read.val_main_v95, QkBwdRefIdeal.Read.val_main_v96, QkBwdRefIdeal.Read.val_main_v97, QkBwdRefIdeal.Read.val_main_v98, QkBwdRefIdeal.Read.val_main_v99, QkBwdRefIdeal.Read.val_main_v100, QkBwdRefIdeal.Read.val_main_v101, QkBwdRefIdeal.Read.val_main_v102, QkBwdRefIdeal.Read.val_main_v103, QkBwdRefIdeal.Read.val_main_v104, QkBwdRefIdeal.Read.val_main_v105, QkBwdRefIdeal.Read.val_main_v106, QkBwdRefIdeal.Read.val_main_v107, QkBwdRefIdeal.Read.val_main_v108, QkBwdRefIdeal.Read.val_main_v109, QkBwdRefIdeal.Read.val_main_v110, QkBwdRefIdeal.Read.val_main_cst_10, QkBwdRefIdeal.Read.val_main_v111, QkBwdRefIdeal.Read.val_main_v112, QkBwdRefIdeal.Read.val_main_cst_11, QkBwdRefIdeal.Read.val_main_v113, QkBwdRefIdeal.Read.val_main_v114, QkBwdRefIdeal.Read.val_main_v115]
  have hl := h.isLt
  by_cases hi : i.val % 2 = 0
  · have c1 : ¬(i.val / 2 < 32 ∧ 1 ≤ i.val % 2 ∧ i.val % 2 - 1 < 1) := by omega
    have c2 : i.val / 2 < 32 ∧ i.val % 2 < 1 := by omega
    refine Eq.trans (congrArg₂ (fun x y : EReal => x + y) (dif_neg c1) (dif_pos c2)) ?_
    refine pair_even hi (j := ⟨i.val + 1, by omega⟩) rfl (Eq.trans ?_ (dH_k m c n h _)) (Eq.trans ?_ (dH_k m c n h _)) rfl
      (sH_odd m c n (by show ¬(i.val + 1) % 2 = 0; omega) (by show i.val / 2 = (i.val + 1) / 2; omega))
    · exact congrArg (fun q => a2 m c (ix3 h n q)) (Fin.ext (by show i.val / 2 * 2 = i.val; omega))
    · exact congrArg (fun q => a2 m c (ix3 h n q)) (Fin.ext (by show i.val / 2 * 2 + 1 = (i.val + 1); omega))
  · have c1 : i.val / 2 < 32 ∧ 1 ≤ i.val % 2 ∧ i.val % 2 - 1 < 1 := by omega
    have c2 : ¬(i.val / 2 < 32 ∧ i.val % 2 < 1) := by omega
    refine Eq.trans (congrArg₂ (fun x y : EReal => x + y) (dif_pos c1) (dif_neg c2)) ?_
    refine pair_odd hi (j := ⟨i.val - 1, by omega⟩) (by show i.val - 1 + 1 = i.val; omega) (Eq.trans ?_ (dH_k m c n h _)) (Eq.trans ?_ (dH_k m c n h _)) rfl
      (sH_even m c n (by show (i.val - 1) % 2 = 0; omega) (by show i.val / 2 = (i.val - 1) / 2; omega))
    · exact congrArg (fun q => a2 m c (ix3 h n q)) (Fin.ext (by show i.val / 2 * 2 = (i.val - 1); omega))
    · exact congrArg (fun q => a2 m c (ix3 h n q)) (Fin.ext (by show i.val / 2 * 2 + 1 = i.val; omega))

/-- The reference's gradient at q's heads. -/
theorem ref_oq (H : Fin6 m c) (n : Fin 8448) (h : Fin 16) (i : Fin 64) :
    QkBwdRefIdeal.Read.val_main_v181 (F := Ideal) (a0 m c) (a1 m c) (a4 m c) (a5 m c) (a6 m c) (ix3 n h i) = oH m c n ⟨h.val, by omega⟩ i := by
  have hg : ∀ j, gH m c ⟨h.val, by omega⟩ j = a6 m c (ix2 0 j) := fun j => if_pos h.isLt
  unfold oH outH rH
  rw [rms_dx lanes_pos (fun k => H.x n _ k) (d := fun k => dyH (dH m c n ⟨h.val, by omega⟩) (cH m c n) (sH m c n) k * gH m c ⟨h.val, by omega⟩ k)
    (fun k => (dyH_real (H.d n _) (H.cos n) (H.sin n) k).mul (H.g _ k)) i]
  simp only [← ref_q, hg]
  unfold xH ms
  pointwise [QkBwdRefIdeal.Read.val_main_v0, QkBwdRefIdeal.Read.val_main_v1, QkBwdRefIdeal.Read.val_main_v2, QkBwdRefIdeal.Read.val_main_v3, QkBwdRefIdeal.Read.val_main_cst, QkBwdRefIdeal.Read.val_main_v4, QkBwdRefIdeal.Read.val_main_v5, QkBwdRefIdeal.Read.val_main_cst_0, QkBwdRefIdeal.Read.val_main_v6, QkBwdRefIdeal.Read.val_main_v7, QkBwdRefIdeal.Read.val_main_cst_1, QkBwdRefIdeal.Read.val_main_v8, QkBwdRefIdeal.Read.val_main_v9, QkBwdRefIdeal.Read.val_main_v10, QkBwdRefIdeal.Read.val_main_v11, QkBwdRefIdeal.Read.val_main_cst_2, QkBwdRefIdeal.Read.val_main_v12, QkBwdRefIdeal.Read.val_main_v13, QkBwdRefIdeal.Read.val_main_v16, QkBwdRefIdeal.Read.val_main_v165, QkBwdRefIdeal.Read.val_main_v166, QkBwdRefIdeal.Read.val_main_v168, QkBwdRefIdeal.Read.val_main_cst_22, QkBwdRefIdeal.Read.val_main_v169, QkBwdRefIdeal.Read.val_main_v170, QkBwdRefIdeal.Read.val_main_v171, QkBwdRefIdeal.Read.val_main_v172, QkBwdRefIdeal.Read.val_main_v173, QkBwdRefIdeal.Read.val_main_cst_23, QkBwdRefIdeal.Read.val_main_v174, QkBwdRefIdeal.Read.val_main_v175, QkBwdRefIdeal.Read.val_main_cst_24, QkBwdRefIdeal.Read.val_main_v176, QkBwdRefIdeal.Read.val_main_v177, QkBwdRefIdeal.Read.val_main_v178, QkBwdRefIdeal.Read.val_main_v179, QkBwdRefIdeal.Read.val_main_v180, QkBwdRefIdeal.Read.val_main_v181]
  simp only [Finset.univ_unique, Finset.sum_singleton]

/-- And at k's. -/
theorem ref_ok (H : Fin6 m c) (n : Fin 8448) (h : Fin 4) (i : Fin 64) :
    QkBwdRefIdeal.Read.val_main_v135 (F := Ideal) (a0 m c) (a2 m c) (a4 m c) (a5 m c) (a7 m c) (ix3 n h i) = oH m c n ⟨16 + h.val, by omega⟩ i := by
  have hg : ∀ j, gH m c ⟨16 + h.val, by omega⟩ j = a7 m c (ix2 0 j) := fun j => if_neg (by show ¬16 + h.val < 16; omega)
  unfold oH outH rH
  rw [rms_dx lanes_pos (fun k => H.x n _ k) (d := fun k => dyH (dH m c n ⟨16 + h.val, by omega⟩) (cH m c n) (sH m c n) k * gH m c ⟨16 + h.val, by omega⟩ k)
    (fun k => (dyH_real (H.d n _) (H.cos n) (H.sin n) k).mul (H.g _ k)) i]
  simp only [← ref_k, hg]
  have hx : ∀ (h : Fin 4) (k : Fin 64), (⟨(16 + h.val) * 64 + k.val, by omega⟩ : Fin 1536) = ⟨1024 + (h.val * 64 + k.val), by omega⟩ := fun h k => Fin.ext (by show (16 + h.val) * 64 + k.val = 1024 + (h.val * 64 + k.val); omega)
  unfold xH ms
  simp only [hx]
  pointwise [QkBwdRefIdeal.Read.val_main_v40, QkBwdRefIdeal.Read.val_main_v41, QkBwdRefIdeal.Read.val_main_v42, QkBwdRefIdeal.Read.val_main_v43, QkBwdRefIdeal.Read.val_main_cst_3, QkBwdRefIdeal.Read.val_main_v44, QkBwdRefIdeal.Read.val_main_v45, QkBwdRefIdeal.Read.val_main_cst_4, QkBwdRefIdeal.Read.val_main_v46, QkBwdRefIdeal.Read.val_main_v47, QkBwdRefIdeal.Read.val_main_cst_5, QkBwdRefIdeal.Read.val_main_v48, QkBwdRefIdeal.Read.val_main_v49, QkBwdRefIdeal.Read.val_main_v50, QkBwdRefIdeal.Read.val_main_v51, QkBwdRefIdeal.Read.val_main_cst_6, QkBwdRefIdeal.Read.val_main_v52, QkBwdRefIdeal.Read.val_main_v53, QkBwdRefIdeal.Read.val_main_v56, QkBwdRefIdeal.Read.val_main_v119, QkBwdRefIdeal.Read.val_main_v120, QkBwdRefIdeal.Read.val_main_v122, QkBwdRefIdeal.Read.val_main_cst_14, QkBwdRefIdeal.Read.val_main_v123, QkBwdRefIdeal.Read.val_main_v124, QkBwdRefIdeal.Read.val_main_v125, QkBwdRefIdeal.Read.val_main_v126, QkBwdRefIdeal.Read.val_main_v127, QkBwdRefIdeal.Read.val_main_cst_15, QkBwdRefIdeal.Read.val_main_v128, QkBwdRefIdeal.Read.val_main_v129, QkBwdRefIdeal.Read.val_main_cst_16, QkBwdRefIdeal.Read.val_main_v130, QkBwdRefIdeal.Read.val_main_v131, QkBwdRefIdeal.Read.val_main_v132, QkBwdRefIdeal.Read.val_main_v133, QkBwdRefIdeal.Read.val_main_v134, QkBwdRefIdeal.Read.val_main_v135]
  simp only [Finset.univ_unique, Finset.sum_singleton]

/-- The reference's parts of the scales' gradients. -/
theorem ref_pq (n : Fin 8448) (h : Fin 16) (i : Fin 64) :
    QkBwdRefIdeal.Read.val_main_v162 (F := Ideal) (a0 m c) (a1 m c) (a4 m c) (a5 m c) (ix3 n h i) = pH m c n ⟨h.val, by omega⟩ i := by
  unfold pH rH ms
  simp only [← ref_q]
  unfold xH
  pointwise [QkBwdRefIdeal.Read.val_main_v0, QkBwdRefIdeal.Read.val_main_v1, QkBwdRefIdeal.Read.val_main_v3, QkBwdRefIdeal.Read.val_main_cst, QkBwdRefIdeal.Read.val_main_v4, QkBwdRefIdeal.Read.val_main_v5, QkBwdRefIdeal.Read.val_main_cst_0, QkBwdRefIdeal.Read.val_main_v6, QkBwdRefIdeal.Read.val_main_v7, QkBwdRefIdeal.Read.val_main_cst_1, QkBwdRefIdeal.Read.val_main_v8, QkBwdRefIdeal.Read.val_main_v9, QkBwdRefIdeal.Read.val_main_v10, QkBwdRefIdeal.Read.val_main_v14, QkBwdRefIdeal.Read.val_main_v15, QkBwdRefIdeal.Read.val_main_v162]
  exact mul_comm (G := EReal) _ _

theorem ref_pk (n : Fin 8448) (h : Fin 4) (i : Fin 64) :
    QkBwdRefIdeal.Read.val_main_v116 (F := Ideal) (a0 m c) (a2 m c) (a4 m c) (a5 m c) (ix3 n h i) = pH m c n ⟨16 + h.val, by omega⟩ i := by
  unfold pH rH ms
  simp only [← ref_k]
  unfold xH
  have hx : ∀ (h : Fin 4) (k : Fin 64), (⟨(16 + h.val) * 64 + k.val, by omega⟩ : Fin 1536) = ⟨1024 + (h.val * 64 + k.val), by omega⟩ := fun h k => Fin.ext (by show (16 + h.val) * 64 + k.val = 1024 + (h.val * 64 + k.val); omega)
  simp only [hx]
  pointwise [QkBwdRefIdeal.Read.val_main_v40, QkBwdRefIdeal.Read.val_main_v41, QkBwdRefIdeal.Read.val_main_v43, QkBwdRefIdeal.Read.val_main_cst_3, QkBwdRefIdeal.Read.val_main_v44, QkBwdRefIdeal.Read.val_main_v45, QkBwdRefIdeal.Read.val_main_cst_4, QkBwdRefIdeal.Read.val_main_v46, QkBwdRefIdeal.Read.val_main_v47, QkBwdRefIdeal.Read.val_main_cst_5, QkBwdRefIdeal.Read.val_main_v48, QkBwdRefIdeal.Read.val_main_v49, QkBwdRefIdeal.Read.val_main_v50, QkBwdRefIdeal.Read.val_main_v54, QkBwdRefIdeal.Read.val_main_v55, QkBwdRefIdeal.Read.val_main_v116]
  exact mul_comm (G := EReal) _ _

/-! ### The results -/

/-- The host's sum over the first two axes of three. -/
theorem rows_reduce {A N B : ℕ} (h : (⟨3, ![A, N, B]⟩ : Shape).ReducesTo [0, 1] ⟨1, ![B]⟩) (v : (⟨3, ![A, N, B]⟩ : Shape).Idx → EReal) (j : Fin B) :
    Ideal.hostReduceAdd h v 0 (ix1 j) = ∑ n : Fin A, ∑ p : Fin N, v (ix3 n p j) := by
  have f : ∀ i, h.drop i = ix1 j ↔ ∃ q : Fin A × Fin N, ix3 q.1 q.2 j = i := by
    intro i
    constructor
    · intro e
      refine ⟨(i 0, i 1), funext fun a => ?_⟩
      match a with
      | ⟨0, _⟩ => rfl
      | ⟨1, _⟩ => rfl
      | ⟨2, _⟩ => exact Fin.ext (congrArg Fin.val (congrFun e 0)).symm
    · rintro ⟨q, rfl⟩
      refine funext fun b => ?_
      match b with
      | ⟨0, _⟩ => rfl
  unfold Ideal.hostReduceAdd
  rw [zero_add]
  exact (Finset.sum_filter_eq_sum_of_fiber _ (fun q : Fin A × Fin N => ix3 q.1 q.2 j)
    (fun _ _ e => Prod.ext (congrFun e 0) (congrFun e 1)) f v).trans (Fintype.sum_prod_type _)

theorem rows_heads {N : ℕ} (Y : (⟨3, ![8448, N, 64]⟩ : Shape).Idx → EReal) (j : Fin 64) :
    ∑ t : Fin 33, ∑ p : Fin N, ∑ r : Fin 256, Y (ix3 (row t r) p j) = ∑ n : Fin 8448, ∑ p : Fin N, Y (ix3 n p j) := by
  rw [sum_runs (a := 33) (b := 256) (N := 8448) rfl]
  exact Finset.sum_congr rfl fun t _ => Finset.sum_comm

/-- The first result is the gradient at q, k and v. -/
theorem dqkv (H : Fin6 m c) : (Gen.dats m 0 c).arrAt 9 (cfgs 0).N
      = QkBwdRefIdeal.Read.val_main_v186 (a0 m c) (a1 m c) (a2 m c) (a3 m c) (a4 m c) (a5 m c) (a6 m c) (a7 m c) := by
  refine (Gen.dats m 0 c).arrAt_eq_of_covers 9 _ (by decide +kernel) fun t hf y => ?_
  blk_simp
  rw [after0_9]
  idx_vars y
  rw [em9]
  refine (every m c H t y0 y1).trans ?_
  generalize row t y0 = n
  unfold oAt
  pointwise [QkBwdRefIdeal.Read.val_main_v87, QkBwdRefIdeal.Read.val_main_v92, QkBwdRefIdeal.Read.val_main_cst_9, QkBwdRefIdeal.Read.val_main_v93, QkBwdRefIdeal.Read.val_main_v137, QkBwdRefIdeal.Read.val_main_cst_17, QkBwdRefIdeal.Read.val_main_v138, QkBwdRefIdeal.Read.val_main_v139, QkBwdRefIdeal.Read.val_main_v183, QkBwdRefIdeal.Read.val_main_cst_25, QkBwdRefIdeal.Read.val_main_v184, QkBwdRefIdeal.Read.val_main_v185, QkBwdRefIdeal.Read.val_main_v186]
  have hj := y1.isLt
  have e3 : ∀ {a b d : EReal}, b = 0 → d = 0 → a + b + d = a := fun hb hd => by rw [hb, hd, add_zero, add_zero]
  have e2 : ∀ {a b d : EReal}, a = 0 → d = 0 → a + b + d = b := fun ha hd => by rw [ha, hd, zero_add, add_zero]
  have e1 : ∀ {a b d : EReal}, a = 0 → b = 0 → a + b + d = d := fun ha hb => by rw [ha, hb, zero_add, zero_add]
  rcases Nat.lt_or_ge y1.val 1024 with h1 | h1
  · refine (dif_pos (by omega)).trans (Eq.trans ?_ (e1 (dif_neg (by omega)) (dif_neg (by omega))).symm)
    refine Eq.trans ?_ (dif_pos h1).symm
    exact (ref_oq m c H n ⟨y1.val / 64, by omega⟩ _).symm
  rcases Nat.lt_or_ge y1.val 1280 with h2 | h2
  · refine (dif_pos h2).trans (Eq.trans ?_ (e2 (dif_neg (by omega)) (dif_neg (by omega))).symm)
    refine Eq.trans ?_ (dif_pos (show 1024 ≤ y1.val ∧ y1.val - 1024 < 256 by omega)).symm
    refine Eq.trans ?_ (ref_ok m c H n ⟨(y1.val - 1024) / 64, by omega⟩ ⟨(y1.val - 1024) % 64, by omega⟩).symm
    exact congrArg₂ (oH m c n) (Fin.ext (by show y1.val / 64 = 16 + (y1.val - 1024) / 64; omega)) (Fin.ext (by show y1.val % 64 = (y1.val - 1024) % 64; omega))
  · refine (dif_neg (by omega)).trans (Eq.trans ?_ (e3 (dif_neg (by omega)) (dif_neg (by omega))).symm)
    refine Eq.trans ?_ (dif_pos (show 1280 ≤ y1.val ∧ y1.val - 1280 < 256 by omega)).symm
    exact congrArg (fun q => a3 m c (ix3 ⟨(y1.val - 1280) / 64, by omega⟩ n q)) (Fin.ext (by show y1.val % 64 = (y1.val - 1280) % 64; omega))

/-- The second is the gradient at q's scale. -/
theorem dqg (H : Fin6 m c) : (Gen.dats m 0 c).arrAt 10 (cfgs 0).N = QkBwdRefIdeal.Read.val_main_v189 (a0 m c) (a1 m c) (a4 m c) (a5 m c) := by
  refine (Gen.dats m 0 c).arrAt_eq_of_covers 10 _ (by decide +kernel) fun t hf y => ?_
  blk_simp
  rw [after0_10]
  idx_vars y
  obtain rfl : y0 = 0 := Subsingleton.elim _ _
  rw [em10]
  refine (every_q m c H y1 t.val t.isLt).trans ?_
  have ht := hands10 t hf
  obtain ⟨t, h⟩ := t
  obtain rfl : t = 32 := ht
  unfold bS
  simp only [← ref_pq]
  pointwise [QkBwdRefIdeal.Read.val_main_cst_20, QkBwdRefIdeal.Read.val_main_v163, QkBwdRefIdeal.Read.val_main_v164, QkBwdRefIdeal.Read.val_main_cst_21, QkBwdRefIdeal.Read.val_main_v167, QkBwdRefIdeal.Read.val_main_v182, QkBwdRefIdeal.Read.val_main_v187, QkBwdRefIdeal.Read.val_main_v188, QkBwdRefIdeal.Read.val_main_v189]
  generalize QkBwdRefIdeal.Read.val_main_v162 (F := Ideal) _ _ _ _ = Y
  rw [rows_reduce]
  simp only [Finset.univ_unique, Finset.sum_singleton]
  pointwise
  rw [rows_reduce]
  exact rows_heads Y _

/-- The third is the gradient at k's scale. -/
theorem dkg (H : Fin6 m c) : (Gen.dats m 0 c).arrAt 11 (cfgs 0).N = QkBwdRefIdeal.Read.val_main_v192 (a0 m c) (a2 m c) (a4 m c) (a5 m c) := by
  refine (Gen.dats m 0 c).arrAt_eq_of_covers 11 _ (by decide +kernel) fun t hf y => ?_
  blk_simp
  rw [after0_11]
  idx_vars y
  obtain rfl : y0 = 0 := Subsingleton.elim _ _
  rw [em11]
  refine (every_k m c H y1 t.val t.isLt).trans ?_
  have ht := hands11 t hf
  obtain ⟨t, h⟩ := t
  obtain rfl : t = 32 := ht
  unfold bS
  simp only [← ref_pk]
  pointwise [QkBwdRefIdeal.Read.val_main_cst_12, QkBwdRefIdeal.Read.val_main_v117, QkBwdRefIdeal.Read.val_main_v118, QkBwdRefIdeal.Read.val_main_cst_13, QkBwdRefIdeal.Read.val_main_v121, QkBwdRefIdeal.Read.val_main_v136, QkBwdRefIdeal.Read.val_main_v190, QkBwdRefIdeal.Read.val_main_v191, QkBwdRefIdeal.Read.val_main_v192]
  generalize QkBwdRefIdeal.Read.val_main_v116 (F := Ideal) _ _ _ _ = Y
  rw [rows_reduce]
  simp only [Finset.univ_unique, Finset.sum_singleton]
  pointwise
  rw [rows_reduce]
  exact rows_heads Y _

/-- The precondition makes the entries of seven arguments reals. -/
theorem reals (h : Pre_QkBwdIdeal_qk_bwd_finite m) : Fin6 m c := by
  have e := congrFun (h c) (fun a => a.elim0)
  obtain ⟨e, h7⟩ := andi_one e
  obtain ⟨e, h6⟩ := andi_one e
  obtain ⟨e, h5⟩ := andi_one e
  obtain ⟨e, h4⟩ := andi_one e
  obtain ⟨e, h2⟩ := andi_one e
  obtain ⟨h0, h1⟩ := andi_one e
  exact ⟨isReal_of_all _ _ _ _ _ _ h0, isReal_of_all _ _ _ _ _ _ h1, isReal_of_all _ _ _ _ _ _ h2, isReal_of_all _ _ _ _ _ _ h4,
    isReal_of_all _ _ _ _ _ _ h5, isReal_of_all _ _ _ _ _ _ h6, isReal_of_all _ _ _ _ _ _ h7⟩

/-- The backward of the head norms and the rotation: the three results of the call are the reference's. -/
theorem algebraic : algebraic_QkBwdIdeal_QkBwdRefIdeal_pre_qk_bwd_finite := by
  intro m g m' g' hp hm
  refine ⟨_, _, _, Value.run_blocks m g, (θ_run QkBwdRefIdeal.defs _ _).mono (fun r h c => ?_) (QkBwdRefIdeal.Value.run m' g')⟩
  obtain ⟨e0, e1, e2, e3, e4, e5, e6, e7⟩ := hm c
  replace e0 : StableHlo.launchContents m' c (Proc.tc.devRef QkBwdRefIdeal.main_arg0) = a0 m c := e0
  replace e1 : StableHlo.launchContents m' c (Proc.tc.devRef QkBwdRefIdeal.main_arg1) = a1 m c := e1
  replace e2 : StableHlo.launchContents m' c (Proc.tc.devRef QkBwdRefIdeal.main_arg2) = a2 m c := e2
  replace e3 : StableHlo.launchContents m' c (Proc.tc.devRef QkBwdRefIdeal.main_arg3) = a3 m c := e3
  replace e4 : StableHlo.launchContents m' c (Proc.tc.devRef QkBwdRefIdeal.main_arg4) = a4 m c := e4
  replace e5 : StableHlo.launchContents m' c (Proc.tc.devRef QkBwdRefIdeal.main_arg5) = a5 m c := e5
  replace e6 : StableHlo.launchContents m' c (Proc.tc.devRef QkBwdRefIdeal.main_arg6) = a6 m c := e6
  replace e7 : StableHlo.launchContents m' c (Proc.tc.devRef QkBwdRefIdeal.main_arg7) = a7 m c := e7
  have H := reals m c hp
  exact ⟨
    ((h c).1).trans ((QkBwdRefIdeal.Read.val_main_v186_eq _).trans (by rw [e0, e1, e2, e3, e4, e5, e6, e7]; exact (dqkv m c H).symm)),
    ((h c).2.1).trans ((QkBwdRefIdeal.Read.val_main_v189_eq _).trans (by rw [e0, e1, e4, e5]; exact (dqg m c H).symm)),
    ((h c).2.2.1).trans ((QkBwdRefIdeal.Read.val_main_v192_eq _).trans (by rw [e0, e2, e4, e5]; exact (dkg m c H).symm)),
    (h c).2.2.2⟩

/-- The reference runs, leaves its arguments as they were and declares no semaphore. -/
theorem ref_frame : quiescent_QkBwdRefIdeal := fun m ρ _ =>
  (θ_run QkBwdRefIdeal.defs _ _).mono (fun r h => ⟨fun c => (h c).2.2.2, sem_eq_zero_of_no_sems (by decide) r.2⟩) (QkBwdRefIdeal.Value.run m ρ)

/-- The claims of the backward of the head norms and the rotation. -/
theorem claims : quiescent_QkBwdIdeal ∧ quiescent_QkBwdIdeal_pre_qk_bwd_finite ∧ quiescent_QkBwdRefIdeal
    ∧ quiescent_QkBwdRefIdeal_pre_qk_bwd_finite ∧ preserves_QkBwd_QkBwdIdeal ∧ algebraic_QkBwdIdeal_QkBwdRefIdeal_pre_qk_bwd_finite :=
  ⟨fun m ρ _ => Gen.frame m ρ, fun m ρ _ => Gen.frame m ρ, ref_frame, fun m ρ _ => ref_frame m ρ trivial, trivial, algebraic⟩

end Cert.Proof.QkBwd

end
-- ==== Proof.MlpOut.lean ====
module

public import proofs.«01_k».proof.Defs
public import proofs.«01_k».proof.Proof.Gen.MlpOutIdeal
public import proofs.«01_k».proof.Proof.Gen.MlpOutIdeal.Value
public import proofs.«01_k».proof.Proof.Gen.MlpOutRefIdeal.Read
public import proofs.«01_k».proof.Proof.Gen.MlpOutRefIdeal.Run
public import proofs.«01_k».proof.Proof.Gen.Pre_mlp_out_finite
public import Idealize.ShloMosaic.Lib.Pointwise
public import Idealize.ShloMosaic.Lib.StableHlo.ReadAt
public import Idealize.ShloMosaic.Lib.KernelVsHost
public import Idealize.ShloMosaic.Lib.Pipeline.ValueKit
public import Idealize.ShloMosaic.Lib.Pipeline.ReadBack
public import proofs.«01_k».proof.Proof.Reals
public import proofs.«01_k».proof.Proof.Rms
public import proofs.«01_k».proof.Proof.AttnMath

@[expose] public section

set_option maxRecDepth 16384
set_option maxHeartbeats 1000000

noncomputable section

namespace Cert.Proof.MlpOut

open Idealize.ShloMosaic Idealize.ShloMosaic.TcCoe Idealize.SL.Sem
open Cert.MlpOutIdeal Cert.MlpOutIdeal.Gen Cert.Proof.Attn
open Idealize.ShloMosaic.Pipeline (Dat)

variable (m : (ℓ : Loc nD τ sig) → Buf (Elt Ideal) ℓ) (c : Dev nD)

/-- Every moving window is at row block `t`, every resident one at the origin. -/
theorem idx : ∀ t : Fin cfg0.N, win0_0.index t = ![t.val, 0]
    ∧ win0_1.index t = ![t.val, 0]
    ∧ win0_2.index t = ![0, 0]
    ∧ win0_3.index t = ![0, 0]
    ∧ win0_4.index t = ![t.val, 0]
    ∧ win0_5.index t = ![t.val, 0]
    ∧ win0_6.index t = ![0, 0]
    ∧ win0_7.index t = ![t.val, 0]
    ∧ win0_8.index t = ![0, 0]
    ∧ win0_9.index t = ![t.val, 0]
    ∧ win0_10.index t = ![t.val, 0] :=
  (by decide +kernel : ∀ t : Fin grid0.N, win0_0.index t = ![t.val, 0]
    ∧ win0_1.index t = ![t.val, 0]
    ∧ win0_2.index t = ![0, 0]
    ∧ win0_3.index t = ![0, 0]
    ∧ win0_4.index t = ![t.val, 0]
    ∧ win0_5.index t = ![t.val, 0]
    ∧ win0_6.index t = ![0, 0]
    ∧ win0_7.index t = ![t.val, 0]
    ∧ win0_8.index t = ![0, 0]
    ∧ win0_9.index t = ![t.val, 0]
    ∧ win0_10.index t = ![t.val, 0])

/-! The argument arrays, as arrays of extended reals. -/

def a0 : S8448x1024.Idx → EReal := m ((c : Thread nD τ).loc main_arg0)
def a1 : S8448x4096.Idx → EReal := m ((c : Thread nD τ).loc main_arg1)
def a2 : S1x4096x1024.Idx → EReal := m ((c : Thread nD τ).loc main_arg2)
def a3 : S1024.Idx → EReal := m ((c : Thread nD τ).loc main_arg3)
def a4 : S1x8192x1024.Idx → EReal := m ((c : Thread nD τ).loc main_arg4)

/-- The row of the array that row `r` of block `t` is. -/
abbrev row (t : Fin cfg0.N) (r : Fin 384) : Fin 8448 := ⟨t.val * 384 + r.val, by have : t.val < 22 := t.isLt; omega⟩

/-- The rectified product of the layer, -/
def rl (n : Fin 8448) (j : Fin 4096) : EReal := max (a1 m c (ix2 n j)) 0

/-- the target in the step's order, zero where there is none, -/
def tg (n : Fin 8448) (k : Fin 1024) : EReal := if h : 16 ≤ nat n ∧ nat n - 16 < 8192 then a4 m c (ix3 0 ⟨nat n - 16, h.2⟩ k) else 0

/-- and one where there is a target, zero elsewhere. -/
def mk (n : Fin 8448) : EReal := if 16 ≤ nat n ∧ nat n < 8208 then 1 else 0

/-! The input windows, read at a place of their block. -/

theorem rd0 (t : Fin cfg0.N) (r : Fin 384) (k : Fin 1024) : iblk m c 0 t (ix2 r k) = a0 m c (ix2 (row t r) k) := by
  blk_point [iblk, (idx t).1]

theorem rd2 (t : Fin cfg0.N) (j : Fin 4096) (k : Fin 1024) : iblk m c 2 t (ix2 j k) = a2 m c (ix3 0 j k) := by
  have e : (win0_2.blk t).view.emb (ix2 j k) = ix2 j k := by
    blk_point [(idx t).2.2.1]
  blk_simp [iblk]
  rw [e]
  unfold V
  after_reads_at
  pointwise
  rfl

theorem rd3 (t : Fin cfg0.N) (k : Fin 1024) : iblk m c 3 t (ix2 0 k) = a3 m c (ix1 k) := by
  have e : (win0_3.blk t).view.emb (ix2 0 k) = ix2 0 k := by
    blk_point [(idx t).2.2.2.1]
  blk_simp [iblk]
  rw [e]
  unfold V
  after_reads_at
  pointwise
  rfl

theorem rd1 (t : Fin cfg0.N) (r : Fin 384) (j : Fin 4096) : iblk m c 1 t (ix2 r j) = rl m c (row t r) j := by
  have e : (win0_1.blk t).view.emb (ix2 r j) = ix2 (row t r) j := by
    blk_point [(idx t).2.1]
  blk_simp [iblk]
  rw [e]
  unfold V
  after_reads_at
  pointwise
  rfl

theorem rd4 (t : Fin cfg0.N) (r : Fin 384) (k : Fin 1024) : iblk m c 4 t (ix2 r k) = tg m c (row t r) k := by
  have e : (win0_4.blk t).view.emb (ix2 r k) = ix2 (row t r) k := by
    blk_point [(idx t).2.2.2.2.1]
  blk_simp [iblk]
  rw [e]
  unfold V
  after_reads_at
  pointwise
  exact dite_congr rfl (fun _ => rfl) fun _ => sitofp_zero (φ := .f32)

/-- The mask as the host computes it from the row's number. -/
theorem mask_at (n : Fin 8448) :
    (FloatOps.uitofp .f32 (IntOp.andi (IntOp.cmpi .sge (BitVec.ofNat 32 (nat n)) 16#32) (IntOp.cmpi .slt (BitVec.ofNat 32 (nat n)) 8208#32)) : Ideal .f32) = mk n := by
  have := nat_lt n
  have e : (BitVec.ofNat 32 (nat n)).toInt = (nat n : ℤ) := by
    rw [BitVec.toInt_eq_toNat_of_lt] <;> rw [BitVec.toNat_ofNat, Nat.mod_eq_of_lt] <;> omega
  unfold mk
  simp only [IntOp.cmpi, BitVec.slt, BitVec.sle]
  rw [e, show (16#32).toInt = 16 from by decide, show (8208#32).toInt = 8208 from by decide]
  by_cases h1 : 16 ≤ nat n <;> by_cases h2 : nat n < 8208
  · rw [decide_eq_true (show (16 : ℤ) ≤ nat n by omega), decide_eq_true (show (nat n : ℤ) < 8208 by omega), if_pos ⟨h1, h2⟩]
    show (((1 : ℕ) : ℝ) : EReal) = 1
    simp
  · rw [decide_eq_true (show (16 : ℤ) ≤ nat n by omega), decide_eq_false (show ¬(nat n : ℤ) < 8208 by omega), if_neg (by omega)]
    show (((0 : ℕ) : ℝ) : EReal) = 0
    simp
  · rw [decide_eq_false (show ¬(16 : ℤ) ≤ nat n by omega), decide_eq_true (show (nat n : ℤ) < 8208 by omega), if_neg (by omega)]
    show (((0 : ℕ) : ℝ) : EReal) = 0
    simp
  · omega

theorem rd5 (t : Fin cfg0.N) (r : Fin 384) : iblk m c 5 t (ix2 r 0) = mk (row t r) := by
  have e : (win0_5.blk t).view.emb (ix2 r 0) = ix2 (row t r) 0 := by
    blk_point [(idx t).2.2.2.2.2.1]
  blk_simp [iblk]
  rw [e]
  unfold V
  after_reads_at
  pointwise
  exact mask_at (row t r)

/-! The places in the arrays of the places of the output windows. -/

theorem em6 (t : Fin cfg0.N) (r : Fin 8) (k : Fin 128) : ((View.whole main_v21_0).slice (win0_6.rect t)).emb (ix2 r k) = ix2 r k := by
  blk_point [(idx t).2.2.2.2.2.2.1]

theorem em7 (t : Fin cfg0.N) (r : Fin 384) (k : Fin 1024) : ((View.whole main_v21_1).slice (win0_7.rect t)).emb (ix2 r k) = ix2 (row t r) k := by
  blk_point [(idx t).2.2.2.2.2.2.2.1]

theorem em8 (t : Fin cfg0.N) (k : Fin 1024) : ((View.whole main_v21_2).slice (win0_8.rect t)).emb (ix2 0 k) = ix2 0 k := by
  blk_point [(idx t).2.2.2.2.2.2.2.2.1]

theorem em9 (t : Fin cfg0.N) (r : Fin 384) (k : Fin 4096) : ((View.whole main_v21_3).slice (win0_9.rect t)).emb (ix2 r k) = ix2 (row t r) k := by
  blk_point [(idx t).2.2.2.2.2.2.2.2.2.1]

theorem em10 (t : Fin cfg0.N) (r : Fin 384) (k : Fin 1024) : ((View.whole main_v21_4).slice (win0_10.rect t)).emb (ix2 r k) = ix2 (row t r) k := by
  blk_point [(idx t).2.2.2.2.2.2.2.2.2.2]

/-! ### One step -/

/-- The rows that are normed, -/
def X (n : Fin 8448) (k : Fin 1024) : EReal := a0 m c (ix2 n k) + ∑ j, rl m c n j * rl m c n j * a2 m c (ix3 0 j k)

/-- the inverse root of their mean square, -/
def S (n : Fin 8448) : EReal := Ideal.rsqrt (ms (Ideal.ofBits .f32 0x44800000#32) (X m c n))

/-- what the normed row differs from its target by, -/
def er (n : Fin 8448) (k : Fin 1024) : EReal := (X m c n k * S m c n * a3 m c (ix1 k) - tg m c n k) * mk n

/-- the cotangent at the normed row, -/
def dn (n : Fin 8448) (k : Fin 1024) : EReal := er m c n k * Ideal.ofBits .f32 0x3A800000#32

/-- the gradient at the row, -/
def dxAt (n : Fin 8448) (k : Fin 1024) : EReal :=
  S m c n * (dn m c n k * a3 m c (ix1 k) - X m c n k * S m c n
      * Ideal.div (∑ j, dn m c n j * a3 m c (ix1 j) * (X m c n j * S m c n)) (Ideal.ofBits .f32 0x44800000#32))

/-- the row's part of the scale's gradient, -/
def dgAt (n : Fin 8448) (k : Fin 1024) : EReal := dn m c n k * (X m c n k * S m c n)

/-- and the gradient at the product that was rectified. -/
def dzAt (n : Fin 8448) (j : Fin 4096) : EReal := (∑ k, dxAt m c n k * a2 m c (ix3 0 j k)) * (Ideal.ofBits .f32 0x40000000#32 * rl m c n j)

/-- The part of the loss that a block of rows adds. -/
def lsAt (t : Fin cfg0.N) : EReal :=
  Ideal.ofBits .f32 0x3F000000#32 * (∑ r : Fin 384, ∑ k, er m c (row t r) k * er m c (row t r) k) * Ideal.ofBits .f32 0x3A800000#32

theorem first (t : Fin cfg0.N) (h0 : t.val % 22 = 0) (h1 : ¬1 ≤ t.val) :
    (∀ (r : Fin 8) (k : Fin 128), (outsAt0 m c t.val t.isLt).1 (ix2 r k) = lsAt m c t)
    ∧ (∀ (r : Fin 384) (k : Fin 1024), (outsAt0 m c t.val t.isLt).2.1 (ix2 r k) = dxAt m c (row t r) k)
    ∧ (∀ (k : Fin 1024), (outsAt0 m c t.val t.isLt).2.2.1 (ix2 0 k) = ∑ r : Fin 384, dgAt m c (row t r) k)
    ∧ (∀ (r : Fin 384) (j : Fin 4096), (outsAt0 m c t.val t.isLt).2.2.2.1 (ix2 r j) = dzAt m c (row t r) j)
    ∧ (∀ (r : Fin 384) (k : Fin 1024), (outsAt0 m c t.val t.isLt).2.2.2.2 (ix2 r k) = dxAt m c (row t r) k) := by
  rw [outsAt0_A m c t h0 h1 h0 h1]
  dsimp only
  refine ⟨fun r k => ?_, fun r k => ?_, fun k => ?_, fun r j => ?_, fun r k => ?_⟩ <;>
  · frame_out
    unfold_payloads
    pointwise
    simp only [rd0, rd1, rd2, rd3, rd4, rd5, lsAt, dxAt, dgAt, dzAt, dn, er, S, X]
    rfl

theorem later (t : Fin cfg0.N) (h0 : ¬t.val % 22 = 0) (h1 : 1 ≤ t.val) :
    (∀ (r : Fin 8) (k : Fin 128), (outsAt0 m c t.val t.isLt).1 (ix2 r k) = @HAdd.hAdd EReal EReal EReal _ ((outsAt0 m c (t.val - 1) (Nat.lt_of_le_of_lt (Nat.sub_le _ _) t.isLt)).1 (ix2 r k)) (lsAt m c t))
    ∧ (∀ (r : Fin 384) (k : Fin 1024), (outsAt0 m c t.val t.isLt).2.1 (ix2 r k) = dxAt m c (row t r) k)
    ∧ (∀ (k : Fin 1024), (outsAt0 m c t.val t.isLt).2.2.1 (ix2 0 k) = @HAdd.hAdd EReal EReal EReal _ ((outsAt0 m c (t.val - 1) (Nat.lt_of_le_of_lt (Nat.sub_le _ _) t.isLt)).2.2.1 (ix2 0 k)) (∑ r : Fin 384, dgAt m c (row t r) k))
    ∧ (∀ (r : Fin 384) (j : Fin 4096), (outsAt0 m c t.val t.isLt).2.2.2.1 (ix2 r j) = dzAt m c (row t r) j)
    ∧ (∀ (r : Fin 384) (k : Fin 1024), (outsAt0 m c t.val t.isLt).2.2.2.2 (ix2 r k) = dxAt m c (row t r) k) := by
  rw [outsAt0_B m c t h0 h1 h0 h1]
  dsimp only
  refine ⟨fun r k => ?_, fun r k => ?_, fun k => ?_, fun r j => ?_, fun r k => ?_⟩ <;>
  · frame_out
    unfold_payloads
    pointwise
    simp only [rd0, rd1, rd2, rd3, rd4, rd5, lsAt, dxAt, dgAt, dzAt, dn, er, S, X]
    rfl

/-! ### The reference, row by row -/

/-- The place in the step's order of natural row `p`. -/
def st (p : Fin 8208) : Fin 8448 := ⟨p.val / 256 * 256 + p.val % 32 * 8 + p.val / 32 % 8, by omega⟩

theorem nat_st (p : Fin 8208) : nat (st p) = p.val :=
  (digits' _ _ _ (by omega) (by omega)).trans (by omega)

theorem st_nat {n : Fin 8448} (h : nat n < 8208) : st ⟨nat n, h⟩ = n :=
  Fin.ext ((digits _ _ _ (by omega) (by omega)).trans (by omega))

/-- What vanishes on the padding comes back from the natural rows. -/
theorem pd_st {M : Type*} [Zero M] (f : Fin 8448 → M) (h : ∀ n, ¬nat n < 8208 → f n = 0) (n : Fin 8448) : pd (fun p => f (st p)) n = f n := by
  by_cases hn : nat n < 8208
  · rw [Attn.Args.pd_pos _ hn, st_nat hn]
  · rw [Attn.Args.pd_neg _ hn, h n hn]

theorem sum_st {M : Type*} [AddCommMonoid M] (f : Fin 8448 → M) (h : ∀ n, ¬nat n < 8208 → f n = 0) : ∑ p, f (st p) = ∑ n, f n :=
  (sum_pd _).symm.trans (Finset.sum_congr rfl fun n _ => pd_st f h n)

theorem ref_rl (n : Fin 8448) (j : Fin 4096) : MlpOutRefIdeal.Read.val_main_v0 (F := Ideal) (a1 m c) (ix2 n j) = rl m c n j := by
  pointwise [MlpOutRefIdeal.Read.val_main_call0_cst, MlpOutRefIdeal.Read.val_main_call0_v0, MlpOutRefIdeal.Read.val_main_v0]
  rfl

theorem ref_x (p : Fin 8208) (k : Fin 1024) : MlpOutRefIdeal.Read.val_main_v11 (F := Ideal) (a0 m c) (a1 m c) (a2 m c) (ix2 p k) = X m c (st p) k := by
  pointwise [MlpOutRefIdeal.Read.val_main_v4, MlpOutRefIdeal.Read.val_main_v5, MlpOutRefIdeal.Read.val_main_v6, MlpOutRefIdeal.Read.val_main_v7, MlpOutRefIdeal.Read.val_main_v8, MlpOutRefIdeal.Read.val_main_v9, MlpOutRefIdeal.Read.val_main_v10, MlpOutRefIdeal.Read.val_main_v11]
  simp only [ref_rl]
  rfl

/-- What the reference's normed row differs from its target by, -/
def eR (p : Fin 8208) (h : 16 ≤ p.val ∧ p.val - 16 < 8192) (k : Fin 1024) : EReal := X m c (st p) k * S m c (st p) * a3 m c (ix1 k) - a4 m c (ix3 0 ⟨p.val - 16, h.2⟩ k)

/-- half a row's share of the mean, -/
def cR : EReal := Ideal.div (Ideal.ofBits .f32 0x3F000000#32) (Ideal.ofBits .f32 0x44800000#32)

/-- and the reference's cotangent at the norm's result. -/
def dR (p : Fin 8208) (k : Fin 1024) : EReal :=
  if h : 16 ≤ p.val ∧ p.val - 16 < 8192 then eR m c p h k * cR + cR * eR m c p h k else 0

theorem ref_e (i : Fin 8192) (k : Fin 1024) : MlpOutRefIdeal.Read.val_main_v30 (F := Ideal) (a0 m c) (a1 m c) (a2 m c) (a3 m c) (a4 m c) (ix2 i k)
    = X m c (st ⟨16 + i.val, by omega⟩) k * S m c (st ⟨16 + i.val, by omega⟩) * a3 m c (ix1 k) - a4 m c (ix3 0 i k) := by
  pointwise [MlpOutRefIdeal.Read.val_main_v12, MlpOutRefIdeal.Read.val_main_cst_1, MlpOutRefIdeal.Read.val_main_v13, MlpOutRefIdeal.Read.val_main_v14, MlpOutRefIdeal.Read.val_main_cst_2, MlpOutRefIdeal.Read.val_main_v15, MlpOutRefIdeal.Read.val_main_v16, MlpOutRefIdeal.Read.val_main_cst_3, MlpOutRefIdeal.Read.val_main_v17, MlpOutRefIdeal.Read.val_main_v18, MlpOutRefIdeal.Read.val_main_v19, MlpOutRefIdeal.Read.val_main_v23, MlpOutRefIdeal.Read.val_main_v24, MlpOutRefIdeal.Read.val_main_v25, MlpOutRefIdeal.Read.val_main_v26, MlpOutRefIdeal.Read.val_main_v27, MlpOutRefIdeal.Read.val_main_v28, MlpOutRefIdeal.Read.val_main_v29, MlpOutRefIdeal.Read.val_main_v30]
  simp only [ref_x]
  rfl

theorem ref_d (p : Fin 8208) (k : Fin 1024) : MlpOutRefIdeal.Read.val_main_v45 (F := Ideal) (a0 m c) (a1 m c) (a2 m c) (a3 m c) (a4 m c) (ix2 p k) = dR m c p k := by
  pointwise [MlpOutRefIdeal.Read.val_main_cst_9, MlpOutRefIdeal.Read.val_main_cst_10, MlpOutRefIdeal.Read.val_main_v37, MlpOutRefIdeal.Read.val_main_v38, MlpOutRefIdeal.Read.val_main_cst_11, MlpOutRefIdeal.Read.val_main_v39, MlpOutRefIdeal.Read.val_main_v40, MlpOutRefIdeal.Read.val_main_v41, MlpOutRefIdeal.Read.val_main_v42, MlpOutRefIdeal.Read.val_main_v43, MlpOutRefIdeal.Read.val_main_v44, MlpOutRefIdeal.Read.val_main_cst_12, MlpOutRefIdeal.Read.val_main_v45]
  simp only [ref_e]
  refine dite_congr rfl (fun h => ?_) fun _ => rfl
  have e : (⟨16 + (p.val - 16), by omega⟩ : Fin 8208) = p := Fin.ext (by show 16 + (p.val - 16) = p.val; omega)
  simp only [e]
  rfl

theorem ref_dx (p : Fin 8208) (k : Fin 1024) : MlpOutRefIdeal.Read.val_main_v65 (F := Ideal) (a0 m c) (a1 m c) (a2 m c) (a3 m c) (a4 m c) (ix2 p k)
    = dR m c p k * a3 m c (ix1 k) * S m c (st p)
      + X m c (st p) k * Ideal.div ((∑ j, X m c (st p) j * (dR m c p j * a3 m c (ix1 j))) * (Ideal.ofBits .f32 0xBF000000#32 * Ideal.div (S m c (st p)) (ms (Ideal.ofBits .f32 0x44800000#32) (X m c (st p))))) (Ideal.ofBits .f32 0x44800000#32)
      + Ideal.div ((∑ j, X m c (st p) j * (dR m c p j * a3 m c (ix1 j))) * (Ideal.ofBits .f32 0xBF000000#32 * Ideal.div (S m c (st p)) (ms (Ideal.ofBits .f32 0x44800000#32) (X m c (st p))))) (Ideal.ofBits .f32 0x44800000#32) * X m c (st p) k := by
  pointwise [MlpOutRefIdeal.Read.val_main_v12, MlpOutRefIdeal.Read.val_main_cst_1, MlpOutRefIdeal.Read.val_main_v13, MlpOutRefIdeal.Read.val_main_v14, MlpOutRefIdeal.Read.val_main_cst_2, MlpOutRefIdeal.Read.val_main_v15, MlpOutRefIdeal.Read.val_main_v16, MlpOutRefIdeal.Read.val_main_cst_3, MlpOutRefIdeal.Read.val_main_v17, MlpOutRefIdeal.Read.val_main_v18, MlpOutRefIdeal.Read.val_main_v19, MlpOutRefIdeal.Read.val_main_v20, MlpOutRefIdeal.Read.val_main_cst_4, MlpOutRefIdeal.Read.val_main_v21, MlpOutRefIdeal.Read.val_main_v22, MlpOutRefIdeal.Read.val_main_v25, MlpOutRefIdeal.Read.val_main_v49, MlpOutRefIdeal.Read.val_main_v50, MlpOutRefIdeal.Read.val_main_v52, MlpOutRefIdeal.Read.val_main_cst_15, MlpOutRefIdeal.Read.val_main_v53, MlpOutRefIdeal.Read.val_main_v54, MlpOutRefIdeal.Read.val_main_v55, MlpOutRefIdeal.Read.val_main_v56, MlpOutRefIdeal.Read.val_main_v57, MlpOutRefIdeal.Read.val_main_cst_16, MlpOutRefIdeal.Read.val_main_v58, MlpOutRefIdeal.Read.val_main_v59, MlpOutRefIdeal.Read.val_main_cst_17, MlpOutRefIdeal.Read.val_main_v60, MlpOutRefIdeal.Read.val_main_v61, MlpOutRefIdeal.Read.val_main_v62, MlpOutRefIdeal.Read.val_main_v63, MlpOutRefIdeal.Read.val_main_v64, MlpOutRefIdeal.Read.val_main_v65]
  simp only [ref_x, ref_d]
  simp only [Finset.univ_unique, Finset.sum_singleton]
  rfl

theorem ref_dh (n : Fin 8448) (k : Fin 1024) : MlpOutRefIdeal.Read.val_main_v69 (F := Ideal) (a0 m c) (a1 m c) (a2 m c) (a3 m c) (a4 m c) (ix2 n k)
    = pd (fun p => MlpOutRefIdeal.Read.val_main_v65 (F := Ideal) (a0 m c) (a1 m c) (a2 m c) (a3 m c) (a4 m c) (ix2 p k)) n := by
  pointwise [MlpOutRefIdeal.Read.val_main_v12, MlpOutRefIdeal.Read.val_main_cst_1, MlpOutRefIdeal.Read.val_main_v13, MlpOutRefIdeal.Read.val_main_v14, MlpOutRefIdeal.Read.val_main_cst_2, MlpOutRefIdeal.Read.val_main_v15, MlpOutRefIdeal.Read.val_main_v16, MlpOutRefIdeal.Read.val_main_cst_3, MlpOutRefIdeal.Read.val_main_v17, MlpOutRefIdeal.Read.val_main_v18, MlpOutRefIdeal.Read.val_main_v19, MlpOutRefIdeal.Read.val_main_v20, MlpOutRefIdeal.Read.val_main_cst_4, MlpOutRefIdeal.Read.val_main_v21, MlpOutRefIdeal.Read.val_main_v22, MlpOutRefIdeal.Read.val_main_v25, MlpOutRefIdeal.Read.val_main_v49, MlpOutRefIdeal.Read.val_main_v50, MlpOutRefIdeal.Read.val_main_v52, MlpOutRefIdeal.Read.val_main_cst_15, MlpOutRefIdeal.Read.val_main_v53, MlpOutRefIdeal.Read.val_main_v54, MlpOutRefIdeal.Read.val_main_v55, MlpOutRefIdeal.Read.val_main_v56, MlpOutRefIdeal.Read.val_main_v57, MlpOutRefIdeal.Read.val_main_cst_16, MlpOutRefIdeal.Read.val_main_v58, MlpOutRefIdeal.Read.val_main_v59, MlpOutRefIdeal.Read.val_main_cst_17, MlpOutRefIdeal.Read.val_main_v60, MlpOutRefIdeal.Read.val_main_v61, MlpOutRefIdeal.Read.val_main_v62, MlpOutRefIdeal.Read.val_main_v63, MlpOutRefIdeal.Read.val_main_v64, MlpOutRefIdeal.Read.val_main_v65, MlpOutRefIdeal.Read.val_main_cst_18, MlpOutRefIdeal.Read.val_main_v66, MlpOutRefIdeal.Read.val_main_v67, MlpOutRefIdeal.Read.val_main_v68, MlpOutRefIdeal.Read.val_main_v69]
  rfl

theorem ref_dg (k : Fin 1024) : MlpOutRefIdeal.Read.val_main_v77 (F := Ideal) (a0 m c) (a1 m c) (a2 m c) (a3 m c) (a4 m c) (ix2 0 k)
    = ∑ p, X m c (st p) k * S m c (st p) * dR m c p k := by
  pointwise [MlpOutRefIdeal.Read.val_main_v12, MlpOutRefIdeal.Read.val_main_cst_1, MlpOutRefIdeal.Read.val_main_v13, MlpOutRefIdeal.Read.val_main_v14, MlpOutRefIdeal.Read.val_main_cst_2, MlpOutRefIdeal.Read.val_main_v15, MlpOutRefIdeal.Read.val_main_v16, MlpOutRefIdeal.Read.val_main_cst_3, MlpOutRefIdeal.Read.val_main_v17, MlpOutRefIdeal.Read.val_main_v18, MlpOutRefIdeal.Read.val_main_v19, MlpOutRefIdeal.Read.val_main_v23, MlpOutRefIdeal.Read.val_main_v24, MlpOutRefIdeal.Read.val_main_v46, MlpOutRefIdeal.Read.val_main_cst_13, MlpOutRefIdeal.Read.val_main_v47, MlpOutRefIdeal.Read.val_main_v48, MlpOutRefIdeal.Read.val_main_cst_14, MlpOutRefIdeal.Read.val_main_v51, MlpOutRefIdeal.Read.val_main_v77]
  simp only [Finset.univ_unique, Finset.sum_singleton]
  simp only [ref_x, ref_d]
  rfl

theorem ref_dz (n : Fin 8448) (j : Fin 4096) : MlpOutRefIdeal.Read.val_main_v78 (F := Ideal) (a0 m c) (a1 m c) (a2 m c) (a3 m c) (a4 m c) (ix2 n j)
    = if a1 m c (ix2 n j) > 0 then
        rl m c n j * (∑ k, MlpOutRefIdeal.Read.val_main_v69 (F := Ideal) (a0 m c) (a1 m c) (a2 m c) (a3 m c) (a4 m c) (ix2 n k) * a2 m c (ix3 0 j k))
          + (∑ k, MlpOutRefIdeal.Read.val_main_v69 (F := Ideal) (a0 m c) (a1 m c) (a2 m c) (a3 m c) (a4 m c) (ix2 n k) * a2 m c (ix3 0 j k)) * rl m c n j
      else 0 := by
  pointwise [MlpOutRefIdeal.Read.val_main_cst, MlpOutRefIdeal.Read.val_main_v1, MlpOutRefIdeal.Read.val_main_v2, MlpOutRefIdeal.Read.val_main_v5, MlpOutRefIdeal.Read.val_main_cst_18, MlpOutRefIdeal.Read.val_main_v66, MlpOutRefIdeal.Read.val_main_v67, MlpOutRefIdeal.Read.val_main_v68, MlpOutRefIdeal.Read.val_main_v69, MlpOutRefIdeal.Read.val_main_v70, MlpOutRefIdeal.Read.val_main_v71, MlpOutRefIdeal.Read.val_main_v72, MlpOutRefIdeal.Read.val_main_v73, MlpOutRefIdeal.Read.val_main_cst_19, MlpOutRefIdeal.Read.val_main_v74, MlpOutRefIdeal.Read.val_main_v75, MlpOutRefIdeal.Read.val_main_v78]
  simp only [ref_rl]

theorem ref_ls (r : Fin 8) (k : Fin 128) : MlpOutRefIdeal.Read.val_main_v76 (F := Ideal) (a0 m c) (a1 m c) (a2 m c) (a3 m c) (a4 m c) (ix2 r k)
    = Ideal.ofBits .f32 0x3F000000#32 * ∑ i : Fin 8192, Ideal.div (∑ j, MlpOutRefIdeal.Read.val_main_v30 (F := Ideal) (a0 m c) (a1 m c) (a2 m c) (a3 m c) (a4 m c) (ix2 i j)
        * MlpOutRefIdeal.Read.val_main_v30 (F := Ideal) (a0 m c) (a1 m c) (a2 m c) (a3 m c) (a4 m c) (ix2 i j)) (Ideal.ofBits .f32 0x44800000#32) := by
  pointwise [MlpOutRefIdeal.Read.val_main_v12, MlpOutRefIdeal.Read.val_main_cst_1, MlpOutRefIdeal.Read.val_main_v13, MlpOutRefIdeal.Read.val_main_v14, MlpOutRefIdeal.Read.val_main_cst_2, MlpOutRefIdeal.Read.val_main_v15, MlpOutRefIdeal.Read.val_main_v16, MlpOutRefIdeal.Read.val_main_cst_3, MlpOutRefIdeal.Read.val_main_v17, MlpOutRefIdeal.Read.val_main_v18, MlpOutRefIdeal.Read.val_main_v19, MlpOutRefIdeal.Read.val_main_v23, MlpOutRefIdeal.Read.val_main_v24, MlpOutRefIdeal.Read.val_main_v25, MlpOutRefIdeal.Read.val_main_v26, MlpOutRefIdeal.Read.val_main_v27, MlpOutRefIdeal.Read.val_main_v28, MlpOutRefIdeal.Read.val_main_v29, MlpOutRefIdeal.Read.val_main_v30, MlpOutRefIdeal.Read.val_main_v31, MlpOutRefIdeal.Read.val_main_cst_5, MlpOutRefIdeal.Read.val_main_v32, MlpOutRefIdeal.Read.val_main_cst_6, MlpOutRefIdeal.Read.val_main_v33, MlpOutRefIdeal.Read.val_main_v34, MlpOutRefIdeal.Read.val_main_cst_7, MlpOutRefIdeal.Read.val_main_v35, MlpOutRefIdeal.Read.val_main_cst_8, MlpOutRefIdeal.Read.val_main_v36, MlpOutRefIdeal.Read.val_main_v76]

/-! ### What the call leaves -/

theorem every (t : Fin cfg0.N) :
    (∀ (r : Fin 384) (k : Fin 1024), (outsAt0 m c t.val t.isLt).2.1 (ix2 r k) = dxAt m c (row t r) k)
    ∧ (∀ (r : Fin 384) (j : Fin 4096), (outsAt0 m c t.val t.isLt).2.2.2.1 (ix2 r j) = dzAt m c (row t r) j)
    ∧ ∀ (r : Fin 384) (k : Fin 1024), (outsAt0 m c t.val t.isLt).2.2.2.2 (ix2 r k) = dxAt m c (row t r) k := by
  have ht : t.val < 22 := t.isLt
  rcases Nat.eq_zero_or_pos t.val with h | h
  · have f := first m c t (by omega) (by omega)
    exact ⟨f.2.1, f.2.2.2.1, f.2.2.2.2⟩
  · have f := later m c t (by omega) h
    exact ⟨f.2.1, f.2.2.2.1, f.2.2.2.2⟩

theorem every_ls (r : Fin 8) (k : Fin 128) (n : ℕ) (h : n < cfg0.N) :
    (outsAt0 m c n h).1 (ix2 r k) = ∑ i : Fin (n + 1), lsAt m c ⟨i.val, by omega⟩ :=
  sum_steps (N := cfg0.N) (fun n h => (outsAt0 m c n h).1 (ix2 r k)) (fun t => lsAt m c t)
    (fun h => (first m c ⟨0, h⟩ rfl (by simp)).1 r k)
    (fun n h => (later m c ⟨n + 1, h⟩ (by have : n + 1 < 22 := h; show ¬(n + 1) % 22 = 0; omega) (by show 1 ≤ n + 1; omega)).1 r k) n h

theorem every_dg (k : Fin 1024) (n : ℕ) (h : n < cfg0.N) :
    (outsAt0 m c n h).2.2.1 (ix2 0 k) = ∑ i : Fin (n + 1), ∑ r : Fin 384, dgAt m c (row ⟨i.val, by omega⟩ r) k :=
  sum_steps (N := cfg0.N) (fun n h => (outsAt0 m c n h).2.2.1 (ix2 0 k)) (fun t => ∑ r : Fin 384, dgAt m c (row t r) k)
    (fun h => (first m c ⟨0, h⟩ rfl (by simp)).2.2.1 k)
    (fun n h => (later m c ⟨n + 1, h⟩ (by have : n + 1 < 22 := h; show ¬(n + 1) % 22 = 0; omega) (by show 1 ≤ n + 1; omega)).2.2.1 k) n h

/-- The last step writes the loss and the scale's gradient back. -/
theorem hands6 : ∀ t : Fin cfg0.N, (cfg0.win 6).flush t = true → t.val = 21 :=
  (by decide +kernel : ∀ t : Fin grid0.N, win0_6.flush t = true → t.val = 21)

theorem hands8 : ∀ t : Fin cfg0.N, (cfg0.win 8).flush t = true → t.val = 21 :=
  (by decide +kernel : ∀ t : Fin grid0.N, win0_8.flush t = true → t.val = 21)

/-! ### The numbers -/

/-- The word of one half. -/
theorem half_word : Ideal.ofBits .f32 0x3F000000#32 = ((1 / 2 : ℝ) : EReal) := by
  show Ideal.ieee 8 23 0x3F000000#32 = _
  simp [Ideal.ieee]
  rw [← EReal.coe_mul]
  norm_num

/-- The word of one part in 1024. -/
theorem part_word : Ideal.ofBits .f32 0x3A800000#32 = ((1 / 1024 : ℝ) : EReal) := by
  show Ideal.ieee 8 23 0x3A800000#32 = _
  simp [Ideal.ieee]
  rw [← EReal.coe_mul]
  norm_num

/-- The word of two. -/
theorem two_word : Ideal.ofBits .f32 0x40000000#32 = ((2 : ℝ) : EReal) := by
  show Ideal.ieee 8 23 0x40000000#32 = _
  simp [Ideal.ieee]
  rw [← EReal.coe_mul]
  norm_num

/-- Half a row's share of the mean, as a real. -/
theorem cR_eq : cR = ((1 / 2048 : ℝ) : EReal) := by
  unfold cR
  rw [half_word, width_word, Ideal.div_coe (by norm_num), ← EReal.coe_mul]
  norm_num

/-- The arguments are real. -/
structure Fin5 : Prop where
  h0 : ∀ i, IsReal (a0 m c i)
  h1 : ∀ i, IsReal (a1 m c i)
  h2 : ∀ i, IsReal (a2 m c i)
  h3 : ∀ i, IsReal (a3 m c i)
  h4 : ∀ i, IsReal (a4 m c i)

variable {m c}

theorem Fin5.rl (H : Fin5 m c) (n j) : IsReal (rl m c n j) := by
  unfold MlpOut.rl
  rcases le_total (a1 m c (ix2 n j)) 0 with h | h
  · rw [max_eq_right h]; exact isReal_coe 0
  · rw [max_eq_left h]; exact H.h1 _

theorem Fin5.X (H : Fin5 m c) (n k) : IsReal (X m c n k) :=
  (H.h0 _).add (IsReal.sum fun j => ((H.rl n j).mul (H.rl n j)).mul (H.h2 _))

theorem width_real : ∃ r : ℝ, 0 < r ∧ Ideal.ofBits .f32 0x44800000#32 = (r : EReal) := ⟨1024, by norm_num, width_word⟩

theorem Fin5.S (H : Fin5 m c) (n) : IsReal (S m c n) := by
  unfold MlpOut.S
  rw [width_word]
  choose x hx using H.X n
  obtain ⟨M, R, _, _, e, f⟩ := ms_pos (show (0 : ℝ) < 1024 by norm_num) x
  rw [show MlpOut.X m c n = fun k => (x k : EReal) from funext hx, e, f]
  exact ⟨R, rfl⟩

theorem mk_real (n) : IsReal (mk n) := by
  unfold mk
  split
  · exact isReal_coe 1
  · exact isReal_coe 0

theorem Fin5.tg (H : Fin5 m c) (n k) : IsReal (tg m c n k) := by
  unfold MlpOut.tg
  split
  · exact H.h4 _
  · exact isReal_coe 0

theorem Fin5.er (H : Fin5 m c) (n k) : IsReal (er m c n k) :=
  ((((H.X n k).mul (H.S n)).mul (H.h3 _)).sub (H.tg n k)).mul (mk_real n)

theorem Fin5.dn (H : Fin5 m c) (n k) : IsReal (dn m c n k) :=
  (H.er n k).mul ⟨_, part_word⟩

theorem IsReal.div_width {x : EReal} (h : IsReal x) : IsReal (Ideal.div x (Ideal.ofBits .f32 0x44800000#32)) := by
  rw [width_word, Ideal.div_coe (by norm_num)]
  exact h.mul ⟨_, rfl⟩

theorem Fin5.dx (H : Fin5 m c) (n k) : IsReal (dxAt m c n k) :=
  (H.S n).mul (((H.dn n k).mul (H.h3 _)).sub (((H.X n k).mul (H.S n)).mul
    (IsReal.div_width (IsReal.sum fun j => ((H.dn n j).mul (H.h3 _)).mul ((H.X n j).mul (H.S n))))))

/-- Where there is no target, nothing differs from it, -/
theorem er_none {n : Fin 8448} (h : ¬(16 ≤ nat n ∧ nat n < 8208)) (k) : er m c n k = 0 := by
  unfold er mk
  rw [if_neg h, mul_zero]

/-- and there is no gradient. -/
theorem dn_none {n : Fin 8448} (h : ¬(16 ≤ nat n ∧ nat n < 8208)) (k) : dn m c n k = 0 := by
  unfold dn
  rw [er_none h, zero_mul]

theorem dx_none {n : Fin 8448} (h : ¬nat n < 8208) (k) : dxAt m c n k = 0 := by
  have z : (∑ j, dn m c n j * a3 m c (ix1 j) * (X m c n j * S m c n)) = ((0 : ℝ) : EReal) :=
    Finset.sum_eq_zero fun j _ => by rw [dn_none (by omega), zero_mul, zero_mul]
  unfold dxAt
  rw [z, width_word, Ideal.div_coe (by norm_num), dn_none (by omega), ← EReal.coe_mul, zero_mul, zero_mul, EReal.coe_zero, mul_zero, sub_zero, mul_zero]

theorem dg_none {n : Fin 8448} (h : ¬nat n < 8208) (k) : dgAt m c n k = 0 := by
  unfold dgAt
  rw [dn_none (by omega), zero_mul]

/-- Where there is a target the two write the same difference, -/
theorem er_eq {p : Fin 8208} (h : 16 ≤ p.val ∧ p.val - 16 < 8192) (k) : er m c (st p) k = eR m c p h k := by
  unfold er eR mk tg
  rw [if_pos (by rw [nat_st]; omega), mul_one, dif_pos (show 16 ≤ nat (st p) ∧ nat (st p) - 16 < 8192 by rw [nat_st]; omega)]
  refine congrArg (fun z => MlpOut.X m c (st p) k * MlpOut.S m c (st p) * a3 m c (ix1 k) - a4 m c (ix3 0 z k)) (Fin.ext ?_)
  show nat (st p) - 16 = p.val - 16
  rw [nat_st]

/-- and the same cotangent. -/
theorem dR_eq (H : Fin5 m c) (p k) : dR m c p k = dn m c (st p) k := by
  unfold dR
  by_cases h : 16 ≤ p.val ∧ p.val - 16 < 8192
  · rw [dif_pos h, dn, ← er_eq h, cR_eq, part_word]
    obtain ⟨e, he⟩ := H.er (st p) k
    rw [he, ← EReal.coe_mul, ← EReal.coe_mul, ← EReal.coe_add, ← EReal.coe_mul]
    exact congrArg _ (by ring)
  · rw [dif_neg h, dn_none (by rw [nat_st]; omega)]

/-- The gradient at a natural row. -/
theorem dx_eq (H : Fin5 m c) (p k) : MlpOutRefIdeal.Read.val_main_v65 (F := Ideal) (a0 m c) (a1 m c) (a2 m c) (a3 m c) (a4 m c) (ix2 p k) = dxAt m c (st p) k := by
  rw [ref_dx]
  simp only [dR_eq H]
  exact (rms_dx width_real (H.X (st p)) (fun j => (H.dn (st p) j).mul (H.h3 (ix1 j))) k).symm

theorem dh_eq (H : Fin5 m c) (n k) : MlpOutRefIdeal.Read.val_main_v69 (F := Ideal) (a0 m c) (a1 m c) (a2 m c) (a3 m c) (a4 m c) (ix2 n k) = dxAt m c n k := by
  rw [ref_dh]
  simp only [dx_eq H]
  exact pd_st (fun n => dxAt m c n k) (fun n h => dx_none h k) n

theorem dz_eq (H : Fin5 m c) (n j) : dzAt m c n j = MlpOutRefIdeal.Read.val_main_v78 (F := Ideal) (a0 m c) (a1 m c) (a2 m c) (a3 m c) (a4 m c) (ix2 n j) := by
  rw [ref_dz]
  simp only [dh_eq H]
  unfold dzAt
  obtain ⟨d, hd⟩ : IsReal (∑ k, dxAt m c n k * a2 m c (ix3 0 j k)) := IsReal.sum fun k => (H.dx n k).mul (H.h2 _)
  obtain ⟨r, hr⟩ := H.rl n j
  by_cases h : a1 m c (ix2 n j) > 0
  · rw [if_pos h, hd, hr, two_word, ← EReal.coe_mul, ← EReal.coe_mul, ← EReal.coe_mul, ← EReal.coe_mul, ← EReal.coe_add]
    exact congrArg _ (by ring)
  · rw [if_neg h, show rl m c n j = 0 from max_eq_right (not_lt.1 h), mul_zero, mul_zero]

/-- The sum over the natural rows that have a target is the sum over all rows in the step's order. -/
theorem sum_tok (f : Fin 8448 → ℝ) (h : ∀ n, ¬(16 ≤ nat n ∧ nat n < 8208) → f n = 0) : ∑ i : Fin 8192, f (st ⟨16 + i.val, by omega⟩) = ∑ n, f n := by
  rw [← sum_st f fun n hn => h n (by omega)]
  have e := Fin.sum_univ_add (a := 16) (b := 8192) fun p => f (st p)
  refine Eq.trans ?_ e.symm
  have z : ∑ i : Fin 16, f (st (Fin.castAdd 8192 i)) = 0 := Finset.sum_eq_zero fun i _ => h _ (by rw [nat_st]; show ¬(16 ≤ i.val ∧ i.val < 8208); omega)
  rw [z, zero_add]
  rfl

/-- The loss. -/
theorem ls_eq (H : Fin5 m c) (h : 21 < cfg0.N) (r k) : ∑ i : Fin (21 + 1), lsAt m c ⟨i.val, by omega⟩ = MlpOutRefIdeal.Read.val_main_v76 (F := Ideal) (a0 m c) (a1 m c) (a2 m c) (a3 m c) (a4 m c) (ix2 r k) := by
  rw [ref_ls]
  have hq (n : Fin 8448) : IsReal (∑ j, er m c n j * er m c n j) := IsReal.sum fun j => (H.er n j).mul (H.er n j)
  choose Q hQ using hq
  have z : ∀ n, ¬(16 ≤ nat n ∧ nat n < 8208) → Q n = 0 := fun n h => EReal.coe_injective
    ((hQ n).symm.trans (Finset.sum_eq_zero fun j _ => by rw [er_none h, zero_mul]))
  have e1 (t : Fin cfg0.N) : lsAt m c t = ((1 / 2 * (∑ r : Fin 384, Q (row t r)) * (1 / 1024) : ℝ) : EReal) := by
    unfold lsAt
    simp only [hQ]
    rw [half_word, part_word, ← coe_sum, ← EReal.coe_mul, ← EReal.coe_mul]
  have e2 (i : Fin 8192) : Ideal.div (∑ j, MlpOutRefIdeal.Read.val_main_v30 (F := Ideal) (a0 m c) (a1 m c) (a2 m c) (a3 m c) (a4 m c) (ix2 i j)
        * MlpOutRefIdeal.Read.val_main_v30 (F := Ideal) (a0 m c) (a1 m c) (a2 m c) (a3 m c) (a4 m c) (ix2 i j)) (Ideal.ofBits .f32 0x44800000#32)
      = ((Q (st ⟨16 + i.val, by omega⟩) * (1 / 1024) : ℝ) : EReal) := by
    rw [EReal.coe_mul, ← hQ, width_word, Ideal.div_coe (by norm_num)]
    refine congrArg (· * _) (Finset.sum_congr rfl fun j _ => ?_)
    have e := er_eq (m := m) (c := c) (p := ⟨16 + i.val, by omega⟩) (by show 16 ≤ 16 + i.val ∧ 16 + i.val - 16 < 8192; omega) j
    have f : eR m c ⟨16 + i.val, by omega⟩ (by show 16 ≤ 16 + i.val ∧ 16 + i.val - 16 < 8192; omega) j = MlpOutRefIdeal.Read.val_main_v30 (F := Ideal) (a0 m c) (a1 m c) (a2 m c) (a3 m c) (a4 m c) (ix2 i j) := by
      rw [ref_e]
      unfold eR
      exact congrArg (fun z => X m c (st ⟨16 + i.val, by omega⟩) j * S m c (st ⟨16 + i.val, by omega⟩) * a3 m c (ix1 j) - a4 m c (ix3 0 z j)) (Fin.ext (by show 16 + i.val - 16 = i.val; omega))
    rw [e, f]
  simp only [e1, e2]
  rw [← coe_sum, ← coe_sum, half_word, ← EReal.coe_mul]
  refine congrArg _ ?_
  rw [← Finset.sum_mul, ← Finset.sum_mul, sum_tok Q z, ← Finset.mul_sum, sum_runs (a := 22) (b := 384) (N := 8448) rfl Q, mul_assoc]

variable (m c)

/-! ### The results -/

/-- The first result is the loss. -/
theorem loss (H : Fin5 m c) : (Gen.dats m 0 c).arrAt 6 (cfgs 0).N
    = MlpOutRefIdeal.Read.val_main_v76 (a0 m c) (a1 m c) (a2 m c) (a3 m c) (a4 m c) := by
  refine (Gen.dats m 0 c).arrAt_eq_of_covers 6 _ (by decide +kernel) fun t hf y => ?_
  blk_simp
  rw [after0_6]
  idx_vars y
  rw [em6]
  refine (every_ls m c y0 y1 t.val t.isLt).trans ?_
  have ht := hands6 t hf
  obtain ⟨t, h⟩ := t
  obtain rfl : t = 21 := ht
  exact ls_eq H h y0 y1

/-- The second is the gradient at the residual stream. -/
theorem dx (H : Fin5 m c) : (Gen.dats m 0 c).arrAt 7 (cfgs 0).N
    = MlpOutRefIdeal.Read.val_main_v69 (a0 m c) (a1 m c) (a2 m c) (a3 m c) (a4 m c) := by
  refine (Gen.dats m 0 c).arrAt_eq_of_covers 7 _ (by decide +kernel) fun t hf y => ?_
  blk_simp
  rw [after0_7]
  idx_vars y
  rw [em7]
  exact ((every m c t).1 y0 y1).trans (dh_eq H (row t y0) y1).symm

/-- The third is the gradient at the norm's scale. -/
theorem dg (H : Fin5 m c) : (Gen.dats m 0 c).arrAt 8 (cfgs 0).N
    = MlpOutRefIdeal.Read.val_main_v77 (a0 m c) (a1 m c) (a2 m c) (a3 m c) (a4 m c) := by
  refine (Gen.dats m 0 c).arrAt_eq_of_covers 8 _ (by decide +kernel) fun t hf y => ?_
  blk_simp
  rw [after0_8]
  idx_vars y
  obtain rfl : y0 = 0 := Subsingleton.elim _ _
  rw [em8]
  refine (every_dg m c y1 t.val t.isLt).trans ?_
  have ht := hands8 t hf
  obtain ⟨t, h⟩ := t
  obtain rfl : t = 21 := ht
  refine Eq.trans ?_ (ref_dg m c y1).symm
  simp only [dR_eq H]
  refine Eq.trans ?_ (Finset.sum_congr rfl fun p _ => mul_comm (G := EReal) _ _)
  refine Eq.trans ?_ (sum_st (fun n => dgAt m c n y1) fun n hn => dg_none hn y1).symm
  rw [sum_runs (a := 22) (b := 384) (N := 8448) rfl]

/-- The fourth is the gradient at the product that was rectified. -/
theorem dz (H : Fin5 m c) : (Gen.dats m 0 c).arrAt 9 (cfgs 0).N
    = MlpOutRefIdeal.Read.val_main_v78 (a0 m c) (a1 m c) (a2 m c) (a3 m c) (a4 m c) := by
  refine (Gen.dats m 0 c).arrAt_eq_of_covers 9 _ (by decide +kernel) fun t hf y => ?_
  blk_simp
  rw [after0_9]
  idx_vars y
  rw [em9]
  exact ((every m c t).2.1 y0 y1).trans (dz_eq H (row t y0) y1)

/-- The fifth is the second, rounded. -/
theorem dhb (H : Fin5 m c) : (Gen.dats m 0 c).arrAt 10 (cfgs 0).N
    = MlpOutRefIdeal.Read.val_main_v79 (a0 m c) (a1 m c) (a2 m c) (a3 m c) (a4 m c) := by
  refine (Gen.dats m 0 c).arrAt_eq_of_covers 10 _ (by decide +kernel) fun t hf y => ?_
  blk_simp
  rw [after0_10]
  idx_vars y
  rw [em10]
  exact ((every m c t).2.2 y0 y1).trans (dh_eq H (row t y0) y1).symm

/-- The precondition makes the entries of the arguments reals. -/
theorem reals (h : Pre_MlpOutIdeal_mlp_out_finite m) : Fin5 m c := by
  have e := congrFun (h c) (fun a => a.elim0)
  obtain ⟨e, h4⟩ := andi_one e
  obtain ⟨e, h3⟩ := andi_one e
  obtain ⟨e, h2⟩ := andi_one e
  obtain ⟨h0, h1⟩ := andi_one e
  exact ⟨isReal_of_all _ _ _ _ _ _ h0, isReal_of_all _ _ _ _ _ _ h1, isReal_of_all _ _ _ _ _ _ h2, isReal_of_all _ _ _ _ _ _ h3, isReal_of_all _ _ _ _ _ _ h4⟩

/-- The last product, the loss and the last norm's backward: the five results of the call are the reference's. -/
theorem algebraic : algebraic_MlpOutIdeal_MlpOutRefIdeal_pre_mlp_out_finite := by
  intro m g m' g' hp hm
  refine ⟨_, _, _, _, _, Value.run_blocks m g, (θ_run MlpOutRefIdeal.defs _ _).mono (fun r h c => ?_) (MlpOutRefIdeal.Value.run m' g')⟩
  obtain ⟨e0, e1, e2, e3, e4⟩ := hm c
  have H := reals m c hp
  exact ⟨
    ((h c).1).trans ((MlpOutRefIdeal.Read.val_main_v76_eq _ _).trans (by rw [e0, e1, e2, e3, e4]; exact (loss m c H).symm)),
    ((h c).2.1).trans ((MlpOutRefIdeal.Read.val_main_v69_eq _ _).trans (by rw [e0, e1, e2, e3, e4]; exact (dx m c H).symm)),
    ((h c).2.2.1).trans ((MlpOutRefIdeal.Read.val_main_v77_eq _ _).trans (by rw [e0, e1, e2, e3, e4]; exact (dg m c H).symm)),
    ((h c).2.2.2.1).trans ((MlpOutRefIdeal.Read.val_main_v78_eq _ _).trans (by rw [e0, e1, e2, e3, e4]; exact (dz m c H).symm)),
    ((h c).2.2.2.2.1).trans ((MlpOutRefIdeal.Read.val_main_v79_eq _ _).trans (by rw [e0, e1, e2, e3, e4]; exact (dhb m c H).symm)),
    (h c).2.2.2.2.2⟩

/-- The reference runs, leaves its arguments as they were and declares no semaphore. -/
theorem ref_frame : quiescent_MlpOutRefIdeal := fun m ρ _ =>
  (θ_run MlpOutRefIdeal.defs _ _).mono (fun r h => ⟨fun c => (h c).2.2.2.2.2, sem_eq_zero_of_no_sems (by decide) r.2⟩) (MlpOutRefIdeal.Value.run m ρ)

/-- The claims of the last product, the loss and the last norm's backward. -/
theorem claims : quiescent_MlpOutIdeal ∧ quiescent_MlpOutIdeal_pre_mlp_out_finite ∧ quiescent_MlpOutRefIdeal
    ∧ quiescent_MlpOutRefIdeal_pre_mlp_out_finite ∧ preserves_MlpOut_MlpOutIdeal ∧ algebraic_MlpOutIdeal_MlpOutRefIdeal_pre_mlp_out_finite :=
  ⟨fun m ρ _ => Gen.frame m ρ, fun m ρ _ => Gen.frame m ρ, ref_frame, fun m ρ _ => ref_frame m ρ trivial, trivial, algebraic⟩

end Cert.Proof.MlpOut

end
-- ==== Proof.SsmParamBwd.lean ====
module

public import proofs.«01_k».proof.Defs
public import proofs.«01_k».proof.Proof.Gen.SsmParamBwdIdeal
public import proofs.«01_k».proof.Proof.Gen.SsmParamBwdIdeal.Frame
public import proofs.«01_k».proof.Proof.Gen.SsmParamBwdRefIdeal.Read
public import proofs.«01_k».proof.Proof.Gen.SsmParamBwdRefIdeal.Run
public import Idealize.ShloMosaic.Lib.Pointwise
public import Idealize.ShloMosaic.Lib.StableHlo.ReadAt
public import Idealize.ShloMosaic.Lib.KernelVsHost
public import Idealize.ShloMosaic.Lib.Pipeline.ValueKit
public import Idealize.ShloMosaic.Lib.Pipeline.ReadBack

@[expose] public section

set_option maxRecDepth 16384
set_option maxHeartbeats 1000000

noncomputable section

namespace Cert.Proof.SsmParamBwd

open Idealize.ShloMosaic Idealize.ShloMosaic.TcCoe Idealize.SL.Sem
open Cert.SsmParamBwdIdeal Cert.SsmParamBwdIdeal.Gen
open Idealize.ShloMosaic.Pipeline (Dat)

/-- Blocks `x` of step `t` of the call hold the entries of the arguments `y`. -/
structure Held (x0 x1 : Vec Ideal S1x32x64 .f32) (x2 : Vec Ideal S1x32x1 .f32) (x3 x4 : Vec Ideal S1x32x16x64 .f32) (x5 x6 : Vec Ideal S1x32x64 .f32)
    (x7 x8 : Vec Ideal S1x32x16x64 .f32) (y0 y1 : S1x2x32x64.Idx → EReal) (y2 : S1x2x32.Idx → EReal) (y3 y4 : S1x2x32x64x16.Idx → EReal)
    (y5 y6 : S2x32x64.Idx → EReal) (y7 y8 : S2x32x16x64.Idx → EReal) (t : Fin 2) : Prop where
  h0 : ∀ g n, x0 (ix3 0 g n) = y0 (ix4 0 t g n)
  h1 : ∀ g n, x1 (ix3 0 g n) = y1 (ix4 0 t g n)
  h2 : ∀ g, x2 (ix3 0 g 0) = y2 (ix3 0 t g)
  h3 : ∀ g p n, x3 (ix4 0 g p n) = y3 (ix5 0 t g n p)
  h4 : ∀ g p n, x4 (ix4 0 g p n) = y4 (ix5 0 t g n p)
  h5 : ∀ g n, x5 (ix3 0 g n) = y5 (ix3 t g n)
  h6 : ∀ g n, x6 (ix3 0 g n) = y6 (ix3 t g n)
  h7 : ∀ g p n, x7 (ix4 0 g p n) = y7 (ix4 t g p n)
  h8 : ∀ g p n, x8 (ix4 0 g p n) = y8 (ix4 t g p n)

variable {x0 x1 : Vec Ideal S1x32x64 .f32} {x2 : Vec Ideal S1x32x1 .f32} {x3 x4 : Vec Ideal S1x32x16x64 .f32} {x5 x6 : Vec Ideal S1x32x64 .f32}
  {x7 x8 : Vec Ideal S1x32x16x64 .f32} {y0 y1 : S1x2x32x64.Idx → EReal} {y2 : S1x2x32.Idx → EReal} {y3 y4 : S1x2x32x64x16.Idx → EReal}
  {y5 y6 : S2x32x64.Idx → EReal} {y7 y8 : S2x32x16x64.Idx → EReal} {t : Fin 2}

/-- The imaginary part of the eigenvalue. -/
theorem p57 (H : Held x0 x1 x2 x3 x4 x5 x6 x7 x8 y0 y1 y2 y3 y4 y5 y6 y7 y8 t) (g : Fin 32) (n : Fin 64) :
    k0_pay57 x0 x1 x2 x3 x4 x5 x6 x7 x8 (ix2 g n) = SsmParamBwdRefIdeal.Read.val_main_v3 (F := Ideal) y1 (ix3 t g n) := by
  pointwise [k0_pay57, k0_pay4,
    SsmParamBwdRefIdeal.Read.val_main_v3]
  simp only [H.h0, H.h1, H.h2, H.h3, H.h4, H.h5, H.h6, H.h7, H.h8, zero_sub, Fintype.sum_unique]

/-- The real part of the input matrix. -/
theorem p58 (H : Held x0 x1 x2 x3 x4 x5 x6 x7 x8 y0 y1 y2 y3 y4 y5 y6 y7 y8 t) (g : Fin 32) (p : Fin 16) (n : Fin 64) :
    k0_pay58 x0 x1 x2 x3 x4 x5 x6 x7 x8 (ix3 g p n) = SsmParamBwdRefIdeal.Read.val_main_v5 (F := Ideal) y3 (ix4 t g n p) := by
  pointwise [k0_pay58, k0_pay5,
    SsmParamBwdRefIdeal.Read.val_main_v5]
  simp only [H.h0, H.h1, H.h2, H.h3, H.h4, H.h5, H.h6, H.h7, H.h8, zero_sub, Fintype.sum_unique]

/-- The imaginary part of the input matrix. -/
theorem p59 (H : Held x0 x1 x2 x3 x4 x5 x6 x7 x8 y0 y1 y2 y3 y4 y5 y6 y7 y8 t) (g : Fin 32) (p : Fin 16) (n : Fin 64) :
    k0_pay59 x0 x1 x2 x3 x4 x5 x6 x7 x8 (ix3 g p n) = SsmParamBwdRefIdeal.Read.val_main_v6 (F := Ideal) y4 (ix4 t g n p) := by
  pointwise [k0_pay59, k0_pay6,
    SsmParamBwdRefIdeal.Read.val_main_v6]
  simp only [H.h0, H.h1, H.h2, H.h3, H.h4, H.h5, H.h6, H.h7, H.h8, zero_sub, Fintype.sum_unique]

/-- The step length. -/
theorem p60 (H : Held x0 x1 x2 x3 x4 x5 x6 x7 x8 y0 y1 y2 y3 y4 y5 y6 y7 y8 t) (g : Fin 32) :
    k0_pay60 x0 x1 x2 x3 x4 x5 x6 x7 x8 (ix2 g 0) = SsmParamBwdRefIdeal.Read.val_main_v7 (F := Ideal) y2 (ix2 t g) := by
  pointwise [k0_pay60, k0_pay7,
    SsmParamBwdRefIdeal.Read.val_main_v7, SsmParamBwdRefIdeal.Read.val_main_v4]
  simp only [H.h0, H.h1, H.h2, H.h3, H.h4, H.h5, H.h6, H.h7, H.h8, zero_sub, Fintype.sum_unique]

/-- The real part of the eigenvalue, bounded. -/
theorem p61 (H : Held x0 x1 x2 x3 x4 x5 x6 x7 x8 y0 y1 y2 y3 y4 y5 y6 y7 y8 t) (g : Fin 32) (n : Fin 64) :
    k0_pay61 x0 x1 x2 x3 x4 x5 x6 x7 x8 (ix2 g n) = SsmParamBwdRefIdeal.Read.val_main_v10 (F := Ideal) y0 (ix3 t g n) := by
  pointwise [k0_pay61, k0_pay8, k0_pay3,
    SsmParamBwdRefIdeal.Read.val_main_v10, SsmParamBwdRefIdeal.Read.val_main_v2, SsmParamBwdRefIdeal.Read.val_main_v9, SsmParamBwdRefIdeal.Read.val_main_cst]
  simp only [H.h0, H.h1, H.h2, H.h3, H.h4, H.h5, H.h6, H.h7, H.h8, zero_sub, Fintype.sum_unique]

/-- The derivative of the bound. -/
theorem p9 (H : Held x0 x1 x2 x3 x4 x5 x6 x7 x8 y0 y1 y2 y3 y4 y5 y6 y7 y8 t) (g : Fin 32) (n : Fin 64) :
    k0_pay9 (View.ld x0 r0_0) (ix2 g n) = SsmParamBwdRefIdeal.Read.val_main_v19 (F := Ideal) y0 (ix3 t g n) := by
  pointwise [k0_pay9, k0_pay3,
    SsmParamBwdRefIdeal.Read.val_main_v19, SsmParamBwdRefIdeal.Read.val_main_v12, SsmParamBwdRefIdeal.Read.val_main_v15, SsmParamBwdRefIdeal.Read.val_main_v18, SsmParamBwdRefIdeal.Read.val_main_v11, SsmParamBwdRefIdeal.Read.val_main_v2, SsmParamBwdRefIdeal.Read.val_main_cst_2, SsmParamBwdRefIdeal.Read.val_main_v14, SsmParamBwdRefIdeal.Read.val_main_v17, SsmParamBwdRefIdeal.Read.val_main_v16, SsmParamBwdRefIdeal.Read.val_main_cst_0, SsmParamBwdRefIdeal.Read.val_main_v13, SsmParamBwdRefIdeal.Read.val_main_cst_4, SsmParamBwdRefIdeal.Read.val_main_cst_3, SsmParamBwdRefIdeal.Read.val_main_cst_1]
  simp only [H.h0, H.h1, H.h2, H.h3, H.h4, H.h5, H.h6, H.h7, H.h8, zero_sub, Fintype.sum_unique]

/-- The magnitude. -/
theorem p62 (H : Held x0 x1 x2 x3 x4 x5 x6 x7 x8 y0 y1 y2 y3 y4 y5 y6 y7 y8 t) (g : Fin 32) (n : Fin 64) :
    k0_pay62 x0 x1 x2 x3 x4 x5 x6 x7 x8 (ix2 g n) = SsmParamBwdRefIdeal.Read.val_main_v22 (F := Ideal) y0 y2 (ix3 t g n) := by
  pointwise [k0_pay62, k0_pay10, k0_pay8, k0_pay7, k0_pay3,
    SsmParamBwdRefIdeal.Read.val_main_v22, SsmParamBwdRefIdeal.Read.val_main_v21, SsmParamBwdRefIdeal.Read.val_main_v10, SsmParamBwdRefIdeal.Read.val_main_v20, SsmParamBwdRefIdeal.Read.val_main_v2, SsmParamBwdRefIdeal.Read.val_main_v9, SsmParamBwdRefIdeal.Read.val_main_v8, SsmParamBwdRefIdeal.Read.val_main_cst, SsmParamBwdRefIdeal.Read.val_main_v7, SsmParamBwdRefIdeal.Read.val_main_v4]
  simp only [H.h0, H.h1, H.h2, H.h3, H.h4, H.h5, H.h6, H.h7, H.h8, zero_sub, Fintype.sum_unique]

/-- A cosine or sine of the angle. -/
theorem p63 (H : Held x0 x1 x2 x3 x4 x5 x6 x7 x8 y0 y1 y2 y3 y4 y5 y6 y7 y8 t) (g : Fin 32) (n : Fin 64) :
    k0_pay63 x0 x1 x2 x3 x4 x5 x6 x7 x8 (ix2 g n) = SsmParamBwdRefIdeal.Read.val_main_v25 (F := Ideal) y1 y2 (ix3 t g n) := by
  pointwise [k0_pay63, k0_pay12, k0_pay11, k0_pay4, k0_pay7,
    SsmParamBwdRefIdeal.Read.val_main_v25, SsmParamBwdRefIdeal.Read.val_main_v24, SsmParamBwdRefIdeal.Read.val_main_v3, SsmParamBwdRefIdeal.Read.val_main_v23, SsmParamBwdRefIdeal.Read.val_main_v8, SsmParamBwdRefIdeal.Read.val_main_v7, SsmParamBwdRefIdeal.Read.val_main_v4]
  simp only [H.h0, H.h1, H.h2, H.h3, H.h4, H.h5, H.h6, H.h7, H.h8, zero_sub, Fintype.sum_unique]

/-- A cosine or sine of the angle. -/
theorem p64 (H : Held x0 x1 x2 x3 x4 x5 x6 x7 x8 y0 y1 y2 y3 y4 y5 y6 y7 y8 t) (g : Fin 32) (n : Fin 64) :
    k0_pay64 x0 x1 x2 x3 x4 x5 x6 x7 x8 (ix2 g n) = SsmParamBwdRefIdeal.Read.val_main_v26 (F := Ideal) y1 y2 (ix3 t g n) := by
  pointwise [k0_pay64, k0_pay13, k0_pay11, k0_pay4, k0_pay7,
    SsmParamBwdRefIdeal.Read.val_main_v26, SsmParamBwdRefIdeal.Read.val_main_v24, SsmParamBwdRefIdeal.Read.val_main_v3, SsmParamBwdRefIdeal.Read.val_main_v23, SsmParamBwdRefIdeal.Read.val_main_v8, SsmParamBwdRefIdeal.Read.val_main_v7, SsmParamBwdRefIdeal.Read.val_main_v4]
  simp only [H.h0, H.h1, H.h2, H.h3, H.h4, H.h5, H.h6, H.h7, H.h8, zero_sub, Fintype.sum_unique]

/-- A cosine or sine of the angle. -/
theorem p65 (H : Held x0 x1 x2 x3 x4 x5 x6 x7 x8 y0 y1 y2 y3 y4 y5 y6 y7 y8 t) (g : Fin 32) (n : Fin 64) :
    k0_pay65 x0 x1 x2 x3 x4 x5 x6 x7 x8 (ix2 g n) = SsmParamBwdRefIdeal.Read.val_main_v28 (F := Ideal) y1 y2 (ix3 t g n) := by
  pointwise [k0_pay65, k0_pay14, k0_pay11, k0_pay4, k0_pay7,
    SsmParamBwdRefIdeal.Read.val_main_v28, SsmParamBwdRefIdeal.Read.val_main_v24, SsmParamBwdRefIdeal.Read.val_main_v3, SsmParamBwdRefIdeal.Read.val_main_v23, SsmParamBwdRefIdeal.Read.val_main_v8, SsmParamBwdRefIdeal.Read.val_main_v7, SsmParamBwdRefIdeal.Read.val_main_v4]
  simp only [H.h0, H.h1, H.h2, H.h3, H.h4, H.h5, H.h6, H.h7, H.h8, zero_sub, Fintype.sum_unique]

/-- A cosine or sine of the angle. -/
theorem p66 (H : Held x0 x1 x2 x3 x4 x5 x6 x7 x8 y0 y1 y2 y3 y4 y5 y6 y7 y8 t) (g : Fin 32) (n : Fin 64) :
    k0_pay66 x0 x1 x2 x3 x4 x5 x6 x7 x8 (ix2 g n) = SsmParamBwdRefIdeal.Read.val_main_v29 (F := Ideal) y1 y2 (ix3 t g n) := by
  pointwise [k0_pay66, k0_pay15, k0_pay11, k0_pay4, k0_pay7,
    SsmParamBwdRefIdeal.Read.val_main_v29, SsmParamBwdRefIdeal.Read.val_main_v24, SsmParamBwdRefIdeal.Read.val_main_v3, SsmParamBwdRefIdeal.Read.val_main_v23, SsmParamBwdRefIdeal.Read.val_main_v8, SsmParamBwdRefIdeal.Read.val_main_v7, SsmParamBwdRefIdeal.Read.val_main_v4]
  simp only [H.h0, H.h1, H.h2, H.h3, H.h4, H.h5, H.h6, H.h7, H.h8, zero_sub, Fintype.sum_unique]

/-- The imaginary part of the discrete eigenvalue. -/
theorem p67 (H : Held x0 x1 x2 x3 x4 x5 x6 x7 x8 y0 y1 y2 y3 y4 y5 y6 y7 y8 t) (g : Fin 32) (n : Fin 64) :
    k0_pay67 x0 x1 x2 x3 x4 x5 x6 x7 x8 (ix2 g n) = SsmParamBwdRefIdeal.Read.val_main_v30 (F := Ideal) y0 y1 y2 (ix3 t g n) := by
  pointwise [k0_pay67, k0_pay16, k0_pay10, k0_pay14, k0_pay8, k0_pay7, k0_pay3, k0_pay11, k0_pay4,
    SsmParamBwdRefIdeal.Read.val_main_v30, SsmParamBwdRefIdeal.Read.val_main_v22, SsmParamBwdRefIdeal.Read.val_main_v28, SsmParamBwdRefIdeal.Read.val_main_v21, SsmParamBwdRefIdeal.Read.val_main_v24, SsmParamBwdRefIdeal.Read.val_main_v10, SsmParamBwdRefIdeal.Read.val_main_v20, SsmParamBwdRefIdeal.Read.val_main_v3, SsmParamBwdRefIdeal.Read.val_main_v23, SsmParamBwdRefIdeal.Read.val_main_v2, SsmParamBwdRefIdeal.Read.val_main_v9, SsmParamBwdRefIdeal.Read.val_main_v8, SsmParamBwdRefIdeal.Read.val_main_cst, SsmParamBwdRefIdeal.Read.val_main_v7, SsmParamBwdRefIdeal.Read.val_main_v4]
  simp only [H.h0, H.h1, H.h2, H.h3, H.h4, H.h5, H.h6, H.h7, H.h8, zero_sub, Fintype.sum_unique]

/-- The real part of the discrete eigenvalue, less one. -/
theorem p68 (H : Held x0 x1 x2 x3 x4 x5 x6 x7 x8 y0 y1 y2 y3 y4 y5 y6 y7 y8 t) (g : Fin 32) (n : Fin 64) :
    k0_pay68 x0 x1 x2 x3 x4 x5 x6 x7 x8 (ix2 g n) = SsmParamBwdRefIdeal.Read.val_main_v32 (F := Ideal) y0 y1 y2 (ix3 t g n) := by
  pointwise [k0_pay68, k0_pay17, k0_pay10, k0_pay12, k0_pay8, k0_pay7, k0_pay3, k0_pay11, k0_pay4,
    SsmParamBwdRefIdeal.Read.val_main_v32, SsmParamBwdRefIdeal.Read.val_main_v27, SsmParamBwdRefIdeal.Read.val_main_v31, SsmParamBwdRefIdeal.Read.val_main_v22, SsmParamBwdRefIdeal.Read.val_main_v25, SsmParamBwdRefIdeal.Read.val_main_cst_5, SsmParamBwdRefIdeal.Read.val_main_v21, SsmParamBwdRefIdeal.Read.val_main_v24, SsmParamBwdRefIdeal.Read.val_main_v10, SsmParamBwdRefIdeal.Read.val_main_v20, SsmParamBwdRefIdeal.Read.val_main_v3, SsmParamBwdRefIdeal.Read.val_main_v23, SsmParamBwdRefIdeal.Read.val_main_v2, SsmParamBwdRefIdeal.Read.val_main_v9, SsmParamBwdRefIdeal.Read.val_main_v8, SsmParamBwdRefIdeal.Read.val_main_cst, SsmParamBwdRefIdeal.Read.val_main_v7, SsmParamBwdRefIdeal.Read.val_main_v4]
  simp only [H.h0, H.h1, H.h2, H.h3, H.h4, H.h5, H.h6, H.h7, H.h8, zero_sub, Fintype.sum_unique]

/-- The square of the eigenvalue. -/
theorem p69 (H : Held x0 x1 x2 x3 x4 x5 x6 x7 x8 y0 y1 y2 y3 y4 y5 y6 y7 y8 t) (g : Fin 32) (n : Fin 64) :
    k0_pay69 x0 x1 x2 x3 x4 x5 x6 x7 x8 (ix2 g n) = SsmParamBwdRefIdeal.Read.val_main_v35 (F := Ideal) y0 y1 (ix3 t g n) := by
  pointwise [k0_pay69, k0_pay18,
    SsmParamBwdRefIdeal.Read.val_main_v35, SsmParamBwdRefIdeal.Read.val_main_v33, SsmParamBwdRefIdeal.Read.val_main_v34]
  simp only [H.h0, H.h1, H.h2, H.h3, H.h4, H.h5, H.h6, H.h7, H.h8, p57 H, p61 H, zero_sub, Fintype.sum_unique]

/-- A numerator. -/
theorem p70 (H : Held x0 x1 x2 x3 x4 x5 x6 x7 x8 y0 y1 y2 y3 y4 y5 y6 y7 y8 t) (g : Fin 32) (n : Fin 64) :
    k0_pay70 x0 x1 x2 x3 x4 x5 x6 x7 x8 (ix2 g n) = SsmParamBwdRefIdeal.Read.val_main_v38 (F := Ideal) y0 y1 y2 (ix3 t g n) := by
  pointwise [k0_pay70, k0_pay19,
    SsmParamBwdRefIdeal.Read.val_main_v38, SsmParamBwdRefIdeal.Read.val_main_v36, SsmParamBwdRefIdeal.Read.val_main_v37]
  simp only [H.h0, H.h1, H.h2, H.h3, H.h4, H.h5, H.h6, H.h7, H.h8, p57 H, p61 H, p67 H, p68 H, zero_sub, Fintype.sum_unique]

/-- The derivative of a quotient. -/
theorem p71 (H : Held x0 x1 x2 x3 x4 x5 x6 x7 x8 y0 y1 y2 y3 y4 y5 y6 y7 y8 t) (g : Fin 32) (n : Fin 64) :
    k0_pay71 x0 x1 x2 x3 x4 x5 x6 x7 x8 (ix2 g n) = SsmParamBwdRefIdeal.Read.val_main_v42 (F := Ideal) y0 y1 (ix3 t g n) := by
  pointwise [k0_pay71, k0_pay21, k0_pay18,
    SsmParamBwdRefIdeal.Read.val_main_v42, SsmParamBwdRefIdeal.Read.val_main_v41, SsmParamBwdRefIdeal.Read.val_main_v40, SsmParamBwdRefIdeal.Read.val_main_cst_6]
  simp only [H.h0, H.h1, H.h2, H.h3, H.h4, H.h5, H.h6, H.h7, H.h8, p57 H, p61 H, zero_sub, Fintype.sum_unique]
  rfl

/-- A numerator. -/
theorem p72 (H : Held x0 x1 x2 x3 x4 x5 x6 x7 x8 y0 y1 y2 y3 y4 y5 y6 y7 y8 t) (g : Fin 32) (n : Fin 64) :
    k0_pay72 x0 x1 x2 x3 x4 x5 x6 x7 x8 (ix2 g n) = SsmParamBwdRefIdeal.Read.val_main_v45 (F := Ideal) y0 y1 y2 (ix3 t g n) := by
  pointwise [k0_pay72, k0_pay22,
    SsmParamBwdRefIdeal.Read.val_main_v45, SsmParamBwdRefIdeal.Read.val_main_v43, SsmParamBwdRefIdeal.Read.val_main_v44]
  simp only [H.h0, H.h1, H.h2, H.h3, H.h4, H.h5, H.h6, H.h7, H.h8, p57 H, p61 H, p67 H, p68 H, zero_sub, Fintype.sum_unique]

/-- The derivative of a quotient. -/
theorem p73 (H : Held x0 x1 x2 x3 x4 x5 x6 x7 x8 y0 y1 y2 y3 y4 y5 y6 y7 y8 t) (g : Fin 32) (n : Fin 64) :
    k0_pay73 x0 x1 x2 x3 x4 x5 x6 x7 x8 (ix2 g n) = SsmParamBwdRefIdeal.Read.val_main_v49 (F := Ideal) y0 y1 (ix3 t g n) := by
  pointwise [k0_pay73, k0_pay24, k0_pay18,
    SsmParamBwdRefIdeal.Read.val_main_v49, SsmParamBwdRefIdeal.Read.val_main_v48, SsmParamBwdRefIdeal.Read.val_main_v47, SsmParamBwdRefIdeal.Read.val_main_cst_7]
  simp only [H.h0, H.h1, H.h2, H.h3, H.h4, H.h5, H.h6, H.h7, H.h8, p57 H, p61 H, zero_sub, Fintype.sum_unique]
  rfl

/-- The cotangent at the real part of the discrete input matrix. -/
theorem p74 (H : Held x0 x1 x2 x3 x4 x5 x6 x7 x8 y0 y1 y2 y3 y4 y5 y6 y7 y8 t) (g : Fin 32) (p : Fin 16) (n : Fin 64) :
    k0_pay74 x0 x1 x2 x3 x4 x5 x6 x7 x8 (ix3 g p n) = SsmParamBwdRefIdeal.Read.val_main_v0 (F := Ideal) y7 (ix4 t g n p) := by
  pointwise [k0_pay74, k0_pay29,
    SsmParamBwdRefIdeal.Read.val_main_v0]
  simp only [H.h0, H.h1, H.h2, H.h3, H.h4, H.h5, H.h6, H.h7, H.h8, zero_sub, Fintype.sum_unique]

/-- A sum over the channels. -/
theorem p75 (H : Held x0 x1 x2 x3 x4 x5 x6 x7 x8 y0 y1 y2 y3 y4 y5 y6 y7 y8 t) (g : Fin 32) (n : Fin 64) :
    k0_pay75 x0 x1 x2 x3 x4 x5 x6 x7 x8 (ix2 g n) = SsmParamBwdRefIdeal.Read.val_main_v69 (F := Ideal) y3 y8 (ix3 t g n) := by
  pointwise [k0_pay75, k0_pay34, k0_pay32, k0_pay30,
    SsmParamBwdRefIdeal.Read.val_main_v69, SsmParamBwdRefIdeal.Read.val_main_v68, SsmParamBwdRefIdeal.Read.val_main_cst_9, SsmParamBwdRefIdeal.Read.val_main_v67, SsmParamBwdRefIdeal.Read.val_main_v66, SsmParamBwdRefIdeal.Read.val_main_cst_8, SsmParamBwdRefIdeal.Read.val_main_v1]
  simp only [H.h0, H.h1, H.h2, H.h3, H.h4, H.h5, H.h6, H.h7, H.h8, p58 H, zero_sub, Fintype.sum_unique]

/-- A sum over the channels. -/
theorem p76 (H : Held x0 x1 x2 x3 x4 x5 x6 x7 x8 y0 y1 y2 y3 y4 y5 y6 y7 y8 t) (g : Fin 32) (n : Fin 64) :
    k0_pay76 x0 x1 x2 x3 x4 x5 x6 x7 x8 (ix2 g n) = SsmParamBwdRefIdeal.Read.val_main_v73 (F := Ideal) y4 y8 (ix3 t g n) := by
  pointwise [k0_pay76, k0_pay36, k0_pay31, k0_pay30,
    SsmParamBwdRefIdeal.Read.val_main_v73, SsmParamBwdRefIdeal.Read.val_main_v72, SsmParamBwdRefIdeal.Read.val_main_cst_10, SsmParamBwdRefIdeal.Read.val_main_v1]
  simp only [H.h0, H.h1, H.h2, H.h3, H.h4, H.h5, H.h6, H.h7, H.h8, p59 H, zero_sub, Fintype.sum_unique]

/-- The real part of the factor of the input matrix. -/
theorem p20 (H : Held x0 x1 x2 x3 x4 x5 x6 x7 x8 y0 y1 y2 y3 y4 y5 y6 y7 y8 t) (g : Fin 32) (n : Fin 64) :
    k0_pay20 (k0_pay57 x0 x1 x2 x3 x4 x5 x6 x7 x8) (k0_pay61 x0 x1 x2 x3 x4 x5 x6 x7 x8) (k0_pay67 x0 x1 x2 x3 x4 x5 x6 x7 x8) (k0_pay68 x0 x1 x2 x3 x4 x5 x6 x7 x8) (ix2 g n) = SsmParamBwdRefIdeal.Read.val_main_v39 (F := Ideal) y0 y1 y2 (ix3 t g n) := by
  pointwise [k0_pay20, k0_pay18, k0_pay19,
    SsmParamBwdRefIdeal.Read.val_main_v39]
  simp only [H.h0, H.h1, H.h2, H.h3, H.h4, H.h5, H.h6, H.h7, H.h8, p57 H, p61 H, p67 H, p68 H, zero_sub, Fintype.sum_unique]
  rfl

/-- Its imaginary part. -/
theorem p23 (H : Held x0 x1 x2 x3 x4 x5 x6 x7 x8 y0 y1 y2 y3 y4 y5 y6 y7 y8 t) (g : Fin 32) (n : Fin 64) :
    k0_pay23 (k0_pay57 x0 x1 x2 x3 x4 x5 x6 x7 x8) (k0_pay61 x0 x1 x2 x3 x4 x5 x6 x7 x8) (k0_pay67 x0 x1 x2 x3 x4 x5 x6 x7 x8) (k0_pay68 x0 x1 x2 x3 x4 x5 x6 x7 x8) (ix2 g n) = SsmParamBwdRefIdeal.Read.val_main_v46 (F := Ideal) y0 y1 y2 (ix3 t g n) := by
  pointwise [k0_pay23, k0_pay18, k0_pay22,
    SsmParamBwdRefIdeal.Read.val_main_v46]
  simp only [H.h0, H.h1, H.h2, H.h3, H.h4, H.h5, H.h6, H.h7, H.h8, p57 H, p61 H, p67 H, p68 H, zero_sub, Fintype.sum_unique]
  rfl

/-- The cotangent at the factor. -/
theorem p40 (H : Held x0 x1 x2 x3 x4 x5 x6 x7 x8 y0 y1 y2 y3 y4 y5 y6 y7 y8 t) (g : Fin 32) (n : Fin 64) :
    k0_pay40 (k0_pay59 x0 x1 x2 x3 x4 x5 x6 x7 x8) (k0_pay74 x0 x1 x2 x3 x4 x5 x6 x7 x8) (k0_pay75 x0 x1 x2 x3 x4 x5 x6 x7 x8) (ix2 g n) = SsmParamBwdRefIdeal.Read.val_main_v84 (F := Ideal) y3 y4 y7 y8 (ix3 t g n) := by
  pointwise [k0_pay40, k0_pay38,
    SsmParamBwdRefIdeal.Read.val_main_v84, SsmParamBwdRefIdeal.Read.val_main_v83, SsmParamBwdRefIdeal.Read.val_main_v82, SsmParamBwdRefIdeal.Read.val_main_cst_13, SsmParamBwdRefIdeal.Read.val_main_v81, SsmParamBwdRefIdeal.Read.val_main_v80, SsmParamBwdRefIdeal.Read.val_main_cst_12, SsmParamBwdRefIdeal.Read.val_main_v76]
  simp only [H.h0, H.h1, H.h2, H.h3, H.h4, H.h5, H.h6, H.h7, H.h8, p59 H, p74 H, p75 H, zero_sub, Fintype.sum_unique]

/-- The cotangent at the factor. -/
theorem p42 (H : Held x0 x1 x2 x3 x4 x5 x6 x7 x8 y0 y1 y2 y3 y4 y5 y6 y7 y8 t) (g : Fin 32) (n : Fin 64) :
    k0_pay42 (k0_pay58 x0 x1 x2 x3 x4 x5 x6 x7 x8) (k0_pay74 x0 x1 x2 x3 x4 x5 x6 x7 x8) (k0_pay76 x0 x1 x2 x3 x4 x5 x6 x7 x8) (ix2 g n) = SsmParamBwdRefIdeal.Read.val_main_v92 (F := Ideal) y3 y4 y7 y8 (ix3 t g n) := by
  pointwise [k0_pay42, k0_pay37,
    SsmParamBwdRefIdeal.Read.val_main_v92, SsmParamBwdRefIdeal.Read.val_main_v75, SsmParamBwdRefIdeal.Read.val_main_v91, SsmParamBwdRefIdeal.Read.val_main_v74, SsmParamBwdRefIdeal.Read.val_main_cst_11, SsmParamBwdRefIdeal.Read.val_main_v90, SsmParamBwdRefIdeal.Read.val_main_cst_15, SsmParamBwdRefIdeal.Read.val_main_v89, SsmParamBwdRefIdeal.Read.val_main_v88, SsmParamBwdRefIdeal.Read.val_main_cst_14]
  simp only [H.h0, H.h1, H.h2, H.h3, H.h4, H.h5, H.h6, H.h7, H.h8, p58 H, p74 H, p76 H, zero_sub, Fintype.sum_unique]

/-- A cotangent at a numerator. -/
theorem p43 (H : Held x0 x1 x2 x3 x4 x5 x6 x7 x8 y0 y1 y2 y3 y4 y5 y6 y7 y8 t) (g : Fin 32) (n : Fin 64) :
    k0_pay43 (k0_pay59 x0 x1 x2 x3 x4 x5 x6 x7 x8) (k0_pay69 x0 x1 x2 x3 x4 x5 x6 x7 x8) (k0_pay74 x0 x1 x2 x3 x4 x5 x6 x7 x8) (k0_pay75 x0 x1 x2 x3 x4 x5 x6 x7 x8) (ix2 g n) = SsmParamBwdRefIdeal.Read.val_main_v96 (F := Ideal) y0 y1 y3 y4 y7 y8 (ix3 t g n) := by
  pointwise [k0_pay43,
    SsmParamBwdRefIdeal.Read.val_main_v96]
  simp only [H.h0, H.h1, H.h2, H.h3, H.h4, H.h5, H.h6, H.h7, H.h8, p40 H, p59 H, p69 H, p74 H, p75 H, zero_sub, Fintype.sum_unique]

/-- A cotangent at a numerator. -/
theorem p46 (H : Held x0 x1 x2 x3 x4 x5 x6 x7 x8 y0 y1 y2 y3 y4 y5 y6 y7 y8 t) (g : Fin 32) (n : Fin 64) :
    k0_pay46 (k0_pay58 x0 x1 x2 x3 x4 x5 x6 x7 x8) (k0_pay69 x0 x1 x2 x3 x4 x5 x6 x7 x8) (k0_pay74 x0 x1 x2 x3 x4 x5 x6 x7 x8) (k0_pay76 x0 x1 x2 x3 x4 x5 x6 x7 x8) (ix2 g n) = SsmParamBwdRefIdeal.Read.val_main_v108 (F := Ideal) y0 y1 y3 y4 y7 y8 (ix3 t g n) := by
  pointwise [k0_pay46,
    SsmParamBwdRefIdeal.Read.val_main_v108]
  simp only [H.h0, H.h1, H.h2, H.h3, H.h4, H.h5, H.h6, H.h7, H.h8, p42 H, p58 H, p69 H, p74 H, p76 H, zero_sub, Fintype.sum_unique]

/-- The cotangent at the square of the eigenvalue. -/
theorem p45 (H : Held x0 x1 x2 x3 x4 x5 x6 x7 x8 y0 y1 y2 y3 y4 y5 y6 y7 y8 t) (g : Fin 32) (n : Fin 64) :
    k0_pay45 (k0_pay58 x0 x1 x2 x3 x4 x5 x6 x7 x8) (k0_pay59 x0 x1 x2 x3 x4 x5 x6 x7 x8) (k0_pay70 x0 x1 x2 x3 x4 x5 x6 x7 x8) (k0_pay71 x0 x1 x2 x3 x4 x5 x6 x7 x8) (k0_pay72 x0 x1 x2 x3 x4 x5 x6 x7 x8) (k0_pay73 x0 x1 x2 x3 x4 x5 x6 x7 x8) (k0_pay74 x0 x1 x2 x3 x4 x5 x6 x7 x8) (k0_pay75 x0 x1 x2 x3 x4 x5 x6 x7 x8) (k0_pay76 x0 x1 x2 x3 x4 x5 x6 x7 x8) (ix2 g n) = SsmParamBwdRefIdeal.Read.val_main_v107 (F := Ideal) y0 y1 y2 y3 y4 y7 y8 (ix3 t g n) := by
  pointwise [k0_pay45,
    SsmParamBwdRefIdeal.Read.val_main_v107, SsmParamBwdRefIdeal.Read.val_main_v95, SsmParamBwdRefIdeal.Read.val_main_v106, SsmParamBwdRefIdeal.Read.val_main_v94, SsmParamBwdRefIdeal.Read.val_main_v105, SsmParamBwdRefIdeal.Read.val_main_v93, SsmParamBwdRefIdeal.Read.val_main_v104]
  simp only [H.h0, H.h1, H.h2, H.h3, H.h4, H.h5, H.h6, H.h7, H.h8, p40 H, p42 H, p58 H, p59 H, p70 H, p71 H, p72 H, p73 H, p74 H, p75 H, p76 H, zero_sub, Fintype.sum_unique]

/-- The cotangent at the imaginary part of the discrete eigenvalue. -/
theorem p77 (H : Held x0 x1 x2 x3 x4 x5 x6 x7 x8 y0 y1 y2 y3 y4 y5 y6 y7 y8 t) (g : Fin 32) (n : Fin 64) :
    k0_pay77 x0 x1 x2 x3 x4 x5 x6 x7 x8 (ix2 g n) = SsmParamBwdRefIdeal.Read.val_main_v112 (F := Ideal) y0 y1 y3 y4 y6 y7 y8 (ix3 t g n) := by
  pointwise [k0_pay77, k0_pay47, k0_pay28,
    SsmParamBwdRefIdeal.Read.val_main_v112, SsmParamBwdRefIdeal.Read.val_main_v103, SsmParamBwdRefIdeal.Read.val_main_v111, SsmParamBwdRefIdeal.Read.val_main_v102]
  simp only [H.h0, H.h1, H.h2, H.h3, H.h4, H.h5, H.h6, H.h7, H.h8, p43 H, p46 H, p57 H, p58 H, p59 H, p61 H, p69 H, p74 H, p75 H, p76 H, zero_sub, Fintype.sum_unique]

/-- The cotangent at the real part of the discrete eigenvalue. -/
theorem p78 (H : Held x0 x1 x2 x3 x4 x5 x6 x7 x8 y0 y1 y2 y3 y4 y5 y6 y7 y8 t) (g : Fin 32) (n : Fin 64) :
    k0_pay78 x0 x1 x2 x3 x4 x5 x6 x7 x8 (ix2 g n) = SsmParamBwdRefIdeal.Read.val_main_v116 (F := Ideal) y0 y1 y3 y4 y5 y7 y8 (ix3 t g n) := by
  pointwise [k0_pay78, k0_pay49, k0_pay44, k0_pay27,
    SsmParamBwdRefIdeal.Read.val_main_v116, SsmParamBwdRefIdeal.Read.val_main_v100, SsmParamBwdRefIdeal.Read.val_main_v115, SsmParamBwdRefIdeal.Read.val_main_v99, SsmParamBwdRefIdeal.Read.val_main_v97]
  simp only [H.h0, H.h1, H.h2, H.h3, H.h4, H.h5, H.h6, H.h7, H.h8, p43 H, p46 H, p57 H, p58 H, p59 H, p61 H, p69 H, p74 H, p75 H, p76 H, zero_sub, Fintype.sum_unique]

/-- A part of the cotangent at the real part of the eigenvalue. -/
theorem p48 (H : Held x0 x1 x2 x3 x4 x5 x6 x7 x8 y0 y1 y2 y3 y4 y5 y6 y7 y8 t) (g : Fin 32) (n : Fin 64) :
    k0_pay48 (k0_pay58 x0 x1 x2 x3 x4 x5 x6 x7 x8) (k0_pay59 x0 x1 x2 x3 x4 x5 x6 x7 x8) (k0_pay67 x0 x1 x2 x3 x4 x5 x6 x7 x8) (k0_pay68 x0 x1 x2 x3 x4 x5 x6 x7 x8) (k0_pay69 x0 x1 x2 x3 x4 x5 x6 x7 x8) (k0_pay74 x0 x1 x2 x3 x4 x5 x6 x7 x8) (k0_pay75 x0 x1 x2 x3 x4 x5 x6 x7 x8) (k0_pay76 x0 x1 x2 x3 x4 x5 x6 x7 x8) (ix2 g n) = SsmParamBwdRefIdeal.Read.val_main_v114 (F := Ideal) y0 y1 y2 y3 y4 y7 y8 (ix3 t g n) := by
  pointwise [k0_pay48,
    SsmParamBwdRefIdeal.Read.val_main_v114, SsmParamBwdRefIdeal.Read.val_main_v101, SsmParamBwdRefIdeal.Read.val_main_v113]
  simp only [H.h0, H.h1, H.h2, H.h3, H.h4, H.h5, H.h6, H.h7, H.h8, p43 H, p46 H, p58 H, p59 H, p67 H, p68 H, p69 H, p74 H, p75 H, p76 H, zero_sub, Fintype.sum_unique]

/-- A part of the cotangent at the imaginary part of the eigenvalue. -/
theorem p50 (H : Held x0 x1 x2 x3 x4 x5 x6 x7 x8 y0 y1 y2 y3 y4 y5 y6 y7 y8 t) (g : Fin 32) (n : Fin 64) :
    k0_pay50 (k0_pay57 x0 x1 x2 x3 x4 x5 x6 x7 x8) (k0_pay58 x0 x1 x2 x3 x4 x5 x6 x7 x8) (k0_pay59 x0 x1 x2 x3 x4 x5 x6 x7 x8) (k0_pay67 x0 x1 x2 x3 x4 x5 x6 x7 x8) (k0_pay68 x0 x1 x2 x3 x4 x5 x6 x7 x8) (k0_pay69 x0 x1 x2 x3 x4 x5 x6 x7 x8) (k0_pay70 x0 x1 x2 x3 x4 x5 x6 x7 x8) (k0_pay71 x0 x1 x2 x3 x4 x5 x6 x7 x8) (k0_pay72 x0 x1 x2 x3 x4 x5 x6 x7 x8) (k0_pay73 x0 x1 x2 x3 x4 x5 x6 x7 x8) (k0_pay74 x0 x1 x2 x3 x4 x5 x6 x7 x8) (k0_pay75 x0 x1 x2 x3 x4 x5 x6 x7 x8) (k0_pay76 x0 x1 x2 x3 x4 x5 x6 x7 x8) (ix2 g n) = SsmParamBwdRefIdeal.Read.val_main_v118 (F := Ideal) y0 y1 y2 y3 y4 y7 y8 (ix3 t g n) := by
  pointwise [k0_pay50, k0_pay44,
    SsmParamBwdRefIdeal.Read.val_main_v118, SsmParamBwdRefIdeal.Read.val_main_v110, SsmParamBwdRefIdeal.Read.val_main_v117, SsmParamBwdRefIdeal.Read.val_main_v98, SsmParamBwdRefIdeal.Read.val_main_v109, SsmParamBwdRefIdeal.Read.val_main_v97]
  simp only [H.h0, H.h1, H.h2, H.h3, H.h4, H.h5, H.h6, H.h7, H.h8, p43 H, p45 H, p46 H, p57 H, p58 H, p59 H, p67 H, p68 H, p69 H, p70 H, p71 H, p72 H, p73 H, p74 H, p75 H, p76 H, zero_sub, Fintype.sum_unique]

/-- Another part of it. -/
theorem p51 (H : Held x0 x1 x2 x3 x4 x5 x6 x7 x8 y0 y1 y2 y3 y4 y5 y6 y7 y8 t) (g : Fin 32) (n : Fin 64) :
    k0_pay51 (k0_pay57 x0 x1 x2 x3 x4 x5 x6 x7 x8) (k0_pay58 x0 x1 x2 x3 x4 x5 x6 x7 x8) (k0_pay59 x0 x1 x2 x3 x4 x5 x6 x7 x8) (k0_pay70 x0 x1 x2 x3 x4 x5 x6 x7 x8) (k0_pay71 x0 x1 x2 x3 x4 x5 x6 x7 x8) (k0_pay72 x0 x1 x2 x3 x4 x5 x6 x7 x8) (k0_pay73 x0 x1 x2 x3 x4 x5 x6 x7 x8) (k0_pay74 x0 x1 x2 x3 x4 x5 x6 x7 x8) (k0_pay75 x0 x1 x2 x3 x4 x5 x6 x7 x8) (k0_pay76 x0 x1 x2 x3 x4 x5 x6 x7 x8) (ix2 g n) = SsmParamBwdRefIdeal.Read.val_main_v119 (F := Ideal) y0 y1 y2 y3 y4 y7 y8 (ix3 t g n) := by
  pointwise [k0_pay51,
    SsmParamBwdRefIdeal.Read.val_main_v119]
  simp only [H.h0, H.h1, H.h2, H.h3, H.h4, H.h5, H.h6, H.h7, H.h8, p45 H, p57 H, p58 H, p59 H, p70 H, p71 H, p72 H, p73 H, p74 H, p75 H, p76 H, zero_sub, Fintype.sum_unique]

/-- The cotangent at the angle. -/
theorem p52 (H : Held x0 x1 x2 x3 x4 x5 x6 x7 x8 y0 y1 y2 y3 y4 y5 y6 y7 y8 t) (g : Fin 32) (n : Fin 64) :
    k0_pay52 (k0_pay62 x0 x1 x2 x3 x4 x5 x6 x7 x8) (k0_pay64 x0 x1 x2 x3 x4 x5 x6 x7 x8) (k0_pay66 x0 x1 x2 x3 x4 x5 x6 x7 x8) (k0_pay77 x0 x1 x2 x3 x4 x5 x6 x7 x8) (k0_pay78 x0 x1 x2 x3 x4 x5 x6 x7 x8) (ix2 g n) = SsmParamBwdRefIdeal.Read.val_main_v133 (F := Ideal) y0 y1 y2 y3 y4 y5 y6 y7 y8 (ix3 t g n) := by
  pointwise [k0_pay52,
    SsmParamBwdRefIdeal.Read.val_main_v133, SsmParamBwdRefIdeal.Read.val_main_v127, SsmParamBwdRefIdeal.Read.val_main_v132, SsmParamBwdRefIdeal.Read.val_main_v125, SsmParamBwdRefIdeal.Read.val_main_v131, SsmParamBwdRefIdeal.Read.val_main_v128]
  simp only [H.h0, H.h1, H.h2, H.h3, H.h4, H.h5, H.h6, H.h7, H.h8, p62 H, p64 H, p66 H, p77 H, p78 H, zero_sub, Fintype.sum_unique]

/-- The cotangent at the exponent. -/
theorem p53 (H : Held x0 x1 x2 x3 x4 x5 x6 x7 x8 y0 y1 y2 y3 y4 y5 y6 y7 y8 t) (g : Fin 32) (n : Fin 64) :
    k0_pay53 (k0_pay62 x0 x1 x2 x3 x4 x5 x6 x7 x8) (k0_pay63 x0 x1 x2 x3 x4 x5 x6 x7 x8) (k0_pay65 x0 x1 x2 x3 x4 x5 x6 x7 x8) (k0_pay77 x0 x1 x2 x3 x4 x5 x6 x7 x8) (k0_pay78 x0 x1 x2 x3 x4 x5 x6 x7 x8) (ix2 g n) = SsmParamBwdRefIdeal.Read.val_main_v140 (F := Ideal) y0 y1 y2 y3 y4 y5 y6 y7 y8 (ix3 t g n) := by
  pointwise [k0_pay53,
    SsmParamBwdRefIdeal.Read.val_main_v140, SsmParamBwdRefIdeal.Read.val_main_v130, SsmParamBwdRefIdeal.Read.val_main_v126, SsmParamBwdRefIdeal.Read.val_main_v129]
  simp only [H.h0, H.h1, H.h2, H.h3, H.h4, H.h5, H.h6, H.h7, H.h8, p62 H, p63 H, p65 H, p77 H, p78 H, zero_sub, Fintype.sum_unique]

/-- The gradient at the real part of the eigenvalue. -/
theorem o9 (H : Held x0 x1 x2 x3 x4 x5 x6 x7 x8 y0 y1 y2 y3 y4 y5 y6 y7 y8 t) (g : Fin 32) (n : Fin 64) :
    k0_pay54 (k0_pay60 x0 x1 x2 x3 x4 x5 x6 x7 x8) (k0_pay61 x0 x1 x2 x3 x4 x5 x6 x7 x8) (k0_pay9 (View.ld x0 r0_0)) (k0_pay62 x0 x1 x2 x3 x4 x5 x6 x7 x8) (k0_pay63 x0 x1 x2 x3 x4 x5 x6 x7 x8) (k0_pay65 x0 x1 x2 x3 x4 x5 x6 x7 x8) (k0_pay45 (k0_pay58 x0 x1 x2 x3 x4 x5 x6 x7 x8) (k0_pay59 x0 x1 x2 x3 x4 x5 x6 x7 x8) (k0_pay70 x0 x1 x2 x3 x4 x5 x6 x7 x8) (k0_pay71 x0 x1 x2 x3 x4 x5 x6 x7 x8) (k0_pay72 x0 x1 x2 x3 x4 x5 x6 x7 x8) (k0_pay73 x0 x1 x2 x3 x4 x5 x6 x7 x8) (k0_pay74 x0 x1 x2 x3 x4 x5 x6 x7 x8) (k0_pay75 x0 x1 x2 x3 x4 x5 x6 x7 x8) (k0_pay76 x0 x1 x2 x3 x4 x5 x6 x7 x8)) (k0_pay77 x0 x1 x2 x3 x4 x5 x6 x7 x8) (k0_pay48 (k0_pay58 x0 x1 x2 x3 x4 x5 x6 x7 x8) (k0_pay59 x0 x1 x2 x3 x4 x5 x6 x7 x8) (k0_pay67 x0 x1 x2 x3 x4 x5 x6 x7 x8) (k0_pay68 x0 x1 x2 x3 x4 x5 x6 x7 x8) (k0_pay69 x0 x1 x2 x3 x4 x5 x6 x7 x8) (k0_pay74 x0 x1 x2 x3 x4 x5 x6 x7 x8) (k0_pay75 x0 x1 x2 x3 x4 x5 x6 x7 x8) (k0_pay76 x0 x1 x2 x3 x4 x5 x6 x7 x8)) (k0_pay78 x0 x1 x2 x3 x4 x5 x6 x7 x8) (ix3 0 g n) = SsmParamBwdRefIdeal.Read.val_main_v148 (F := Ideal) y0 y1 y2 y3 y4 y5 y6 y7 y8 (ix3 t g n) := by
  pointwise [k0_pay54,
    SsmParamBwdRefIdeal.Read.val_main_v148, SsmParamBwdRefIdeal.Read.val_main_v147, SsmParamBwdRefIdeal.Read.val_main_v124, SsmParamBwdRefIdeal.Read.val_main_v146, SsmParamBwdRefIdeal.Read.val_main_v122, SsmParamBwdRefIdeal.Read.val_main_v123, SsmParamBwdRefIdeal.Read.val_main_v145, SsmParamBwdRefIdeal.Read.val_main_v121, SsmParamBwdRefIdeal.Read.val_main_v8]
  simp only [H.h0, H.h1, H.h2, H.h3, H.h4, H.h5, H.h6, H.h7, H.h8, p9 H, p45 H, p48 H, p53 H, p58 H, p59 H, p60 H, p61 H, p62 H, p63 H, p65 H, p67 H, p68 H, p69 H, p70 H, p71 H, p72 H, p73 H, p74 H, p75 H, p76 H, p77 H, p78 H, zero_sub, Fintype.sum_unique]

/-- The gradient at its imaginary part. -/
theorem o10 (H : Held x0 x1 x2 x3 x4 x5 x6 x7 x8 y0 y1 y2 y3 y4 y5 y6 y7 y8 t) (g : Fin 32) (n : Fin 64) :
    k0_pay55 (k0_pay60 x0 x1 x2 x3 x4 x5 x6 x7 x8) (k0_pay62 x0 x1 x2 x3 x4 x5 x6 x7 x8) (k0_pay64 x0 x1 x2 x3 x4 x5 x6 x7 x8) (k0_pay66 x0 x1 x2 x3 x4 x5 x6 x7 x8) (k0_pay77 x0 x1 x2 x3 x4 x5 x6 x7 x8) (k0_pay78 x0 x1 x2 x3 x4 x5 x6 x7 x8) (k0_pay50 (k0_pay57 x0 x1 x2 x3 x4 x5 x6 x7 x8) (k0_pay58 x0 x1 x2 x3 x4 x5 x6 x7 x8) (k0_pay59 x0 x1 x2 x3 x4 x5 x6 x7 x8) (k0_pay67 x0 x1 x2 x3 x4 x5 x6 x7 x8) (k0_pay68 x0 x1 x2 x3 x4 x5 x6 x7 x8) (k0_pay69 x0 x1 x2 x3 x4 x5 x6 x7 x8) (k0_pay70 x0 x1 x2 x3 x4 x5 x6 x7 x8) (k0_pay71 x0 x1 x2 x3 x4 x5 x6 x7 x8) (k0_pay72 x0 x1 x2 x3 x4 x5 x6 x7 x8) (k0_pay73 x0 x1 x2 x3 x4 x5 x6 x7 x8) (k0_pay74 x0 x1 x2 x3 x4 x5 x6 x7 x8) (k0_pay75 x0 x1 x2 x3 x4 x5 x6 x7 x8) (k0_pay76 x0 x1 x2 x3 x4 x5 x6 x7 x8)) (k0_pay51 (k0_pay57 x0 x1 x2 x3 x4 x5 x6 x7 x8) (k0_pay58 x0 x1 x2 x3 x4 x5 x6 x7 x8) (k0_pay59 x0 x1 x2 x3 x4 x5 x6 x7 x8) (k0_pay70 x0 x1 x2 x3 x4 x5 x6 x7 x8) (k0_pay71 x0 x1 x2 x3 x4 x5 x6 x7 x8) (k0_pay72 x0 x1 x2 x3 x4 x5 x6 x7 x8) (k0_pay73 x0 x1 x2 x3 x4 x5 x6 x7 x8) (k0_pay74 x0 x1 x2 x3 x4 x5 x6 x7 x8) (k0_pay75 x0 x1 x2 x3 x4 x5 x6 x7 x8) (k0_pay76 x0 x1 x2 x3 x4 x5 x6 x7 x8)) (ix3 0 g n) = SsmParamBwdRefIdeal.Read.val_main_v139 (F := Ideal) y0 y1 y2 y3 y4 y5 y6 y7 y8 (ix3 t g n) := by
  pointwise [k0_pay55,
    SsmParamBwdRefIdeal.Read.val_main_v139, SsmParamBwdRefIdeal.Read.val_main_v120, SsmParamBwdRefIdeal.Read.val_main_v138, SsmParamBwdRefIdeal.Read.val_main_v137, SsmParamBwdRefIdeal.Read.val_main_v8]
  simp only [H.h0, H.h1, H.h2, H.h3, H.h4, H.h5, H.h6, H.h7, H.h8, p50 H, p51 H, p52 H, p57 H, p58 H, p59 H, p60 H, p62 H, p64 H, p66 H, p67 H, p68 H, p69 H, p70 H, p71 H, p72 H, p73 H, p74 H, p75 H, p76 H, p77 H, p78 H, zero_sub, Fintype.sum_unique]

/-- The gradient at the logarithm of the step length. -/
theorem o11 (H : Held x0 x1 x2 x3 x4 x5 x6 x7 x8 y0 y1 y2 y3 y4 y5 y6 y7 y8 t) (g : Fin 32) :
    k0_pay56 (k0_pay57 x0 x1 x2 x3 x4 x5 x6 x7 x8) (k0_pay60 x0 x1 x2 x3 x4 x5 x6 x7 x8) (k0_pay61 x0 x1 x2 x3 x4 x5 x6 x7 x8) (k0_pay62 x0 x1 x2 x3 x4 x5 x6 x7 x8) (k0_pay63 x0 x1 x2 x3 x4 x5 x6 x7 x8) (k0_pay64 x0 x1 x2 x3 x4 x5 x6 x7 x8) (k0_pay65 x0 x1 x2 x3 x4 x5 x6 x7 x8) (k0_pay66 x0 x1 x2 x3 x4 x5 x6 x7 x8) (k0_pay77 x0 x1 x2 x3 x4 x5 x6 x7 x8) (k0_pay78 x0 x1 x2 x3 x4 x5 x6 x7 x8) (ix3 0 g 0) = SsmParamBwdRefIdeal.Read.val_main_v151 (F := Ideal) y0 y1 y2 y3 y4 y5 y6 y7 y8 (ix3 t g 0) := by
  pointwise [k0_pay56,
    SsmParamBwdRefIdeal.Read.val_main_v151, SsmParamBwdRefIdeal.Read.val_main_v150, SsmParamBwdRefIdeal.Read.val_main_v149, SsmParamBwdRefIdeal.Read.val_main_v144, SsmParamBwdRefIdeal.Read.val_main_cst_18, SsmParamBwdRefIdeal.Read.val_main_v136, SsmParamBwdRefIdeal.Read.val_main_v143, SsmParamBwdRefIdeal.Read.val_main_v135, SsmParamBwdRefIdeal.Read.val_main_v142, SsmParamBwdRefIdeal.Read.val_main_v134, SsmParamBwdRefIdeal.Read.val_main_cst_16, SsmParamBwdRefIdeal.Read.val_main_v141, SsmParamBwdRefIdeal.Read.val_main_cst_17]
  simp only [H.h0, H.h1, H.h2, H.h3, H.h4, H.h5, H.h6, H.h7, H.h8, p52 H, p53 H, p57 H, p60 H, p61 H, p62 H, p63 H, p64 H, p65 H, p66 H, p77 H, p78 H, zero_sub, Fintype.sum_unique]

/-- A part of the gradient at the real part of the input matrix. -/
theorem p33 (H : Held x0 x1 x2 x3 x4 x5 x6 x7 x8 y0 y1 y2 y3 y4 y5 y6 y7 y8 t) (g : Fin 32) (p : Fin 16) (n : Fin 64) :
    k0_pay33 (k0_pay57 x0 x1 x2 x3 x4 x5 x6 x7 x8) (k0_pay61 x0 x1 x2 x3 x4 x5 x6 x7 x8) (k0_pay67 x0 x1 x2 x3 x4 x5 x6 x7 x8) (k0_pay68 x0 x1 x2 x3 x4 x5 x6 x7 x8) (View.ld x8 r0_2) (ix3 g p n) = SsmParamBwdRefIdeal.Read.val_main_v65 (F := Ideal) y0 y1 y2 y8 (ix4 t g n p) := by
  pointwise [k0_pay33, k0_pay32, k0_pay30,
    SsmParamBwdRefIdeal.Read.val_main_v65, SsmParamBwdRefIdeal.Read.val_main_v64, SsmParamBwdRefIdeal.Read.val_main_v1, SsmParamBwdRefIdeal.Read.val_main_v60]
  simp only [H.h0, H.h1, H.h2, H.h3, H.h4, H.h5, H.h6, H.h7, H.h8, p23 H, p57 H, p61 H, p67 H, p68 H, zero_sub, Fintype.sum_unique]

/-- A part of the gradient at the imaginary part. -/
theorem p35 (H : Held x0 x1 x2 x3 x4 x5 x6 x7 x8 y0 y1 y2 y3 y4 y5 y6 y7 y8 t) (g : Fin 32) (p : Fin 16) (n : Fin 64) :
    k0_pay35 (k0_pay57 x0 x1 x2 x3 x4 x5 x6 x7 x8) (k0_pay61 x0 x1 x2 x3 x4 x5 x6 x7 x8) (k0_pay67 x0 x1 x2 x3 x4 x5 x6 x7 x8) (k0_pay68 x0 x1 x2 x3 x4 x5 x6 x7 x8) (View.ld x8 r0_2) (ix3 g p n) = SsmParamBwdRefIdeal.Read.val_main_v71 (F := Ideal) y0 y1 y2 y8 (ix4 t g n p) := by
  pointwise [k0_pay35, k0_pay31, k0_pay30,
    SsmParamBwdRefIdeal.Read.val_main_v71, SsmParamBwdRefIdeal.Read.val_main_v70, SsmParamBwdRefIdeal.Read.val_main_v1, SsmParamBwdRefIdeal.Read.val_main_v57]
  simp only [H.h0, H.h1, H.h2, H.h3, H.h4, H.h5, H.h6, H.h7, H.h8, p20 H, p57 H, p61 H, p67 H, p68 H, zero_sub, Fintype.sum_unique]

/-- The gradient at the real part of the input matrix. -/
theorem o12 (H : Held x0 x1 x2 x3 x4 x5 x6 x7 x8 y0 y1 y2 y3 y4 y5 y6 y7 y8 t) (g : Fin 32) (p : Fin 16) (n : Fin 64) :
    k0_pay1 (k0_pay41 (k0_pay25 (k0_pay57 x0 x1 x2 x3 x4 x5 x6 x7 x8) (k0_pay61 x0 x1 x2 x3 x4 x5 x6 x7 x8) (k0_pay67 x0 x1 x2 x3 x4 x5 x6 x7 x8) (k0_pay68 x0 x1 x2 x3 x4 x5 x6 x7 x8)) (k0_pay74 x0 x1 x2 x3 x4 x5 x6 x7 x8) (k0_pay33 (k0_pay57 x0 x1 x2 x3 x4 x5 x6 x7 x8) (k0_pay61 x0 x1 x2 x3 x4 x5 x6 x7 x8) (k0_pay67 x0 x1 x2 x3 x4 x5 x6 x7 x8) (k0_pay68 x0 x1 x2 x3 x4 x5 x6 x7 x8) (View.ld x8 r0_2))) (ix4 0 g p n) = SsmParamBwdRefIdeal.Read.val_main_v152 (F := Ideal) y0 y1 y2 y7 y8 (ix4 t g p n) := by
  pointwise [k0_pay1, k0_pay41, k0_pay25, k0_pay37,
    SsmParamBwdRefIdeal.Read.val_main_v152, SsmParamBwdRefIdeal.Read.val_main_v87, SsmParamBwdRefIdeal.Read.val_main_v86, SsmParamBwdRefIdeal.Read.val_main_v85, SsmParamBwdRefIdeal.Read.val_main_v50]
  simp only [H.h0, H.h1, H.h2, H.h3, H.h4, H.h5, H.h6, H.h7, H.h8, p20 H, p33 H, p57 H, p61 H, p67 H, p68 H, p74 H, zero_sub, Fintype.sum_unique]

/-- The gradient at its imaginary part. -/
theorem o13 (H : Held x0 x1 x2 x3 x4 x5 x6 x7 x8 y0 y1 y2 y3 y4 y5 y6 y7 y8 t) (g : Fin 32) (p : Fin 16) (n : Fin 64) :
    k0_pay2 (k0_pay39 (k0_pay26 (k0_pay57 x0 x1 x2 x3 x4 x5 x6 x7 x8) (k0_pay61 x0 x1 x2 x3 x4 x5 x6 x7 x8) (k0_pay67 x0 x1 x2 x3 x4 x5 x6 x7 x8) (k0_pay68 x0 x1 x2 x3 x4 x5 x6 x7 x8)) (k0_pay74 x0 x1 x2 x3 x4 x5 x6 x7 x8) (k0_pay35 (k0_pay57 x0 x1 x2 x3 x4 x5 x6 x7 x8) (k0_pay61 x0 x1 x2 x3 x4 x5 x6 x7 x8) (k0_pay67 x0 x1 x2 x3 x4 x5 x6 x7 x8) (k0_pay68 x0 x1 x2 x3 x4 x5 x6 x7 x8) (View.ld x8 r0_2))) (ix4 0 g p n) = SsmParamBwdRefIdeal.Read.val_main_v153 (F := Ideal) y0 y1 y2 y7 y8 (ix4 t g p n) := by
  pointwise [k0_pay2, k0_pay39, k0_pay26, k0_pay38,
    SsmParamBwdRefIdeal.Read.val_main_v153, SsmParamBwdRefIdeal.Read.val_main_v79, SsmParamBwdRefIdeal.Read.val_main_v78, SsmParamBwdRefIdeal.Read.val_main_v77, SsmParamBwdRefIdeal.Read.val_main_v76, SsmParamBwdRefIdeal.Read.val_main_v53]
  simp only [H.h0, H.h1, H.h2, H.h3, H.h4, H.h5, H.h6, H.h7, H.h8, p23 H, p35 H, p57 H, p61 H, p67 H, p68 H, p74 H, zero_sub, Fintype.sum_unique]
variable (m : (ℓ : Loc nD τ sig) → Buf (Elt Ideal) ℓ) (c : Dev nD)

/-! ### The blocks -/

/-- Every window is at direction `t`. -/
theorem idx : ∀ t : Fin cfg0.N, (win0_0.index t = ![t.val, 0, 0] ∧ win0_1.index t = ![t.val, 0, 0] ∧ win0_2.index t = ![t.val, 0, 0]
    ∧ win0_3.index t = ![t.val, 0, 0, 0] ∧ win0_4.index t = ![t.val, 0, 0, 0] ∧ win0_5.index t = ![t.val, 0, 0] ∧ win0_6.index t = ![t.val, 0, 0])
    ∧ win0_7.index t = ![t.val, 0, 0, 0] ∧ win0_8.index t = ![t.val, 0, 0, 0] ∧ win0_9.index t = ![t.val, 0, 0] ∧ win0_10.index t = ![t.val, 0, 0]
    ∧ win0_11.index t = ![t.val, 0, 0] ∧ win0_12.index t = ![t.val, 0, 0, 0] ∧ win0_13.index t = ![t.val, 0, 0, 0] :=
  (by decide +kernel : ∀ t : Fin grid0.N, (win0_0.index t = ![t.val, 0, 0] ∧ win0_1.index t = ![t.val, 0, 0] ∧ win0_2.index t = ![t.val, 0, 0]
    ∧ win0_3.index t = ![t.val, 0, 0, 0] ∧ win0_4.index t = ![t.val, 0, 0, 0] ∧ win0_5.index t = ![t.val, 0, 0] ∧ win0_6.index t = ![t.val, 0, 0])
    ∧ win0_7.index t = ![t.val, 0, 0, 0] ∧ win0_8.index t = ![t.val, 0, 0, 0] ∧ win0_9.index t = ![t.val, 0, 0] ∧ win0_10.index t = ![t.val, 0, 0]
    ∧ win0_11.index t = ![t.val, 0, 0] ∧ win0_12.index t = ![t.val, 0, 0, 0] ∧ win0_13.index t = ![t.val, 0, 0, 0])

/-! The argument arrays, as arrays of extended reals. -/

/-! The nine arguments of the call: eigenvalues, step sizes, input matrix and the four cotangents. -/

def a0 : S1x2x32x64.Idx → EReal := m ((c : Thread nD τ).loc main_arg0)
def a1 : S1x2x32x64.Idx → EReal := m ((c : Thread nD τ).loc main_arg1)
def a2 : S1x2x32.Idx → EReal := m ((c : Thread nD τ).loc main_arg2)
def a3 : S1x2x32x64x16.Idx → EReal := m ((c : Thread nD τ).loc main_arg3)
def a4 : S1x2x32x64x16.Idx → EReal := m ((c : Thread nD τ).loc main_arg4)
def a5 : S2x32x64.Idx → EReal := m ((c : Thread nD τ).loc main_arg5)
def a6 : S2x32x64.Idx → EReal := m ((c : Thread nD τ).loc main_arg6)
def a7 : S2x32x16x64.Idx → EReal := m ((c : Thread nD τ).loc main_arg7)
def a8 : S2x32x16x64.Idx → EReal := m ((c : Thread nD τ).loc main_arg8)

/-- The direction of step `t`. -/
def dir (t : Fin cfg0.N) : Fin 2 := ⟨t.val, t.isLt⟩

/-- The blocks of step `t` hold the arguments' entries of its direction. -/
theorem held (t : Fin cfg0.N) : Held (iblk m c 0 t) (iblk m c 1 t) (iblk m c 2 t) (iblk m c 3 t) (iblk m c 4 t) (iblk m c 5 t) (iblk m c 6 t)
    (iblk m c 7 t) (iblk m c 8 t) (a0 m c) (a1 m c) (a2 m c) (a3 m c) (a4 m c) (a5 m c) (a6 m c) (a7 m c) (a8 m c) (dir t) where
  h0 g n := by blk_point [iblk, dir, (idx t).1.1]
  h1 g n := by blk_point [iblk, dir, (idx t).1.2.1]
  h2 g := by blk_point [iblk, dir, (idx t).1.2.2.1]
  h3 g p n := by blk_point [iblk, dir, (idx t).1.2.2.2.1]
  h4 g p n := by blk_point [iblk, dir, (idx t).1.2.2.2.2.1]
  h5 g n := by blk_point [iblk, dir, (idx t).1.2.2.2.2.2.1]
  h6 g n := by blk_point [iblk, dir, (idx t).1.2.2.2.2.2.2]
  h7 g p n := by blk_point [iblk, dir, (idx t).2.1]
  h8 g p n := by blk_point [iblk, dir, (idx t).2.2.1]

/-! The places in the arrays of the places of the output windows. -/

/-- Where step `t` writes its entry of the real parts of the eigenvalues' gradient. -/
theorem em9 (t : Fin cfg0.N) (g : Fin 32) (n : Fin 64) : ((View.whole main_v8_0).slice (win0_9.rect t)).emb (ix3 0 g n) = ix3 (dir t) g n := by
  blk_point [dir, (idx t).2.2.2.1]

/-- Where step `t` writes its entry of the imaginary parts of the eigenvalues' gradient. -/
theorem em10 (t : Fin cfg0.N) (g : Fin 32) (n : Fin 64) : ((View.whole main_v8_1).slice (win0_10.rect t)).emb (ix3 0 g n) = ix3 (dir t) g n := by
  blk_point [dir, (idx t).2.2.2.2.1]

/-- Where step `t` writes its entry of the gradient at the step sizes. -/
theorem em11 (t : Fin cfg0.N) (g : Fin 32) : ((View.whole main_v8_2).slice (win0_11.rect t)).emb (ix3 0 g 0) = ix3 (dir t) g 0 := by
  blk_point [dir, (idx t).2.2.2.2.2.1]

/-- Where step `t` writes its entry of the gradient at the real parts of the input matrix. -/
theorem em12 (t : Fin cfg0.N) (g : Fin 32) (p : Fin 16) (n : Fin 64) : ((View.whole main_v8_3).slice (win0_12.rect t)).emb (ix4 0 g p n) = ix4 (dir t) g p n := by
  blk_point [dir, (idx t).2.2.2.2.2.2.1]

/-- Where step `t` writes its entry of the gradient at the imaginary parts of the input matrix. -/
theorem em13 (t : Fin cfg0.N) (g : Fin 32) (p : Fin 16) (n : Fin 64) : ((View.whole main_v8_4).slice (win0_13.rect t)).emb (ix4 0 g p n) = ix4 (dir t) g p n := by
  blk_point [dir, (idx t).2.2.2.2.2.2.2]

/-! ### The results -/

/-- The first result is the gradient at the real part of the eigenvalue. -/
theorem da_re : (Gen.dats m 0 c).arrAt 9 (cfgs 0).N = SsmParamBwdRefIdeal.Read.val_main_v148 (F := Ideal) (a0 m c) (a1 m c) (a2 m c) (a3 m c) (a4 m c) (a5 m c) (a6 m c) (a7 m c) (a8 m c) := by
  refine (Gen.dats m 0 c).arrAt_eq_of_covers 9 _ (by decide +kernel) fun t _ y => ?_
  blk_simp
  rw [after0_9]
  idx_vars y
  obtain rfl : y0 = 0 := Subsingleton.elim _ _
  rw [em9]
  unfold out0_9
  refine Eq.trans ?_ (o9 (held m c t) y1 y2)
  frame_out

/-- The second is the gradient at its imaginary part. -/
theorem da_im : (Gen.dats m 0 c).arrAt 10 (cfgs 0).N = SsmParamBwdRefIdeal.Read.val_main_v139 (F := Ideal) (a0 m c) (a1 m c) (a2 m c) (a3 m c) (a4 m c) (a5 m c) (a6 m c) (a7 m c) (a8 m c) := by
  refine (Gen.dats m 0 c).arrAt_eq_of_covers 10 _ (by decide +kernel) fun t _ y => ?_
  blk_simp
  rw [after0_10]
  idx_vars y
  obtain rfl : y0 = 0 := Subsingleton.elim _ _
  rw [em10]
  unfold out0_10
  refine Eq.trans ?_ (o10 (held m c t) y1 y2)
  frame_out

/-- The third is the gradient at the logarithm of the step length. -/
theorem dld : (Gen.dats m 0 c).arrAt 11 (cfgs 0).N = SsmParamBwdRefIdeal.Read.val_main_v151 (F := Ideal) (a0 m c) (a1 m c) (a2 m c) (a3 m c) (a4 m c) (a5 m c) (a6 m c) (a7 m c) (a8 m c) := by
  refine (Gen.dats m 0 c).arrAt_eq_of_covers 11 _ (by decide +kernel) fun t _ y => ?_
  blk_simp
  rw [after0_11]
  idx_vars y
  obtain rfl : y0 = 0 := Subsingleton.elim _ _
  obtain rfl : y2 = 0 := Subsingleton.elim _ _
  rw [em11]
  unfold out0_11
  refine Eq.trans ?_ (o11 (held m c t) y1)
  frame_out

/-- The fourth is the gradient at the real part of the input matrix. -/
theorem db_re : (Gen.dats m 0 c).arrAt 12 (cfgs 0).N = SsmParamBwdRefIdeal.Read.val_main_v152 (F := Ideal) (a0 m c) (a1 m c) (a2 m c) (a7 m c) (a8 m c) := by
  refine (Gen.dats m 0 c).arrAt_eq_of_covers 12 _ (by decide +kernel) fun t _ y => ?_
  blk_simp
  rw [after0_12]
  idx_vars y
  obtain rfl : y0 = 0 := Subsingleton.elim _ _
  rw [em12]
  unfold out0_12
  refine Eq.trans ?_ (o12 (held m c t) y1 y2 y3)
  frame_out

/-- The fifth is the gradient at its imaginary part. -/
theorem db_im : (Gen.dats m 0 c).arrAt 13 (cfgs 0).N = SsmParamBwdRefIdeal.Read.val_main_v153 (F := Ideal) (a0 m c) (a1 m c) (a2 m c) (a7 m c) (a8 m c) := by
  refine (Gen.dats m 0 c).arrAt_eq_of_covers 13 _ (by decide +kernel) fun t _ y => ?_
  blk_simp
  rw [after0_13]
  idx_vars y
  obtain rfl : y0 = 0 := Subsingleton.elim _ _
  rw [em13]
  unfold out0_13
  refine Eq.trans ?_ (o13 (held m c t) y1 y2 y3)
  frame_out

/-! ### The claims -/

/-- The call runs, leaves in its result arrays what the library says, and its arguments as they were. -/
theorem run_results (g : Dev nD → PrngReg) : θ_run defs (onTc (τ := τ) (main (F := Ideal))) ⟨m, fun _ => 0, g⟩ fun r => ∀ c : Dev nD,
    r.2.mem ((c : Thread nD τ).loc main_v8_0) = (Gen.dats m 0 c).arrAt 9 (cfgs 0).N
    ∧ r.2.mem ((c : Thread nD τ).loc main_v8_1) = (Gen.dats m 0 c).arrAt 10 (cfgs 0).N
    ∧ r.2.mem ((c : Thread nD τ).loc main_v8_2) = (Gen.dats m 0 c).arrAt 11 (cfgs 0).N
    ∧ r.2.mem ((c : Thread nD τ).loc main_v8_3) = (Gen.dats m 0 c).arrAt 12 (cfgs 0).N
    ∧ r.2.mem ((c : Thread nD τ).loc main_v8_4) = (Gen.dats m 0 c).arrAt 13 (cfgs 0).N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8) := by
  refine (θ_run defs _ _).mono (fun r h c => ?_) (run_main m g)
  have host : ∀ b : Ref sig .tc, b ∈ Pipeline.restRefs sig (cfgs 0).spec → V m c b = m ((c : Thread nD τ).loc b) → r.2.mem ((c : Thread nD τ).loc b) = m ((c : Thread nD τ).loc b) :=
    fun b hb e => ((h c).2 b hb).trans e
  exact ⟨(h c).1 9, (h c).1 10, (h c).1 11, (h c).1 12, (h c).1 13,
    host main_arg0 (Pipeline.mem_restRefs_of main_arg0 (by decide) (by decide)) (V_main_arg0 m c),
    host main_arg1 (Pipeline.mem_restRefs_of main_arg1 (by decide) (by decide)) (V_main_arg1 m c),
    host main_arg2 (Pipeline.mem_restRefs_of main_arg2 (by decide) (by decide)) (V_main_arg2 m c),
    host main_arg3 (Pipeline.mem_restRefs_of main_arg3 (by decide) (by decide)) (V_main_arg3 m c),
    host main_arg4 (Pipeline.mem_restRefs_of main_arg4 (by decide) (by decide)) (V_main_arg4 m c),
    ((h c).1 5).trans (((Gen.dats m 0 c).arrAt_in 5 rfl _).trans ((A_eq m c 5).trans (V_main_arg5 m c))),
    ((h c).1 6).trans (((Gen.dats m 0 c).arrAt_in 6 rfl _).trans ((A_eq m c 6).trans (V_main_arg6 m c))),
    ((h c).1 7).trans (((Gen.dats m 0 c).arrAt_in 7 rfl _).trans ((A_eq m c 7).trans (V_main_arg7 m c))),
    ((h c).1 8).trans (((Gen.dats m 0 c).arrAt_in 8 rfl _).trans ((A_eq m c 8).trans (V_main_arg8 m c)))⟩

/-- The derivative of the recurrence's discretisation: the five results of the call are the reference's. -/
theorem algebraic : algebraic_SsmParamBwdIdeal_SsmParamBwdRefIdeal := by
  intro m g m' g' hp hm
  refine ⟨_, _, _, _, _, run_results m g, (θ_run SsmParamBwdRefIdeal.defs _ _).mono (fun r h c => ?_) (SsmParamBwdRefIdeal.Value.run m' g')⟩
  obtain ⟨e0, e1, e2, e3, e4, e5, e6, e7, e8⟩ := hm c
  exact ⟨
    ((h c).1).trans ((SsmParamBwdRefIdeal.Read.val_main_v148_eq _ _).trans (by rw [e0, e1, e2, e3, e4, e5, e6, e7, e8]; exact (da_re m c).symm)),
    ((h c).2.1).trans ((SsmParamBwdRefIdeal.Read.val_main_v139_eq _ _).trans (by rw [e0, e1, e2, e3, e4, e5, e6, e7, e8]; exact (da_im m c).symm)),
    ((h c).2.2.1).trans ((SsmParamBwdRefIdeal.Read.val_main_v151_eq _ _).trans (by rw [e0, e1, e2, e3, e4, e5, e6, e7, e8]; exact (dld m c).symm)),
    ((h c).2.2.2.1).trans ((SsmParamBwdRefIdeal.Read.val_main_v152_eq _ _).trans (by rw [e0, e1, e2, e7, e8]; exact (db_re m c).symm)),
    ((h c).2.2.2.2.1).trans ((SsmParamBwdRefIdeal.Read.val_main_v153_eq _ _).trans (by rw [e0, e1, e2, e7, e8]; exact (db_im m c).symm)),
    (h c).2.2.2.2.2⟩

/-- The reference runs, leaves its arguments as they were and declares no semaphore. -/
theorem ref_frame : quiescent_SsmParamBwdRefIdeal := fun m ρ _ =>
  (θ_run SsmParamBwdRefIdeal.defs _ _).mono (fun r h => ⟨fun c => (h c).2.2.2.2.2, sem_eq_zero_of_no_sems (by decide) r.2⟩) (SsmParamBwdRefIdeal.Value.run m ρ)

/-- The claims of the derivative of the discretisation. -/
theorem claims : quiescent_SsmParamBwdIdeal ∧ quiescent_SsmParamBwdRefIdeal ∧ preserves_SsmParamBwd_SsmParamBwdIdeal
    ∧ algebraic_SsmParamBwdIdeal_SsmParamBwdRefIdeal :=
  ⟨fun m ρ _ => Gen.frame m ρ, ref_frame, trivial, algebraic⟩

end Cert.Proof.SsmParamBwd

end
-- ==== Proof.lean ====
/- The claims of the calls, one module a call under Proof/. -/
module

public import proofs.«01_k».proof.Defs
public import proofs.«01_k».proof.Proof.Gen.MergeBwd
public import proofs.«01_k».proof.Proof.Gen.MergeBwd.Skeleton
public import proofs.«01_k».proof.Proof.Gen.MergeBwd.Launch
public import proofs.«01_k».proof.Proof.Gen.MergeBwd.Points
public import proofs.«01_k».proof.Proof.Gen.MergeBwd.Frame
public import proofs.«01_k».proof.Proof.Gen.MergeBwdIdeal
public import proofs.«01_k».proof.Proof.Gen.MergeBwdIdeal.Skeleton
public import proofs.«01_k».proof.Proof.Gen.MergeBwdIdeal.Launch
public import proofs.«01_k».proof.Proof.Gen.MergeBwdIdeal.Points
public import proofs.«01_k».proof.Proof.Gen.MergeBwdIdeal.Frame
public import proofs.«01_k».proof.Proof.Gen.MergeBwdRefIdeal
public import proofs.«01_k».proof.Proof.Gen.MergeBwdIdeal.Value
public import proofs.«01_k».proof.Proof.Gen.MergeBwdRefIdeal.Run
public import proofs.«01_k».proof.Proof.Gen.MergeBwdRefIdeal.Read
public import proofs.«01_k».proof.Proof.Gen.Pre_merge_bwd_finite
public import proofs.«01_k».proof.Proof.MergeBwd
public import proofs.«01_k».proof.Proof.Gen.AttnBwdIdeal.Value
public import proofs.«01_k».proof.Proof.Gen.AttnBwdRefIdeal.Run
public import proofs.«01_k».proof.Proof.Gen.AttnBwdRefIdeal.Read
public import proofs.«01_k».proof.Proof.Gen.AttnBwd.Frame
public import proofs.«01_k».proof.Proof.Gen.Pre_attn_bwd_finite
public import proofs.«01_k».proof.Proof.AttnBwd
public import proofs.«01_k».proof.Proof.Gen.MlpBwdIdeal.Value
public import proofs.«01_k».proof.Proof.Gen.MlpBwdRefIdeal.Run
public import proofs.«01_k».proof.Proof.Gen.MlpBwdRefIdeal.Read
public import proofs.«01_k».proof.Proof.Gen.MlpBwd.Frame
public import proofs.«01_k».proof.Proof.Gen.Pre_mlp_bwd_finite
public import proofs.«01_k».proof.Proof.Gen.InProjBwdIdeal.Value
public import proofs.«01_k».proof.Proof.Gen.InProjBwdRefIdeal.Run
public import proofs.«01_k».proof.Proof.Gen.InProjBwdRefIdeal.Read
public import proofs.«01_k».proof.Proof.Gen.InProjBwd.Frame
public import proofs.«01_k».proof.Proof.Gen.Pre_in_proj_bwd_finite
public import proofs.«01_k».proof.Proof.MlpBwd
public import proofs.«01_k».proof.Proof.InProjBwd
public import proofs.«01_k».proof.Proof.Gen.QkBwdIdeal.Value
public import proofs.«01_k».proof.Proof.Gen.QkBwdRefIdeal.Run
public import proofs.«01_k».proof.Proof.Gen.QkBwdRefIdeal.Read
public import proofs.«01_k».proof.Proof.Gen.QkBwd.Frame
public import proofs.«01_k».proof.Proof.Gen.Pre_qk_bwd_finite
public import proofs.«01_k».proof.Proof.Gen.MlpOutIdeal.Value
public import proofs.«01_k».proof.Proof.Gen.MlpOutRefIdeal.Run
public import proofs.«01_k».proof.Proof.Gen.MlpOutRefIdeal.Read
public import proofs.«01_k».proof.Proof.Gen.MlpOut.Frame
public import proofs.«01_k».proof.Proof.Gen.Pre_mlp_out_finite
public import proofs.«01_k».proof.Proof.Gen.SsmParamBwdIdeal.Frame
public import proofs.«01_k».proof.Proof.Gen.SsmParamBwdRefIdeal.Run
public import proofs.«01_k».proof.Proof.Gen.SsmParamBwdRefIdeal.Read
public import proofs.«01_k».proof.Proof.Gen.SsmParamBwd.Frame
public import proofs.«01_k».proof.Proof.Gen.GluBwd.Frame
public import proofs.«01_k».proof.Proof.Gen.GluBwdIdeal.Frame
public import proofs.«01_k».proof.Proof.Gen.GluBwdRefIdeal.Run
public import proofs.«01_k».proof.Proof.QkBwd
public import proofs.«01_k».proof.Proof.MlpOut
public import proofs.«01_k».proof.Proof.SsmParamBwd
public import Idealize.ShloMosaic.Adequacy
public import Idealize.ShloMosaic.Init

@[expose] public section

noncomputable section

namespace Cert.Proof

open Idealize.ShloMosaic Idealize.SL.Sem Cert.MergeBwd

/-- The reference of gelu, skip and gate runs, leaves its arguments as they were and declares no semaphore. -/
theorem glu_ref_frame : Cert.quiescent_GluBwdRefIdeal := fun m ρ _ =>
  (θ_run Cert.GluBwdRefIdeal.defs _ _).mono (fun r h => ⟨fun c => (h c).2.2.2.2, sem_eq_zero_of_no_sems (by decide) r.2⟩) (Cert.GluBwdRefIdeal.Value.run m ρ)

/-- The claims of every call. -/
theorem claim : Cert.Claim :=
  ⟨Cert.MergeBwd.Gen.facts, Cert.MergeBwdIdeal.Gen.facts, Cert.MergeBwdRefIdeal.Gen.facts,
    Cert.AttnBwd.Gen.facts, Cert.AttnBwdIdeal.Gen.facts, Cert.AttnBwdRefIdeal.Gen.facts,
    Cert.MlpBwd.Gen.facts, Cert.MlpBwdIdeal.Gen.facts, Cert.MlpBwdRefIdeal.Gen.facts,
    Cert.InProjBwd.Gen.facts, Cert.InProjBwdIdeal.Gen.facts, Cert.InProjBwdRefIdeal.Gen.facts,
    Cert.QkBwd.Gen.facts, Cert.QkBwdIdeal.Gen.facts, Cert.QkBwdRefIdeal.Gen.facts,
    Cert.MlpOut.Gen.facts, Cert.MlpOutIdeal.Gen.facts, Cert.MlpOutRefIdeal.Gen.facts,
    Cert.SsmParamBwd.Gen.facts, Cert.SsmParamBwdIdeal.Gen.facts, Cert.SsmParamBwdRefIdeal.Gen.facts,
    Cert.GluBwd.Gen.facts, Cert.GluBwdIdeal.Gen.facts, Cert.GluBwdRefIdeal.Gen.facts,
    Cert.Pre_merge_bwd_finite.Gen.facts, Cert.Pre_attn_bwd_finite.Gen.facts, Cert.Pre_mlp_bwd_finite.Gen.facts, Cert.Pre_in_proj_bwd_finite.Gen.facts, Cert.Pre_qk_bwd_finite.Gen.facts, Cert.Pre_mlp_out_finite.Gen.facts,
    fun m ρ _ => Cert.MergeBwd.Gen.frame m ρ, MergeBwd.claims.1, MergeBwd.claims.2.1, MergeBwd.claims.2.2.1, MergeBwd.claims.2.2.2.1,
    fun m ρ _ => Cert.AttnBwd.Gen.frame m ρ, AttnBwd.claims.1, AttnBwd.claims.2.1, AttnBwd.claims.2.2.1, AttnBwd.claims.2.2.2.1,
    fun m ρ _ => Cert.MlpBwd.Gen.frame m ρ, MlpBwd.claims.1, MlpBwd.claims.2.1, MlpBwd.claims.2.2.1, MlpBwd.claims.2.2.2.1,
    fun m ρ _ => Cert.InProjBwd.Gen.frame m ρ, InProjBwd.claims.1, InProjBwd.claims.2.1, InProjBwd.claims.2.2.1, InProjBwd.claims.2.2.2.1,
    fun m ρ _ => Cert.QkBwd.Gen.frame m ρ, QkBwd.claims.1, QkBwd.claims.2.1, QkBwd.claims.2.2.1, QkBwd.claims.2.2.2.1,
    fun m ρ _ => Cert.MlpOut.Gen.frame m ρ, MlpOut.claims.1, MlpOut.claims.2.1, MlpOut.claims.2.2.1, MlpOut.claims.2.2.2.1,
    fun m ρ _ => Cert.SsmParamBwd.Gen.frame m ρ, SsmParamBwd.claims.1, SsmParamBwd.claims.2.1,
    fun m ρ _ => Cert.GluBwd.Gen.frame m ρ, fun m ρ _ => Cert.GluBwdIdeal.Gen.frame m ρ, glu_ref_frame,
    MergeBwd.claims.2.2.2.2.1, MergeBwd.claims.2.2.2.2.2,
    AttnBwd.claims.2.2.2.2.1, AttnBwd.claims.2.2.2.2.2,
    MlpBwd.claims.2.2.2.2.1, MlpBwd.claims.2.2.2.2.2,
    InProjBwd.claims.2.2.2.2.1, InProjBwd.claims.2.2.2.2.2,
    QkBwd.claims.2.2.2.2.1, QkBwd.claims.2.2.2.2.2,
    MlpOut.claims.2.2.2.2.1, MlpOut.claims.2.2.2.2.2,
    SsmParamBwd.claims.2.2.1, SsmParamBwd.claims.2.2.2,
    trivial⟩

end Cert.Proof

end
